-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_ffn_up_finite [hPre_ffn_up_finite : Cert.Pre_ffn_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffn_up_finite [hPre_ffn_up_finite : Cert.Pre_ffn_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Ride (m : (ℓ : Loc Cert.Ride.nD Cert.Ride.τ Cert.Ride.sig) → Buf (Elt Bits) ℓ) : Prop :=
  True

def Pre_RideIdeal (m : (ℓ : Loc Cert.RideIdeal.nD Cert.RideIdeal.τ Cert.RideIdeal.sig) → Buf (Elt Ideal) ℓ) : Prop :=
  True

def Pre_RideIdeal_ride_finite [hPre_ride_finite : Cert.Pre_ride_finite.Facts] (m : (ℓ : Loc Cert.RideIdeal.nD Cert.RideIdeal.τ Cert.RideIdeal.sig) → Buf (Elt Ideal) ℓ) : Prop :=
  ∀ c : Dev Cert.RideIdeal.nD,
    (Cert.Pre_ride_finite.fn (F := Ideal) (m ((c.tc : Thread Cert.RideIdeal.nD Cert.RideIdeal.τ).loc Cert.RideIdeal.main_arg0)) (m ((c.tc : Thread Cert.RideIdeal.nD Cert.RideIdeal.τ).loc Cert.RideIdeal.main_arg1)) (m ((c.tc : Thread Cert.RideIdeal.nD Cert.RideIdeal.τ).loc Cert.RideIdeal.main_arg2)) (m ((c.tc : Thread Cert.RideIdeal.nD Cert.RideIdeal.τ).loc Cert.RideIdeal.main_arg3)) (m ((c.tc : Thread Cert.RideIdeal.nD Cert.RideIdeal.τ).loc Cert.RideIdeal.main_arg4)) (m ((c.tc : Thread Cert.RideIdeal.nD Cert.RideIdeal.τ).loc Cert.RideIdeal.main_arg5)) (m ((c.tc : Thread Cert.RideIdeal.nD Cert.RideIdeal.τ).loc Cert.RideIdeal.main_arg6)) (m ((c.tc : Thread Cert.RideIdeal.nD Cert.RideIdeal.τ).loc Cert.RideIdeal.main_arg7)) (m ((c.tc : Thread Cert.RideIdeal.nD Cert.RideIdeal.τ).loc Cert.RideIdeal.main_arg8))) = (fun _ => 1#1)

def Pre_RideRefIdeal (m : (ℓ : Loc Cert.RideRefIdeal.nD Cert.RideRefIdeal.τ Cert.RideRefIdeal.sig) → Buf (Elt Ideal) ℓ) : Prop :=
  True

def Pre_RideRefIdeal_ride_finite [hPre_ride_finite : Cert.Pre_ride_finite.Facts] (m : (ℓ : Loc Cert.RideRefIdeal.nD Cert.RideRefIdeal.τ Cert.RideRefIdeal.sig) → Buf (Elt Ideal) ℓ) : Prop :=
  ∀ c : Dev Cert.RideRefIdeal.nD,
    (Cert.Pre_ride_finite.fn (F := Ideal) (m ((c.tc : Thread Cert.RideRefIdeal.nD Cert.RideRefIdeal.τ).loc Cert.RideRefIdeal.main_arg0)) (m ((c.tc : Thread Cert.RideRefIdeal.nD Cert.RideRefIdeal.τ).loc Cert.RideRefIdeal.main_arg1)) (m ((c.tc : Thread Cert.RideRefIdeal.nD Cert.RideRefIdeal.τ).loc Cert.RideRefIdeal.main_arg2)) (m ((c.tc : Thread Cert.RideRefIdeal.nD Cert.RideRefIdeal.τ).loc Cert.RideRefIdeal.main_arg3)) (m ((c.tc : Thread Cert.RideRefIdeal.nD Cert.RideRefIdeal.τ).loc Cert.RideRefIdeal.main_arg4)) (m ((c.tc : Thread Cert.RideRefIdeal.nD Cert.RideRefIdeal.τ).loc Cert.RideRefIdeal.main_arg5)) (m ((c.tc : Thread Cert.RideRefIdeal.nD Cert.RideRefIdeal.τ).loc Cert.RideRefIdeal.main_arg6)) (m ((c.tc : Thread Cert.RideRefIdeal.nD Cert.RideRefIdeal.τ).loc Cert.RideRefIdeal.main_arg7)) (m ((c.tc : Thread Cert.RideRefIdeal.nD Cert.RideRefIdeal.τ).loc Cert.RideRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_ffn_up_finite [hFfnUpIdeal : Cert.FfnUpIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_ffn_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_ffn_up_finite [hFfnUpRefIdeal : Cert.FfnUpRefIdeal.Facts] [hPre_ffn_up_finite : Cert.Pre_ffn_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffn_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Ride [hRide : Cert.Ride.Facts] : Prop :=
  ∀ (m : (ℓ : Loc Cert.Ride.nD Cert.Ride.τ Cert.Ride.sig) → Buf (Elt Bits) ℓ) (g : Dev Cert.Ride.nD → PrngReg), Pre_Ride m →
    θ_run (Cert.Ride.defs (F := Bits)) (onTc (τ := Cert.Ride.τ) (Cert.Ride.main (F := Bits))) ⟨m, fun _ => 0, g⟩ (fun r => (∀ c : Dev Cert.Ride.nD,
      r.2.mem ((c.tc : Thread Cert.Ride.nD Cert.Ride.τ).loc Cert.Ride.main_arg0) = m ((c.tc : Thread Cert.Ride.nD Cert.Ride.τ).loc Cert.Ride.main_arg0)
      ∧ r.2.mem ((c.tc : Thread Cert.Ride.nD Cert.Ride.τ).loc Cert.Ride.main_arg1) = m ((c.tc : Thread Cert.Ride.nD Cert.Ride.τ).loc Cert.Ride.main_arg1)
      ∧ r.2.mem ((c.tc : Thread Cert.Ride.nD Cert.Ride.τ).loc Cert.Ride.main_arg2) = m ((c.tc : Thread Cert.Ride.nD Cert.Ride.τ).loc Cert.Ride.main_arg2)
      ∧ r.2.mem ((c.tc : Thread Cert.Ride.nD Cert.Ride.τ).loc Cert.Ride.main_arg3) = m ((c.tc : Thread Cert.Ride.nD Cert.Ride.τ).loc Cert.Ride.main_arg3)
      ∧ r.2.mem ((c.tc : Thread Cert.Ride.nD Cert.Ride.τ).loc Cert.Ride.main_arg4) = m ((c.tc : Thread Cert.Ride.nD Cert.Ride.τ).loc Cert.Ride.main_arg4)
      ∧ r.2.mem ((c.tc : Thread Cert.Ride.nD Cert.Ride.τ).loc Cert.Ride.main_arg5) = m ((c.tc : Thread Cert.Ride.nD Cert.Ride.τ).loc Cert.Ride.main_arg5)
      ∧ r.2.mem ((c.tc : Thread Cert.Ride.nD Cert.Ride.τ).loc Cert.Ride.main_arg6) = m ((c.tc : Thread Cert.Ride.nD Cert.Ride.τ).loc Cert.Ride.main_arg6)
      ∧ r.2.mem ((c.tc : Thread Cert.Ride.nD Cert.Ride.τ).loc Cert.Ride.main_arg7) = m ((c.tc : Thread Cert.Ride.nD Cert.Ride.τ).loc Cert.Ride.main_arg7)
      ∧ r.2.mem ((c.tc : Thread Cert.Ride.nD Cert.Ride.τ).loc Cert.Ride.main_arg8) = m ((c.tc : Thread Cert.Ride.nD Cert.Ride.τ).loc Cert.Ride.main_arg8))
      ∧ r.2.sem = fun _ => 0)

def quiescent_RideIdeal [hRideIdeal : Cert.RideIdeal.Facts] : Prop :=
  ∀ (m : (ℓ : Loc Cert.RideIdeal.nD Cert.RideIdeal.τ Cert.RideIdeal.sig) → Buf (Elt Ideal) ℓ) (g : Dev Cert.RideIdeal.nD → PrngReg), Pre_RideIdeal m →
    θ_run (Cert.RideIdeal.defs (F := Ideal)) (onTc (τ := Cert.RideIdeal.τ) (Cert.RideIdeal.main (F := Ideal))) ⟨m, fun _ => 0, g⟩ (fun r => (∀ c : Dev Cert.RideIdeal.nD,
      r.2.mem ((c.tc : Thread Cert.RideIdeal.nD Cert.RideIdeal.τ).loc Cert.RideIdeal.main_arg0) = m ((c.tc : Thread Cert.RideIdeal.nD Cert.RideIdeal.τ).loc Cert.RideIdeal.main_arg0)
      ∧ r.2.mem ((c.tc : Thread Cert.RideIdeal.nD Cert.RideIdeal.τ).loc Cert.RideIdeal.main_arg1) = m ((c.tc : Thread Cert.RideIdeal.nD Cert.RideIdeal.τ).loc Cert.RideIdeal.main_arg1)
      ∧ r.2.mem ((c.tc : Thread Cert.RideIdeal.nD Cert.RideIdeal.τ).loc Cert.RideIdeal.main_arg2) = m ((c.tc : Thread Cert.RideIdeal.nD Cert.RideIdeal.τ).loc Cert.RideIdeal.main_arg2)
      ∧ r.2.mem ((c.tc : Thread Cert.RideIdeal.nD Cert.RideIdeal.τ).loc Cert.RideIdeal.main_arg3) = m ((c.tc : Thread Cert.RideIdeal.nD Cert.RideIdeal.τ).loc Cert.RideIdeal.main_arg3)
      ∧ r.2.mem ((c.tc : Thread Cert.RideIdeal.nD Cert.RideIdeal.τ).loc Cert.RideIdeal.main_arg4) = m ((c.tc : Thread Cert.RideIdeal.nD Cert.RideIdeal.τ).loc Cert.RideIdeal.main_arg4)
      ∧ r.2.mem ((c.tc : Thread Cert.RideIdeal.nD Cert.RideIdeal.τ).loc Cert.RideIdeal.main_arg5) = m ((c.tc : Thread Cert.RideIdeal.nD Cert.RideIdeal.τ).loc Cert.RideIdeal.main_arg5)
      ∧ r.2.mem ((c.tc : Thread Cert.RideIdeal.nD Cert.RideIdeal.τ).loc Cert.RideIdeal.main_arg6) = m ((c.tc : Thread Cert.RideIdeal.nD Cert.RideIdeal.τ).loc Cert.RideIdeal.main_arg6)
      ∧ r.2.mem ((c.tc : Thread Cert.RideIdeal.nD Cert.RideIdeal.τ).loc Cert.RideIdeal.main_arg7) = m ((c.tc : Thread Cert.RideIdeal.nD Cert.RideIdeal.τ).loc Cert.RideIdeal.main_arg7)
      ∧ r.2.mem ((c.tc : Thread Cert.RideIdeal.nD Cert.RideIdeal.τ).loc Cert.RideIdeal.main_arg8) = m ((c.tc : Thread Cert.RideIdeal.nD Cert.RideIdeal.τ).loc Cert.RideIdeal.main_arg8))
      ∧ r.2.sem = fun _ => 0)

def quiescent_RideIdeal_pre_ride_finite [hRideIdeal : Cert.RideIdeal.Facts] [hPre_ride_finite : Cert.Pre_ride_finite.Facts] : Prop :=
  ∀ (m : (ℓ : Loc Cert.RideIdeal.nD Cert.RideIdeal.τ Cert.RideIdeal.sig) → Buf (Elt Ideal) ℓ) (g : Dev Cert.RideIdeal.nD → PrngReg), Pre_RideIdeal_ride_finite m →
    θ_run (Cert.RideIdeal.defs (F := Ideal)) (onTc (τ := Cert.RideIdeal.τ) (Cert.RideIdeal.main (F := Ideal))) ⟨m, fun _ => 0, g⟩ (fun r => (∀ c : Dev Cert.RideIdeal.nD,
      r.2.mem ((c.tc : Thread Cert.RideIdeal.nD Cert.RideIdeal.τ).loc Cert.RideIdeal.main_arg0) = m ((c.tc : Thread Cert.RideIdeal.nD Cert.RideIdeal.τ).loc Cert.RideIdeal.main_arg0)
      ∧ r.2.mem ((c.tc : Thread Cert.RideIdeal.nD Cert.RideIdeal.τ).loc Cert.RideIdeal.main_arg1) = m ((c.tc : Thread Cert.RideIdeal.nD Cert.RideIdeal.τ).loc Cert.RideIdeal.main_arg1)
      ∧ r.2.mem ((c.tc : Thread Cert.RideIdeal.nD Cert.RideIdeal.τ).loc Cert.RideIdeal.main_arg2) = m ((c.tc : Thread Cert.RideIdeal.nD Cert.RideIdeal.τ).loc Cert.RideIdeal.main_arg2)
      ∧ r.2.mem ((c.tc : Thread Cert.RideIdeal.nD Cert.RideIdeal.τ).loc Cert.RideIdeal.main_arg3) = m ((c.tc : Thread Cert.RideIdeal.nD Cert.RideIdeal.τ).loc Cert.RideIdeal.main_arg3)
      ∧ r.2.mem ((c.tc : Thread Cert.RideIdeal.nD Cert.RideIdeal.τ).loc Cert.RideIdeal.main_arg4) = m ((c.tc : Thread Cert.RideIdeal.nD Cert.RideIdeal.τ).loc Cert.RideIdeal.main_arg4)
      ∧ r.2.mem ((c.tc : Thread Cert.RideIdeal.nD Cert.RideIdeal.τ).loc Cert.RideIdeal.main_arg5) = m ((c.tc : Thread Cert.RideIdeal.nD Cert.RideIdeal.τ).loc Cert.RideIdeal.main_arg5)
      ∧ r.2.mem ((c.tc : Thread Cert.RideIdeal.nD Cert.RideIdeal.τ).loc Cert.RideIdeal.main_arg6) = m ((c.tc : Thread Cert.RideIdeal.nD Cert.RideIdeal.τ).loc Cert.RideIdeal.main_arg6)
      ∧ r.2.mem ((c.tc : Thread Cert.RideIdeal.nD Cert.RideIdeal.τ).loc Cert.RideIdeal.main_arg7) = m ((c.tc : Thread Cert.RideIdeal.nD Cert.RideIdeal.τ).loc Cert.RideIdeal.main_arg7)
      ∧ r.2.mem ((c.tc : Thread Cert.RideIdeal.nD Cert.RideIdeal.τ).loc Cert.RideIdeal.main_arg8) = m ((c.tc : Thread Cert.RideIdeal.nD Cert.RideIdeal.τ).loc Cert.RideIdeal.main_arg8))
      ∧ r.2.sem = fun _ => 0)

def quiescent_RideRefIdeal [hRideRefIdeal : Cert.RideRefIdeal.Facts] : Prop :=
  ∀ (m : (ℓ : Loc Cert.RideRefIdeal.nD Cert.RideRefIdeal.τ Cert.RideRefIdeal.sig) → Buf (Elt Ideal) ℓ) (g : Dev Cert.RideRefIdeal.nD → PrngReg), Pre_RideRefIdeal m →
    θ_run (Cert.RideRefIdeal.defs (F := Ideal)) (onTc (τ := Cert.RideRefIdeal.τ) (Cert.RideRefIdeal.main (F := Ideal))) ⟨m, fun _ => 0, g⟩ (fun r => (∀ c : Dev Cert.RideRefIdeal.nD,
      r.2.mem ((c.tc : Thread Cert.RideRefIdeal.nD Cert.RideRefIdeal.τ).loc Cert.RideRefIdeal.main_arg0) = m ((c.tc : Thread Cert.RideRefIdeal.nD Cert.RideRefIdeal.τ).loc Cert.RideRefIdeal.main_arg0)
      ∧ r.2.mem ((c.tc : Thread Cert.RideRefIdeal.nD Cert.RideRefIdeal.τ).loc Cert.RideRefIdeal.main_arg1) = m ((c.tc : Thread Cert.RideRefIdeal.nD Cert.RideRefIdeal.τ).loc Cert.RideRefIdeal.main_arg1)
      ∧ r.2.mem ((c.tc : Thread Cert.RideRefIdeal.nD Cert.RideRefIdeal.τ).loc Cert.RideRefIdeal.main_arg2) = m ((c.tc : Thread Cert.RideRefIdeal.nD Cert.RideRefIdeal.τ).loc Cert.RideRefIdeal.main_arg2)
      ∧ r.2.mem ((c.tc : Thread Cert.RideRefIdeal.nD Cert.RideRefIdeal.τ).loc Cert.RideRefIdeal.main_arg3) = m ((c.tc : Thread Cert.RideRefIdeal.nD Cert.RideRefIdeal.τ).loc Cert.RideRefIdeal.main_arg3)
      ∧ r.2.mem ((c.tc : Thread Cert.RideRefIdeal.nD Cert.RideRefIdeal.τ).loc Cert.RideRefIdeal.main_arg4) = m ((c.tc : Thread Cert.RideRefIdeal.nD Cert.RideRefIdeal.τ).loc Cert.RideRefIdeal.main_arg4)
      ∧ r.2.mem ((c.tc : Thread Cert.RideRefIdeal.nD Cert.RideRefIdeal.τ).loc Cert.RideRefIdeal.main_arg5) = m ((c.tc : Thread Cert.RideRefIdeal.nD Cert.RideRefIdeal.τ).loc Cert.RideRefIdeal.main_arg5)
      ∧ r.2.mem ((c.tc : Thread Cert.RideRefIdeal.nD Cert.RideRefIdeal.τ).loc Cert.RideRefIdeal.main_arg6) = m ((c.tc : Thread Cert.RideRefIdeal.nD Cert.RideRefIdeal.τ).loc Cert.RideRefIdeal.main_arg6)
      ∧ r.2.mem ((c.tc : Thread Cert.RideRefIdeal.nD Cert.RideRefIdeal.τ).loc Cert.RideRefIdeal.main_arg7) = m ((c.tc : Thread Cert.RideRefIdeal.nD Cert.RideRefIdeal.τ).loc Cert.RideRefIdeal.main_arg7)
      ∧ r.2.mem ((c.tc : Thread Cert.RideRefIdeal.nD Cert.RideRefIdeal.τ).loc Cert.RideRefIdeal.main_arg8) = m ((c.tc : Thread Cert.RideRefIdeal.nD Cert.RideRefIdeal.τ).loc Cert.RideRefIdeal.main_arg8))
      ∧ r.2.sem = fun _ => 0)

def quiescent_RideRefIdeal_pre_ride_finite [hRideRefIdeal : Cert.RideRefIdeal.Facts] [hPre_ride_finite : Cert.Pre_ride_finite.Facts] : Prop :=
  ∀ (m : (ℓ : Loc Cert.RideRefIdeal.nD Cert.RideRefIdeal.τ Cert.RideRefIdeal.sig) → Buf (Elt Ideal) ℓ) (g : Dev Cert.RideRefIdeal.nD → PrngReg), Pre_RideRefIdeal_ride_finite m →
    θ_run (Cert.RideRefIdeal.defs (F := Ideal)) (onTc (τ := Cert.RideRefIdeal.τ) (Cert.RideRefIdeal.main (F := Ideal))) ⟨m, fun _ => 0, g⟩ (fun r => (∀ c : Dev Cert.RideRefIdeal.nD,
      r.2.mem ((c.tc : Thread Cert.RideRefIdeal.nD Cert.RideRefIdeal.τ).loc Cert.RideRefIdeal.main_arg0) = m ((c.tc : Thread Cert.RideRefIdeal.nD Cert.RideRefIdeal.τ).loc Cert.RideRefIdeal.main_arg0)
      ∧ r.2.mem ((c.tc : Thread Cert.RideRefIdeal.nD Cert.RideRefIdeal.τ).loc Cert.RideRefIdeal.main_arg1) = m ((c.tc : Thread Cert.RideRefIdeal.nD Cert.RideRefIdeal.τ).loc Cert.RideRefIdeal.main_arg1)
      ∧ r.2.mem ((c.tc : Thread Cert.RideRefIdeal.nD Cert.RideRefIdeal.τ).loc Cert.RideRefIdeal.main_arg2) = m ((c.tc : Thread Cert.RideRefIdeal.nD Cert.RideRefIdeal.τ).loc Cert.RideRefIdeal.main_arg2)
      ∧ r.2.mem ((c.tc : Thread Cert.RideRefIdeal.nD Cert.RideRefIdeal.τ).loc Cert.RideRefIdeal.main_arg3) = m ((c.tc : Thread Cert.RideRefIdeal.nD Cert.RideRefIdeal.τ).loc Cert.RideRefIdeal.main_arg3)
      ∧ r.2.mem ((c.tc : Thread Cert.RideRefIdeal.nD Cert.RideRefIdeal.τ).loc Cert.RideRefIdeal.main_arg4) = m ((c.tc : Thread Cert.RideRefIdeal.nD Cert.RideRefIdeal.τ).loc Cert.RideRefIdeal.main_arg4)
      ∧ r.2.mem ((c.tc : Thread Cert.RideRefIdeal.nD Cert.RideRefIdeal.τ).loc Cert.RideRefIdeal.main_arg5) = m ((c.tc : Thread Cert.RideRefIdeal.nD Cert.RideRefIdeal.τ).loc Cert.RideRefIdeal.main_arg5)
      ∧ r.2.mem ((c.tc : Thread Cert.RideRefIdeal.nD Cert.RideRefIdeal.τ).loc Cert.RideRefIdeal.main_arg6) = m ((c.tc : Thread Cert.RideRefIdeal.nD Cert.RideRefIdeal.τ).loc Cert.RideRefIdeal.main_arg6)
      ∧ r.2.mem ((c.tc : Thread Cert.RideRefIdeal.nD Cert.RideRefIdeal.τ).loc Cert.RideRefIdeal.main_arg7) = m ((c.tc : Thread Cert.RideRefIdeal.nD Cert.RideRefIdeal.τ).loc Cert.RideRefIdeal.main_arg7)
      ∧ r.2.mem ((c.tc : Thread Cert.RideRefIdeal.nD Cert.RideRefIdeal.τ).loc Cert.RideRefIdeal.main_arg8) = m ((c.tc : Thread Cert.RideRefIdeal.nD Cert.RideRefIdeal.τ).loc Cert.RideRefIdeal.main_arg8))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v99_0)) (v1 : (c : Dev Cert.AttnIdeal.nD) → Buf (Elt Ideal) ((c.tc : Thread Cert.AttnIdeal.nD Cert.AttnIdeal.τ).loc Cert.AttnIdeal.main_v99_1)) (v2 : (c : Dev Cert.AttnIdeal.nD) → Buf (Elt Ideal) ((c.tc : Thread Cert.AttnIdeal.nD Cert.AttnIdeal.τ).loc Cert.AttnIdeal.main_v99_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v99_0) = v0 c
          ∧ r.2.mem ((c.tc : Thread Cert.AttnIdeal.nD Cert.AttnIdeal.τ).loc Cert.AttnIdeal.main_v99_1) = v1 c
          ∧ r.2.mem ((c.tc : Thread Cert.AttnIdeal.nD Cert.AttnIdeal.τ).loc Cert.AttnIdeal.main_v99_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v199) = v0 c
          ∧ r.2.mem ((c.tc : Thread Cert.AttnRefIdeal.nD Cert.AttnRefIdeal.τ).loc Cert.AttnRefIdeal.main_v203) = v1 c
          ∧ r.2.mem ((c.tc : Thread Cert.AttnRefIdeal.nD Cert.AttnRefIdeal.τ).loc Cert.AttnRefIdeal.main_v204) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v17_0)) (v1 : (c : Dev Cert.MixIdeal.nD) → Buf (Elt Ideal) ((c.tc : Thread Cert.MixIdeal.nD Cert.MixIdeal.τ).loc Cert.MixIdeal.main_v17_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17_0) = v0 c
          ∧ r.2.mem ((c.tc : Thread Cert.MixIdeal.nD Cert.MixIdeal.τ).loc Cert.MixIdeal.main_v17_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v47) = v0 c
          ∧ r.2.mem ((c.tc : Thread Cert.MixRefIdeal.nD Cert.MixRefIdeal.τ).loc Cert.MixRefIdeal.main_v48) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v39_0)) (v1 : (c : Dev Cert.FfnIdeal.nD) → Buf (Elt Ideal) ((c.tc : Thread Cert.FfnIdeal.nD Cert.FfnIdeal.τ).loc Cert.FfnIdeal.main_v39_1)) (v2 : (c : Dev Cert.FfnIdeal.nD) → Buf (Elt Ideal) ((c.tc : Thread Cert.FfnIdeal.nD Cert.FfnIdeal.τ).loc Cert.FfnIdeal.main_v39_2)) (v3 : (c : Dev Cert.FfnIdeal.nD) → Buf (Elt Ideal) ((c.tc : Thread Cert.FfnIdeal.nD Cert.FfnIdeal.τ).loc Cert.FfnIdeal.main_v39_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v39_0) = v0 c
          ∧ r.2.mem ((c.tc : Thread Cert.FfnIdeal.nD Cert.FfnIdeal.τ).loc Cert.FfnIdeal.main_v39_1) = v1 c
          ∧ r.2.mem ((c.tc : Thread Cert.FfnIdeal.nD Cert.FfnIdeal.τ).loc Cert.FfnIdeal.main_v39_2) = v2 c
          ∧ r.2.mem ((c.tc : Thread Cert.FfnIdeal.nD Cert.FfnIdeal.τ).loc Cert.FfnIdeal.main_v39_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v84) = v0 c
          ∧ r.2.mem ((c.tc : Thread Cert.FfnRefIdeal.nD Cert.FfnRefIdeal.τ).loc Cert.FfnRefIdeal.main_v86) = v1 c
          ∧ r.2.mem ((c.tc : Thread Cert.FfnRefIdeal.nD Cert.FfnRefIdeal.τ).loc Cert.FfnRefIdeal.main_v88) = v2 c
          ∧ r.2.mem ((c.tc : Thread Cert.FfnRefIdeal.nD Cert.FfnRefIdeal.τ).loc Cert.FfnRefIdeal.main_v89) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v79) = v0 c
          ∧ r.2.mem ((c.tc : Thread Cert.LossRefIdeal.nD Cert.LossRefIdeal.τ).loc Cert.LossRefIdeal.main_v81) = v1 c
          ∧ r.2.mem ((c.tc : Thread Cert.LossRefIdeal.nD Cert.LossRefIdeal.τ).loc Cert.LossRefIdeal.main_v83) = v2 c
          ∧ r.2.mem ((c.tc : Thread Cert.LossRefIdeal.nD Cert.LossRefIdeal.τ).loc Cert.LossRefIdeal.main_v84) = v3 c
          ∧ r.2.mem ((c.tc : Thread Cert.LossRefIdeal.nD Cert.LossRefIdeal.τ).loc Cert.LossRefIdeal.main_v85) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AttnFwd_AttnFwdIdeal : Prop :=
  True

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v7_0)) (v1 : (c : Dev Cert.AttnFwdIdeal.nD) → Buf (Elt Ideal) ((c.tc : Thread Cert.AttnFwdIdeal.nD Cert.AttnFwdIdeal.τ).loc Cert.AttnFwdIdeal.main_v7_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v7_0) = v0 c
          ∧ r.2.mem ((c.tc : Thread Cert.AttnFwdIdeal.nD Cert.AttnFwdIdeal.τ).loc Cert.AttnFwdIdeal.main_v7_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v105) = v0 c
          ∧ r.2.mem ((c.tc : Thread Cert.AttnFwdRefIdeal.nD Cert.AttnFwdRefIdeal.τ).loc Cert.AttnFwdRefIdeal.main_v106) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v3_0)) (v1 : (c : Dev Cert.PoolFwdIdeal.nD) → Buf (Elt Ideal) ((c.tc : Thread Cert.PoolFwdIdeal.nD Cert.PoolFwdIdeal.τ).loc Cert.PoolFwdIdeal.main_v3_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v3_0) = v0 c
          ∧ r.2.mem ((c.tc : Thread Cert.PoolFwdIdeal.nD Cert.PoolFwdIdeal.τ).loc Cert.PoolFwdIdeal.main_v3_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v67) = v0 c
          ∧ r.2.mem ((c.tc : Thread Cert.PoolFwdRefIdeal.nD Cert.PoolFwdRefIdeal.τ).loc Cert.PoolFwdRefIdeal.main_v72) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)) (v2 : (c : Dev Cert.MixFwdIdeal.nD) → Buf (Elt Ideal) ((c.tc : Thread Cert.MixFwdIdeal.nD Cert.MixFwdIdeal.τ).loc Cert.MixFwdIdeal.main_v4_2)) (v3 : (c : Dev Cert.MixFwdIdeal.nD) → Buf (Elt Ideal) ((c.tc : Thread Cert.MixFwdIdeal.nD Cert.MixFwdIdeal.τ).loc Cert.MixFwdIdeal.main_v4_3)) (v4 : (c : Dev Cert.MixFwdIdeal.nD) → Buf (Elt Ideal) ((c.tc : Thread Cert.MixFwdIdeal.nD Cert.MixFwdIdeal.τ).loc Cert.MixFwdIdeal.main_v4_4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_v4_2) = v2 c
          ∧ r.2.mem ((c.tc : Thread Cert.MixFwdIdeal.nD Cert.MixFwdIdeal.τ).loc Cert.MixFwdIdeal.main_v4_3) = v3 c
          ∧ r.2.mem ((c.tc : Thread Cert.MixFwdIdeal.nD Cert.MixFwdIdeal.τ).loc Cert.MixFwdIdeal.main_v4_4) = v4 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v27) = v0 c
          ∧ r.2.mem ((c.tc : Thread Cert.MixFwdRefIdeal.nD Cert.MixFwdRefIdeal.τ).loc Cert.MixFwdRefIdeal.main_v28) = v1 c
          ∧ r.2.mem ((c.tc : Thread Cert.MixFwdRefIdeal.nD Cert.MixFwdRefIdeal.τ).loc Cert.MixFwdRefIdeal.main_v30) = v2 c
          ∧ r.2.mem ((c.tc : Thread Cert.MixFwdRefIdeal.nD Cert.MixFwdRefIdeal.τ).loc Cert.MixFwdRefIdeal.main_v23) = v3 c
          ∧ r.2.mem ((c.tc : Thread Cert.MixFwdRefIdeal.nD Cert.MixFwdRefIdeal.τ).loc Cert.MixFwdRefIdeal.main_v32) = v4 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_FfnUp_FfnUpIdeal : Prop :=
  True

def algebraic_FfnUpIdeal_FfnUpRefIdeal_pre_ffn_up_finite [hFfnUpIdeal : Cert.FfnUpIdeal.Facts] [hFfnUpRefIdeal : Cert.FfnUpRefIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_ffn_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v3_0)) (v1 : (c : Dev Cert.FfnUpIdeal.nD) → Buf (Elt Ideal) ((c.tc : Thread Cert.FfnUpIdeal.nD Cert.FfnUpIdeal.τ).loc Cert.FfnUpIdeal.main_v3_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3_0) = v0 c
          ∧ r.2.mem ((c.tc : Thread Cert.FfnUpIdeal.nD Cert.FfnUpIdeal.τ).loc Cert.FfnUpIdeal.main_v3_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v24) = v0 c
          ∧ r.2.mem ((c.tc : Thread Cert.FfnUpRefIdeal.nD Cert.FfnUpRefIdeal.τ).loc Cert.FfnUpRefIdeal.main_v26) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Ride_RideIdeal : Prop :=
  True

def algebraic_RideIdeal_RideRefIdeal_pre_ride_finite [hRideIdeal : Cert.RideIdeal.Facts] [hRideRefIdeal : Cert.RideRefIdeal.Facts] [hPre_ride_finite : Cert.Pre_ride_finite.Facts] : Prop :=
  ∀ (m : (ℓ : Loc Cert.RideIdeal.nD Cert.RideIdeal.τ Cert.RideIdeal.sig) → Buf (Elt Ideal) ℓ) (g : Dev Cert.RideIdeal.nD → PrngReg)
    (m' : (ℓ : Loc Cert.RideRefIdeal.nD Cert.RideRefIdeal.τ Cert.RideRefIdeal.sig) → Buf (Elt Ideal) ℓ) (g' : Dev Cert.RideRefIdeal.nD → PrngReg), Pre_RideIdeal_ride_finite m →
    (∀ c : Dev Cert.RideIdeal.nD,
      m' ((c.tc : Thread Cert.RideRefIdeal.nD Cert.RideRefIdeal.τ).loc Cert.RideRefIdeal.main_arg0) = m ((c.tc : Thread Cert.RideIdeal.nD Cert.RideIdeal.τ).loc Cert.RideIdeal.main_arg0)
      ∧ m' ((c.tc : Thread Cert.RideRefIdeal.nD Cert.RideRefIdeal.τ).loc Cert.RideRefIdeal.main_arg1) = m ((c.tc : Thread Cert.RideIdeal.nD Cert.RideIdeal.τ).loc Cert.RideIdeal.main_arg1)
      ∧ m' ((c.tc : Thread Cert.RideRefIdeal.nD Cert.RideRefIdeal.τ).loc Cert.RideRefIdeal.main_arg2) = m ((c.tc : Thread Cert.RideIdeal.nD Cert.RideIdeal.τ).loc Cert.RideIdeal.main_arg2)
      ∧ m' ((c.tc : Thread Cert.RideRefIdeal.nD Cert.RideRefIdeal.τ).loc Cert.RideRefIdeal.main_arg3) = m ((c.tc : Thread Cert.RideIdeal.nD Cert.RideIdeal.τ).loc Cert.RideIdeal.main_arg3)
      ∧ m' ((c.tc : Thread Cert.RideRefIdeal.nD Cert.RideRefIdeal.τ).loc Cert.RideRefIdeal.main_arg4) = m ((c.tc : Thread Cert.RideIdeal.nD Cert.RideIdeal.τ).loc Cert.RideIdeal.main_arg4)
      ∧ m' ((c.tc : Thread Cert.RideRefIdeal.nD Cert.RideRefIdeal.τ).loc Cert.RideRefIdeal.main_arg5) = m ((c.tc : Thread Cert.RideIdeal.nD Cert.RideIdeal.τ).loc Cert.RideIdeal.main_arg5)
      ∧ m' ((c.tc : Thread Cert.RideRefIdeal.nD Cert.RideRefIdeal.τ).loc Cert.RideRefIdeal.main_arg6) = m ((c.tc : Thread Cert.RideIdeal.nD Cert.RideIdeal.τ).loc Cert.RideIdeal.main_arg6)
      ∧ m' ((c.tc : Thread Cert.RideRefIdeal.nD Cert.RideRefIdeal.τ).loc Cert.RideRefIdeal.main_arg7) = m ((c.tc : Thread Cert.RideIdeal.nD Cert.RideIdeal.τ).loc Cert.RideIdeal.main_arg7)
      ∧ m' ((c.tc : Thread Cert.RideRefIdeal.nD Cert.RideRefIdeal.τ).loc Cert.RideRefIdeal.main_arg8) = m ((c.tc : Thread Cert.RideIdeal.nD Cert.RideIdeal.τ).loc Cert.RideIdeal.main_arg8)) →
    ∃ (v0 : (c : Dev Cert.RideIdeal.nD) → Buf (Elt Ideal) ((c.tc : Thread Cert.RideIdeal.nD Cert.RideIdeal.τ).loc Cert.RideIdeal.main_v39_0)) (v1 : (c : Dev Cert.RideIdeal.nD) → Buf (Elt Ideal) ((c.tc : Thread Cert.RideIdeal.nD Cert.RideIdeal.τ).loc Cert.RideIdeal.main_v39_1)) (v2 : (c : Dev Cert.RideIdeal.nD) → Buf (Elt Ideal) ((c.tc : Thread Cert.RideIdeal.nD Cert.RideIdeal.τ).loc Cert.RideIdeal.main_v39_2)) (v3 : (c : Dev Cert.RideIdeal.nD) → Buf (Elt Ideal) ((c.tc : Thread Cert.RideIdeal.nD Cert.RideIdeal.τ).loc Cert.RideIdeal.main_v39_3)) (v4 : (c : Dev Cert.RideIdeal.nD) → Buf (Elt Ideal) ((c.tc : Thread Cert.RideIdeal.nD Cert.RideIdeal.τ).loc Cert.RideIdeal.main_v39_4)) (v5 : (c : Dev Cert.RideIdeal.nD) → Buf (Elt Ideal) ((c.tc : Thread Cert.RideIdeal.nD Cert.RideIdeal.τ).loc Cert.RideIdeal.main_v39_5)) (v6 : (c : Dev Cert.RideIdeal.nD) → Buf (Elt Ideal) ((c.tc : Thread Cert.RideIdeal.nD Cert.RideIdeal.τ).loc Cert.RideIdeal.main_v39_6)) (v7 : (c : Dev Cert.RideIdeal.nD) → Buf (Elt Ideal) ((c.tc : Thread Cert.RideIdeal.nD Cert.RideIdeal.τ).loc Cert.RideIdeal.main_v39_7)),
      θ_run (Cert.RideIdeal.defs (F := Ideal)) (onTc (τ := Cert.RideIdeal.τ) (Cert.RideIdeal.main (F := Ideal))) ⟨m, fun _ => 0, g⟩ (fun r => ∀ c : Dev Cert.RideIdeal.nD,
          r.2.mem ((c.tc : Thread Cert.RideIdeal.nD Cert.RideIdeal.τ).loc Cert.RideIdeal.main_v39_0) = v0 c
          ∧ r.2.mem ((c.tc : Thread Cert.RideIdeal.nD Cert.RideIdeal.τ).loc Cert.RideIdeal.main_v39_1) = v1 c
          ∧ r.2.mem ((c.tc : Thread Cert.RideIdeal.nD Cert.RideIdeal.τ).loc Cert.RideIdeal.main_v39_2) = v2 c
          ∧ r.2.mem ((c.tc : Thread Cert.RideIdeal.nD Cert.RideIdeal.τ).loc Cert.RideIdeal.main_v39_3) = v3 c
          ∧ r.2.mem ((c.tc : Thread Cert.RideIdeal.nD Cert.RideIdeal.τ).loc Cert.RideIdeal.main_v39_4) = v4 c
          ∧ r.2.mem ((c.tc : Thread Cert.RideIdeal.nD Cert.RideIdeal.τ).loc Cert.RideIdeal.main_v39_5) = v5 c
          ∧ r.2.mem ((c.tc : Thread Cert.RideIdeal.nD Cert.RideIdeal.τ).loc Cert.RideIdeal.main_v39_6) = v6 c
          ∧ r.2.mem ((c.tc : Thread Cert.RideIdeal.nD Cert.RideIdeal.τ).loc Cert.RideIdeal.main_v39_7) = v7 c
          ∧ r.2.mem ((c.tc : Thread Cert.RideIdeal.nD Cert.RideIdeal.τ).loc Cert.RideIdeal.main_arg0) = m ((c.tc : Thread Cert.RideIdeal.nD Cert.RideIdeal.τ).loc Cert.RideIdeal.main_arg0)
          ∧ r.2.mem ((c.tc : Thread Cert.RideIdeal.nD Cert.RideIdeal.τ).loc Cert.RideIdeal.main_arg1) = m ((c.tc : Thread Cert.RideIdeal.nD Cert.RideIdeal.τ).loc Cert.RideIdeal.main_arg1)
          ∧ r.2.mem ((c.tc : Thread Cert.RideIdeal.nD Cert.RideIdeal.τ).loc Cert.RideIdeal.main_arg2) = m ((c.tc : Thread Cert.RideIdeal.nD Cert.RideIdeal.τ).loc Cert.RideIdeal.main_arg2)
          ∧ r.2.mem ((c.tc : Thread Cert.RideIdeal.nD Cert.RideIdeal.τ).loc Cert.RideIdeal.main_arg3) = m ((c.tc : Thread Cert.RideIdeal.nD Cert.RideIdeal.τ).loc Cert.RideIdeal.main_arg3)
          ∧ r.2.mem ((c.tc : Thread Cert.RideIdeal.nD Cert.RideIdeal.τ).loc Cert.RideIdeal.main_arg4) = m ((c.tc : Thread Cert.RideIdeal.nD Cert.RideIdeal.τ).loc Cert.RideIdeal.main_arg4)
          ∧ r.2.mem ((c.tc : Thread Cert.RideIdeal.nD Cert.RideIdeal.τ).loc Cert.RideIdeal.main_arg5) = m ((c.tc : Thread Cert.RideIdeal.nD Cert.RideIdeal.τ).loc Cert.RideIdeal.main_arg5)
          ∧ r.2.mem ((c.tc : Thread Cert.RideIdeal.nD Cert.RideIdeal.τ).loc Cert.RideIdeal.main_arg6) = m ((c.tc : Thread Cert.RideIdeal.nD Cert.RideIdeal.τ).loc Cert.RideIdeal.main_arg6)
          ∧ r.2.mem ((c.tc : Thread Cert.RideIdeal.nD Cert.RideIdeal.τ).loc Cert.RideIdeal.main_arg7) = m ((c.tc : Thread Cert.RideIdeal.nD Cert.RideIdeal.τ).loc Cert.RideIdeal.main_arg7)
          ∧ r.2.mem ((c.tc : Thread Cert.RideIdeal.nD Cert.RideIdeal.τ).loc Cert.RideIdeal.main_arg8) = m ((c.tc : Thread Cert.RideIdeal.nD Cert.RideIdeal.τ).loc Cert.RideIdeal.main_arg8))
      ∧ θ_run (Cert.RideRefIdeal.defs (F := Ideal)) (onTc (τ := Cert.RideRefIdeal.τ) (Cert.RideRefIdeal.main (F := Ideal))) ⟨m', fun _ => 0, g'⟩ (fun r => ∀ c : Dev Cert.RideRefIdeal.nD,
          r.2.mem ((c.tc : Thread Cert.RideRefIdeal.nD Cert.RideRefIdeal.τ).loc Cert.RideRefIdeal.main_v84) = v0 c
          ∧ r.2.mem ((c.tc : Thread Cert.RideRefIdeal.nD Cert.RideRefIdeal.τ).loc Cert.RideRefIdeal.main_v86) = v1 c
          ∧ r.2.mem ((c.tc : Thread Cert.RideRefIdeal.nD Cert.RideRefIdeal.τ).loc Cert.RideRefIdeal.main_v88) = v2 c
          ∧ r.2.mem ((c.tc : Thread Cert.RideRefIdeal.nD Cert.RideRefIdeal.τ).loc Cert.RideRefIdeal.main_v89) = v3 c
          ∧ r.2.mem ((c.tc : Thread Cert.RideRefIdeal.nD Cert.RideRefIdeal.τ).loc Cert.RideRefIdeal.main_arg6) = v4 c
          ∧ r.2.mem ((c.tc : Thread Cert.RideRefIdeal.nD Cert.RideRefIdeal.τ).loc Cert.RideRefIdeal.main_v113) = v5 c
          ∧ r.2.mem ((c.tc : Thread Cert.RideRefIdeal.nD Cert.RideRefIdeal.τ).loc Cert.RideRefIdeal.main_v94) = v6 c
          ∧ r.2.mem ((c.tc : Thread Cert.RideRefIdeal.nD Cert.RideRefIdeal.τ).loc Cert.RideRefIdeal.main_v100) = v7 c
          ∧ r.2.mem ((c.tc : Thread Cert.RideRefIdeal.nD Cert.RideRefIdeal.τ).loc Cert.RideRefIdeal.main_arg0) = m' ((c.tc : Thread Cert.RideRefIdeal.nD Cert.RideRefIdeal.τ).loc Cert.RideRefIdeal.main_arg0)
          ∧ r.2.mem ((c.tc : Thread Cert.RideRefIdeal.nD Cert.RideRefIdeal.τ).loc Cert.RideRefIdeal.main_arg1) = m' ((c.tc : Thread Cert.RideRefIdeal.nD Cert.RideRefIdeal.τ).loc Cert.RideRefIdeal.main_arg1)
          ∧ r.2.mem ((c.tc : Thread Cert.RideRefIdeal.nD Cert.RideRefIdeal.τ).loc Cert.RideRefIdeal.main_arg2) = m' ((c.tc : Thread Cert.RideRefIdeal.nD Cert.RideRefIdeal.τ).loc Cert.RideRefIdeal.main_arg2)
          ∧ r.2.mem ((c.tc : Thread Cert.RideRefIdeal.nD Cert.RideRefIdeal.τ).loc Cert.RideRefIdeal.main_arg3) = m' ((c.tc : Thread Cert.RideRefIdeal.nD Cert.RideRefIdeal.τ).loc Cert.RideRefIdeal.main_arg3)
          ∧ r.2.mem ((c.tc : Thread Cert.RideRefIdeal.nD Cert.RideRefIdeal.τ).loc Cert.RideRefIdeal.main_arg4) = m' ((c.tc : Thread Cert.RideRefIdeal.nD Cert.RideRefIdeal.τ).loc Cert.RideRefIdeal.main_arg4)
          ∧ r.2.mem ((c.tc : Thread Cert.RideRefIdeal.nD Cert.RideRefIdeal.τ).loc Cert.RideRefIdeal.main_arg5) = m' ((c.tc : Thread Cert.RideRefIdeal.nD Cert.RideRefIdeal.τ).loc Cert.RideRefIdeal.main_arg5)
          ∧ r.2.mem ((c.tc : Thread Cert.RideRefIdeal.nD Cert.RideRefIdeal.τ).loc Cert.RideRefIdeal.main_arg6) = m' ((c.tc : Thread Cert.RideRefIdeal.nD Cert.RideRefIdeal.τ).loc Cert.RideRefIdeal.main_arg6)
          ∧ r.2.mem ((c.tc : Thread Cert.RideRefIdeal.nD Cert.RideRefIdeal.τ).loc Cert.RideRefIdeal.main_arg7) = m' ((c.tc : Thread Cert.RideRefIdeal.nD Cert.RideRefIdeal.τ).loc Cert.RideRefIdeal.main_arg7)
          ∧ r.2.mem ((c.tc : Thread Cert.RideRefIdeal.nD Cert.RideRefIdeal.τ).loc Cert.RideRefIdeal.main_arg8) = m' ((c.tc : Thread Cert.RideRefIdeal.nD Cert.RideRefIdeal.τ).loc Cert.RideRefIdeal.main_arg8))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hAttnFwd : Cert.AttnFwd.Facts) (hAttnFwdIdeal : Cert.AttnFwdIdeal.Facts) (hAttnFwdRefIdeal : Cert.AttnFwdRefIdeal.Facts) (hPoolFwd : Cert.PoolFwd.Facts) (hPoolFwdIdeal : Cert.PoolFwdIdeal.Facts) (hPoolFwdRefIdeal : Cert.PoolFwdRefIdeal.Facts) (hMixFwd : Cert.MixFwd.Facts) (hMixFwdIdeal : Cert.MixFwdIdeal.Facts) (hMixFwdRefIdeal : Cert.MixFwdRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hRide : Cert.Ride.Facts) (hRideIdeal : Cert.RideIdeal.Facts) (hRideRefIdeal : Cert.RideRefIdeal.Facts) (hPre_finite_args : Cert.Pre_finite_args.Facts) (hPre_attn_finite : Cert.Pre_attn_finite.Facts) (hPre_mix_finite : Cert.Pre_mix_finite.Facts) (hPre_ffn_finite : Cert.Pre_ffn_finite.Facts) (hPre_loss_finite : Cert.Pre_loss_finite.Facts) (hPre_attn_fwd_finite : Cert.Pre_attn_fwd_finite.Facts) (hPre_pool_fwd_finite : Cert.Pre_pool_fwd_finite.Facts) (hPre_ffn_up_finite : Cert.Pre_ffn_up_finite.Facts) (hPre_ride_finite : Cert.Pre_ride_finite.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnUp (hFfnUp := hFfnUp)
    ∧ quiescent_FfnUpIdeal (hFfnUpIdeal := hFfnUpIdeal)
    ∧ quiescent_FfnUpIdeal_pre_ffn_up_finite (hFfnUpIdeal := hFfnUpIdeal) (hPre_ffn_up_finite := hPre_ffn_up_finite)
    ∧ quiescent_FfnUpRefIdeal (hFfnUpRefIdeal := hFfnUpRefIdeal)
    ∧ quiescent_FfnUpRefIdeal_pre_ffn_up_finite (hFfnUpRefIdeal := hFfnUpRefIdeal) (hPre_ffn_up_finite := hPre_ffn_up_finite)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Ride (hRide := hRide)
    ∧ quiescent_RideIdeal (hRideIdeal := hRideIdeal)
    ∧ quiescent_RideIdeal_pre_ride_finite (hRideIdeal := hRideIdeal) (hPre_ride_finite := hPre_ride_finite)
    ∧ quiescent_RideRefIdeal (hRideRefIdeal := hRideRefIdeal)
    ∧ quiescent_RideRefIdeal_pre_ride_finite (hRideRefIdeal := hRideRefIdeal) (hPre_ride_finite := hPre_ride_finite)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_MixFwd_MixFwdIdeal
    ∧ algebraic_MixFwdIdeal_MixFwdRefIdeal (hMixFwdIdeal := hMixFwdIdeal) (hMixFwdRefIdeal := hMixFwdRefIdeal)
    ∧ preserves_FfnUp_FfnUpIdeal
    ∧ algebraic_FfnUpIdeal_FfnUpRefIdeal_pre_ffn_up_finite (hFfnUpIdeal := hFfnUpIdeal) (hFfnUpRefIdeal := hFfnUpRefIdeal) (hPre_ffn_up_finite := hPre_ffn_up_finite)
    ∧ preserves_FfnDown_FfnDownIdeal
    ∧ algebraic_FfnDownIdeal_FfnDownRefIdeal (hFfnDownIdeal := hFfnDownIdeal) (hFfnDownRefIdeal := hFfnDownRefIdeal)
    ∧ preserves_Ride_RideIdeal
    ∧ algebraic_RideIdeal_RideRefIdeal_pre_ride_finite (hRideIdeal := hRideIdeal) (hRideRefIdeal := hRideRefIdeal) (hPre_ride_finite := hPre_ride_finite)
-- ==== Pre_attn_finite.lean ====
abbrev S1x8192x1024 : Shape := ⟨3, ![1, 8192, 1024]⟩
abbrev S1x8192x128 : Shape := ⟨3, ![1, 8192, 128]⟩
abbrev S16 : Shape := ⟨1, ![16]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x128 : S_.BroadcastsInDim S1x8192x128 (![] : Fin 0 → Fin S1x8192x128.rank)
  reducesTo_S1x8192x128_S_d0_1_2 : S1x8192x128.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S1x8192x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x1024 .f32) (main_arg1 : FVec F S1x8192x128 .f32) (main_arg2 : FVec F S1x8192x128 .f32) (main_arg3 : FVec F S16 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x128 .f32 := Host.absf main_arg1
  let main_cst_0 : FVec F S_ .f32 := constant S_ .f32 0x7F800000#32
  let main_v5 : FVec F S1x8192x128 .f32 := broadcastInDim S1x8192x128 ![] bcast_S_S1x8192x128 main_cst_0
  let main_v6 : IVec S1x8192x128 1 := cmpf .olt main_v4 main_v5
  let main_c_1 : IVec S_ 1 := constantI S_ 1 1#1
  let main_v7 : IVec S_ 1 := (fun x v => Host.reduce IntOp.andi x v reducesTo_S1x8192x128_S_d0_1_2 h_S_) main_v6 main_c_1
  let main_v8 : IVec S_ 1 := andi main_v3 main_v7
  let main_v9 : FVec F S1x8192x128 .f32 := Host.absf main_arg2
  let main_cst_2 : FVec F S_ .f32 := constant S_ .f32 0x7F800000#32
  let main_v10 : FVec F S1x8192x128 .f32 := broadcastInDim S1x8192x128 ![] bcast_S_S1x8192x128 main_cst_2
  let main_v11 : IVec S1x8192x128 1 := cmpf .olt main_v9 main_v10
  let main_c_3 : IVec S_ 1 := constantI S_ 1 1#1
  let main_v12 : IVec S_ 1 := (fun x v => Host.reduce IntOp.andi x v reducesTo_S1x8192x128_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_attn_fwd_finite.lean ====
abbrev S1x8192x1024 : Shape := ⟨3, ![1, 8192, 1024]⟩
abbrev S1x8192x128 : Shape := ⟨3, ![1, 8192, 128]⟩
abbrev S16 : Shape := ⟨1, ![16]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x128 : S_.BroadcastsInDim S1x8192x128 (![] : Fin 0 → Fin S1x8192x128.rank)
  reducesTo_S1x8192x128_S_d0_1_2 : S1x8192x128.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S1x8192x1024 .f32) (main_arg1 : FVec F S1x8192x128 .f32) (main_arg2 : FVec F S1x8192x128 .f32) (main_arg3 : FVec F S16 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x128 .f32 := Host.absf main_arg1
  let main_cst_0 : FVec F S_ .f32 := constant S_ .f32 0x7F800000#32
  let main_v5 : FVec F S1x8192x128 .f32 := broadcastInDim S1x8192x128 ![] bcast_S_S1x8192x128 main_cst_0
  let main_v6 : IVec S1x8192x128 1 := cmpf .olt main_v4 main_v5
  let main_c_1 : IVec S_ 1 := constantI S_ 1 1#1
  let main_v7 : IVec S_ 1 := (fun x v => Host.reduce IntOp.andi x v reducesTo_S1x8192x128_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_ffn_finite.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x1024 .f32) (main_arg1 : FVec F S1024 .f32) (main_arg2 : FVec F S1024x5632 .f32) (main_arg3 : FVec F S2816x1024 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_ffn_up_finite.lean ====
abbrev S1x8192x1024 : Shape := ⟨3, ![1, 8192, 1024]⟩
abbrev S1024 : Shape := ⟨1, ![1024]⟩
abbrev S1024x5632 : Shape := ⟨2, ![1024, 5632]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S1x8192x1024 .f32) (main_arg1 : FVec F S1024 .f32) (main_arg2 : FVec F S1024x5632 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Pre_finite_args.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S512 : S_.BroadcastsInDim S512 (![] : Fin 0 → Fin S512.rank)
  reducesTo_S512_S_d0 : S512.ReducesTo [0] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn {F : FTy → Type} [FloatOps F] (main_arg0 : FVec F S1x8192x512 .f32) (main_arg1 : FVec F S4x128x128 .f32) (main_arg2 : FVec F S512 .f32) (main_arg3 : FVec F S1x8192x512 .f32) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  let main_c_3 : IVec S_ 1 := constantI S_ 1 1#1
  let main_v12 : IVec S_ 1 := (fun x v => Host.reduce IntOp.andi x v reducesTo_S1x8192x512_S_d0_1_2 h_S_) main_v11 main_c_3
  let main_v13 : IVec S_ 1 := andi main_v8 main_v12
  main_v13
-- ==== Pre_loss_finite.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x8192x1024 .f32) (main_arg5 : FVec F S1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S1x8192x1024 .f32) (main_arg1 : FVec F S1024 .f32) (main_arg2 : FVec F S1024x5632 .f32) (main_arg3 : FVec F S2816x1024 .f32) (main_arg4 : FVec F S1x8192x1024 .f32) (main_arg5 : FVec F S1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_mix_finite.lean ====
abbrev S1x8192x1024 : Shape := ⟨3, ![1, 8192, 1024]⟩
abbrev S1024 : Shape := ⟨1, ![1024]⟩
abbrev S1024x3840 : Shape := ⟨2, ![1024, 3840]⟩
abbrev S1x8192x128 : Shape := ⟨3, ![1, 8192, 128]⟩
abbrev S1x8192x512 : Shape := ⟨3, ![1, 8192, 512]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3840 : S_.BroadcastsInDim S1024x3840 (![] : Fin 0 → Fin S1024x3840.rank)
  reducesTo_S1024x3840_S_d0_1 : S1024x3840.ReducesTo [0, 1] S_
  bcast_S_S1x8192x128 : S_.BroadcastsInDim S1x8192x128 (![] : Fin 0 → Fin S1x8192x128.rank)
  reducesTo_S1x8192x128_S_d0_1_2 : S1x8192x128.ReducesTo [0, 1, 2] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part2 {F : FTy → Type} [FloatOps F] (main_arg7 : FVec F S1x8192x1024 .f32) (main_arg8 : FVec F S1x8192x1024 .f32) (main_v33 : IVec S_ 1) : IVec S_ 1 :=
  let main_v34 : FVec F S1x8192x1024 .f32 := Host.absf main_arg7
  let main_cst_12 : FVec F S_ .f32 := constant S_ .f32 0x7F800000#32
  let main_v35 : FVec F S1x8192x1024 .f32 := broadcastInDim S1x8192x1024 ![] bcast_S_S1x8192x1024 main_cst_12
  let main_v36 : IVec S1x8192x1024 1 := cmpf .olt main_v34 main_v35
  let main_c_13 : IVec S_ 1 := constantI S_ 1 1#1
  let main_v37 : IVec S_ 1 := (fun x v => Host.reduce IntOp.andi x v reducesTo_S1x8192x1024_S_d0_1_2 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1x8192x128 .f32) (main_arg5 : FVec F S1x8192x128 .f32) (main_arg6 : FVec F S1x8192x512 .f32) (main_arg7 : FVec F S1x8192x1024 .f32) (main_arg8 : FVec F S1x8192x1024 .f32) (main_v13 : IVec S_ 1) (main_v16 : IVec S1x8192x1024 1) : IVec S_ 1 :=
  let main_c_5 : IVec S_ 1 := constantI S_ 1 1#1
  let main_v17 : IVec S_ 1 := (fun x v => Host.reduce IntOp.andi x v reducesTo_S1x8192x1024_S_d0_1_2 h_S_) main_v16 main_c_5
  let main_v18 : IVec S_ 1 := andi main_v13 main_v17
  let main_v19 : FVec F S1x8192x128 .f32 := Host.absf main_arg4
  let main_cst_6 : FVec F S_ .f32 := constant S_ .f32 0x7F800000#32
  let main_v20 : FVec F S1x8192x128 .f32 := broadcastInDim S1x8192x128 ![] bcast_S_S1x8192x128 main_cst_6
  let main_v21 : IVec S1x8192x128 1 := cmpf .olt main_v19 main_v20
  let main_c_7 : IVec S_ 1 := constantI S_ 1 1#1
  let main_v22 : IVec S_ 1 := (fun x v => Host.reduce IntOp.andi x v reducesTo_S1x8192x128_S_d0_1_2 h_S_) main_v21 main_c_7
  let main_v23 : IVec S_ 1 := andi main_v18 main_v22
  let main_v24 : FVec F S1x8192x128 .f32 := Host.absf main_arg5
  let main_cst_8 : FVec F S_ .f32 := constant S_ .f32 0x7F800000#32
  let main_v25 : FVec F S1x8192x128 .f32 := broadcastInDim S1x8192x128 ![] bcast_S_S1x8192x128 main_cst_8
  let main_v26 : IVec S1x8192x128 1 := cmpf .olt main_v24 main_v25
  let main_c_9 : IVec S_ 1 := constantI S_ 1 1#1
  let main_v27 : IVec S_ 1 := (fun x v => Host.reduce IntOp.andi x v reducesTo_S1x8192x128_S_d0_1_2 h_S_) main_v26 main_c_9
  let main_v28 : IVec S_ 1 := andi main_v23 main_v27
  let main_v29 : FVec F S1x8192x512 .f32 := Host.absf main_arg6
  let main_cst_10 : FVec F S_ .f32 := constant S_ .f32 0x7F800000#32
  let main_v30 : FVec F S1x8192x512 .f32 := broadcastInDim S1x8192x512 ![] bcast_S_S1x8192x512 main_cst_10
  let main_v31 : IVec S1x8192x512 1 := cmpf .olt main_v29 main_v30
  let main_c_11 : IVec S_ 1 := constantI S_ 1 1#1
  let main_v32 : IVec S_ 1 := (fun x v => Host.reduce IntOp.andi x v reducesTo_S1x8192x512_S_d0_1_2 h_S_) main_v31 main_c_11
  let main_v33 : IVec S_ 1 := andi main_v28 main_v32
  fn_part2 (F := F) main_arg7 main_arg8 main_v33

def fn {F : FTy → Type} [FloatOps F] (main_arg0 : FVec F S1x8192x1024 .f32) (main_arg1 : FVec F S1024 .f32) (main_arg2 : FVec F S1024x3840 .f32) (main_arg3 : FVec F S1x8192x1024 .f32) (main_arg4 : FVec F S1x8192x128 .f32) (main_arg5 : FVec F S1x8192x128 .f32) (main_arg6 : FVec F S1x8192x512 .f32) (main_arg7 : FVec F S1x8192x1024 .f32) (main_arg8 : FVec F S1x8192x1024 .f32) (main_arg9 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3840 .f32 := Host.absf main_arg2
  let main_cst_2 : FVec F S_ .f32 := constant S_ .f32 0x7F800000#32
  let main_v10 : FVec F S1024x3840 .f32 := broadcastInDim S1024x3840 ![] bcast_S_S1024x3840 main_cst_2
  let main_v11 : IVec S1024x3840 1 := cmpf .olt main_v9 main_v10
  let main_c_3 : IVec S_ 1 := constantI S_ 1 1#1
  let main_v12 : IVec S_ 1 := (fun x v => Host.reduce IntOp.andi x v reducesTo_S1024x3840_S_d0_1 h_S_) main_v11 main_c_3
  let main_v13 : IVec S_ 1 := andi main_v8 main_v12
  let main_v14 : FVec F S1x8192x1024 .f32 := Host.absf main_arg3
  let main_cst_4 : FVec F S_ .f32 := constant S_ .f32 0x7F800000#32
  let main_v15 : FVec F S1x8192x1024 .f32 := broadcastInDim S1x8192x1024 ![] bcast_S_S1x8192x1024 main_cst_4
  let main_v16 : IVec S1x8192x1024 1 := cmpf .olt main_v14 main_v15
  fn_part1 (F := F) main_arg4 main_arg5 main_arg6 main_arg7 main_arg8 main_v13 main_v16
-- ==== Pre_pool_fwd_finite.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel

variable [Facts]

def fn {F : FTy → Type} [FloatOps F] (main_arg0 : FVec F S1x8192x512 .f32) (main_arg1 : FVec F S4x128x128 .f32) (main_arg2 : FVec F S512 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  main_v3
-- ==== Pre_ride_finite.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S1024x1408 : Shape := ⟨2, ![1024, 1408]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x1024 .f32) (main_arg1 : FVec F S1024 .f32) (main_arg2 : FVec F S1024x5632 .f32) (main_arg3 : FVec F S2816x1024 .f32) (main_arg4 : FVec F S1x8192x1024 .f32) (main_arg5 : FVec F S1024x1408 .f32) (main_arg6 : FVec F S1024x1408 .f32) (main_arg7 : FVec F S1024x1408 .f32) (main_arg8 : FVec F S1024x1408 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S8192x512 : Shape := ⟨2, ![8192, 512]⟩
abbrev S1x512 : Shape := ⟨2, ![1, 512]⟩
abbrev S1024x512 : Shape := ⟨2, ![1024, 512]⟩
abbrev S16x512 : Shape := ⟨2, ![16, 512]⟩
abbrev S1040x512 : Shape := ⟨2, ![1040, 512]⟩
abbrev S1040x1 : Shape := ⟨2, ![1040, 1]⟩
abbrev S1x128x128 : Shape := ⟨3, ![1, 128, 128]⟩
abbrev S128x128 : Shape := ⟨2, ![128, 128]⟩
abbrev S1040x128 : Shape := ⟨2, ![1040, 128]⟩
abbrev S1x128 : Shape := ⟨2, ![1, 128]⟩
abbrev S1024x128 : Shape := ⟨2, ![1024, 128]⟩
abbrev S128 : Shape := ⟨1, ![128]⟩

abbrev nBuf : Space → Nat
  | .hbm => 89
  | .vmem => 12
  | .smem => 0
  | _ => 0

abbrev bufTy : (tb : Table) → Fin (tcTables nBuf tb) → BufTy
  | .hbm, ⟨0, _⟩ => ⟨S1x8192x512, .f32⟩
  | .hbm, ⟨1, _⟩ => ⟨S4x128x128, .f32⟩
  | .hbm, ⟨2, _⟩ => ⟨S512, .f32⟩
  | .hbm, ⟨3, _⟩ => ⟨S1x8192x512, .f32⟩
  | .hbm, ⟨4, _⟩ => ⟨S_, .f32⟩
  | .hbm, ⟨5, _⟩ => ⟨S1x1x512, .f32⟩
  | .hbm, ⟨6, _⟩ => ⟨S_, .f32⟩
  | .hbm, ⟨7, _⟩ => ⟨S_, .f32⟩
  | .hbm, ⟨8, _⟩ => ⟨S1x8192x512, .f32⟩
  | .hbm, ⟨9, _⟩ => ⟨S1x8193x512, .f32⟩
  | .hbm, ⟨10, _⟩ => ⟨S8192, .i32⟩
  | .hbm, ⟨11, _⟩ => ⟨S1x8193x128, .f32⟩
  | .hbm, ⟨12, _⟩ => ⟨S_, .f32⟩
  | .hbm, ⟨13, _⟩ => ⟨S1x1x128, .f32⟩
  | .hbm, ⟨14, _⟩ => ⟨S1x8191x128, .f32⟩
  | .hbm, ⟨15, _⟩ => ⟨S1x8192x128, .f32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S1x8192x1, .f32⟩
  | .hbm, ⟨24, _⟩ => ⟨S1x8192x128, .f32⟩
  | .hbm, ⟨25, _⟩ => ⟨S1x8192x128, .f32⟩
  | .hbm, ⟨26, _⟩ => ⟨S1x8192x128, .f32⟩
  | .hbm, ⟨27, _⟩ => ⟨S1x8192x128, .f32⟩
  | .hbm, ⟨28, _⟩ => ⟨S1x8193x128, .f32⟩
  | .hbm, ⟨29, _⟩ => ⟨S_, .f32⟩
  | .hbm, ⟨30, _⟩ => ⟨S1x3x128, .f32⟩
  | .hbm, ⟨31, _⟩ => ⟨S1x8189x128, .f32⟩
  | .hbm, ⟨32, _⟩ => ⟨S1x8192x128, .f32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .f32⟩
  | .hbm, ⟨40, _⟩ => ⟨S1x8192x1, .f32⟩
  | .hbm, ⟨41, _⟩ => ⟨S1x8192x128, .f32⟩
  | .hbm, ⟨42, _⟩ => ⟨S1x8192x128, .f32⟩
  | .hbm, ⟨43, _⟩ => ⟨S1x8192x128, .f32⟩
  | .hbm, ⟨44, _⟩ => ⟨S1x8192x128, .f32⟩
  | .hbm, ⟨45, _⟩ => ⟨S1x8193x128, .f32⟩
  | .hbm, ⟨46, _⟩ => ⟨S_, .f32⟩
  | .hbm, ⟨47, _⟩ => ⟨S1x7x128, .f32⟩
  | .hbm, ⟨48, _⟩ => ⟨S1x8185x128, .f32⟩
  | .hbm, ⟨49, _⟩ => ⟨S1x8192x128, .f32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .f32⟩
  | .hbm, ⟨57, _⟩ => ⟨S1x8192x1, .f32⟩
  | .hbm, ⟨58, _⟩ => ⟨S1x8192x128, .f32⟩
  | .hbm, ⟨59, _⟩ => ⟨S1x8192x128, .f32⟩
  | .hbm, ⟨60, _⟩ => ⟨S1x8192x128, .f32⟩
  | .hbm, ⟨61, _⟩ => ⟨S1x8192x128, .f32⟩
  | .hbm, ⟨62, _⟩ => ⟨S1x8193x128, .f32⟩
  | .hbm, ⟨63, _⟩ => ⟨S_, .f32⟩
  | .hbm, ⟨64, _⟩ => ⟨S1x15x128, .f32⟩
  | .hbm, ⟨65, _⟩ => ⟨S1x8177x128, .f32⟩
  | .hbm, ⟨66, _⟩ => ⟨S1x8192x128, .f32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .f32⟩
  | .hbm, ⟨74, _⟩ => ⟨S1x8192x1, .f32⟩
  | .hbm, ⟨75, _⟩ => ⟨S1x8192x128, .f32⟩
  | .hbm, ⟨76, _⟩ => ⟨S1x8192x128, .f32⟩
  | .hbm, ⟨77, _⟩ => ⟨S1x8192x128, .f32⟩
  | .hbm, ⟨78, _⟩ => ⟨S1x8192x128, .f32⟩
  | .hbm, ⟨79, _⟩ => ⟨S1x8192x512, .f32⟩
  | .hbm, ⟨80, _⟩ => ⟨S1x8192x512, .f32⟩
  | .hbm, ⟨81, _⟩ => ⟨S8192x512, .f32⟩
  | .hbm, ⟨82, _⟩ => ⟨S8192x512, .bf16⟩
  | .hbm, ⟨83, _⟩ => ⟨S8192x512, .f32⟩
  | .hbm, ⟨84, _⟩ => ⟨S4x128x128, .bf16⟩
  | .hbm, ⟨85, _⟩ => ⟨S1x512, .f32⟩
  | .hbm, ⟨86, _⟩ => ⟨S8192x512, .bf16⟩
  | .hbm, ⟨87, _⟩ => ⟨S4x128x128, .f32⟩
  | .hbm, ⟨88, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S1024x512, .bf16⟩
  | .local _ .vmem, ⟨5, _⟩ => ⟨S1024x512, .bf16⟩
  | .local _ .vmem, ⟨6, _⟩ => ⟨S4x128x128, .bf16⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S4x128x128, .f32⟩
  | .local _ .vmem, ⟨11, _⟩ => ⟨S1x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67_0 : Ref sig .tc := ⟨.hbm, 86, rfl⟩
abbrev main_v67_1 : Ref sig .tc := ⟨.hbm, 87, rfl⟩
abbrev main_v67_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S1x8192x4x128 : Shape := ⟨4, ![1, 8192, 4, 128]⟩
abbrev S4x128x1x8192 : Shape := ⟨4, ![4, 128, 1, 8192]⟩
abbrev S1x512 : Shape := ⟨2, ![1, 512]⟩
abbrev S4x1x8192x128 : Shape := ⟨4, ![4, 1, 8192, 128]⟩
abbrev S8192x512 : Shape := ⟨2, ![8192, 512]⟩

abbrev nBuf : Space → Nat
  | .hbm => 178
  | .vmem => 0
  | .smem => 0
  | _ => 0

abbrev hbmTy0_0 (i : Nat) : BufTy := match i % 128 with
  | 0 => ⟨S1x8192x512, .f32⟩
  | 1 => ⟨S4x128x128, .f32⟩
  | 2 => ⟨S512, .f32⟩
  | 3 => ⟨S1x8192x512, .f32⟩
  | 4 => ⟨S_, .f32⟩
  | 5 => ⟨S1x1x512, .f32⟩
  | 6 => ⟨S_, .f32⟩
  | 7 => ⟨S_, .f32⟩
  | 8 => ⟨S1x8192x512, .f32⟩
  | 9 => ⟨S1x8193x512, .f32⟩
  | 10 => ⟨S_, .f32⟩
  | 11 => ⟨S1x1x512, .f32⟩
  | 12 => ⟨S8192, .i32⟩
  | 13 => ⟨S1x8193x128, .f32⟩
  | 14 => ⟨S_, .f32⟩
  | 15 => ⟨S1x1x128, .f32⟩
  | 16 => ⟨S1x8191x128, .f32⟩
  | 17 => ⟨S1x8192x128, .f32⟩
  | 18 => ⟨S_, .f32⟩
  | 19 => ⟨S1x1x128, .f32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .f32⟩
  | 27 => ⟨S1x8192x1, .f32⟩
  | 28 => ⟨S1x8192x128, .f32⟩
  | 29 => ⟨S1x8192x128, .f32⟩
  | 30 => ⟨S1x8192x128, .f32⟩
  | 31 => ⟨S1x8192x128, .f32⟩
  | 32 => ⟨S1x8193x128, .f32⟩
  | 33 => ⟨S_, .f32⟩
  | 34 => ⟨S1x3x128, .f32⟩
  | 35 => ⟨S1x8189x128, .f32⟩
  | 36 => ⟨S1x8192x128, .f32⟩
  | 37 => ⟨S_, .f32⟩
  | 38 => ⟨S1x3x128, .f32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S1x8192x1, .f32⟩
  | 47 => ⟨S1x8192x128, .f32⟩
  | 48 => ⟨S1x8192x128, .f32⟩
  | 49 => ⟨S1x8192x128, .f32⟩
  | 50 => ⟨S1x8192x128, .f32⟩
  | 51 => ⟨S1x8193x128, .f32⟩
  | 52 => ⟨S_, .f32⟩
  | 53 => ⟨S1x7x128, .f32⟩
  | 54 => ⟨S1x8185x128, .f32⟩
  | 55 => ⟨S1x8192x128, .f32⟩
  | 56 => ⟨S_, .f32⟩
  | 57 => ⟨S1x7x128, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S1x8192x1, .f32⟩
  | 66 => ⟨S1x8192x128, .f32⟩
  | 67 => ⟨S1x8192x128, .f32⟩
  | 68 => ⟨S1x8192x128, .f32⟩
  | 69 => ⟨S1x8192x128, .f32⟩
  | 70 => ⟨S1x8193x128, .f32⟩
  | 71 => ⟨S_, .f32⟩
  | 72 => ⟨S1x15x128, .f32⟩
  | 73 => ⟨S1x8177x128, .f32⟩
  | 74 => ⟨S1x8192x128, .f32⟩
  | 75 => ⟨S_, .f32⟩
  | 76 => ⟨S1x15x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S1x8192x1, .f32⟩
  | 85 => ⟨S1x8192x128, .f32⟩
  | 86 => ⟨S1x8192x128, .f32⟩
  | 87 => ⟨S1x8192x128, .f32⟩
  | 88 => ⟨S1x8192x128, .f32⟩
  | 89 => ⟨S1x8192x512, .f32⟩
  | 90 => ⟨S1x8192x512, .f32⟩
  | 91 => ⟨S1x8192x4x128, .f32⟩
  | 92 => ⟨S4x128x1x8192, .f32⟩
  | 93 => ⟨S1x8192x4x128, .f32⟩
  | 94 => ⟨S1x8192x512, .f32⟩
  | 95 => ⟨S1x1x512, .f32⟩
  | 96 => ⟨S1x8192x512, .f32⟩
  | 97 => ⟨S1x8192x512, .f32⟩
  | 98 => ⟨S1x8192x512, .f32⟩
  | 99 => ⟨S_, .f32⟩
  | 100 => ⟨S1x512, .f32⟩
  | 101 => ⟨S1x1x512, .f32⟩
  | 102 => ⟨S1x8192x512, .f32⟩
  | 103 => ⟨S1x8192x512, .f32⟩
  | 104 => ⟨S_, .f32⟩
  | 105 => ⟨S512, .f32⟩
  | 106 => ⟨S1x8192x4x128, .f32⟩
  | 107 => ⟨S4x128x1x8192, .f32⟩
  | 108 => ⟨S4x1x8192x128, .f32⟩
  | 109 => ⟨S1x8192x4x128, .f32⟩
  | 110 => ⟨S4x128x128, .f32⟩
  | 111 => ⟨S4x128x128, .f32⟩
  | 112 => ⟨S1x8192x512, .f32⟩
  | 113 => ⟨S1x8192x512, .f32⟩
  | 114 => ⟨S1x8192x128, .f32⟩
  | 115 => ⟨S1x8192x128, .f32⟩
  | 116 => ⟨S1x8192x128, .f32⟩
  | 117 => ⟨S1x8192x128, .f32⟩
  | 118 => ⟨S1x8192x128, .f32⟩
  | 119 => ⟨S1x8192x128, .f32⟩
  | 120 => ⟨S1x8192x128, .f32⟩
  | 121 => ⟨S_, .f32⟩
  | 122 => ⟨S1x8193x128, .f32⟩
  | 123 => ⟨S1x15x128, .f32⟩
  | 124 => ⟨S1x8177x128, .f32⟩
  | 125 => ⟨S_, .f32⟩
  | 126 => ⟨S1x8193x128, .f32⟩
  | 127 => ⟨S1x8193x128, .f32⟩
  | _ => ⟨S1x8192x512, .f32⟩

abbrev hbmTy0_1 (i : Nat) : BufTy := match i % 128 with
  | 0 => ⟨S_, .f32⟩
  | 1 => ⟨S1x8193x512, .f32⟩
  | 2 => ⟨S1x8192x128, .f32⟩
  | 3 => ⟨S1x8192x128, .f32⟩
  | 4 => ⟨S1x8192x128, .f32⟩
  | 5 => ⟨S_, .f32⟩
  | 6 => ⟨S1x8193x128, .f32⟩
  | 7 => ⟨S1x7x128, .f32⟩
  | 8 => ⟨S1x8185x128, .f32⟩
  | 9 => ⟨S_, .f32⟩
  | 10 => ⟨S1x8193x128, .f32⟩
  | 11 => ⟨S1x8193x128, .f32⟩
  | 12 => ⟨S_, .f32⟩
  | 13 => ⟨S1x8193x512, .f32⟩
  | 14 => ⟨S1x8193x512, .f32⟩
  | 15 => ⟨S1x8192x128, .f32⟩
  | 16 => ⟨S1x8192x128, .f32⟩
  | 17 => ⟨S1x8192x128, .f32⟩
  | 18 => ⟨S_, .f32⟩
  | 19 => ⟨S1x8193x128, .f32⟩
  | 20 => ⟨S1x3x128, .f32⟩
  | 21 => ⟨S1x8189x128, .f32⟩
  | 22 => ⟨S_, .f32⟩
  | 23 => ⟨S1x8193x128, .f32⟩
  | 24 => ⟨S1x8193x128, .f32⟩
  | 25 => ⟨S_, .f32⟩
  | 26 => ⟨S1x8193x512, .f32⟩
  | 27 => ⟨S1x8193x512, .f32⟩
  | 28 => ⟨S1x8192x128, .f32⟩
  | 29 => ⟨S1x8192x128, .f32⟩
  | 30 => ⟨S1x8192x128, .f32⟩
  | 31 => ⟨S_, .f32⟩
  | 32 => ⟨S1x8193x128, .f32⟩
  | 33 => ⟨S1x1x128, .f32⟩
  | 34 => ⟨S1x8191x128, .f32⟩
  | 35 => ⟨S_, .f32⟩
  | 36 => ⟨S1x8193x128, .f32⟩
  | 37 => ⟨S1x8193x128, .f32⟩
  | 38 => ⟨S_, .f32⟩
  | 39 => ⟨S1x8193x512, .f32⟩
  | 40 => ⟨S1x8193x512, .f32⟩
  | 41 => ⟨S1x1x512, .f32⟩
  | 42 => ⟨S1x8192x512, .f32⟩
  | 43 => ⟨S_, .f32⟩
  | 44 => ⟨S_, .f32⟩
  | 45 => ⟨S1x8192x512, .f32⟩
  | 46 => ⟨S1x8192x512, .f32⟩
  | 47 => ⟨S8192x512, .f32⟩
  | 48 => ⟨S8192x512, .bf16⟩
  | 49 => ⟨S1x512, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_c_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_19 : Ref sig .tc := ⟨.hbm, 125, rfl⟩
abbrev main_v98 : Ref sig .tc := ⟨.hbm, 126, rfl⟩
abbrev main_v99 : Ref sig .tc := ⟨.hbm, 127, rfl⟩
abbrev main_cst_20 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_21 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_22 : Ref sig .tc := ⟨.hbm, 137, rfl⟩
abbrev main_v107 : Ref sig .tc := ⟨.hbm, 138, rfl⟩
abbrev main_v108 : Ref sig .tc := ⟨.hbm, 139, rfl⟩
abbrev main_cst_23 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_24 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_25 : Ref sig .tc := ⟨.hbm, 150, rfl⟩
abbrev main_v117 : Ref sig .tc := ⟨.hbm, 151, rfl⟩
abbrev main_v118 : Ref sig .tc := ⟨.hbm, 152, rfl⟩
abbrev main_cst_26 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_27 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_28 : Ref sig .tc := ⟨.hbm, 163, rfl⟩
abbrev main_v127 : Ref sig .tc := ⟨.hbm, 164, rfl⟩
abbrev main_v128 : Ref sig .tc := ⟨.hbm, 165, rfl⟩
abbrev main_cst_29 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_call1_call0_cst : Ref sig .tc := ⟨.hbm, 171, rfl⟩
abbrev main_call1_call0_v0 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩

abbrev nD : Nat := 1
abbrev τ : Topo := Topo.v7x

variable {F : FTy → Type} [FloatOps F]
-- ==== Attn.lean ====
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x8192x2x64 : Shape := ⟨4, ![1, 8192, 2, 64]⟩
abbrev S_ : Shape := ⟨0, ![]⟩
abbrev S1x128x2x64 : Shape := ⟨4, ![1, 128, 2, 64]⟩
abbrev S1x64x128x2x64 : Shape := ⟨5, ![1, 64, 128, 2, 64]⟩
abbrev S1x8064x2x64 : Shape := ⟨4, ![1, 8064, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x64x1x1x128x256 : Shape := ⟨6, ![1, 64, 1, 1, 128, 256]⟩
abbrev S1x64x2x8x128 : Shape := ⟨5, ![1, 64, 2, 8, 128]⟩
abbrev S1x64x2x8x128x1 : Shape := ⟨6, ![1, 64, 2, 8, 128, 1]⟩
abbrev S1x1x2x8x1x1 : Shape := ⟨6, ![1, 1, 2, 8, 1, 1]⟩
abbrev S1x64x2x64x8x128 : Shape := ⟨6, ![1, 64, 2, 64, 8, 128]⟩
abbrev S1x64x128x2x8x1 : Shape := ⟨6, ![1, 64, 128, 2, 8, 1]⟩
abbrev S1x8192x16 : Shape := ⟨3, ![1, 8192, 16]⟩
abbrev S8192x128 : Shape := ⟨2, ![8192, 128]⟩
abbrev S8192x256 : Shape := ⟨2, ![8192, 256]⟩
abbrev S8192x1024 : Shape := ⟨2, ![8192, 1024]⟩
abbrev S8192x16 : Shape := ⟨2, ![8192, 16]⟩
abbrev S1x16 : Shape := ⟨2, ![1, 16]⟩
abbrev S128x1024 : Shape := ⟨2, ![128, 1024]⟩
abbrev S128x16 : Shape := ⟨2, ![128, 16]⟩
abbrev S128x128 : Shape := ⟨2, ![128, 128]⟩
abbrev S256x128 : Shape := ⟨2, ![256, 128]⟩
abbrev S1024x128 : Shape := ⟨2, ![1024, 128]⟩
abbrev S1024x256 : Shape := ⟨2, ![1024, 256]⟩
abbrev S1x1 : Shape := ⟨2, ![1, 1]⟩
abbrev S1 : Shape := ⟨1, ![1]⟩

abbrev nBuf : Space → Nat
  | .hbm => 122
  | .vmem => 18
  | .smem => 1
  | _ => 0

abbrev bufTy : (tb : Table) → Fin (tcTables nBuf tb) → BufTy
  | .hbm, ⟨0, _⟩ => ⟨S1x8192x1024, .f32⟩
  | .hbm, ⟨1, _⟩ => ⟨S1x8192x128, .f32⟩
  | .hbm, ⟨2, _⟩ => ⟨S1x8192x128, .f32⟩
  | .hbm, ⟨3, _⟩ => ⟨S16, .f32⟩
  | .hbm, ⟨4, _⟩ => ⟨S1x8192x1024, .f32⟩
  | .hbm, ⟨5, _⟩ => ⟨S16, .f32⟩
  | .hbm, ⟨6, _⟩ => ⟨S1x64x128x2x8x64, .f32⟩
  | .hbm, ⟨7, _⟩ => ⟨S1x8192x2x64, .f32⟩
  | .hbm, ⟨8, _⟩ => ⟨S1x8192x2x64, .f32⟩
  | .hbm, ⟨9, _⟩ => ⟨S_, .f32⟩
  | .hbm, ⟨10, _⟩ => ⟨S1x128x2x64, .f32⟩
  | .hbm, ⟨11, _⟩ => ⟨S1x64x128x2x64, .f32⟩
  | .hbm, ⟨12, _⟩ => ⟨S1x8064x2x64, .f32⟩
  | .hbm, ⟨13, _⟩ => ⟨S1x8192x2x64, .f32⟩
  | .hbm, ⟨14, _⟩ => ⟨S1x64x128x2x64, .f32⟩
  | .hbm, ⟨15, _⟩ => ⟨S1x64x256x2x64, .f32⟩
  | .hbm, ⟨16, _⟩ => ⟨S1x64x128x2x64, .f32⟩
  | .hbm, ⟨17, _⟩ => ⟨S1x8064x2x64, .f32⟩
  | .hbm, ⟨18, _⟩ => ⟨S1x8192x2x64, .f32⟩
  | .hbm, ⟨19, _⟩ => ⟨S1x64x128x2x64, .f32⟩
  | .hbm, ⟨20, _⟩ => ⟨S1x64x256x2x64, .f32⟩
  | .hbm, ⟨21, _⟩ => ⟨S1x64x2x256x128x8, .f32⟩
  | .hbm, ⟨22, _⟩ => ⟨S1x64x2x8x128x256, .f32⟩
  | .hbm, ⟨23, _⟩ => ⟨S_, .f32⟩
  | .hbm, ⟨24, _⟩ => ⟨S1x64x2x8x128x256, .f32⟩
  | .hbm, ⟨25, _⟩ => ⟨S1x64x2x8x128x256, .f32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S64, .i32⟩
  | .hbm, ⟨37, _⟩ => ⟨S64x1x1, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S1x128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S1x128x256, .i1⟩
  | .hbm, ⟨46, _⟩ => ⟨S1x128x256, .i1⟩
  | .hbm, ⟨47, _⟩ => ⟨S_, .i32⟩
  | .hbm, ⟨48, _⟩ => ⟨S64x1x1, .i32⟩
  | .hbm, ⟨49, _⟩ => ⟨S64x1x1, .i32⟩
  | .hbm, ⟨50, _⟩ => ⟨S_, .i32⟩
  | .hbm, ⟨51, _⟩ => ⟨S64x1x1, .i32⟩
  | .hbm, ⟨52, _⟩ => ⟨S64x1x1, .i32⟩
  | .hbm, ⟨53, _⟩ => ⟨S1x1x256, .i32⟩
  | .hbm, ⟨54, _⟩ => ⟨S64x1x256, .i32⟩
  | .hbm, ⟨55, _⟩ => ⟨S64x1x256, .i32⟩
  | .hbm, ⟨56, _⟩ => ⟨S64x1x256, .i32⟩
  | .hbm, ⟨57, _⟩ => ⟨S_, .i32⟩
  | .hbm, ⟨58, _⟩ => ⟨S64x1x256, .i32⟩
  | .hbm, ⟨59, _⟩ => ⟨S64x1x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S2x8, .f32⟩
  | .hbm, ⟨64, _⟩ => ⟨S2x8x1x1, .f32⟩
  | .hbm, ⟨65, _⟩ => ⟨S128x256, .f32⟩
  | .hbm, ⟨66, _⟩ => ⟨S1x1x128x256, .f32⟩
  | .hbm, ⟨67, _⟩ => ⟨S2x8x128x256, .f32⟩
  | .hbm, ⟨68, _⟩ => ⟨S2x8x128x256, .f32⟩
  | .hbm, ⟨69, _⟩ => ⟨S2x8x128x256, .f32⟩
  | .hbm, ⟨70, _⟩ => ⟨S1x1x2x8x128x256, .f32⟩
  | .hbm, ⟨71, _⟩ => ⟨S1x64x2x8x128x256, .f32⟩
  | .hbm, ⟨72, _⟩ => ⟨S1x64x2x8x128x256, .f32⟩
  | .hbm, ⟨73, _⟩ => ⟨S1x64x1x1x128x256, .i1⟩
  | .hbm, ⟨74, _⟩ => ⟨S_, .f32⟩
  | .hbm, ⟨75, _⟩ => ⟨S_, .f32⟩
  | .hbm, ⟨76, _⟩ => ⟨S1x64x2x8x128x256, .i1⟩
  | .hbm, ⟨77, _⟩ => ⟨S1x64x2x8x128x256, .f32⟩
  | .hbm, ⟨78, _⟩ => ⟨S1x64x2x8x128x256, .f32⟩
  | .hbm, ⟨79, _⟩ => ⟨S2x8, .f32⟩
  | .hbm, ⟨80, _⟩ => ⟨S2x8x1x1, .f32⟩
  | .hbm, ⟨81, _⟩ => ⟨S_, .f32⟩
  | .hbm, ⟨82, _⟩ => ⟨S1x64x2x8x128, .f32⟩
  | .hbm, ⟨83, _⟩ => ⟨S1x64x2x8x128x1, .f32⟩
  | .hbm, ⟨84, _⟩ => ⟨S1x1x2x8x1x1, .f32⟩
  | .hbm, ⟨85, _⟩ => ⟨S1x64x2x8x128x1, .f32⟩
  | .hbm, ⟨86, _⟩ => ⟨S1x64x2x8x128x1, .f32⟩
  | .hbm, ⟨87, _⟩ => ⟨S1x64x2x8x128x256, .f32⟩
  | .hbm, ⟨88, _⟩ => ⟨S1x64x2x8x128x256, .f32⟩
  | .hbm, ⟨89, _⟩ => ⟨S1x64x2x8x128x256, .f32⟩
  | .hbm, ⟨90, _⟩ => ⟨S_, .f32⟩
  | .hbm, ⟨91, _⟩ => ⟨S1x64x2x8x128, .f32⟩
  | .hbm, ⟨92, _⟩ => ⟨S1x64x2x8x128x1, .f32⟩
  | .hbm, ⟨93, _⟩ => ⟨S1x1x2x8x1x1, .f32⟩
  | .hbm, ⟨94, _⟩ => ⟨S1x64x2x8x128x1, .f32⟩
  | .hbm, ⟨95, _⟩ => ⟨S1x64x2x8x128x1, .f32⟩
  | .hbm, ⟨96, _⟩ => ⟨S1x64x2x8x128x1, .f32⟩
  | .hbm, ⟨97, _⟩ => ⟨S1x64x2x8x128x1, .f32⟩
  | .hbm, ⟨98, _⟩ => ⟨S1x64x2x8x128x256, .f32⟩
  | .hbm, ⟨99, _⟩ => ⟨S1x64x2x8x128x256, .f32⟩
  | .hbm, ⟨100, _⟩ => ⟨S1x64x2x64x8x128, .f32⟩
  | .hbm, ⟨101, _⟩ => ⟨S1x64x128x2x8x64, .f32⟩
  | .hbm, ⟨102, _⟩ => ⟨S1x8192x1024, .f32⟩
  | .hbm, ⟨103, _⟩ => ⟨S1x64x2x8x128x1, .f32⟩
  | .hbm, ⟨104, _⟩ => ⟨S1x64x2x8x128x1, .f32⟩
  | .hbm, ⟨105, _⟩ => ⟨S1x64x128x2x8x1, .f32⟩
  | .hbm, ⟨106, _⟩ => ⟨S1x8192x16, .f32⟩
  | .hbm, ⟨107, _⟩ => ⟨S8192x128, .f32⟩
  | .hbm, ⟨108, _⟩ => ⟨S8192x128, .f32⟩
  | .hbm, ⟨109, _⟩ => ⟨S8192x256, .f32⟩
  | .hbm, ⟨110, _⟩ => ⟨S8192x256, .bf16⟩
  | .hbm, ⟨111, _⟩ => ⟨S8192x1024, .f32⟩
  | .hbm, ⟨112, _⟩ => ⟨S8192x1024, .bf16⟩
  | .hbm, ⟨113, _⟩ => ⟨S8192x1024, .f32⟩
  | .hbm, ⟨114, _⟩ => ⟨S8192x1024, .bf16⟩
  | .hbm, ⟨115, _⟩ => ⟨S8192x1024, .f32⟩
  | .hbm, ⟨116, _⟩ => ⟨S8192x1024, .bf16⟩
  | .hbm, ⟨117, _⟩ => ⟨S8192x16, .f32⟩
  | .hbm, ⟨118, _⟩ => ⟨S1x16, .f32⟩
  | .hbm, ⟨119, _⟩ => ⟨S8192x1024, .bf16⟩
  | .hbm, ⟨120, _⟩ => ⟨S8192x256, .bf16⟩
  | .hbm, ⟨121, _⟩ => ⟨S1x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x16, .f32⟩
  | .local _ .vmem, ⟨11, _⟩ => ⟨S128x16, .f32⟩
  | .local _ .vmem, ⟨12, _⟩ => ⟨S128x1024, .bf16⟩
  | .local _ .vmem, ⟨13, _⟩ => ⟨S128x1024, .bf16⟩
  | .local _ .vmem, ⟨14, _⟩ => ⟨S128x256, .bf16⟩
  | .local _ .vmem, ⟨15, _⟩ => ⟨S128x256, .bf16⟩
  | .local _ .vmem, ⟨16, _⟩ => ⟨S1x16, .f32⟩
  | .local _ .vmem, ⟨17, _⟩ => ⟨S128x256, .f32⟩
  | .local _ .smem, ⟨0, _⟩ => ⟨S1x16, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99_0 : Ref sig .tc := ⟨.hbm, 119, rfl⟩
abbrev main_v99_1 : Ref sig .tc := ⟨.hbm, 120, rfl⟩
abbrev main_v99_2 : Ref sig .tc := ⟨.hbm, 121, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x8192x2x64 : Shape := ⟨4, ![1, 8192, 2, 64]⟩
abbrev S_ : Shape := ⟨0, ![]⟩
abbrev S1x128x2x64 : Shape := ⟨4, ![1, 128, 2, 64]⟩
abbrev S1x64x128x2x64 : Shape := ⟨5, ![1, 64, 128, 2, 64]⟩
abbrev S1x8064x2x64 : Shape := ⟨4, ![1, 8064, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x64x1x1x128x256 : Shape := ⟨6, ![1, 64, 1, 1, 128, 256]⟩
abbrev S1x64x2x8x128 : Shape := ⟨5, ![1, 64, 2, 8, 128]⟩
abbrev S1x64x2x8x128x1 : Shape := ⟨6, ![1, 64, 2, 8, 128, 1]⟩
abbrev S1x1x2x8x1x1 : Shape := ⟨6, ![1, 1, 2, 8, 1, 1]⟩
abbrev S1x64x2x64x8x128 : Shape := ⟨6, ![1, 64, 2, 64, 8, 128]⟩
abbrev S1x64x2x64x256 : Shape := ⟨5, ![1, 64, 2, 64, 256]⟩
abbrev S1x2x8x1 : Shape := ⟨4, ![1, 2, 8, 1]⟩
abbrev S64x2x8x128 : Shape := ⟨4, ![64, 2, 8, 128]⟩
abbrev S1x64x2x128x8x64 : Shape := ⟨6, ![1, 64, 2, 128, 8, 64]⟩
abbrev S1x64x2x256x64 : Shape := ⟨5, ![1, 64, 2, 256, 64]⟩
abbrev S8192x1024 : Shape := ⟨2, ![8192, 1024]⟩
abbrev S8192x128 : Shape := ⟨2, ![8192, 128]⟩
abbrev S8192x256 : Shape := ⟨2, ![8192, 256]⟩
abbrev S1x16 : Shape := ⟨2, ![1, 16]⟩

abbrev nBuf : Space → Nat
  | .hbm => 266
  | .vmem => 0
  | .smem => 0
  | _ => 0

abbrev hbmTy0_0 (i : Nat) : BufTy := match i % 128 with
  | 0 => ⟨S1x8192x1024, .f32⟩
  | 1 => ⟨S1x8192x128, .f32⟩
  | 2 => ⟨S1x8192x128, .f32⟩
  | 3 => ⟨S16, .f32⟩
  | 4 => ⟨S1x8192x1024, .f32⟩
  | 5 => ⟨S1x64x128x2x8x64, .f32⟩
  | 6 => ⟨S1x8192x2x64, .f32⟩
  | 7 => ⟨S1x8192x2x64, .f32⟩
  | 8 => ⟨S_, .f32⟩
  | 9 => ⟨S1x128x2x64, .f32⟩
  | 10 => ⟨S1x64x128x2x64, .f32⟩
  | 11 => ⟨S1x8064x2x64, .f32⟩
  | 12 => ⟨S1x8192x2x64, .f32⟩
  | 13 => ⟨S_, .f32⟩
  | 14 => ⟨S1x128x2x64, .f32⟩
  | 15 => ⟨S1x64x128x2x64, .f32⟩
  | 16 => ⟨S1x64x256x2x64, .f32⟩
  | 17 => ⟨S1x64x128x2x64, .f32⟩
  | 18 => ⟨S1x8064x2x64, .f32⟩
  | 19 => ⟨S1x8192x2x64, .f32⟩
  | 20 => ⟨S_, .f32⟩
  | 21 => ⟨S1x128x2x64, .f32⟩
  | 22 => ⟨S1x64x128x2x64, .f32⟩
  | 23 => ⟨S1x64x256x2x64, .f32⟩
  | 24 => ⟨S1x64x2x256x128x8, .f32⟩
  | 25 => ⟨S1x64x2x8x128x256, .f32⟩
  | 26 => ⟨S_, .f32⟩
  | 27 => ⟨S1x64x2x8x128x256, .f32⟩
  | 28 => ⟨S1x64x2x8x128x256, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S64, .i32⟩
  | 40 => ⟨S64x1x1, .i32⟩
  | 41 => ⟨S_, .i32⟩
  | 42 => ⟨S128x256, .i32⟩
  | 43 => ⟨S128x256, .i1⟩
  | 44 => ⟨S1x128x256, .i1⟩
  | 45 => ⟨S_, .i32⟩
  | 46 => ⟨S128x256, .i32⟩
  | 47 => ⟨S128x256, .i1⟩
  | 48 => ⟨S1x128x256, .i1⟩
  | 49 => ⟨S1x128x256, .i1⟩
  | 50 => ⟨S_, .i32⟩
  | 51 => ⟨S64x1x1, .i32⟩
  | 52 => ⟨S64x1x1, .i32⟩
  | 53 => ⟨S_, .i32⟩
  | 54 => ⟨S64x1x1, .i32⟩
  | 55 => ⟨S64x1x1, .i32⟩
  | 56 => ⟨S1x1x256, .i32⟩
  | 57 => ⟨S64x1x256, .i32⟩
  | 58 => ⟨S64x1x256, .i32⟩
  | 59 => ⟨S64x1x256, .i32⟩
  | 60 => ⟨S_, .i32⟩
  | 61 => ⟨S64x1x256, .i32⟩
  | 62 => ⟨S64x1x256, .i1⟩
  | 63 => ⟨S64x128x256, .i1⟩
  | 64 => ⟨S64x128x256, .i1⟩
  | 65 => ⟨S64x128x256, .i1⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S1, .f32⟩
  | 98 => ⟨S16, .f32⟩
  | 99 => ⟨S2x8, .f32⟩
  | 100 => ⟨S2x8x1x1, .f32⟩
  | 101 => ⟨S128x256, .f32⟩
  | 102 => ⟨S1x1x128x256, .f32⟩
  | 103 => ⟨S2x8x128x256, .f32⟩
  | 104 => ⟨S2x8x128x256, .f32⟩
  | 105 => ⟨S2x8x128x256, .f32⟩
  | 106 => ⟨S1x1x2x8x128x256, .f32⟩
  | 107 => ⟨S1x64x2x8x128x256, .f32⟩
  | 108 => ⟨S1x64x2x8x128x256, .f32⟩
  | 109 => ⟨S1x64x1x1x128x256, .i1⟩
  | 110 => ⟨S_, .f32⟩
  | 111 => ⟨S_, .f32⟩
  | 112 => ⟨S1x64x2x8x128x256, .i1⟩
  | 113 => ⟨S1x64x2x8x128x256, .f32⟩
  | 114 => ⟨S1x64x2x8x128x256, .f32⟩
  | 115 => ⟨S_, .f32⟩
  | 116 => ⟨S1x64x2x8x128x256, .f32⟩
  | 117 => ⟨S2x8, .f32⟩
  | 118 => ⟨S2x8x1x1, .f32⟩
  | 119 => ⟨S_, .f32⟩
  | 120 => ⟨S1x64x2x8x128, .f32⟩
  | 121 => ⟨S1x64x2x8x128x1, .f32⟩
  | 122 => ⟨S1x64x2x8x128x256, .f32⟩
  | 123 => ⟨S1x64x2x8x128x256, .i1⟩
  | 124 => ⟨S1x64x2x8x128x256, .f32⟩
  | 125 => ⟨S_, .f32⟩
  | 126 => ⟨S1x64x2x8x128, .f32⟩
  | 127 => ⟨S1x64x2x8x128x1, .f32⟩
  | _ => ⟨S1x8192x1024, .f32⟩

abbrev hbmTy0_1 (i : Nat) : BufTy := match i % 128 with
  | 0 => ⟨S1x1x2x8x1x1, .f32⟩
  | 1 => ⟨S1x64x2x8x128x1, .f32⟩
  | 2 => ⟨S1x64x2x8x128x1, .f32⟩
  | 3 => ⟨S1x64x2x8x128x1, .f32⟩
  | 4 => ⟨S1x64x2x8x128x1, .i1⟩
  | 5 => ⟨S1x64x2x8x128x1, .f32⟩
  | 6 => ⟨S1x64x2x8x128x1, .i1⟩
  | 7 => ⟨S_, .f32⟩
  | 8 => ⟨S1x64x2x8x128x1, .f32⟩
  | 9 => ⟨S_, .f32⟩
  | 10 => ⟨S1x64x2x8x128x1, .f32⟩
  | 11 => ⟨S_, .f32⟩
  | 12 => ⟨S1x64x2x8x128x1, .f32⟩
  | 13 => ⟨S1x64x2x8x128x1, .f32⟩
  | 14 => ⟨S1x64x2x8x128x1, .f32⟩
  | 15 => ⟨S1x64x2x8x128x1, .f32⟩
  | 16 => ⟨S1x64x2x8x128x1, .i1⟩
  | 17 => ⟨S1x64x2x8x128x1, .f32⟩
  | 18 => ⟨S1x64x2x8x128x1, .i1⟩
  | 19 => ⟨S_, .f32⟩
  | 20 => ⟨S1x64x2x8x128x1, .f32⟩
  | 21 => ⟨S_, .f32⟩
  | 22 => ⟨S1x64x2x8x128x1, .f32⟩
  | 23 => ⟨S_, .f32⟩
  | 24 => ⟨S1x64x2x8x128x1, .f32⟩
  | 25 => ⟨S1x64x2x8x128x1, .f32⟩
  | 26 => ⟨S1x64x2x8x128x1, .f32⟩
  | 27 => ⟨S1x64x2x8x128x256, .f32⟩
  | 28 => ⟨S1x64x2x8x128x256, .f32⟩
  | 29 => ⟨S1x64x2x8x128x256, .f32⟩
  | 30 => ⟨S_, .f32⟩
  | 31 => ⟨S1x64x2x8x128, .f32⟩
  | 32 => ⟨S1x64x2x8x128x1, .f32⟩
  | 33 => ⟨S1x1x2x8x1x1, .f32⟩
  | 34 => ⟨S1x64x2x8x128x1, .f32⟩
  | 35 => ⟨S1x64x2x8x128x1, .f32⟩
  | 36 => ⟨S1x64x2x8x128x1, .f32⟩
  | 37 => ⟨S1x64x2x8x128x1, .f32⟩
  | 38 => ⟨S1x64x2x8x128x256, .f32⟩
  | 39 => ⟨S1x64x2x8x128x256, .f32⟩
  | 40 => ⟨S1x64x2x8x128x1, .f32⟩
  | 41 => ⟨S_, .f32⟩
  | 42 => ⟨S1x64x2x8x128x1, .f32⟩
  | 43 => ⟨S1x64x2x8x128x1, .f32⟩
  | 44 => ⟨S1x64x2x64x8x128, .f32⟩
  | 45 => ⟨S1x64x128x2x8x64, .f32⟩
  | 46 => ⟨S1x8192x1024, .f32⟩
  | 47 => ⟨S1x64x128x2x8x64, .f32⟩
  | 48 => ⟨S1x64x2x64x8x128, .f32⟩
  | 49 => ⟨S1x64x2x8x128x256, .f32⟩
  | 50 => ⟨S1x64x2x64x256, .f32⟩
  | 51 => ⟨S1x64x256x2x64, .f32⟩
  | 52 => ⟨S1x64x2x8x128x256, .f32⟩
  | 53 => ⟨S1x64x2x8x128x256, .f32⟩
  | 54 => ⟨S1x64x2x8x128x256, .f32⟩
  | 55 => ⟨S_, .f32⟩
  | 56 => ⟨S1x64x2x8x128, .f32⟩
  | 57 => ⟨S1x64x2x8x128x1, .f32⟩
  | 58 => ⟨S1x64x2x8x128x1, .f32⟩
  | 59 => ⟨S1x64x2x8x128x256, .f32⟩
  | 60 => ⟨S1x64x2x8x128x256, .f32⟩
  | 61 => ⟨S1x64x2x8x128x1, .f32⟩
  | 62 => ⟨S_, .f32⟩
  | 63 => ⟨S1x2x8x1, .f32⟩
  | 64 => ⟨S1x1x2x8x1x1, .f32⟩
  | 65 => ⟨S1x64x2x8x128x1, .f32⟩
  | 66 => ⟨S_, .f32⟩
  | 67 => ⟨S2x8, .f32⟩
  | 68 => ⟨S2x8x1x1, .f32⟩
  | 69 => ⟨S_, .f32⟩
  | 70 => ⟨S64x2x8x128, .f32⟩
  | 71 => ⟨S1x64x2x8x128, .f32⟩
  | 72 => ⟨S1x64x2x8x128x256, .f32⟩
  | 73 => ⟨S1x64x2x8x128x256, .f32⟩
  | 74 => ⟨S1x64x2x8x128x256, .f32⟩
  | 75 => ⟨S1x64x2x8x128x256, .f32⟩
  | 76 => ⟨S_, .f32⟩
  | 77 => ⟨S1x64x2x8x128, .f32⟩
  | 78 => ⟨S1x64x2x8x128x1, .f32⟩
  | 79 => ⟨S1x64x2x8x128x1, .f32⟩
  | 80 => ⟨S1x64x2x8x128x1, .f32⟩
  | 81 => ⟨S_, .f32⟩
  | 82 => ⟨S1x2x8x1, .f32⟩
  | 83 => ⟨S1x1x2x8x1x1, .f32⟩
  | 84 => ⟨S1x64x2x8x128x1, .f32⟩
  | 85 => ⟨S_, .f32⟩
  | 86 => ⟨S2x8, .f32⟩
  | 87 => ⟨S2x8x1x1, .f32⟩
  | 88 => ⟨S2x8x1x1, .f32⟩
  | 89 => ⟨S_, .f32⟩
  | 90 => ⟨S64x2x8x128, .f32⟩
  | 91 => ⟨S1x64x2x8x128, .f32⟩
  | 92 => ⟨S1x64x2x8x128, .f32⟩
  | 93 => ⟨S1x64x2x8x128x256, .f32⟩
  | 94 => ⟨S1x64x2x8x128x256, .f32⟩
  | 95 => ⟨S1x64x2x8x128x256, .f32⟩
  | 96 => ⟨S_, .f32⟩
  | 97 => ⟨S2x8, .f32⟩
  | 98 => ⟨S16, .f32⟩
  | 99 => ⟨S_, .f32⟩
  | 100 => ⟨S1x64x2x8x128x256, .f32⟩
  | 101 => ⟨S1x64x2x8x128x256, .f32⟩
  | 102 => ⟨S_, .f32⟩
  | 103 => ⟨S1x64x2x8x128x256, .f32⟩
  | 104 => ⟨S1x64x2x8x128x256, .f32⟩
  | 105 => ⟨S1x64x2x256x128x8, .f32⟩
  | 106 => ⟨S1x64x2x128x8x64, .f32⟩
  | 107 => ⟨S1x64x128x2x8x64, .f32⟩
  | 108 => ⟨S1x64x2x256x64, .f32⟩
  | 109 => ⟨S1x64x256x2x64, .f32⟩
  | 110 => ⟨S1x64x128x2x64, .f32⟩
  | 111 => ⟨S1x64x128x2x64, .f32⟩
  | 112 => ⟨S1x8192x2x64, .f32⟩
  | 113 => ⟨S1x128x2x64, .f32⟩
  | 114 => ⟨S1x8064x2x64, .f32⟩
  | 115 => ⟨S_, .f32⟩
  | 116 => ⟨S1x8192x2x64, .f32⟩
  | 117 => ⟨S1x8192x2x64, .f32⟩
  | 118 => ⟨S1x8192x2x64, .f32⟩
  | 119 => ⟨S1x64x128x2x64, .f32⟩
  | 120 => ⟨S1x64x128x2x64, .f32⟩
  | 121 => ⟨S1x8192x2x64, .f32⟩
  | 122 => ⟨S1x128x2x64, .f32⟩
  | 123 => ⟨S1x8064x2x64, .f32⟩
  | 124 => ⟨S_, .f32⟩
  | 125 => ⟨S1x8192x2x64, .f32⟩
  | 126 => ⟨S1x8192x2x64, .f32⟩
  | 127 => ⟨S1x8192x2x64, .f32⟩
  | _ => ⟨S1x8192x1024, .f32⟩

abbrev hbmTy0_2 (i : Nat) : BufTy := match i % 128 with
  | 0 => ⟨S1x8192x128, .f32⟩
  | 1 => ⟨S1x8192x128, .f32⟩
  | 2 => ⟨S1x8192x1024, .f32⟩
  | 3 => ⟨S8192x1024, .f32⟩
  | 4 => ⟨S8192x1024, .bf16⟩
  | 5 => ⟨S8192x128, .f32⟩
  | 6 => ⟨S8192x128, .f32⟩
  | 7 => ⟨S8192x256, .f32⟩
  | 8 => ⟨S8192x256, .bf16⟩
  | 9 => ⟨S1x16, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_cst_9 : Ref sig .tc := ⟨.hbm, 67, rfl⟩
abbrev main_cst_10 : Ref sig .tc := ⟨.hbm, 68, rfl⟩
abbrev main_cst_11 : Ref sig .tc := ⟨.hbm, 69, rfl⟩
abbrev main_cst_12 : Ref sig .tc := ⟨.hbm, 70, rfl⟩
abbrev main_cst_13 : Ref sig .tc := ⟨.hbm, 71, rfl⟩
abbrev main_cst_14 : Ref sig .tc := ⟨.hbm, 72, rfl⟩
abbrev main_cst_15 : Ref sig .tc := ⟨.hbm, 73, rfl⟩
abbrev main_cst_16 : Ref sig .tc := ⟨.hbm, 74, rfl⟩
abbrev main_cst_17 : Ref sig .tc := ⟨.hbm, 75, rfl⟩
abbrev main_cst_18 : Ref sig .tc := ⟨.hbm, 76, rfl⟩
abbrev main_cst_19 : Ref sig .tc := ⟨.hbm, 77, rfl⟩
abbrev main_cst_20 : Ref sig .tc := ⟨.hbm, 78, rfl⟩
abbrev main_cst_21 : Ref sig .tc := ⟨.hbm, 79, rfl⟩
abbrev main_cst_22 : Ref sig .tc := ⟨.hbm, 80, rfl⟩
abbrev main_cst_23 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_24 : Ref sig .tc := ⟨.hbm, 110, rfl⟩
abbrev main_call0_v0 : Ref sig .tc := ⟨.hbm, 111, rfl⟩
abbrev main_v79_1 : Ref sig .tc := ⟨.hbm, 112, rfl⟩
abbrev main_call0_v2 : Ref sig .tc := ⟨.hbm, 113, rfl⟩
abbrev main_v79_0 : Ref sig .tc := ⟨.hbm, 114, rfl⟩
abbrev main_call0_cst : Ref sig .tc := ⟨.hbm, 115, rfl⟩
abbrev main_v79_2 : Ref sig .tc := ⟨.hbm, 116, rfl⟩
abbrev main_v80 : Ref sig .tc := ⟨.hbm, 117, rfl⟩
abbrev main_v81 : Ref sig .tc := ⟨.hbm, 118, rfl⟩
abbrev main_cst_25 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_26 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_27 : Ref sig .tc := ⟨.hbm, 135, rfl⟩
abbrev main_v96 : Ref sig .tc := ⟨.hbm, 136, rfl⟩
abbrev main_cst_28 : Ref sig .tc := ⟨.hbm, 137, rfl⟩
abbrev main_v97 : Ref sig .tc := ⟨.hbm, 138, rfl⟩
abbrev main_cst_29 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_30 : Ref sig .tc := ⟨.hbm, 147, rfl⟩
abbrev main_v105 : Ref sig .tc := ⟨.hbm, 148, rfl⟩
abbrev main_cst_31 : Ref sig .tc := ⟨.hbm, 149, rfl⟩
abbrev main_v106 : Ref sig .tc := ⟨.hbm, 150, rfl⟩
abbrev main_cst_32 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_33 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_34 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_35 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_36 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_37 : Ref sig .tc := ⟨.hbm, 194, rfl⟩
abbrev main_v145 : Ref sig .tc := ⟨.hbm, 195, rfl⟩
abbrev main_v146 : Ref sig .tc := ⟨.hbm, 196, rfl⟩
abbrev main_cst_38 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_39 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_40 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_41 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_42 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_43 : Ref sig .tc := ⟨.hbm, 224, rfl⟩
abbrev main_v169 : Ref sig .tc := ⟨.hbm, 225, rfl⟩
abbrev main_v170 : Ref sig .tc := ⟨.hbm, 226, rfl⟩
abbrev main_call1_cst : Ref sig .tc := ⟨.hbm, 227, rfl⟩
abbrev main_call1_v0 : Ref sig .tc := ⟨.hbm, 228, rfl⟩
abbrev main_v171 : Ref sig .tc := ⟨.hbm, 229, rfl⟩
abbrev main_cst_44 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_45 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_46 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩

abbrev nD : Nat := 1
abbrev τ : Topo := Topo.v7x

variable {F : FTy → Type} [FloatOps F]
-- ==== Mix.lean ====
abbrev S1x8192x1024 : Shape := ⟨3, ![1, 8192, 1024]⟩
abbrev S1024 : Shape := ⟨1, ![1024]⟩
abbrev S1024x3840 : Shape := ⟨2, ![1024, 3840]⟩
abbrev S1x8192x128 : Shape := ⟨3, ![1, 8192, 128]⟩
abbrev S1x8192x512 : Shape := ⟨3, ![1, 8192, 512]⟩
abbrev S8192x1024 : Shape := ⟨2, ![8192, 1024]⟩
abbrev S8192x128 : Shape := ⟨2, ![8192, 128]⟩
abbrev S8192x256 : Shape := ⟨2, ![8192, 256]⟩
abbrev S8192x512 : Shape := ⟨2, ![8192, 512]⟩
abbrev S8192x2048 : Shape := ⟨2, ![8192, 2048]⟩
abbrev S1x1024 : Shape := ⟨2, ![1, 1024]⟩
abbrev S3840x1024 : Shape := ⟨2, ![3840, 1024]⟩
abbrev S1024x1024 : Shape := ⟨2, ![1024, 1024]⟩
abbrev S1024x256 : Shape := ⟨2, ![1024, 256]⟩
abbrev S1024x512 : Shape := ⟨2, ![1024, 512]⟩
abbrev S1024x2048 : Shape := ⟨2, ![1024, 2048]⟩
abbrev S256x1024 : Shape := ⟨2, ![256, 1024]⟩
abbrev S256x256 : Shape := ⟨2, ![256, 256]⟩
abbrev S256x512 : Shape := ⟨2, ![256, 512]⟩
abbrev S512x1024 : Shape := ⟨2, ![512, 1024]⟩
abbrev S256x2048 : Shape := ⟨2, ![256, 2048]⟩
abbrev S2048x1024 : Shape := ⟨2, ![2048, 1024]⟩
abbrev S256 : Shape := ⟨1, ![256]⟩
abbrev S256x1 : Shape := ⟨2, ![256, 1]⟩

abbrev nBuf : Space → Nat
  | .hbm => 29
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3840, .f32⟩
  | .hbm, ⟨3, _⟩ => ⟨S1x8192x1024, .f32⟩
  | .hbm, ⟨4, _⟩ => ⟨S1x8192x128, .f32⟩
  | .hbm, ⟨5, _⟩ => ⟨S1x8192x128, .f32⟩
  | .hbm, ⟨6, _⟩ => ⟨S1x8192x512, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S8192x1024, .f32⟩
  | .hbm, ⟨11, _⟩ => ⟨S8192x1024, .bf16⟩
  | .hbm, ⟨12, _⟩ => ⟨S8192x128, .f32⟩
  | .hbm, ⟨13, _⟩ => ⟨S8192x128, .f32⟩
  | .hbm, ⟨14, _⟩ => ⟨S8192x256, .f32⟩
  | .hbm, ⟨15, _⟩ => ⟨S8192x256, .bf16⟩
  | .hbm, ⟨16, _⟩ => ⟨S8192x512, .f32⟩
  | .hbm, ⟨17, _⟩ => ⟨S8192x512, .bf16⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2048, .bf16⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S3840x1024, .f32⟩
  | .hbm, ⟨26, _⟩ => ⟨S3840x1024, .bf16⟩
  | .hbm, ⟨27, _⟩ => ⟨S8192x1024, .f32⟩
  | .hbm, ⟨28, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S3840x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3840x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixRefIdeal.lean ====
abbrev S1x8192x1024 : Shape := ⟨3, ![1, 8192, 1024]⟩
abbrev S1024 : Shape := ⟨1, ![1024]⟩
abbrev S1024x3840 : Shape := ⟨2, ![1024, 3840]⟩
abbrev S1x8192x128 : Shape := ⟨3, ![1, 8192, 128]⟩
abbrev S1x8192x512 : Shape := ⟨3, ![1, 8192, 512]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3840 : Shape := ⟨3, ![1, 8192, 3840]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3840, .f32⟩
  | .hbm, ⟨3, _⟩ => ⟨S1x8192x1024, .f32⟩
  | .hbm, ⟨4, _⟩ => ⟨S1x8192x128, .f32⟩
  | .hbm, ⟨5, _⟩ => ⟨S1x8192x128, .f32⟩
  | .hbm, ⟨6, _⟩ => ⟨S1x8192x512, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x8192x3840, .f32⟩
  | .hbm, ⟨31, _⟩ => ⟨S1x8192x1024, .f32⟩
  | .hbm, ⟨32, _⟩ => ⟨S1x8192x128, .f32⟩
  | .hbm, ⟨33, _⟩ => ⟨S1x8192x128, .f32⟩
  | .hbm, ⟨34, _⟩ => ⟨S1x8192x512, .f32⟩
  | .hbm, ⟨35, _⟩ => ⟨S1x8192x1024, .f32⟩
  | .hbm, ⟨36, _⟩ => ⟨S1x8192x1024, .f32⟩
  | .hbm, ⟨37, _⟩ => ⟨S1x8192x3840, .f32⟩
  | .hbm, ⟨38, _⟩ => ⟨S1x8192x1024, .f32⟩
  | .hbm, ⟨39, _⟩ => ⟨S1x8192x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S_, .f32⟩
  | .hbm, ⟨46, _⟩ => ⟨S1024, .f32⟩
  | .hbm, ⟨47, _⟩ => ⟨S1x8192x1024, .f32⟩
  | .hbm, ⟨48, _⟩ => ⟨S_, .f32⟩
  | .hbm, ⟨49, _⟩ => ⟨S1x8192, .f32⟩
  | .hbm, ⟨50, _⟩ => ⟨S1x8192x1, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S_, .f32⟩
  | .hbm, ⟨59, _⟩ => ⟨S8192, .f32⟩
  | .hbm, ⟨60, _⟩ => ⟨S1x8192, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S8192x1024, .f32⟩
  | .hbm, ⟨67, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Ffn.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S8192x5632 : Shape := ⟨2, ![8192, 5632]⟩
abbrev S512x1024 : Shape := ⟨2, ![512, 1024]⟩
abbrev S512x5632 : Shape := ⟨2, ![512, 5632]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x5632 : Shape := ⟨2, ![256, 5632]⟩

abbrev nBuf : Space → Nat
  | .hbm => 55
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S1x1024, .f32⟩
  | .hbm, ⟨6, _⟩ => ⟨S1024x5632, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1024x2816, .bf16⟩
  | .hbm, ⟨27, _⟩ => ⟨S8192x2816, .f32⟩
  | .hbm, ⟨28, _⟩ => ⟨S1024x2816, .bf16⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .bf16⟩
  | .hbm, ⟨48, _⟩ => ⟨S8192x2816, .bf16⟩
  | .hbm, ⟨49, _⟩ => ⟨S8192x5632, .bf16⟩
  | .hbm, ⟨50, _⟩ => ⟨S2816x1024, .bf16⟩
  | .hbm, ⟨51, _⟩ => ⟨S8192x1024, .f32⟩
  | .hbm, ⟨52, _⟩ => ⟨S8192x5632, .bf16⟩
  | .hbm, ⟨53, _⟩ => ⟨S8192x1024, .bf16⟩
  | .hbm, ⟨54, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x5632, .bf16⟩
  | .local _ .vmem, ⟨5, _⟩ => ⟨S512x5632, .bf16⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x5632, .bf16⟩
  | .local _ .vmem, ⟨12, _⟩ => ⟨S512x5632, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S1x1024 : Shape := ⟨2, ![1, 1024]⟩
abbrev S8192 : Shape := ⟨1, ![8192]⟩
abbrev S8192x1024 : Shape := ⟨2, ![8192, 1024]⟩
abbrev S8192x5632 : Shape := ⟨2, ![8192, 5632]⟩

abbrev nBuf : Space → Nat
  | .hbm => 141
  | .vmem => 0
  | .smem => 0
  | _ => 0

abbrev hbmTy0_0 (i : Nat) : BufTy := match i % 128 with
  | 0 => ⟨S1x8192x1024, .f32⟩
  | 1 => ⟨S1024, .f32⟩
  | 2 => ⟨S1024x5632, .f32⟩
  | 3 => ⟨S2816x1024, .f32⟩
  | 4 => ⟨S1x8192x1024, .f32⟩
  | 5 => ⟨S1x8192x1024, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S1x8192x1, .f32⟩
  | 14 => ⟨S1x8192x1, .f32⟩
  | 15 => ⟨S1x8192x1, .f32⟩
  | 16 => ⟨S1x8192x1, .f32⟩
  | 17 => ⟨S_, .f32⟩
  | 18 => ⟨S1x8192x1, .f32⟩
  | 19 => ⟨S1x8192x1, .f32⟩
  | 20 => ⟨S1x8192x1024, .f32⟩
  | 21 => ⟨S1x8192x1024, .f32⟩
  | 22 => ⟨S1x1x1024, .f32⟩
  | 23 => ⟨S1x8192x1024, .f32⟩
  | 24 => ⟨S1x8192x1024, .f32⟩
  | 25 => ⟨S1x8192x5632, .f32⟩
  | 26 => ⟨S1x8192x2816, .f32⟩
  | 27 => ⟨S1x8192x2816, .f32⟩
  | 28 => ⟨S1x8192x2816, .f32⟩
  | 29 => ⟨S1x8192x2816, .f32⟩
  | 30 => ⟨S_, .f32⟩
  | 31 => ⟨S1x8192x2816, .f32⟩
  | 32 => ⟨S1x8192x2816, .f32⟩
  | 33 => ⟨S_, .f32⟩
  | 34 => ⟨S1x8192x2816, .f32⟩
  | 35 => ⟨S1x8192x2816, .f32⟩
  | 36 => ⟨S_, .f32⟩
  | 37 => ⟨S1x8192x2816, .f32⟩
  | 38 => ⟨S1x8192x2816, .f32⟩
  | 39 => ⟨S1x8192x2816, .f32⟩
  | 40 => ⟨S1x8192x2816, .f32⟩
  | 41 => ⟨S1x8192x2816, .f32⟩
  | 42 => ⟨S1x8192x1024, .f32⟩
  | 43 => ⟨S_, .f32⟩
  | 44 => ⟨S1x8192x1024, .f32⟩
  | 45 => ⟨S1x8192x1024, .f32⟩
  | 46 => ⟨S1x8192x1024, .f32⟩
  | 47 => ⟨S1x8192x1024, .f32⟩
  | 48 => ⟨S_, .f32⟩
  | 49 => ⟨S1x8192x1024, .f32⟩
  | 50 => ⟨S1x8192x1024, .f32⟩
  | 51 => ⟨S1x8192x2816, .f32⟩
  | 52 => ⟨S1x8192x2816, .f32⟩
  | 53 => ⟨S1x8192x2816, .f32⟩
  | 54 => ⟨S1x8192x2816, .f32⟩
  | 55 => ⟨S1x8192x2816, .f32⟩
  | 56 => ⟨S1x8192x2816, .f32⟩
  | 57 => ⟨S1x8192x2816, .f32⟩
  | 58 => ⟨S1x8192x5632, .f32⟩
  | 59 => ⟨S1x8192x1024, .f32⟩
  | 60 => ⟨S1x8192x1024, .f32⟩
  | 61 => ⟨S_, .f32⟩
  | 62 => ⟨S1x1024, .f32⟩
  | 63 => ⟨S1x1x1024, .f32⟩
  | 64 => ⟨S1x8192x1024, .f32⟩
  | 65 => ⟨S1x8192x1024, .f32⟩
  | 66 => ⟨S_, .f32⟩
  | 67 => ⟨S1024, .f32⟩
  | 68 => ⟨S1x8192x1024, .f32⟩
  | 69 => ⟨S_, .f32⟩
  | 70 => ⟨S1x8192, .f32⟩
  | 71 => ⟨S1x8192x1, .f32⟩
  | 72 => ⟨S1x8192x1024, .f32⟩
  | 73 => ⟨S1x8192x1024, .f32⟩
  | 74 => ⟨S1x8192x1024, .f32⟩
  | 75 => ⟨S1x8192x1, .f32⟩
  | 76 => ⟨S_, .f32⟩
  | 77 => ⟨S1x8192x1, .f32⟩
  | 78 => ⟨S1x8192x1, .f32⟩
  | 79 => ⟨S_, .f32⟩
  | 80 => ⟨S8192, .f32⟩
  | 81 => ⟨S1x8192, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S_, .f32⟩
  | 89 => ⟨S1x8192, .f32⟩
  | 90 => ⟨S1x8192x1, .f32⟩
  | 91 => ⟨S_, .f32⟩
  | 92 => ⟨S1x8192x1, .f32⟩
  | 93 => ⟨S1x8192x1, .f32⟩
  | 94 => ⟨S_, .f32⟩
  | 95 => ⟨S1x8192x1, .f32⟩
  | 96 => ⟨S1x8192x1, .f32⟩
  | 97 => ⟨S1x8192x1, .f32⟩
  | 98 => ⟨S1x8192x1024, .f32⟩
  | 99 => ⟨S1x8192x1024, .f32⟩
  | 100 => ⟨S1x1x1024, .f32⟩
  | 101 => ⟨S1x8192x1024, .f32⟩
  | 102 => ⟨S1x8192x1024, .f32⟩
  | 103 => ⟨S1x8192x5632, .f32⟩
  | 104 => ⟨S1x8192x2816, .f32⟩
  | 105 => ⟨S1x8192x2816, .f32⟩
  | 106 => ⟨S1x8192x2816, .f32⟩
  | 107 => ⟨S1x8192x2816, .f32⟩
  | 108 => ⟨S_, .f32⟩
  | 109 => ⟨S1x8192x2816, .f32⟩
  | 110 => ⟨S1x8192x2816, .f32⟩
  | 111 => ⟨S_, .f32⟩
  | 112 => ⟨S1x8192x2816, .f32⟩
  | 113 => ⟨S1x8192x2816, .f32⟩
  | 114 => ⟨S_, .f32⟩
  | 115 => ⟨S1x8192x2816, .f32⟩
  | 116 => ⟨S1x8192x2816, .f32⟩
  | 117 => ⟨S1x8192x2816, .f32⟩
  | 118 => ⟨S1x8192x2816, .f32⟩
  | 119 => ⟨S1x8192x2816, .f32⟩
  | 120 => ⟨S1x8192x1024, .f32⟩
  | 121 => ⟨S_, .f32⟩
  | 122 => ⟨S1x8192x1024, .f32⟩
  | 123 => ⟨S1x8192x1024, .f32⟩
  | 124 => ⟨S_, .f32⟩
  | 125 => ⟨S1x8192x1024, .f32⟩
  | 126 => ⟨S1x8192x1024, .f32⟩
  | 127 => ⟨S1x8192x2816, .f32⟩
  | _ => ⟨S1x8192x1024, .f32⟩

abbrev hbmTy0_1 (i : Nat) : BufTy := match i % 128 with
  | 0 => ⟨S1x8192x2816, .f32⟩
  | 1 => ⟨S1x8192x2816, .f32⟩
  | 2 => ⟨S1x8192x2816, .f32⟩
  | 3 => ⟨S1x8192x2816, .f32⟩
  | 4 => ⟨S1x8192x2816, .f32⟩
  | 5 => ⟨S1x8192x2816, .f32⟩
  | 6 => ⟨S1x8192x5632, .f32⟩
  | 7 => ⟨S8192x1024, .f32⟩
  | 8 => ⟨S8192x5632, .f32⟩
  | 9 => ⟨S8192x5632, .bf16⟩
  | 10 => ⟨S8192x1024, .f32⟩
  | 11 => ⟨S8192x1024, .bf16⟩
  | 12 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_v72_2 : Ref sig .tc := ⟨.hbm, 113, rfl⟩
abbrev main_call2_cst_1 : Ref sig .tc := ⟨.hbm, 114, rfl⟩
abbrev main_call2_v6 : Ref sig .tc := ⟨.hbm, 115, rfl⟩
abbrev main_call2_v7 : Ref sig .tc := ⟨.hbm, 116, rfl⟩
abbrev main_v72_1 : Ref sig .tc := ⟨.hbm, 117, rfl⟩
abbrev main_v72_0 : Ref sig .tc := ⟨.hbm, 118, rfl⟩
abbrev main_v73 : Ref sig .tc := ⟨.hbm, 119, rfl⟩
abbrev main_v74 : Ref sig .tc := ⟨.hbm, 120, rfl⟩
abbrev main_cst_13 : Ref sig .tc := ⟨.hbm, 121, rfl⟩
abbrev main_v75 : Ref sig .tc := ⟨.hbm, 122, rfl⟩
abbrev main_v76 : Ref sig .tc := ⟨.hbm, 123, rfl⟩
abbrev main_cst_14 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩

abbrev nD : Nat := 1
abbrev τ : Topo := Topo.v7x

variable {F : FTy → Type} [FloatOps F]
-- ==== Loss.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S8192x5632 : Shape := ⟨2, ![8192, 5632]⟩
abbrev S8192x2816 : Shape := ⟨2, ![8192, 2816]⟩
abbrev S1x1 : Shape := ⟨2, ![1, 1]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1 : Shape := ⟨1, ![1]⟩

abbrev nBuf : Space → Nat
  | .hbm => 17
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x5632, .bf16⟩
  | .hbm, ⟨14, _⟩ => ⟨S8192x2816, .bf16⟩
  | .hbm, ⟨15, _⟩ => ⟨S1x1, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x5632, .bf16⟩
  | .local _ .vmem, ⟨11, _⟩ => ⟨S512x5632, .bf16⟩
  | .local _ .vmem, ⟨12, _⟩ => ⟨S512x2816, .bf16⟩
  | .local _ .vmem, ⟨13, _⟩ => ⟨S512x2816, .bf16⟩
  | .local _ .vmem, ⟨14, _⟩ => ⟨S1x1, .f32⟩
  | .local _ .vmem, ⟨15, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S1x1024 : Shape := ⟨2, ![1, 1024]⟩
abbrev S8192 : Shape := ⟨1, ![8192]⟩
abbrev S8192x1024 : Shape := ⟨2, ![8192, 1024]⟩
abbrev S8192x5632 : Shape := ⟨2, ![8192, 5632]⟩
abbrev S8192x2816 : Shape := ⟨2, ![8192, 2816]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S1x8192x1024, .f32⟩
  | 1 => ⟨S1024, .f32⟩
  | 2 => ⟨S1024x5632, .f32⟩
  | 3 => ⟨S2816x1024, .f32⟩
  | 4 => ⟨S1x8192x1024, .f32⟩
  | 5 => ⟨S1024, .f32⟩
  | 6 => ⟨S1x8192x1024, .f32⟩
  | 7 => ⟨S_, .f32⟩
  | 8 => ⟨S1x8192, .f32⟩
  | 9 => ⟨S1x8192x1, .f32⟩
  | 10 => ⟨S_, .f32⟩
  | 11 => ⟨S1x8192x1, .f32⟩
  | 12 => ⟨S1x8192x1, .f32⟩
  | 13 => ⟨S_, .f32⟩
  | 14 => ⟨S1x8192x1, .f32⟩
  | 15 => ⟨S1x8192x1, .f32⟩
  | 16 => ⟨S1x8192x1, .f32⟩
  | 17 => ⟨S1x8192x1024, .f32⟩
  | 18 => ⟨S1x8192x1024, .f32⟩
  | 19 => ⟨S1x1x1024, .f32⟩
  | 20 => ⟨S1x8192x1024, .f32⟩
  | 21 => ⟨S1x8192x1024, .f32⟩
  | 22 => ⟨S1x8192x5632, .f32⟩
  | 23 => ⟨S1x8192x2816, .f32⟩
  | 24 => ⟨S1x8192x2816, .f32⟩
  | 25 => ⟨S1x8192x2816, .f32⟩
  | 26 => ⟨S1x8192x2816, .f32⟩
  | 27 => ⟨S_, .f32⟩
  | 28 => ⟨S1x8192x2816, .f32⟩
  | 29 => ⟨S1x8192x2816, .f32⟩
  | 30 => ⟨S_, .f32⟩
  | 31 => ⟨S1x8192x2816, .f32⟩
  | 32 => ⟨S1x8192x2816, .f32⟩
  | 33 => ⟨S_, .f32⟩
  | 34 => ⟨S1x8192x2816, .f32⟩
  | 35 => ⟨S1x8192x2816, .f32⟩
  | 36 => ⟨S1x8192x2816, .f32⟩
  | 37 => ⟨S1x8192x2816, .f32⟩
  | 38 => ⟨S1x8192x2816, .f32⟩
  | 39 => ⟨S1x8192x1024, .f32⟩
  | 40 => ⟨S_, .f32⟩
  | 41 => ⟨S1x8192x1024, .f32⟩
  | 42 => ⟨S1x8192x1024, .f32⟩
  | 43 => ⟨S1x8192x1024, .f32⟩
  | 44 => ⟨S1x8192x1024, .f32⟩
  | 45 => ⟨S_, .f32⟩
  | 46 => ⟨S1x8192, .f32⟩
  | 47 => ⟨S1x8192x1, .f32⟩
  | 48 => ⟨S_, .f32⟩
  | 49 => ⟨S1x8192x1, .f32⟩
  | 50 => ⟨S1x8192x1, .f32⟩
  | 51 => ⟨S_, .f32⟩
  | 52 => ⟨S1x8192x1, .f32⟩
  | 53 => ⟨S1x8192x1, .f32⟩
  | 54 => ⟨S1x8192x1, .f32⟩
  | 55 => ⟨S1x8192x1, .f32⟩
  | 56 => ⟨S_, .f32⟩
  | 57 => ⟨S1x8192x1, .f32⟩
  | 58 => ⟨S1x8192x1, .f32⟩
  | 59 => ⟨S1x8192x1024, .f32⟩
  | 60 => ⟨S1x8192x1024, .f32⟩
  | 61 => ⟨S1x1x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S_, .f32⟩
  | 67 => ⟨S1x8192x1024, .f32⟩
  | 68 => ⟨S1x8192x1024, .f32⟩
  | 69 => ⟨S_, .f32⟩
  | 70 => ⟨S1x8192, .f32⟩
  | 71 => ⟨S_, .f32⟩
  | 72 => ⟨S1x8192, .f32⟩
  | 73 => ⟨S1x8192, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1x8192, .f32⟩
  | 82 => ⟨S_, .f32⟩
  | 83 => ⟨S1x8192, .f32⟩
  | 84 => ⟨S1x8192, .f32⟩
  | 85 => ⟨S1x8192x1024, .f32⟩
  | 86 => ⟨S1x8192x1024, .f32⟩
  | 87 => ⟨S1x8192x1024, .f32⟩
  | 88 => ⟨S_, .f32⟩
  | 89 => ⟨S1x1024, .f32⟩
  | 90 => ⟨S1x1x1024, .f32⟩
  | 91 => ⟨S1x8192x1024, .f32⟩
  | 92 => ⟨S1x8192x1024, .f32⟩
  | 93 => ⟨S_, .f32⟩
  | 94 => ⟨S1024, .f32⟩
  | 95 => ⟨S1x8192x1024, .f32⟩
  | 96 => ⟨S_, .f32⟩
  | 97 => ⟨S1x8192, .f32⟩
  | 98 => ⟨S1x8192x1, .f32⟩
  | 99 => ⟨S1x8192x1024, .f32⟩
  | 100 => ⟨S1x8192x1024, .f32⟩
  | 101 => ⟨S1x8192x1, .f32⟩
  | 102 => ⟨S_, .f32⟩
  | 103 => ⟨S1x8192x1, .f32⟩
  | 104 => ⟨S1x8192x1, .f32⟩
  | 105 => ⟨S_, .f32⟩
  | 106 => ⟨S8192, .f32⟩
  | 107 => ⟨S1x8192, .f32⟩
  | 108 => ⟨S1x8192x1024, .f32⟩
  | 109 => ⟨S1x8192x1024, .f32⟩
  | 110 => ⟨S1x8192x1024, .f32⟩
  | 111 => ⟨S1x8192x1024, .f32⟩
  | 112 => ⟨S1x8192x1024, .f32⟩
  | 113 => ⟨S_, .f32⟩
  | 114 => ⟨S1x8192x2816, .f32⟩
  | 115 => ⟨S1x8192x2816, .f32⟩
  | 116 => ⟨S1x8192x2816, .f32⟩
  | 117 => ⟨S1x8192x2816, .f32⟩
  | 118 => ⟨S1x8192x2816, .f32⟩
  | 119 => ⟨S1x8192x2816, .f32⟩
  | 120 => ⟨S1x8192x2816, .f32⟩
  | 121 => ⟨S1x8192x5632, .f32⟩
  | 122 => ⟨S8192x1024, .f32⟩
  | 123 => ⟨S8192x5632, .f32⟩
  | 124 => ⟨S8192x5632, .bf16⟩
  | 125 => ⟨S8192x2816, .f32⟩
  | 126 => ⟨S8192x2816, .bf16⟩
  | 127 => ⟨S1x1, .f32⟩
  | _ => ⟨S1x8192x1024, .f32⟩

abbrev hbmTy0_1 (i : Nat) : BufTy := match i % 128 with
  | 0 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_cst_12 : Ref sig .tc := ⟨.hbm, 78, rfl⟩
abbrev main_cst_13 : Ref sig .tc := ⟨.hbm, 79, rfl⟩
abbrev main_v47 : Ref sig .tc := ⟨.hbm, 80, rfl⟩
abbrev main_v48 : Ref sig .tc := ⟨.hbm, 81, rfl⟩
abbrev main_cst_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_cst_17 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩

abbrev nD : Nat := 1
abbrev τ : Topo := Topo.v7x

variable {F : FTy → Type} [FloatOps F]
-- ==== AttnFwd.lean ====
abbrev S1x8192x1024 : Shape := ⟨3, ![1, 8192, 1024]⟩
abbrev S1x8192x128 : Shape := ⟨3, ![1, 8192, 128]⟩
abbrev S16 : Shape := ⟨1, ![16]⟩
abbrev S8192x128 : Shape := ⟨2, ![8192, 128]⟩
abbrev S8192x256 : Shape := ⟨2, ![8192, 256]⟩
abbrev S8192x1024 : Shape := ⟨2, ![8192, 1024]⟩
abbrev S1x16 : Shape := ⟨2, ![1, 16]⟩
abbrev S8192x16 : Shape := ⟨2, ![8192, 16]⟩
abbrev S128x1024 : Shape := ⟨2, ![128, 1024]⟩
abbrev S128x256 : Shape := ⟨2, ![128, 256]⟩
abbrev S128x16 : Shape := ⟨2, ![128, 16]⟩
abbrev S128x128 : Shape := ⟨2, ![128, 128]⟩
abbrev S256x128 : Shape := ⟨2, ![256, 128]⟩
abbrev S1024x128 : Shape := ⟨2, ![1024, 128]⟩
abbrev S1024x256 : Shape := ⟨2, ![1024, 256]⟩
abbrev S1x1 : Shape := ⟨2, ![1, 1]⟩
abbrev S128 : Shape := ⟨1, ![128]⟩
abbrev S128x1 : Shape := ⟨2, ![128, 1]⟩

abbrev nBuf : Space → Nat
  | .hbm => 13
  | .vmem => 10
  | .smem => 1
  | _ => 0

abbrev bufTy : (tb : Table) → Fin (tcTables nBuf tb) → BufTy
  | .hbm, ⟨0, _⟩ => ⟨S1x8192x1024, .f32⟩
  | .hbm, ⟨1, _⟩ => ⟨S1x8192x128, .f32⟩
  | .hbm, ⟨2, _⟩ => ⟨S1x8192x128, .f32⟩
  | .hbm, ⟨3, _⟩ => ⟨S16, .f32⟩
  | .hbm, ⟨4, _⟩ => ⟨S8192x128, .f32⟩
  | .hbm, ⟨5, _⟩ => ⟨S8192x128, .f32⟩
  | .hbm, ⟨6, _⟩ => ⟨S8192x256, .f32⟩
  | .hbm, ⟨7, _⟩ => ⟨S8192x256, .bf16⟩
  | .hbm, ⟨8, _⟩ => ⟨S8192x1024, .f32⟩
  | .hbm, ⟨9, _⟩ => ⟨S8192x1024, .bf16⟩
  | .hbm, ⟨10, _⟩ => ⟨S1x16, .f32⟩
  | .hbm, ⟨11, _⟩ => ⟨S8192x1024, .bf16⟩
  | .hbm, ⟨12, _⟩ => ⟨S8192x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x16, .f32⟩
  | .local _ .vmem, ⟨9, _⟩ => ⟨S128x16, .f32⟩
  | .local _ .smem, ⟨0, _⟩ => ⟨S1x16, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdRefIdeal.lean ====
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x8192x2x64 : Shape := ⟨4, ![1, 8192, 2, 64]⟩
abbrev S_ : Shape := ⟨0, ![]⟩
abbrev S1x128x2x64 : Shape := ⟨4, ![1, 128, 2, 64]⟩
abbrev S1x64x128x2x64 : Shape := ⟨5, ![1, 64, 128, 2, 64]⟩
abbrev S1x8064x2x64 : Shape := ⟨4, ![1, 8064, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x64x1x1x128x256 : Shape := ⟨6, ![1, 64, 1, 1, 128, 256]⟩
abbrev S1x64x2x8x128 : Shape := ⟨5, ![1, 64, 2, 8, 128]⟩
abbrev S1x64x2x8x128x1 : Shape := ⟨6, ![1, 64, 2, 8, 128, 1]⟩
abbrev S1x1x2x8x1x1 : Shape := ⟨6, ![1, 1, 2, 8, 1, 1]⟩
abbrev S1x64x2x64x8x128 : Shape := ⟨6, ![1, 64, 2, 64, 8, 128]⟩
abbrev S1x64x128x2x8x1 : Shape := ⟨6, ![1, 64, 128, 2, 8, 1]⟩
abbrev S1x8192x16 : Shape := ⟨3, ![1, 8192, 16]⟩
abbrev S8192x1024 : Shape := ⟨2, ![8192, 1024]⟩
abbrev S8192x16 : Shape := ⟨2, ![8192, 16]⟩

abbrev nBuf : Space → Nat
  | .hbm => 141
  | .vmem => 0
  | .smem => 0
  | _ => 0

abbrev hbmTy0_0 (i : Nat) : BufTy := match i % 128 with
  | 0 => ⟨S1x8192x1024, .f32⟩
  | 1 => ⟨S1x8192x128, .f32⟩
  | 2 => ⟨S1x8192x128, .f32⟩
  | 3 => ⟨S16, .f32⟩
  | 4 => ⟨S1x64x128x2x8x64, .f32⟩
  | 5 => ⟨S1x8192x2x64, .f32⟩
  | 6 => ⟨S1x8192x2x64, .f32⟩
  | 7 => ⟨S_, .f32⟩
  | 8 => ⟨S1x128x2x64, .f32⟩
  | 9 => ⟨S1x64x128x2x64, .f32⟩
  | 10 => ⟨S1x8064x2x64, .f32⟩
  | 11 => ⟨S1x8192x2x64, .f32⟩
  | 12 => ⟨S1x64x128x2x64, .f32⟩
  | 13 => ⟨S1x64x256x2x64, .f32⟩
  | 14 => ⟨S1x64x128x2x64, .f32⟩
  | 15 => ⟨S1x8064x2x64, .f32⟩
  | 16 => ⟨S1x8192x2x64, .f32⟩
  | 17 => ⟨S1x64x128x2x64, .f32⟩
  | 18 => ⟨S1x64x256x2x64, .f32⟩
  | 19 => ⟨S1x64x2x256x128x8, .f32⟩
  | 20 => ⟨S1x64x2x8x128x256, .f32⟩
  | 21 => ⟨S_, .f32⟩
  | 22 => ⟨S1x64x2x8x128x256, .f32⟩
  | 23 => ⟨S1x64x2x8x128x256, .f32⟩
  | 24 => ⟨S128, .i32⟩
  | 25 => ⟨S128x1, .i32⟩
  | 26 => ⟨S_, .i32⟩
  | 27 => ⟨S128x1, .i32⟩
  | 28 => ⟨S128x1, .i32⟩
  | 29 => ⟨S256, .i32⟩
  | 30 => ⟨S1x256, .i32⟩
  | 31 => ⟨S128x256, .i32⟩
  | 32 => ⟨S128x256, .i32⟩
  | 33 => ⟨S128x256, .i32⟩
  | 34 => ⟨S64, .i32⟩
  | 35 => ⟨S64x1x1, .i32⟩
  | 36 => ⟨S_, .i32⟩
  | 37 => ⟨S128x256, .i32⟩
  | 38 => ⟨S128x256, .i1⟩
  | 39 => ⟨S1x128x256, .i1⟩
  | 40 => ⟨S_, .i32⟩
  | 41 => ⟨S128x256, .i32⟩
  | 42 => ⟨S128x256, .i1⟩
  | 43 => ⟨S1x128x256, .i1⟩
  | 44 => ⟨S1x128x256, .i1⟩
  | 45 => ⟨S_, .i32⟩
  | 46 => ⟨S64x1x1, .i32⟩
  | 47 => ⟨S64x1x1, .i32⟩
  | 48 => ⟨S_, .i32⟩
  | 49 => ⟨S64x1x1, .i32⟩
  | 50 => ⟨S64x1x1, .i32⟩
  | 51 => ⟨S1x1x256, .i32⟩
  | 52 => ⟨S64x1x256, .i32⟩
  | 53 => ⟨S64x1x256, .i32⟩
  | 54 => ⟨S64x1x256, .i32⟩
  | 55 => ⟨S_, .i32⟩
  | 56 => ⟨S64x1x256, .i32⟩
  | 57 => ⟨S64x1x256, .i1⟩
  | 58 => ⟨S64x128x256, .i1⟩
  | 59 => ⟨S64x128x256, .i1⟩
  | 60 => ⟨S64x128x256, .i1⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1, .f32⟩
  | 78 => ⟨S1, .f32⟩
  | 79 => ⟨S1, .f32⟩
  | 80 => ⟨S1, .f32⟩
  | 81 => ⟨S1, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S16, .f32⟩
  | 94 => ⟨S2x8, .f32⟩
  | 95 => ⟨S2x8x1x1, .f32⟩
  | 96 => ⟨S128x256, .f32⟩
  | 97 => ⟨S1x1x128x256, .f32⟩
  | 98 => ⟨S2x8x128x256, .f32⟩
  | 99 => ⟨S2x8x128x256, .f32⟩
  | 100 => ⟨S2x8x128x256, .f32⟩
  | 101 => ⟨S1x1x2x8x128x256, .f32⟩
  | 102 => ⟨S1x64x2x8x128x256, .f32⟩
  | 103 => ⟨S1x64x2x8x128x256, .f32⟩
  | 104 => ⟨S1x64x1x1x128x256, .i1⟩
  | 105 => ⟨S_, .f32⟩
  | 106 => ⟨S_, .f32⟩
  | 107 => ⟨S1x64x2x8x128x256, .i1⟩
  | 108 => ⟨S1x64x2x8x128x256, .f32⟩
  | 109 => ⟨S1x64x2x8x128x256, .f32⟩
  | 110 => ⟨S2x8, .f32⟩
  | 111 => ⟨S2x8x1x1, .f32⟩
  | 112 => ⟨S_, .f32⟩
  | 113 => ⟨S1x64x2x8x128, .f32⟩
  | 114 => ⟨S1x64x2x8x128x1, .f32⟩
  | 115 => ⟨S1x1x2x8x1x1, .f32⟩
  | 116 => ⟨S1x64x2x8x128x1, .f32⟩
  | 117 => ⟨S1x64x2x8x128x1, .f32⟩
  | 118 => ⟨S1x64x2x8x128x256, .f32⟩
  | 119 => ⟨S1x64x2x8x128x256, .f32⟩
  | 120 => ⟨S1x64x2x8x128x256, .f32⟩
  | 121 => ⟨S_, .f32⟩
  | 122 => ⟨S1x64x2x8x128, .f32⟩
  | 123 => ⟨S1x64x2x8x128x1, .f32⟩
  | 124 => ⟨S1x1x2x8x1x1, .f32⟩
  | 125 => ⟨S1x64x2x8x128x1, .f32⟩
  | 126 => ⟨S1x64x2x8x128x1, .f32⟩
  | 127 => ⟨S1x64x2x8x128x1, .f32⟩
  | _ => ⟨S1x8192x1024, .f32⟩

abbrev hbmTy0_1 (i : Nat) : BufTy := match i % 128 with
  | 0 => ⟨S1x64x2x8x128x1, .f32⟩
  | 1 => ⟨S1x64x2x8x128x256, .f32⟩
  | 2 => ⟨S1x64x2x8x128x256, .f32⟩
  | 3 => ⟨S1x64x2x64x8x128, .f32⟩
  | 4 => ⟨S1x64x128x2x8x64, .f32⟩
  | 5 => ⟨S1x8192x1024, .f32⟩
  | 6 => ⟨S1x64x2x8x128x1, .f32⟩
  | 7 => ⟨S1x64x2x8x128x1, .f32⟩
  | 8 => ⟨S1x64x128x2x8x1, .f32⟩
  | 9 => ⟨S1x8192x16, .f32⟩
  | 10 => ⟨S8192x1024, .f32⟩
  | 11 => ⟨S8192x1024, .bf16⟩
  | 12 => ⟨S8192x16, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_cst_7 : Ref sig .tc := ⟨.hbm, 62, rfl⟩
abbrev main_cst_8 : Ref sig .tc := ⟨.hbm, 63, rfl⟩
abbrev main_cst_9 : Ref sig .tc := ⟨.hbm, 64, rfl⟩
abbrev main_cst_10 : Ref sig .tc := ⟨.hbm, 65, rfl⟩
abbrev main_cst_11 : Ref sig .tc := ⟨.hbm, 66, rfl⟩
abbrev main_cst_12 : Ref sig .tc := ⟨.hbm, 67, rfl⟩
abbrev main_cst_13 : Ref sig .tc := ⟨.hbm, 68, rfl⟩
abbrev main_cst_14 : Ref sig .tc := ⟨.hbm, 69, rfl⟩
abbrev main_cst_15 : Ref sig .tc := ⟨.hbm, 70, rfl⟩
abbrev main_cst_16 : Ref sig .tc := ⟨.hbm, 71, rfl⟩
abbrev main_cst_17 : Ref sig .tc := ⟨.hbm, 72, rfl⟩
abbrev main_cst_18 : Ref sig .tc := ⟨.hbm, 73, rfl⟩
abbrev main_cst_19 : Ref sig .tc := ⟨.hbm, 74, rfl⟩
abbrev main_cst_20 : Ref sig .tc := ⟨.hbm, 75, rfl⟩
abbrev main_cst_21 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_22 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩

abbrev nD : Nat := 1
abbrev τ : Topo := Topo.v7x

variable {F : FTy → Type} [FloatOps F]
-- ==== PoolFwd.lean ====
abbrev S1x8192x512 : Shape := ⟨3, ![1, 8192, 512]⟩
abbrev S4x128x128 : Shape := ⟨3, ![4, 128, 128]⟩
abbrev S512 : Shape := ⟨1, ![512]⟩
abbrev S8192x512 : Shape := ⟨2, ![8192, 512]⟩
abbrev S1x512 : Shape := ⟨2, ![1, 512]⟩
abbrev S1024x512 : Shape := ⟨2, ![1024, 512]⟩
abbrev S16x512 : Shape := ⟨2, ![16, 512]⟩
abbrev S1040x512 : Shape := ⟨2, ![1040, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S1x8192x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S4x128x128, .bf16⟩
  | .hbm, ⟨5, _⟩ => ⟨S1x512, .f32⟩
  | .hbm, ⟨6, _⟩ => ⟨S8192x512, .bf16⟩
  | .hbm, ⟨7, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFwdRefIdeal.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S1x8192x4x128 : Shape := ⟨4, ![1, 8192, 4, 128]⟩
abbrev S4x128x1x8192 : Shape := ⟨4, ![4, 128, 1, 8192]⟩
abbrev S8192x512 : Shape := ⟨2, ![8192, 512]⟩

abbrev nBuf : Space → Nat
  | .hbm => 91
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S1x1x512, .f32⟩
  | .hbm, ⟨5, _⟩ => ⟨S_, .f32⟩
  | .hbm, ⟨6, _⟩ => ⟨S_, .f32⟩
  | .hbm, ⟨7, _⟩ => ⟨S1x8192x512, .f32⟩
  | .hbm, ⟨8, _⟩ => ⟨S1x8193x512, .f32⟩
  | .hbm, ⟨9, _⟩ => ⟨S8192, .i32⟩
  | .hbm, ⟨10, _⟩ => ⟨S1x8193x128, .f32⟩
  | .hbm, ⟨11, _⟩ => ⟨S_, .f32⟩
  | .hbm, ⟨12, _⟩ => ⟨S1x1x128, .f32⟩
  | .hbm, ⟨13, _⟩ => ⟨S1x8191x128, .f32⟩
  | .hbm, ⟨14, _⟩ => ⟨S1x8192x128, .f32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S1x8192x1, .f32⟩
  | .hbm, ⟨23, _⟩ => ⟨S1x8192x128, .f32⟩
  | .hbm, ⟨24, _⟩ => ⟨S1x8192x128, .f32⟩
  | .hbm, ⟨25, _⟩ => ⟨S1x8192x128, .f32⟩
  | .hbm, ⟨26, _⟩ => ⟨S1x8192x128, .f32⟩
  | .hbm, ⟨27, _⟩ => ⟨S1x8193x128, .f32⟩
  | .hbm, ⟨28, _⟩ => ⟨S_, .f32⟩
  | .hbm, ⟨29, _⟩ => ⟨S1x3x128, .f32⟩
  | .hbm, ⟨30, _⟩ => ⟨S1x8189x128, .f32⟩
  | .hbm, ⟨31, _⟩ => ⟨S1x8192x128, .f32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .f32⟩
  | .hbm, ⟨39, _⟩ => ⟨S1x8192x1, .f32⟩
  | .hbm, ⟨40, _⟩ => ⟨S1x8192x128, .f32⟩
  | .hbm, ⟨41, _⟩ => ⟨S1x8192x128, .f32⟩
  | .hbm, ⟨42, _⟩ => ⟨S1x8192x128, .f32⟩
  | .hbm, ⟨43, _⟩ => ⟨S1x8192x128, .f32⟩
  | .hbm, ⟨44, _⟩ => ⟨S1x8193x128, .f32⟩
  | .hbm, ⟨45, _⟩ => ⟨S_, .f32⟩
  | .hbm, ⟨46, _⟩ => ⟨S1x7x128, .f32⟩
  | .hbm, ⟨47, _⟩ => ⟨S1x8185x128, .f32⟩
  | .hbm, ⟨48, _⟩ => ⟨S1x8192x128, .f32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .f32⟩
  | .hbm, ⟨56, _⟩ => ⟨S1x8192x1, .f32⟩
  | .hbm, ⟨57, _⟩ => ⟨S1x8192x128, .f32⟩
  | .hbm, ⟨58, _⟩ => ⟨S1x8192x128, .f32⟩
  | .hbm, ⟨59, _⟩ => ⟨S1x8192x128, .f32⟩
  | .hbm, ⟨60, _⟩ => ⟨S1x8192x128, .f32⟩
  | .hbm, ⟨61, _⟩ => ⟨S1x8193x128, .f32⟩
  | .hbm, ⟨62, _⟩ => ⟨S_, .f32⟩
  | .hbm, ⟨63, _⟩ => ⟨S1x15x128, .f32⟩
  | .hbm, ⟨64, _⟩ => ⟨S1x8177x128, .f32⟩
  | .hbm, ⟨65, _⟩ => ⟨S1x8192x128, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S1x8192x1, .f32⟩
  | .hbm, ⟨74, _⟩ => ⟨S1x8192x128, .f32⟩
  | .hbm, ⟨75, _⟩ => ⟨S1x8192x128, .f32⟩
  | .hbm, ⟨76, _⟩ => ⟨S1x8192x128, .f32⟩
  | .hbm, ⟨77, _⟩ => ⟨S1x8192x128, .f32⟩
  | .hbm, ⟨78, _⟩ => ⟨S1x8192x512, .f32⟩
  | .hbm, ⟨79, _⟩ => ⟨S1x8192x512, .f32⟩
  | .hbm, ⟨80, _⟩ => ⟨S1x8192x4x128, .f32⟩
  | .hbm, ⟨81, _⟩ => ⟨S4x128x1x8192, .f32⟩
  | .hbm, ⟨82, _⟩ => ⟨S1x8192x4x128, .f32⟩
  | .hbm, ⟨83, _⟩ => ⟨S1x8192x512, .f32⟩
  | .hbm, ⟨84, _⟩ => ⟨S8192x512, .f32⟩
  | .hbm, ⟨85, _⟩ => ⟨S8192x512, .bf16⟩
  | .hbm, ⟨86, _⟩ => ⟨S1x1x512, .f32⟩
  | .hbm, ⟨87, _⟩ => ⟨S1x8192x512, .f32⟩
  | .hbm, ⟨88, _⟩ => ⟨S1x8192x512, .f32⟩
  | .hbm, ⟨89, _⟩ => ⟨S8192x512, .f32⟩
  | .hbm, ⟨90, _⟩ => ⟨S8192x512, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== MixFwd.lean ====
abbrev S1x8192x1024 : Shape := ⟨3, ![1, 8192, 1024]⟩
abbrev S1024 : Shape := ⟨1, ![1024]⟩
abbrev S1024x3840 : Shape := ⟨2, ![1024, 3840]⟩
abbrev S8192x1024 : Shape := ⟨2, ![8192, 1024]⟩
abbrev S1x1024 : Shape := ⟨2, ![1, 1024]⟩
abbrev S3840x1024 : Shape := ⟨2, ![3840, 1024]⟩
abbrev S8192x256 : Shape := ⟨2, ![8192, 256]⟩
abbrev S8192x512 : Shape := ⟨2, ![8192, 512]⟩
abbrev S8192x2048 : Shape := ⟨2, ![8192, 2048]⟩
abbrev S512x1024 : Shape := ⟨2, ![512, 1024]⟩
abbrev S512x256 : Shape := ⟨2, ![512, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3840, .f32⟩
  | .hbm, ⟨3, _⟩ => ⟨S8192x1024, .f32⟩
  | .hbm, ⟨4, _⟩ => ⟨S1x1024, .f32⟩
  | .hbm, ⟨5, _⟩ => ⟨S3840x1024, .f32⟩
  | .hbm, ⟨6, _⟩ => ⟨S3840x1024, .bf16⟩
  | .hbm, ⟨7, _⟩ => ⟨S8192x1024, .bf16⟩
  | .hbm, ⟨8, _⟩ => ⟨S8192x1024, .bf16⟩
  | .hbm, ⟨9, _⟩ => ⟨S8192x256, .bf16⟩
  | .hbm, ⟨10, _⟩ => ⟨S8192x512, .f32⟩
  | .hbm, ⟨11, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S512x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFwdRefIdeal.lean ====
abbrev S1x8192x1024 : Shape := ⟨3, ![1, 8192, 1024]⟩
abbrev S1024 : Shape := ⟨1, ![1024]⟩
abbrev S1024x3840 : Shape := ⟨2, ![1024, 3840]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3840 : Shape := ⟨3, ![1, 8192, 3840]⟩
abbrev S1x8192x128 : Shape := ⟨3, ![1, 8192, 128]⟩
abbrev S1x8192x512 : Shape := ⟨3, ![1, 8192, 512]⟩
abbrev S8192x1024 : Shape := ⟨2, ![8192, 1024]⟩
abbrev S8192x128 : Shape := ⟨2, ![8192, 128]⟩
abbrev S8192x512 : Shape := ⟨2, ![8192, 512]⟩
abbrev S8192x256 : Shape := ⟨2, ![8192, 256]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3840, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S1x8192x3840, .f32⟩
  | .hbm, ⟨20, _⟩ => ⟨S1x8192x1024, .f32⟩
  | .hbm, ⟨21, _⟩ => ⟨S1x8192x128, .f32⟩
  | .hbm, ⟨22, _⟩ => ⟨S1x8192x128, .f32⟩
  | .hbm, ⟨23, _⟩ => ⟨S1x8192x512, .f32⟩
  | .hbm, ⟨24, _⟩ => ⟨S1x8192x1024, .f32⟩
  | .hbm, ⟨25, _⟩ => ⟨S1x8192x1024, .f32⟩
  | .hbm, ⟨26, _⟩ => ⟨S8192x1024, .f32⟩
  | .hbm, ⟨27, _⟩ => ⟨S8192x128, .f32⟩
  | .hbm, ⟨28, _⟩ => ⟨S8192x128, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x256, .f32⟩
  | .hbm, ⟨36, _⟩ => ⟨S8192x256, .bf16⟩
  | .hbm, ⟨37, _⟩ => ⟨S8192x2048, .f32⟩
  | .hbm, ⟨38, _⟩ => ⟨S8192x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== FfnUp.lean ====
abbrev S1x8192x1024 : Shape := ⟨3, ![1, 8192, 1024]⟩
abbrev S1024 : Shape := ⟨1, ![1024]⟩
abbrev S1024x5632 : Shape := ⟨2, ![1024, 5632]⟩
abbrev S8192x1024 : Shape := ⟨2, ![8192, 1024]⟩
abbrev S1x1024 : Shape := ⟨2, ![1, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S1024x5632, .bf16⟩
  | .hbm, ⟨6, _⟩ => ⟨S8192x5632, .bf16⟩
  | .hbm, ⟨7, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x5632, .bf16⟩
  | .local _ .vmem, ⟨5, _⟩ => ⟨S512x5632, .bf16⟩
  | .local _ .vmem, ⟨6, _⟩ => ⟨S512x2816, .bf16⟩
  | .local _ .vmem, ⟨7, _⟩ => ⟨S512x2816, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpRefIdeal.lean ====
abbrev S1x8192x1024 : Shape := ⟨3, ![1, 8192, 1024]⟩
abbrev S1024 : Shape := ⟨1, ![1024]⟩
abbrev S1024x5632 : Shape := ⟨2, ![1024, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S8192x5632 : Shape := ⟨2, ![8192, 5632]⟩
abbrev S8192x2816 : Shape := ⟨2, ![8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S1x8192x5632, .f32⟩
  | .hbm, ⟨20, _⟩ => ⟨S1x8192x2816, .f32⟩
  | .hbm, ⟨21, _⟩ => ⟨S1x8192x2816, .f32⟩
  | .hbm, ⟨22, _⟩ => ⟨S1x8192x2816, .f32⟩
  | .hbm, ⟨23, _⟩ => ⟨S1x8192x2816, .f32⟩
  | .hbm, ⟨24, _⟩ => ⟨S_, .f32⟩
  | .hbm, ⟨25, _⟩ => ⟨S1x8192x2816, .f32⟩
  | .hbm, ⟨26, _⟩ => ⟨S1x8192x2816, .f32⟩
  | .hbm, ⟨27, _⟩ => ⟨S_, .f32⟩
  | .hbm, ⟨28, _⟩ => ⟨S1x8192x2816, .f32⟩
  | .hbm, ⟨29, _⟩ => ⟨S1x8192x2816, .f32⟩
  | .hbm, ⟨30, _⟩ => ⟨S_, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S1x8192x2816, .f32⟩
  | .hbm, ⟨35, _⟩ => ⟨S1x8192x2816, .f32⟩
  | .hbm, ⟨36, _⟩ => ⟨S_, .f32⟩
  | .hbm, ⟨37, _⟩ => ⟨S1x8192x2816, .f32⟩
  | .hbm, ⟨38, _⟩ => ⟨S1x8192x2816, .f32⟩
  | .hbm, ⟨39, _⟩ => ⟨S1x8192x2816, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x5632, .f32⟩
  | .hbm, ⟨45, _⟩ => ⟨S8192x5632, .f32⟩
  | .hbm, ⟨46, _⟩ => ⟨S8192x5632, .bf16⟩
  | .hbm, ⟨47, _⟩ => ⟨S8192x2816, .f32⟩
  | .hbm, ⟨48, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v16_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v16_1 : Ref sig .tc := ⟨.hbm, 33, rfl⟩
abbrev main_v16_0 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== FfnDown.lean ====
abbrev S1x8192x1024 : Shape := ⟨3, ![1, 8192, 1024]⟩
abbrev S1x8192x2816 : Shape := ⟨3, ![1, 8192, 2816]⟩
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .bf16⟩
  | .hbm, ⟨6, _⟩ => ⟨S2816x1024, .bf16⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S1x8192x1024 : Shape := ⟨3, ![1, 8192, 1024]⟩
abbrev S1x8192x2816 : Shape := ⟨3, ![1, 8192, 2816]⟩
abbrev S2816x1024 : Shape := ⟨2, ![2816, 1024]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S2816x1024, .f32⟩
  | .hbm, ⟨3, _⟩ => ⟨S1x8192x1024, .f32⟩
  | .hbm, ⟨4, _⟩ => ⟨S_, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ride.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S1024x1408 : Shape := ⟨2, ![1024, 1408]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S8192x5632 : Shape := ⟨2, ![8192, 5632]⟩
abbrev S256x1024 : Shape := ⟨2, ![256, 1024]⟩
abbrev S256x5632 : Shape := ⟨2, ![256, 5632]⟩
abbrev S32x1408 : Shape := ⟨2, ![32, 1408]⟩
abbrev S256 : Shape := ⟨1, ![256]⟩
abbrev S256x1 : Shape := ⟨2, ![256, 1]⟩
abbrev S256x256 : Shape := ⟨2, ![256, 256]⟩

abbrev nBuf : Space → Nat
  | .hbm => 63
  | .vmem => 32
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1x1024, .f32⟩
  | .hbm, ⟨10, _⟩ => ⟨S1024x5632, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024x2816, .bf16⟩
  | .hbm, ⟨31, _⟩ => ⟨S8192x2816, .f32⟩
  | .hbm, ⟨32, _⟩ => ⟨S1024x2816, .bf16⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .bf16⟩
  | .hbm, ⟨52, _⟩ => ⟨S8192x2816, .bf16⟩
  | .hbm, ⟨53, _⟩ => ⟨S8192x5632, .bf16⟩
  | .hbm, ⟨54, _⟩ => ⟨S2816x1024, .bf16⟩
  | .hbm, ⟨55, _⟩ => ⟨S8192x1024, .f32⟩
  | .hbm, ⟨56, _⟩ => ⟨S8192x5632, .bf16⟩
  | .hbm, ⟨57, _⟩ => ⟨S8192x1024, .bf16⟩
  | .hbm, ⟨58, _⟩ => ⟨S1x1024, .f32⟩
  | .hbm, ⟨59, _⟩ => ⟨S1024x1408, .f32⟩
  | .hbm, ⟨60, _⟩ => ⟨S1024x1408, .f32⟩
  | .hbm, ⟨61, _⟩ => ⟨S1024x1408, .f32⟩
  | .hbm, ⟨62, _⟩ => ⟨S1024x1408, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S32x1408, .f32⟩
  | .local _ .vmem, ⟨10, _⟩ => ⟨S32x1408, .f32⟩
  | .local _ .vmem, ⟨11, _⟩ => ⟨S32x1408, .f32⟩
  | .local _ .vmem, ⟨12, _⟩ => ⟨S32x1408, .f32⟩
  | .local _ .vmem, ⟨13, _⟩ => ⟨S32x1408, .f32⟩
  | .local _ .vmem, ⟨14, _⟩ => ⟨S32x1408, .f32⟩
  | .local _ .vmem, ⟨15, _⟩ => ⟨S32x1408, .f32⟩
  | .local _ .vmem, ⟨16, _⟩ => ⟨S32x1408, .f32⟩
  | .local _ .vmem, ⟨17, _⟩ => ⟨S256x1024, .f32⟩
  | .local _ .vmem, ⟨18, _⟩ => ⟨S256x1024, .f32⟩
  | .local _ .vmem, ⟨19, _⟩ => ⟨S256x5632, .bf16⟩
  | .local _ .vmem, ⟨20, _⟩ => ⟨S256x5632, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S32x1408, .f32⟩
  | .local _ .vmem, ⟨25, _⟩ => ⟨S32x1408, .f32⟩
  | .local _ .vmem, ⟨26, _⟩ => ⟨S32x1408, .f32⟩
  | .local _ .vmem, ⟨27, _⟩ => ⟨S32x1408, .f32⟩
  | .local _ .vmem, ⟨28, _⟩ => ⟨S32x1408, .f32⟩
  | .local _ .vmem, ⟨29, _⟩ => ⟨S32x1408, .f32⟩
  | .local _ .vmem, ⟨30, _⟩ => ⟨S32x1408, .f32⟩
  | .local _ .vmem, ⟨31, _⟩ => ⟨S32x1408, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev main_v39_3 : Ref sig .tc := ⟨.hbm, 58, rfl⟩
abbrev main_v39_4 : Ref sig .tc := ⟨.hbm, 59, rfl⟩
abbrev main_v39_5 : Ref sig .tc := ⟨.hbm, 60, rfl⟩
abbrev main_v39_6 : Ref sig .tc := ⟨.hbm, 61, rfl⟩
abbrev main_v39_7 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1408 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RideRefIdeal.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S1024x1408 : Shape := ⟨2, ![1024, 1408]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S1x1024 : Shape := ⟨2, ![1, 1024]⟩
abbrev S8192 : Shape := ⟨1, ![8192]⟩
abbrev S8192x1024 : Shape := ⟨2, ![8192, 1024]⟩
abbrev S8192x5632 : Shape := ⟨2, ![8192, 5632]⟩

abbrev nBuf : Space → Nat
  | .hbm => 178
  | .vmem => 0
  | .smem => 0
  | _ => 0

abbrev hbmTy0_0 (i : Nat) : BufTy := match i % 128 with
  | 0 => ⟨S1x8192x1024, .f32⟩
  | 1 => ⟨S1024, .f32⟩
  | 2 => ⟨S1024x5632, .f32⟩
  | 3 => ⟨S2816x1024, .f32⟩
  | 4 => ⟨S1x8192x1024, .f32⟩
  | 5 => ⟨S1024x1408, .f32⟩
  | 6 => ⟨S1024x1408, .f32⟩
  | 7 => ⟨S1024x1408, .f32⟩
  | 8 => ⟨S1024x1408, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S1x8192x1, .f32⟩
  | 18 => ⟨S1x8192x1, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x1024, .f32⟩
  | 25 => ⟨S1x8192x1024, .f32⟩
  | 26 => ⟨S1x1x1024, .f32⟩
  | 27 => ⟨S1x8192x1024, .f32⟩
  | 28 => ⟨S1x8192x1024, .f32⟩
  | 29 => ⟨S1x8192x5632, .f32⟩
  | 30 => ⟨S1x8192x2816, .f32⟩
  | 31 => ⟨S1x8192x2816, .f32⟩
  | 32 => ⟨S1x8192x2816, .f32⟩
  | 33 => ⟨S1x8192x2816, .f32⟩
  | 34 => ⟨S_, .f32⟩
  | 35 => ⟨S1x8192x2816, .f32⟩
  | 36 => ⟨S1x8192x2816, .f32⟩
  | 37 => ⟨S_, .f32⟩
  | 38 => ⟨S1x8192x2816, .f32⟩
  | 39 => ⟨S1x8192x2816, .f32⟩
  | 40 => ⟨S_, .f32⟩
  | 41 => ⟨S1x8192x2816, .f32⟩
  | 42 => ⟨S1x8192x2816, .f32⟩
  | 43 => ⟨S1x8192x2816, .f32⟩
  | 44 => ⟨S1x8192x2816, .f32⟩
  | 45 => ⟨S1x8192x2816, .f32⟩
  | 46 => ⟨S1x8192x1024, .f32⟩
  | 47 => ⟨S_, .f32⟩
  | 48 => ⟨S1x8192x1024, .f32⟩
  | 49 => ⟨S1x8192x1024, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x2816, .f32⟩
  | 56 => ⟨S1x8192x2816, .f32⟩
  | 57 => ⟨S1x8192x2816, .f32⟩
  | 58 => ⟨S1x8192x2816, .f32⟩
  | 59 => ⟨S1x8192x2816, .f32⟩
  | 60 => ⟨S1x8192x2816, .f32⟩
  | 61 => ⟨S1x8192x2816, .f32⟩
  | 62 => ⟨S1x8192x5632, .f32⟩
  | 63 => ⟨S1x8192x1024, .f32⟩
  | 64 => ⟨S1x8192x1024, .f32⟩
  | 65 => ⟨S_, .f32⟩
  | 66 => ⟨S1x1024, .f32⟩
  | 67 => ⟨S1x1x1024, .f32⟩
  | 68 => ⟨S1x8192x1024, .f32⟩
  | 69 => ⟨S1x8192x1024, .f32⟩
  | 70 => ⟨S_, .f32⟩
  | 71 => ⟨S1024, .f32⟩
  | 72 => ⟨S1x8192x1024, .f32⟩
  | 73 => ⟨S_, .f32⟩
  | 74 => ⟨S1x8192, .f32⟩
  | 75 => ⟨S1x8192x1, .f32⟩
  | 76 => ⟨S1x8192x1024, .f32⟩
  | 77 => ⟨S1x8192x1024, .f32⟩
  | 78 => ⟨S1x8192x1024, .f32⟩
  | 79 => ⟨S1x8192x1, .f32⟩
  | 80 => ⟨S_, .f32⟩
  | 81 => ⟨S1x8192x1, .f32⟩
  | 82 => ⟨S1x8192x1, .f32⟩
  | 83 => ⟨S_, .f32⟩
  | 84 => ⟨S8192, .f32⟩
  | 85 => ⟨S1x8192, .f32⟩
  | 86 => ⟨S1x8192x1024, .f32⟩
  | 87 => ⟨S1x8192x1024, .f32⟩
  | 88 => ⟨S1x8192x1024, .f32⟩
  | 89 => ⟨S1x8192x1024, .f32⟩
  | 90 => ⟨S1x8192x1024, .f32⟩
  | 91 => ⟨S1x8192x1024, .f32⟩
  | 92 => ⟨S_, .f32⟩
  | 93 => ⟨S1x8192, .f32⟩
  | 94 => ⟨S1x8192x1, .f32⟩
  | 95 => ⟨S_, .f32⟩
  | 96 => ⟨S1x8192x1, .f32⟩
  | 97 => ⟨S1x8192x1, .f32⟩
  | 98 => ⟨S_, .f32⟩
  | 99 => ⟨S1x8192x1, .f32⟩
  | 100 => ⟨S1x8192x1, .f32⟩
  | 101 => ⟨S1x8192x1, .f32⟩
  | 102 => ⟨S1x8192x1024, .f32⟩
  | 103 => ⟨S1x8192x1024, .f32⟩
  | 104 => ⟨S1x1x1024, .f32⟩
  | 105 => ⟨S1x8192x1024, .f32⟩
  | 106 => ⟨S1x8192x1024, .f32⟩
  | 107 => ⟨S1x8192x5632, .f32⟩
  | 108 => ⟨S1x8192x2816, .f32⟩
  | 109 => ⟨S1x8192x2816, .f32⟩
  | 110 => ⟨S1x8192x2816, .f32⟩
  | 111 => ⟨S1x8192x2816, .f32⟩
  | 112 => ⟨S_, .f32⟩
  | 113 => ⟨S1x8192x2816, .f32⟩
  | 114 => ⟨S1x8192x2816, .f32⟩
  | 115 => ⟨S_, .f32⟩
  | 116 => ⟨S1x8192x2816, .f32⟩
  | 117 => ⟨S1x8192x2816, .f32⟩
  | 118 => ⟨S_, .f32⟩
  | 119 => ⟨S1x8192x2816, .f32⟩
  | 120 => ⟨S1x8192x2816, .f32⟩
  | 121 => ⟨S1x8192x2816, .f32⟩
  | 122 => ⟨S1x8192x2816, .f32⟩
  | 123 => ⟨S1x8192x2816, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1x8192x1024, .f32⟩
  | 2 => ⟨S1x8192x1024, .f32⟩
  | 3 => ⟨S1x8192x2816, .f32⟩
  | 4 => ⟨S1x8192x2816, .f32⟩
  | 5 => ⟨S1x8192x2816, .f32⟩
  | 6 => ⟨S1x8192x2816, .f32⟩
  | 7 => ⟨S1x8192x2816, .f32⟩
  | 8 => ⟨S1x8192x2816, .f32⟩
  | 9 => ⟨S1x8192x2816, .f32⟩
  | 10 => ⟨S1x8192x5632, .f32⟩
  | 11 => ⟨S8192x1024, .f32⟩
  | 12 => ⟨S8192x5632, .f32⟩
  | 13 => ⟨S8192x5632, .bf16⟩
  | 14 => ⟨S8192x1024, .f32⟩
  | 15 => ⟨S8192x1024, .bf16⟩
  | 16 => ⟨S1x1024, .f32⟩
  | 17 => ⟨S_, .f32⟩
  | 18 => ⟨S1024x1408, .f32⟩
  | 19 => ⟨S1024x1408, .f32⟩
  | 20 => ⟨S_, .f32⟩
  | 21 => ⟨S1024x1408, .f32⟩
  | 22 => ⟨S1024x1408, .f32⟩
  | 23 => ⟨S1024x1408, .f32⟩
  | 24 => ⟨S_, .f32⟩
  | 25 => ⟨S1024x1408, .f32⟩
  | 26 => ⟨S1024x1408, .f32⟩
  | 27 => ⟨S1024x1408, .f32⟩
  | 28 => ⟨S_, .f32⟩
  | 29 => ⟨S1024x1408, .f32⟩
  | 30 => ⟨S1024x1408, .f32⟩
  | 31 => ⟨S1024x1408, .f32⟩
  | 32 => ⟨S_, .f32⟩
  | 33 => ⟨S1024x1408, .f32⟩
  | 34 => ⟨S1024x1408, .f32⟩
  | 35 => ⟨S_, .f32⟩
  | 36 => ⟨S1024x1408, .f32⟩
  | 37 => ⟨S1024x1408, .f32⟩
  | 38 => ⟨S1024x1408, .f32⟩
  | 39 => ⟨S_, .f32⟩
  | 40 => ⟨S1024x1408, .f32⟩
  | 41 => ⟨S1024x1408, .f32⟩
  | 42 => ⟨S1024x1408, .f32⟩
  | 43 => ⟨S_, .f32⟩
  | 44 => ⟨S1024x1408, .f32⟩
  | 45 => ⟨S1024x1408, .f32⟩
  | 46 => ⟨S1024x1408, .f32⟩
  | 47 => ⟨S_, .f32⟩
  | 48 => ⟨S1024x1408, .f32⟩
  | 49 => ⟨S1024x1408, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v19_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v19_1 : Ref sig .tc := ⟨.hbm, 43, rfl⟩
abbrev main_v19_0 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_v72_2 : Ref sig .tc := ⟨.hbm, 117, rfl⟩
abbrev main_call2_cst_1 : Ref sig .tc := ⟨.hbm, 118, rfl⟩
abbrev main_call2_v6 : Ref sig .tc := ⟨.hbm, 119, rfl⟩
abbrev main_call2_v7 : Ref sig .tc := ⟨.hbm, 120, rfl⟩
abbrev main_v72_1 : Ref sig .tc := ⟨.hbm, 121, rfl⟩
abbrev main_v72_0 : Ref sig .tc := ⟨.hbm, 122, rfl⟩
abbrev main_v73 : Ref sig .tc := ⟨.hbm, 123, rfl⟩
abbrev main_v74 : Ref sig .tc := ⟨.hbm, 124, rfl⟩
abbrev main_cst_13 : Ref sig .tc := ⟨.hbm, 125, rfl⟩
abbrev main_v75 : Ref sig .tc := ⟨.hbm, 126, rfl⟩
abbrev main_v76 : Ref sig .tc := ⟨.hbm, 127, rfl⟩
abbrev main_cst_14 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_15 : Ref sig .tc := ⟨.hbm, 145, rfl⟩
abbrev main_v90 : Ref sig .tc := ⟨.hbm, 146, rfl⟩
abbrev main_v91 : Ref sig .tc := ⟨.hbm, 147, rfl⟩
abbrev main_cst_16 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_17 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_18 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_19 : Ref sig .tc := ⟨.hbm, 160, rfl⟩
abbrev main_v101 : Ref sig .tc := ⟨.hbm, 161, rfl⟩
abbrev main_v102 : Ref sig .tc := ⟨.hbm, 162, rfl⟩
abbrev main_cst_20 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_21 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_22 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_23 : Ref sig .tc := ⟨.hbm, 175, rfl⟩
abbrev main_v112 : Ref sig .tc := ⟨.hbm, 176, rfl⟩
abbrev main_v113 : Ref sig .tc := ⟨.hbm, 177, rfl⟩

abbrev nD : Nat := 1
abbrev τ : Topo := Topo.v7x

variable {F : FTy → Type} [FloatOps F]
-- ==== Proof.Finite.lean ====
/-
  What the printed finiteness precondition says: where "every |x| is below infinity" reads true, every element of
  the array is a real number.
-/
module

public import Idealize.ShloMosaic.Lib.Pointwise
public import Idealize.ShloMosaic.Lib.ReduceAll
public import Idealize.ShloMosaic.Lib.Affine
public import Idealize.ShloMosaic.Lib.ValueIdx
public import Idealize.ShloMosaic.Lib.Claim

@[expose] public section

noncomputable section

namespace Cert.Finite

open Idealize.ShloMosaic

/-- The float word of the infinity reads as the top of the extended reals. -/
theorem inf_word : Ideal.ofBits .f32 0x7F800000#32 = (⊤ : EReal) := by
  simp [Ideal.ofBits, Ideal.ieee]

/-- The conjunction over an array of "`|x|` is below infinity" is true only where every element is real. -/
theorem real_of_all {s t u v : Shape} {axes : List (Fin s.rank)} [Subsingleton t.Idx] (x : FVec Ideal s .f32)
    (dims : Fin v.rank → Fin s.rank) (bc : v.BroadcastsInDim s dims) (init : u.Idx → BitVec 1)
    (h : s.ReducesTo axes t) (hu : 0 < u.numel) (j : t.Idx)
    (e : Host.reduce IntOp.andi (cmpf .olt (Host.absf x)
      (broadcastInDim s dims bc (constant (F := Ideal) v .f32 0x7F800000#32))) init h hu j = 1#1) (i : s.Idx) :
    ∃ r : ℝ, x i = r := by
  have h1 := Host.reduce_andi_all _ init h hu j e i
  have h2 : max (x i) (-(x i)) < Ideal.ofBits .f32 0x7F800000#32 := by
    by_contra hc
    have : cmpf .olt (Host.absf x) (broadcastInDim s dims bc (constant (F := Ideal) v .f32 0x7F800000#32)) i
        = BitVec.ofBool (decide (max (x i) (-(x i)) < Ideal.ofBits .f32 0x7F800000#32)) := rfl
    rw [this, decide_eq_false hc] at h1
    exact absurd h1 (by decide)
  rw [inf_word] at h2
  have ht : x i ≠ ⊤ := fun h => by rw [h] at h2; simp at h2
  have hb : x i ≠ ⊥ := fun h => by rw [h] at h2; simp at h2
  exact ⟨(x i).toReal, (EReal.coe_toReal ht hb).symm⟩

end Cert.Finite

end
-- ==== Proof.PoolKernel.lean ====
module
public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Pool
open Cert.KernelIdeal Cert.KernelIdeal.Gen
variable (m : (ℓ : Loc nD τ sig) → Buf (Elt Ideal) ℓ)
theorem idx : ∀ t : Fin cfg0.N, win0_0.index t = ![t.val, 0] ∧ win0_1.index t = ![min (64 * (t.val + 1)) 511, 0] ∧ win0_2.index t = ![t.val, 0]
    ∧ win0_3.index t = ![0, 0, 0] ∧ win0_4.index t = ![0, 0] ∧ win0_5.index t = ![t.val, 0] ∧ win0_6.index t = ![0, 0, 0] ∧ win0_7.index t = ![0, 0] ∧ (grid0.coords t 0).val = t.val :=
  (by decide +kernel : ∀ t : Fin grid0.N, _)

/-- What one block of rows adds to the gradient of the scale. -/
def dscaleTerm (x0 : FVec Ideal S1024x512 .f32) (x2 : FVec Ideal S1024x512 .bf16) (x3 : FVec Ideal S4x128x128 .bf16) :
    FVec Ideal S1x512 .f32 := fun j =>
  ∑ r : Fin 1024, x0 (ix2 r (j 1)) * ∑ k : Fin 128,
    x2 (ix2 r ⟨(j 1).val / 128 * 128 + k.val, by have := (j 1).isLt; change (j 1).val < 512 at this; omega⟩)
      * x3 (ix3 ⟨(j 1).val / 128, by have := (j 1).isLt; change (j 1).val < 512 at this; omega⟩ k ⟨(j 1).val % 128, by omega⟩)

/-- What one block of rows adds to the gradient of the mixing matrices. -/
def dwmixTerm (x0 : FVec Ideal S1024x512 .f32) (x2 : FVec Ideal S1024x512 .bf16) (x4 : FVec Ideal S1x512 .f32) :
    FVec Ideal S4x128x128 .f32 := fun j =>
  ∑ r : Fin 1024, x2 (ix2 r ⟨(j 0).val * 128 + (j 1).val, by
      have h0 := (j 0).isLt; have h1 := (j 1).isLt; change (j 0).val < 4 at h0; change (j 1).val < 128 at h1; omega⟩)
    * (x0 (ix2 r ⟨(j 0).val * 128 + (j 2).val, by
        have h0 := (j 0).isLt; have h1 := (j 2).isLt; change (j 0).val < 4 at h0; change (j 2).val < 128 at h1; omega⟩)
      * x4 (ix2 0 ⟨(j 0).val * 128 + (j 2).val, by
        have h0 := (j 0).isLt; have h1 := (j 2).isLt; change (j 0).val < 4 at h0; change (j 2).val < 128 at h1; omega⟩))

/-- The gradient of the scale over all the rows. -/
def dscaleAll (x0 : FVec Ideal S8192x512 .f32) (x2 : FVec Ideal S8192x512 .bf16) (x3 : FVec Ideal S4x128x128 .bf16) :
    FVec Ideal S1x512 .f32 := fun j =>
  ∑ r : Fin 8192, x0 (ix2 r (j 1)) * ∑ k : Fin 128,
    x2 (ix2 r ⟨(j 1).val / 128 * 128 + k.val, by have := (j 1).isLt; change (j 1).val < 512 at this; omega⟩)
      * x3 (ix3 ⟨(j 1).val / 128, by have := (j 1).isLt; change (j 1).val < 512 at this; omega⟩ k ⟨(j 1).val % 128, by omega⟩)

/-- The gradient of the mixing matrices over all the rows. -/
def dwmixAll (x0 : FVec Ideal S8192x512 .f32) (x2 : FVec Ideal S8192x512 .bf16) (x4 : FVec Ideal S1x512 .f32) :
    FVec Ideal S4x128x128 .f32 := fun j =>
  ∑ r : Fin 8192, x2 (ix2 r ⟨(j 0).val * 128 + (j 1).val, by
      have h0 := (j 0).isLt; have h1 := (j 1).isLt; change (j 0).val < 4 at h0; change (j 1).val < 128 at h1; omega⟩)
    * (x0 (ix2 r ⟨(j 0).val * 128 + (j 2).val, by
        have h0 := (j 0).isLt; have h1 := (j 2).isLt; change (j 0).val < 4 at h0; change (j 2).val < 128 at h1; omega⟩)
      * x4 (ix2 0 ⟨(j 0).val * 128 + (j 2).val, by
        have h0 := (j 0).isLt; have h1 := (j 2).isLt; change (j 0).val < 4 at h0; change (j 2).val < 128 at h1; omega⟩))

theorem step7 (c : Dev nD) (t : Fin cfg0.N) (h0 : ¬t.val % 8 = 0) (y) :
    (outsAt0 m c t.val t.isLt).2.2 y = (outsAt0 m c (t.val - 1) (Nat.lt_of_le_of_lt (Nat.sub_le _ _) t.isLt)).2.2 y
      + dscaleTerm (iblk m c 0 t) (iblk m c 2 t) (iblk m c 3 t) y := by
  rw [outsAt0_B m c t h0]
  frame_out
  canon_tiles x h
  all_goals (open_payloads; unfold dscaleTerm; pointwise)
  all_goals blk_point [h0, h1]
theorem first7 (c : Dev nD) (t : Fin cfg0.N) (h0 : t.val % 8 = 0) (y) :
    (outsAt0 m c t.val t.isLt).2.2 y = 0 + dscaleTerm (iblk m c 0 t) (iblk m c 2 t) (iblk m c 3 t) y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + dscaleTerm (iblk m c 0 t) (iblk m c 2 t) (iblk m c 3 t) y) [_] [_, _, _, _]
    ⟨fun x => ?_, fun x => ?_, fun x => ?_, fun x => ?_, trivial⟩ y (View.cover_of_tiledL _ ![1, 128] (by sl_kernel_rfl) y)
  all_goals (open_payloads; unfold dscaleTerm; pointwise [k0_pay4])
  all_goals blk_point [h0, Ideal.ofBits_zero_f32]

theorem step6 (c : Dev nD) (t : Fin cfg0.N) (h0 : ¬t.val % 8 = 0) (y) :
    (outsAt0 m c t.val t.isLt).2.1 y = (outsAt0 m c (t.val - 1) (Nat.lt_of_le_of_lt (Nat.sub_le _ _) t.isLt)).2.1 y
      + dwmixTerm (iblk m c 0 t) (iblk m c 2 t) (iblk m c 4 t) y := by
  rw [outsAt0_B m c t h0]
  frame_out
  canon_tiles x h
  all_goals (open_payloads; unfold dwmixTerm; pointwise [k0_pay14, k0_pay20, k0_pay27, k0_pay36, k0_pay13, k0_pay6])
  all_goals blk_point [h0]

theorem first6 (c : Dev nD) (t : Fin cfg0.N) (h0 : t.val % 8 = 0) (y) :
    (outsAt0 m c t.val t.isLt).2.1 y = 0 + dwmixTerm (iblk m c 0 t) (iblk m c 2 t) (iblk m c 4 t) y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + dwmixTerm (iblk m c 0 t) (iblk m c 2 t) (iblk m c 4 t) y) [_] [_, _, _, _]
    ⟨fun x => ?_, fun x => ?_, fun x => ?_, fun x => ?_, trivial⟩ y (View.cover_of_tiledL _ ![1, 128, 128] (by sl_kernel_rfl) y)
  all_goals (open_payloads; unfold dwmixTerm; pointwise [k0_pay3, k0_pay14, k0_pay20, k0_pay27, k0_pay36, k0_pay13, k0_pay6])
  all_goals try blk_point [h0, Ideal.ofBits_zero_f32]
  · unfold k0_pay36; pointwise; blk_point [h0]
  · unfold k0_pay27; pointwise; blk_point [h0]
  · unfold k0_pay20; pointwise; blk_point [h0]
  · unfold k0_pay14; pointwise; blk_point [h0]

theorem rows0 (c : Dev nD) (t : Fin cfg0.N) (r : Fin 1024) (l : Fin 512) (h : t.val * 1024 + r.val < 8192) :
    (iblk m c 0 t : FVec Ideal S1024x512 .f32) (ix2 r l) = (V m c main_v64 : FVec Ideal S8192x512 .f32) (ix2 ⟨t.val * 1024 + r.val, h⟩ l) := by
  blk_ext [iblk, V, idx t]

theorem rows2 (c : Dev nD) (t : Fin cfg0.N) (r : Fin 1024) (l : Fin 512) (h : t.val * 1024 + r.val < 8192) :
    (iblk m c 2 t : FVec Ideal S1024x512 .bf16) (ix2 r l) = (V m c main_v63 : FVec Ideal S8192x512 .bf16) (ix2 ⟨t.val * 1024 + r.val, h⟩ l) := by
  blk_ext [iblk, V, idx t]

theorem whole3 (c : Dev nD) (t : Fin cfg0.N) : (iblk m c 3 t : FVec Ideal S4x128x128 .bf16) = V m c main_v65 := by
  funext j
  blk_ext [iblk, V, idx t]

theorem whole4 (c : Dev nD) (t : Fin cfg0.N) : (iblk m c 4 t : FVec Ideal S1x512 .f32) = V m c main_v66 := by
  funext j
  blk_ext [iblk, V, idx t]

theorem sum7 (c : Dev nD) (j : S1x512.Idx) : ∑ t : Fin cfg0.N, dscaleTerm (iblk m c 0 t) (iblk m c 2 t) (iblk m c 3 t) j
    = dscaleAll (V m c main_v64) (V m c main_v63) (V m c main_v65) j := by
  unfold dscaleTerm dscaleAll
  refine Fin.sum_mul_add_congr fun t r hl => ?_
  refine congrArg₂ (· * ·) (rows0 m c t r (j 1) hl) (Finset.sum_congr rfl fun k _ => ?_)
  rw [rows2 m c t r _ hl, whole3]

theorem sum6 (c : Dev nD) (j : S4x128x128.Idx) : ∑ t : Fin cfg0.N, dwmixTerm (iblk m c 0 t) (iblk m c 2 t) (iblk m c 4 t) j
    = dwmixAll (V m c main_v64) (V m c main_v63) (V m c main_v66) j := by
  unfold dwmixTerm dwmixAll
  refine Fin.sum_mul_add_congr fun t r hl => ?_
  rw [rows0 m c t r _ hl, rows2 m c t r _ hl, whole4]

theorem final7 (c : Dev nD) : (dats m 0 c).arrAt 7 cfg0.N = dscaleAll (V m c main_v64) (V m c main_v63) (V m c main_v65) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _ (fun t h j => first7 m c t h j)
    (fun t h j => step7 m c t h j) (le_of_eq N_0) t0_7 rfl j, zero_add]
  exact sum7 m c j

theorem final6 (c : Dev nD) : (dats m 0 c).arrAt 6 cfg0.N = dwmixAll (V m c main_v64) (V m c main_v63) (V m c main_v66) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _ (fun t h j => first6 m c t h j)
    (fun t h j => step6 m c t h j) (le_of_eq N_0) t0_7 rfl j, zero_add]
  exact sum6 m c j
end Cert.KernelIdeal.Pool
-- ==== Proof.PoolSums.lean ====
module
public import Mathlib.Data.EReal.Operations
public import Mathlib.Algebra.BigOperators.Fin
@[expose] public section
noncomputable section
namespace Pool

/-- The cotangent of group `g`'s pooled column `l` at row `n`: the scaled cotangent times the transposed mixing matrix. It is zero past the last row. -/
def dpool (ct : Fin 8192 → Fin 512 → EReal) (sc : Fin 512 → EReal) (w : Fin 4 → Fin 128 → Fin 128 → EReal) (g : Fin 4) (l : Fin 128) (n : ℕ) : EReal :=
  ∑ k : Fin 128, (if h : n < 8192 then ct ⟨n, h⟩ ⟨128 * g.val + k.val, by omega⟩ else 0) * sc ⟨128 * g.val + k.val, by omega⟩ * w g l k

/-- The window of group `g`. -/
def win (g : Fin 4) : ℕ := 2 * 2 ^ g.val

/-- That cotangent, divided by the number of positions the mean at row `n` was taken over. -/
def part (ct : Fin 8192 → Fin 512 → EReal) (sc : Fin 512 → EReal) (w : Fin 4 → Fin 128 → Fin 128 → EReal) (g : Fin 4) (l : Fin 128) (n : ℕ) : EReal :=
  dpool ct sc w g l n * ((1 / ((min (n + 1) (win g) : ℕ) : ℝ) : ℝ) : EReal)

/-- The gradient of the pooled columns' input at row `n`: the parts of the windows that hold the row, less the row's own cotangent. -/
def dz (ct : Fin 8192 → Fin 512 → EReal) (sc : Fin 512 → EReal) (w : Fin 4 → Fin 128 → Fin 128 → EReal) (g : Fin 4) (l : Fin 128) (n : ℕ) : EReal :=
  (∑ j ∈ Finset.range (win g), part ct sc w g l (n + j)) - dpool ct sc w g l n

variable (ct : Fin 8192 → Fin 512 → EReal) (sc : Fin 512 → EReal) (w : Fin 4 → Fin 128 → Fin 128 → EReal)

/-- Past the last row there is nothing. -/
theorem part_zero (g : Fin 4) (l : Fin 128) (n : ℕ) (h : 8192 ≤ n) : part ct sc w g l n = 0 := by
  unfold part dpool
  rw [Finset.sum_eq_zero, zero_mul]
  intro k _
  rw [dif_neg (by omega), zero_mul, zero_mul]

/-- Of real arrays the parts are real. -/
theorem part_real (hct : ∀ n l, ∃ r : ℝ, ct n l = r) (hsc : ∀ l, ∃ r : ℝ, sc l = r) (hw : ∀ g l k, ∃ r : ℝ, w g l k = r)
    (g : Fin 4) (l : Fin 128) (n : ℕ) : ∃ r : ℝ, part ct sc w g l n = r := by
  choose a ha using hct
  choose b hb using hsc
  choose d hd using hw
  refine ⟨(∑ k : Fin 128, (if h : n < 8192 then a ⟨n, h⟩ ⟨128 * g.val + k.val, by omega⟩ else 0) * b ⟨128 * g.val + k.val, by omega⟩ * d g l k)
    * (1 / ((min (n + 1) (win g) : ℕ) : ℝ)), ?_⟩
  unfold part dpool
  have : ∀ s : Fin 128 → ℝ, ((∑ k, s k : ℝ) : EReal) = ∑ k, (s k : EReal) := fun s => by
    exact map_sum (⟨⟨Real.toEReal, EReal.coe_zero⟩, EReal.coe_add⟩ : ℝ →+ EReal) s Finset.univ
  rw [EReal.coe_mul, this]
  refine congrArg (· * _) (Finset.sum_congr rfl fun k _ => ?_)
  rw [EReal.coe_mul, EReal.coe_mul, hb, hd]
  split_ifs
  · rw [ha]
  · rfl

/-- A sum of differences at distance `W` over a range past which everything vanishes is the sum of the first `W`. -/
theorem telescope (y : ℕ → EReal) (hy : ∀ n, ∃ r : ℝ, y n = r) (N W : ℕ) (hz : ∀ n, N ≤ n → y n = 0) (t : ℕ) :
    ∑ n ∈ Finset.range N, (y (t + n) - y (t + n + W)) = ∑ j ∈ Finset.range W, y (t + j) := by
  choose a ha using hy
  have hs : ∀ (s : Finset ℕ) (f : ℕ → ℝ), ((∑ k ∈ s, f k : ℝ) : EReal) = ∑ k ∈ s, (f k : EReal) := fun s f => by
    exact map_sum (⟨⟨Real.toEReal, EReal.coe_zero⟩, EReal.coe_add⟩ : ℝ →+ EReal) f s
  have hz' : ∀ n, N ≤ n → a n = 0 := fun n h => by have := hz n h; rw [ha] at this; exact_mod_cast this
  simp only [ha, ← EReal.coe_sub, ← hs]
  congr 1
  have h1 := Finset.sum_range_add (fun n => a (t + n)) N W
  have h2 := Finset.sum_range_add (fun n => a (t + n)) W N
  have h3 : ∑ x ∈ Finset.range W, a (t + (N + x)) = 0 := Finset.sum_eq_zero fun x _ => hz' _ (by omega)
  rw [Finset.sum_sub_distrib]
  have h4 : ∑ x ∈ Finset.range N, a (t + x + W) = ∑ x ∈ Finset.range N, a (t + (W + x)) :=
    Finset.sum_congr rfl fun x _ => congrArg a (by omega)
  rw [h4]
  rw [add_comm W N] at h2
  linarith
end Pool
-- ==== Proof.PoolRows.lean ====
module
public import proofs.«01_k».proof.Proof.Gen.KernelIdeal.Value
public import Idealize.ShloMosaic.Lib.Pipeline.ValueKit
public import Idealize.ShloMosaic.Lib.Pointwise
public import Idealize.ShloMosaic.Lib.KernelVsHost
public import Idealize.ShloMosaic.Lib.IdealHost
public import proofs.«01_k».proof.Proof.PoolSums
@[expose] public section
set_option maxRecDepth 16384
noncomputable section
open Idealize.ShloMosaic Idealize.ShloMosaic.TcCoe Idealize.SL.Sem
namespace Cert.KernelIdeal.Pool
open Cert.KernelIdeal Cert.KernelIdeal.Gen

/-- A rotation of the rows by `s` reads `1040 - s` rows further down. -/
theorem rot_apply (s k : Nat) (hs : s + k = 1040) (hk : 0 < k) (x : FVec Ideal S1040x128 .f32) (r : Fin 1040) (l : Fin 128) (h : r.val + k < 1040) :
    dynamicRotate 0 (BitVec.ofNat 32 s) none x rotates_S1040x128_d0 (ix2 r l) = x (ix2 ⟨r.val + k, h⟩ l) := by
  have h32 : (BitVec.ofNat 32 s).toNat = s := by rw [BitVec.toNat_ofNat]; omega
  refine dynamicRotate_apply 0 _ x _ _ _ fun b => ?_
  fin_cases b
  · have hr := r.isLt
    change r.val + k = (r.val + 1040 - (BitVec.ofNat 32 s).toNat % 1040) % 1040
    rw [h32]; omega
  · rfl

/-- One doubling: windows of `k` rows, added to those `k` rows further down, are windows of `2 k` rows. -/
theorem double (f : Nat → EReal) (s k : Nat) (hs : s + k = 1040) (hk : 0 < k) (x : FVec Ideal S1040x128 .f32) (l : Fin 128)
    (hx : ∀ r : Fin 1040, r.val + k ≤ 1040 → x (ix2 r l) = ∑ j ∈ Finset.range k, f (r.val + j)) (r : Fin 1040) (h : r.val + 2 * k ≤ 1040) :
    addf x (dynamicRotate 0 (BitVec.ofNat 32 s) none x rotates_S1040x128_d0) (ix2 r l) = ∑ j ∈ Finset.range (2 * k), f (r.val + j) := by
  have e : addf x (dynamicRotate 0 (BitVec.ofNat 32 s) none x rotates_S1040x128_d0) (ix2 r l)
      = x (ix2 r l) + dynamicRotate 0 (BitVec.ofNat 32 s) none x rotates_S1040x128_d0 (ix2 r l) := rfl
  rw [e, rot_apply s k hs hk x r l (by omega), hx r (by omega), hx _ (by dsimp only; omega), two_mul, Finset.sum_range_add]
  simp only [add_assoc]

theorem pay37_apply (v10 : FVec Ideal S1040x512 .f32) (w : FVec Ideal S1x128x128 .bf16) (s : FVec Ideal S1x128 .f32) (r : Fin 1040) (l : Fin 128) :
    k0_pay37 v10 w s (ix2 r l) = ∑ k : Fin 128, v10 (ix2 r ⟨384 + k.val, by omega⟩) * s (ix2 0 k) * w (ix3 0 l k) := by
  unfold k0_pay37 k0_pay36 k0_pay35; pointwise
theorem pay6_apply (i : grid0.Coords) (x1 : FVec Ideal S16x512 .f32) (x0 : FVec Ideal S1024x512 .f32) (r : Fin 1040) (l : Fin 512) :
    k0_pay6 i x1 x0 (ix2 r l) = if h : r.val < 1024 then x0 (ix2 ⟨r.val, h⟩ l) else if (i 0).val < 7 then x1 (ix2 ⟨r.val - 1024, by omega⟩ l) else 0 := by
  unfold k0_pay6 k0_pay5; pointwise
  have h8 : (i 0).val < 8 := (i 0).isLt
  generalize (i 0).val = n at h8 ⊢
  split_ifs <;> first | rfl | (interval_cases n <;> first | rfl | omega)

theorem pay7_apply (i : grid0.Coords) (r : Fin 1040) :
    k0_pay7 (F := Ideal) i (ix2 r 0) = ((((i 0).val * 1024 + r.val + 1 : ℕ) : ℝ) : EReal) := by
  unfold k0_pay7; pointwise
  have h8 : (i 0).val < 8 := (i 0).isLt
  generalize (i 0).val = n at h8 ⊢
  have hr := r.isLt
  have e : IntOp.addi (IntOp.addi (Scalar.muli (BitVec.ofNat 32 n) 1024#32) (BitVec.ofNat 32 r.val)) 1#32 = BitVec.ofNat 32 (n * 1024 + r.val + 1) := by
    apply BitVec.eq_of_toNat_eq
    simp [IntOp.addi, Scalar.muli, IntOp.muli]
  rw [e]
  change (((BitVec.ofNat 32 (n * 1024 + r.val + 1)).toInt : ℝ) : EReal) = _
  rw [BitVec.toInt_eq_toNat_of_lt (by rw [BitVec.toNat_ofNat]; omega), BitVec.toNat_ofNat, Nat.mod_eq_of_lt (by omega)]
  norm_cast

/-- One over the smaller of two counts. -/
theorem div_min (N W : ℕ) (hN : 0 < N) (hW : 0 < W) : Ideal.div 1 (min ((N : ℝ) : EReal) ((W : ℝ) : EReal)) = ((1 / ((min N W : ℕ) : ℝ) : ℝ) : EReal) := by
  have : min ((N : ℝ) : EReal) ((W : ℝ) : EReal) = (((min N W : ℕ) : ℝ) : EReal) := by
    rcases le_total N W with h | h
    · rw [min_eq_left h, min_eq_left]; exact_mod_cast h
    · rw [min_eq_right h, min_eq_right]; exact_mod_cast h
  rw [this, Ideal.div_coe, one_mul]
  have : 0 < min N W := lt_min hN hW
  positivity

theorem two_f32 : Ideal.ofBits .f32 0x40000000#32 = (((2 : ℕ) : ℝ) : EReal) := by
  simp [Ideal.ofBits, Ideal.ieee, -EReal.coe_mul]; norm_num
theorem four_f32 : Ideal.ofBits .f32 0x40800000#32 = (((4 : ℕ) : ℝ) : EReal) := by
  simp [Ideal.ofBits, Ideal.ieee, -EReal.coe_mul]; norm_num
theorem eight_f32 : Ideal.ofBits .f32 0x41000000#32 = (((8 : ℕ) : ℝ) : EReal) := by
  simp [Ideal.ofBits, Ideal.ieee, -EReal.coe_mul]; norm_num
theorem sixteen_f32 : Ideal.ofBits .f32 0x41800000#32 = (((16 : ℕ) : ℝ) : EReal) := by
  simp [Ideal.ofBits, Ideal.ieee, -EReal.coe_mul]; norm_num

theorem pay8_apply (i : grid0.Coords) (r : Fin 1040) : k0_pay8 (F := Ideal) i (ix2 r 0) = ((1 / ((min ((i 0).val * 1024 + r.val + 1) 2 : ℕ) : ℝ) : ℝ) : EReal) := by
  unfold k0_pay8; pointwise [pay7_apply]
  rw [two_f32, div_min _ _ (by omega) (by omega)]
theorem pay9_apply (i : grid0.Coords) (r : Fin 1040) : k0_pay9 (F := Ideal) i (ix2 r 0) = ((1 / ((min ((i 0).val * 1024 + r.val + 1) 4 : ℕ) : ℝ) : ℝ) : EReal) := by
  unfold k0_pay9; pointwise [pay7_apply]
  rw [four_f32, div_min _ _ (by omega) (by omega)]
theorem pay10_apply (i : grid0.Coords) (r : Fin 1040) : k0_pay10 (F := Ideal) i (ix2 r 0) = ((1 / ((min ((i 0).val * 1024 + r.val + 1) 8 : ℕ) : ℝ) : ℝ) : EReal) := by
  unfold k0_pay10; pointwise [pay7_apply]
  rw [eight_f32, div_min _ _ (by omega) (by omega)]
theorem pay11_apply (i : grid0.Coords) (r : Fin 1040) : k0_pay11 (F := Ideal) i (ix2 r 0) = ((1 / ((min ((i 0).val * 1024 + r.val + 1) 16 : ℕ) : ℝ) : ℝ) : EReal) := by
  unfold k0_pay11; pointwise [pay7_apply]
  rw [sixteen_f32, div_min _ _ (by omega) (by omega)]

theorem pay28_apply (v10 : FVec Ideal S1040x512 .f32) (w : FVec Ideal S1x128x128 .bf16) (s : FVec Ideal S1x128 .f32) (r : Fin 1040) (l : Fin 128) :
    k0_pay28 v10 w s (ix2 r l) = ∑ k : Fin 128, v10 (ix2 r ⟨256 + k.val, by omega⟩) * s (ix2 0 k) * w (ix3 0 l k) := by
  unfold k0_pay28 k0_pay27 k0_pay26; pointwise

/-- What a window's sum less the row itself leaves of the first 1024 rows. -/
theorem cut_apply (a b : FVec Ideal S1040x128 .f32) (r : Fin 1024) (l : Fin 128) :
    truncf (F := Ideal) .bf16 (subf (extractStridedSlice S1024x128 ![0, 0] a slices_S1040x128_o0_0_S1024x128)
      (extractStridedSlice S1024x128 ![0, 0] b slices_S1040x128_o0_0_S1024x128)) bitsLt_bf16_f32 (ix2 r l)
      = a (ix2 ⟨r.val, by omega⟩ l) - b (ix2 ⟨r.val, by omega⟩ l) := by pointwise

theorem start (v33 : FVec Ideal S1040x1 .f32) (x : FVec Ideal S1040x128 .f32) (f : Nat → EReal) (l : Fin 128)
    (hf : ∀ n : Fin 1040, f n.val = x (ix2 n l) * v33 (ix2 n 0)) (n : Fin 1040) (_ : n.val + 1 ≤ 1040) :
    mulf x (broadcastTo S1040x128 v33 broadcasts_S1040x1_S1040x128) (ix2 n l) = ∑ j ∈ Finset.range 1, f (n.val + j) := by
  rw [Finset.sum_range_one, Nat.add_zero, hf]; pointwise

theorem dz16 (v33 : FVec Ideal S1040x1 .f32) (v159 : FVec Ideal S1040x128 .f32) (f : Nat → EReal) (r : Fin 1024) (l : Fin 128)
    (hf : ∀ n : Fin 1040, f n.val = v159 (ix2 n l) * v33 (ix2 n 0)) :
    k0_pay2 v33 v159 (ix2 r l) = (∑ j ∈ Finset.range 16, f (r.val + j)) - v159 (ix2 ⟨r.val, by omega⟩ l) := by
  unfold k0_pay2
  rw [cut_apply, double f 1032 8 rfl (by decide) _ l (double f 1036 4 rfl (by decide) _ l (double f 1038 2 rfl (by decide) _ l (double f 1039 1 rfl (by decide) _ l
    (start v33 v159 f l hf)))) ⟨r.val, by omega⟩ (by dsimp only; omega)]

theorem dz8 (v10 : FVec Ideal S1040x512 .f32) (v29 : FVec Ideal S1040x1 .f32) (w : FVec Ideal S1x128x128 .bf16) (s : FVec Ideal S1x128 .f32) (f : Nat → EReal) (r : Fin 1024) (l : Fin 128)
    (hf : ∀ n : Fin 1040, f n.val = k0_pay28 v10 w s (ix2 n l) * v29 (ix2 n 0)) :
    k0_pay34 (k0_pay28 v10 w s) (k0_pay32 v10 v29 w s) (k0_pay33 v10 v29 w s) (ix2 r l) = (∑ j ∈ Finset.range 8, f (r.val + j)) - k0_pay28 v10 w s (ix2 ⟨r.val, by omega⟩ l) := by
  unfold k0_pay34 k0_pay33 k0_pay32
  rw [cut_apply, double f 1036 4 rfl (by decide) _ l (double f 1038 2 rfl (by decide) _ l (double f 1039 1 rfl (by decide) _ l
    (start v29 _ f l hf))) ⟨r.val, by omega⟩ (by dsimp only; omega)]

/-- The product of the group read by the window of four. -/
def prod4 (v10 : FVec Ideal S1040x512 .f32) (w : FVec Ideal S1x128x128 .bf16) (s : FVec Ideal S1x128 .f32) : FVec Ideal S1040x128 .f32 :=
  matmul dot_S1040x128_S128x128_S1040x128_1_1_0_0_n_n none (k0_pay20 v10 s) (k0_pay19 w) (constant S1040x128 .f32 0x00000000#32)

theorem prod4_apply (v10 : FVec Ideal S1040x512 .f32) (w : FVec Ideal S1x128x128 .bf16) (s : FVec Ideal S1x128 .f32) (r : Fin 1040) (l : Fin 128) :
    prod4 v10 w s (ix2 r l) = ∑ k : Fin 128, v10 (ix2 r ⟨128 + k.val, by omega⟩) * s (ix2 0 k) * w (ix3 0 l k) := by
  unfold prod4 k0_pay20 k0_pay19; pointwise

theorem dz4 (v10 : FVec Ideal S1040x512 .f32) (v25 : FVec Ideal S1040x1 .f32) (w : FVec Ideal S1x128x128 .bf16) (s : FVec Ideal S1x128 .f32) (f : Nat → EReal) (r : Fin 1024) (l : Fin 128)
    (hf : ∀ n : Fin 1040, f n.val = prod4 v10 w s (ix2 n l) * v25 (ix2 n 0)) :
    k0_pay25 (k0_pay24 v10 v25 w s) (ix2 r l) = (∑ j ∈ Finset.range 4, f (r.val + j)) - prod4 v10 w s (ix2 ⟨r.val, by omega⟩ l) := by
  unfold k0_pay25 k0_pay24; unfold prod4 at hf ⊢
  rw [cut_apply, double f 1038 2 rfl (by decide) _ l (double f 1039 1 rfl (by decide) _ l
    (start v25 _ f l hf)) ⟨r.val, by omega⟩ (by dsimp only; omega)]

/-- The product of the group read by the window of two. -/
def prod2 (v36 : FVec Ideal S1040x128 .f32) (w : FVec Ideal S128x128 .bf16) (s : FVec Ideal S1x128 .f32) : FVec Ideal S1040x128 .f32 :=
  matmul dot_S1040x128_S128x128_S1040x128_1_1_0_0_n_n none (k0_pay14 v36 s) w (constant S1040x128 .f32 0x00000000#32)

theorem prod2_apply (v36 : FVec Ideal S1040x128 .f32) (w : FVec Ideal S128x128 .bf16) (s : FVec Ideal S1x128 .f32) (r : Fin 1040) (l : Fin 128) :
    prod2 v36 w s (ix2 r l) = ∑ k : Fin 128, v36 (ix2 r k) * s (ix2 0 k) * w (ix2 l k) := by
  unfold prod2 k0_pay14; pointwise

theorem dz2 (v36 : FVec Ideal S1040x128 .f32) (v21 : FVec Ideal S1040x1 .f32) (w : FVec Ideal S128x128 .bf16) (s : FVec Ideal S1x128 .f32) (f : Nat → EReal) (r : Fin 1024) (l : Fin 128)
    (hf : ∀ n : Fin 1040, f n.val = prod2 v36 w s (ix2 n l) * v21 (ix2 n 0)) :
    k0_pay18 v21 w v36 s (ix2 r l) = (∑ j ∈ Finset.range 2, f (r.val + j)) - prod2 v36 w s (ix2 ⟨r.val, by omega⟩ l) := by
  unfold k0_pay18; unfold prod2 at hf ⊢
  rw [cut_apply, double f 1039 1 rfl (by decide) _ l
    (start v21 _ f l hf) ⟨r.val, by omega⟩ (by dsimp only; omega)]
end Cert.KernelIdeal.Pool
-- ==== Proof.PoolBlocks.lean ====
module
public import proofs.«01_k».proof.Proof.PoolKernel
public import proofs.«01_k».proof.Proof.PoolRows
@[expose] public section
set_option maxRecDepth 16384
noncomputable section
open Idealize.ShloMosaic Idealize.ShloMosaic.TcCoe Idealize.SL.Sem
open Idealize.ShloMosaic.Pipeline (Dat)
namespace Cert.KernelIdeal.Pool
open Cert.KernelIdeal Cert.KernelIdeal.Gen
variable (m : (ℓ : Loc nD τ sig) → Buf (Elt Ideal) ℓ)

/-- The cotangent's rows as the kernel's windows read them. -/
def ctOf (x : FVec Ideal S8192x512 .f32) : Fin 8192 → Fin 512 → EReal := fun n l => x (ix2 n l)
def scOf (x : FVec Ideal S1x512 .f32) : Fin 512 → EReal := fun l => x (ix2 0 l)
def wOf (x : FVec Ideal S4x128x128 .bf16) : Fin 4 → Fin 128 → Fin 128 → EReal := fun g l k => x (ix3 g l k)

theorem halo1 (c : Dev nD) (t : Fin cfg0.N) (r : Fin 16) (l : Fin 512) (ht : t.val < 7) (h : (t.val + 1) * 1024 + r.val < 8192) :
    (iblk m c 1 t : FVec Ideal S16x512 .f32) (ix2 r l) = (V m c main_v64 : FVec Ideal S8192x512 .f32) (ix2 ⟨(t.val + 1) * 1024 + r.val, h⟩ l) := by
  have : min (64 * (t.val + 1)) 511 = 64 * (t.val + 1) := by omega
  blk_ext [iblk, V, idx t, this]

theorem rows6 (c : Dev nD) (t : Fin cfg0.N) (r : Fin 1040) (l : Fin 512) :
    k0_pay6 (grid0.coords t) (iblk m c 1 t) (iblk m c 0 t) (ix2 r l)
      = if h : t.val * 1024 + r.val < 8192 then ctOf (V m c main_v64) ⟨t.val * 1024 + r.val, h⟩ l else 0 := by
  have ht : t.val < 8 := t.isLt
  have hi : (grid0.coords t 0).val = t.val := (idx t).2.2.2.2.2.2.2.2
  rw [pay6_apply, hi]
  by_cases h1 : r.val < 1024
  · rw [dif_pos h1, dif_pos (by omega)]; exact rows0 m c t ⟨r.val, h1⟩ l (by dsimp only; omega)
  · rw [dif_neg h1]
    have hr := r.isLt
    by_cases h7 : t.val < 7
    · rw [if_pos h7, dif_pos (by omega), halo1 m c t _ l h7 (by dsimp only; omega)]
      unfold ctOf; congr 2; ext; dsimp only; omega
    · rw [if_neg h7, dif_neg (by omega)]

/-- Group 3 of a point's block of the gradient. -/
theorem grp3 (c : Dev nD) (t : Fin cfg0.N) (r : Fin 1024) (l : Fin 128) :
    k0_pay2 (k0_pay11 (grid0.coords t)) (k0_pay37 (k0_pay6 (grid0.coords t) (iblk m c 1 t) (iblk m c 0 t)) (View.ld (iblk m c 3 t) (Rect.unit ![3, 0, 0] ![1, 128, 128] inb_S4x128x128_S1x128x128_3_0_0)) (View.ld (iblk m c 4 t) (Rect.unit ![0, 384] ![1, 128] inb_S1x512_S1x128_0_384))) (ix2 r l)
      = _root_.Pool.dz (ctOf (V m c main_v64)) (scOf (V m c main_v66)) (wOf (V m c main_v65)) 3 l (t.val * 1024 + r.val) := by
  have hi : (grid0.coords t 0).val = t.val := (idx t).2.2.2.2.2.2.2.2
  have hp : ∀ n : Fin 1040, k0_pay37 (k0_pay6 (grid0.coords t) (iblk m c 1 t) (iblk m c 0 t)) (View.ld (iblk m c 3 t) (Rect.unit ![3, 0, 0] ![1, 128, 128] inb_S4x128x128_S1x128x128_3_0_0)) (View.ld (iblk m c 4 t) (Rect.unit ![0, 384] ![1, 128] inb_S1x512_S1x128_0_384)) (ix2 n l)
      = _root_.Pool.dpool (ctOf (V m c main_v64)) (scOf (V m c main_v66)) (wOf (V m c main_v65)) 3 l (t.val * 1024 + n.val) := fun n => by
    rw [pay37_apply]
    refine Finset.sum_congr rfl fun k _ => ?_
    rw [rows6, whole3, whole4]
    unfold scOf wOf
    pointwise
  rw [dz16 _ _ (fun n => _root_.Pool.part (ctOf (V m c main_v64)) (scOf (V m c main_v66)) (wOf (V m c main_v65)) 3 l (t.val * 1024 + n)) r l (fun n => by rw [hp, pay11_apply, hi]; rfl), hp]
  unfold _root_.Pool.dz
  simp only [add_assoc]
  rfl

/-- Group 2 of a point's block of the gradient. -/
theorem grp2 (c : Dev nD) (t : Fin cfg0.N) (r : Fin 1024) (l : Fin 128) :
    k0_pay34 (k0_pay28 (k0_pay6 (grid0.coords t) (iblk m c 1 t) (iblk m c 0 t)) (View.ld (iblk m c 3 t) (Rect.unit ![2, 0, 0] ![1, 128, 128] inb_S4x128x128_S1x128x128_2_0_0)) (View.ld (iblk m c 4 t) (Rect.unit ![0, 256] ![1, 128] inb_S1x512_S1x128_0_256))) (k0_pay32 (k0_pay6 (grid0.coords t) (iblk m c 1 t) (iblk m c 0 t)) (k0_pay10 (grid0.coords t)) (View.ld (iblk m c 3 t) (Rect.unit ![2, 0, 0] ![1, 128, 128] inb_S4x128x128_S1x128x128_2_0_0)) (View.ld (iblk m c 4 t) (Rect.unit ![0, 256] ![1, 128] inb_S1x512_S1x128_0_256))) (k0_pay33 (k0_pay6 (grid0.coords t) (iblk m c 1 t) (iblk m c 0 t)) (k0_pay10 (grid0.coords t)) (View.ld (iblk m c 3 t) (Rect.unit ![2, 0, 0] ![1, 128, 128] inb_S4x128x128_S1x128x128_2_0_0)) (View.ld (iblk m c 4 t) (Rect.unit ![0, 256] ![1, 128] inb_S1x512_S1x128_0_256))) (ix2 r l)
      = _root_.Pool.dz (ctOf (V m c main_v64)) (scOf (V m c main_v66)) (wOf (V m c main_v65)) 2 l (t.val * 1024 + r.val) := by
  have hi : (grid0.coords t 0).val = t.val := (idx t).2.2.2.2.2.2.2.2
  have hp : ∀ n : Fin 1040, k0_pay28 (k0_pay6 (grid0.coords t) (iblk m c 1 t) (iblk m c 0 t)) (View.ld (iblk m c 3 t) (Rect.unit ![2, 0, 0] ![1, 128, 128] inb_S4x128x128_S1x128x128_2_0_0)) (View.ld (iblk m c 4 t) (Rect.unit ![0, 256] ![1, 128] inb_S1x512_S1x128_0_256)) (ix2 n l)
      = _root_.Pool.dpool (ctOf (V m c main_v64)) (scOf (V m c main_v66)) (wOf (V m c main_v65)) 2 l (t.val * 1024 + n.val) := fun n => by
    rw [pay28_apply]
    refine Finset.sum_congr rfl fun k _ => ?_
    rw [rows6, whole3, whole4]
    unfold scOf wOf
    pointwise
  rw [dz8 _ _ _ _ (fun n => _root_.Pool.part (ctOf (V m c main_v64)) (scOf (V m c main_v66)) (wOf (V m c main_v65)) 2 l (t.val * 1024 + n)) r l (fun n => by rw [hp, pay10_apply, hi]; rfl), hp]
  unfold _root_.Pool.dz
  simp only [add_assoc]
  rfl

/-- Group 1 of a point's block of the gradient. -/
theorem grp1 (c : Dev nD) (t : Fin cfg0.N) (r : Fin 1024) (l : Fin 128) :
    k0_pay25 (k0_pay24 (k0_pay6 (grid0.coords t) (iblk m c 1 t) (iblk m c 0 t)) (k0_pay9 (grid0.coords t)) (View.ld (iblk m c 3 t) (Rect.unit ![1, 0, 0] ![1, 128, 128] inb_S4x128x128_S1x128x128_1_0_0)) (View.ld (iblk m c 4 t) (Rect.unit ![0, 128] ![1, 128] inb_S1x512_S1x128_0_128))) (ix2 r l)
      = _root_.Pool.dz (ctOf (V m c main_v64)) (scOf (V m c main_v66)) (wOf (V m c main_v65)) 1 l (t.val * 1024 + r.val) := by
  have hi : (grid0.coords t 0).val = t.val := (idx t).2.2.2.2.2.2.2.2
  have hp : ∀ n : Fin 1040, prod4 (k0_pay6 (grid0.coords t) (iblk m c 1 t) (iblk m c 0 t)) (View.ld (iblk m c 3 t) (Rect.unit ![1, 0, 0] ![1, 128, 128] inb_S4x128x128_S1x128x128_1_0_0)) (View.ld (iblk m c 4 t) (Rect.unit ![0, 128] ![1, 128] inb_S1x512_S1x128_0_128)) (ix2 n l)
      = _root_.Pool.dpool (ctOf (V m c main_v64)) (scOf (V m c main_v66)) (wOf (V m c main_v65)) 1 l (t.val * 1024 + n.val) := fun n => by
    rw [prod4_apply]
    refine Finset.sum_congr rfl fun k _ => ?_
    rw [rows6, whole3, whole4]
    unfold scOf wOf
    pointwise
  rw [dz4 _ _ _ _ (fun n => _root_.Pool.part (ctOf (V m c main_v64)) (scOf (V m c main_v66)) (wOf (V m c main_v65)) 1 l (t.val * 1024 + n)) r l (fun n => by rw [hp, pay9_apply, hi]; rfl), hp]
  unfold _root_.Pool.dz
  simp only [add_assoc]
  rfl

/-- Group 0 of a point's block of the gradient. -/
theorem grp0 (c : Dev nD) (t : Fin cfg0.N) (r : Fin 1024) (l : Fin 128) :
    k0_pay18 (k0_pay8 (grid0.coords t)) (k0_pay12 (View.ld (iblk m c 3 t) (Rect.unit ![0, 0, 0] ![1, 128, 128] inb_S4x128x128_S1x128x128_0_0_0))) (k0_pay13 (grid0.coords t) (iblk m c 1 t) (iblk m c 0 t)) (View.ld (iblk m c 4 t) (Rect.unit ![0, 0] ![1, 128] inb_S1x512_S1x128_0_0)) (ix2 r l)
      = _root_.Pool.dz (ctOf (V m c main_v64)) (scOf (V m c main_v66)) (wOf (V m c main_v65)) 0 l (t.val * 1024 + r.val) := by
  have hi : (grid0.coords t 0).val = t.val := (idx t).2.2.2.2.2.2.2.2
  have hp : ∀ n : Fin 1040, prod2 (k0_pay13 (grid0.coords t) (iblk m c 1 t) (iblk m c 0 t)) (k0_pay12 (View.ld (iblk m c 3 t) (Rect.unit ![0, 0, 0] ![1, 128, 128] inb_S4x128x128_S1x128x128_0_0_0))) (View.ld (iblk m c 4 t) (Rect.unit ![0, 0] ![1, 128] inb_S1x512_S1x128_0_0)) (ix2 n l)
      = _root_.Pool.dpool (ctOf (V m c main_v64)) (scOf (V m c main_v66)) (wOf (V m c main_v65)) 0 l (t.val * 1024 + n.val) := fun n => by
    rw [prod2_apply]
    refine Finset.sum_congr rfl fun k _ => ?_
    have e : k0_pay13 (grid0.coords t) (iblk m c 1 t) (iblk m c 0 t) (ix2 n k) = k0_pay6 (grid0.coords t) (iblk m c 1 t) (iblk m c 0 t) (ix2 n ⟨k.val, by omega⟩) := by unfold k0_pay13; pointwise
    rw [e, rows6, whole3, whole4]
    unfold scOf wOf k0_pay12
    pointwise
  rw [dz2 _ _ _ _ (fun n => _root_.Pool.part (ctOf (V m c main_v64)) (scOf (V m c main_v66)) (wOf (V m c main_v65)) 0 l (t.val * 1024 + n)) r l (fun n => by rw [hp, pay8_apply, hi]; rfl), hp]
  unfold _root_.Pool.dz
  simp only [add_assoc]
  rfl

/-- A row and a column of the array by the group and the column within it. -/
theorem dz_at (A : Fin 8192 → Fin 512 → EReal) (B : Fin 512 → EReal) (W : Fin 4 → Fin 128 → Fin 128 → EReal) (g : Fin 4) (y0 : ℕ) (y1 : ℕ) (l : ℕ) (hl : l < 128) (r : ℕ) (t : ℕ)
    (h1 : y1 = 128 * g.val + l) (h0 : y0 = r) (p : y1 / 128 < 4) (q : y1 % 128 < 128) :
    _root_.Pool.dz A B W g ⟨l, hl⟩ (t * 1024 + r) = _root_.Pool.dz A B W ⟨y1 / 128, p⟩ ⟨y1 % 128, q⟩ (t * 1024 + y0) := by
  have e1 : (⟨y1 / 128, p⟩ : Fin 4) = g := Fin.ext (by dsimp only; omega)
  have e2 : (⟨y1 % 128, q⟩ : Fin 128) = ⟨l, hl⟩ := Fin.ext (by dsimp only; omega)
  rw [e1, e2, h0]

/-- What a point writes back to the gradient. -/
theorem piece5 (c : Dev nD) (t : Fin cfg0.N) (y) : (outsAt0 m c t.val t.isLt).1 y =
    _root_.Pool.dz (ctOf (V m c main_v64)) (scOf (V m c main_v66)) (wOf (V m c main_v65)) ⟨(y 1).val / 128, by have := (y 1).isLt; change (y 1).val < 512 at this; omega⟩
      ⟨(y 1).val % 128, by omega⟩ (t.val * 1024 + (y 0).val) := by
  by_cases h0 : t.val % 8 = 0
  · rw [outsAt0_A m c t h0]
    frame_out
    canon_tiles x h
    · rw [eq_ix2 x]; exact (grp3 m c t (x 0) (x 1)).trans (dz_at _ _ _ 3 _ _ _ (x 1).isLt _ _ h1 h0 _ _)
    · rw [eq_ix2 x]; exact (grp2 m c t (x 0) (x 1)).trans (dz_at _ _ _ 2 _ _ _ (x 1).isLt _ _ h1 h0 _ _)
    · rw [eq_ix2 x]; exact (grp1 m c t (x 0) (x 1)).trans (dz_at _ _ _ 1 _ _ _ (x 1).isLt _ _ h1 h0 _ _)
    · rw [eq_ix2 x]; exact (grp0 m c t (x 0) (x 1)).trans (dz_at _ _ _ 0 _ _ _ (x 1).isLt _ _ (h1.trans (Nat.zero_add _).symm) h0 _ _)
  · rw [outsAt0_B m c t h0]
    frame_out
    canon_tiles x h
    · rw [eq_ix2 x]; exact (grp3 m c t (x 0) (x 1)).trans (dz_at _ _ _ 3 _ _ _ (x 1).isLt _ _ h1 h0 _ _)
    · rw [eq_ix2 x]; exact (grp2 m c t (x 0) (x 1)).trans (dz_at _ _ _ 2 _ _ _ (x 1).isLt _ _ h1 h0 _ _)
    · rw [eq_ix2 x]; exact (grp1 m c t (x 0) (x 1)).trans (dz_at _ _ _ 1 _ _ _ (x 1).isLt _ _ h1 h0 _ _)
    · rw [eq_ix2 x]; exact (grp0 m c t (x 0) (x 1)).trans (dz_at _ _ _ 0 _ _ _ (x 1).isLt _ _ (h1.trans (Nat.zero_add _).symm) h0 _ _)

/-- The gradient over all the rows. -/
def dzAll (x : FVec Ideal S8192x512 .f32) (s : FVec Ideal S1x512 .f32) (w : FVec Ideal S4x128x128 .bf16) : FVec Ideal S8192x512 .bf16 := fun y =>
  _root_.Pool.dz (ctOf x) (scOf s) (wOf w) ⟨(y 1).val / 128, by have := (y 1).isLt; change (y 1).val < 512 at this; omega⟩
      ⟨(y 1).val % 128, by omega⟩ (y 0).val

theorem final5 (c : Dev nD) : (dats m 0 c).arrAt 5 cfg0.N = dzAll (V m c main_v64) (V m c main_v66) (V m c main_v65) := by
  refine (dats m 0 c).arrAt_eq_of_covers 5 _ (by decide +kernel) fun t hf y => ?_
  blk_simp
  rw [after0_5]
  refine (piece5 m c t _).trans ?_
  unfold dzAll
  generalize ctOf (V m c main_v64) = A, scOf (V m c main_v66) = B, wOf (V m c main_v65) = W
  have e0 : ((win0_5.blk t).view.emb y 0).val = t.val * 1024 + (y 0).val := by blk_point [idx t]
  have e1 : ((win0_5.blk t).view.emb y 1).val = (y 1).val := by blk_point [idx t]
  simp only [e0, e1]
end Cert.KernelIdeal.Pool
-- ==== Proof.WindowSums.lean ====
module
public import proofs.«01_k».proof.Proof.Gen.ReferenceIdeal.Read
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.WindowSums

/-- A left fold that adds one term per entry is the start plus the sum of the terms. -/
theorem foldl_add {α : Type} (l : List α) (f : α → EReal) (v : EReal) :
    l.foldl (fun r n => r + f n) v = v + (l.map f).sum := by
  induction l generalizing v with
  | nil => simp
  | cons a l ih => simp [ih, add_assoc]

/-- A host window sum read at an index: the start plus the sum, over the window's positions, of the operand where the
    position lies inside it and of the start where it lies in the padding. -/
theorem reduceWindowAdd_apply {s t u : Shape} {φ : FTy} (window strides lo hi : Fin s.rank → Nat) (x : FVec Ideal s φ)
    (init : u.Idx → Ideal φ) (h : s.ReduceWindows window strides lo hi t) (hu : 0 < u.numel) (j : t.Idx) :
    Host.reduceWindowAdd window strides lo hi x init h hu j
      = init (Shape.Idx.first hu) + ∑ k : (⟨s.rank, window⟩ : Shape).Idx,
          (if hin : ∀ a, lo a ≤ (j (a.cast h.1.symm)).val * strides a + (k a).val
              ∧ (j (a.cast h.1.symm)).val * strides a + (k a).val - lo a < s.size a
            then x (fun a => ⟨(j (a.cast h.1.symm)).val * strides a + (k a).val - lo a, (hin a).2⟩)
            else init (Shape.Idx.first hu)) := by
  show Host.reduceWindow (· + ·) window strides lo hi x _ h _ j = _
  unfold Host.reduceWindow
  dsimp only
  rw [foldl_add (List.finRange _)]
  congr 1
  rw [← List.ofFn_eq_map, List.sum_ofFn]
  exact Fintype.sum_equiv (Shape.rowMajor (⟨s.rank, window⟩ : Shape)).symm _ _ fun n => by split_ifs <;> rfl

/-- The reverse running sum of an array of rows, read at a row: the sum of the rows from there on. -/
theorem suffix_sum {u : Shape} (x : FVec Ideal ⟨3, ![1, 8192, 512]⟩ .f32) (init : u.Idx → Ideal .f32) (h) (hu : 0 < u.numel)
    (hz : ∀ i, init i = 0) (t : Fin 8192) (l : Fin 512) :
    Host.reduceWindowAdd (t := ⟨3, ![1, 8192, 512]⟩) ![1, 8192, 1] ![1, 1, 1] ![0, 0, 0] ![0, 8191, 0] x init h hu (ix3 0 t l)
      = ∑ n ∈ Finset.range 8192, if hn : t.val + n < 8192 then x (ix3 0 ⟨t.val + n, hn⟩ l) else 0 := by
  rw [reduceWindowAdd_apply, hz, zero_add, sum_idx3]
  simp only [Finset.univ_unique, Finset.sum_singleton]
  rw [Finset.sum_range]
  refine Finset.sum_congr rfl fun n _ => ?_
  by_cases hn : t.val + n.val < 8192
  · rw [dif_pos hn, dif_pos]
    · refine congrArg x ?_
      funext a
      fin_cases a <;> apply Fin.ext <;> simp [ix3]
    · intro a
      fin_cases a <;> simp [ix3, hn]
  · rw [dif_neg hn, dif_neg]
    intro h'
    have := (h' 1).2
    simp [ix3] at this
    omega

end Cert.WindowSums
-- ==== Proof.PoolReference.lean ====
module
public import proofs.«01_k».proof.Proof.Gen.ReferenceIdeal.Read
public import proofs.«01_k».proof.Proof.PoolSums
public import proofs.«01_k».proof.Proof.WindowSums
public import Idealize.ShloMosaic.Lib.Pointwise
public import Idealize.ShloMosaic.Lib.KernelVsHost
public import Idealize.ShloMosaic.Lib.IdealHost
@[expose] public section
set_option maxRecDepth 16384
noncomputable section
open Idealize.ShloMosaic Idealize.ShloMosaic.TcCoe Idealize.SL.Sem
namespace Cert.ReferenceIdeal.Pool
open Cert.ReferenceIdeal Cert.ReferenceIdeal.Read

def ctOf (x : FVec Ideal S1x8192x512 .f32) : Fin 8192 → Fin 512 → EReal := fun n l => x (ix3 0 n l)
def scOf (x : FVec Ideal S512 .f32) : Fin 512 → EReal := fun l => x (ix1 l)
def wOf (x : FVec Ideal S4x128x128 .f32) : Fin 4 → Fin 128 → Fin 128 → EReal := fun g l k => x (ix3 g l k)

theorem v86_at (x1 : FVec Ideal S4x128x128 .f32) (x2 : FVec Ideal S512 .f32) (x3 : FVec Ideal S1x8192x512 .f32) (n : Fin 8192) (g : Fin 4) (l : Fin 128) :
    val_main_v86 (F := Ideal) x1 x2 x3 (ix3 0 n ⟨128 * g.val + l.val, by omega⟩) = _root_.Pool.dpool (ctOf x3) (scOf x2) (wOf x1) g l n.val := by
  unfold val_main_v86 val_main_v83 val_main_v82 val_main_v81 val_main_v80 val_main_v78 val_main_v77 val_main_v71 _root_.Pool.dpool ctOf scOf wOf
  pointwise
  have e : 128 * g.val = g.val * 128 := mul_comm _ _
  simp only [e]

/-- The count of positions, converted. -/
theorem count_word (n W : ℕ) (hn : n < 8192) (hW : W ≤ 16) :
    (FloatOps.sitofp .f32 (IntOp.minsi (IntOp.addi (BitVec.ofNat 32 n) 1#32) (BitVec.ofNat 32 W)) : Ideal .f32) = (((min (n + 1) W : ℕ) : ℝ) : EReal) := by
  have e1 : IntOp.addi (BitVec.ofNat 32 n) 1#32 = BitVec.ofNat 32 (n + 1) := by
    apply BitVec.eq_of_toNat_eq; simp [IntOp.addi]
  have i1 : (BitVec.ofNat 32 (n + 1)).toInt = ((n + 1 : ℕ) : ℤ) := by
    rw [BitVec.toInt_eq_toNat_of_lt (by rw [BitVec.toNat_ofNat]; omega), BitVec.toNat_ofNat, Nat.mod_eq_of_lt (by omega)]
  have i2 : (BitVec.ofNat 32 W).toInt = ((W : ℕ) : ℤ) := by
    rw [BitVec.toInt_eq_toNat_of_lt (by rw [BitVec.toNat_ofNat]; omega), BitVec.toNat_ofNat, Nat.mod_eq_of_lt (by omega)]
  have e2 : (IntOp.minsi (BitVec.ofNat 32 (n + 1)) (BitVec.ofNat 32 W)).toInt = ((min (n + 1) W : ℕ) : ℤ) := by
    unfold IntOp.minsi
    simp only [BitVec.slt, BitVec.sle, i1, i2]
    split <;> simp_all <;> omega
  rw [e1]
  change (((IntOp.minsi (BitVec.ofNat 32 (n + 1)) (BitVec.ofNat 32 W)).toInt : ℝ) : EReal) = _
  rw [e2]; norm_cast

theorem v15_at (n : Fin 8192) : val_main_v15 (F := Ideal) (ix3 0 n 0) = (((min (n.val + 1) 2 : ℕ) : ℝ) : EReal) := by
  unfold val_main_v15 val_main_v14 val_main_v13 val_main_v12 val_main_v11 val_main_v10 val_main_v4 val_main_c val_main_c_3
  pointwise
  exact count_word n.val 2 n.isLt (by decide)

theorem v122_at (x1 : FVec Ideal S4x128x128 .f32) (x2 : FVec Ideal S512 .f32) (x3 : FVec Ideal S1x8192x512 .f32) (n : Fin 8192) (l : Fin 128) :
    val_main_v122 (F := Ideal) x1 x2 x3 (ix3 0 n l) = _root_.Pool.part (ctOf x3) (scOf x2) (wOf x1) 0 l n.val := by
  have e : val_main_v122 (F := Ideal) x1 x2 x3 (ix3 0 n l) = Ideal.div (val_main_v86 (F := Ideal) x1 x2 x3 (ix3 0 n ⟨128 * ((0 : Fin 4)).val + l.val, by omega⟩)) (val_main_v15 (F := Ideal) (ix3 0 n 0)) := by
    unfold val_main_v122 val_main_v88 val_main_v121
    pointwise
  have h0 : 0 < min (n.val + 1) 2 := by omega
  rw [e, v86_at, v15_at, Ideal.div_coe (by positivity)]
  rfl

theorem v30_at (n : Fin 8192) : val_main_v30 (F := Ideal) (ix3 0 n 0) = (((min (n.val + 1) 4 : ℕ) : ℝ) : EReal) := by
  unfold val_main_v30 val_main_v29 val_main_v28 val_main_v27 val_main_v26 val_main_v25 val_main_v4 val_main_c_6 val_main_c_7
  pointwise
  exact count_word n.val 4 n.isLt (by decide)

theorem v112_at (x1 : FVec Ideal S4x128x128 .f32) (x2 : FVec Ideal S512 .f32) (x3 : FVec Ideal S1x8192x512 .f32) (n : Fin 8192) (l : Fin 128) :
    val_main_v112 (F := Ideal) x1 x2 x3 (ix3 0 n l) = _root_.Pool.part (ctOf x3) (scOf x2) (wOf x1) 1 l n.val := by
  have e : val_main_v112 (F := Ideal) x1 x2 x3 (ix3 0 n l) = Ideal.div (val_main_v86 (F := Ideal) x1 x2 x3 (ix3 0 n ⟨128 * ((1 : Fin 4)).val + l.val, by omega⟩)) (val_main_v30 (F := Ideal) (ix3 0 n 0)) := by
    unfold val_main_v112 val_main_v89 val_main_v111
    pointwise
  have h0 : 0 < min (n.val + 1) 4 := by omega
  rw [e, v86_at, v30_at, Ideal.div_coe (by positivity)]
  rfl

theorem v45_at (n : Fin 8192) : val_main_v45 (F := Ideal) (ix3 0 n 0) = (((min (n.val + 1) 8 : ℕ) : ℝ) : EReal) := by
  unfold val_main_v45 val_main_v44 val_main_v43 val_main_v42 val_main_v41 val_main_v40 val_main_v4 val_main_c_10 val_main_c_11
  pointwise
  exact count_word n.val 8 n.isLt (by decide)

theorem v102_at (x1 : FVec Ideal S4x128x128 .f32) (x2 : FVec Ideal S512 .f32) (x3 : FVec Ideal S1x8192x512 .f32) (n : Fin 8192) (l : Fin 128) :
    val_main_v102 (F := Ideal) x1 x2 x3 (ix3 0 n l) = _root_.Pool.part (ctOf x3) (scOf x2) (wOf x1) 2 l n.val := by
  have e : val_main_v102 (F := Ideal) x1 x2 x3 (ix3 0 n l) = Ideal.div (val_main_v86 (F := Ideal) x1 x2 x3 (ix3 0 n ⟨128 * ((2 : Fin 4)).val + l.val, by omega⟩)) (val_main_v45 (F := Ideal) (ix3 0 n 0)) := by
    unfold val_main_v102 val_main_v90 val_main_v101
    pointwise
  have h0 : 0 < min (n.val + 1) 8 := by omega
  rw [e, v86_at, v45_at, Ideal.div_coe (by positivity)]
  rfl

theorem v60_at (n : Fin 8192) : val_main_v60 (F := Ideal) (ix3 0 n 0) = (((min (n.val + 1) 16 : ℕ) : ℝ) : EReal) := by
  unfold val_main_v60 val_main_v59 val_main_v58 val_main_v57 val_main_v56 val_main_v55 val_main_v4 val_main_c_14 val_main_c_15
  pointwise
  exact count_word n.val 16 n.isLt (by decide)

theorem v93_at (x1 : FVec Ideal S4x128x128 .f32) (x2 : FVec Ideal S512 .f32) (x3 : FVec Ideal S1x8192x512 .f32) (n : Fin 8192) (l : Fin 128) :
    val_main_v93 (F := Ideal) x1 x2 x3 (ix3 0 n l) = _root_.Pool.part (ctOf x3) (scOf x2) (wOf x1) 3 l n.val := by
  have e : val_main_v93 (F := Ideal) x1 x2 x3 (ix3 0 n l) = Ideal.div (val_main_v86 (F := Ideal) x1 x2 x3 (ix3 0 n ⟨128 * ((3 : Fin 4)).val + l.val, by omega⟩)) (val_main_v60 (F := Ideal) (ix3 0 n 0)) := by
    unfold val_main_v93 val_main_v91 val_main_v92
    pointwise
  have h0 : 0 < min (n.val + 1) 16 := by omega
  rw [e, v86_at, v60_at, Ideal.div_coe (by positivity)]
  rfl

/-- A row's value less the value `W` rows further down, where there is one. -/
theorem live (A : Fin 4) (x1 : FVec Ideal S4x128x128 .f32) (x2 : FVec Ideal S512 .f32) (x3 : FVec Ideal S1x8192x512 .f32) (f : Fin 8192 → EReal) (n : Fin 8192) (l : Fin 128) (W : ℕ)
    (hf : ∀ n, f n = _root_.Pool.part (ctOf x3) (scOf x2) (wOf x1) A l n.val) :
    f n + (if h : n.val + W < 8192 then - f ⟨n.val + W, h⟩ else 0)
      = _root_.Pool.part (ctOf x3) (scOf x2) (wOf x1) A l n.val - _root_.Pool.part (ctOf x3) (scOf x2) (wOf x1) A l (n.val + W) := by
  rw [hf, sub_eq_add_neg]
  split_ifs with d
  · rw [hf]
  · rw [_root_.Pool.part_zero _ _ _ A l (n.val + W) (by omega), neg_zero]

theorem v128_at (x1 : FVec Ideal S4x128x128 .f32) (x2 : FVec Ideal S512 .f32) (x3 : FVec Ideal S1x8192x512 .f32) (n : Fin 8192) (l : Fin 128) :
    val_main_v128 (F := Ideal) x1 x2 x3 (ix3 0 ⟨1 + n.val, by omega⟩ l)
      = _root_.Pool.part (ctOf x3) (scOf x2) (wOf x1) 0 l n.val - _root_.Pool.part (ctOf x3) (scOf x2) (wOf x1) 0 l (n.val + 2) := by
  refine Eq.trans ?_ (live 0 x1 x2 x3 (fun n => val_main_v122 (F := Ideal) x1 x2 x3 (ix3 0 n l)) n l 2 (fun n => v122_at x1 x2 x3 n l))
  unfold val_main_v128 val_main_v127 val_main_v126 val_main_v124 val_main_v123
  generalize val_main_v122 (F := Ideal) x1 x2 x3 = y
  pointwise [val_main_cst_28]
  refine congrArg (y (ix3 0 n l) + ·) ?_
  split_ifs <;> first | omega | rfl | exact congrArg (fun k => -y (ix3 0 k l)) (Fin.ext (by dsimp only; omega))

theorem v132_at0 (x1 : FVec Ideal S4x128x128 .f32) (x2 : FVec Ideal S512 .f32) (x3 : FVec Ideal S1x8192x512 .f32) (n : Fin 8192) (l : Fin 128) :
    val_main_v132 (F := Ideal) x1 x2 x3 (ix3 0 n ⟨l.val, by omega⟩) = val_main_v128 (F := Ideal) x1 x2 x3 (ix3 0 ⟨1 + n.val, by omega⟩ l) := by
  unfold val_main_v132 val_main_v130 val_main_v120 val_main_v110 val_main_v129 val_main_v119 val_main_v109 val_main_v100
  generalize val_main_v99 (F := Ideal) x1 x2 x3 = y3, val_main_v108 (F := Ideal) x1 x2 x3 = y2, val_main_v118 (F := Ideal) x1 x2 x3 = y1, val_main_v128 (F := Ideal) x1 x2 x3 = y0
  pointwise [val_main_cst_20, val_main_cst_23, val_main_cst_26, val_main_cst_29]
  have hn := n.isLt
  have hl := l.isLt
  simp only [false_and, and_false, dite_false]
  split_ifs <;> first | omega | simp only [zero_add, add_zero]

theorem v118_at (x1 : FVec Ideal S4x128x128 .f32) (x2 : FVec Ideal S512 .f32) (x3 : FVec Ideal S1x8192x512 .f32) (n : Fin 8192) (l : Fin 128) :
    val_main_v118 (F := Ideal) x1 x2 x3 (ix3 0 ⟨1 + n.val, by omega⟩ l)
      = _root_.Pool.part (ctOf x3) (scOf x2) (wOf x1) 1 l n.val - _root_.Pool.part (ctOf x3) (scOf x2) (wOf x1) 1 l (n.val + 4) := by
  refine Eq.trans ?_ (live 1 x1 x2 x3 (fun n => val_main_v112 (F := Ideal) x1 x2 x3 (ix3 0 n l)) n l 4 (fun n => v112_at x1 x2 x3 n l))
  unfold val_main_v118 val_main_v117 val_main_v116 val_main_v114 val_main_v113
  generalize val_main_v112 (F := Ideal) x1 x2 x3 = y
  pointwise [val_main_cst_25]
  refine congrArg (y (ix3 0 n l) + ·) ?_
  split_ifs <;> first | omega | rfl | exact congrArg (fun k => -y (ix3 0 k l)) (Fin.ext (by dsimp only; omega))

theorem v132_at1 (x1 : FVec Ideal S4x128x128 .f32) (x2 : FVec Ideal S512 .f32) (x3 : FVec Ideal S1x8192x512 .f32) (n : Fin 8192) (l : Fin 128) :
    val_main_v132 (F := Ideal) x1 x2 x3 (ix3 0 n ⟨128 + l.val, by omega⟩) = val_main_v118 (F := Ideal) x1 x2 x3 (ix3 0 ⟨1 + n.val, by omega⟩ l) := by
  unfold val_main_v132 val_main_v130 val_main_v120 val_main_v110 val_main_v129 val_main_v119 val_main_v109 val_main_v100
  generalize val_main_v99 (F := Ideal) x1 x2 x3 = y3, val_main_v108 (F := Ideal) x1 x2 x3 = y2, val_main_v118 (F := Ideal) x1 x2 x3 = y1, val_main_v128 (F := Ideal) x1 x2 x3 = y0
  pointwise [val_main_cst_20, val_main_cst_23, val_main_cst_26, val_main_cst_29]
  have hn := n.isLt
  have hl := l.isLt
  simp only [false_and, and_false, dite_false]
  split_ifs <;> first | omega | simp only [zero_add, add_zero]

theorem v108_at (x1 : FVec Ideal S4x128x128 .f32) (x2 : FVec Ideal S512 .f32) (x3 : FVec Ideal S1x8192x512 .f32) (n : Fin 8192) (l : Fin 128) :
    val_main_v108 (F := Ideal) x1 x2 x3 (ix3 0 ⟨1 + n.val, by omega⟩ l)
      = _root_.Pool.part (ctOf x3) (scOf x2) (wOf x1) 2 l n.val - _root_.Pool.part (ctOf x3) (scOf x2) (wOf x1) 2 l (n.val + 8) := by
  refine Eq.trans ?_ (live 2 x1 x2 x3 (fun n => val_main_v102 (F := Ideal) x1 x2 x3 (ix3 0 n l)) n l 8 (fun n => v102_at x1 x2 x3 n l))
  unfold val_main_v108 val_main_v107 val_main_v106 val_main_v104 val_main_v103
  generalize val_main_v102 (F := Ideal) x1 x2 x3 = y
  pointwise [val_main_cst_22]
  refine congrArg (y (ix3 0 n l) + ·) ?_
  split_ifs <;> first | omega | rfl | exact congrArg (fun k => -y (ix3 0 k l)) (Fin.ext (by dsimp only; omega))

theorem v132_at2 (x1 : FVec Ideal S4x128x128 .f32) (x2 : FVec Ideal S512 .f32) (x3 : FVec Ideal S1x8192x512 .f32) (n : Fin 8192) (l : Fin 128) :
    val_main_v132 (F := Ideal) x1 x2 x3 (ix3 0 n ⟨256 + l.val, by omega⟩) = val_main_v108 (F := Ideal) x1 x2 x3 (ix3 0 ⟨1 + n.val, by omega⟩ l) := by
  unfold val_main_v132 val_main_v130 val_main_v120 val_main_v110 val_main_v129 val_main_v119 val_main_v109 val_main_v100
  generalize val_main_v99 (F := Ideal) x1 x2 x3 = y3, val_main_v108 (F := Ideal) x1 x2 x3 = y2, val_main_v118 (F := Ideal) x1 x2 x3 = y1, val_main_v128 (F := Ideal) x1 x2 x3 = y0
  pointwise [val_main_cst_20, val_main_cst_23, val_main_cst_26, val_main_cst_29]
  have hn := n.isLt
  have hl := l.isLt
  split_ifs <;> first | omega | simp only [zero_add, add_zero]

theorem v99_at (x1 : FVec Ideal S4x128x128 .f32) (x2 : FVec Ideal S512 .f32) (x3 : FVec Ideal S1x8192x512 .f32) (n : Fin 8192) (l : Fin 128) :
    val_main_v99 (F := Ideal) x1 x2 x3 (ix3 0 ⟨1 + n.val, by omega⟩ l)
      = _root_.Pool.part (ctOf x3) (scOf x2) (wOf x1) 3 l n.val - _root_.Pool.part (ctOf x3) (scOf x2) (wOf x1) 3 l (n.val + 16) := by
  refine Eq.trans ?_ (live 3 x1 x2 x3 (fun n => val_main_v93 (F := Ideal) x1 x2 x3 (ix3 0 n l)) n l 16 (fun n => v93_at x1 x2 x3 n l))
  unfold val_main_v99 val_main_v98 val_main_v97 val_main_v95 val_main_v94
  generalize val_main_v93 (F := Ideal) x1 x2 x3 = y
  pointwise [val_main_cst_19]
  refine congrArg (y (ix3 0 n l) + ·) ?_
  split_ifs <;> first | omega | rfl | exact congrArg (fun k => -y (ix3 0 k l)) (Fin.ext (by dsimp only; omega))

theorem v132_at3 (x1 : FVec Ideal S4x128x128 .f32) (x2 : FVec Ideal S512 .f32) (x3 : FVec Ideal S1x8192x512 .f32) (n : Fin 8192) (l : Fin 128) :
    val_main_v132 (F := Ideal) x1 x2 x3 (ix3 0 n ⟨384 + l.val, by omega⟩) = val_main_v99 (F := Ideal) x1 x2 x3 (ix3 0 ⟨1 + n.val, by omega⟩ l) := by
  unfold val_main_v132 val_main_v130 val_main_v120 val_main_v110 val_main_v129 val_main_v119 val_main_v109 val_main_v100
  generalize val_main_v99 (F := Ideal) x1 x2 x3 = y3, val_main_v108 (F := Ideal) x1 x2 x3 = y2, val_main_v118 (F := Ideal) x1 x2 x3 = y1, val_main_v128 (F := Ideal) x1 x2 x3 = y0
  pointwise [val_main_cst_20, val_main_cst_23, val_main_cst_26, val_main_cst_29]
  have hn := n.isLt
  have hl := l.isLt
  split_ifs <;> first | omega | simp only [zero_add, add_zero]

theorem v132_at (x1 : FVec Ideal S4x128x128 .f32) (x2 : FVec Ideal S512 .f32) (x3 : FVec Ideal S1x8192x512 .f32) (n : Fin 8192) (g : Fin 4) (l : Fin 128) :
    val_main_v132 (F := Ideal) x1 x2 x3 (ix3 0 n ⟨128 * g.val + l.val, by omega⟩)
      = _root_.Pool.part (ctOf x3) (scOf x2) (wOf x1) g l n.val - _root_.Pool.part (ctOf x3) (scOf x2) (wOf x1) g l (n.val + _root_.Pool.win g) := by
  fin_cases g
  · refine Eq.trans (congrArg (fun k => val_main_v132 (F := Ideal) x1 x2 x3 (ix3 0 n k)) (Fin.ext (by simp))) ((v132_at0 x1 x2 x3 n l).trans (v128_at x1 x2 x3 n l))
  · exact (v132_at1 x1 x2 x3 n l).trans (v118_at x1 x2 x3 n l)
  · exact (v132_at2 x1 x2 x3 n l).trans (v108_at x1 x2 x3 n l)
  · exact (v132_at3 x1 x2 x3 n l).trans (v99_at x1 x2 x3 n l)

/-- The reference's gradient at a row, for real arrays. -/
theorem dz_at (x1 : FVec Ideal S4x128x128 .f32) (x2 : FVec Ideal S512 .f32) (x3 : FVec Ideal S1x8192x512 .f32)
    (h1 : ∀ i, ∃ r : ℝ, x1 i = r) (h2 : ∀ i, ∃ r : ℝ, x2 i = r) (h3 : ∀ i, ∃ r : ℝ, x3 i = r) (n : Fin 8192) (g : Fin 4) (l : Fin 128) :
    val_main_v136 (F := Ideal) x1 x2 x3 (ix2 n ⟨128 * g.val + l.val, by omega⟩) = _root_.Pool.dz (ctOf x3) (scOf x2) (wOf x1) g l n.val := by
  have e : val_main_v136 (F := Ideal) x1 x2 x3 (ix2 n ⟨128 * g.val + l.val, by omega⟩)
      = - val_main_v86 (F := Ideal) x1 x2 x3 (ix3 0 n ⟨128 * g.val + l.val, by omega⟩) + val_main_v133 (F := Ideal) x1 x2 x3 (ix3 0 n ⟨128 * g.val + l.val, by omega⟩) := by
    unfold val_main_v136 val_main_v135 val_main_v134 val_main_v87
    pointwise
  rw [e, v86_at, val_main_v133, Cert.WindowSums.suffix_sum _ _ _ _ (fun i => by unfold val_main_call1_call0_v0 val_main_call1_call0_cst; pointwise)]
  have hr := _root_.Pool.part_real (ctOf x3) (scOf x2) (wOf x1) (fun _ _ => h3 _) (fun _ => h2 _) (fun _ _ _ => h1 _) g l
  have hs : (∑ k ∈ Finset.range 8192, if hk : n.val + k < 8192 then val_main_v132 (F := Ideal) x1 x2 x3 (ix3 0 ⟨n.val + k, hk⟩ ⟨128 * g.val + l.val, by omega⟩) else 0)
      = ∑ j ∈ Finset.range (_root_.Pool.win g), _root_.Pool.part (ctOf x3) (scOf x2) (wOf x1) g l (n.val + j) := by
    rw [← _root_.Pool.telescope (_root_.Pool.part (ctOf x3) (scOf x2) (wOf x1) g l) hr 8192 (_root_.Pool.win g) (_root_.Pool.part_zero _ _ _ g l) n.val]
    refine Finset.sum_congr rfl fun k _ => ?_
    split_ifs with hk
    · rw [v132_at]
    · rw [_root_.Pool.part_zero _ _ _ g l _ (by omega), _root_.Pool.part_zero _ _ _ g l _ (by omega), sub_zero]
  rw [hs, _root_.Pool.dz, sub_eq_add_neg, add_comm]

theorem v85_at (x0 : FVec Ideal S1x8192x512 .f32) (x2 : FVec Ideal S512 .f32) (x3 : FVec Ideal S1x8192x512 .f32) (g : Fin 4) (a b : Fin 128) :
    val_main_v85 (F := Ideal) x0 x2 x3 (ix3 g a b) = ∑ n : Fin 8192, val_main_v66 (F := Ideal) x0 (ix3 0 n ⟨g.val * 128 + a.val, by omega⟩)
      * (x3 (ix3 0 n ⟨g.val * 128 + b.val, by omega⟩) * x2 (ix1 ⟨g.val * 128 + b.val, by omega⟩)) := by
  unfold val_main_v85 val_main_v84 val_main_v81 val_main_v80 val_main_v78 val_main_v77 val_main_v71 val_main_v67
  pointwise
  simp only [Finset.univ_unique, Finset.sum_singleton]
  exact Finset.sum_congr rfl fun n _ => mul_comm _ _

/-- The sum over two axes of one element each is that element. -/
theorem sum_ones (x : S1x1x512.Idx → EReal) (init : EReal) (j : Fin 512) :
    Ideal.hostReduceAdd Gen.reducesTo_S1x1x512_S512_d0_1 x init (ix1 j) = init + x (ix3 0 0 j) := by
  unfold Ideal.hostReduceAdd
  refine congrArg (init + ·) (Finset.sum_eq_single (ix3 0 0 j) (fun b hb hne => absurd ?_ hne) fun h => absurd ?_ h)
  · have e := congrArg Fin.val (congrFun (Finset.mem_filter.mp hb).2 0)
    funext a
    match a with
    | ⟨0, _⟩ => exact Fin.ext (by have := (b 0).isLt; change (b 0).val < 1 at this; change (b 0).val = 0; omega)
    | ⟨1, _⟩ => exact Fin.ext (by have := (b 1).isLt; change (b 1).val < 1 at this; change (b 1).val = 0; omega)
    | ⟨2, _⟩ => exact Fin.ext e
  · refine Finset.mem_filter.mpr ⟨Finset.mem_univ _, funext fun a => ?_⟩
    match a with
    | ⟨0, _⟩ => rfl

theorem v137_at (x0 : FVec Ideal S1x8192x512 .f32) (x1 : FVec Ideal S4x128x128 .f32) (x3 : FVec Ideal S1x8192x512 .f32) (j : Fin 512) :
    val_main_v137 (F := Ideal) x0 x1 x3 (ix2 0 j) = ∑ n : Fin 8192, x3 (ix3 0 n j)
      * ∑ k : Fin 128, val_main_v66 (F := Ideal) x0 (ix3 0 n ⟨j.val / 128 * 128 + k.val, by omega⟩)
      * x1 (ix3 ⟨j.val / 128, by omega⟩ k ⟨j.val % 128, by omega⟩) := by
  have e : val_main_v137 (F := Ideal) x0 x1 x3 (ix2 0 j) = val_main_v79 (F := Ideal) x0 x1 x3 (ix1 j) := by unfold val_main_v137; pointwise
  rw [e, val_main_v79, ValueIdx.hostReduceAdd_apply, sum_ones]
  unfold val_main_v76 val_main_v75 val_main_v74 val_main_v70 val_main_v69 val_main_v68 val_main_v67
  pointwise [val_main_cst_16, val_main_cst_17]
  refine Finset.sum_congr rfl fun n _ => (mul_comm _ _).trans (congrArg (_ * ·) (Finset.sum_congr rfl fun k _ => mul_comm _ _))
end Cert.ReferenceIdeal.Pool
-- ==== Proof.PoolHost.lean ====
/-
  The arrays that the pooling gradient's call gets, from the program's arguments: the pooled values, the cotangent, the
  weights and the scales.
-/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Pool

open Cert.KernelIdeal Cert.KernelIdeal.Gen Cert.KernelIdeal.Value

variable (m : (ℓ : Loc nD τ sig) → Buf (Elt Ideal) ℓ)

set_option maxHeartbeats 2000000 in
/-- The pooled values are the forward pass's, in the reference's own words. -/
theorem host_pooled (c : Dev nD) : V m c main_v63 = truncf (F := Ideal) .bf16 (shapeCast S8192x512
    (Cert.ReferenceIdeal.Read.val_main_v66 (F := Ideal) (m ((c : Thread nD τ).loc main_arg0)))
    shapeCasts_S1x8192x512_S8192x512) bitsLt_bf16_f32 := by
  entry_read
  simp only [hostOps0, hostOps0_1, hostOps0_2, List.flatten, List.append, StableHlo.TRef.binary, StableHlo.TRef.nullary, StableHlo.TRef.unary, StableHlo.TRef.toBuf, StableHlo.TRef.ofBuf, cast_eq]
  after_results_simp <;> (try dsimp only [Matrix.cons_val]) <;> (try after_results_simp)
  after_results_loop
  rfl

/-- The cotangent as a matrix. -/
theorem host_ct (c : Dev nD) : V m c main_v64 = shapeCast S8192x512 (m ((c : Thread nD τ).loc main_arg3))
    shapeCasts_S1x8192x512_S8192x512 := by
  entry_read
  simp only [hostOps0, hostOps0_1, hostOps0_2, List.flatten, List.append, StableHlo.TRef.binary, StableHlo.TRef.nullary, StableHlo.TRef.unary, StableHlo.TRef.toBuf, StableHlo.TRef.ofBuf, cast_eq]
  after_results_simp <;> (try dsimp only [Matrix.cons_val]) <;> (try after_results_simp)
  after_results_loop
  rfl

/-- The weights, rounded. -/
theorem host_w (c : Dev nD) : V m c main_v65 = truncf (F := Ideal) .bf16 (m ((c : Thread nD τ).loc main_arg1))
    bitsLt_bf16_f32 := by
  entry_read
  simp only [hostOps0, hostOps0_1, hostOps0_2, List.flatten, List.append, StableHlo.TRef.binary, StableHlo.TRef.nullary, StableHlo.TRef.unary, StableHlo.TRef.toBuf, StableHlo.TRef.ofBuf, cast_eq]
  after_results_simp <;> (try dsimp only [Matrix.cons_val]) <;> (try after_results_simp)

/-- The scales as one row. -/
theorem host_sc (c : Dev nD) : V m c main_v66 = shapeCast S1x512 (m ((c : Thread nD τ).loc main_arg2))
    shapeCasts_S512_S1x512 := by
  entry_read
  simp only [hostOps0, hostOps0_1, hostOps0_2, List.flatten, List.append, StableHlo.TRef.binary, StableHlo.TRef.nullary, StableHlo.TRef.unary, StableHlo.TRef.toBuf, StableHlo.TRef.ofBuf, cast_eq]
  after_results_simp <;> (try dsimp only [Matrix.cons_val]) <;> (try after_results_simp)
  after_results_loop
  rfl

end Cert.KernelIdeal.Pool

end
-- ==== Proof.PoolEquation.lean ====
/-
  The pooling gradient: what the kernel's call leaves in its three results is what the reference's derivative computes,
  from any pooled activations and finite weights, scales and cotangent.
-/
module

public import proofs.«01_k».proof.Proof.PoolKernel
public import proofs.«01_k».proof.Proof.PoolBlocks
public import proofs.«01_k».proof.Proof.PoolReference
public import proofs.«01_k».proof.Proof.PoolHost
public import Idealize.ShloMosaic.Lib.Pointwise

@[expose] public section

noncomputable section

open Idealize.ShloMosaic Idealize.ShloMosaic.TcCoe Idealize.SL.Sem

namespace Cert.PoolEquation

open Cert.KernelIdeal Cert.KernelIdeal.Gen

section
variable (x0 : FVec Ideal S1x8192x512 .f32) (x1 : FVec Ideal S4x128x128 .f32) (x2 : FVec Ideal S512 .f32)
  (x3 : FVec Ideal S1x8192x512 .f32)

/-- The operands of the call read the same numbers as the reference's arguments. -/
theorem ct_eq : Cert.KernelIdeal.Pool.ctOf (shapeCast S8192x512 x3 shapeCasts_S1x8192x512_S8192x512)
    = Cert.ReferenceIdeal.Pool.ctOf x3 := by
  funext n l
  unfold Cert.KernelIdeal.Pool.ctOf Cert.ReferenceIdeal.Pool.ctOf
  pointwise

theorem sc_eq : Cert.KernelIdeal.Pool.scOf (shapeCast S1x512 x2 shapeCasts_S512_S1x512)
    = Cert.ReferenceIdeal.Pool.scOf x2 := by
  funext l
  unfold Cert.KernelIdeal.Pool.scOf Cert.ReferenceIdeal.Pool.scOf
  pointwise

theorem w_eq : Cert.KernelIdeal.Pool.wOf (truncf (F := Ideal) .bf16 x1 bitsLt_bf16_f32)
    = Cert.ReferenceIdeal.Pool.wOf x1 := rfl

/-- The gradient of the pooled activations. -/
theorem dz_eq (h1 : ∀ i, ∃ r : ℝ, x1 i = r) (h2 : ∀ i, ∃ r : ℝ, x2 i = r) (h3 : ∀ i, ∃ r : ℝ, x3 i = r) :
    Cert.ReferenceIdeal.Read.val_main_v136 (F := Ideal) x1 x2 x3
      = Cert.KernelIdeal.Pool.dzAll (shapeCast S8192x512 x3 shapeCasts_S1x8192x512_S8192x512)
        (shapeCast S1x512 x2 shapeCasts_S512_S1x512) (truncf (F := Ideal) .bf16 x1 bitsLt_bf16_f32) := by
  funext y
  unfold Cert.KernelIdeal.Pool.dzAll
  rw [ct_eq, sc_eq, w_eq, ← Cert.ReferenceIdeal.Pool.dz_at x1 x2 x3 h1 h2 h3 (y 0) ⟨(y 1).val / 128, by have := (y 1).isLt; change (y 1).val < 512 at this; omega⟩ ⟨(y 1).val % 128, by omega⟩]
  refine congrArg _ ((eq_ix2 y).trans (congrArg (ix2 (y 0)) (Fin.ext ?_)))
  change (y 1).val = 128 * ((y 1).val / 128) + (y 1).val % 128
  omega

/-- The gradient of the mixing matrices. -/
theorem dw_eq : Cert.ReferenceIdeal.Read.val_main_v85 (F := Ideal) x0 x2 x3
      = Cert.KernelIdeal.Pool.dwmixAll (shapeCast S8192x512 x3 shapeCasts_S1x8192x512_S8192x512)
        (truncf (F := Ideal) .bf16 (shapeCast S8192x512 (Cert.ReferenceIdeal.Read.val_main_v66 (F := Ideal) x0)
          shapeCasts_S1x8192x512_S8192x512) bitsLt_bf16_f32)
        (shapeCast S1x512 x2 shapeCasts_S512_S1x512) := by
  funext y
  refine (congrArg _ (eq_ix3 y)).trans ((Cert.ReferenceIdeal.Pool.v85_at x0 x2 x3 (y 0) (y 1) (y 2)).trans ?_)
  generalize Cert.ReferenceIdeal.Read.val_main_v66 (F := Ideal) x0 = p
  unfold Cert.KernelIdeal.Pool.dwmixAll
  refine Finset.sum_congr rfl fun n _ => ?_
  pointwise

/-- The gradient of the scales. -/
theorem ds_eq : Cert.ReferenceIdeal.Read.val_main_v137 (F := Ideal) x0 x1 x3
      = Cert.KernelIdeal.Pool.dscaleAll (shapeCast S8192x512 x3 shapeCasts_S1x8192x512_S8192x512)
        (truncf (F := Ideal) .bf16 (shapeCast S8192x512 (Cert.ReferenceIdeal.Read.val_main_v66 (F := Ideal) x0)
          shapeCasts_S1x8192x512_S8192x512) bitsLt_bf16_f32)
        (truncf (F := Ideal) .bf16 x1 bitsLt_bf16_f32) := by
  funext y
  have e0 : y 0 = (0 : Fin 1) := Subsingleton.elim (α := Fin 1) _ _
  refine (congrArg _ ((eq_ix2 y).trans (congrArg (ix2 · (y 1)) e0))).trans ((Cert.ReferenceIdeal.Pool.v137_at x0 x1 x3 (y 1)).trans ?_)
  generalize Cert.ReferenceIdeal.Read.val_main_v66 (F := Ideal) x0 = p
  unfold Cert.KernelIdeal.Pool.dscaleAll
  refine Finset.sum_congr rfl fun n _ => ?_
  pointwise
end

end Cert.PoolEquation

end
-- ==== Proof.AttnBuffers.lean ====
/- The buffers the attention gradient's kernel works on at one grid point, bundled, and what is held of them before
   and after it runs. -/
module

public import proofs.«01_k».proof.Proof.Gen.AttnIdeal.Skeleton
public import proofs.«01_k».proof.Proof.Gen.AttnIdeal.Frame

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

/-- The eleven buffers of a call of the kernel: seven inputs (sinks, queries, this block's keys and values, the
    previous block's, the cotangent, the forward result, the log of the softmax's sum), three results (the
    gradients of queries, of keys and values, of the sinks) and the carried scratch. -/
structure Bufs where
  sink : Memref sig .tc .smem S1x16 .f32
  hsink : sink.IsWhole
  q : Memref sig .tc .vmem S128x1024 .bf16
  hq : q.IsWhole
  cur : Memref sig .tc .vmem S128x256 .bf16
  hcur : cur.IsWhole
  prev : Memref sig .tc .vmem S128x256 .bf16
  hprev : prev.IsWhole
  ct : Memref sig .tc .vmem S128x1024 .bf16
  hct : ct.IsWhole
  out : Memref sig .tc .vmem S128x1024 .bf16
  hout : out.IsWhole
  lse : Memref sig .tc .vmem S128x16 .f32
  hlse : lse.IsWhole
  dq : Memref sig .tc .vmem S128x1024 .bf16
  hdq : dq.IsWhole
  dkv : Memref sig .tc .vmem S128x256 .bf16
  hdkv : dkv.IsWhole
  dsink : Memref sig .tc .vmem S1x16 .f32
  hdsink : dsink.IsWhole
  carry : Memref sig .tc .vmem S128x256 .f32
  hcarry : carry.IsWhole

/-- The kernel's body on these buffers. -/
abbrev Bufs.run {F : FTy → Type} [FloatOps F] (B : Bufs) (i : grid0.Coords) : Prog (TpuEff nD τ sig (Elt F) Λ₀ .tc) PUnit :=
  cc0_attn_bwd i B.sink B.hsink B.q B.hq B.cur B.hcur B.prev B.hprev B.ct B.hct B.out B.hout B.lse B.hlse
    B.dq B.hdq B.dkv B.hdkv B.dsink B.hdsink B.carry B.hcarry

/-- The contents of the seven inputs at a point. -/
structure Ins (F : FTy → Type) where
  sink : Vec F S1x16 .f32
  q : Vec F S128x1024 .bf16
  cur : Vec F S128x256 .bf16
  prev : Vec F S128x256 .bf16
  ct : Vec F S128x1024 .bf16
  out : Vec F S128x1024 .bf16
  lse : Vec F S128x16 .f32

/-- The contents of the three results and of the carried scratch. -/
structure Outs (F : FTy → Type) where
  dq : Vec F S128x1024 .bf16
  dkv : Vec F S128x256 .bf16
  dsink : Vec F S1x16 .f32
  carry : Vec F S128x256 .f32

/-- The stores made into the results and into the scratch, the last first. -/
structure Stores (F : FTy → Type) where
  dq : List (View.Piece (Elt F) S128x1024 .bf16)
  dkv : List (View.Piece (Elt F) S128x256 .bf16)
  dsink : List (View.Piece (Elt F) S1x16 .f32)
  carry : List (View.Piece (Elt F) S128x256 .f32)

variable {F : FTy → Type} [FloatOps F]

local notation "𝕄" => MT nD τ sig Unit (Elt F) ℕ (UR sig nD τ) ℕ

/-- The inputs held at the contents `x`. -/
abbrev Bufs.ins (B : Bufs) (c : Dev nD) (x : Ins F) : sProp 𝕄 :=
  iprop(owns (c : Thread nD τ) B.sink fullShare x.sink ∗ owns (c : Thread nD τ) B.q fullShare x.q
    ∗ owns (c : Thread nD τ) B.cur fullShare x.cur ∗ owns (c : Thread nD τ) B.prev fullShare x.prev
    ∗ owns (c : Thread nD τ) B.ct fullShare x.ct ∗ owns (c : Thread nD τ) B.out fullShare x.out
    ∗ owns (c : Thread nD τ) B.lse fullShare x.lse)

/-- A buffer held at what the stores `L` make of some contents. -/
abbrev stored {sp : Space} {S : Shape} {e : EltTy} (c : Dev nD) (A : Memref sig .tc sp S e)
    (L : List (View.Piece (Elt F) S e)) : sProp 𝕄 :=
  iprop(∃ f, A.view.loc (c : Thread nD τ) ↦[A.view.set]{fullShare} A.view.writes (Elt F) f L)

/-- A buffer held at anything. -/
abbrev anything {sp : Space} {S : Shape} {e : EltTy} (c : Dev nD) (A : Memref sig .tc sp S e) : sProp 𝕄 :=
  iprop(∃ d, owns (c : Thread nD τ) A fullShare d)

end Cert.AttnIdeal.Body

end
-- ==== Proof.AttnRunFirst.lean ====
/- The attention gradient's kernel at the first grid point. -/
module

public import proofs.«01_k».proof.Proof.AttnBuffers

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F]

local notation "𝕄" => MT nD τ sig Unit (Elt F) ℕ (UR sig nD τ) ℕ

set_option maxHeartbeats 1000000 in
/-- The kernel at the first grid point, where it finds anything in its results and in the scratch: the stores it
    makes, and that it makes them. -/
def firstRun (c : Dev nD) (i : grid0.Coords) (B : Bufs) (hc0 : k0_cond1 i = 1#1)
    (hc1 : k0_cond2 i = 1#1) (hc2 : ¬k0_cond3 i = 1#1)
    (x : Ins F) :
    { S : Stores F // ∀ (E : Set ℕ) (K : PUnit → sProp 𝕄),
      iprop(B.ins c x ∗ anything c B.dq ∗ anything c B.dkv ∗ anything c B.dsink ∗ anything c B.carry
          ∗ (iprop(B.ins c x ∗ stored c B.dq S.dq ∗ stored c B.dkv S.dkv ∗ stored c B.dsink S.dsink ∗ stored c B.carry S.carry) -∗ K PUnit.unit))
        ⊢ wp frame (wpE (defs₀ (F := F)) Variants.none c none) E (B.run i) K } := by
  refine ⟨⟨?_, ?_, ?_, ?_⟩, fun E K => ?run⟩
  case run =>
    simp only [Bufs.run, cc0_attn_bwd_eq_skeleton]; unfold cc0_attn_bwd_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold Bufs.ins anything stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩, ⟨%d7, %f7, -, H7⟩, ⟨%d8, %f8, -, H8⟩, ⟨%d9, %f9, -, H9⟩, ⟨%ds, %fs, -, Hs⟩, Hk⟩
    obtain rfl := B.hsink.eq_unread h0; obtain rfl := B.hq.eq_unread h1; obtain rfl := B.hcur.eq_unread h2
    obtain rfl := B.hprev.eq_unread h3; obtain rfl := B.hct.eq_unread h4; obtain rfl := B.hout.eq_unread h5
    obtain rfl := B.hlse.eq_unread h6
    sl_exec (disch := first | sl_exact hc0 | sl_exact hc1 | sl_exact hc2)
    sl_step
    iapply Hk
    isplitl [H0 H1 H2 H3 H4 H5 H6]
    · isplitl [H0]; · iexists _; isplitr; swap; · iexact H0
                      ipureintro; exact B.hsink.read_unread _
      isplitl [H1]; · iexists _; isplitr; swap; · iexact H1
                      ipureintro; exact B.hq.read_unread _
      isplitl [H2]; · iexists _; isplitr; swap; · iexact H2
                      ipureintro; exact B.hcur.read_unread _
      isplitl [H3]; · iexists _; isplitr; swap; · iexact H3
                      ipureintro; exact B.hprev.read_unread _
      isplitl [H4]; · iexists _; isplitr; swap; · iexact H4
                      ipureintro; exact B.hct.read_unread _
      isplitl [H5]; · iexists _; isplitr; swap; · iexact H5
                      ipureintro; exact B.hout.read_unread _
      iexists _; isplitr; swap; · iexact H6
      ipureintro; exact B.hlse.read_unread _
    isplitl [H7]; · iexists _; iexact H7
    isplitl [H8]; · iexists _; iexact H8
    isplitl [H9]; · iexists _; iexact H9
    iexists _; iexact Hs

end Cert.AttnIdeal.Body

end
-- ==== Proof.AttnRunLater.lean ====
/- The attention gradient's kernel at the points between. -/
module

public import proofs.«01_k».proof.Proof.AttnRunFirst

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F]

local notation "𝕄" => MT nD τ sig Unit (Elt F) ℕ (UR sig nD τ) ℕ

set_option maxHeartbeats 1000000 in
/-- The kernel at a later point that has queries: it finds the sinks' gradient so far and the block carried from the point
    before, adds to the one and replaces the other. -/
def laterRun (c : Dev nD) (i : grid0.Coords) (B : Bufs) (hc0 : ¬k0_cond1 i = 1#1)
    (hc1 : k0_cond2 i = 1#1) (hc2 : ¬k0_cond3 i = 1#1)
    (x : Ins F) (sofar : Vec F S1x16 .f32) (carried : Vec F S128x256 .f32) :
    { S : Stores F // ∀ (E : Set ℕ) (K : PUnit → sProp 𝕄),
      iprop(B.ins c x ∗ anything c B.dq ∗ anything c B.dkv ∗ owns (c : Thread nD τ) B.dsink fullShare sofar
          ∗ owns (c : Thread nD τ) B.carry fullShare carried
          ∗ (iprop(B.ins c x ∗ stored c B.dq S.dq ∗ stored c B.dkv S.dkv ∗ stored c B.dsink S.dsink ∗ stored c B.carry S.carry) -∗ K PUnit.unit))
        ⊢ wp frame (wpE (defs₀ (F := F)) Variants.none c none) E (B.run i) K } := by
  refine ⟨⟨?_, ?_, ?_, ?_⟩, fun E K => ?run⟩
  case run =>
    simp only [Bufs.run, cc0_attn_bwd_eq_skeleton]; unfold cc0_attn_bwd_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold Bufs.ins anything stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩, ⟨%d7, %f7, -, H7⟩, ⟨%d8, %f8, -, H8⟩, ⟨%f9, %h9, H9⟩, ⟨%fs, %hs, Hs⟩, Hk⟩
    obtain rfl := B.hsink.eq_unread h0; obtain rfl := B.hq.eq_unread h1; obtain rfl := B.hcur.eq_unread h2
    obtain rfl := B.hprev.eq_unread h3; obtain rfl := B.hct.eq_unread h4; obtain rfl := B.hout.eq_unread h5
    obtain rfl := B.hlse.eq_unread h6
    obtain rfl := B.hdsink.eq_unread h9; obtain rfl := B.hcarry.eq_unread hs
    sl_exec (disch := first | sl_exact hc0 | sl_exact hc1 | sl_exact hc2)
    sl_step
    iapply Hk
    isplitl [H0 H1 H2 H3 H4 H5 H6]
    · isplitl [H0]; · iexists _; isplitr; swap; · iexact H0
                      ipureintro; exact B.hsink.read_unread _
      isplitl [H1]; · iexists _; isplitr; swap; · iexact H1
                      ipureintro; exact B.hq.read_unread _
      isplitl [H2]; · iexists _; isplitr; swap; · iexact H2
                      ipureintro; exact B.hcur.read_unread _
      isplitl [H3]; · iexists _; isplitr; swap; · iexact H3
                      ipureintro; exact B.hprev.read_unread _
      isplitl [H4]; · iexists _; isplitr; swap; · iexact H4
                      ipureintro; exact B.hct.read_unread _
      isplitl [H5]; · iexists _; isplitr; swap; · iexact H5
                      ipureintro; exact B.hout.read_unread _
      iexists _; isplitr; swap; · iexact H6
      ipureintro; exact B.hlse.read_unread _
    isplitl [H7]; · iexists _; iexact H7
    isplitl [H8]; · iexists _; iexact H8
    isplitl [H9]; · iexists _; iexact H9
    iexists _; iexact Hs

end Cert.AttnIdeal.Body

end
-- ==== Proof.AttnRunLast.lean ====
/- The attention gradient's kernel at the last grid point. -/
module

public import proofs.«01_k».proof.Proof.AttnRunLater

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F]

local notation "𝕄" => MT nD τ sig Unit (Elt F) ℕ (UR sig nD τ) ℕ

set_option maxHeartbeats 1000000 in
/-- The kernel at the last point, past the queries: it only writes the carried block out. -/
def lastRun (c : Dev nD) (i : grid0.Coords) (B : Bufs) (hc0 : ¬k0_cond1 i = 1#1)
    (hc1 : ¬k0_cond2 i = 1#1) (hc2 : k0_cond3 i = 1#1)
    (x : Ins F) (carried : Vec F S128x256 .f32) :
    { S : List (View.Piece (Elt F) S128x256 .bf16) // ∀ (E : Set ℕ) (K : PUnit → sProp 𝕄),
      iprop(B.ins c x ∗ anything c B.dkv ∗ owns (c : Thread nD τ) B.carry fullShare carried
          ∗ (iprop(B.ins c x ∗ stored c B.dkv S ∗ owns (c : Thread nD τ) B.carry fullShare carried) -∗ K PUnit.unit))
        ⊢ wp frame (wpE (defs₀ (F := F)) Variants.none c none) E (B.run i) K } := by
  refine ⟨?_, fun E K => ?run⟩
  case run =>
    simp only [Bufs.run, cc0_attn_bwd_eq_skeleton]; unfold cc0_attn_bwd_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold Bufs.ins anything stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩, ⟨%d8, %f8, -, H8⟩, ⟨%fs, %hs, Hs⟩, Hk⟩
    obtain rfl := B.hsink.eq_unread h0; obtain rfl := B.hq.eq_unread h1; obtain rfl := B.hcur.eq_unread h2
    obtain rfl := B.hprev.eq_unread h3; obtain rfl := B.hct.eq_unread h4; obtain rfl := B.hout.eq_unread h5
    obtain rfl := B.hlse.eq_unread h6
    obtain rfl := B.hcarry.eq_unread hs
    sl_exec (disch := first | sl_exact hc0 | sl_exact hc1 | sl_exact hc2)
    sl_step
    iapply Hk
    isplitl [H0 H1 H2 H3 H4 H5 H6]
    · isplitl [H0]; · iexists _; isplitr; swap; · iexact H0
                      ipureintro; exact B.hsink.read_unread _
      isplitl [H1]; · iexists _; isplitr; swap; · iexact H1
                      ipureintro; exact B.hq.read_unread _
      isplitl [H2]; · iexists _; isplitr; swap; · iexact H2
                      ipureintro; exact B.hcur.read_unread _
      isplitl [H3]; · iexists _; isplitr; swap; · iexact H3
                      ipureintro; exact B.hprev.read_unread _
      isplitl [H4]; · iexists _; isplitr; swap; · iexact H4
                      ipureintro; exact B.hct.read_unread _
      isplitl [H5]; · iexists _; isplitr; swap; · iexact H5
                      ipureintro; exact B.hout.read_unread _
      iexists _; isplitr; swap; · iexact H6
      ipureintro; exact B.hlse.read_unread _
    isplitl [H8]; · iexists _; iexact H8
    iexists _; isplitr; swap; · iexact Hs
    ipureintro; exact B.hcarry.read_unread _

end Cert.AttnIdeal.Body

end
-- ==== Proof.AttnFrame.lean ====
/- What the attention gradient's kernel leaves in its results after each grid point, the proof data of its pipeline, and
   the frame: the program ends, and its arguments are as they were. -/
module

public import proofs.«01_k».proof.Proof.AttnRunLast
public import Idealize.ShloMosaic.Lib.Pipeline.TableIdle
public import Idealize.ShloMosaic.Lib.Claim

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem queries_iff : ∀ t : Fin cfg0.N, k0_cond2 (grid0.coords t) = 1#1 ↔ t.val < 64 :=
  (by decide +kernel : ∀ t : Fin grid0.N, k0_cond2 (grid0.coords t) = 1#1 ↔ t.val < 64)
theorem last_iff : ∀ t : Fin cfg0.N, k0_cond3 (grid0.coords t) = 1#1 ↔ t.val = 64 :=
  (by decide +kernel : ∀ t : Fin grid0.N, k0_cond3 (grid0.coords t) = 1#1 ↔ t.val = 64)

/-- The inputs and the gradient of keys and values are in use at every point; the gradients of queries and sinks at the
    points that have queries. -/
theorem live : ∀ t : Fin cfg0.N, (∀ w : Fin 10, w ≠ 7 → w ≠ 9 → cfg0.idle w (grid0.coords t) = false)
    ∧ (cfg0.idle 7 (grid0.coords t) = decide (t.val = 64)) ∧ (cfg0.idle 9 (grid0.coords t) = decide (t.val = 64)) := by
  decide +kernel

/-- At the last point the gradients of queries and sinks are written back. -/
theorem flush_last : ∀ t : Fin cfg0.N, t.val = 64 → (cfg0.win 7).flush t = true ∧ (cfg0.win 9).flush t = true := by
  decide +kernel

/-- The gradient of the queries is not written back at the last point that has queries. -/
theorem flush_63 : ∀ t : Fin cfg0.N, t.val = 63 → (cfg0.win 7).flush t = false := by decide +kernel

/-- After the first point the sinks' buffer holds what has been stored into it. -/
theorem filled9 (t : Fin cfg0.N) (h : t.val ≠ 0) : cfg0.fresh 9 t.val = false := by
  have hN : t.val < 65 := lt_of_lt_of_eq t.isLt (show cfg0.N = 65 from N_0)
  obtain ⟨n, hn⟩ := Nat.exists_eq_succ_of_ne_zero h
  have hn' : n < cfg0.N := by have := t.isLt; omega
  rw [hn, Nat.succ_eq_add_one, Pipeline.Cfg.fresh_succ cfg0 9 n hn', show cfg0.idle 9 (cfg0.grid.coords ⟨n, hn'⟩) = _ from (live ⟨n, hn'⟩).2.2]
  have hf : (cfg0.win 9).flush ⟨n, hn'⟩ = false := by
    rw [Bool.eq_false_iff, ne_eq, flush0_9]; show ¬ n % 65 = 64; omega
  rw [hf, show decide ((⟨n, hn'⟩ : Fin cfg0.N).val = 64) = false from decide_eq_false (by show ¬ n = 64; omega)]
  rfl

/-- At the last point the queries' buffer holds what the point before stored. -/
theorem filled7 (t : Fin cfg0.N) (h : t.val = 64) : cfg0.fresh 7 t.val = false := by
  have hn' : 63 < cfg0.N := by have := t.isLt; omega
  rw [h, Pipeline.Cfg.fresh_succ cfg0 7 63 hn', flush_63 ⟨63, hn'⟩ rfl, show cfg0.idle 7 (cfg0.grid.coords ⟨63, hn'⟩) = _ from (live ⟨63, hn'⟩).2.1]
  rfl

/-! ## Contents -/

/-- The buffers at point `t`. -/
abbrev bufs (t : Fin cfg0.N) : Bufs where
  sink := win0_0.stage (cfg0.slots t 0)
  hsink := hstage0_0 ((cfg0.slots t 0).cast nbuf0_0)
  q := win0_1.stage (cfg0.slots t 1)
  hq := hstage0_1 ((cfg0.slots t 1).cast nbuf0_1)
  cur := win0_2.stage (cfg0.slots t 2)
  hcur := hstage0_2 ((cfg0.slots t 2).cast nbuf0_2)
  prev := win0_3.stage (cfg0.slots t 3)
  hprev := hstage0_3 ((cfg0.slots t 3).cast nbuf0_3)
  ct := win0_4.stage (cfg0.slots t 4)
  hct := hstage0_4 ((cfg0.slots t 4).cast nbuf0_4)
  out := win0_5.stage (cfg0.slots t 5)
  hout := hstage0_5 ((cfg0.slots t 5).cast nbuf0_5)
  lse := win0_6.stage (cfg0.slots t 6)
  hlse := hstage0_6 ((cfg0.slots t 6).cast nbuf0_6)
  dq := win0_7.stage (cfg0.slots t 7)
  hdq := hstage0_7 ((cfg0.slots t 7).cast nbuf0_7)
  dkv := win0_8.stage (cfg0.slots t 8)
  hdkv := hstage0_8 ((cfg0.slots t 8).cast nbuf0_8)
  dsink := win0_9.stage (cfg0.slots t 9)
  hdsink := hstage0_9 ((cfg0.slots t 9).cast nbuf0_9)
  carry := Memref.whole cc0_scratch0
  hcarry := Memref.isWhole_whole _

/-- The inputs' blocks at point `t`. -/
abbrev blocks (c : Dev nD) (t : Fin cfg0.N) : Ins F :=
  ⟨iblk m c 0 t, iblk m c 1 t, iblk m c 2 t, iblk m c 3 t, iblk m c 4 t, iblk m c 5 t, iblk m c 6 t⟩

/-- What stores that cover a buffer leave in it. -/
abbrev left {sp : Space} {S : Shape} {e : EltTy} (A : Memref sig .tc sp S e) (L : List (View.Piece (Elt F) S e)) : Vec F S e :=
  A.view.read (Elt F) (A.view.writes (Elt F) A.view.junk L)

abbrev dqBuf : Memref sig .tc .vmem S128x1024 .bf16 := Memref.whole cc0_stg7_0
abbrev dkvBuf : Memref sig .tc .vmem S128x256 .bf16 := Memref.whole cc0_stg8_0
abbrev dsinkBuf : Memref sig .tc .vmem S1x16 .f32 := Memref.whole cc0_stg9_0
abbrev carryBuf : Memref sig .tc .vmem S128x256 .f32 := Memref.whole cc0_scratch0

/-- The results of the stores `S`. -/
abbrev Stores.outs (S : Stores F) : Outs F :=
  ⟨left dqBuf S.dq, left dkvBuf S.dkv, left dsinkBuf S.dsink, left carryBuf S.carry⟩

/-- The run at point 0. -/
abbrev first (c : Dev nD) (t : Fin cfg0.N) (h : t.val = 0) :=
  firstRun c (grid0.coords t) (bufs t) ((first_iff t).2 h) ((queries_iff t).2 (by omega))
    (fun e => by have := (last_iff t).1 e; omega) (blocks m c t)

/-- The run at a point between, after a point that left `o`. -/
abbrev later (c : Dev nD) (t : Fin cfg0.N) (h : t.val ≠ 0) (h' : t.val < 64) (o : Outs F) :=
  laterRun c (grid0.coords t) (bufs t) (fun e => h ((first_iff t).1 e)) ((queries_iff t).2 h')
    (fun e => by have := (last_iff t).1 e; omega) (blocks m c t) o.dsink o.carry

/-- The run at the last point, after a point that left `o`. -/
abbrev last (c : Dev nD) (t : Fin cfg0.N) (h : t.val = 64) (o : Outs F) :=
  lastRun c (grid0.coords t) (bufs t) (fun e => by have := (first_iff t).1 e; omega)
    (fun e => by have := (queries_iff t).1 e; omega) ((last_iff t).2 h) (blocks m c t) o.carry

/-- What the results and the scratch hold after the point `n`. -/
def outs (c : Dev nD) : (n : ℕ) → n < cfg0.N → Outs F
  | 0, hn => (first m c ⟨0, hn⟩ rfl).val.outs
  | n + 1, hn =>
    if h : n + 1 < 64 then (later m c ⟨n + 1, hn⟩ (Nat.succ_ne_zero n) h (outs c n (Nat.lt_of_succ_lt hn))).val.outs
    else { outs c n (Nat.lt_of_succ_lt hn) with
      dkv := left dkvBuf (last m c ⟨n + 1, hn⟩ (by have : cfg0.N = 65 := N_0; show n + 1 = 64; omega) (outs c n (Nat.lt_of_succ_lt hn))).val }

/-- The point before a point that is not the first. -/
abbrev before (t : Fin cfg0.N) : Fin cfg0.N := ⟨t.val - 1, Nat.lt_of_le_of_lt (Nat.sub_le _ _) t.isLt⟩

abbrev outsAt (c : Dev nD) (t : Fin cfg0.N) : Outs F := outs m c t.val t.isLt

theorem outs_first (c : Dev nD) (t : Fin cfg0.N) (h : t.val = 0) : outsAt m c t = (first m c t h).val.outs := by
  obtain ⟨_ | n, hn⟩ := t
  · rfl
  · exact absurd h (Nat.succ_ne_zero n)

theorem outs_later (c : Dev nD) (t : Fin cfg0.N) (h : t.val ≠ 0) (h' : t.val < 64) :
    outsAt m c t = (later m c t h h' (outsAt m c (before t))).val.outs := by
  obtain ⟨_ | n, hn⟩ := t
  · exact absurd rfl h
  · exact dif_pos h'

theorem outs_last (c : Dev nD) (t : Fin cfg0.N) (h : t.val = 64) :
    outsAt m c t = { outsAt m c (before t) with dkv := left dkvBuf (last m c t h (outsAt m c (before t))).val } := by
  obtain ⟨_ | n, hn⟩ := t
  · exact absurd h (by show ¬ (0 : ℕ) = 64; decide)
  · exact dif_neg (by show ¬ n + 1 < 64; have : n + 1 = 64 := h; omega)

/-! ## The stores cover the buffers -/

section Covers
variable (c : Dev nD) (i : grid0.Coords) (B : Bufs) (x : Ins F)

theorem first_covers (hc0 hc1 hc2) :
    let S := (firstRun (F := F) c i B hc0 hc1 hc2 x).val
    (∀ y, ∃ p ∈ S.dq, y ∈ p.1.set) ∧ (∀ y, ∃ p ∈ S.dkv, y ∈ p.1.set) ∧ (∀ y, ∃ p ∈ S.dsink, y ∈ p.1.set)
      ∧ (∀ y, ∃ p ∈ S.carry, y ∈ p.1.set) :=
  ⟨View.cover_of_tiledL _ S128x128.size (by sl_kernel_rfl), View.cover_of_tiledL _ S128x128.size (by sl_kernel_rfl),
    View.cover_of_tiledBy _ ![1, 1] (by sl_kernel_rfl), View.cover_of_wholeMem _ (by sl_whole_mem)⟩

theorem later_covers (hc0 hc1 hc2) (sofar : Vec F S1x16 .f32) (carried : Vec F S128x256 .f32) :
    let S := (laterRun (F := F) c i B hc0 hc1 hc2 x sofar carried).val
    (∀ y, ∃ p ∈ S.dq, y ∈ p.1.set) ∧ (∀ y, ∃ p ∈ S.dkv, y ∈ p.1.set) ∧ (∀ y, ∃ p ∈ S.dsink, y ∈ p.1.set)
      ∧ (∀ y, ∃ p ∈ S.carry, y ∈ p.1.set) :=
  ⟨View.cover_of_tiledL _ S128x128.size (by sl_kernel_rfl), View.cover_of_tiledL _ S128x128.size (by sl_kernel_rfl),
    View.cover_of_tiledL _ S1x1.size (by sl_kernel_rfl), View.cover_of_tiledL _ S128x128.size (by sl_kernel_rfl)⟩

theorem last_covers (hc0 hc1 hc2) (carried : Vec F S128x256 .f32) (y) :
    ∃ p ∈ (lastRun (F := F) c i B hc0 hc1 hc2 x carried).val, y ∈ p.1.set :=
  View.cover_of_tiledL _ S128x256.size (by sl_kernel_rfl) y

end Covers

/-- A buffer at what covering stores make of it holds what they leave. -/
theorem owns_left {sp sp' : Space} {S : Shape} {e : EltTy} (c : Dev nD) (A : Memref sig .tc sp S e) (B : Memref sig .tc sp' S e)
    (L : List (View.Piece (Elt F) S e)) (h : ∀ y, ∃ p ∈ L, y ∈ p.1.set) :
    (stored c A L : sProp 𝕄) ⊢ owns (c : Thread nD τ) A fullShare (left B L) := by
  unfold stored owns
  iintro ⟨%f, H⟩
  iexists _; isplitr
  swap; · iexact H
  ipureintro; exact View.read_writes_of_cover _ _ _ _ _ h

/-! ## The proof data -/

/-- What holds before the position `n` beside the windows: the scratch, at anything before the first point and at what
    the point before left after it, and the generator's register. -/
def Inv (c : Dev nD) : (n : ℕ) → n ≤ cfg0.N → sProp 𝕄
  | 0, _ => Pipeline.ΦA spec0 c
  | n + 1, hn => iprop(owns (c : Thread nD τ) carryBuf fullShare (outs m c n hn).carry ∗ (∃ r, prngReg c r))

theorem Inv_zero (c : Dev nD) : (Pipeline.ΦA spec0 c : sProp 𝕄)
    = iprop((∃ d, owns (c : Thread nD τ) carryBuf fullShare d) ∗ (∃ r, prngReg c r)) := by
  unfold Pipeline.ΦA; rw [scopedRest0_eq]; simp only [carryBuf, owns_whole]; rfl

theorem Inv_pos (c : Dev nD) (t : Fin cfg0.N) (h : t.val ≠ 0) : Inv m c t.val t.isLt.le
    = iprop(owns (c : Thread nD τ) carryBuf fullShare (outsAt m c (before t)).carry ∗ (∃ r, prngReg c r)) := by
  obtain ⟨_ | n, hn⟩ := t
  · exact absurd rfl h
  · rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t).dq
    | ⟨8, _⟩ => (outsAt m c t).dkv
    | ⟨9, _⟩ => (outsAt m c t).dsink
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after7 (c : Dev nD) (t : Fin cfg0.N) : (dats m 0 c).after 7 t = (outsAt m c t).dq := by dsimp only [dats]
theorem after8 (c : Dev nD) (t : Fin cfg0.N) : (dats m 0 c).after 8 t = (outsAt m c t).dkv := by dsimp only [dats]
theorem after9 (c : Dev nD) (t : Fin cfg0.N) : (dats m 0 c).after 9 t = (outsAt m c t).dsink := by dsimp only [dats]

/-- After the first point the sinks' buffer holds what the point before left. -/
theorem before9 (c : Dev nD) (t : Fin cfg0.N) (h : t.val ≠ 0) (d) : (dats m 0 c).before 9 t d = (outsAt m c (before t)).dsink := by
  rw [Dat.before_out_traj _ 9 rfl (fun _ _ => rfl) (fun s hs hi _ => ?_) t.val t rfl d, if_neg (by rw [filled9 t h]; exact Bool.false_ne_true)]
  · exact after9 m c _
  · rw [after9, after9, outs_last m c s (of_decide_eq_true ((live s).2.2.symm.trans hi))]

/-- At the last point the queries' buffer holds what the point before left. -/
theorem before7 (c : Dev nD) (t : Fin cfg0.N) (h : t.val = 64) (d) : (dats m 0 c).before 7 t d = (outsAt m c (before t)).dq := by
  rw [Dat.before_out_traj _ 7 rfl (fun _ _ => rfl) (fun s hs hi _ => ?_) t.val t rfl d, if_neg (by rw [filled7 t h]; exact Bool.false_ne_true)]
  · exact after7 m c _
  · rw [after7, after7, outs_last m c s (of_decide_eq_true ((live s).2.1.symm.trans hi))]

/-! ## The body's obligation -/

/-- What the inputs' buffers hold when the body runs. -/
theorem befores (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t)
      ∧ (∀ d, (dats m 0 c).before 6 t d = iblk m c 6 t) :=
  ⟨before0_0_of m _ (A_eq m c 0) (fun _ => by dsimp only [dats]) t, before0_1_of m _ (A_eq m c 1) (fun _ => by dsimp only [dats]) t,
    before0_2_of m _ (A_eq m c 2) (fun _ => by dsimp only [dats]) t, before0_3_of m _ (A_eq m c 3) (fun _ => by dsimp only [dats]) t,
    before0_4_of m _ (A_eq m c 4) (fun _ => by dsimp only [dats]) t, before0_5_of m _ (A_eq m c 5) (fun _ => by dsimp only [dats]) t,
    before0_6_of m _ (A_eq m c 6) (fun _ => by dsimp only [dats]) t⟩

/-- A window in use at a point is left at what the proof data say; so is one that is written back there. -/
theorem leaves_after (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases hi : cfg0.idle w (cfg0.grid.coords t) with _ | _
  · rfl
  · rcases h with h | h
    · exact absurd (hi.symm.trans h) (by decide)
    · rw [h]

theorem leaves (c : Dev nD) (t : Fin cfg0.N) (w : Fin cfg0.W) :
    (dats m 0 c).leavesExact w t = owns (c : Thread nD τ) ((cfg0.win w).stage (cfg0.slots t w)) fullShare ((dats m 0 c).after w t) := by
  apply leaves_after
  by_cases h : t.val = 64
  · by_cases h7 : w = 7
    · subst h7; exact .inr (flush_last t h).1
    · by_cases h9 : w = 9
      · subst h9; exact .inr (flush_last t h).2
      · exact .inl ((live t).1 w h7 h9)
  · by_cases h7 : w = 7
    · subst h7; exact .inl ((live t).2.1.trans (decide_eq_false h))
    · by_cases h9 : w = 9
      · subst h9; exact .inl ((live t).2.2.trans (decide_eq_false h))
      · exact .inl ((live t).1 w h7 h9)

/-- The windows' buffers before the body at point `t`, one by one. -/
def pre (c : Dev nD) (t : Fin cfg0.N) : sProp 𝕄 :=
  iprop((dats m 0 c).Φ t.castSucc ∗ (dats m 0 c).owesAt () t.castSucc
    ∗ (∃ d, owns (c : Thread nD τ) (bufs t).sink fullShare ((dats m 0 c).before 0 t d))
    ∗ (∃ d, owns (c : Thread nD τ) (bufs t).q fullShare ((dats m 0 c).before 1 t d))
    ∗ (∃ d, owns (c : Thread nD τ) (bufs t).cur fullShare ((dats m 0 c).before 2 t d))
    ∗ (∃ d, owns (c : Thread nD τ) (bufs t).prev fullShare ((dats m 0 c).before 3 t d))
    ∗ (∃ d, owns (c : Thread nD τ) (bufs t).ct fullShare ((dats m 0 c).before 4 t d))
    ∗ (∃ d, owns (c : Thread nD τ) (bufs t).out fullShare ((dats m 0 c).before 5 t d))
    ∗ (∃ d, owns (c : Thread nD τ) (bufs t).lse fullShare ((dats m 0 c).before 6 t d))
    ∗ (∃ d, owns (c : Thread nD τ) (bufs t).dq fullShare ((dats m 0 c).before 7 t d))
    ∗ (∃ d, owns (c : Thread nD τ) (bufs t).dkv fullShare ((dats m 0 c).before 8 t d))
    ∗ (∃ d, owns (c : Thread nD τ) (bufs t).dsink fullShare ((dats m 0 c).before 9 t d)))

/-- The same after it. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t)

/-- What the body hands back, from what it leaves. -/
theorem post_of (c : Dev nD) (t : Fin cfg0.N) :
    iprop((owns (c : Thread nD τ) carryBuf fullShare (outsAt m c t).carry ∗ (∃ r, prngReg c r))
      ∗ (dats m 0 c).owesAt () t.castSucc ∗ (bufs t).ins c (blocks m c t)
      ∗ owns (c : Thread nD τ) (bufs t).dq fullShare (outsAt m c t).dq ∗ owns (c : Thread nD τ) (bufs t).dkv fullShare (outsAt m c t).dkv
      ∗ owns (c : Thread nD τ) (bufs t).dsink fullShare (outsAt m c t).dsink) ⊢ (post m c t : sProp 𝕄) := by
  unfold post
  rw [leaves, leaves, leaves, leaves, leaves, leaves, leaves, leaves, leaves, leaves]
  rw [show (dats m 0 c).owesAt () t.succ = (dats m 0 c).owesAt () t.castSucc from rfl,
    show (dats m 0 c).Φ t.succ = iprop(owns (c : Thread nD τ) carryBuf fullShare (outsAt m c t).carry ∗ (∃ r, prngReg c r)) from rfl]
  dsimp only [dats]
  unfold Bufs.ins
  iintro ⟨Hi, Ho, ⟨H0, H1, H2, H3, H4, H5, H6⟩, H7, H8, H9⟩
  isplitl [Hi]; · iexact Hi
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The inputs' buffers, from what the pipeline hands the body. -/
theorem pre_ins (c : Dev nD) (t : Fin cfg0.N) : (pre m c t : sProp 𝕄) ⊢
    iprop((dats m 0 c).Φ t.castSucc ∗ (dats m 0 c).owesAt () t.castSucc ∗ (bufs t).ins c (blocks m c t)
      ∗ (∃ d, owns (c : Thread nD τ) (bufs t).dq fullShare ((dats m 0 c).before 7 t d))
      ∗ (∃ d, owns (c : Thread nD τ) (bufs t).dkv fullShare ((dats m 0 c).before 8 t d))
      ∗ (∃ d, owns (c : Thread nD τ) (bufs t).dsink fullShare ((dats m 0 c).before 9 t d))) := by
  obtain ⟨e0, e1, e2, e3, e4, e5, e6⟩ := befores m c t
  unfold pre Bufs.ins
  simp only [e0, e1, e2, e3, e4, e5, e6]
  iintro ⟨Hi, Ho, ⟨%d0, H0⟩, ⟨%d1, H1⟩, ⟨%d2, H2⟩, ⟨%d3, H3⟩, ⟨%d4, H4⟩, ⟨%d5, H5⟩, ⟨%d6, H6⟩, H7, H8, H9⟩
  isplitl [Hi]; · iexact Hi
  isplitl [Ho]; · iexact Ho
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  iexact H9

set_option maxHeartbeats 4000000 in
/-- The body at any point does what the proof data say. -/
theorem sound (c : Dev nD) (t : Fin cfg0.N) :
    pre m c t ⊢ wp frame (wpE (defs₀ (F := F)) Variants.none c none) Set.univ (bodyAt0 t) (fun _ => post m c t) := by
  have hN : t.val < 65 := lt_of_lt_of_eq t.isLt (show cfg0.N = 65 from N_0)
  refine (pre_ins m c t).trans ?_
  rw [show (dats m 0 c).Φ t.castSucc = Inv m c t.val t.isLt.le from rfl]
  show _ ⊢ wp frame (wpE (defs₀ (F := F)) Variants.none c none) Set.univ ((bufs t).run (grid0.coords t)) (fun _ => post m c t)
  by_cases h : t.val = 0
  · rw [show Inv m c t.val t.isLt.le = iprop((∃ d, owns (c : Thread nD τ) carryBuf fullShare d) ∗ (∃ r, prngReg c r)) from by
      rw [← Inv_zero]; obtain ⟨n, hn⟩ := t; obtain rfl : n = 0 := h; rfl]
    obtain ⟨k7, k8, k9, ks⟩ := first_covers c (grid0.coords t) (bufs t) (blocks m c t) ((first_iff t).2 h) ((queries_iff t).2 (by omega))
      (fun e => by have := (last_iff t).1 e; omega)
    iintro ⟨⟨Hs, Hg⟩, Ho, Hx, ⟨%d7, H7⟩, ⟨%d8, H8⟩, ⟨%d9, H9⟩⟩
    iapply ((first m c t h).property Set.univ fun _ => post m c t)
    isplitl [Hx]; · iexact Hx
    isplitl [H7]; · iexists _; iexact H7
    isplitl [H8]; · iexists _; iexact H8
    isplitl [H9]; · iexists _; iexact H9
    isplitl [Hs]; · iexact Hs
    iintro ⟨Hx, H7, H8, H9, Hs⟩
    iapply (post_of m c t)
    rw [outs_first m c t h]
    isplitl [Hs Hg]
    · isplitl [Hs]; · iapply (owns_left c _ carryBuf _ ks); iexact Hs
      iexact Hg
    isplitl [Ho]; · iexact Ho
    isplitl [Hx]; · iexact Hx
    isplitl [H7]; · iapply (owns_left c _ dqBuf _ k7); iexact H7
    isplitl [H8]; · iapply (owns_left c _ dkvBuf _ k8); iexact H8
    iapply (owns_left c _ dsinkBuf _ k9); iexact H9
  · rw [Inv_pos m c t h]
    simp only [before9 m c t h]
    by_cases h' : t.val < 64
    · obtain ⟨k7, k8, k9, ks⟩ := later_covers c (grid0.coords t) (bufs t) (blocks m c t) (fun e => h ((first_iff t).1 e)) ((queries_iff t).2 h')
        (fun e => by have := (last_iff t).1 e; omega) (outsAt m c (before t)).dsink (outsAt m c (before t)).carry
      iintro ⟨⟨Hs, Hg⟩, Ho, Hx, ⟨%d7, H7⟩, ⟨%d8, H8⟩, ⟨%d9, H9⟩⟩
      iapply ((later m c t h h' (outsAt m c (before t))).property Set.univ fun _ => post m c t)
      isplitl [Hx]; · iexact Hx
      isplitl [H7]; · iexists _; iexact H7
      isplitl [H8]; · iexists _; iexact H8
      isplitl [H9]; · iexact H9
      isplitl [Hs]; · iexact Hs
      iintro ⟨Hx, H7, H8, H9, Hs⟩
      iapply (post_of m c t)
      rw [outs_later m c t h h']
      isplitl [Hs Hg]
      · isplitl [Hs]; · iapply (owns_left c _ carryBuf _ ks); iexact Hs
        iexact Hg
      isplitl [Ho]; · iexact Ho
      isplitl [Hx]; · iexact Hx
      isplitl [H7]; · iapply (owns_left c _ dqBuf _ k7); iexact H7
      isplitl [H8]; · iapply (owns_left c _ dkvBuf _ k8); iexact H8
      iapply (owns_left c _ dsinkBuf _ k9); iexact H9
    · have h'' : t.val = 64 := by omega
      simp only [before7 m c t h'']
      iintro ⟨⟨Hs, Hg⟩, Ho, Hx, ⟨%d7, H7⟩, ⟨%d8, H8⟩, ⟨%d9, H9⟩⟩
      iapply ((last m c t h'' (outsAt m c (before t))).property Set.univ fun _ => post m c t)
      isplitl [Hx]; · iexact Hx
      isplitl [H8]; · iexists _; iexact H8
      isplitl [Hs]; · iexact Hs
      iintro ⟨Hx, H8, Hs⟩
      iapply (post_of m c t)
      rw [outs_last m c t h'']
      isplitl [Hs Hg]
      · isplitl [Hs]; · iexact Hs
        iexact Hg
      isplitl [Ho]; · iexact Ho
      isplitl [Hx]; · iexact Hx
      isplitl [H7]; · iexact H7
      isplitl [H8]; · iapply (owns_left c _ dkvBuf _ (last_covers c _ _ _ _ _ _ _)); iexact H8
      iexact H9

theorem body (c : Dev nD) : Pipeline.BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  have hn : 64 < cfg0.N := by have : cfg0.N = 65 := N_0; omega
  rw [show (dats m 0 c).Φ (Fin.last cfg0.N)
    = iprop(owns (c : Thread nD τ) carryBuf fullShare (outs m c 64 hn).carry ∗ (∃ r, prngReg c r)) from rfl, Inv_zero]
  iintro ⟨Hs, Hg⟩
  isplitl [Hs]; · iexists _; iexact Hs
  iexact Hg

set_option backward.isDefEq.respectTransparency.types false in
/-- The program ends with the pipeline's arrays at what the proof data make of them, every other buffer as the kernel
    found it, and no count left on a semaphore. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl) (howed := fun _ _ => rfl) (V := V m)
    (hmain := hmain m Variants.none) (hA := A_eq m) (hin := enter m) (hout := leave m)

/-- The arguments are as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.AttnIdeal.Body

end
-- ==== Proof.AttnTiles.lean ====
/- The attention gradient's kernel on one block of queries, written per head, and the run's stores as these functions. -/
module

public import proofs.«01_k».proof.Proof.AttnFrame

@[expose] public section

set_option maxRecDepth 65536

noncomputable section

namespace Cert.AttnIdeal.Body

open Idealize.ShloMosaic Idealize.ShloMosaic.TcCoe Idealize.ShloMosaic.Tactic
open Cert.AttnIdeal.Gen

variable {F : FTy → Type} [FloatOps F]

/-! ## What the body loads -/

theorem inWide (j : Fin 8) : ∀ a, (![0, 128 * j.val] : Fin 2 → ℕ) a + S128x128.size a ≤ S128x1024.size a := by
  revert j; decide

theorem inNarrow (j : Fin 2) : ∀ a, (![0, 128 * j.val] : Fin 2 → ℕ) a + S128x128.size a ≤ S128x256.size a := by
  revert j; decide

theorem inLse (h : Fin 16) : ∀ a, (![0, h.val] : Fin 2 → ℕ) a + S128x1.size a ≤ S128x16.size a := by
  revert h; decide

theorem inSink (h : Fin 16) : ∀ a, (![0, h.val] : Fin 2 → ℕ) a + S1x1.size a ≤ S1x16.size a := by
  revert h; decide

/-- The tiles one block's work reads: 128 columns (two heads) of queries, cotangent and result at a time, the keys' and
    the values' tile of this and of the previous block, a column of logarithms and a sink per head. -/
structure Tiles (F : FTy → Type) where
  q : Fin 8 → Vec F S128x128 .bf16
  cur : Fin 2 → Vec F S128x128 .bf16
  prev : Fin 2 → Vec F S128x128 .bf16
  ct : Fin 8 → Vec F S128x128 .bf16
  out : Fin 8 → Vec F S128x128 .bf16
  lse : Fin 16 → Vec F S128x1 .f32
  sink : Fin 16 → Elt F .f32

/-- The tiles as loaded from the buffers. -/
def loaded (B : Bufs) (x : Ins F) : Tiles F where
  q j := B.q.view.readAt (Elt F) (Rect.unit (s := S128x1024) ![0, 128 * j.val] S128x128.size (inWide j)).toLoadRect (B.hq.unread x.q)
  cur j := B.cur.view.readAt (Elt F) (Rect.unit (s := S128x256) ![0, 128 * j.val] S128x128.size (inNarrow j)).toLoadRect (B.hcur.unread x.cur)
  prev j := B.prev.view.readAt (Elt F) (Rect.unit (s := S128x256) ![0, 128 * j.val] S128x128.size (inNarrow j)).toLoadRect (B.hprev.unread x.prev)
  ct j := B.ct.view.readAt (Elt F) (Rect.unit (s := S128x1024) ![0, 128 * j.val] S128x128.size (inWide j)).toLoadRect (B.hct.unread x.ct)
  out j := B.out.view.readAt (Elt F) (Rect.unit (s := S128x1024) ![0, 128 * j.val] S128x128.size (inWide j)).toLoadRect (B.hout.unread x.out)
  lse h := B.lse.view.readAt (Elt F) (Rect.unit (s := S128x16) ![0, h.val] S128x1.size (inLse h)).toLoadRect (B.hlse.unread x.lse)
  sink h := B.sink.view.readAt (Elt F) (Rect.unit (s := S1x16) ![0, h.val] S1x1.size (inSink h)).toLoadRect (B.hsink.unread x.sink)
    (Shape.Idx.first (numel1_S1x1.symm ▸ Nat.one_pos))

/-- The tiles of the inputs' contents. -/
def tilesOf (x : Ins F) : Tiles F where
  q j := View.ld x.q (Rect.unit (s := S128x1024) ![0, 128 * j.val] S128x128.size (inWide j))
  cur j := View.ld x.cur (Rect.unit (s := S128x256) ![0, 128 * j.val] S128x128.size (inNarrow j))
  prev j := View.ld x.prev (Rect.unit (s := S128x256) ![0, 128 * j.val] S128x128.size (inNarrow j))
  ct j := View.ld x.ct (Rect.unit (s := S128x1024) ![0, 128 * j.val] S128x128.size (inWide j))
  out j := View.ld x.out (Rect.unit (s := S128x1024) ![0, 128 * j.val] S128x128.size (inWide j))
  lse h := View.ld x.lse (Rect.unit (s := S128x16) ![0, h.val] S128x1.size (inLse h))
  sink h := View.ld x.sink (Rect.unit (s := S1x16) ![0, h.val] S1x1.size (inSink h)) (Shape.Idx.first (numel1_S1x1.symm ▸ Nat.one_pos))

theorem loaded_eq (B : Bufs) (x : Ins F) : loaded B x = tilesOf x := by
  unfold loaded tilesOf
  congr 1 <;> funext j <;>
    simp only [View.readAt_eq_ld, B.hq.read_unread, B.hcur.read_unread, B.hprev.read_unread, B.hct.read_unread,
      B.hout.read_unread, B.hlse.read_unread, B.hsink.read_unread]

/-! ## The work on one block -/

/-- The lanes of the first of a pair of heads. -/
abbrev lane : IVec S128x128 1 := cmpi .slt (iota .tc S128x128 32 [1] iota_S128x128_d1_w32) (broadcast S128x128 64#32)

abbrev none16 : FVec F S128x128 .bf16 := broadcast S128x128 (Scalar.ofBits .bf16 0x0000#16)

/-- A tile as it is loaded. -/
abbrev same {e : EltTy} (v : Vec F S128x128 e) : Vec F S128x128 e := shapeCast S128x128 v shapeCasts_S128x128_S128x128

/-- The two halves of the lanes exchanged. -/
def swap (v : FVec F S128x128 .bf16) : FVec F S128x128 .bf16 :=
  truncf .bf16 (dynamicRotate 1 64#32 none (extf .f32 v bitsLt_bf16_f32) rotates_S128x128_d1) bitsLt_bf16_f32

/-- A key head's (or a value head's) 64 lanes, on both halves of the lanes. -/
def twice (kv : Fin 2) (v : Vec F S128x128 .bf16) : FVec F S128x128 .bf16 :=
  match kv with
  | 0 => select lane (same v) (swap (same v))
  | 1 => select lane (swap (same v)) (same v)

/-- The same on one half of the lanes, the other half empty. -/
def once (kv side : Fin 2) (v : Vec F S128x128 .bf16) : FVec F S128x128 .bf16 :=
  match kv, side with
  | 0, 0 => select lane (same v) none16
  | 0, 1 => select lane none16 (swap (same v))
  | 1, 0 => select lane (swap (same v)) none16
  | 1, 1 => select lane none16 (same v)

/-- The band of keys: the previous block's rows, then this block's. -/
def onBand (p c : FVec F S128x128 .bf16) : FVec F S256x128 .bf16 :=
  concatenate S256x128 0 [⟨S128x128, p⟩, ⟨S128x128, c⟩] concatenates_S128x128_S128x128_S256x128_d0

/-- Eight heads' rows under one another, each on its own half of the lanes. -/
def stack (v : Fin 4 → FVec F S128x128 .bf16) : FVec F S1024x128 .bf16 :=
  concatenate S1024x128 0 [⟨S128x128, select lane (v 0) none16⟩, ⟨S128x128, select lane none16 (v 0)⟩,
    ⟨S128x128, select lane (v 1) none16⟩, ⟨S128x128, select lane none16 (v 1)⟩,
    ⟨S128x128, select lane (v 2) none16⟩, ⟨S128x128, select lane none16 (v 2)⟩,
    ⟨S128x128, select lane (v 3) none16⟩, ⟨S128x128, select lane none16 (v 3)⟩]
    concatenates_S128x128_S128x128_S128x128_S128x128_S128x128_S128x128_S128x128_S128x128_S1024x128_d0

/-- The tile that holds the `pr`-th pair of heads of the key head `kv`. -/
abbrev pairOf (kv : Fin 2) (pr : Fin 4) : Fin 8 := ⟨4 * kv.val + pr.val, by omega⟩

/-- The `g`-th head of the key head `kv`. -/
abbrev headOf (kv : Fin 2) (g : Fin 8) : Fin 16 := ⟨8 * kv.val + g.val, by omega⟩

variable (T : Tiles F) (a : BitVec 32)

def queries (kv : Fin 2) : FVec F S1024x128 .bf16 :=
  stack fun pr => mulf (same (T.q (pairOf kv pr))) (broadcast S128x128 (Scalar.ofBits .bf16 0x3E00#16))

def cotangents (kv : Fin 2) : FVec F S1024x128 .bf16 := stack fun pr => same (T.ct (pairOf kv pr))

/-- All of a key head's products of queries and keys. -/
def products (kv : Fin 2) : FVec F S1024x256 .f32 :=
  matmul dot_S1024x128_S256x128_S1024x256_1_1_0_0_n_n none (queries T kv) (onBand (twice kv (T.prev 0)) (twice kv (T.cur 0)))
    (constant S1024x256 .f32 0x00000000#32)

/-- All of its products of cotangents and values. -/
def valueProducts (kv : Fin 2) : FVec F S1024x256 .f32 :=
  matmul dot_S1024x128_S256x128_S1024x256_1_1_0_0_n_n none (cotangents T kv) (onBand (twice kv (T.prev 1)) (twice kv (T.cur 1)))
    (constant S1024x256 .f32 0x00000000#32)

theorem inProducts (g : Fin 8) : S1024x256.Slices ![128 * g.val, 0] S128x128 ∧ S1024x256.Slices ![128 * g.val, 128] S128x128 := by
  revert g; decide

/-- One head's rows, folded: of the two keys 128 rows apart the one within the window. -/
def folded (t : FVec F S1024x256 .f32) (g : Fin 8) : FVec F S128x128 .f32 :=
  select k0_pay6 (extractStridedSlice S128x128 ![128 * g.val, 0] t (inProducts g).1)
    (extractStridedSlice S128x128 ![128 * g.val, 128] t (inProducts g).2)

/-- The opposite of `folded`. -/
def unfolded (v : FVec F S128x128 .bf16) : FVec F S128x256 .bf16 :=
  concatenate S128x256 1 [⟨S128x128, select k0_pay6 v none16⟩, ⟨S128x128, select k0_pay6 none16 v⟩] concatenates_S128x128_S128x128_S128x256_d1

/-- The slopes' words. -/
def slopeBits : Fin 16 → BitVec 32 :=
  ![0x3F3504F3#32, 0x3F000000#32, 0x3EB504F3#32, 0x3E800000#32, 0x3E3504F3#32, 0x3E000000#32, 0x3DB504F3#32, 0x3D800000#32,
    0x3D3504F3#32, 0x3D000000#32, 0x3CB504F3#32, 0x3C800000#32, 0x3C3504F3#32, 0x3C000000#32, 0x3BB504F3#32, 0x3B800000#32]

abbrev column (v : Vec F S128x1 .f32) : Vec F S128x1 .f32 := shapeCast S128x1 v shapeCasts_S128x1_S128x1

/-- The softmax's weights of one head. -/
def weights (kv : Fin 2) (g : Fin 8) : FVec F S128x128 .f32 :=
  exp (subf (addf (subf (folded (products T kv) g)
      (mulf (broadcast S128x128 (Scalar.ofBits .f32 (slopeBits (headOf kv g)))) k0_pay7)) (k0_pay8 a))
    (broadcastTo S128x128 (column (T.lse (headOf kv g))) broadcasts_S128x1_S128x128))

/-- A pair's products of cotangent and result, lane by lane. -/
def laneProducts (P : Fin 8) : FVec F S128x128 .f32 :=
  mulf (extf .f32 (same (T.ct P)) bitsLt_bf16_f32) (extf .f32 (same (T.out P)) bitsLt_bf16_f32)

/-- One half of the lanes of these, summed. -/
def halfSum (side : Fin 2) (v : FVec F S128x128 .f32) : FVec F S128x1 .f32 :=
  shapeCast S128x1 (multiReduction .add [1] S128
    (match side with
      | 0 => select lane v (broadcast S128x128 (Scalar.ofBits .f32 0x00000000#32))
      | 1 => select lane (broadcast S128x128 (Scalar.ofBits .f32 0x00000000#32)) v)
    0x00000000#32 reduces_S128x128_S128 (.inl rfl) rfl) shapeCasts_S128_S128x1

/-- The products of cotangent and result of one head, summed over its lanes. -/
def delta (h : Fin 16) : FVec F S128x1 .f32 :=
  halfSum ⟨h.val % 2, Nat.mod_lt _ Nat.two_pos⟩ (laneProducts T ⟨h.val / 2, by omega⟩)

/-- The scores' gradient of one head. -/
def dscores (kv : Fin 2) (g : Fin 8) : FVec F S128x128 .bf16 :=
  truncf .bf16 (mulf (weights T a kv g) (subf (folded (valueProducts T kv) g)
    (broadcastTo S128x128 (delta T (headOf kv g)) broadcasts_S128x1_S128x128))) bitsLt_bf16_f32

/-- One head's part of its pair's query gradient. -/
def dqueryPart (kv : Fin 2) (pr : Fin 4) (side : Fin 2) : FVec F S128x128 .f32 :=
  matmul dot_S128x256_S256x128_S128x128_1_0_0_1_n_n none (unfolded (dscores T a kv ⟨2 * pr.val + side.val, by omega⟩))
    (onBand (once kv side (T.prev 0)) (once kv side (T.cur 0))) (constant S128x128 .f32 0x00000000#32)

/-- The query gradient of a pair of heads. -/
def dquery (P : Fin 8) : FVec F S128x128 .bf16 :=
  let kv : Fin 2 := ⟨P.val / 4, by omega⟩
  let pr : Fin 4 := ⟨P.val % 4, by omega⟩
  truncf .bf16 (mulf (addf (dqueryPart T a kv pr 0) (dqueryPart T a kv pr 1))
    (broadcast S128x128 (Scalar.ofBits .f32 0x3E000000#32))) bitsLt_bf16_f32

/-- The heads' gradients under one another. -/
def under (v : Fin 8 → FVec F S128x256 .bf16) : FVec F S1024x256 .bf16 :=
  concatenate S1024x256 0 [⟨S128x256, v 0⟩, ⟨S128x256, v 1⟩, ⟨S128x256, v 2⟩, ⟨S128x256, v 3⟩, ⟨S128x256, v 4⟩, ⟨S128x256, v 5⟩,
    ⟨S128x256, v 6⟩, ⟨S128x256, v 7⟩]
    concatenates_S128x256_S128x256_S128x256_S128x256_S128x256_S128x256_S128x256_S128x256_S1024x256_d0

/-- The products of a stack and of such gradients, on both halves of the lanes. -/
def gathered (s : FVec F S1024x128 .bf16) (d : FVec F S1024x256 .bf16) : FVec F S256x128 .f32 :=
  let t := transpose S256x128 [1, 0] (matmul dot_S1024x128_S1024x256_S128x256_0_0_1_1_n_n none s d
    (constant S128x256 .f32 0x00000000#32)) transposes_S128x256_p1_0_S256x128
  addf t (dynamicRotate 1 64#32 none t rotates_S256x128_d1)

/-- Two key heads' gradients side by side. -/
def beside (u v : FVec F S256x128 .f32) : FVec F S256x128 .f32 :=
  select (concatenate S256x128 0 [⟨S128x128, lane⟩, ⟨S128x128, lane⟩] concatenates_S128x128_S128x128_S256x128_d0) u v

/-- The keys' gradient on the band, and the values'. -/
def dband (which : Fin 2) : FVec F S256x128 .f32 :=
  match which with
  | 0 => beside (gathered (queries T 0) (under fun g => unfolded (dscores T a 0 g)))
      (gathered (queries T 1) (under fun g => unfolded (dscores T a 1 g)))
  | 1 => beside (gathered (cotangents T 0) (under fun g => unfolded (truncf .bf16 (weights T a 0 g) bitsLt_bf16_f32)))
      (gathered (cotangents T 1) (under fun g => unfolded (truncf .bf16 (weights T a 1 g) bitsLt_bf16_f32)))

/-- What the block adds to one sink's gradient. -/
def dsinkStep (h : Fin 16) : FVec F S1x1 .f32 :=
  subf (broadcast S1x1 (Scalar.ofBits .f32 0x00000000#32))
    (shapeCast S1x1 (multiReduction .add [0] S1 (mulf (exp (subf (broadcast S128x1 (T.sink h)) (column (T.lse h)))) (delta T h))
      0x00000000#32 reduces_S128x1_S1 (.inl rfl) rfl) shapeCasts_S1_S1x1)

/-! ## The stores -/

/-- The stores of the queries' gradient. -/
def dqStores : List (View.Piece (Elt F) S128x1024 .bf16) :=
  List.ofFn fun j : Fin 8 => ⟨Rect.unit (s := S128x1024) ![0, 128 * j.rev.val] S128x128.size (inWide j.rev), dquery T a j.rev⟩

/-- The stores of the keys' and the values', onto what is carried. -/
def dkvStores (carried : Fin 2 → Vec F S128x128 .f32) : List (View.Piece (Elt F) S128x256 .bf16) :=
  List.ofFn fun j : Fin 2 => ⟨Rect.unit (s := S128x256) ![0, 128 * j.rev.val] S128x128.size (inNarrow j.rev),
    truncf .bf16 (addf (carried j.rev) (extractStridedSlice S128x128 ![0, 0] (dband T a j.rev) slices_S256x128_o0_0_S128x128)) bitsLt_bf16_f32⟩

/-- The stores of what is carried on. -/
def carryStores : List (View.Piece (Elt F) S128x256 .f32) :=
  List.ofFn fun j : Fin 2 => ⟨Rect.unit (s := S128x256) ![0, 128 * j.rev.val] S128x128.size (inNarrow j.rev),
    same (extractStridedSlice S128x128 ![128, 0] (dband T a j.rev) slices_S256x128_o128_0_S128x128)⟩

/-- The stores of the sinks', onto what is there. -/
def dsinkStores (sofar : Fin 16 → Vec F S1x1 .f32) : List (View.Piece (Elt F) S1x16 .f32) :=
  List.ofFn fun h : Fin 16 => ⟨Rect.unit (s := S1x16) ![0, h.rev.val] S1x1.size (inSink h.rev),
    addf (shapeCast S1x1 (sofar h.rev) shapeCasts_S1x1_S1x1) (dsinkStep T h.rev)⟩

/-- The point's word the body compares with zero. -/
abbrev word (i : grid0.Coords) : BitVec 32 := BitVec.ofNat 32 (i 0).val

section Runs
variable (c : Dev nD) (i : grid0.Coords) (B : Bufs) (x : Ins F)

theorem later_dq (hc0 hc1 hc2) (sofar : Vec F S1x16 .f32) (carried : Vec F S128x256 .f32) :
    (laterRun c i B hc0 hc1 hc2 x sofar carried).val.dq = dqStores (loaded B x) (word i) := by
  sl_kernel_rfl

theorem later_dkv (hc0 hc1 hc2) (sofar : Vec F S1x16 .f32) (carried : Vec F S128x256 .f32) :
    (laterRun c i B hc0 hc1 hc2 x sofar carried).val.dkv = dkvStores (loaded B x) (word i) fun j =>
      B.carry.view.readAt (Elt F) (Rect.unit (s := S128x256) ![0, 128 * j.val] S128x128.size (inNarrow j)).toLoadRect (B.hcarry.unread carried) := by
  sl_kernel_rfl

theorem later_carry (hc0 hc1 hc2) (sofar : Vec F S1x16 .f32) (carried : Vec F S128x256 .f32) :
    (laterRun c i B hc0 hc1 hc2 x sofar carried).val.carry = carryStores (loaded B x) (word i) := by
  sl_kernel_rfl

theorem later_dsink (hc0 hc1 hc2) (sofar : Vec F S1x16 .f32) (carried : Vec F S128x256 .f32) :
    (laterRun c i B hc0 hc1 hc2 x sofar carried).val.dsink = dsinkStores (loaded B x) fun h =>
      B.dsink.view.readAt (Elt F) (Rect.unit (s := S1x16) ![0, h.val] S1x1.size (inSink h)).toLoadRect (B.hdsink.unread sofar) := by
  sl_kernel_rfl

/-- The stores of the sinks' gradients at the first point, onto the zeros stored before them: the first `n` heads. -/
def sinkStores (B : Bufs) (T : Tiles F) : (n : ℕ) → n ≤ 16 → List (View.Piece (Elt F) S1x16 .f32)
  | 0, _ => [⟨Rect.unit (s := S1x16) ![0, 0] S1x16.size inb_S1x16_S1x16_0_0, k0_pay1⟩]
  | n + 1, hn =>
    ⟨Rect.unit (s := S1x16) ![0, n] S1x1.size (inSink ⟨n, hn⟩),
      addf (shapeCast S1x1 (B.dsink.view.readCov (sinkStores B T n (Nat.le_of_succ_le hn))
        (Rect.unit (s := S1x16) ![0, n] S1x1.size (inSink ⟨n, hn⟩)).toLoadRect) shapeCasts_S1x1_S1x1) (dsinkStep T ⟨n, hn⟩)⟩
      :: sinkStores B T n (Nat.le_of_succ_le hn)

abbrev zeros : List (View.Piece (Elt F) S128x256 .f32) := [⟨Rect.unit (s := S128x256) ![0, 0] S128x256.size inb_S128x256_S128x256_0_0, k0_pay2⟩]

theorem first_dq (hc0 hc1 hc2) : (firstRun c i B hc0 hc1 hc2 x).val.dq = dqStores (loaded B x) (word i) := by
  sl_kernel_rfl

theorem first_dkv (hc0 hc1 hc2) :
    (firstRun c i B hc0 hc1 hc2 x).val.dkv = dkvStores (loaded B x) (word i) fun j =>
      B.carry.view.readCov zeros (Rect.unit (s := S128x256) ![0, 128 * j.val] S128x128.size (inNarrow j)).toLoadRect := by
  sl_kernel_rfl

theorem first_carry (hc0 hc1 hc2) : (firstRun c i B hc0 hc1 hc2 x).val.carry = carryStores (loaded B x) (word i) ++ zeros := by
  sl_kernel_rfl

theorem first_dsink (hc0 hc1 hc2) : (firstRun c i B hc0 hc1 hc2 x).val.dsink = sinkStores B (loaded B x) 16 le_rfl := by
  sl_kernel_rfl

theorem last_dkv (hc0 hc1 hc2) (carried : Vec F S128x256 .f32) : (lastRun c i B hc0 hc1 hc2 x carried).val
    = [⟨Rect.unit (s := S128x256) ![0, 0] S128x256.size inb_S128x256_S128x256_0_0,
      truncf .bf16 (B.carry.view.readAt (Elt F) (Rect.unit (s := S128x256) ![0, 0] S128x256.size inb_S128x256_S128x256_0_0).toLoadRect
        (B.hcarry.unread carried)) bitsLt_bf16_f32⟩] := by
  sl_kernel_rfl

end Runs

end Cert.AttnIdeal.Body

end
-- ==== Proof.AttnContents.lean ====
/- What the attention gradient's kernel leaves in its results, read at an index. -/
module

public import proofs.«01_k».proof.Proof.AttnTiles
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Body

open Idealize.ShloMosaic Idealize.ShloMosaic.TcCoe Idealize.ShloMosaic.Tactic
open Cert.AttnIdeal.Gen

/-! ## Lists of tiles -/

/-- The tile a column lies in, and its place there. -/
abbrev tileOf {n : ℕ} (x : Fin (128 * n)) : Fin n := ⟨x.val / 128, by omega⟩
abbrev laneOf {n : ℕ} (x : Fin (128 * n)) : Fin 128 := ⟨x.val % 128, by omega⟩

theorem wide_tiles {e : EltTy} (P : Fin 8 → Vec Ideal S128x128 e) (r : Fin 128) (x : Fin 1024) :
    View.canon (Val := Elt Ideal) (List.ofFn fun j : Fin 8 =>
      (⟨Rect.unit (s := S128x1024) ![0, 128 * j.rev.val] S128x128.size (inWide j.rev), P j.rev⟩ : View.Piece (Elt Ideal) S128x1024 e))
      (ix2 r x) = P (tileOf (n := 8) x) (ix2 r (laneOf (n := 8) x)) := by
  refine View.canon_ofFn_unit_eq_of_forall (Val := Elt Ideal) (S := S128x1024) (fun j : Fin 8 => ![0, 128 * j.rev.val]) S128x128.size (fun j => inWide j.rev)
    (fun j => P j.rev) (ix2 r x) _ ⟨(tileOf (n := 8) x).rev, ?_⟩ fun j u hu => ?_
  · intro a
    match a with
    | ⟨0, _⟩ => exact ⟨Nat.zero_le _, by show r.val < 0 + 128; omega⟩
    | ⟨1, _⟩ =>
      rw [Fin.rev_rev]
      exact ⟨by show 128 * (x.val / 128) ≤ x.val; omega, by show x.val < 128 * (x.val / 128) + 128; omega⟩
  · have h0 : r.val = 0 + (u 0).val := hu 0
    have h1 : x.val = 128 * j.rev.val + (u 1).val := hu 1
    have hu1 : (u 1).val < 128 := (u 1).isLt
    have e : j.rev = tileOf (n := 8) x := Fin.ext (by show j.rev.val = x.val / 128; omega)
    show P j.rev u = _
    rw [e]
    congr 1
    funext a
    match a with
    | ⟨0, _⟩ => exact Fin.ext (by show (u 0).val = r.val; omega)
    | ⟨1, _⟩ => exact Fin.ext (by show (u 1).val = x.val % 128; omega)

theorem narrow_tiles {e : EltTy} (P : Fin 2 → Vec Ideal S128x128 e) (r : Fin 128) (x : Fin 256) :
    View.canon (Val := Elt Ideal) (List.ofFn fun j : Fin 2 =>
      (⟨Rect.unit (s := S128x256) ![0, 128 * j.rev.val] S128x128.size (inNarrow j.rev), P j.rev⟩ : View.Piece (Elt Ideal) S128x256 e))
      (ix2 r x) = P (tileOf (n := 2) x) (ix2 r (laneOf (n := 2) x)) := by
  refine View.canon_ofFn_unit_eq_of_forall (Val := Elt Ideal) (S := S128x256) (fun j : Fin 2 => ![0, 128 * j.rev.val]) S128x128.size (fun j => inNarrow j.rev)
    (fun j => P j.rev) (ix2 r x) _ ⟨(tileOf (n := 2) x).rev, ?_⟩ fun j u hu => ?_
  · intro a
    match a with
    | ⟨0, _⟩ => exact ⟨Nat.zero_le _, by show r.val < 0 + 128; omega⟩
    | ⟨1, _⟩ =>
      rw [Fin.rev_rev]
      exact ⟨by show 128 * (x.val / 128) ≤ x.val; omega, by show x.val < 128 * (x.val / 128) + 128; omega⟩
  · have h0 : r.val = 0 + (u 0).val := hu 0
    have h1 : x.val = 128 * j.rev.val + (u 1).val := hu 1
    have hu1 : (u 1).val < 128 := (u 1).isLt
    have e : j.rev = tileOf (n := 2) x := Fin.ext (by show j.rev.val = x.val / 128; omega)
    show P j.rev u = _
    rw [e]
    congr 1
    funext a
    match a with
    | ⟨0, _⟩ => exact Fin.ext (by show (u 0).val = r.val; omega)
    | ⟨1, _⟩ => exact Fin.ext (by show (u 1).val = x.val % 128; omega)

theorem single_tiles (P : Fin 16 → Vec Ideal S1x1 .f32) (z : Fin 1) (h : Fin 16) :
    View.canon (Val := Elt Ideal) (List.ofFn fun j : Fin 16 =>
      (⟨Rect.unit (s := S1x16) ![0, j.rev.val] S1x1.size (inSink j.rev), P j.rev⟩ : View.Piece (Elt Ideal) S1x16 .f32))
      (ix2 z h) = P h (ix2 0 0) := by
  refine View.canon_ofFn_unit_eq_of_forall (Val := Elt Ideal) (S := S1x16) (fun j : Fin 16 => ![0, j.rev.val]) S1x1.size (fun j => inSink j.rev)
    (fun j => P j.rev) (ix2 z h) _ ⟨h.rev, ?_⟩ fun j u hu => ?_
  · intro a
    match a with
    | ⟨0, _⟩ => exact ⟨Nat.zero_le _, by show z.val < 0 + 1; omega⟩
    | ⟨1, _⟩ =>
      rw [Fin.rev_rev]
      exact ⟨by show h.val ≤ h.val; omega, by show h.val < h.val + 1; omega⟩
  · have h1 : h.val = j.rev.val + (u 1).val := hu 1
    have hu0 : (u 0).val < 1 := (u 0).isLt
    have hu1 : (u 1).val < 1 := (u 1).isLt
    have e : j.rev = h := Fin.ext (by omega)
    show P j.rev u = _
    rw [e]
    congr 1
    funext a
    match a with
    | ⟨0, _⟩ => exact Fin.ext (by show (u 0).val = 0; omega)
    | ⟨1, _⟩ => exact Fin.ext (by show (u 1).val = 0; omega)

/-! ## Contents of the stores -/

variable (T : Tiles Ideal) (a : BitVec 32)

/-- The queries' gradient of a block. -/
def dqueries (r : Fin 128) (x : Fin 1024) : Ideal .bf16 := dquery T a (tileOf (n := 8) x) (ix2 r (laneOf (n := 8) x))

theorem dqStores_apply (r : Fin 128) (x : Fin 1024) : View.canon (Val := Elt Ideal) (dqStores T a) (ix2 r x) = dqueries T a r x :=
  wide_tiles (e := .bf16) (fun j => dquery T a j) r x

/-- The band of the keys' and values' gradients, its upper rows and its lower. -/
def above (r : Fin 128) (x : Fin 256) : Ideal .f32 := dband T a (tileOf (n := 2) x) (ix2 ⟨r.val, by omega⟩ (laneOf (n := 2) x))
def below (r : Fin 128) (x : Fin 256) : Ideal .f32 := dband T a (tileOf (n := 2) x) (ix2 ⟨128 + r.val, by omega⟩ (laneOf (n := 2) x))

theorem carryStores_apply (r : Fin 128) (x : Fin 256) : View.canon (Val := Elt Ideal) (carryStores T a) (ix2 r x) = below T a r x := by
  unfold carryStores below
  generalize dband T a = D
  refine (narrow_tiles (e := .f32)
    (fun j => same (e := .f32) (extractStridedSlice S128x128 ![128, 0] (D j) slices_S256x128_o128_0_S128x128)) r x).trans ?_
  generalize D (tileOf (n := 2) x) = v
  pointwise

theorem dkvStores_apply (carried : Fin 2 → FVec Ideal S128x128 .f32) (r : Fin 128) (x : Fin 256) :
    View.canon (Val := Elt Ideal) (dkvStores T a carried) (ix2 r x)
      = carried (tileOf (n := 2) x) (ix2 r (laneOf (n := 2) x)) + above T a r x := by
  unfold dkvStores above
  generalize dband T a = D
  refine (narrow_tiles (e := .bf16) (fun j => truncf .bf16 (addf (carried j)
    (extractStridedSlice S128x128 ![0, 0] (D j) slices_S256x128_o0_0_S128x128)) bitsLt_bf16_f32) r x).trans ?_
  generalize D (tileOf (n := 2) x) = v
  generalize carried (tileOf (n := 2) x) = w
  pointwise

theorem dsinkStores_apply (sofar : Fin 16 → FVec Ideal S1x1 .f32) (z : Fin 1) (h : Fin 16) :
    View.canon (Val := Elt Ideal) (dsinkStores T sofar) (ix2 z h) = sofar h (ix2 0 0) + dsinkStep T h (ix2 0 0) := by
  refine (single_tiles (fun h => addf (shapeCast S1x1 (sofar h) shapeCasts_S1x1_S1x1) (dsinkStep T h)) z h).trans ?_
  generalize sofar h = v
  generalize dsinkStep T h = w
  pointwise

/-- Where the later stores cover, the earlier ones do not matter. -/
theorem canon_over {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_over L' y L ⟨q, hq, hy⟩

theorem carryFirst_apply (r : Fin 128) (x : Fin 256) :
    View.canon (Val := Elt Ideal) (carryStores T a ++ zeros) (ix2 r x) = below T a r x := by
  rw [← carryStores_apply]
  exact canon_over _ _ _ (View.cover_of_tiledL (Val := Elt Ideal) (s := S128x256) (e := .f32) (carryStores T a) S128x128.size (by sl_kernel_rfl) _)

theorem sum11 (v w : FVec Ideal S1x1 .f32) : addf (shapeCast S1x1 v shapeCasts_S1x1_S1x1) w (ix2 0 0) = v (ix2 0 0) + w (ix2 0 0) := by
  pointwise

theorem sinkStores_apply (B : Bufs) (z : Fin 1) (h : Fin 16) : ∀ (n : ℕ) (hn : n ≤ 16),
    View.canon (Val := Elt Ideal) (sinkStores B T n hn) (ix2 z h) = if h.val < n then 0 + dsinkStep T h (ix2 0 0) else 0
  | 0, _ => by
    rw [if_neg (Nat.not_lt_zero _)]
    unfold sinkStores
    rw [View.canon_cons_unit_lit' (Val := Elt Ideal) (S := S1x16) (e := .f32) _ _ _ (by decide)]
    pointwise [k0_pay1, Ideal.ofBits_zero_f32]
  | n + 1, hn => by
    have ih := sinkStores_apply B z h n (Nat.le_of_succ_le hn)
    by_cases e : h.val = n
    · rw [if_pos (by omega)]
      obtain rfl : h = ⟨n, hn⟩ := Fin.ext e
      have y : (ix2 z (⟨n, hn⟩ : Fin 16) : S1x16.Idx) = (Rect.unit (s := S1x16) ![0, n] S1x1.size (inSink ⟨n, hn⟩)).emb (ix2 0 0) := by
        funext i
        match i with
        | ⟨0, _⟩ => exact Fin.ext (by show z.val = 0 + 1 * 0; omega)
        | ⟨1, _⟩ => exact Fin.ext (by show n = n + 1 * 0; omega)
      unfold sinkStores
      rw [y, View.canon_cons_emb, View.readCov_eq_canon', sum11]
      congr 1
      show View.canon (Val := Elt Ideal) (sinkStores B T n _) ((Rect.unit (s := S1x16) ![0, n] S1x1.size (inSink ⟨n, hn⟩)).emb (ix2 0 0)) = 0
      rw [← y, ih, if_neg (Nat.lt_irrefl n)]
    · unfold sinkStores
      rw [View.canon_cons_of_not_mem, ih]
      · exact if_congr (by omega) rfl rfl
      · intro hm
        have k := (Rect.mem_set_unit (s := S1x16) (inb := inSink ⟨n, hn⟩)).mp hm 1
        have k1 : n ≤ h.val := k.1
        have k2 : h.val < n + 1 := k.2
        omega

/-! ## Contents after a point -/

variable (m : (ℓ : Loc nD τ sig) → Buf (Elt Ideal) ℓ) (c : Dev nD) (t : Fin cfg0.N)

/-- The tiles a point reads, and its number as a word. -/
abbrev tiles : Tiles Ideal := tilesOf (blocks m c t)
abbrev number : BitVec 32 := word (grid0.coords t)

theorem left_apply {sp : Space} {S : Shape} {e : EltTy} (A : Memref sig .tc sp S e) (L : List (View.Piece (Elt Ideal) S e)) (y : S.Idx) :
    left A L y = View.canon L y := by
  show A.view.read (Elt Ideal) (A.view.writes (Elt Ideal) A.view.junk L) y = _
  rw [View.read_writes_junk_eq_canon]

theorem dq_apply (S : Stores Ideal) (y) : S.outs.dq y = View.canon S.dq y := left_apply dqBuf S.dq y
theorem dkv_apply (S : Stores Ideal) (y) : S.outs.dkv y = View.canon S.dkv y := left_apply dkvBuf S.dkv y
theorem dsink_apply (S : Stores Ideal) (y) : S.outs.dsink y = View.canon S.dsink y := left_apply dsinkBuf S.dsink y
theorem carry_apply (S : Stores Ideal) (y) : S.outs.carry y = View.canon S.carry y := left_apply carryBuf S.carry y

theorem outs_dq (h : t.val < 64) (r : Fin 128) (x : Fin 1024) :
    (outsAt m c t).dq (ix2 r x) = dqueries (tiles m c t) (number t) r x := by
  by_cases h0 : t.val = 0
  · rw [outs_first m c t h0, dq_apply, first_dq, loaded_eq, dqStores_apply]
  · rw [outs_later m c t h0 h, dq_apply, later_dq, loaded_eq, dqStores_apply]

theorem outs_dq_last (h : t.val = 64) : (outsAt m c t).dq = (outsAt m c (before t)).dq := by rw [outs_last m c t h]

theorem outs_carry (h : t.val < 64) (r : Fin 128) (x : Fin 256) :
    (outsAt m c t).carry (ix2 r x) = below (tiles m c t) (number t) r x := by
  by_cases h0 : t.val = 0
  · rw [outs_first m c t h0, carry_apply, first_carry, loaded_eq, carryFirst_apply]
  · rw [outs_later m c t h0 h, carry_apply, later_carry, loaded_eq, carryStores_apply]

theorem place (r : Fin 128) (x : Fin 256) : (Rect.unit (s := S128x256) ![0, 128 * (tileOf (n := 2) x).val] S128x128.size
    (inNarrow (tileOf (n := 2) x))).idx (ix2 r (laneOf (n := 2) x)) = ix2 r x := by
  funext i
  match i with
  | ⟨0, _⟩ => exact Fin.ext (by show 0 + 1 * r.val = r.val; omega)
  | ⟨1, _⟩ => exact Fin.ext (by show 128 * (x.val / 128) + 1 * (x.val % 128) = x.val; omega)

theorem outs_dkv_first (h : t.val = 0) (r : Fin 128) (x : Fin 256) :
    (outsAt m c t).dkv (ix2 r x) = 0 + above (tiles m c t) (number t) r x := by
  rw [outs_first m c t h, dkv_apply, first_dkv, loaded_eq, dkvStores_apply, View.readCov_eq_canon']
  congr 1
  unfold zeros
  rw [View.canon_cons_unit_lit' (Val := Elt Ideal) (S := S128x256) (e := .f32) _ _ _ (by decide)]
  pointwise [k0_pay2, Ideal.ofBits_zero_f32]

theorem outs_dkv_later (h : t.val ≠ 0) (h' : t.val < 64) (r : Fin 128) (x : Fin 256) :
    (outsAt m c t).dkv (ix2 r x)
      = below (tiles m c (before t)) (number (before t)) r x + above (tiles m c t) (number t) r x := by
  rw [outs_later m c t h h', dkv_apply, later_dkv, loaded_eq, dkvStores_apply, View.readAt_eq_ld, (bufs t).hcarry.read_unread]
  congr 1
  show (outsAt m c (before t)).carry ((Rect.unit (s := S128x256) ![0, 128 * (tileOf (n := 2) x).val] S128x128.size
    (inNarrow (tileOf (n := 2) x))).idx (ix2 r (laneOf (n := 2) x))) = _
  rw [place, outs_carry m c (before t) (by show t.val - 1 < 64; omega)]

theorem outs_dkv_last (h : t.val = 64) (r : Fin 128) (x : Fin 256) :
    (outsAt m c t).dkv (ix2 r x) = below (tiles m c (before t)) (number (before t)) r x := by
  rw [outs_last m c t h]
  show left (F := Ideal) dkvBuf (last m c t h (outsAt m c (before t))).val (ix2 r x) = _
  rw [left_apply, last_dkv, View.canon_cons_unit_lit' (Val := Elt Ideal) (S := S128x256) (e := .bf16) _ _ _ (by decide), View.readAt_eq_ld,
    (bufs t).hcarry.read_unread, ← outs_carry m c (before t) (by show t.val - 1 < 64; omega)]
  show (outsAt m c (before t)).carry ((Rect.unit (s := S128x256) ![0, 0] S128x256.size inb_S128x256_S128x256_0_0).idx (ix2 r x)) = _
  congr 1
  funext i
  match i with
  | ⟨0, _⟩ => exact Fin.ext (by show 0 + 1 * r.val = r.val; omega)
  | ⟨1, _⟩ => exact Fin.ext (by show 0 + 1 * x.val = x.val; omega)

theorem outs_dsink_first (h : t.val = 0) (z : Fin 1) (s : Fin 16) :
    (outsAt m c t).dsink (ix2 z s) = 0 + dsinkStep (tiles m c t) s (ix2 0 0) := by
  rw [outs_first m c t h, dsink_apply, first_dsink, loaded_eq, sinkStores_apply, if_pos s.isLt]

theorem outs_dsink_later (h : t.val ≠ 0) (h' : t.val < 64) (z : Fin 1) (s : Fin 16) :
    (outsAt m c t).dsink (ix2 z s) = (outsAt m c (before t)).dsink (ix2 z s) + dsinkStep (tiles m c t) s (ix2 0 0) := by
  rw [outs_later m c t h h', dsink_apply, later_dsink, loaded_eq, dsinkStores_apply, View.readAt_eq_ld, (bufs t).hdsink.read_unread]
  congr 1
  show (outsAt m c (before t)).dsink ((Rect.unit (s := S1x16) ![0, s.val] S1x1.size (inSink s)).idx (ix2 0 0)) = _
  congr 1
  funext i
  match i with
  | ⟨0, _⟩ => exact Fin.ext (by show 0 + 1 * 0 = z.val; omega)
  | ⟨1, _⟩ => exact Fin.ext (by show s.val + 1 * 0 = s.val; omega)

theorem outs_dsink_last (h : t.val = 64) : (outsAt m c t).dsink = (outsAt m c (before t)).dsink := by rw [outs_last m c t h]

end Cert.AttnIdeal.Body

end
-- ==== Proof.AttnHeads.lean ====
/- The attention gradient's kernel on one block whose contents are real numbers: what it computes, head by head, as real
   sums over the band of keys. -/
module

public import proofs.«01_k».proof.Proof.AttnContents

@[expose] public section

set_option maxRecDepth 16384

noncomputable section

namespace Cert.AttnIdeal.Body

open Idealize.ShloMosaic Idealize.ShloMosaic.TcCoe Idealize.ShloMosaic.Tactic
open Cert.AttnIdeal.Gen

/-! ## Sums -/

theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_of_real {ι : Type} [Fintype ι] {f : ι → EReal} (g : ι → ℝ) (h : ∀ i, f i = (g i : EReal)) :
    ∑ i, f i = ((∑ i, g i : ℝ) : EReal) := by
  rw [sum_coe]; exact Finset.sum_congr rfl fun i _ => h i

/-- The lanes of one half. -/
abbrev half (s : Fin 2) (d : Fin 64) : Fin 128 := ⟨64 * s.val + d.val, by omega⟩

/-- A sum over the lanes of which only one half counts. -/
theorem sum_half (s : Fin 2) (f : Fin 128 → EReal) (h : ∀ c : Fin 128, c.val / 64 ≠ s.val → f c = 0) :
    ∑ c, f c = ∑ d : Fin 64, f (half s d) := by
  rw [← Fin.sum_mul_add_congr (F := fun (i : Fin 2) (d : Fin 64) => f (half i d)) (S := 2) (n := 64)
    fun i d _ => congrArg f (Fin.ext (by show 64 * i.val + d.val = i.val * 64 + d.val; omega))]
  rw [Finset.sum_eq_single s]
  · intro i _ hi
    refine Finset.sum_eq_zero fun d _ => h _ ?_
    show (64 * i.val + d.val) / 64 ≠ s.val
    have := mt Fin.ext hi
    omega
  · exact fun k => absurd (Finset.mem_univ _) k

/-! ## Layout -/

theorem lane_word : ∀ c : Fin 128, IntOp.cmpi .slt (BitVec.ofNat 32 c.val) 64#32 = if c.val < 64 then 1#1 else 0#1 := by
  decide +kernel

theorem lane_apply (r c : Fin 128) : lane (ix2 r c) = if c.val < 64 then 1#1 else 0#1 := by
  rw [← lane_word]; pointwise

theorem lane_select {α : Type} (c : Fin 128) (x y : α) :
    Scalar.select (IntOp.cmpi .slt (BitVec.ofNat 32 c.val) 64#32) x y = if c.val < 64 then x else y := by
  rw [lane_word]; split <;> rfl

theorem upper_word : ∀ r c : Fin 128, IntOp.cmpi .sgt (BitVec.ofNat 32 c.val) (BitVec.ofNat 32 r.val) = if r.val < c.val then 1#1 else 0#1 := by
  decide +kernel

theorem upper_apply (r c : Fin 128) : k0_pay6 (ix2 r c) = if r.val < c.val then 1#1 else 0#1 := by
  rw [← upper_word]; pointwise [k0_pay6]

theorem upper_select {α : Type} (r c : Fin 128) (x y : α) :
    Scalar.select (IntOp.cmpi .sgt (BitVec.ofNat 32 c.val) (BitVec.ofNat 32 r.val)) x y = if r.val < c.val then x else y := by
  rw [upper_word]; split <;> rfl

/-- How far a folded column's key lies back. -/
theorem dist_word : ∀ r c : Fin 128, (if r.val < c.val then IntOp.addi (IntOp.subi (BitVec.ofNat 32 r.val) (BitVec.ofNat 32 c.val)) 128#32
    else IntOp.subi (BitVec.ofNat 32 r.val) (BitVec.ofNat 32 c.val)).toInt
      = if r.val < c.val then (r.val + 128 : ℤ) - c.val else r.val - c.val := by
  decide +kernel

theorem dist_apply (r c : Fin 128) : k0_pay7 (F := Ideal) (ix2 r c)
    = (((if r.val < c.val then (r.val + 128 : ℤ) - c.val else r.val - c.val : ℤ) : ℝ) : EReal) := by
  pointwise [k0_pay7, k0_pay6]
  rw [upper_select, ← dist_word]
  rfl

theorem bottom_word : Ideal.ofBits .f32 0xFF800000#32 = (⊥ : EReal) := by
  simp [Ideal.ofBits, Ideal.ieee]

/-- The first block has no previous one. -/
theorem penalty_apply (a : BitVec 32) (r c : Fin 128) :
    k0_pay8 (F := Ideal) a (ix2 r c) = if r.val < c.val ∧ a = 0#32 then ⊥ else 0 := by
  pointwise [k0_pay8, k0_pay6]
  rw [upper_word, bottom_word]
  by_cases h : r.val < c.val <;> by_cases h' : a = 0#32 <;> simp [h, h', Scalar.select, IntOp.andi, Scalar.cmpi, IntOp.cmpi]
  rw [beq_eq_false_iff_ne.mpr h']
  decide

theorem swap_apply (v : FVec Ideal S128x128 .bf16) (r c : Fin 128) : swap v (ix2 r c) = v (ix2 r ⟨(c.val + 64) % 128, by omega⟩) := by
  unfold swap
  pointwise
  congr 2

theorem twice_apply (kv : Fin 2) (v : FVec Ideal S128x128 .bf16) (r c : Fin 128) :
    twice kv v (ix2 r c) = v (ix2 r (half kv ⟨c.val % 64, by omega⟩)) := by
  unfold twice
  fin_cases kv <;> dsimp only <;> pointwise [swap_apply] <;> rw [lane_select] <;> split <;> congr 2 <;> apply Fin.ext <;> simp [half] <;> omega

theorem once_apply (kv side : Fin 2) (v : FVec Ideal S128x128 .bf16) (r c : Fin 128) :
    once kv side v (ix2 r c) = if c.val / 64 = side.val then v (ix2 r (half kv ⟨c.val % 64, by omega⟩)) else 0 := by
  unfold once
  fin_cases kv <;> fin_cases side <;> dsimp only <;> pointwise [swap_apply] <;> rw [lane_select] <;> split_ifs <;>
    first | (exfalso; omega) | rfl | (congr 2; apply Fin.ext; simp [half]; omega)

theorem onBand_apply (p c : FVec Ideal S128x128 .bf16) (J : Fin 256) (l : Fin 128) :
    onBand p c (ix2 J l) = if h : J.val < 128 then p (ix2 ⟨J.val, h⟩ l) else c (ix2 ⟨J.val - 128, by omega⟩ l) := by
  unfold onBand
  pointwise

/-- The row of a head under the heads before it. -/
abbrev rowOf (g : Fin 8) (r : Fin 128) : Fin 1024 := ⟨128 * g.val + r.val, by omega⟩

theorem stack_apply (v : Fin 4 → FVec Ideal S128x128 .bf16) (g : Fin 8) (r c : Fin 128) :
    stack v (ix2 (rowOf g r) c) = if c.val / 64 = g.val % 2 then v ⟨g.val / 2, by omega⟩ (ix2 r c) else 0 := by
  have h1 := r.isLt
  unfold stack
  pointwise
  simp only [lane_select]
  have hc := c.isLt
  have he : c.val / 64 = if c.val < 64 then 0 else 1 := by split <;> omega
  rw [he]
  by_cases hl : c.val < 64
  all_goals
    simp only [hl, if_true, if_false]
    fin_cases g <;> dsimp only <;> (repeat rw [dif_neg (by omega)]) <;> (try rw [dif_pos (by omega)]) <;>
      first | rfl | exact congrArg (v _) (congrArg (fun i => ix2 i c) (Fin.ext (by dsimp only; omega)))

end Cert.AttnIdeal.Body

end
-- ==== Proof.AttnBlock.lean ====
/- The attention gradient's kernel on one block whose contents are real numbers. -/
module

public import proofs.«01_k».proof.Proof.AttnHeads

@[expose] public section

set_option maxRecDepth 16384

noncomputable section

namespace Cert.AttnIdeal.Body

open Idealize.ShloMosaic Idealize.ShloMosaic.TcCoe Idealize.ShloMosaic.Tactic
open Cert.AttnIdeal.Gen

/-- What one block's work reads, as real numbers: per head, row and lane the queries, the cotangent and the result; per
    key head, row of the band and lane the keys and the values; per head and row the logarithms; the sinks. -/
structure Numbers where
  q : Fin 16 → Fin 128 → Fin 64 → ℝ
  ct : Fin 16 → Fin 128 → Fin 64 → ℝ
  out : Fin 16 → Fin 128 → Fin 64 → ℝ
  band : Fin 2 → Fin 2 → Fin 256 → Fin 64 → ℝ
  lse : Fin 16 → Fin 128 → ℝ
  sink : Fin 16 → ℝ

/-- The tile and the half of its lanes a head has. -/
abbrev tileAt (h : Fin 16) : Fin 8 := ⟨h.val / 2, by omega⟩
abbrev sideOf (h : Fin 16) : Fin 2 := ⟨h.val % 2, by omega⟩
/-- The key head a head reads. -/
abbrev keyOf (h : Fin 16) : Fin 2 := ⟨h.val / 8, by omega⟩

/-- The tiles `T` hold the numbers `R`. -/
structure Tiles.Holds (T : Tiles Ideal) (R : Numbers) : Prop where
  q : ∀ h r d, T.q (tileAt h) (ix2 r (half (sideOf h) d)) = (R.q h r d : EReal)
  ct : ∀ h r d, T.ct (tileAt h) (ix2 r (half (sideOf h) d)) = (R.ct h r d : EReal)
  out : ∀ h r d, T.out (tileAt h) (ix2 r (half (sideOf h) d)) = (R.out h r d : EReal)
  prev : ∀ w kv (r : Fin 128) d, T.prev w (ix2 r (half kv d)) = (R.band w kv ⟨r.val, by omega⟩ d : EReal)
  cur : ∀ w kv (r : Fin 128) d, T.cur w (ix2 r (half kv d)) = (R.band w kv ⟨128 + r.val, by omega⟩ d : EReal)
  lse : ∀ h r, T.lse h (ix2 r 0) = (R.lse h r : EReal)
  sink : ∀ h, T.sink h = (R.sink h : EReal)

variable {T : Tiles Ideal} {R : Numbers} (H : T.Holds R) (a : BitVec 32)

/-! ## Words of numbers -/

theorem eighth16 : Ideal.ofBits .bf16 0x3E00#16 = ((1 / 8 : ℝ) : EReal) := by
  simp [Ideal.ofBits, Ideal.ieee, -EReal.coe_mul]; norm_num
theorem eighth32 : Ideal.ofBits .f32 0x3E000000#32 = ((1 / 8 : ℝ) : EReal) := by
  simp [Ideal.ofBits, Ideal.ieee, -EReal.coe_mul]; norm_num

/-- The slopes. -/
def slope (h : Fin 16) : ℝ := (Ideal.ofBits .f32 (slopeBits h)).toReal

theorem slope_word (h : Fin 16) : Ideal.ofBits .f32 (slopeBits h) = (slope h : EReal) := by
  refine (EReal.coe_toReal ?_ ?_).symm <;> fin_cases h <;> simp [slopeBits, Ideal.ofBits, Ideal.ieee, -EReal.coe_mul]

/-! ## What the block computes -/

namespace Numbers
variable (R)

def score (h : Fin 16) (r : Fin 128) (J : Fin 256) : ℝ :=
  (∑ d, (R.q h r d * (1 / 8)) * R.band 0 (keyOf h) J d) - slope h * ((r.val : ℝ) + 128 - J.val)

/-- The softmax's weight of a key of the band, zero outside the window. -/
def weight (h : Fin 16) (r : Fin 128) (J : Fin 256) : ℝ :=
  if r.val < J.val ∧ J.val ≤ r.val + 128 ∧ ¬ (J.val < 128 ∧ a = 0#32) then Real.exp (R.score h r J - R.lse h r) else 0

def deltas (h : Fin 16) (r : Fin 128) : ℝ := ∑ d, R.ct h r d * R.out h r d

def dscore (h : Fin 16) (r : Fin 128) (J : Fin 256) : ℝ :=
  R.weight a h r J * ((∑ d, R.ct h r d * R.band 1 (keyOf h) J d) - R.deltas h r)

end Numbers

/-! ## Products -/

theorem queries_apply (kv : Fin 2) (g : Fin 8) (r c : Fin 128) : queries T kv (ix2 (rowOf g r) c)
    = if c.val / 64 = g.val % 2 then T.q (pairOf kv ⟨g.val / 2, by omega⟩) (ix2 r c) * ((1 / 8 : ℝ) : EReal) else 0 := by
  unfold queries
  rw [stack_apply]
  refine if_congr Iff.rfl ?_ rfl
  generalize T.q _ = v
  rw [← eighth16]
  pointwise

theorem cotangents_apply (kv : Fin 2) (g : Fin 8) (r c : Fin 128) : cotangents T kv (ix2 (rowOf g r) c)
    = if c.val / 64 = g.val % 2 then T.ct (pairOf kv ⟨g.val / 2, by omega⟩) (ix2 r c) else 0 := by
  unfold cotangents
  rw [stack_apply]
  refine if_congr Iff.rfl ?_ rfl
  generalize T.ct _ = v
  pointwise

theorem heads (kv : Fin 2) (g : Fin 8) : pairOf kv ⟨g.val / 2, by omega⟩ = tileAt (headOf kv g) ∧ sideOf (headOf kv g) = ⟨g.val % 2, by omega⟩
    ∧ keyOf (headOf kv g) = kv := by
  revert kv g; decide

include H in
theorem band_apply (w kv : Fin 2) (J : Fin 256) (s : Fin 2) (d : Fin 64) :
    onBand (twice kv (T.prev w)) (twice kv (T.cur w)) (ix2 J (half s d)) = (R.band w kv J d : EReal) := by
  have e : (⟨(half s d).val % 64, by omega⟩ : Fin 64) = d := Fin.ext (by show (64 * s.val + d.val) % 64 = d.val; omega)
  rw [onBand_apply]
  split
  · rw [twice_apply, e, H.prev]
  · rw [twice_apply, e, H.cur]
    congr 2
    exact Fin.ext (by show 128 + (J.val - 128) = J.val; omega)

theorem product_apply (u : FVec Ideal S1024x128 .bf16) (v : FVec Ideal S256x128 .bf16) (y : Fin 1024) (J : Fin 256) :
    matmul dot_S1024x128_S256x128_S1024x256_1_1_0_0_n_n none u v (constant S1024x256 .f32 0x00000000#32) (ix2 y J)
      = ∑ c : Fin 128, u (ix2 y c) * v (ix2 J c) := by
  pointwise

include H in
theorem products_apply (kv : Fin 2) (g : Fin 8) (r : Fin 128) (J : Fin 256) : products T kv (ix2 (rowOf g r) J)
    = ((∑ d, (R.q (headOf kv g) r d * (1 / 8)) * R.band 0 kv J d : ℝ) : EReal) := by
  obtain ⟨e1, e2, e3⟩ := heads kv g
  unfold products
  rw [product_apply, sum_half ⟨g.val % 2, by omega⟩]
  · refine sum_of_real _ fun d => ?_
    rw [queries_apply, if_pos (by show (64 * (g.val % 2) + d.val) / 64 = g.val % 2; omega), band_apply H, e1, ← e2, H.q]
    rfl
  · intro c hc
    rw [queries_apply, if_neg hc, zero_mul]

include H in
theorem valueProducts_apply (kv : Fin 2) (g : Fin 8) (r : Fin 128) (J : Fin 256) : valueProducts T kv (ix2 (rowOf g r) J)
    = ((∑ d, R.ct (headOf kv g) r d * R.band 1 kv J d : ℝ) : EReal) := by
  obtain ⟨e1, e2, e3⟩ := heads kv g
  unfold valueProducts
  rw [product_apply, sum_half ⟨g.val % 2, by omega⟩]
  · refine sum_of_real _ fun d => ?_
    rw [cotangents_apply, if_pos (by show (64 * (g.val % 2) + d.val) / 64 = g.val % 2; omega), band_apply H, e1, ← e2, H.ct]
    rfl
  · intro c hc
    rw [cotangents_apply, if_neg hc, zero_mul]

/-! ## One head's band -/

/-- The key of the band a folded column stands for. -/
def keyAt (r c : Fin 128) : Fin 256 := if r.val < c.val then ⟨c.val, by omega⟩ else ⟨c.val + 128, by omega⟩

theorem folded_apply (t : FVec Ideal S1024x256 .f32) (g : Fin 8) (r c : Fin 128) : folded t g (ix2 r c) = t (ix2 (rowOf g r) (keyAt r c)) := by
  unfold folded
  pointwise [k0_pay6]
  rw [upper_select]
  unfold keyAt
  split <;> refine congrArg t ?_ <;> funext i <;> match i with
    | ⟨0, _⟩ => exact Fin.ext (by simp [rowOf, ix2]; try omega)
    | ⟨1, _⟩ => exact Fin.ext (by simp [ix2]; try omega)

theorem select_word {α : Type} (p : Prop) [Decidable p] (x y : α) :
    Scalar.select (if p then 1#1 else 0#1) x y = if p then x else y := by
  split <;> rfl

theorem unfolded_apply (v : FVec Ideal S128x128 .bf16) (r : Fin 128) (J : Fin 256) : unfolded v (ix2 r J)
    = if r.val < J.val ∧ J.val ≤ r.val + 128 then v (ix2 r ⟨J.val % 128, by omega⟩) else 0 := by
  have hr := r.isLt
  have hu := upper_apply
  unfold unfolded
  generalize k0_pay6 = u at hu ⊢
  pointwise
  simp only [hu, select_word]
  by_cases hJ : J.val < 128
  · rw [dif_pos hJ]
    exact if_congr (by omega) (congrArg (fun i => v (ix2 r i)) (Fin.ext (by dsimp only; omega))) rfl
  · rw [dif_neg hJ]
    by_cases h : r.val < J.val - 128
    · rw [if_pos h, if_neg (by omega)]
    · rw [if_neg h]
      have e : J.val - 128 = J.val % 128 := by omega
      exact (congrArg (fun i => v (ix2 r i)) (Fin.ext e)).trans (if_pos (by omega)).symm

theorem halfSum_apply (s : Fin 2) (v : FVec Ideal S128x128 .f32) (r : Fin 128) : halfSum s v (ix2 r 0) = ∑ d : Fin 64, v (ix2 r (half s d)) := by
  unfold halfSum
  fin_cases s <;> dsimp only <;> pointwise <;> simp only [lane_select]
  · refine (sum_half 0 _ fun c h => if_neg ?_).trans (Finset.sum_congr rfl fun d _ => if_pos ?_)
    · have : c.val / 64 ≠ 0 := h
      omega
    · show 64 * 0 + d.val < 64; omega
  · refine (sum_half 1 _ fun c h => if_pos ?_).trans (Finset.sum_congr rfl fun d _ => if_neg ?_)
    · have : c.val / 64 ≠ 1 := h
      omega
    · show ¬ 64 * 1 + d.val < 64; omega

include H in
theorem delta_apply (h : Fin 16) (r : Fin 128) : delta T h (ix2 r 0) = (R.deltas h r : EReal) := by
  unfold delta
  rw [halfSum_apply]
  refine sum_of_real _ fun d => ?_
  have e1 := H.ct h r d
  have e2 := H.out h r d
  rw [EReal.coe_mul, ← e1, ← e2]
  unfold laneProducts
  have step : ∀ v w : FVec Ideal S128x128 .bf16, @Eq EReal (mulf (F := Ideal) (φ := .f32) (extf .f32 (same (F := Ideal) (e := .bf16) v) bitsLt_bf16_f32)
      (extf .f32 (same (F := Ideal) (e := .bf16) w) bitsLt_bf16_f32) (ix2 r (half (sideOf h) d)))
        (@HMul.hMul EReal EReal EReal _ (v (ix2 r (half (sideOf h) d))) (w (ix2 r (half (sideOf h) d)))) := by
    intro v w
    pointwise
  exact step (T.ct (tileAt h)) (T.out (tileAt h))

theorem weight_in (h : Fin 16) (r : Fin 128) (J : Fin 256) (k : r.val < J.val ∧ J.val ≤ r.val + 128 ∧ ¬ (J.val < 128 ∧ a = 0#32)) :
    R.weight a h r J = Real.exp (R.score h r J - R.lse h r) := if_pos k

theorem weight_out (h : Fin 16) (r : Fin 128) (J : Fin 256) (k : ¬ (r.val < J.val ∧ J.val ≤ r.val + 128 ∧ ¬ (J.val < 128 ∧ a = 0#32))) :
    R.weight a h r J = 0 := if_neg k

theorem combine (p x d y : FVec Ideal S128x128 .f32) (z : FVec Ideal S128x1 .f32) (r c : Fin 128) :
    exp (subf (addf (subf p (mulf x d)) y) (broadcastTo S128x128 (column (F := Ideal) z : FVec Ideal S128x1 .f32) broadcasts_S128x1_S128x128)) (ix2 r c)
      = Ideal.exp (p (ix2 r c) - x (ix2 r c) * d (ix2 r c) + y (ix2 r c) - z (ix2 r 0)) := by
  pointwise

include H in
theorem weights_apply (kv : Fin 2) (g : Fin 8) (r c : Fin 128) :
    weights T a kv g (ix2 r c) = (R.weight a (headOf kv g) r (keyAt r c) : EReal) := by
  have hr := r.isLt
  have hc := c.isLt
  unfold weights
  rw [combine, folded_apply, products_apply H, dist_apply, penalty_apply, H.lse,
    show (broadcast S128x128 (Scalar.ofBits .f32 (slopeBits (headOf kv g))) : FVec Ideal S128x128 .f32) (ix2 r c)
      = Ideal.ofBits .f32 (slopeBits (headOf kv g)) from rfl, slope_word]
  by_cases h : r.val < c.val ∧ a = 0#32
  · have hk : (keyAt r c).val = c.val := by unfold keyAt; rw [if_pos h.1]
    rw [if_pos h, weight_out a (headOf kv g) r _ (fun k => k.2.2 ⟨by omega, h.2⟩), EReal.add_bot, EReal.bot_sub]
    rfl
  · have hk : r.val < (keyAt r c).val ∧ (keyAt r c).val ≤ r.val + 128 ∧ ¬ ((keyAt r c).val < 128 ∧ a = 0#32)
        ∧ ((if r.val < c.val then (r.val + 128 : ℤ) - c.val else r.val - c.val : ℤ) : ℝ) = (r.val : ℝ) + 128 - (keyAt r c).val := by
      unfold keyAt
      by_cases h1 : r.val < c.val
      · rw [if_pos h1, if_pos h1]
        refine ⟨h1, by dsimp only; omega, fun k => h ⟨h1, k.2⟩, ?_⟩
        push_cast
        ring
      · rw [if_neg h1, if_neg h1]
        refine ⟨by dsimp only; omega, by dsimp only; omega, fun k => by dsimp only at k; omega, ?_⟩
        push_cast
        ring
    rw [if_neg h, weight_in a (headOf kv g) r _ ⟨hk.1, hk.2.1, hk.2.2.1⟩, add_zero, hk.2.2.2, ← EReal.coe_mul, ← EReal.coe_sub, ← EReal.coe_sub, Ideal.exp_coe]
    unfold Numbers.score
    rw [(heads kv g).2.2]

include H in
theorem dscores_apply (kv : Fin 2) (g : Fin 8) (r c : Fin 128) :
    dscores T a kv g (ix2 r c) = (R.dscore a (headOf kv g) r (keyAt r c) : EReal) := by
  unfold dscores Numbers.dscore
  rw [(heads kv g).2.2, EReal.coe_mul, EReal.coe_sub, ← delta_apply H, ← weights_apply H, ← valueProducts_apply H, ← folded_apply (valueProducts T kv) g]
  generalize weights T a kv g = u
  generalize folded _ g = v
  generalize delta T _ = w
  pointwise

theorem keyAt_mod (r : Fin 128) (J : Fin 256) (h : r.val < J.val ∧ J.val ≤ r.val + 128) : keyAt r ⟨J.val % 128, by omega⟩ = J := by
  have hr := r.isLt
  have hJ := J.isLt
  unfold keyAt
  split <;> apply Fin.ext <;> dsimp only at * <;> omega

include H in
theorem weights_band (kv : Fin 2) (g : Fin 8) (r : Fin 128) (J : Fin 256) :
    unfolded (truncf .bf16 (weights T a kv g) bitsLt_bf16_f32) (ix2 r J) = (R.weight a (headOf kv g) r J : EReal) := by
  rw [unfolded_apply]
  split
  · next h =>
    rw [show truncf .bf16 (weights T a kv g) bitsLt_bf16_f32 (ix2 r ⟨J.val % 128, by omega⟩) = weights T a kv g (ix2 r ⟨J.val % 128, by omega⟩) from by
      generalize weights T a kv g = u
      pointwise, weights_apply H, keyAt_mod r J h]
  · next h => rw [weight_out a _ _ _ fun k => h ⟨k.1, k.2.1⟩]; rfl

include H in
theorem dscores_band (kv : Fin 2) (g : Fin 8) (r : Fin 128) (J : Fin 256) :
    unfolded (dscores T a kv g) (ix2 r J) = (R.dscore a (headOf kv g) r J : EReal) := by
  rw [unfolded_apply]
  split
  · next h => rw [dscores_apply H, keyAt_mod r J h]
  · next h => unfold Numbers.dscore; rw [weight_out a _ _ _ fun k => h ⟨k.1, k.2.1⟩, zero_mul]; rfl

/-! ## The results -/

theorem side_product (u : FVec Ideal S128x256 .bf16) (v : FVec Ideal S256x128 .bf16) (r c : Fin 128) :
    matmul dot_S128x256_S256x128_S128x128_1_0_0_1_n_n none u v (constant S128x128 .f32 0x00000000#32) (ix2 r c)
      = ∑ J : Fin 256, u (ix2 r J) * v (ix2 J c) := by
  pointwise

include H in
theorem once_band (w kv side : Fin 2) (J : Fin 256) (c : Fin 128) :
    onBand (once kv side (T.prev w)) (once kv side (T.cur w)) (ix2 J c)
      = if c.val / 64 = side.val then (R.band w kv J ⟨c.val % 64, by omega⟩ : EReal) else 0 := by
  rw [onBand_apply]
  split
  · rw [once_apply, H.prev]
  · rw [once_apply, H.cur]
    refine if_congr Iff.rfl ?_ rfl
    congr 2
    exact Fin.ext (by show 128 + (J.val - 128) = J.val; omega)

include H in
theorem dqueryPart_apply (kv : Fin 2) (pr : Fin 4) (side : Fin 2) (r c : Fin 128) : dqueryPart T a kv pr side (ix2 r c)
    = if c.val / 64 = side.val then
        ((∑ J, R.dscore a (headOf kv ⟨2 * pr.val + side.val, by omega⟩) r J * R.band 0 kv J ⟨c.val % 64, by omega⟩ : ℝ) : EReal) else 0 := by
  unfold dqueryPart
  rw [side_product]
  split
  · next h =>
    refine sum_of_real _ fun J => ?_
    rw [dscores_band H, once_band H, if_pos h, EReal.coe_mul]
  · next h =>
    refine Finset.sum_eq_zero fun J _ => ?_
    rw [once_band H, if_neg h, mul_zero]

/-- The head a column of the queries belongs to. -/
abbrev headAt (x : Fin 1024) : Fin 16 := ⟨x.val / 64, by omega⟩
abbrev dimAt (x : Fin 1024) : Fin 64 := ⟨x.val % 64, by omega⟩

include H in
theorem dqueries_apply (r : Fin 128) (x : Fin 1024) : dqueries T a r x
    = (((∑ J, R.dscore a (headAt x) r J * R.band 0 (keyOf (headAt x)) J (dimAt x)) * (1 / 8) : ℝ) : EReal) := by
  have hx := x.isLt
  unfold dqueries dquery
  dsimp only
  have step : ∀ (u v : FVec Ideal S128x128 .f32) (y : S128x128.Idx), truncf .bf16 (mulf (addf u v)
      (broadcast S128x128 (Scalar.ofBits .f32 0x3E000000#32))) bitsLt_bf16_f32 y = (u y + v y) * ((1 / 8 : ℝ) : EReal) := by
    intro u v y
    rw [← eighth32]
    pointwise
  rw [step, dqueryPart_apply H, dqueryPart_apply H, EReal.coe_mul]
  congr 1
  have e : (laneOf (n := 8) x).val % 64 = x.val % 64 := by show x.val % 128 % 64 = x.val % 64; omega
  have ek : (⟨(tileOf (n := 8) x).val / 4, by omega⟩ : Fin 2) = keyOf (headAt x) := Fin.ext (by show x.val / 128 / 4 = x.val / 64 / 8; omega)
  have ed : (⟨(laneOf (n := 8) x).val % 64, by omega⟩ : Fin 64) = dimAt x := Fin.ext e
  rw [ek, ed]
  by_cases h : (laneOf (n := 8) x).val / 64 = 0
  · have h0 : x.val % 128 / 64 = 0 := h
    rw [if_pos (show _ = (0 : Fin 2).val from h), if_neg (show ¬ _ = (1 : Fin 2).val from fun k => by have := h.symm.trans k; exact absurd this (by decide)), add_zero]
    have eh : headOf (keyOf (headAt x)) ⟨2 * (x.val / 128 % 4) + 0, by omega⟩ = headAt x :=
      Fin.ext (by show 8 * (x.val / 64 / 8) + (2 * (x.val / 128 % 4) + 0) = x.val / 64; omega)
    refine congrArg _ (Finset.sum_congr rfl fun J _ => ?_)
    exact congrArg (fun i => R.dscore a i r J * _) eh
  · have h0 : ¬ x.val % 128 / 64 = 0 := h
    rw [if_neg (show ¬ _ = (0 : Fin 2).val from h), if_pos (show _ = (1 : Fin 2).val from by show x.val % 128 / 64 = 1; omega), zero_add]
    have eh : headOf (keyOf (headAt x)) ⟨2 * (x.val / 128 % 4) + 1, by omega⟩ = headAt x :=
      Fin.ext (by show 8 * (x.val / 64 / 8) + (2 * (x.val / 128 % 4) + 1) = x.val / 64; omega)
    refine congrArg _ (Finset.sum_congr rfl fun J _ => ?_)
    exact congrArg (fun i => R.dscore a i r J * _) eh

theorem under_apply (v : Fin 8 → FVec Ideal S128x256 .bf16) (g : Fin 8) (r : Fin 128) (J : Fin 256) :
    under v (ix2 (rowOf g r) J) = v g (ix2 r J) := by
  have h1 := r.isLt
  unfold under
  pointwise
  fin_cases g <;> dsimp only <;> (repeat rw [dif_neg (by omega)]) <;> (try rw [dif_pos (by omega)]) <;>
    exact congrArg (v _) (congrArg (fun i => ix2 i J) (Fin.ext (by dsimp only; omega)))

/-- The other half's lane. -/
abbrev across (c : Fin 128) : Fin 128 := ⟨(c.val + 64) % 128, by omega⟩

theorem gathered_sum (s : FVec Ideal S1024x128 .bf16) (d : FVec Ideal S1024x256 .bf16) (J : Fin 256) (c : Fin 128) :
    gathered s d (ix2 J c) = (∑ y : Fin 1024, s (ix2 y c) * d (ix2 y J)) + ∑ y : Fin 1024, s (ix2 y (across c)) * d (ix2 y J) := by
  unfold gathered
  dsimp only
  pointwise
  have e : (⟨(c.val + 128 - 64) % 128, by omega⟩ : Fin 128) = across c := Fin.ext (by show (c.val + 128 - 64) % 128 = (c.val + 64) % 128; omega)
  exact congrArg (fun i => ∑ y : Fin 1024, s (ix2 y c) * d (ix2 y J) + ∑ y : Fin 1024, s (ix2 y i) * d (ix2 y J)) e

/-- Rows under one another, summed head by head. -/
theorem sum_rows (f : Fin 1024 → EReal) : ∑ y, f y = ∑ g : Fin 8, ∑ r : Fin 128, f (rowOf g r) :=
  (Fin.sum_mul_add_congr (F := fun (g : Fin 8) (r : Fin 128) => f (rowOf g r)) (S := 8) (n := 128)
    fun g r _ => congrArg f (Fin.ext (by show 128 * g.val + r.val = g.val * 128 + r.val; omega))).symm

/-- A stack's rows have a head's numbers on one half of the lanes, so the two halves together have them once. -/
theorem gathered_apply (s : FVec Ideal S1024x128 .bf16) (v : Fin 8 → FVec Ideal S128x256 .bf16) (x : Fin 8 → Fin 128 → Fin 64 → ℝ)
    (y : Fin 8 → Fin 128 → Fin 256 → ℝ)
    (hs : ∀ (g : Fin 8) (r c : Fin 128), s (ix2 (rowOf g r) c) = if c.val / 64 = g.val % 2 then (x g r ⟨c.val % 64, by omega⟩ : EReal) else 0)
    (hv : ∀ (g : Fin 8) (r : Fin 128) (J : Fin 256), v g (ix2 r J) = (y g r J : EReal)) (J : Fin 256) (c : Fin 128) :
    gathered s (under v) (ix2 J c) = ((∑ g, ∑ r, x g r ⟨c.val % 64, by omega⟩ * y g r J : ℝ) : EReal) := by
  rw [gathered_sum, sum_rows, sum_rows, ← Finset.sum_add_distrib]
  refine sum_of_real _ fun g => ?_
  rw [← Finset.sum_add_distrib]
  refine sum_of_real _ fun r => ?_
  rw [hs, hs, under_apply, hv, EReal.coe_mul]
  have e : (⟨(across c).val % 64, by omega⟩ : Fin 64) = ⟨c.val % 64, by omega⟩ := Fin.ext (by show (c.val + 64) % 128 % 64 = c.val % 64; omega)
  by_cases h : c.val / 64 = g.val % 2
  · rw [if_pos h, if_neg (by show ¬ (c.val + 64) % 128 / 64 = g.val % 2; omega), zero_mul, add_zero]
  · rw [if_neg h, if_pos (by show (c.val + 64) % 128 / 64 = g.val % 2; omega), zero_mul, zero_add, e]

theorem beside_apply (u v : FVec Ideal S256x128 .f32) (J : Fin 256) (c : Fin 128) :
    beside u v (ix2 J c) = if c.val < 64 then u (ix2 J c) else v (ix2 J c) := by
  have hl := lane_apply
  unfold beside
  generalize lane = l at hl ⊢
  pointwise
  have e : (if h : J.val < 128 then l (ix2 ⟨J.val, h⟩ c) else l (ix2 ⟨J.val - 128, by omega⟩ c)) = if c.val < 64 then 1#1 else 0#1 := by
    split <;> exact hl _ _
  exact (congrArg (fun b => Scalar.select b (u (ix2 J c)) (v (ix2 J c))) e).trans (select_word _ _ _)

/-- A tile's column of the keys' or the values' gradients: its key head and its lane. -/
abbrev keyHead (c : Fin 128) : Fin 2 := ⟨c.val / 64, by omega⟩
abbrev keyDim (c : Fin 128) : Fin 64 := ⟨c.val % 64, by omega⟩

namespace Numbers
variable (R)

/-- What the block gives the gradients of the band's keys and of its values. -/
def dkeys (kv : Fin 2) (J : Fin 256) (d : Fin 64) : ℝ :=
  ∑ g : Fin 8, ∑ r, (R.q (headOf kv g) r d * (1 / 8)) * R.dscore a (headOf kv g) r J
def dvalues (kv : Fin 2) (J : Fin 256) (d : Fin 64) : ℝ :=
  ∑ g : Fin 8, ∑ r, R.ct (headOf kv g) r d * R.weight a (headOf kv g) r J

/-- And what it gives a sink's. -/
def dsinks (h : Fin 16) : ℝ := 0 - ∑ r, Real.exp (R.sink h - R.lse h r) * R.deltas h r

end Numbers

include H in
theorem queries_real (kv : Fin 2) (g : Fin 8) (r c : Fin 128) : queries T kv (ix2 (rowOf g r) c)
    = if c.val / 64 = g.val % 2 then ((R.q (headOf kv g) r ⟨c.val % 64, by omega⟩ * (1 / 8) : ℝ) : EReal) else 0 := by
  obtain ⟨e1, e2, e3⟩ := heads kv g
  rw [queries_apply]
  split
  · next h =>
    rw [e1, EReal.coe_mul, ← H.q, e2]
    congr 3
    exact Fin.ext (by show c.val = 64 * (g.val % 2) + c.val % 64; omega)
  · rfl

include H in
theorem cotangents_real (kv : Fin 2) (g : Fin 8) (r c : Fin 128) : cotangents T kv (ix2 (rowOf g r) c)
    = if c.val / 64 = g.val % 2 then (R.ct (headOf kv g) r ⟨c.val % 64, by omega⟩ : EReal) else 0 := by
  obtain ⟨e1, e2, e3⟩ := heads kv g
  rw [cotangents_apply]
  split
  · next h =>
    rw [e1, ← H.ct, e2]
    congr 2
    exact Fin.ext (by show c.val = 64 * (g.val % 2) + c.val % 64; omega)
  · rfl

include H in
theorem dband_keys (J : Fin 256) (c : Fin 128) : dband T a 0 (ix2 J c) = (R.dkeys a (keyHead c) J (keyDim c) : EReal) := by
  have e : ∀ kv, gathered (queries T kv) (under fun g => unfolded (dscores T a kv g)) (ix2 J c) = (R.dkeys a kv J (keyDim c) : EReal) := fun kv =>
    gathered_apply _ _ (fun g r d => R.q (headOf kv g) r d * (1 / 8)) (fun g r J => R.dscore a (headOf kv g) r J)
      (queries_real H kv) (dscores_band H a kv) J c
  show beside _ _ (ix2 J c) = _
  rw [beside_apply, e, e]
  split
  · next h => rw [show keyHead c = 0 from Fin.ext (by show c.val / 64 = 0; omega)]
  · next h => rw [show keyHead c = 1 from Fin.ext (by show c.val / 64 = 1; omega)]

include H in
theorem dband_values (J : Fin 256) (c : Fin 128) : dband T a 1 (ix2 J c) = (R.dvalues a (keyHead c) J (keyDim c) : EReal) := by
  have e : ∀ kv, gathered (cotangents T kv) (under fun g => unfolded (truncf .bf16 (weights T a kv g) bitsLt_bf16_f32)) (ix2 J c)
      = (R.dvalues a kv J (keyDim c) : EReal) := fun kv =>
    gathered_apply _ _ (fun g r d => R.ct (headOf kv g) r d) (fun g r J => R.weight a (headOf kv g) r J)
      (cotangents_real H kv) (weights_band H a kv) J c
  show beside _ _ (ix2 J c) = _
  rw [beside_apply, e, e]
  split
  · next h => rw [show keyHead c = 0 from Fin.ext (by show c.val / 64 = 0; omega)]
  · next h => rw [show keyHead c = 1 from Fin.ext (by show c.val / 64 = 1; omega)]

include H in
theorem dsinkStep_apply (h : Fin 16) : dsinkStep T h (ix2 0 0) = (R.dsinks h : EReal) := by
  have step : ∀ (x : Ideal .f32) (u w : FVec Ideal S128x1 .f32), subf (broadcast S1x1 (Scalar.ofBits .f32 0x00000000#32))
      (shapeCast S1x1 (multiReduction .add [0] S1 (mulf (exp (subf (broadcast S128x1 x) (column (F := Ideal) u : FVec Ideal S128x1 .f32))) w)
        0x00000000#32 reduces_S128x1_S1 (.inl rfl) rfl) shapeCasts_S1_S1x1) (ix2 0 0)
      = 0 - ∑ r : Fin 128, Ideal.exp (x - u (ix2 r 0)) * w (ix2 r 0) := by
    intro x u w
    pointwise
  unfold dsinkStep
  rw [step, sum_of_real (fun r => Real.exp (R.sink h - R.lse h r) * R.deltas h r)]
  · rw [← EReal.coe_zero, ← EReal.coe_sub]; rfl
  · intro r
    rw [H.sink, H.lse, delta_apply H, ← EReal.coe_sub, Ideal.exp_coe, EReal.coe_mul]

end Cert.AttnIdeal.Body

end
-- ==== Proof.AttnSpec.lean ====
/-
  Sliding-window attention and its gradient on real numbers: what a block of queries sees, the softmax with a sink, and
  the sums a change of the largest score does not touch.
-/
module

public import proofs.«01_k».proof.Proof.AttnBlock

@[expose] public section

set_option maxRecDepth 16384

noncomputable section

namespace Cert.AttnIdeal.Body

open Idealize.ShloMosaic Idealize.ShloMosaic.TcCoe Idealize.ShloMosaic.Tactic

/-- The arguments as real numbers. -/
structure Arguments where
  q : Fin 8192 → Fin 1024 → ℝ
  k : Fin 8192 → Fin 128 → ℝ
  v : Fin 8192 → Fin 128 → ℝ
  sink : Fin 16 → ℝ
  ct : Fin 8192 → Fin 1024 → ℝ

/-- Row `r` of block `n`, and the lane of dimension `d` of head `h`. -/
abbrev row (n : Fin 64) (r : Fin 128) : Fin 8192 := ⟨128 * n.val + r.val, by omega⟩
abbrev laneAt (h : Fin 16) (d : Fin 64) : Fin 1024 := ⟨64 * h.val + d.val, by omega⟩
/-- The block before, of the first block itself. -/
abbrev earlier (n : Fin 64) : Fin 64 := ⟨n.val - 1, by omega⟩
/-- A block's number as a word. -/
abbrev blockWord (n : Fin 64) : BitVec 32 := BitVec.ofNat 32 n.val

namespace Arguments
variable (A : Arguments) (n : Fin 64)

/-- The band of keys (0) or values (1) that block `n` sees: the block before, then its own. -/
def band (w kv : Fin 2) (J : Fin 256) (d : Fin 64) : ℝ :=
  (if w = 0 then A.k else A.v) (if h : J.val < 128 then row (earlier n) ⟨J.val, h⟩ else row n ⟨J.val - 128, by omega⟩) (half kv d)

/-- The block's numbers before anything is known of its softmax. -/
def base : Numbers where
  q h r d := A.q (row n r) (laneAt h d)
  ct h r d := A.ct (row n r) (laneAt h d)
  out _ _ _ := 0
  band := A.band n
  lse _ _ := 0
  sink := A.sink

/-- The exponential of a score, zero where the key is not seen. -/
def expo (h : Fin 16) (r : Fin 128) (J : Fin 256) : ℝ := (A.base n).weight (blockWord n) h r J

/-- The softmax's denominator, with the sink's share. -/
def den (h : Fin 16) (r : Fin 128) : ℝ := (∑ J, A.expo n h r J) + Real.exp (A.sink h)

/-- The softmax's weight. -/
def prob (h : Fin 16) (r : Fin 128) (J : Fin 256) : ℝ := A.expo n h r J / A.den n h r

/-- The attention's result. -/
def att (h : Fin 16) (r : Fin 128) (d : Fin 64) : ℝ := ∑ J, A.prob n h r J * A.band n 1 (keyOf h) J d

/-- The block's numbers. -/
def block : Numbers where
  q := (A.base n).q
  ct := (A.base n).ct
  out := A.att n
  band := A.band n
  lse h r := Real.log (A.den n h r)
  sink := A.sink

theorem expo_nonneg (h : Fin 16) (r : Fin 128) (J : Fin 256) : 0 ≤ A.expo n h r J := by
  unfold expo Numbers.weight
  split
  · exact (Real.exp_pos _).le
  · exact le_refl _

theorem den_pos (h : Fin 16) (r : Fin 128) : 0 < A.den n h r :=
  add_pos_of_nonneg_of_pos (Finset.sum_nonneg fun J _ => A.expo_nonneg n h r J) (Real.exp_pos _)

theorem block_score (h : Fin 16) (r : Fin 128) (J : Fin 256) : (A.block n).score h r J = (A.base n).score h r J := rfl

/-- The weight from the logarithm of the denominator is the softmax's. -/
theorem block_weight (h : Fin 16) (r : Fin 128) (J : Fin 256) : (A.block n).weight (blockWord n) h r J = A.prob n h r J := by
  unfold prob expo
  by_cases k : r.val < J.val ∧ J.val ≤ r.val + 128 ∧ ¬ (J.val < 128 ∧ blockWord n = 0#32)
  · rw [weight_in _ h r J k, weight_in _ h r J k, block_score]
    show Real.exp (_ - Real.log (A.den n h r)) = Real.exp (_ - 0) / _
    rw [Real.exp_sub, Real.exp_log (A.den_pos n h r), sub_zero]
  · rw [weight_out _ h r J k, weight_out _ h r J k, zero_div]

/-- The cotangent of a weight. -/
def dprob (h : Fin 16) (r : Fin 128) (J : Fin 256) : ℝ := ∑ d, (A.base n).ct h r d * A.band n 1 (keyOf h) J d

/-- The cotangent's product with the result is its product with the weights. -/
theorem deltas_eq (h : Fin 16) (r : Fin 128) : (A.block n).deltas h r = ∑ J, A.prob n h r J * A.dprob n h r J := by
  show (∑ d, (A.base n).ct h r d * ∑ J, A.prob n h r J * A.band n 1 (keyOf h) J d) = _
  simp only [dprob, Finset.mul_sum]
  rw [Finset.sum_comm]
  exact Finset.sum_congr rfl fun J _ => Finset.sum_congr rfl fun d _ => by ring

theorem dscore_eq (h : Fin 16) (r : Fin 128) (J : Fin 256) :
    (A.block n).dscore (blockWord n) h r J = A.prob n h r J * (A.dprob n h r J - (A.block n).deltas h r) := by
  unfold Numbers.dscore
  rw [block_weight]
  rfl

/-! ## The softmax less any number -/

variable (M : ℝ) (h : Fin 16) (r : Fin 128)

/-- The exponential of a score less `M`. -/
def low (J : Fin 256) : ℝ := A.expo n h r J * Real.exp (-M)
def lowDen : ℝ := (∑ J, A.low n M h r J) + Real.exp (A.sink h - M)

theorem lowDen_eq : A.lowDen n M h r = A.den n h r * Real.exp (-M) := by
  unfold lowDen low den
  rw [← Finset.sum_mul, add_mul, ← Real.exp_add, sub_eq_add_neg]

theorem lowDen_pos : 0 < A.lowDen n M h r := by
  rw [lowDen_eq]; exact mul_pos (A.den_pos n h r) (Real.exp_pos _)

theorem low_div (J : Fin 256) : A.low n M h r J / A.lowDen n M h r = A.prob n h r J := by
  rw [lowDen_eq]
  exact mul_div_mul_right _ _ (Real.exp_pos _).ne'

theorem log_low : M + Real.log (A.lowDen n M h r) = Real.log (A.den n h r) := by
  rw [lowDen_eq, Real.log_mul (A.den_pos n h r).ne' (Real.exp_pos _).ne', Real.log_exp]
  ring

/-- The cotangent of the denominator. -/
def lowDl : ℝ := -∑ J, A.dprob n h r J * (1 / (A.lowDen n M h r * A.lowDen n M h r)) * A.low n M h r J

theorem lowDl_eq : A.lowDl n M h r = -((A.block n).deltas h r / A.lowDen n M h r) := by
  have hl := (A.lowDen_pos n M h r).ne'
  rw [lowDl, deltas_eq, Finset.sum_div]
  refine congrArg Neg.neg (Finset.sum_congr rfl fun J _ => ?_)
  rw [← low_div A n M]
  field_simp

/-- The cotangent of a score, by way of the quotient's rule. -/
theorem low_dscore (J : Fin 256) : (A.dprob n h r J / A.lowDen n M h r + A.lowDl n M h r) * A.low n M h r J
    = (A.block n).dscore (blockWord n) h r J := by
  rw [dscore_eq, lowDl_eq, ← low_div A n M]
  ring

theorem low_sink : A.lowDl n M h r * Real.exp (A.sink h - M) = -(Real.exp (A.sink h - Real.log (A.den n h r)) * (A.block n).deltas h r) := by
  rw [lowDl_eq, lowDen_eq, Real.exp_sub, Real.exp_sub, Real.exp_log (A.den_pos n h r), Real.exp_neg]
  have := (A.den_pos n h r).ne'
  have := (Real.exp_pos M).ne'
  field_simp

/-- What the largest score's cotangent comes to. -/
theorem low_max : -(A.lowDl n M h r * Real.exp (A.sink h - M))
    + ∑ J, -((A.dprob n h r J / A.lowDen n M h r + A.lowDl n M h r) * A.low n M h r J) = 0 := by
  have hl := (A.lowDen_pos n M h r).ne'
  have e1 : ∑ J, A.dprob n h r J / A.lowDen n M h r * A.low n M h r J = (A.block n).deltas h r := by
    rw [deltas_eq]
    refine Finset.sum_congr rfl fun J _ => ?_
    rw [← low_div A n M]
    ring
  have e2 : Real.exp (A.sink h - M) = A.lowDen n M h r - ∑ J, A.low n M h r J := by unfold lowDen; ring
  simp only [add_mul, neg_add, Finset.sum_add_distrib, Finset.sum_neg_distrib, ← Finset.mul_sum]
  rw [e1, e2, lowDl_eq]
  field_simp
  ring

/-! ## The gradients -/

def gradQ (h : Fin 16) (r : Fin 128) (d : Fin 64) : ℝ :=
  (∑ J, (A.block n).dscore (blockWord n) h r J * A.band n 0 (keyOf h) J d) * (1 / 8)

/-- Key row `y` of block `n`: from its own queries and from the next block's. -/
def gradK (kv : Fin 2) (y : Fin 128) (d : Fin 64) : ℝ :=
  (A.block n).dkeys (blockWord n) kv ⟨128 + y.val, by omega⟩ d
    + if h : n.val + 1 < 64 then (A.block ⟨n.val + 1, h⟩).dkeys (blockWord ⟨n.val + 1, h⟩) kv ⟨y.val, by omega⟩ d else 0

def gradV (kv : Fin 2) (y : Fin 128) (d : Fin 64) : ℝ :=
  (A.block n).dvalues (blockWord n) kv ⟨128 + y.val, by omega⟩ d
    + if h : n.val + 1 < 64 then (A.block ⟨n.val + 1, h⟩).dvalues (blockWord ⟨n.val + 1, h⟩) kv ⟨y.val, by omega⟩ d else 0

def gradSink (h : Fin 16) : ℝ := ∑ n, (A.block n).dsinks h

end Arguments

end Cert.AttnIdeal.Body

end
-- ==== Proof.AttnForward.lean ====
/- The attention's forward pass, as the reference writes it, on real arguments. -/
module
public import proofs.«01_k».proof.Proof.Gen.AttnRefIdeal.Read
public import proofs.«01_k».proof.Proof.AttnSpec
public import Idealize.ShloMosaic.Lib.Pointwise
public import Idealize.ShloMosaic.Lib.KernelVsHost
public import Idealize.ShloMosaic.Lib.IdealHost

@[expose] public section

set_option maxRecDepth 16384
noncomputable section
namespace Cert.AttnRefIdeal.Attention
open Idealize.ShloMosaic Idealize.ShloMosaic.TcCoe Idealize.SL.Sem
open Cert.AttnRefIdeal Cert.AttnRefIdeal.Gen Cert.AttnRefIdeal.Read
open Cert.AttnIdeal.Body (Numbers Arguments row laneAt earlier blockWord half keyOf headOf slope)

/-! ## Words -/

theorem toInt_small (z : ℤ) (h : -1000000 < z ∧ z < 1000000) : (BitVec.ofInt 32 z).toInt = z := by
  rw [BitVec.toInt_ofInt, Int.bmod_def]
  split <;> omega

theorem ofInt_sub (a b : ℤ) : BitVec.ofInt 32 (a - b) = BitVec.ofInt 32 a - BitVec.ofInt 32 b := by
  rw [BitVec.sub_eq_add_neg, ← BitVec.ofInt_neg, ← BitVec.ofInt_add, sub_eq_add_neg]

theorem dist_word (r : Fin 128) (J : Fin 256) :
    (IntOp.subi (IntOp.addi (BitVec.ofNat 32 r.val) 128#32) (BitVec.ofNat 32 J.val)).toInt = (r.val : ℤ) + 128 - J.val := by
  have e : IntOp.subi (IntOp.addi (BitVec.ofNat 32 r.val) 128#32) (BitVec.ofNat 32 J.val) = BitVec.ofInt 32 ((r.val : ℤ) + 128 - J.val) := by
    rw [ofInt_sub, BitVec.ofInt_add, BitVec.ofInt_natCast, BitVec.ofInt_natCast]
    rfl
  rw [e, toInt_small]
  omega

theorem position_word (n : Fin 64) (J : Fin 256) :
    (IntOp.addi (IntOp.subi (IntOp.muli (BitVec.ofNat 32 n.val) 128#32) 128#32) (BitVec.ofNat 32 J.val)).toInt = (n.val : ℤ) * 128 - 128 + J.val := by
  have e : IntOp.addi (IntOp.subi (IntOp.muli (BitVec.ofNat 32 n.val) 128#32) 128#32) (BitVec.ofNat 32 J.val)
      = BitVec.ofInt 32 ((n.val : ℤ) * 128 - 128 + J.val) := by
    rw [BitVec.ofInt_add, ofInt_sub, BitVec.ofInt_mul, BitVec.ofInt_natCast, BitVec.ofInt_natCast]
    rfl
  rw [e, toInt_small]
  omega

theorem blockWord_zero (n : Fin 64) : blockWord n = 0#32 ↔ n.val = 0 := by
  revert n; decide

theorem sge_word (x : BitVec 32) (z : ℤ) (h : x.toInt = z) : IntOp.cmpi .sge x 0#32 = if 0 ≤ z then 1#1 else 0#1 := by
  subst h
  simp only [IntOp.cmpi, BitVec.sle_eq_decide, BitVec.toInt_zero]
  split_ifs with h <;> simp [h]

theorem slt_word (x : BitVec 32) (z : ℤ) (h : x.toInt = z) : IntOp.cmpi .slt x 128#32 = if z < 128 then 1#1 else 0#1 := by
  subst h
  simp only [IntOp.cmpi, BitVec.slt_eq_decide, show (128#32).toInt = 128 from by decide]
  split_ifs with h <;> simp [h]

/-! ## Reads -/

theorem v0_at (x : FVec Ideal S1x8192x1024 .f32) (n : Fin 64) (r : Fin 128) (kv : Fin 2) (g : Fin 8) (d : Fin 64) :
    val_main_v0 (F := Ideal) x (ix6 0 n r kv g d) = x (ix3 0 (row n r) (laneAt (headOf kv g) d)) := by
  unfold val_main_v0
  pointwise
  refine congrArg x ?_
  exact congrArg₂ (ix3 0) (Fin.ext (by dsimp only; omega)) (Fin.ext (by dsimp only [headOf]; omega))

theorem v9_at (x : FVec Ideal S1x8192x128 .f32) (n : Fin 64) (J : Fin 256) (kv : Fin 2) (d : Fin 64) :
    val_main_v9 (F := Ideal) x (ix5 0 n J kv d) = if h : J.val < 128 then (if n.val = 0 then 0 else x (ix3 0 (row (earlier n) ⟨J.val, h⟩) (half kv d)))
      else x (ix3 0 (row n ⟨J.val - 128, by omega⟩) (half kv d)) := by
  have hn := n.isLt
  unfold val_main_v9 val_main_v8 val_main_v6 val_main_v5 val_main_v4 val_main_v1 val_main_v3 val_main_cst
  pointwise
  have e : (⟨kv.val * 64 + d.val, by omega⟩ : Fin 128) = half kv d := Fin.ext (by dsimp only [half]; omega)
  by_cases h : J.val < 128
  · rw [dif_pos h, dif_pos h]
    by_cases h0 : n.val = 0
    · rw [if_pos h0, dif_pos (by omega)]
    · rw [if_neg h0, dif_neg (by omega)]
      exact congrArg x (congrArg₂ (ix3 0) (Fin.ext (by dsimp only; omega)) e)
  · rw [dif_neg h, dif_neg h]
    exact congrArg x (congrArg₂ (ix3 0) (Fin.ext (by dsimp only; omega)) e)

theorem v15_at (x : FVec Ideal S1x8192x128 .f32) (n : Fin 64) (J : Fin 256) (kv : Fin 2) (d : Fin 64) :
    val_main_v15 (F := Ideal) x (ix5 0 n J kv d) = val_main_v9 (F := Ideal) x (ix5 0 n J kv d) := rfl

theorem v50_at (n : Fin 64) (r : Fin 128) (J : Fin 256) : val_main_v50 (F := Ideal) (ix3 n r J)
    = if r.val < J.val ∧ J.val ≤ r.val + 128 ∧ ¬ (J.val < 128 ∧ blockWord n = 0#32) then 1#1 else 0#1 := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_c val_main_c_3 val_main_c_4 val_main_c_5 val_main_c_6 val_main_c_7
  pointwise
  rw [sge_word _ _ (dist_word r J), slt_word _ _ (dist_word r J), sge_word _ _ (position_word n J)]
  by_cases h0 : n.val = 0
  · simp only [eq_true ((blockWord_zero n).2 h0), and_true]
    split_ifs <;> first | rfl | omega
  · simp only [eq_false (mt (blockWord_zero n).1 h0), and_false, not_false_eq_true, and_true]
    split_ifs <;> first | rfl | omega

theorem v76_at (n : Fin 64) (r : Fin 128) (J : Fin 256) (kv : Fin 2) (g : Fin 8) : val_main_v76 (F := Ideal) (ix6 0 n kv g r J)
    = val_main_v67 (F := Ideal) (ix1 (headOf kv g)) * (((r.val : ℝ) + 128 - J.val : ℝ) : EReal) := by
  unfold val_main_v76 val_main_v75 val_main_v74 val_main_v73 val_main_v72 val_main_v71 val_main_v70 val_main_v69 val_main_v68 val_main_v28 val_main_v27 val_main_v26 val_main_v25 val_main_v24 val_main_v23 val_main_v22 val_main_v21 val_main_v20 val_main_c
  generalize val_main_v67 (F := Ideal) = s
  pointwise
  have e : (⟨kv.val * 8 + g.val, by omega⟩ : Fin 16) = headOf kv g := Fin.ext (by dsimp only [headOf]; omega)
  rw [e]
  refine congrArg (s (ix1 (headOf kv g)) * ·) ?_
  show (((IntOp.subi (IntOp.addi (BitVec.ofNat 32 r.val) 128#32) (BitVec.ofNat 32 J.val)).toInt : ℝ) : EReal) = _
  rw [dist_word]
  push_cast
  rfl

theorem v67_at (h : Fin 16) : val_main_v67 (F := Ideal) (ix1 h) = (slope h : EReal) := by
  rw [← Cert.AttnIdeal.Body.slope_word]
  unfold val_main_v67
  fin_cases h <;> rfl

theorem v17_at (x0 : FVec Ideal S1x8192x1024 .f32) (x1 : FVec Ideal S1x8192x128 .f32)  (n : Fin 64) (r : Fin 128) (J : Fin 256) (kv : Fin 2) (g : Fin 8) :
    val_main_v17 (F := Ideal) x0 x1 (ix6 0 n kv g r J) = ∑ d : Fin 64, val_main_v9 (F := Ideal) x1 (ix5 0 n J kv d) * val_main_v0 (F := Ideal) x0 (ix6 0 n r kv g d) := by
  rw [val_main_v17_apply, val_main_v16_apply]
  exact Finset.sum_congr rfl fun d _ => congrArg₂ _ (congrArg _ (funext fun a => by fin_cases a <;> rfl)) (congrArg _ (funext fun a => by fin_cases a <;> rfl))

/-! ## The forward pass on real arguments -/

/-- The arguments' arrays. -/
def argQ (A : Arguments) : FVec Ideal S1x8192x1024 .f32 := fun i => ((A.q (i 1) (i 2) : ℝ) : EReal)
def argK (A : Arguments) : FVec Ideal S1x8192x128 .f32 := fun i => ((A.k (i 1) (i 2) : ℝ) : EReal)
def argV (A : Arguments) : FVec Ideal S1x8192x128 .f32 := fun i => ((A.v (i 1) (i 2) : ℝ) : EReal)
def argSink (A : Arguments) : FVec Ideal S16 .f32 := fun i => ((A.sink (i 0) : ℝ) : EReal)
def argCt (A : Arguments) : FVec Ideal S1x8192x1024 .f32 := fun i => ((A.ct (i 1) (i 2) : ℝ) : EReal)

variable (A : Arguments) (n : Fin 64) (kv : Fin 2) (g : Fin 8) (r : Fin 128)

/-- Block `n`'s query `r` sees the band's key `J`. -/
def Seen (n : Fin 64) (r : Fin 128) (J : Fin 256) : Prop := r.val < J.val ∧ J.val ≤ r.val + 128 ∧ ¬ (J.val < 128 ∧ blockWord n = 0#32)

instance (n : Fin 64) (r : Fin 128) (J : Fin 256) : Decidable (Seen n r J) := by unfold Seen; infer_instance

theorem keyOf_headOf : keyOf (headOf kv g) = kv := (Cert.AttnIdeal.Body.heads kv g).2.2

theorem expo_seen (h : Fin 16) {J : Fin 256} (k : Seen n r J) : A.expo n h r J = Real.exp ((A.base n).score h r J) := by
  refine (Cert.AttnIdeal.Body.weight_in _ h r J k).trans ?_
  show Real.exp (_ - 0) = _
  rw [sub_zero]

theorem expo_unseen (h : Fin 16) {J : Fin 256} (k : ¬ Seen n r J) : A.expo n h r J = 0 :=
  Cert.AttnIdeal.Body.weight_out _ h r J k

theorem keys_seen {J : Fin 256} (k : ¬ (J.val < 128 ∧ n.val = 0)) (d : Fin 64) :
    val_main_v9 (F := Ideal) (argK A) (ix5 0 n J kv d) = (A.band n 0 kv J d : EReal) := by
  rw [v9_at]
  unfold Arguments.band
  by_cases h : J.val < 128
  · rw [dif_pos h, dif_pos h, if_neg fun e => k ⟨h, e⟩]; rfl
  · rw [dif_neg h, dif_neg h]; rfl

theorem values_seen {J : Fin 256} (k : ¬ (J.val < 128 ∧ n.val = 0)) (d : Fin 64) :
    val_main_v15 (F := Ideal) (argV A) (ix5 0 n J kv d) = (A.band n 1 kv J d : EReal) := by
  rw [v15_at, v9_at]
  unfold Arguments.band
  by_cases h : J.val < 128
  · rw [dif_pos h, dif_pos h, if_neg fun e => k ⟨h, e⟩]; rfl
  · rw [dif_neg h, dif_neg h]; rfl

theorem seen_key {J : Fin 256} (k : Seen n r J) : ¬ (J.val < 128 ∧ n.val = 0) := by
  have := k.2.2
  rwa [blockWord_zero] at this

/-- A band's entry is real in any case: where the block before is missing it is zero. -/
theorem band_real (x : Fin 8192 → Fin 128 → ℝ) (J : Fin 256) (d : Fin 64) : ∃ y : ℝ,
    val_main_v9 (F := Ideal) (fun i => ((x (i 1) (i 2) : ℝ) : EReal)) (ix5 0 n J kv d) = (y : EReal) := by
  rw [v9_at]
  split
  · split
    · exact ⟨0, rfl⟩
    · exact ⟨_, rfl⟩
  · exact ⟨_, rfl⟩

theorem v77_seen {J : Fin 256} (k : Seen n r J) : val_main_v77 (F := Ideal) (argQ A) (argK A) (ix6 0 n kv g r J)
    = ((A.base n).score (headOf kv g) r J : EReal) := by
  have e : val_main_v77 (F := Ideal) (argQ A) (argK A) (ix6 0 n kv g r J)
      = val_main_v17 (F := Ideal) (argQ A) (argK A) (ix6 0 n kv g r J) * Ideal.ofBits .f32 0x3E000000#32 - val_main_v76 (F := Ideal) (ix6 0 n kv g r J) := by
    unfold val_main_v77 val_main_v19 val_main_v18 val_main_cst_2
    generalize val_main_v17 (F := Ideal) _ _ = y, val_main_v76 (F := Ideal) = z
    pointwise
  rw [e, v17_at, v76_at, v67_at, Cert.AttnIdeal.Body.eighth32, Cert.AttnIdeal.Body.sum_of_real (fun d => A.band n 0 kv J d * A.q (row n r) (laneAt (headOf kv g) d))
    (fun d => by rw [keys_seen A n kv (seen_key n r k), v0_at, EReal.coe_mul]; rfl), ← EReal.coe_mul, ← EReal.coe_mul, ← EReal.coe_sub]
  refine congrArg _ ?_
  unfold Numbers.score
  rw [keyOf_headOf, Finset.sum_mul]
  refine congrArg (· - _) (Finset.sum_congr rfl fun d _ => ?_)
  show _ = A.q (row n r) (laneAt (headOf kv g) d) * (1 / 8) * A.band n 0 kv J d
  ring

theorem mask_at (J : Fin 256) : val_main_v79_1 (F := Ideal) (ix6 0 n kv g r J) = if Seen n r J then 1#1 else 0#1 := by
  refine Eq.trans ?_ (v50_at n r J)
  unfold val_main_v79_1 val_main_v78
  generalize val_main_v50 (F := Ideal) = y
  pointwise

theorem v79_at (J : Fin 256) : val_main_v79_0 (F := Ideal) (argQ A) (argK A) (ix6 0 n kv g r J)
    = if Seen n r J then ((A.base n).score (headOf kv g) r J : EReal) else ⊥ := by
  rw [val_main_v79_0_apply, mask_at, Cert.AttnIdeal.Body.select_word]
  split
  · exact v77_seen A n kv g r ‹_›
  · show Ideal.ofBits .f32 0xFF800000#32 = ⊥
    simp [Ideal.ofBits, Ideal.ieee]

theorem v81_at : val_main_v89 (F := Ideal) (argSink A) (ix6 0 0 kv g 0 0) = (A.sink (headOf kv g) : EReal) := by
  unfold val_main_v89 val_main_v81 val_main_v80
  have e : (⟨kv.val * 8 + g.val, by omega⟩ : Fin 16) = headOf kv g := Fin.ext (by dsimp only [headOf]; omega)
  rw [← e, show (A.sink ⟨kv.val * 8 + g.val, by omega⟩ : EReal) = argSink A (ix1 ⟨kv.val * 8 + g.val, by omega⟩) from rfl]
  generalize argSink A = y
  pointwise

theorem seen_self : Seen n r ⟨r.val + 128, by omega⟩ := ⟨by dsimp only; omega, by dsimp only; omega, fun k => by have := k.1; dsimp only at this; omega⟩

/-- A row's largest score is the score of a key it sees. -/
theorem v82_at : ∃ J : Fin 256, Seen n r J ∧ val_main_v82 (F := Ideal) (argQ A) (argK A) (ix5 0 n kv g r)
    = ((A.base n).score (headOf kv g) r J : EReal) := by
  have e : val_main_v82 (F := Ideal) (argQ A) (argK A) (ix5 0 n kv g r)
      = Finset.univ.sup fun J : Fin 256 => (val_main_v79_0 (F := Ideal) (argQ A) (argK A) (ix6 0 n kv g r J) : EReal) := by
    unfold val_main_v82
    rw [Host.reduce_eq_fold_single FloatOps.maximumf _ _ reducesTo_S1x64x2x8x128x256_S1x64x2x8x128_d5 (by decide)]
    rw [show (val_main_cst_25 (F := Ideal)) (Shape.Idx.first h_S_) = (⊥ : EReal) from by show Ideal.ofBits .f32 0xFF800000#32 = ⊥; simp [Ideal.ofBits, Ideal.ieee]]
    refine congrArg (fun f : Fin 256 → EReal => Finset.univ.sup f) (funext fun J => congrArg (val_main_v79_0 (F := Ideal) (argQ A) (argK A)) (funext fun a => ?_))
    fin_cases a <;> rfl
  obtain ⟨J, -, hJ⟩ := Finset.exists_mem_eq_sup (Finset.univ : Finset (Fin 256)) ⟨0, Finset.mem_univ _⟩
    fun J => (val_main_v79_0 (F := Ideal) (argQ A) (argK A) (ix6 0 n kv g r J) : EReal)
  by_cases k : Seen n r J
  · exact ⟨J, k, by rw [e, hJ, v79_at, if_pos k]⟩
  · exfalso
    rw [v79_at, if_neg k] at hJ
    have h1 := Finset.le_sup (f := fun J => (val_main_v79_0 (F := Ideal) (argQ A) (argK A) (ix6 0 n kv g r J) : EReal)) (Finset.mem_univ (⟨r.val + 128, by omega⟩ : Fin 256))
    rw [hJ] at h1
    dsimp only at h1
    rw [v79_at, if_pos (seen_self n r)] at h1
    exact absurd h1 (by simp)

/-- The number a row's scores are lowered by. -/
def top (A : Arguments) (n : Fin 64) (kv : Fin 2) (g : Fin 8) (r : Fin 128) : ℝ :=
  (val_main_v91 (F := Ideal) (argQ A) (argK A) (argSink A) (ix6 0 n kv g r 0) : EReal).toReal

theorem v91_eq : val_main_v91 (F := Ideal) (argQ A) (argK A) (argSink A) (ix6 0 n kv g r 0)
    = max (val_main_v82 (F := Ideal) (argQ A) (argK A) (ix5 0 n kv g r) : EReal) (A.sink (headOf kv g) : EReal) := by
  rw [← v81_at A kv g, val_main_v91_apply, val_main_v88_apply, val_main_v90_apply]
  exact congrArg₂ (fun a b : EReal => max a b) (congrArg _ (funext fun a => by fin_cases a <;> rfl)) (congrArg _ (funext fun a => by fin_cases a <;> rfl))

theorem v91_at : val_main_v91 (F := Ideal) (argQ A) (argK A) (argSink A) (ix6 0 n kv g r 0) = (top A n kv g r : EReal) := by
  obtain ⟨J, -, e⟩ := v82_at A n kv g r
  have e2 := v91_eq A n kv g r
  rw [e, ← EReal.coe_strictMono.monotone.map_max] at e2
  unfold top
  rw [e2, EReal.toReal_coe]

theorem v112_at (J : Fin 256) : val_main_v112 (F := Ideal) (argQ A) (argK A) (argSink A) (ix6 0 n kv g r J)
    = (A.low n (top A n kv g r) (headOf kv g) r J : EReal) := by
  have e : val_main_v112 (F := Ideal) (argQ A) (argK A) (argSink A) (ix6 0 n kv g r J)
      = Ideal.exp (val_main_v79_0 (F := Ideal) (argQ A) (argK A) (ix6 0 n kv g r J) - val_main_v91 (F := Ideal) (argQ A) (argK A) (argSink A) (ix6 0 n kv g r 0)) := by
    unfold val_main_v112 val_main_v111 val_main_v110
    generalize val_main_v79_0 (F := Ideal) _ _ = y, val_main_v91 (F := Ideal) _ _ _ = z
    pointwise
  rw [e, v79_at, v91_at]
  unfold Arguments.low
  by_cases k : Seen n r J
  · rw [if_pos k, expo_seen A n r _ k, ← EReal.coe_sub, Ideal.exp_coe, ← Real.exp_add, sub_eq_add_neg]
  · rw [if_neg k, expo_unseen A n r _ k, zero_mul, EReal.bot_sub]
    rfl

theorem v118_at : val_main_v118 (F := Ideal) (argQ A) (argK A) (argSink A) (ix6 0 n kv g r 0)
    = (Real.exp (A.sink (headOf kv g) - top A n kv g r) : EReal) := by
  have e : val_main_v118 (F := Ideal) (argQ A) (argK A) (argSink A) (ix6 0 n kv g r 0)
      = Ideal.exp (val_main_v89 (F := Ideal) (argSink A) (ix6 0 0 kv g 0 0) - val_main_v91 (F := Ideal) (argQ A) (argK A) (argSink A) (ix6 0 n kv g r 0)) := by
    rw [val_main_v118_apply, val_main_v117_apply, val_main_v116_apply, val_main_v115_apply, val_main_v89_apply]
    have ix : idx_main_v115 (idx_main_v116 (ix6 0 n kv g r 0)) = idx_main_v89 (ix6 0 0 kv g 0 0) := funext fun a => by fin_cases a <;> rfl
    rw [ix]
    generalize val_main_v81 (F := Ideal) (argSink A) _ = x, val_main_v91 (F := Ideal) (argQ A) (argK A) (argSink A) _ = y
    rfl
  rw [e, v81_at, v91_at, ← EReal.coe_sub, Ideal.exp_coe]

theorem v113_at : val_main_v113 (F := Ideal) (argQ A) (argK A) (argSink A) (ix5 0 n kv g r)
    = ((∑ J, A.low n (top A n kv g r) (headOf kv g) r J : ℝ) : EReal) := by
  rw [val_main_v113_apply, show (val_main_cst_33 (F := Ideal)) (Shape.Idx.first h_S_) = (0 : EReal) from Ideal.ofBits_zero_f32, zero_add]
  refine Cert.AttnIdeal.Body.sum_of_real _ fun J => ?_
  refine Eq.trans (congrArg _ (funext fun a => by fin_cases a <;> rfl)) (v112_at A n kv g r J)

theorem v119_at : val_main_v119 (F := Ideal) (argQ A) (argK A) (argSink A) (ix6 0 n kv g r 0)
    = (A.lowDen n (top A n kv g r) (headOf kv g) r : EReal) := by
  have e : val_main_v119 (F := Ideal) (argQ A) (argK A) (argSink A) (ix6 0 n kv g r 0)
      = (val_main_v113 (F := Ideal) (argQ A) (argK A) (argSink A) (ix5 0 n kv g r) : EReal) + val_main_v118 (F := Ideal) (argQ A) (argK A) (argSink A) (ix6 0 n kv g r 0) := by
    unfold val_main_v119 val_main_v114
    generalize val_main_v113 (F := Ideal) _ _ _ = y, val_main_v118 (F := Ideal) _ _ _ = z
    pointwise
  rw [e, v113_at, v118_at, ← EReal.coe_add]
  rfl

theorem over_lowDen (x : ℝ) (M : ℝ) (h : Fin 16) : Ideal.div (x : EReal) (A.lowDen n M h r : EReal) = ((x / A.lowDen n M h r : ℝ) : EReal) := by
  rw [Ideal.div_coe (A.lowDen_pos n M h r).ne', ← EReal.coe_mul]
  congr 1
  ring

theorem v121_at (J : Fin 256) : val_main_v121 (F := Ideal) (argQ A) (argK A) (argSink A) (ix6 0 n kv g r J)
    = (A.prob n (headOf kv g) r J : EReal) := by
  have e : val_main_v121 (F := Ideal) (argQ A) (argK A) (argSink A) (ix6 0 n kv g r J)
      = Ideal.div (val_main_v112 (F := Ideal) (argQ A) (argK A) (argSink A) (ix6 0 n kv g r J)) (val_main_v119 (F := Ideal) (argQ A) (argK A) (argSink A) (ix6 0 n kv g r 0)) := by
    unfold val_main_v121 val_main_v120
    generalize val_main_v112 (F := Ideal) _ _ _ = y, val_main_v119 (F := Ideal) _ _ _ = z
    pointwise
  rw [e, v112_at, v119_at, over_lowDen, Arguments.low_div]

theorem unseen_prob {J : Fin 256} (h : Fin 16) (k : J.val < 128 ∧ n.val = 0) : A.prob n h r J = 0 := by
  unfold Arguments.prob
  rw [expo_unseen A n r h fun e => seen_key n r e k, zero_div]

theorem v125_at (d : Fin 64) : val_main_v125 (F := Ideal) (argQ A) (argK A) (argV A) (argSink A) (ix6 0 n kv d g r)
    = (A.att n (headOf kv g) r d : EReal) := by
  rw [val_main_v125_apply]
  refine Cert.AttnIdeal.Body.sum_of_real _ fun J => ?_
  refine Eq.trans (congrArg₂ (fun a b : EReal => a * b) (congrArg _ (funext fun a => by fin_cases a <;> rfl : _ = ix5 0 n J kv d)) (congrArg _ (funext fun a => by fin_cases a <;> rfl : _ = ix6 0 n kv g r J))) ?_
  rw [v121_at, keyOf_headOf]
  by_cases k : J.val < 128 ∧ n.val = 0
  · obtain ⟨y, hy⟩ := band_real n kv A.v J d
    rw [unseen_prob A n r _ k, zero_mul]
    exact mul_zero _
  · rw [values_seen A n kv k, ← EReal.coe_mul, mul_comm]

/-- The heads' sums side by side, head by head. -/
theorem merged_at (y : FVec Ideal S1x64x2x64x8x128 .f32) (d : Fin 64) :
    (shapeCast S1x8192x1024 (transpose S1x64x128x2x8x64 [0, 1, 5, 2, 4, 3] y transposes_S1x64x2x64x8x128_S1x64x128x2x8x64_0_1_5_2_4_3)
      shapeCasts_S1x64x128x2x8x64_S1x8192x1024 : FVec Ideal S1x8192x1024 .f32) (ix3 0 (row n r) (laneAt (headOf kv g) d)) = y (ix6 0 n kv d g r) := by
  pointwise
  have hn := n.isLt
  have hr := r.isLt
  refine congrArg y (funext fun a => Fin.ext ?_)
  match a with
  | ⟨0, _⟩ => rfl
  | ⟨1, _⟩ => show (128 * n.val + r.val) / 128 = n.val; omega
  | ⟨2, _⟩ => show (64 * (8 * kv.val + g.val) + d.val) / 512 = kv.val; omega
  | ⟨3, _⟩ => show (64 * (8 * kv.val + g.val) + d.val) % 64 = d.val; omega
  | ⟨4, _⟩ => show (64 * (8 * kv.val + g.val) + d.val) / 64 % 8 = g.val; omega
  | ⟨5, _⟩ => show (128 * n.val + r.val) % 128 = r.val; omega

/-- The forward pass's result. -/
theorem v127_at (d : Fin 64) : val_main_v127 (F := Ideal) (argQ A) (argK A) (argV A) (argSink A) (ix3 0 (row n r) (laneAt (headOf kv g) d))
    = (A.att n (headOf kv g) r d : EReal) := by
  rw [← v125_at]
  unfold val_main_v127 val_main_v126
  exact merged_at n kv g r _ d

end Cert.AttnRefIdeal.Attention
end
-- ==== Proof.AttnHost.lean ====
/- The arrays that the attention gradient's call gets, from the program's arguments, and what its tiles hold. -/
module
public import proofs.«01_k».proof.Proof.AttnContents
public import proofs.«01_k».proof.Proof.AttnForward
public import Idealize.ShloMosaic.Lib.Pipeline.ValueKit
public import Idealize.ShloMosaic.Lib.Pointwise
public import Idealize.ShloMosaic.Lib.Claim

@[expose] public section

set_option maxRecDepth 16384
noncomputable section

open Idealize.ShloMosaic Idealize.ShloMosaic.TcCoe Idealize.SL.Sem
open Idealize.ShloMosaic.Tactic
open Cert.AttnRefIdeal.Attention (argQ argK argV argSink argCt)

namespace Cert.AttnIdeal.Body

open Cert.AttnIdeal Cert.AttnIdeal.Gen

variable (m : (ℓ : Loc nD τ sig) → Buf (Elt Ideal) ℓ)

/-- The table of the slopes is the reference's stack. -/
theorem slopes_same : (fun i => shapeCast main_v49.ty.shape (fun i : S16.Idx => FloatOps.ofBits (F := Ideal) .f32 (lit0 (S16.rowMajor i))) shapeCasts_S16_S2x8 i)
    = Cert.AttnRefIdeal.Read.val_main_v68 (F := Ideal) := by
  unfold Cert.AttnRefIdeal.Read.val_main_v68
  refine congrArg (fun y => shapeCast S2x8 y _) (funext fun i => ?_)
  have e : i = ix1 (i 0) := funext fun a => by fin_cases a; rfl
  rw [e]
  generalize (i 0 : Fin 16) = h
  unfold Cert.AttnRefIdeal.Read.val_main_v67
  fin_cases h <;> rfl

set_option maxHeartbeats 2000000 in
/-- The forward pass's result, in the reference's own words. -/
theorem host_out (c : Dev nD) : V m c main_v96 = truncf (F := Ideal) .bf16 (shapeCast S8192x1024
    (Cert.AttnRefIdeal.Read.val_main_v127 (F := Ideal) (m ((c : Thread nD τ).loc main_arg0)) (m ((c : Thread nD τ).loc main_arg1)) (m ((c : Thread nD τ).loc main_arg2)) (m ((c : Thread nD τ).loc main_arg3)))
    shapeCasts_S1x8192x1024_S8192x1024) bitsLt_bf16_f32 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  after_results_loop
  erw [slopes_same]
  rfl

set_option maxHeartbeats 2000000 in
/-- The logarithms of the denominators, in the reference's own words. -/
theorem host_lse (c : Dev nD) : V m c main_v97 = shapeCast S8192x16 (shapeCast S1x8192x16 (transpose S1x64x128x2x8x1 [0, 1, 4, 2, 3, 5]
    (addf (F := Ideal) (φ := .f32) (Cert.AttnRefIdeal.Read.val_main_v91 (F := Ideal) (m ((c : Thread nD τ).loc main_arg0)) (m ((c : Thread nD τ).loc main_arg1)) (m ((c : Thread nD τ).loc main_arg3)))
      (Host.log (F := Ideal) (φ := .f32) (Cert.AttnRefIdeal.Read.val_main_v119 (F := Ideal) (m ((c : Thread nD τ).loc main_arg0)) (m ((c : Thread nD τ).loc main_arg1)) (m ((c : Thread nD τ).loc main_arg3)))))
    transposes_S1x64x2x8x128x1_S1x64x128x2x8x1_0_1_4_2_3_5) shapeCasts_S1x64x128x2x8x1_S1x8192x16) shapeCasts_S1x8192x16_S8192x16 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  after_results_loop
  erw [slopes_same]
  rfl

/-- The keys beside the values. -/
theorem host_kv (c : Dev nD) : V m c main_v90 = truncf (F := Ideal) .bf16 (concatenate S8192x256 1 [⟨S8192x128, shapeCast S8192x128 (m ((c : Thread nD τ).loc main_arg1)) shapeCasts_S1x8192x128_S8192x128⟩,
    ⟨S8192x128, shapeCast S8192x128 (m ((c : Thread nD τ).loc main_arg2)) shapeCasts_S1x8192x128_S8192x128⟩] concatenates_S8192x128_S8192x128_S8192x256_d1) bitsLt_bf16_f32 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  after_results_loop
  rfl

theorem host_q (c : Dev nD) : V m c main_v92 = truncf (F := Ideal) .bf16 (shapeCast S8192x1024 (m ((c : Thread nD τ).loc main_arg0)) shapeCasts_S1x8192x1024_S8192x1024) bitsLt_bf16_f32 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  rfl

theorem host_ct (c : Dev nD) : V m c main_v94 = truncf (F := Ideal) .bf16 (shapeCast S8192x1024 (m ((c : Thread nD τ).loc main_arg4)) shapeCasts_S1x8192x1024_S8192x1024) bitsLt_bf16_f32 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  rfl

theorem host_sink (c : Dev nD) : V m c main_v98 = shapeCast S1x16 (m ((c : Thread nD τ).loc main_arg3)) shapeCasts_S16_S1x16 := by
  entry_read
  simp only [hostOps0, hostOps0_1, hostOps0_2, List.flatten, List.append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp)
  rfl

/-! ## The blocks -/

/-- A row of the heads' logarithms. -/
theorem lse_at (M L : FVec Ideal S1x64x2x8x128x1 .f32) (n : Fin 64) (r : Fin 128) (kv : Fin 2) (g : Fin 8) :
    shapeCast S8192x16 (shapeCast S1x8192x16 (transpose S1x64x128x2x8x1 [0, 1, 4, 2, 3, 5]
      (addf (F := Ideal) (φ := .f32) M (Host.log (F := Ideal) (φ := .f32) L))
      transposes_S1x64x2x8x128x1_S1x64x128x2x8x1_0_1_4_2_3_5) shapeCasts_S1x64x128x2x8x1_S1x8192x16) shapeCasts_S1x8192x16_S8192x16 (ix2 (row n r) (headOf kv g))
    = M (ix6 0 n kv g r 0) + Ideal.log (L (ix6 0 n kv g r 0)) := by
  pointwise
  have hn := n.isLt
  have e : (ix6 0 ⟨(128 * n.val + r.val) / 128, by omega⟩ ⟨(8 * kv.val + g.val) / 8, by omega⟩ ⟨(8 * kv.val + g.val) % 8, by omega⟩ ⟨(128 * n.val + r.val) % 128, by omega⟩ 0 : S1x64x2x8x128x1.Idx)
      = ix6 0 n kv g r 0 := by
    refine funext fun a => Fin.ext ?_
    match a with
    | ⟨0, _⟩ => rfl
    | ⟨1, _⟩ => show (128 * n.val + r.val) / 128 = n.val; omega
    | ⟨2, _⟩ => show (8 * kv.val + g.val) / 8 = kv.val; omega
    | ⟨3, _⟩ => show (8 * kv.val + g.val) % 8 = g.val; omega
    | ⟨4, _⟩ => show (128 * n.val + r.val) % 128 = r.val; omega
    | ⟨5, _⟩ => rfl
  exact congrArg (fun i => (M i : EReal) + Ideal.log (L i)) e

/-- A tile of a matrix is some of its columns. -/
theorem tile_at {a b k : ℕ} {e : EltTy} (X : (⟨2, ![a, b]⟩ : Shape).Idx → Elt Ideal e) (o : ℕ)
    (inb : ∀ d, (![0, o] : Fin 2 → ℕ) d + (⟨2, ![a, k]⟩ : Shape).size d ≤ (⟨2, ![a, b]⟩ : Shape).size d) (r : Fin a) (x : Fin k) (y : Fin b) (h : y.val = o + x.val) :
    View.ld X (Rect.unit (s := ⟨2, ![a, b]⟩) ![0, o] (⟨2, ![a, k]⟩ : Shape).size inb) (ix2 r x) = X (ix2 r y) := by
  refine View.ld_unit_apply_of X _ _ inb _ _ fun d => ?_
  match d with
  | ⟨0, _⟩ => exact (Nat.zero_add _).symm
  | ⟨1, _⟩ => exact h

theorem lse_tile (x : Ins Ideal) (L : FVec Ideal S128x16 .f32) (hL : x.lse = L) (h : Fin 16) (r : Fin 128) (z : EReal) (hz : (L (ix2 r h) : EReal) = z) :
    (tilesOf x).lse h (ix2 r 0) = z := by
  subst hL hz
  exact tile_at (a := 128) (b := 16) (k := 1) (e := .f32) x.lse h.val (inLse h) r 0 h (Nat.add_zero h.val).symm

theorem sink_tile (x : Ins Ideal) (L : FVec Ideal S1x16 .f32) (hL : x.sink = L) (h : Fin 16) (z : EReal) (hz : (L (ix2 0 h) : EReal) = z) :
    (tilesOf x).sink h = z := by
  subst hL hz
  have e : (Shape.Idx.first (numel1_S1x1.symm ▸ Nat.one_pos) : S1x1.Idx) = ix2 0 0 := by
    refine funext fun a => Fin.ext ?_
    fin_cases a <;> exact Nat.lt_one_iff.1 (Fin.isLt _)
  have f := tile_at (a := 1) (b := 16) (k := 1) (e := .f32) x.sink h.val (inSink h) 0 0 h (Nat.add_zero h.val).symm
  rw [← e] at f
  exact f

/-- The keys' and the values' columns. -/
theorem kv_at (A : Arguments) (w : Fin 2) (n : Fin 64) (r : Fin 128) (kv : Fin 2) (d : Fin 64) :
    truncf (F := Ideal) .bf16 (concatenate S8192x256 1 [⟨S8192x128, shapeCast S8192x128 (argK A) shapeCasts_S1x8192x128_S8192x128⟩,
      ⟨S8192x128, shapeCast S8192x128 (argV A) shapeCasts_S1x8192x128_S8192x128⟩] concatenates_S8192x128_S8192x128_S8192x256_d1) bitsLt_bf16_f32
        (ix2 (row n r) ⟨128 * w.val + (half kv d).val, by omega⟩) = (((if w = 0 then A.k else A.v) (row n r) (half kv d) : ℝ) : EReal) := by
  pointwise
  obtain rfl | rfl : w = 0 ∨ w = 1 := by omega
  · rw [dif_pos (by show 128 * 0 + (64 * kv.val + d.val) < 128; omega)]
    exact congrArg (fun y : Fin 128 => ((A.k (row n r) y : ℝ) : EReal)) (Fin.ext (Nat.zero_add _))
  · rw [dif_neg (by show ¬ (128 * 1 + (64 * kv.val + d.val) < 128); omega)]
    exact congrArg (fun y : Fin 128 => ((A.v (row n r) y : ℝ) : EReal)) (Fin.ext (by show 128 * 1 + (64 * kv.val + d.val) - 128 = 64 * kv.val + d.val; omega))

/-- The queries' and the cotangent's entries. -/
theorem flat_at (x : FVec Ideal S1x8192x1024 .f32) (n : Fin 8192) (l : Fin 1024) :
    truncf (F := Ideal) .bf16 (shapeCast S8192x1024 x shapeCasts_S1x8192x1024_S8192x1024) bitsLt_bf16_f32 (ix2 n l) = x (ix3 0 n l) := by
  pointwise

theorem flat_sink (x : FVec Ideal S16 .f32) (h : Fin 16) : shapeCast S1x16 x shapeCasts_S16_S1x16 (ix2 0 h) = x (ix1 h) := by
  pointwise

/-- The blocks a point works on. -/
theorem idx : ∀ t : Fin cfg0.N, win0_0.index t = ![0, 0] ∧ win0_1.index t = ![min t.val 63, 0] ∧ win0_2.index t = ![min t.val 63, 0] ∧ win0_3.index t = ![min t.val 63 - 1, 0]
    ∧ win0_4.index t = ![min t.val 63, 0] ∧ win0_5.index t = ![min t.val 63, 0] ∧ win0_6.index t = ![min t.val 63, 0]
    ∧ win0_7.index t = ![min t.val 63, 0] ∧ win0_8.index t = ![t.val - 1, 0] ∧ win0_9.index t = ![0, 0] ∧ (grid0.coords t 0).val = t.val := by
  decide +kernel

theorem number_eq (c : Dev nD) (t : Fin cfg0.N) (h : t.val < 64) : number t = blockWord ⟨t.val, h⟩ := by
  show BitVec.ofNat 32 (grid0.coords t 0).val = _
  rw [(idx t).2.2.2.2.2.2.2.2.2.2]

variable (c : Dev nD) (t : Fin cfg0.N) (ht : t.val < 64)

/-- Two places of a matrix with the same coordinates are the same. -/
theorem index2 {a b : ℕ} {i : (⟨2, ![a, b]⟩ : Shape).Idx} {r : Fin a} {x : Fin b} (h0 : (i 0).val = r.val) (h1 : (i 1).val = x.val) : i = ix2 r x := by
  funext k
  fin_cases k
  · exact Fin.ext h0
  · exact Fin.ext h1

/-- A window's block is a part of its array. -/
theorem part (w : Fin cfg0.W) (Y : ((Pipeline.arrRef spec0 w).ty.shape.Idx → Elt Ideal (Pipeline.arrRef spec0 w).ty.elt)) (hY : V m c (Pipeline.arrRef spec0 w) = Y) (i) :
    iblk m c w t i = ((cfg0.win w).blk t).view.read (Elt Ideal) Y i := by
  subst hY
  rfl

include ht

theorem place1 (r : Fin 128) (x : Fin 1024) : (win0_1.blk t).view.emb (ix2 r x) = ix2 (row ⟨t.val, ht⟩ r) x := by
  have h : min t.val 63 = t.val := by omega
  have e := (idx t).2.1
  have e0 : ((win0_1.blk t).view.emb (ix2 r x) 0).val = (row ⟨t.val, ht⟩ r).val := by
    blk_simp [e, h]
    exact congrArg (· + r.val) (Nat.mul_comm _ _)
  have e1 : ((win0_1.blk t).view.emb (ix2 r x) 1).val = x.val := by blk_simp [e]
  exact index2 e0 e1

theorem block1 (r : Fin 128) (x : Fin 1024) (Y : FVec Ideal S8192x1024 .bf16) (hY : V m c main_v92 = Y) :
    (iblk m c 1 t : FVec Ideal S128x1024 .bf16) (ix2 r x) = Y (ix2 (row ⟨t.val, ht⟩ r) x) := by
  exact (part m c t 1 Y hY (ix2 r x)).trans (congrArg Y (place1 t ht r x))

theorem place4 (r : Fin 128) (x : Fin 1024) : (win0_4.blk t).view.emb (ix2 r x) = ix2 (row ⟨t.val, ht⟩ r) x := by
  have h : min t.val 63 = t.val := by omega
  have e := (idx t).2.2.2.2.1
  have e0 : ((win0_4.blk t).view.emb (ix2 r x) 0).val = (row ⟨t.val, ht⟩ r).val := by
    blk_simp [e, h]
    exact congrArg (· + r.val) (Nat.mul_comm _ _)
  have e1 : ((win0_4.blk t).view.emb (ix2 r x) 1).val = x.val := by blk_simp [e]
  exact index2 e0 e1

theorem block4 (r : Fin 128) (x : Fin 1024) (Y : FVec Ideal S8192x1024 .bf16) (hY : V m c main_v94 = Y) :
    (iblk m c 4 t : FVec Ideal S128x1024 .bf16) (ix2 r x) = Y (ix2 (row ⟨t.val, ht⟩ r) x) := by
  exact (part m c t 4 Y hY (ix2 r x)).trans (congrArg Y (place4 t ht r x))

theorem place5 (r : Fin 128) (x : Fin 1024) : (win0_5.blk t).view.emb (ix2 r x) = ix2 (row ⟨t.val, ht⟩ r) x := by
  have h : min t.val 63 = t.val := by omega
  have e := (idx t).2.2.2.2.2.1
  have e0 : ((win0_5.blk t).view.emb (ix2 r x) 0).val = (row ⟨t.val, ht⟩ r).val := by
    blk_simp [e, h]
    exact congrArg (· + r.val) (Nat.mul_comm _ _)
  have e1 : ((win0_5.blk t).view.emb (ix2 r x) 1).val = x.val := by blk_simp [e]
  exact index2 e0 e1

theorem block5 (r : Fin 128) (x : Fin 1024) (Y : FVec Ideal S8192x1024 .bf16) (hY : V m c main_v96 = Y) :
    (iblk m c 5 t : FVec Ideal S128x1024 .bf16) (ix2 r x) = Y (ix2 (row ⟨t.val, ht⟩ r) x) := by
  exact (part m c t 5 Y hY (ix2 r x)).trans (congrArg Y (place5 t ht r x))

theorem place2 (r : Fin 128) (x : Fin 256) : (win0_2.blk t).view.emb (ix2 r x) = ix2 (row ⟨t.val, ht⟩ r) x := by
  have h : min t.val 63 = t.val := by omega
  have e := (idx t).2.2.1
  have e0 : ((win0_2.blk t).view.emb (ix2 r x) 0).val = (row ⟨t.val, ht⟩ r).val := by
    blk_simp [e, h]
    exact congrArg (· + r.val) (Nat.mul_comm _ _)
  have e1 : ((win0_2.blk t).view.emb (ix2 r x) 1).val = x.val := by blk_simp [e]
  exact index2 e0 e1

theorem block2 (r : Fin 128) (x : Fin 256) (Y : FVec Ideal S8192x256 .bf16) (hY : V m c main_v90 = Y) :
    (iblk m c 2 t : FVec Ideal S128x256 .bf16) (ix2 r x) = Y (ix2 (row ⟨t.val, ht⟩ r) x) := by
  exact (part m c t 2 Y hY (ix2 r x)).trans (congrArg Y (place2 t ht r x))

theorem place3 (r : Fin 128) (x : Fin 256) : (win0_3.blk t).view.emb (ix2 r x) = ix2 (row (earlier ⟨t.val, ht⟩) r) x := by
  have h : min t.val 63 = t.val := by omega
  have e := (idx t).2.2.2.1
  have e0 : ((win0_3.blk t).view.emb (ix2 r x) 0).val = (row (earlier ⟨t.val, ht⟩) r).val := by
    blk_simp [e, h]
    exact congrArg (· + r.val) (Nat.mul_comm _ _)
  have e1 : ((win0_3.blk t).view.emb (ix2 r x) 1).val = x.val := by blk_simp [e]
  exact index2 e0 e1

theorem block3 (r : Fin 128) (x : Fin 256) (Y : FVec Ideal S8192x256 .bf16) (hY : V m c main_v90 = Y) :
    (iblk m c 3 t : FVec Ideal S128x256 .bf16) (ix2 r x) = Y (ix2 (row (earlier ⟨t.val, ht⟩) r) x) := by
  exact (part m c t 3 Y hY (ix2 r x)).trans (congrArg Y (place3 t ht r x))

theorem place6 (r : Fin 128) (x : Fin 16) : (win0_6.blk t).view.emb (ix2 r x) = ix2 (row ⟨t.val, ht⟩ r) x := by
  have h : min t.val 63 = t.val := by omega
  have e := (idx t).2.2.2.2.2.2.1
  have e0 : ((win0_6.blk t).view.emb (ix2 r x) 0).val = (row ⟨t.val, ht⟩ r).val := by
    blk_simp [e, h]
    exact congrArg (· + r.val) (Nat.mul_comm _ _)
  have e1 : ((win0_6.blk t).view.emb (ix2 r x) 1).val = x.val := by blk_simp [e]
  exact index2 e0 e1

theorem block6 (r : Fin 128) (x : Fin 16) (Y : FVec Ideal S8192x16 .f32) (hY : V m c main_v97 = Y) :
    (iblk m c 6 t : FVec Ideal S128x16 .f32) (ix2 r x) = Y (ix2 (row ⟨t.val, ht⟩ r) x) := by
  exact (part m c t 6 Y hY (ix2 r x)).trans (congrArg Y (place6 t ht r x))

omit ht

theorem place0 (x : Fin 16) : (win0_0.blk t).view.emb (ix2 0 x) = ix2 0 x := by
  have e := (idx t).1
  have e1 : ((win0_0.blk t).view.emb (ix2 0 x) 1).val = x.val := by blk_simp [e]
  exact index2 (Nat.lt_one_iff.1 ((win0_0.blk t).view.emb (ix2 0 x) 0).isLt) e1

theorem block0 (x : Fin 16) (Y : FVec Ideal S1x16 .f32) (hY : V m c main_v98 = Y) : (iblk m c 0 t : FVec Ideal S1x16 .f32) (ix2 0 x) = Y (ix2 0 x) := by
  exact (part m c t 0 Y hY (ix2 0 x)).trans (congrArg Y (place0 t x))

/-! ## What the tiles hold -/

/-- The arguments are the given real numbers. -/
structure Given (A : Arguments) : Prop where
  q : m ((c : Thread nD τ).loc main_arg0) = argQ A
  k : m ((c : Thread nD τ).loc main_arg1) = argK A
  v : m ((c : Thread nD τ).loc main_arg2) = argV A
  sink : m ((c : Thread nD τ).loc main_arg3) = argSink A
  ct : m ((c : Thread nD τ).loc main_arg4) = argCt A

include ht

theorem tile1 (h : Fin 16) (r : Fin 128) (d : Fin 64) (Y : FVec Ideal S8192x1024 .bf16) (hY : V m c main_v92 = Y) :
    (tiles m c t).q (tileAt h) (ix2 r (half (sideOf h) d)) = Y (ix2 (row ⟨t.val, ht⟩ r) (laneAt h d)) := by
  refine Eq.trans (tile_at (a := 128) (b := 1024) (k := 128) (e := .bf16) (iblk m c 1 t : FVec Ideal S128x1024 .bf16) (128 * (tileAt h).val) (inWide (tileAt h)) r (half (sideOf h) d) (laneAt h d)
    (by show 64 * h.val + d.val = 128 * (h.val / 2) + (64 * (h.val % 2) + d.val); omega)) ?_
  exact block1 m c t ht r (laneAt h d) Y hY

theorem tile4 (h : Fin 16) (r : Fin 128) (d : Fin 64) (Y : FVec Ideal S8192x1024 .bf16) (hY : V m c main_v94 = Y) :
    (tiles m c t).ct (tileAt h) (ix2 r (half (sideOf h) d)) = Y (ix2 (row ⟨t.val, ht⟩ r) (laneAt h d)) := by
  refine Eq.trans (tile_at (a := 128) (b := 1024) (k := 128) (e := .bf16) (iblk m c 4 t : FVec Ideal S128x1024 .bf16) (128 * (tileAt h).val) (inWide (tileAt h)) r (half (sideOf h) d) (laneAt h d)
    (by show 64 * h.val + d.val = 128 * (h.val / 2) + (64 * (h.val % 2) + d.val); omega)) ?_
  exact block4 m c t ht r (laneAt h d) Y hY

theorem tile5 (h : Fin 16) (r : Fin 128) (d : Fin 64) (Y : FVec Ideal S8192x1024 .bf16) (hY : V m c main_v96 = Y) :
    (tiles m c t).out (tileAt h) (ix2 r (half (sideOf h) d)) = Y (ix2 (row ⟨t.val, ht⟩ r) (laneAt h d)) := by
  refine Eq.trans (tile_at (a := 128) (b := 1024) (k := 128) (e := .bf16) (iblk m c 5 t : FVec Ideal S128x1024 .bf16) (128 * (tileAt h).val) (inWide (tileAt h)) r (half (sideOf h) d) (laneAt h d)
    (by show 64 * h.val + d.val = 128 * (h.val / 2) + (64 * (h.val % 2) + d.val); omega)) ?_
  exact block5 m c t ht r (laneAt h d) Y hY

theorem tile2 (z kv : Fin 2) (r : Fin 128) (d : Fin 64) (Y : FVec Ideal S8192x256 .bf16) (hY : V m c main_v90 = Y) :
    (tiles m c t).cur z (ix2 r (half kv d)) = Y (ix2 (row ⟨t.val, ht⟩ r) ⟨128 * z.val + (half kv d).val, by omega⟩) := by
  refine Eq.trans (tile_at (a := 128) (b := 256) (k := 128) (e := .bf16) (iblk m c 2 t : FVec Ideal S128x256 .bf16) (128 * z.val) (inNarrow z) r (half kv d) ⟨128 * z.val + (half kv d).val, by omega⟩ rfl) ?_
  exact block2 m c t ht r _ Y hY

theorem tile3 (z kv : Fin 2) (r : Fin 128) (d : Fin 64) (Y : FVec Ideal S8192x256 .bf16) (hY : V m c main_v90 = Y) :
    (tiles m c t).prev z (ix2 r (half kv d)) = Y (ix2 (row (earlier ⟨t.val, ht⟩) r) ⟨128 * z.val + (half kv d).val, by omega⟩) := by
  refine Eq.trans (tile_at (a := 128) (b := 256) (k := 128) (e := .bf16) (iblk m c 3 t : FVec Ideal S128x256 .bf16) (128 * z.val) (inNarrow z) r (half kv d) ⟨128 * z.val + (half kv d).val, by omega⟩ rfl) ?_
  exact block3 m c t ht r _ Y hY

theorem tile6 (h : Fin 16) (r : Fin 128) (Y : FVec Ideal S8192x16 .f32) (hY : V m c main_v97 = Y) :
    (tiles m c t).lse h (ix2 r 0) = Y (ix2 (row ⟨t.val, ht⟩ r) h) := by
  exact lse_tile (blocks m c t) (iblk m c 6 t) rfl h r _ (block6 m c t ht r h Y hY)

omit ht

theorem tile0 (h : Fin 16) (Y : FVec Ideal S1x16 .f32) (hY : V m c main_v98 = Y) : (tiles m c t).sink h = Y (ix2 0 h) := by
  exact sink_tile (blocks m c t) (iblk m c 0 t) rfl h _ (block0 m c t h Y hY)

variable {m c} {A : Arguments} (G : Given m c A)

include ht G in
theorem holds : (tiles m c t).Holds (A.block ⟨t.val, ht⟩) where
  q h r d := (tile1 m c t ht h r d _ (host_q m c)).trans ((flat_at _ _ _).trans (by rw [G.q]; rfl))
  ct h r d := (tile4 m c t ht h r d _ (host_ct m c)).trans ((flat_at _ _ _).trans (by rw [G.ct]; rfl))
  out h r d := by
    obtain ⟨kv, g, rfl⟩ : ∃ kv g, h = headOf kv g := ⟨⟨h.val / 8, by omega⟩, ⟨h.val % 8, by omega⟩, Fin.ext (by dsimp only; omega)⟩
    refine (tile5 m c t ht _ r d _ (host_out m c)).trans ((flat_at _ _ _).trans ?_)
    rw [G.q, G.k, G.v, G.sink]
    exact Cert.AttnRefIdeal.Attention.v127_at A ⟨t.val, ht⟩ kv g r d
  prev w kv r d := by
    refine (tile3 m c t ht w kv r d _ (host_kv m c)).trans ?_
    rw [G.k, G.v]
    refine (kv_at A w _ r kv d).trans ?_
    show _ = ((A.band _ w kv _ d : ℝ) : EReal)
    unfold Arguments.band
    rw [dif_pos r.isLt]
  cur w kv r d := by
    refine (tile2 m c t ht w kv r d _ (host_kv m c)).trans ?_
    rw [G.k, G.v]
    refine (kv_at A w _ r kv d).trans ?_
    show _ = ((A.band _ w kv _ d : ℝ) : EReal)
    unfold Arguments.band
    rw [dif_neg (show ¬ (128 + r.val < 128) by omega)]
    exact congrArg (fun y : Fin 128 => (((if w = 0 then A.k else A.v) (row ⟨t.val, ht⟩ y) (half kv d) : ℝ) : EReal)) (Fin.ext (by dsimp only; omega))
  lse h r := by
    obtain ⟨kv, g, rfl⟩ : ∃ kv g, h = headOf kv g := ⟨⟨h.val / 8, by omega⟩, ⟨h.val % 8, by omega⟩, Fin.ext (by dsimp only; omega)⟩
    refine (tile6 m c t ht _ r _ (host_lse m c)).trans ((lse_at _ _ ⟨t.val, ht⟩ r kv g).trans ?_)
    rw [G.q, G.k, G.sink, Cert.AttnRefIdeal.Attention.v91_at, Cert.AttnRefIdeal.Attention.v119_at, Ideal.log_coe, if_neg (not_le.2 (A.lowDen_pos _ _ _ _)), ← EReal.coe_add, A.log_low]
    rfl
  sink h := by
    refine (tile0 m c t h _ (host_sink m c)).trans ((flat_sink _ _).trans ?_)
    rw [G.sink]
    rfl

end Cert.AttnIdeal.Body

end
-- ==== Proof.AttnBackward.lean ====
/- The attention's backward pass, as the reference writes it, on real arguments: every result is the specification's gradient. -/
module
public import proofs.«01_k».proof.Proof.AttnForward
@[expose] public section
set_option maxRecDepth 16384
noncomputable section
namespace Cert.AttnRefIdeal.Attention
open Idealize.ShloMosaic Idealize.ShloMosaic.TcCoe Idealize.SL.Sem
open Cert.AttnRefIdeal Cert.AttnRefIdeal.Gen Cert.AttnRefIdeal.Read
open Cert.AttnIdeal.Body (Numbers Arguments row laneAt earlier blockWord half keyOf headOf slope sum_of_real)

/-! ## Sums over several axes -/

/-- A sum over axes, by any listing of the entries that fall on one place. -/
theorem hostSum {s t : Shape} {axes : List (Fin s.rank)} {K : Type} [Fintype K] (h : s.ReducesTo axes t) (x : FVec Ideal s .f32) (z : S_.Idx → EReal) (hu : 0 < S_.numel)
    (j : t.Idx) (f : K → s.Idx) (inj : Function.Injective f) (fib : ∀ i, h.drop i = j ↔ ∃ k, f k = i) :
    (Host.reduceAdd (F := Ideal) (φ := .f32) x z h hu j : EReal) = z (Shape.Idx.first hu) + ∑ k, (x (f k) : EReal) := by
  simp only [Host.reduceAdd, Ideal.hostReduceAdd_def]
  exact congrArg _ (Finset.sum_filter_eq_sum_of_fiber _ f inj fib x)

/-- Of nothing but zeros it is zero. -/
theorem hostSum_zero {s t : Shape} {axes : List (Fin s.rank)} (h : s.ReducesTo axes t) (x : FVec Ideal s .f32) (z : S_.Idx → EReal) (hu : 0 < S_.numel)
    (j : t.Idx) (hx : ∀ i, (x i : EReal) = 0) (hz : z (Shape.Idx.first hu) = 0) :
    (Host.reduceAdd (F := Ideal) (φ := .f32) x z h hu j : EReal) = 0 := by
  simp only [Host.reduceAdd, Ideal.hostReduceAdd_def]
  show z (Shape.Idx.first hu) + ∑ i ∈ _, (x i : EReal) = 0
  rw [hz, zero_add]
  exact Finset.sum_eq_zero fun i _ => hx i

/-- Axes of one entry each: the sum is the entry. -/
theorem v147_sum (x : FVec Ideal S1x64x2x8x128x1 .f32) (z : S_.Idx → EReal) (hz : z (Shape.Idx.first h_S_) = 0) (n : Fin 64) (kv : Fin 2) (g : Fin 8) (r : Fin 128) :
    (Host.reduceAdd (F := Ideal) (φ := .f32) x z reducesTo_S1x64x2x8x128x1_S64x2x8x128_d0_5 h_S_ (ix4 n kv g r) : EReal) = x (ix6 0 n kv g r 0) := by
  rw [hostSum _ _ _ _ _ (fun _ : Unit => ix6 0 n kv g r 0) (fun _ _ _ => rfl) ?_, hz, zero_add, Fintype.sum_unique]
  intro i
  constructor
  · intro e
    refine ⟨(), funext fun a => Fin.ext ?_⟩
    match a with
    | ⟨0, _⟩ => exact (Nat.lt_one_iff.1 (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.1 (i 5).isLt).symm
  · rintro ⟨-, rfl⟩
    funext b
    fin_cases b <;> rfl

theorem v145_sum (x : FVec Ideal S1x1x2x8x1x1 .f32) (z : S_.Idx → EReal) (hz : z (Shape.Idx.first h_S_) = 0) (kv : Fin 2) (g : Fin 8) :
    (Host.reduceAdd (F := Ideal) (φ := .f32) x z reducesTo_S1x1x2x8x1x1_S2x8_d0_1_4_5 h_S_ (ix2 kv g) : EReal) = x (ix6 0 0 kv g 0 0) := by
  rw [hostSum _ _ _ _ _ (fun _ : Unit => ix6 0 0 kv g 0 0) (fun _ _ _ => rfl) ?_, hz, zero_add, Fintype.sum_unique]
  intro i
  constructor
  · intro e
    refine ⟨(), funext fun a => Fin.ext ?_⟩
    match a with
    | ⟨0, _⟩ => exact (Nat.lt_one_iff.1 (i 0).isLt).symm
    | ⟨1, _⟩ => exact (Nat.lt_one_iff.1 (i 1).isLt).symm
    | ⟨2, _⟩ => exact (congrArg Fin.val (congrFun e 0)).symm
    | ⟨3, _⟩ => exact (congrArg Fin.val (congrFun e 1)).symm
    | ⟨4, _⟩ => exact (Nat.lt_one_iff.1 (i 4).isLt).symm
    | ⟨5, _⟩ => exact (Nat.lt_one_iff.1 (i 5).isLt).symm
  · rintro ⟨-, rfl⟩
    funext b
    fin_cases b <;> rfl

theorem v169_sum (x : FVec Ideal S2x8x1x1 .f32) (z : S_.Idx → EReal) (hz : z (Shape.Idx.first h_S_) = 0) (kv : Fin 2) (g : Fin 8) :
    (Host.reduceAdd (F := Ideal) (φ := .f32) x z reducesTo_S2x8x1x1_S2x8_d2_3 h_S_ (ix2 kv g) : EReal) = x (ix4 kv g 0 0) := by
  rw [hostSum _ _ _ _ _ (fun _ : Unit => ix4 kv g 0 0) (fun _ _ _ => rfl) ?_, hz, zero_add, Fintype.sum_unique]
  intro i
  constructor
  · intro e
    refine ⟨(), funext fun a => Fin.ext ?_⟩
    match a with
    | ⟨0, _⟩ => exact (congrArg Fin.val (congrFun e 0)).symm
    | ⟨1, _⟩ => exact (congrArg Fin.val (congrFun e 1)).symm
    | ⟨2, _⟩ => exact (Nat.lt_one_iff.1 (i 2).isLt).symm
    | ⟨3, _⟩ => exact (Nat.lt_one_iff.1 (i 3).isLt).symm
  · rintro ⟨-, rfl⟩
    funext b
    fin_cases b <;> rfl

theorem v142_sum (x : FVec Ideal S1x64x2x8x128x1 .f32) (z : S_.Idx → EReal) (hz : z (Shape.Idx.first h_S_) = 0) (kv : Fin 2) (g : Fin 8) :
    (Host.reduceAdd (F := Ideal) (φ := .f32) x z reducesTo_S1x64x2x8x128x1_S1x2x8x1_d1_4 h_S_ (ix4 0 kv g 0) : EReal)
      = ∑ k : Fin 64 × Fin 128, (x (ix6 0 k.1 kv g k.2 0) : EReal) := by
  rw [hostSum _ _ _ _ _ (fun k : Fin 64 × Fin 128 => ix6 0 k.1 kv g k.2 0) (fun a b e => Prod.ext (show (ix6 (0 : Fin 1) a.1 kv g a.2 (0 : Fin 1) : S1x64x2x8x128x1.Idx) 1 = (ix6 (0 : Fin 1) b.1 kv g b.2 (0 : Fin 1) : S1x64x2x8x128x1.Idx) 1 from congrFun e 1) (show (ix6 (0 : Fin 1) a.1 kv g a.2 (0 : Fin 1) : S1x64x2x8x128x1.Idx) 4 = (ix6 (0 : Fin 1) b.1 kv g b.2 (0 : Fin 1) : S1x64x2x8x128x1.Idx) 4 from congrFun e 4)) ?_, hz, zero_add]
  intro i
  constructor
  · intro e
    refine ⟨(i 1, i 4), funext fun a => Fin.ext ?_⟩
    match a with
    | ⟨0, _⟩ => exact (Nat.lt_one_iff.1 (i 0).isLt).symm
    | ⟨1, _⟩ => rfl
    | ⟨2, _⟩ => exact (congrArg Fin.val (congrFun e 1)).symm
    | ⟨3, _⟩ => exact (congrArg Fin.val (congrFun e 2)).symm
    | ⟨4, _⟩ => rfl
    | ⟨5, _⟩ => exact (Nat.lt_one_iff.1 (i 5).isLt).symm
  · rintro ⟨k, rfl⟩
    funext b
    fin_cases b <;> rfl

/-! ## The backward pass on real arguments -/

variable (A : Arguments) (n : Fin 64) (kv : Fin 2) (g : Fin 8) (r : Fin 128)

theorem v129_at (d : Fin 64) : val_main_v129 (F := Ideal) (argCt A) (ix6 0 n kv d g r) = ((A.base n).ct (headOf kv g) r d : EReal) := by
  have e : val_main_v129 (F := Ideal) (argCt A) (ix6 0 n kv d g r) = val_main_v128 (F := Ideal) (argCt A) (ix6 0 n r kv g d) := by
    unfold val_main_v129
    generalize val_main_v128 (F := Ideal) _ = y
    pointwise
  exact e.trans (v0_at (argCt A) n r kv g d)

theorem v15_real (J : Fin 256) (d : Fin 64) : ∃ y : ℝ, val_main_v15 (F := Ideal) (argV A) (ix5 0 n J kv d) = (y : EReal) :=
  (band_real n kv A.v J d)

/-- The weights' cotangent: real, and the specification's at a key of the band. -/
theorem v130_at (J : Fin 256) : ∃ y : ℝ, val_main_v130 (F := Ideal) (argV A) (argCt A) (ix6 0 n kv g r J) = (y : EReal)
    ∧ (¬ (J.val < 128 ∧ n.val = 0) → y = A.dprob n (headOf kv g) r J) := by
  have e : val_main_v130 (F := Ideal) (argV A) (argCt A) (ix6 0 n kv g r J)
      = ∑ d : Fin 64, ((A.base n).ct (headOf kv g) r d : EReal) * val_main_v15 (F := Ideal) (argV A) (ix5 0 n J kv d) := by
    rw [val_main_v130_apply]
    refine Finset.sum_congr rfl fun d _ => ?_
    rw [← v129_at A n kv g r d]
    exact congrArg₂ (fun a b : EReal => a * b) (congrArg _ (funext fun a => by fin_cases a <;> rfl)) (congrArg _ (funext fun a => by fin_cases a <;> rfl))
  choose y hy using v15_real A n kv J
  refine ⟨∑ d, (A.base n).ct (headOf kv g) r d * y d, e.trans (Cert.AttnIdeal.Body.sum_of_real _ fun d => ?_), fun k => Finset.sum_congr rfl fun d _ => ?_⟩
  · rw [hy, EReal.coe_mul]
  · have := (hy d).symm.trans (values_seen A n kv k d)
    rw [EReal.coe_injective this, keyOf_headOf]

/-- Where a query sees no key its weight is zero. -/
theorem low_unseen {J : Fin 256} (M : ℝ) (h : Fin 16) (k : ¬ Seen n r J) : A.low n M h r J = 0 := by
  unfold Arguments.low
  rw [expo_unseen A n r h k, zero_mul]

theorem low_or (J : Fin 256) (M : ℝ) (h : Fin 16) {y z : ℝ} (k : ¬ (J.val < 128 ∧ n.val = 0) → y = z) : y * A.low n M h r J = z * A.low n M h r J := by
  by_cases hs : Seen n r J
  · rw [k (seen_key n r hs)]
  · rw [low_unseen A n r M h hs, mul_zero, mul_zero]

theorem one_word : Ideal.ofBits .f32 0x3F800000#32 = ((1 : ℝ) : EReal) := by
  simp [Ideal.ofBits, Ideal.ieee, -EReal.coe_mul]; norm_num

theorem v124_at : val_main_v124 (F := Ideal) (argQ A) (argK A) (argSink A) (ix6 0 n kv g r 0)
    = ((1 / (A.lowDen n (top A n kv g r) (headOf kv g) r * A.lowDen n (top A n kv g r) (headOf kv g) r) : ℝ) : EReal) := by
  have hp := A.lowDen_pos n (top A n kv g r) (headOf kv g) r
  rw [val_main_v124_apply, val_main_v122_apply, v119_at]
  refine Eq.trans (congrArg₂ Ideal.div (one_word : _ = ((1 : ℝ) : EReal)) (EReal.coe_mul _ _).symm) ?_
  rw [Ideal.div_coe (mul_pos hp hp).ne', ← EReal.coe_mul, one_mul]

/-- The denominator's cotangent. -/
theorem v138_at : val_main_v138 (F := Ideal) (argQ A) (argK A) (argV A) (argSink A) (argCt A) (ix6 0 n kv g r 0)
    = (A.lowDl n (top A n kv g r) (headOf kv g) r : EReal) := by
  have e : val_main_v138 (F := Ideal) (argQ A) (argK A) (argV A) (argSink A) (argCt A) (ix6 0 n kv g r 0)
      = -(val_main_v136 (F := Ideal) (argQ A) (argK A) (argV A) (argSink A) (argCt A) (ix5 0 n kv g r) : EReal) := by
    unfold val_main_v138 val_main_v137
    generalize val_main_v136 (F := Ideal) _ _ _ _ _ = y
    pointwise
  rw [e, val_main_v136_apply]
  unfold Arguments.lowDl
  rw [EReal.coe_neg]
  refine congrArg Neg.neg (Eq.trans (congrArg₂ (fun a b : EReal => a + b) (Ideal.ofBits_zero_f32 : _ = (0 : EReal)) (Cert.AttnIdeal.Body.sum_of_real _ fun J => ?_)) (zero_add _))
  obtain ⟨y, hy, hk⟩ := v130_at A n kv g r J
  rw [show idx_main_v136 (ix5 0 n kv g r) J = ix6 0 n kv g r J from funext fun a => by fin_cases a <;> rfl, val_main_v135_apply, val_main_v134_apply, hy, v112_at, val_main_v133_apply,
    show idx_main_v133 (ix6 0 n kv g r J) = ix6 0 n kv g r 0 from funext fun a => by fin_cases a <;> rfl, v124_at]
  refine Eq.trans (congrArg (fun a : EReal => a * _) (EReal.coe_mul _ _).symm) ?_
  refine (EReal.coe_mul _ _).symm.trans (congrArg _ ?_)
  exact low_or A n r J _ _ fun k => by rw [hk k]

theorem v147_at : val_main_v147 (F := Ideal) (argQ A) (argK A) (argV A) (argSink A) (argCt A) (ix4 n kv g r)
    = (A.lowDl n (top A n kv g r) (headOf kv g) r : EReal) := by
  unfold val_main_v147
  exact (v147_sum _ _ Ideal.ofBits_zero_f32 n kv g r).trans (v138_at A n kv g r)

/-- The scores' cotangent through the weights and the denominator. -/
theorem v151_at (J : Fin 256) : val_main_v151 (F := Ideal) (argQ A) (argK A) (argV A) (argSink A) (argCt A) (ix6 0 n kv g r J)
    = ((A.block n).dscore (blockWord n) (headOf kv g) r J : EReal) := by
  obtain ⟨y, hy, hk⟩ := v130_at A n kv g r J
  rw [val_main_v151_apply, val_main_v150_apply, val_main_v140_apply, hy, v112_at, val_main_v139_apply,
    show idx_main_v139 (ix6 0 n kv g r J) = ix6 0 n kv g r 0 from funext fun a => by fin_cases a <;> rfl, v119_at,
    val_main_v149_apply, val_main_v148_apply,
    show idx_main_v148 (idx_main_v149 (ix6 0 n kv g r J)) = ix4 n kv g r from funext fun a => by fin_cases a <;> rfl, v147_at]
  refine Eq.trans (congrArg (fun a : EReal => (a + _) * _) (over_lowDen A n r y _ _)) ?_
  refine Eq.trans (congrArg (fun a : EReal => a * _) (EReal.coe_add _ _).symm) ?_
  refine (EReal.coe_mul _ _).symm.trans (congrArg _ ?_)
  rw [← A.low_dscore n (top A n kv g r)]
  exact low_or A n r J _ _ fun k => by rw [hk k]

theorem v141_at : val_main_v141 (F := Ideal) (argQ A) (argK A) (argV A) (argSink A) (argCt A) (ix6 0 n kv g r 0)
    = ((A.lowDl n (top A n kv g r) (headOf kv g) r * Real.exp (A.sink (headOf kv g) - top A n kv g r) : ℝ) : EReal) := by
  rw [val_main_v141_apply, v138_at, v118_at]
  exact (EReal.coe_mul _ _).symm

/-- Nothing is left for the row's top. -/
theorem v155_at : val_main_v155 (F := Ideal) (argQ A) (argK A) (argV A) (argSink A) (argCt A) (ix6 0 n kv g r 0) = (0 : EReal) := by
  have e : val_main_v155 (F := Ideal) (argQ A) (argK A) (argV A) (argSink A) (argCt A) (ix6 0 n kv g r 0)
      = -(val_main_v141 (F := Ideal) (argQ A) (argK A) (argV A) (argSink A) (argCt A) (ix6 0 n kv g r 0) : EReal)
        + val_main_v153 (F := Ideal) (argQ A) (argK A) (argV A) (argSink A) (argCt A) (ix5 0 n kv g r) := by
    unfold val_main_v155 val_main_v154 val_main_v144
    generalize val_main_v153 (F := Ideal) _ _ _ _ _ = y, val_main_v141 (F := Ideal) _ _ _ _ _ = z
    pointwise
  have e2 : val_main_v153 (F := Ideal) (argQ A) (argK A) (argV A) (argSink A) (argCt A) (ix5 0 n kv g r)
      = ((∑ J, -((A.dprob n (headOf kv g) r J / A.lowDen n (top A n kv g r) (headOf kv g) r + A.lowDl n (top A n kv g r) (headOf kv g) r)
        * A.low n (top A n kv g r) (headOf kv g) r J) : ℝ) : EReal) := by
    rw [val_main_v153_apply]
    refine Eq.trans (congrArg₂ (fun a b : EReal => a + b) (Ideal.ofBits_zero_f32 : _ = (0 : EReal)) (Cert.AttnIdeal.Body.sum_of_real _ fun J => ?_)) (zero_add _)
    rw [show idx_main_v153 (ix5 0 n kv g r) J = ix6 0 n kv g r J from funext fun a => by fin_cases a <;> rfl, val_main_v152_apply, v151_at, A.low_dscore n]
    exact (EReal.coe_neg _).symm
  rw [e, e2, v141_at]
  refine Eq.trans (congrArg (fun a : EReal => a + _) (EReal.coe_neg _).symm) ?_
  refine (EReal.coe_add _ _).symm.trans (congrArg _ ?_)
  exact A.low_max n _ _ r

theorem v155_zero (i : S1x64x2x8x128x1.Idx) : val_main_v155 (F := Ideal) (argQ A) (argK A) (argV A) (argSink A) (argCt A) i = (0 : EReal) := by
  have e : i = ix6 0 (i 1) (i 2) (i 3) (i 4) 0 := funext fun a => Fin.ext <| by
    match a with
    | ⟨0, _⟩ => exact Nat.lt_one_iff.1 (i 0).isLt
    | ⟨1, _⟩ => rfl
    | ⟨2, _⟩ => rfl
    | ⟨3, _⟩ => rfl
    | ⟨4, _⟩ => rfl
    | ⟨5, _⟩ => exact Nat.lt_one_iff.1 (i 5).isLt
  rw [e]
  exact v155_at A (i 1) (i 2) (i 3) (i 4)

theorem v161_zero (i : S2x8x1x1.Idx) : val_main_v161 (F := Ideal) (argQ A) (argK A) (argV A) (argSink A) (argCt A) i = (0 : EReal) := by
  have e (j : S2x8.Idx) : val_main_v160 (F := Ideal) (argQ A) (argK A) (argV A) (argSink A) (argCt A) j = (0 : EReal) := by
    unfold val_main_v160
    refine hostSum_zero _ _ _ _ _ (fun k => ?_) Ideal.ofBits_zero_f32
    unfold val_main_v158
    refine hostSum_zero _ _ _ _ _ (fun k => ?_) Ideal.ofBits_zero_f32
    rw [val_main_v156_apply, v155_zero]
    exact zero_mul _
  rw [val_main_v161_apply, e]

theorem v163_zero (i : S64x2x8x128.Idx) : val_main_v163 (F := Ideal) (argQ A) (argK A) (argV A) (argSink A) (argCt A) i = (0 : EReal) := by
  unfold val_main_v163
  refine hostSum_zero _ _ _ _ _ (fun k => ?_) Ideal.ofBits_zero_f32
  rw [val_main_v159_apply, v155_zero]
  exact zero_mul _

/-- Some key attains the row's top. -/
theorem v87_ne : val_main_v87 (F := Ideal) (argQ A) (argK A) (ix5 0 n kv g r) ≠ (0 : EReal) := by
  obtain ⟨J, hs, hJ⟩ := v82_at A n kv g r
  have nn (I : Fin 256) : (0 : EReal) ≤ val_main_v86 (F := Ideal) (argQ A) (argK A) (ix6 0 n kv g r I) := by
    rw [val_main_v86_apply]
    exact EReal.coe_nonneg.2 (Nat.cast_nonneg _)
  have one : val_main_v86 (F := Ideal) (argQ A) (argK A) (ix6 0 n kv g r J) = (1 : EReal) := by
    have e : val_main_v84 (F := Ideal) (argQ A) (argK A) (ix6 0 n kv g r J) = val_main_v82 (F := Ideal) (argQ A) (argK A) (ix5 0 n kv g r) := by
      rw [val_main_v84_apply]
      unfold val_main_v83
      generalize val_main_v82 (F := Ideal) _ _ = y
      pointwise
      exact congrArg y (funext fun a => by fin_cases a <;> rfl)
    rw [val_main_v86_apply, val_main_v85_apply, e, v79_at, if_pos hs, hJ]
    show (((Ideal.cmp .oeq _ _).toNat : ℝ) : EReal) = 1
    unfold Ideal.cmp
    simp
  rw [val_main_v87_apply]
  refine ne_of_gt (lt_of_lt_of_le zero_lt_one ?_)
  refine le_trans ?_ (le_of_eq (congrArg₂ (fun a b : EReal => a + b) (Ideal.ofBits_zero_f32 : _ = (0 : EReal)) rfl).symm)
  rw [zero_add]
  have ix (I : Fin 256) : idx_main_v87 (ix5 0 n kv g r) I = ix6 0 n kv g r I := funext fun a => by fin_cases a <;> rfl
  simp only [ix]
  exact le_trans (le_of_eq one.symm) (Finset.single_le_sum (f := fun I => (val_main_v86 (F := Ideal) (argQ A) (argK A) (ix6 0 n kv g r I) : EReal)) (fun I _ => nn I) (Finset.mem_univ J))

theorem v168_at (J : Fin 256) : val_main_v168 (F := Ideal) (argQ A) (argK A) (argV A) (argSink A) (argCt A) (ix6 0 n kv g r J)
    = ((A.block n).dscore (blockWord n) (headOf kv g) r J : EReal) := by
  have z : val_main_v167 (F := Ideal) (argQ A) (argK A) (argV A) (argSink A) (argCt A) (ix6 0 n kv g r J) = (0 : EReal) := by
    rw [val_main_v167_apply, val_main_v166_apply, show idx_main_v166 (ix6 0 n kv g r J) = ix5 0 n kv g r from funext fun a => by fin_cases a <;> rfl,
      val_main_v165_apply, val_main_v164_apply, v163_zero]
    refine Eq.trans (congrArg (fun a : EReal => a * _) (Ideal.zero_div (v87_ne A n kv g r))) (zero_mul _)
  rw [val_main_v168_apply, z, v151_at]
  exact add_zero _

theorem unseen_dscore {J : Fin 256} (h : Fin 16) (k : ¬ Seen n r J) : (A.block n).dscore (blockWord n) h r J = 0 := by
  unfold Numbers.dscore
  rw [Cert.AttnIdeal.Body.weight_out _ h r J k, zero_mul]

/-- The scaled scores' cotangent. -/
theorem v173_at (J : Fin 256) : val_main_v173 (F := Ideal) (argQ A) (argK A) (argV A) (argSink A) (argCt A) (ix6 0 n kv g r J)
    = (((A.block n).dscore (blockWord n) (headOf kv g) r J * (1 / 8) : ℝ) : EReal) := by
  have e : val_main_v171 (F := Ideal) (argQ A) (argK A) (argV A) (argSink A) (argCt A) (ix6 0 n kv g r J)
      = ((A.block n).dscore (blockWord n) (headOf kv g) r J : EReal) := by
    rw [val_main_v171_apply, mask_at, Cert.AttnIdeal.Body.select_word]
    split
    · exact v168_at A n kv g r J
    · rw [unseen_dscore A n r _ (by assumption), val_main_call1_v0_apply]
      exact Ideal.ofBits_zero_f32
  rw [val_main_v173_apply, e, val_main_v172_apply, EReal.coe_mul]
  exact congrArg (fun a : EReal => _ * a) (Cert.AttnIdeal.Body.eighth32)

/-! ## The gradients -/

theorem v174_at (J : Fin 256) : val_main_v174 (F := Ideal) (argQ A) (argK A) (argV A) (argSink A) (argCt A) (ix6 0 n kv J r g)
    = (((A.block n).dscore (blockWord n) (headOf kv g) r J * (1 / 8) : ℝ) : EReal) := by
  rw [← v173_at]
  unfold val_main_v174
  generalize val_main_v173 (F := Ideal) _ _ _ _ _ = y
  pointwise

theorem v175_at (d : Fin 64) : val_main_v175 (F := Ideal) (argQ A) (argK A) (argV A) (argSink A) (argCt A) (ix6 0 n kv r g d)
    = (A.gradQ n (headOf kv g) r d : EReal) := by
  rw [val_main_v175_apply]
  unfold Arguments.gradQ
  rw [Finset.sum_mul]
  refine Cert.AttnIdeal.Body.sum_of_real _ fun J => ?_
  refine Eq.trans (congrArg₂ (fun a b : EReal => a * b) (congrArg _ (funext fun a => by fin_cases a <;> rfl : _ = ix6 0 n kv J r g)) (congrArg _ (funext fun a => by fin_cases a <;> rfl : _ = ix5 0 n J kv d))) ?_
  rw [v174_at, keyOf_headOf]
  by_cases k : J.val < 128 ∧ n.val = 0
  · rw [unseen_dscore A n r _ fun e => seen_key n r e k, zero_mul, zero_mul, zero_mul]
    exact zero_mul _
  · rw [keys_seen A n kv k, ← EReal.coe_mul]
    exact congrArg _ (by ring)

theorem v176_at (d : Fin 64) : val_main_v176 (F := Ideal) (argQ A) (argK A) (argV A) (argSink A) (argCt A) (ix6 0 n r kv g d)
    = (A.gradQ n (headOf kv g) r d : EReal) := by
  rw [← v175_at]
  unfold val_main_v176
  generalize val_main_v175 (F := Ideal) _ _ _ _ _ = y
  pointwise

/-- The queries' gradient. -/
theorem v199_at (d : Fin 64) : val_main_v199 (F := Ideal) (argQ A) (argK A) (argV A) (argSink A) (argCt A) (ix2 (row n r) (laneAt (headOf kv g) d))
    = (A.gradQ n (headOf kv g) r d : EReal) := by
  rw [← v176_at]
  unfold val_main_v199 val_main_v198 val_main_v197
  generalize val_main_v176 (F := Ideal) _ _ _ _ _ = y
  pointwise
  have hn := n.isLt
  have hr := r.isLt
  refine congrArg y (funext fun a => Fin.ext ?_)
  match a with
  | ⟨0, _⟩ => rfl
  | ⟨1, _⟩ => show (128 * n.val + r.val) / 128 = n.val; omega
  | ⟨2, _⟩ => show (128 * n.val + r.val) % 128 = r.val; omega
  | ⟨3, _⟩ => show (64 * (8 * kv.val + g.val) + d.val) / 512 = kv.val; omega
  | ⟨4, _⟩ => show (64 * (8 * kv.val + g.val) + d.val) / 64 % 8 = g.val; omega
  | ⟨5, _⟩ => show (64 * (8 * kv.val + g.val) + d.val) % 64 = d.val; omega

/-- Both sums of a product over the queries and their heads. -/
theorem v177_at (J : Fin 256) (d : Fin 64) : val_main_v177 (F := Ideal) (argQ A) (argK A) (argV A) (argSink A) (argCt A) (ix5 0 n kv J d)
    = ((A.block n).dkeys (blockWord n) kv J d : EReal) := by
  unfold val_main_v177
  have e174 := fun r g => v174_at A n kv g r J
  have e0 := fun r g => v0_at (argQ A) n r kv g d
  generalize val_main_v174 (F := Ideal) _ _ _ _ _ = y at e174 ⊢
  generalize val_main_v0 (F := Ideal) _ = z at e0 ⊢
  pointwise
  unfold Numbers.dkeys
  rw [Finset.sum_comm]
  refine Cert.AttnIdeal.Body.sum_of_real _ fun g => Cert.AttnIdeal.Body.sum_of_real _ fun r => ?_
  rw [e174, e0]
  refine (EReal.coe_mul _ _).symm.trans (congrArg _ ?_)
  show _ * A.q (row n r) (laneAt (headOf kv g) d) = A.q (row n r) (laneAt (headOf kv g) d) * (1 / 8) * _
  ring

theorem v131_at (J : Fin 256) (d : Fin 64) : val_main_v131 (F := Ideal) (argQ A) (argK A) (argSink A) (argCt A) (ix5 0 n kv d J)
    = ((A.block n).dvalues (blockWord n) kv J d : EReal) := by
  unfold val_main_v131
  have e129 := fun r g => v129_at A n kv g r d
  have e121 := fun r g => v121_at A n kv g r J
  generalize val_main_v129 (F := Ideal) _ = y at e129 ⊢
  generalize val_main_v121 (F := Ideal) _ _ _ = z at e121 ⊢
  pointwise
  unfold Numbers.dvalues
  refine Cert.AttnIdeal.Body.sum_of_real _ fun g => Cert.AttnIdeal.Body.sum_of_real _ fun r => ?_
  rw [e129, e121, Cert.AttnIdeal.Body.Arguments.block_weight]
  exact (EReal.coe_mul _ _).symm

/-- A row's two shares: its own block's and the next block's. -/
def shares (Y : FVec Ideal S1x64x256x2x64 .f32) : FVec Ideal S1x8192x2x64 .f32 :=
  addf (pad S1x8192x2x64 ![0, 0, 0, 0] ![0, 128, 0, 0] ![0, 0, 0, 0] (extractStridedSlice S1x8064x2x64 ![0, 128, 0, 0]
    (shapeCast S1x8192x2x64 (extractStridedSlice S1x64x128x2x64 ![0, 0, 0, 0, 0] Y slices_S1x64x256x2x64_S1x64x128x2x64_0_0_0_0_0) shapeCasts_S1x64x128x2x64_S1x8192x2x64) slices_S1x8192x2x64_S1x8064x2x64_0_128_0_0)
      (val_main_cst_45 (F := Ideal)) pads_S1x8064x2x64_S1x8192x2x64_000_01280_000_000 h_S_)
    (shapeCast S1x8192x2x64 (extractStridedSlice S1x64x128x2x64 ![0, 0, 128, 0, 0] Y slices_S1x64x256x2x64_S1x64x128x2x64_0_0_128_0_0) shapeCasts_S1x64x128x2x64_S1x8192x2x64)

theorem shares_at (Y : FVec Ideal S1x64x256x2x64 .f32) (y : Fin 128) (d : Fin 64) : (shares Y (ix4 0 (row n y) kv d) : EReal)
    = (if h : n.val + 1 < 64 then Y (ix5 0 ⟨n.val + 1, h⟩ ⟨y.val, by omega⟩ kv d) else 0) + Y (ix5 0 n ⟨128 + y.val, by omega⟩ kv d) := by
  unfold shares val_main_cst_45
  pointwise
  have hn := n.isLt
  have hy := y.isLt
  refine congrArg₂ (fun a b : EReal => a + b) ?_ (congrArg Y (congrArg₂ (fun a b => ix5 0 a b kv d) (Fin.ext ?_) (Fin.ext ?_)))
  · by_cases h : n.val + 1 < 64
    · rw [dif_pos h, dif_pos (by omega)]
      exact congrArg Y (congrArg (fun a => ix5 0 a _ kv d) (Fin.ext (by dsimp only; omega)))
    · rw [dif_neg h, dif_neg (by omega)]
  · dsimp only; omega
  · dsimp only; omega

theorem v178_at (J : Fin 256) (d : Fin 64) : val_main_v178 (F := Ideal) (argQ A) (argK A) (argV A) (argSink A) (argCt A) (ix5 0 n J kv d)
    = ((A.block n).dkeys (blockWord n) kv J d : EReal) := by
  rw [← v177_at]
  unfold val_main_v178
  generalize val_main_v177 (F := Ideal) _ _ _ _ _ = y
  pointwise

theorem v132_at (J : Fin 256) (d : Fin 64) : val_main_v132 (F := Ideal) (argQ A) (argK A) (argSink A) (argCt A) (ix5 0 n J kv d)
    = ((A.block n).dvalues (blockWord n) kv J d : EReal) := by
  rw [← v131_at]
  unfold val_main_v132
  generalize val_main_v131 (F := Ideal) _ _ _ _ = y
  pointwise

theorem keys_at (y : Fin 128) (d : Fin 64) : val_main_v194 (F := Ideal) (argQ A) (argK A) (argV A) (argSink A) (argCt A) (ix4 0 (row n y) kv d)
    = (A.gradK n kv y d : EReal) := by
  refine (shares_at n kv (val_main_v178 (F := Ideal) (argQ A) (argK A) (argV A) (argSink A) (argCt A)) y d).trans ?_
  unfold Arguments.gradK
  rw [v178_at, EReal.coe_add, add_comm]
  refine congrArg _ ?_
  split
  · rw [v178_at]
  · rfl

theorem values_at (y : Fin 128) (d : Fin 64) : val_main_v186 (F := Ideal) (argQ A) (argK A) (argSink A) (argCt A) (ix4 0 (row n y) kv d)
    = (A.gradV n kv y d : EReal) := by
  refine (shares_at n kv (val_main_v132 (F := Ideal) (argQ A) (argK A) (argSink A) (argCt A)) y d).trans ?_
  unfold Arguments.gradV
  rw [v132_at, EReal.coe_add, add_comm]
  refine congrArg _ ?_
  split
  · rw [v132_at]
  · rfl

theorem v203_keys (y : Fin 128) (d : Fin 64) : val_main_v203 (F := Ideal) (argQ A) (argK A) (argV A) (argSink A) (argCt A) (ix2 (row n y) ⟨(half kv d).val, by omega⟩)
    = (A.gradK n kv y d : EReal) := by
  rw [← keys_at]
  unfold val_main_v203 val_main_v202 val_main_v200 val_main_v196
  generalize val_main_v201 (F := Ideal) _ _ _ _ = z, val_main_v194 (F := Ideal) _ _ _ _ _ = x
  pointwise
  rw [dif_pos (by omega)]

theorem v203_values (y : Fin 128) (d : Fin 64) : val_main_v203 (F := Ideal) (argQ A) (argK A) (argV A) (argSink A) (argCt A) (ix2 (row n y) ⟨128 + (half kv d).val, by omega⟩)
    = (A.gradV n kv y d : EReal) := by
  rw [← values_at]
  unfold val_main_v203 val_main_v202 val_main_v201 val_main_v195
  generalize val_main_v200 (F := Ideal) _ _ _ _ _ = z, val_main_v186 (F := Ideal) _ _ _ _ = x
  pointwise

/-- The sinks' gradient. -/
theorem v204_at : val_main_v204 (F := Ideal) (argQ A) (argK A) (argV A) (argSink A) (argCt A) (ix2 0 (headOf kv g))
    = (A.gradSink (headOf kv g) : EReal) := by
  have e142 : val_main_v142 (F := Ideal) (argQ A) (argK A) (argV A) (argSink A) (argCt A) (ix4 0 kv g 0) = (A.gradSink (headOf kv g) : EReal) := by
    unfold val_main_v142
    rw [v142_sum _ _ Ideal.ofBits_zero_f32, Fintype.sum_prod_type]
    unfold Arguments.gradSink
    refine Cert.AttnIdeal.Body.sum_of_real _ fun n => ?_
    unfold Numbers.dsinks
    rw [zero_sub, ← Finset.sum_neg_distrib]
    refine Cert.AttnIdeal.Body.sum_of_real _ fun r => ?_
    dsimp only
    rw [v141_at, A.low_sink]
    rfl
  have e145 : val_main_v145 (F := Ideal) (argQ A) (argK A) (argV A) (argSink A) (argCt A) (ix2 kv g) = (A.gradSink (headOf kv g) : EReal) := by
    unfold val_main_v145
    rw [v145_sum _ _ Ideal.ofBits_zero_f32, ← e142]
    unfold val_main_v143
    generalize val_main_v142 (F := Ideal) _ _ _ _ _ = y
    pointwise
  have e162 : val_main_v162 (F := Ideal) (argQ A) (argK A) (argV A) (argSink A) (argCt A) (ix4 kv g 0 0) = (A.gradSink (headOf kv g) : EReal) := by
    rw [val_main_v162_apply, v161_zero, val_main_v146_apply, show idx_main_v146 (ix4 kv g 0 0) = ix2 kv g from funext fun a => by fin_cases a <;> rfl, e145]
    exact add_zero _
  have e169 : val_main_v169 (F := Ideal) (argQ A) (argK A) (argV A) (argSink A) (argCt A) (ix2 kv g) = (A.gradSink (headOf kv g) : EReal) := by
    rw [← e162]
    unfold val_main_v169
    generalize val_main_v162 (F := Ideal) _ _ _ _ _ = y
    exact v169_sum y _ Ideal.ofBits_zero_f32 kv g
  rw [← e169]
  unfold val_main_v204 val_main_v170
  generalize val_main_v169 (F := Ideal) _ _ _ _ _ = y
  pointwise
  exact congrArg y (congrArg₂ ix2 (Fin.ext (by dsimp only; omega)) (Fin.ext (by dsimp only; omega)))

end Cert.AttnRefIdeal.Attention
end
-- ==== Proof.AttnResults.lean ====
/- The attention gradient's three results, as the kernel leaves them. -/
module

public import proofs.«01_k».proof.Proof.AttnHost
public import proofs.«01_k».proof.Proof.AttnBackward

@[expose] public section

set_option maxRecDepth 16384

noncomputable section

open Idealize.ShloMosaic Idealize.ShloMosaic.TcCoe Idealize.SL.Sem
open Idealize.ShloMosaic.Tactic

namespace Cert.AttnIdeal.Body

open Cert.AttnIdeal Cert.AttnIdeal.Gen

/-! ## The gradients as arrays -/

abbrev blockOf (x : Fin 8192) : Fin 64 := ⟨x.val / 128, by omega⟩
abbrev within (x : Fin 8192) : Fin 128 := ⟨x.val % 128, by omega⟩

variable (A : Arguments)

def resultQ : FVec Ideal S8192x1024 .bf16 := fun i =>
  (A.gradQ (blockOf (i 0)) (headAt (i 1)) (within (i 0)) (dimAt (i 1)) : EReal)

/-- The keys' gradient in the first tile of the columns, the values' in the second. -/
def columnKV (n : Fin 64) (y : Fin 128) (x : Fin 256) : ℝ :=
  if tileOf (n := 2) x = 0 then A.gradK n (keyHead (laneOf (n := 2) x)) y (keyDim (laneOf (n := 2) x))
  else A.gradV n (keyHead (laneOf (n := 2) x)) y (keyDim (laneOf (n := 2) x))

def resultKV : FVec Ideal S8192x256 .bf16 := fun i => (columnKV A (blockOf (i 0)) (within (i 0)) (i 1) : EReal)

def resultSink : FVec Ideal S1x16 .f32 := fun i => (A.gradSink (i 1) : EReal)

/-! ## What the kernel leaves -/

variable {m : (ℓ : Loc nD τ sig) → Buf (Elt Ideal) ℓ} {c : Dev nD} {A} (G : Given m c A) (t : Fin cfg0.N)

include G

theorem dq_at (ht : t.val < 64) (r : Fin 128) (x : Fin 1024) : (outsAt m c t).dq (ix2 r x) = (A.gradQ ⟨t.val, ht⟩ (headAt x) r (dimAt x) : EReal) := by
  rw [outs_dq m c t ht r x, dqueries_apply (holds t ht G), number_eq c t ht]
  rfl

/-- What a block's queries give the band's rows, the keys' columns and the values'. -/
theorem dband_at (ht : t.val < 64) (J : Fin 256) (x : Fin 256) : dband (tiles m c t) (number t) (tileOf (n := 2) x) (ix2 J (laneOf (n := 2) x))
    = ((if tileOf (n := 2) x = 0 then (A.block ⟨t.val, ht⟩).dkeys (blockWord ⟨t.val, ht⟩) (keyHead (laneOf (n := 2) x)) J (keyDim (laneOf (n := 2) x))
      else (A.block ⟨t.val, ht⟩).dvalues (blockWord ⟨t.val, ht⟩) (keyHead (laneOf (n := 2) x)) J (keyDim (laneOf (n := 2) x)) : ℝ) : EReal) := by
  rw [number_eq c t ht]
  obtain h | h : tileOf (n := 2) x = 0 ∨ tileOf (n := 2) x = 1 := by omega
  · rw [if_pos h, h, dband_keys (holds t ht G)]
  · rw [if_neg (by rw [h]; decide), h, dband_values (holds t ht G)]

theorem dsink_at (ht : t.val < 64) (s : Fin 16) : dsinkStep (tiles m c t) s (ix2 0 0) = ((A.block ⟨t.val, ht⟩).dsinks s : EReal) :=
  dsinkStep_apply (holds t ht G) s

/-! ### The three arrays -/

omit G in
theorem below65 (t : Fin cfg0.N) : t.val < 65 := lt_of_lt_of_eq t.isLt N_0

theorem final_dq : (dats m 0 c).arrAt 7 cfg0.N = resultQ A := by
  refine (dats m 0 c).arrAt_eq_of_covers 7 _ (by decide +kernel) fun t hf y => ?_
  blk_simp
  rw [after7]
  have tN := below65 t
  obtain ⟨w, hw, e, ew⟩ : ∃ w : Fin cfg0.N, ∃ hw : w.val < 64, (outsAt m c t).dq = (outsAt m c w).dq ∧ min t.val 63 = w.val := by
    by_cases h : t.val < 64
    · exact ⟨t, h, rfl, by omega⟩
    · exact ⟨before t, by show t.val - 1 < 64; omega, outs_dq_last m c t (by omega), by show _ = t.val - 1; omega⟩
  have e0 : ((win0_7.blk t).view.emb y 0).val = w.val * 128 + (y 0).val := by rw [← ew]; blk_point [idx t]
  have e1 : ((win0_7.blk t).view.emb y 1).val = (y 1).val := by blk_point [idx t]
  rw [e]
  refine (congrArg (outsAt m c w).dq (index2 (r := y 0) (x := y 1) rfl rfl)).trans ((dq_at G w hw (y 0) (y 1)).trans ?_)
  unfold resultQ
  generalize (win0_7.blk t).view.emb y = i at e0 e1
  have y0 : (y 0).val < 128 := (y 0).isLt
  have a0 : blockOf (i 0) = ⟨w.val, hw⟩ := Fin.ext (by dsimp only; omega)
  have a1 : within (i 0) = y 0 := Fin.ext (by dsimp only; omega)
  have a2 : i 1 = y 1 := Fin.ext e1
  rw [a0, a1, a2]

/-- The keys' and values' gradient leaves one point late: with the next block's share when there is a next block. -/
theorem dkv_at (n : Fin 64) (ht : t.val = n.val + 1) (y : Fin 128) (x : Fin 256) :
    (outsAt m c t).dkv (ix2 y x) = (columnKV A n y x : EReal) := by
  have b : (before t).val = n.val := by show t.val - 1 = _; omega
  have nb : (before t).val < 64 := by omega
  have eb : (⟨(before t).val, nb⟩ : Fin 64) = n := Fin.ext b
  have lo : below (tiles m c (before t)) (number (before t)) y x = _ := dband_at G (before t) nb ⟨128 + y.val, by omega⟩ x
  by_cases h : t.val < 64
  · rw [outs_dkv_later m c t (by omega) h, lo, eb]
    unfold above
    rw [dband_at G t h, ← EReal.coe_add]
    have et : (⟨t.val, h⟩ : Fin 64) = ⟨n.val + 1, by omega⟩ := Fin.ext ht
    rw [et]
    unfold columnKV Arguments.gradK Arguments.gradV
    rw [dif_pos (by omega), dif_pos (by omega)]
    split <;> rfl
  · rw [outs_dkv_last m c t (by omega), lo, eb]
    unfold columnKV Arguments.gradK Arguments.gradV
    rw [dif_neg (by omega), dif_neg (by omega), add_zero, add_zero]

theorem final_dkv : (dats m 0 c).arrAt 8 cfg0.N = resultKV A := by
  refine (dats m 0 c).arrAt_eq_of_covers 8 _ (by decide +kernel) fun t hf y => ?_
  have tN := below65 t
  have t1 : 1 ≤ t.val := (by decide +kernel : ∀ t : Fin grid0.N, win0_8.flush t = true → 1 ≤ t.val) t hf
  blk_simp
  rw [after8]
  have e0 : ((win0_8.blk t).view.emb y 0).val = (t.val - 1) * 128 + (y 0).val := by blk_point [idx t]
  have e1 : ((win0_8.blk t).view.emb y 1).val = (y 1).val := by blk_point [idx t]
  refine (congrArg (outsAt m c t).dkv (index2 (r := y 0) (x := y 1) rfl rfl)).trans
    ((dkv_at G t ⟨t.val - 1, by omega⟩ (by dsimp only; omega) (y 0) (y 1)).trans ?_)
  unfold resultKV
  generalize (win0_8.blk t).view.emb y = i at e0 e1
  have y0 : (y 0).val < 128 := (y 0).isLt
  have a0 : blockOf (i 0) = ⟨t.val - 1, by omega⟩ := Fin.ext (by dsimp only; omega)
  have a1 : within (i 0) = y 0 := Fin.ext (by dsimp only; omega)
  have a2 : i 1 = y 1 := Fin.ext e1
  rw [a0, a1, a2]

/-- The sinks' gradient after point `t`: the blocks seen so far. -/
theorem dsinks_so_far (k : ℕ) : ∀ t : Fin cfg0.N, t.val = k → ∀ hk : k < 64, ∀ z s, (outsAt m c t).dsink (ix2 z s)
    = ((∑ n : Fin (k + 1), (A.block ⟨n.val, by omega⟩).dsinks s : ℝ) : EReal) := by
  induction k with
  | zero =>
    intro t ht hk z s
    rw [outs_dsink_first m c t ht, dsink_at G t (by omega), zero_add]
    have e : (⟨t.val, by omega⟩ : Fin 64) = ⟨0, hk⟩ := Fin.ext ht
    rw [e]
    simp
  | succ k ih =>
    intro t ht hk z s
    rw [outs_dsink_later m c t (by omega) (by omega), ih (before t) (by show t.val - 1 = k; omega) (by omega), dsink_at G t (by omega),
      ← EReal.coe_add, Fin.sum_univ_castSucc (n := k + 1)]
    have e : (⟨t.val, by omega⟩ : Fin 64) = ⟨k + 1, hk⟩ := Fin.ext ht
    rw [e]
    rfl

/-- The grid's last point, whose windows take what is still due. -/
def lastPoint : Fin cfg0.N := ⟨64, by decide⟩

theorem final_dsink : (dats m 0 c).arrAt 9 cfg0.N = resultSink A := by
  refine (dats m 0 c).arrAt_eq_of_after_last 9 lastPoint (by decide +kernel) _ fun j => ?_
  blk_simp
  rw [after9, outs_dsink_last m c lastPoint rfl]
  refine (congrArg (outsAt m c (before lastPoint)).dsink (index2 (r := j 0) (x := j 1) rfl rfl)).trans ((dsinks_so_far G 63 _ rfl (by omega) (j 0) (j 1)).trans ?_)
  rfl

end Cert.AttnIdeal.Body

/-! ## The reference's results -/

namespace Cert.AttnRefIdeal.Attention

open Cert.AttnRefIdeal Cert.AttnRefIdeal.Read Cert.AttnIdeal.Body

variable (A : Arguments)

theorem heads (x : Fin 1024) : ∃ kv g d, x = laneAt (headOf kv g) d ∧ headAt x = headOf kv g ∧ dimAt x = d :=
  ⟨⟨x.val / 512, by omega⟩, ⟨x.val / 64 % 8, by omega⟩, dimAt x, Fin.ext (by show x.val = _; dsimp only; omega), Fin.ext (by dsimp only; omega), rfl⟩

theorem rows (x : Fin 8192) : x = row (blockOf x) (within x) := Fin.ext (by show x.val = _; dsimp only; omega)

theorem reference_q : val_main_v199 (F := Ideal) (argQ A) (argK A) (argV A) (argSink A) (argCt A) = resultQ A := by
  funext i
  obtain ⟨kv, g, d, e, eh, ed⟩ := heads (i 1)
  have ei : i = ix2 (row (blockOf (i 0)) (within (i 0))) (laneAt (headOf kv g) d) :=
    index2 (congrArg Fin.val (rows (i 0))) (congrArg Fin.val e)
  refine (congrArg _ ei).trans ((v199_at A (blockOf (i 0)) kv g (within (i 0)) d).trans ?_)
  unfold resultQ
  rw [eh, ed]

theorem reference_kv : val_main_v203 (F := Ideal) (argQ A) (argK A) (argV A) (argSink A) (argCt A) = resultKV A := by
  funext i
  have i1 : (i 1).val < 256 := (i 1).isLt
  unfold resultKV columnKV
  by_cases h : (i 1).val < 128
  · rw [if_pos (Fin.ext (by show (i 1).val / 128 = 0; omega))]
    refine (congrArg _ (index2 (congrArg Fin.val (rows (i 0))) ?_)).trans
      (v203_keys A (blockOf (i 0)) (keyHead (laneOf (n := 2) (i 1))) (within (i 0)) (keyDim (laneOf (n := 2) (i 1))))
    show (i 1).val = _
    dsimp only
    omega
  · rw [if_neg (fun e => by have := congrArg Fin.val e; change (i 1).val / 128 = 0 at this; omega)]
    refine (congrArg _ (index2 (congrArg Fin.val (rows (i 0))) ?_)).trans
      (v203_values A (blockOf (i 0)) (keyHead (laneOf (n := 2) (i 1))) (within (i 0)) (keyDim (laneOf (n := 2) (i 1))))
    show (i 1).val = _
    dsimp only
    omega

theorem reference_sink : val_main_v204 (F := Ideal) (argQ A) (argK A) (argV A) (argSink A) (argCt A) = resultSink A := by
  funext i
  have z : (i 0).val = 0 := by have : (i 0).val < 1 := (i 0).isLt; omega
  have i1 : (i 1).val < 16 := (i 1).isLt
  have e : i 1 = headOf ⟨(i 1).val / 8, by omega⟩ ⟨(i 1).val % 8, by omega⟩ := Fin.ext (by show (i 1).val = _; dsimp only; omega)
  refine (congrArg _ (index2 (r := 0) z (congrArg Fin.val e))).trans ((v204_at A _ _).trans ?_)
  unfold resultSink
  rw [← e]

end Cert.AttnRefIdeal.Attention

end
-- ==== Proof.AttnEquation.lean ====
/- The attention gradient's claims: the two programs' frames, and that kernel and reference leave the same arrays. -/
module

public import proofs.«01_k».proof.Defs
public import proofs.«01_k».proof.Proof.AttnResults
public import proofs.«01_k».proof.Proof.Finite
public import proofs.«01_k».proof.Proof.Gen.Attn
public import proofs.«01_k».proof.Proof.Gen.Pre_attn_finite
public import proofs.«01_k».proof.Proof.Gen.AttnRefIdeal.Run

@[expose] public section

set_option maxRecDepth 65536

noncomputable section

open Idealize.ShloMosaic Idealize.ShloMosaic.TcCoe Idealize.SL.Sem

namespace Cert.AttnEquation

/-! ## Frames -/

/-- A proposition named by its proof. -/
def Said {α : Prop} (_ : α) : Prop := α

/-- The kernel as printed and the idealized kernel have one text, so the run of the one says the frame of the other. -/
theorem same_frame : Said (fun m ρ (_ : True) => Cert.AttnIdeal.Body.unchanged (F := Bits) m ρ)
    = Cert.quiescent_Attn (hAttn := Cert.Attn.Gen.facts) := by
  sl_kernel_rfl

theorem kernel_frame : Cert.quiescent_Attn (hAttn := Cert.Attn.Gen.facts) :=
  same_frame.mp fun m ρ _ => Cert.AttnIdeal.Body.unchanged (F := Bits) m ρ

theorem ideal_frame : Cert.quiescent_AttnIdeal (hAttnIdeal := Cert.AttnIdeal.Gen.facts) :=
  fun m ρ _ => Cert.AttnIdeal.Body.unchanged (F := Ideal) m ρ

theorem reference_frame : Cert.quiescent_AttnRefIdeal (hAttnRefIdeal := Cert.AttnRefIdeal.Gen.facts) :=
  fun m ρ _ => (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

/-! ## The arguments are real -/

open Cert.AttnIdeal Cert.AttnIdeal.Body Cert.AttnRefIdeal.Attention

theorem attn_real (q ct : FVec Ideal S1x8192x1024 .f32) (k v : FVec Ideal S1x8192x128 .f32) (sink : FVec Ideal S16 .f32)
    (h : Cert.Pre_attn_finite.fn (F := Ideal) q k v sink ct = fun _ => 1#1) :
    ∃ A : Arguments, q = argQ A ∧ k = argK A ∧ v = argV A ∧ sink = argSink A ∧ ct = argCt A := by
  have e := congrFun h fun i => i.elim0
  dsimp only [Cert.Pre_attn_finite.fn, Cert.Pre_attn_finite.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have h0 := Finite.real_of_all q _ _ _ _ _ _ e0
  have h1 := Finite.real_of_all k _ _ _ _ _ _ e1
  have h2 := Finite.real_of_all v _ _ _ _ _ _ e2
  have h3 := Finite.real_of_all sink _ _ _ _ _ _ e3
  have h4 := Finite.real_of_all ct _ _ _ _ _ _ e4
  choose q' h0 using h0
  choose k' h1 using h1
  choose v' h2 using h2
  choose s' h3 using h3
  choose c' h4 using h4
  have wide {i : S1x8192x1024.Idx} : i = ix3 0 (i 1) (i 2) := funext fun a => by
    match a with
    | ⟨0, _⟩ => exact Subsingleton.elim (α := Fin 1) _ _
    | ⟨1, _⟩ => rfl
    | ⟨2, _⟩ => rfl
  have narrow {i : S1x8192x128.Idx} : i = ix3 0 (i 1) (i 2) := funext fun a => by
    match a with
    | ⟨0, _⟩ => exact Subsingleton.elim (α := Fin 1) _ _
    | ⟨1, _⟩ => rfl
    | ⟨2, _⟩ => rfl
  have line {i : S16.Idx} : i = ix1 (i 0) := funext fun a => by
    match a with
    | ⟨0, _⟩ => rfl
  exact ⟨⟨fun a b => q' (ix3 0 a b), fun a b => k' (ix3 0 a b), fun a b => v' (ix3 0 a b), fun a => s' (ix1 a), fun a b => c' (ix3 0 a b)⟩,
    funext fun i => (congrArg q wide).trans (h0 _), funext fun i => (congrArg k narrow).trans (h1 _),
    funext fun i => (congrArg v narrow).trans (h2 _), funext fun i => (congrArg sink line).trans (h3 _),
    funext fun i => (congrArg ct wide).trans (h4 _)⟩

/-! ## The two programs agree -/

/-- What the kernel's run leaves: the three results' windows, and the arguments. -/
theorem kernel_leaves (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v99_0) = (dats m 0 c).arrAt 7 cfg0.N
      ∧ r.2.mem ((c.tc : Thread nD τ).loc main_v99_1) = (dats m 0 c).arrAt 8 cfg0.N
      ∧ r.2.mem ((c.tc : Thread nD τ).loc main_v99_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨h.2.1.out_eq c 7, h.2.1.out_eq c 8, h.2.1.out_eq c 9, h.1.1 c⟩) (θ_run_and (unchanged m g) (run m g))

theorem attn_algebraic : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  intro m g m' g' hpre hargs
  refine ⟨fun c => (dats m 0 c).arrAt 7 cfg0.N, fun c => (dats m 0 c).arrAt 8 cfg0.N, fun c => (dats m 0 c).arrAt 9 cfg0.N, kernel_leaves m g, ?_⟩
  refine (θ_run (Cert.AttnRefIdeal.defs (F := Ideal)) _ _).mono (fun r h c => ?_) (Cert.AttnRefIdeal.Value.run (F := Ideal) m' g')
  obtain ⟨hq, hkv, hs, kept⟩ := h c
  obtain ⟨A, eq, ek, ev, es, ec⟩ := attn_real _ _ _ _ _ (hpre c)
  have G : Given m c A := ⟨eq, ek, ev, es, ec⟩
  obtain ⟨a0, a1, a2, a3, a4⟩ := hargs c
  have l0 : StableHlo.launchContents m' c (Proc.devRef .tc Cert.AttnRefIdeal.main_arg0) = argQ A := a0.trans eq
  have l1 : StableHlo.launchContents m' c (Proc.devRef .tc Cert.AttnRefIdeal.main_arg1) = argK A := a1.trans ek
  have l2 : StableHlo.launchContents m' c (Proc.devRef .tc Cert.AttnRefIdeal.main_arg2) = argV A := a2.trans ev
  have l3 : StableHlo.launchContents m' c (Proc.devRef .tc Cert.AttnRefIdeal.main_arg3) = argSink A := a3.trans es
  have l4 : StableHlo.launchContents m' c (Proc.devRef .tc Cert.AttnRefIdeal.main_arg4) = argCt A := a4.trans ec
  refine ⟨Eq.trans (hq.trans ?_) (final_dq G).symm, Eq.trans (hkv.trans ?_) (final_dkv G).symm, Eq.trans (hs.trans ?_) (final_dsink G).symm, kept⟩
  · rw [Cert.AttnRefIdeal.Read.val_main_v199_eq, l0, l1, l2, l3, l4]
    exact reference_q A
  · rw [Cert.AttnRefIdeal.Read.val_main_v203_eq, l0, l1, l2, l3, l4]
    exact reference_kv A
  · rw [Cert.AttnRefIdeal.Read.val_main_v204_eq, l0, l1, l2, l3, l4]
    exact reference_sink A

end Cert.AttnEquation

end
-- ==== Proof.NormRows.lean ====
/-
  A row of the root-mean-square norm and its gradient, over the extended reals: the row's scale, and what a cotangent of
  the normalized row gives for the row itself.
-/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic

namespace Norm

/-- The reciprocal root of a row's mean square, with the norm's epsilon inside the root. -/
def rs (x : Fin 1024 → EReal) : EReal :=
  Ideal.rsqrt (Ideal.div (∑ i, x i * x i) (Ideal.ofBits .f32 0x44800000#32) + Ideal.ofBits .f32 0x358637BD#32)

/-- The row's gradient as a kernel writes it: the cotangent times the gain, less its part along the normalized row. -/
def back (x g u : Fin 1024 → EReal) (j : Fin 1024) : EReal :=
  rs x * (u j * g j - (x j * rs x) * Ideal.div (∑ i, u i * g i * (x i * rs x)) (Ideal.ofBits .f32 0x44800000#32))

/-- The mean square plus epsilon, under the root. -/
def ms (x : Fin 1024 → EReal) : EReal :=
  Ideal.div (∑ i, x i * x i) (Ideal.ofBits .f32 0x44800000#32) + Ideal.ofBits .f32 0x358637BD#32

/-- What differentiating through the mean square gives each entry of the row, before the factor of that entry. -/
def along (x g u : Fin 1024 → EReal) : EReal :=
  Ideal.div ((∑ i, x i * (u i * g i)) * (Ideal.ofBits .f32 0xBF000000#32 * Ideal.div (rs x) (ms x))) (Ideal.ofBits .f32 0x44800000#32)

theorem bits_1024 : Ideal.ofBits .f32 0x44800000#32 = ((1024 : ℝ) : EReal) := by
  simp [Ideal.ofBits, Ideal.ieee, -EReal.coe_mul]; norm_num
theorem bits_neg_half : Ideal.ofBits .f32 0xBF000000#32 = ((-0.5 : ℝ) : EReal) := by
  simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- A sum of real numbers is real. -/
theorem sum_real {n : ℕ} {f : Fin n → EReal} {F : Fin n → ℝ} (h : ∀ i, f i = (F i : EReal)) : ∑ i, f i = ((∑ i, F i : ℝ) : EReal) := by
  simp only [h]
  induction n with
  | zero => simp
  | succ n ih => rw [Fin.sum_univ_succ, Fin.sum_univ_succ, EReal.coe_add, ih fun i => h i.succ]

/-- Of a finite row the scale is a real number, whose cube is the scale over the mean square. -/
theorem rs_real (X : Fin 1024 → ℝ) : ∃ r v : ℝ, v ≠ 0 ∧ rs (fun i => (X i : EReal)) = (r : EReal)
    ∧ ms (fun i => (X i : EReal)) = (v : EReal) ∧ r * r * r = r / v := by
  obtain ⟨e, he, hb⟩ := bits_eps
  have hs : (∑ i, (X i : EReal) * (X i : EReal)) = ((∑ i, X i * X i : ℝ) : EReal) := sum_real fun i => (EReal.coe_mul _ _).symm
  have hm : ms (fun i => (X i : EReal)) = (((∑ i, X i * X i) / 1024 + e : ℝ) : EReal) := by
    unfold ms; rw [hs]; generalize (∑ i, X i * X i) = S; rw [bits_1024, hb, Ideal.div_coe (y := 1024) (by norm_num)]; norm_cast; rw [mul_one_div]
  have hp : 0 < (∑ i, X i * X i) / 1024 + e :=
    add_pos_of_nonneg_of_pos (div_nonneg (Finset.sum_nonneg fun i _ => mul_self_nonneg _) (by norm_num)) he
  refine ⟨(Real.sqrt ((∑ i, X i * X i) / 1024 + e))⁻¹, _, hp.ne', ?_, hm, ?_⟩
  · change Ideal.rsqrt (ms _) = _
    rw [hm, Ideal.rsqrt_coe, if_neg hp.le.not_gt, if_neg hp.ne']
  · generalize (∑ i, X i * X i) / 1024 + e = v at hp ⊢
    have h2 : (Real.sqrt v)⁻¹ * (Real.sqrt v)⁻¹ = v⁻¹ := by rw [← mul_inv, Real.mul_self_sqrt hp.le]
    rw [h2, div_eq_mul_inv, mul_comm]

/-- The two ways of writing the row's gradient agree on a finite row, gain and cotangent. -/
theorem back_eq (X G U : Fin 1024 → ℝ) (a : EReal) (j : Fin 1024) :
    a + back (fun i => (X i : EReal)) (fun i => (G i : EReal)) (fun i => (U i : EReal)) j
      = a + U j * G j * rs (fun i => (X i : EReal))
        + X j * along (fun i => (X i : EReal)) (fun i => (G i : EReal)) (fun i => (U i : EReal))
        + along (fun i => (X i : EReal)) (fun i => (G i : EReal)) (fun i => (U i : EReal)) * X j := by
  obtain ⟨r, v, hv, hr, hm, hc⟩ := rs_real X
  have h1 : (∑ i, (U i : EReal) * (G i : EReal) * ((X i : EReal) * (r : EReal))) = ((r * ∑ i, X i * (U i * G i) : ℝ) : EReal) := by
    rw [Finset.mul_sum]
    exact sum_real fun i => by norm_cast; ring
  have h2 : (∑ i, (X i : EReal) * ((U i : EReal) * (G i : EReal))) = ((∑ i, X i * (U i * G i) : ℝ) : EReal) := sum_real fun i => by norm_cast
  unfold back along
  rw [hr, hm, h1, h2, bits_1024, bits_neg_half, Ideal.div_coe (y := 1024) (by norm_num), Ideal.div_coe hv]
  generalize (∑ i, X i * (U i * G i)) = S
  simp only [add_assoc]
  congr 1
  rw [Ideal.div_coe (y := 1024) (by norm_num)]
  norm_cast
  field_simp at hc ⊢
  linear_combination (-(X j * S)) * hc

/-- A sum over axes of one entry each is that entry, after the start. -/
theorem sum_of_one {s t : Shape} {axes : List (Fin s.rank)} (h : s.ReducesTo axes t) (x : FVec Ideal s .f32)
    (z : (⟨0, ![]⟩ : Shape).Idx → EReal) (hu : 0 < (⟨0, ![]⟩ : Shape).numel) (j : t.Idx) (i : s.Idx) (only : ∀ k, h.drop k = j ↔ i = k) :
    (Host.reduceAdd (F := Ideal) (φ := .f32) x z h hu j : EReal) = z (Shape.Idx.first hu) + (x i : EReal) := by
  simp only [Host.reduceAdd, Ideal.hostReduceAdd_def]
  refine (congrArg (z (Shape.Idx.first hu) + ·) (Finset.sum_filter_eq_sum_of_fiber _ (fun _ : Fin 1 => i) (fun _ _ _ => Subsingleton.elim _ _)
    (fun k => (only k).trans ⟨fun e => ⟨0, e⟩, fun ⟨_, e⟩ => e⟩) x)).trans ?_
  simp

/-- An index of a matrix is its two coordinates. -/
theorem index2 {a b : ℕ} {y : (⟨2, ![a, b]⟩ : Shape).Idx} {r : Fin a} {x : Fin b} (h0 : y 0 = r) (h1 : y 1 = x) :
    y = ix2 r x := by
  rw [eq_ix2 y]
  exact congrArg₂ ix2 h0 h1

end Norm

end
-- ==== Proof.MixKernel.lean ====
/-
  The gradient of the input projection, as the kernel's grid computes it: what the four blocks of rows of a point leave in
  the hidden rows' gradient, and what the points add up in the gain's gradient.
-/
module

public import proofs.«01_k».proof.Proof.NormRows
public import proofs.«01_k».proof.Proof.Gen.MixIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Mix

open Cert.MixIdeal Cert.MixIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![0, 0] :=
  (by decide +kernel : ∀ t : Fin grid0.N, _)

/-- The cotangent of a normalized row: the cotangents of the four groups of columns through the rows of the projection
that belong to them. -/
def du {n : ℕ} (a : Fin n → Fin 1024 → EReal) (b : Fin n → Fin 256 → EReal) (z : Fin n → Fin 512 → EReal)
    (e : Fin n → Fin 2048 → EReal) (w : Fin 3840 → Fin 1024 → EReal) (r : Fin n) (j : Fin 1024) : EReal :=
  ∑ k : Fin 1024, a r k * w ⟨k.val, by omega⟩ j + ∑ k : Fin 256, b r k * w ⟨1024 + k.val, by omega⟩ j
    + ∑ k : Fin 512, z r k * w ⟨1280 + k.val, by omega⟩ j + ∑ k : Fin 2048, e r k * w ⟨1792 + k.val, by omega⟩ j

/-- A block's rows as functions. -/
abbrev at2 {a b : ℕ} (x : (⟨2, ![a, b]⟩ : Shape).Idx → EReal) : Fin a → Fin b → EReal := fun r j => x (ix2 r j)

/-- What a point leaves in a block of the hidden rows' gradient. -/
def dhBlock {n : ℕ} (x0 : FVec Ideal ⟨2, ![n, 1024]⟩ .bf16) (x1 : FVec Ideal ⟨2, ![n, 256]⟩ .bf16) (x2 : FVec Ideal ⟨2, ![n, 512]⟩ .bf16)
    (x3 : FVec Ideal ⟨2, ![n, 2048]⟩ .bf16) (x4 : FVec Ideal ⟨2, ![n, 1024]⟩ .f32) (x5 : FVec Ideal ⟨2, ![n, 1024]⟩ .f32)
    (x6 : FVec Ideal S1x1024 .f32) (x7 : FVec Ideal S3840x1024 .bf16) : FVec Ideal ⟨2, ![n, 1024]⟩ .f32 := fun y =>
  x4 (ix2 (y 0) (y 1)) + Norm.back (at2 x5 (y 0)) (at2 x6 0) (du (at2 x0) (at2 x1) (at2 x2) (at2 x3) (at2 x7) (y 0)) (y 1)

/-- What a block of rows adds to the gain's gradient. -/
def dgBlock {n : ℕ} (x0 : FVec Ideal ⟨2, ![n, 1024]⟩ .bf16) (x1 : FVec Ideal ⟨2, ![n, 256]⟩ .bf16) (x2 : FVec Ideal ⟨2, ![n, 512]⟩ .bf16)
    (x3 : FVec Ideal ⟨2, ![n, 2048]⟩ .bf16) (x5 : FVec Ideal ⟨2, ![n, 1024]⟩ .f32)
    (x7 : FVec Ideal S3840x1024 .bf16) : FVec Ideal S1x1024 .f32 := fun y =>
  ∑ r : Fin n, du (at2 x0) (at2 x1) (at2 x2) (at2 x3) (at2 x7) r (y 1) * (at2 x5 r (y 1) * Norm.rs (at2 x5 r))

/-- The 1024 rows of a block, in four parts. -/
theorem sum_quarters (f : Fin 1024 → EReal) : ∑ r, f r = ∑ r : Fin 256, f ⟨r.val, by omega⟩ + ∑ r : Fin 256, f ⟨256 + r.val, by omega⟩
    + ∑ r : Fin 256, f ⟨512 + r.val, by omega⟩ + ∑ r : Fin 256, f ⟨768 + r.val, by omega⟩ := by
  refine Eq.trans (Fin.sum_mul_add_congr (S := 4) (n := 256) (F := fun t r => f ⟨t.val * 256 + r.val, by omega⟩) (f := f) (fun t r h => rfl)).symm ?_
  rw [Fin.sum_univ_four]
  simp

theorem point8 (c : Dev nD) (t : Fin cfg0.N) (y) :
    (outsAt0 m c t.val t.isLt).1 y = dhBlock (iblk m c 0 t) (iblk m c 1 t) (iblk m c 2 t) (iblk m c 3 t) (iblk m c 4 t) (iblk m c 5 t)
      (iblk m c 6 t) (iblk m c 7 t) y := by
  obtain ⟨r, j, rfl⟩ : ∃ r j, y = ix2 r j := ⟨y 0, y 1, eq_ix2 y⟩
  by_cases hc : t.val % 8 = 0
  · rw [outsAt0_A m c t hc]
    frame_out
    canon_tiles x h
    all_goals
      obtain ⟨r, hr⟩ := r; obtain ⟨j, hj⟩ := j; obtain rfl : r = _ := h0
      obtain rfl : j = _ := h1
      generalize iblk m c 0 t = b0, iblk m c 1 t = b1, iblk m c 2 t = b2, iblk m c 3 t = b3, iblk m c 4 t = b4, iblk m c 5 t = b5, iblk m c 6 t = b6, iblk m c 7 t = b7
      open_payloads
      unfold dhBlock Norm.back Norm.rs du at2
      pointwise
  · rw [outsAt0_B m c t hc]
    frame_out
    canon_tiles x h
    all_goals
      obtain ⟨r, hr⟩ := r; obtain ⟨j, hj⟩ := j; obtain rfl : r = _ := h0
      obtain rfl : j = _ := h1
      generalize iblk m c 0 t = b0, iblk m c 1 t = b1, iblk m c 2 t = b2, iblk m c 3 t = b3, iblk m c 4 t = b4, iblk m c 5 t = b5, iblk m c 6 t = b6, iblk m c 7 t = b7
      open_payloads
      unfold dhBlock Norm.back Norm.rs du at2
      pointwise

theorem step9 (c : Dev nD) (t : Fin cfg0.N) (hc : ¬t.val % 8 = 0) (y) :
    (outsAt0 m c t.val t.isLt).2 y = (outsAt0 m c (t.val - 1) (Nat.lt_of_le_of_lt (Nat.sub_le _ _) t.isLt)).2 y
      + dgBlock (iblk m c 0 t) (iblk m c 1 t) (iblk m c 2 t) (iblk m c 3 t) (iblk m c 5 t) (iblk m c 7 t) y := by
  rw [outsAt0_B m c t hc]
  frame_out
  generalize outsAt0 m c (t.val - 1) (Nat.lt_of_le_of_lt (Nat.sub_le _ _) t.isLt) = o
  generalize iblk m c 0 t = b0, iblk m c 1 t = b1, iblk m c 2 t = b2, iblk m c 3 t = b3, iblk m c 4 t = b4, iblk m c 5 t = b5, iblk m c 6 t = b6, iblk m c 7 t = b7
  obtain ⟨r, j, rfl⟩ : ∃ r j, y = ix2 r j := ⟨y 0, y 1, eq_ix2 y⟩
  open_payloads
  unfold dgBlock Norm.rs du at2
  rw [sum_quarters]
  pointwise

theorem first9 (c : Dev nD) (t : Fin cfg0.N) (hc : t.val % 8 = 0) (y) :
    (outsAt0 m c t.val t.isLt).2 y = 0 + dgBlock (iblk m c 0 t) (iblk m c 1 t) (iblk m c 2 t) (iblk m c 3 t) (iblk m c 5 t) (iblk m c 7 t) y := by
  rw [outsAt0_A m c t hc]
  frame_open
  simp (disch := decide) only [↓ View.readCov_skip, ↓ View.readCov_cons_toLoadRect, ↓ View.readCov_fill]
  frame_out
  obtain ⟨r, j, rfl⟩ : ∃ r j, y = ix2 r j := ⟨y 0, y 1, eq_ix2 y⟩
  generalize iblk m c 0 t = b0, iblk m c 1 t = b1, iblk m c 2 t = b2, iblk m c 3 t = b3, iblk m c 4 t = b4, iblk m c 5 t = b5, iblk m c 6 t = b6, iblk m c 7 t = b7
  open_payloads
  unfold dgBlock Norm.rs du at2
  rw [sum_quarters]
  pointwise [k0_pay1, Ideal.ofBits_zero_f32]

theorem rows0 (c : Dev nD) (t : Fin cfg0.N) (r : Fin 1024) (l : Fin 1024) (h : t.val * 1024 + r.val < 8192) :
    (iblk m c 0 t : FVec Ideal S1024x1024 .bf16) (ix2 r l) = (V m c main_v1 : FVec Ideal S8192x1024 .bf16) (ix2 ⟨t.val * 1024 + r.val, h⟩ l) := by
  blk_ext [iblk, V, idx t]
theorem rows1 (c : Dev nD) (t : Fin cfg0.N) (r : Fin 1024) (l : Fin 256) (h : t.val * 1024 + r.val < 8192) :
    (iblk m c 1 t : FVec Ideal S1024x256 .bf16) (ix2 r l) = (V m c main_v5 : FVec Ideal S8192x256 .bf16) (ix2 ⟨t.val * 1024 + r.val, h⟩ l) := by
  blk_ext [iblk, V, idx t]
theorem rows2 (c : Dev nD) (t : Fin cfg0.N) (r : Fin 1024) (l : Fin 512) (h : t.val * 1024 + r.val < 8192) :
    (iblk m c 2 t : FVec Ideal S1024x512 .bf16) (ix2 r l) = (V m c main_v7 : FVec Ideal S8192x512 .bf16) (ix2 ⟨t.val * 1024 + r.val, h⟩ l) := by
  blk_ext [iblk, V, idx t]
theorem rows3 (c : Dev nD) (t : Fin cfg0.N) (r : Fin 1024) (l : Fin 2048) (h : t.val * 1024 + r.val < 8192) :
    (iblk m c 3 t : FVec Ideal S1024x2048 .bf16) (ix2 r l) = (V m c main_v11 : FVec Ideal S8192x2048 .bf16) (ix2 ⟨t.val * 1024 + r.val, h⟩ l) := by
  blk_ext [iblk, V, idx t]
theorem rows4 (c : Dev nD) (t : Fin cfg0.N) (r : Fin 1024) (l : Fin 1024) (h : t.val * 1024 + r.val < 8192) :
    (iblk m c 4 t : FVec Ideal S1024x1024 .f32) (ix2 r l) = (V m c main_v12 : FVec Ideal S8192x1024 .f32) (ix2 ⟨t.val * 1024 + r.val, h⟩ l) := by
  blk_ext [iblk, V, idx t]
theorem rows5 (c : Dev nD) (t : Fin cfg0.N) (r : Fin 1024) (l : Fin 1024) (h : t.val * 1024 + r.val < 8192) :
    (iblk m c 5 t : FVec Ideal S1024x1024 .f32) (ix2 r l) = (V m c main_v13 : FVec Ideal S8192x1024 .f32) (ix2 ⟨t.val * 1024 + r.val, h⟩ l) := by
  blk_ext [iblk, V, idx t]
theorem whole6 (c : Dev nD) (t : Fin cfg0.N) : (iblk m c 6 t : FVec Ideal S1x1024 .f32) = V m c main_v14 := by
  funext j
  blk_ext [iblk, V, idx t]
theorem whole7 (c : Dev nD) (t : Fin cfg0.N) : (iblk m c 7 t : FVec Ideal S3840x1024 .bf16) = V m c main_v16 := by
  funext j
  blk_ext [iblk, V, idx t]

/-- The cotangent of the normalized row at a point is the whole array's at the point's row. -/
theorem du_rows (c : Dev nD) (t : Fin cfg0.N) (r : Fin 1024) (h : t.val * 1024 + r.val < 8192) :
    du (at2 (iblk m c 0 t : FVec Ideal S1024x1024 .bf16)) (at2 (iblk m c 1 t : FVec Ideal S1024x256 .bf16))
      (at2 (iblk m c 2 t : FVec Ideal S1024x512 .bf16)) (at2 (iblk m c 3 t : FVec Ideal S1024x2048 .bf16))
      (at2 (iblk m c 7 t : FVec Ideal S3840x1024 .bf16)) r
      = du (at2 (V m c main_v1 : FVec Ideal S8192x1024 .bf16)) (at2 (V m c main_v5 : FVec Ideal S8192x256 .bf16))
      (at2 (V m c main_v7 : FVec Ideal S8192x512 .bf16)) (at2 (V m c main_v11 : FVec Ideal S8192x2048 .bf16))
      (at2 (V m c main_v16 : FVec Ideal S3840x1024 .bf16)) ⟨t.val * 1024 + r.val, h⟩ := by
  funext j
  unfold du at2
  rw [whole7]
  simp only [rows0 m c t r _ h, rows1 m c t r _ h, rows2 m c t r _ h, rows3 m c t r _ h]

theorem x_rows (c : Dev nD) (t : Fin cfg0.N) (r : Fin 1024) (h : t.val * 1024 + r.val < 8192) :
    at2 (iblk m c 5 t : FVec Ideal S1024x1024 .f32) r = at2 (V m c main_v13 : FVec Ideal S8192x1024 .f32) ⟨t.val * 1024 + r.val, h⟩ :=
  funext fun l => rows5 m c t r l h

/-- The gain's gradient after the call: the sum over all the rows. -/
theorem final9 (c : Dev nD) : (dats m 0 c).arrAt 9 cfg0.N = dgBlock (V m c main_v1 : FVec Ideal S8192x1024 .bf16)
    (V m c main_v5 : FVec Ideal S8192x256 .bf16) (V m c main_v7 : FVec Ideal S8192x512 .bf16) (V m c main_v11 : FVec Ideal S8192x2048 .bf16)
    (V m c main_v13 : FVec Ideal S8192x1024 .f32) (V m c main_v16) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) _ (fun t h j => first9 m c t h j)
    (fun t h j => step9 m c t h j) (le_of_eq N_0) t0_7 rfl j, zero_add]
  unfold dgBlock
  refine Fin.sum_mul_add_congr fun t r hl => ?_
  rw [du_rows m c t r hl, x_rows m c t r hl]

/-- The hidden rows' gradient after the call. -/
theorem final8 (c : Dev nD) : (dats m 0 c).arrAt 8 cfg0.N = dhBlock (V m c main_v1 : FVec Ideal S8192x1024 .bf16)
    (V m c main_v5 : FVec Ideal S8192x256 .bf16) (V m c main_v7 : FVec Ideal S8192x512 .bf16) (V m c main_v11 : FVec Ideal S8192x2048 .bf16)
    (V m c main_v12 : FVec Ideal S8192x1024 .f32)
    (V m c main_v13 : FVec Ideal S8192x1024 .f32) (V m c main_v14) (V m c main_v16) := by
  refine (dats m 0 c).arrAt_eq_of_covers 8 _ (by decide +kernel) fun t hf y => ?_
  blk_simp
  rw [after0_8, point8]
  have e0 : ((win0_8.blk t).view.emb y 0).val = t.val * 1024 + (y 0).val := by blk_point [idx t]
  have e1 : ((win0_8.blk t).view.emb y 1).val = (y 1).val := by blk_point [idx t]
  generalize (win0_8.blk t).view.emb y = i at e0 e1
  have hl : t.val * 1024 + (y 0).val < 8192 := e0 ▸ (i 0).isLt
  obtain rfl : i = ix2 ⟨t.val * 1024 + (y 0).val, hl⟩ (y 1) := Norm.index2 (Fin.ext e0) (Fin.ext e1)
  dsimp only
  unfold dhBlock
  rw [du_rows m c t (y 0) hl, x_rows m c t (y 0) hl, rows4 m c t (y 0) (y 1) hl, whole6]
  rfl

end Cert.MixIdeal.Mix

end
-- ==== Proof.MixHost.lean ====
/-
  The arrays that the input projection's gradient call gets, from the program's arguments.
-/
module

public import proofs.«01_k».proof.Proof.MixKernel

@[expose] public section

set_option maxRecDepth 16384

noncomputable section

open Idealize.ShloMosaic Idealize.ShloMosaic.TcCoe Idealize.SL.Sem

namespace Cert.MixIdeal.Mix

open Cert.MixIdeal Cert.MixIdeal.Gen Cert.MixIdeal.Value

variable (m : (ℓ : Loc nD τ sig) → Buf (Elt Ideal) ℓ)

theorem host_q (c : Dev nD) : V m c main_v1 = truncf (F := Ideal) .bf16 (shapeCast S8192x1024 (m ((c : Thread nD τ).loc main_arg3)) shapeCasts_S1x8192x1024_S8192x1024) bitsLt_bf16_f32 := by
  entry_read
  all_goals rfl

theorem host_kv (c : Dev nD) : V m c main_v5 = truncf (F := Ideal) .bf16 (concatenate S8192x256 1 [⟨S8192x128, shapeCast S8192x128 (m ((c : Thread nD τ).loc main_arg4)) shapeCasts_S1x8192x128_S8192x128⟩, ⟨S8192x128, shapeCast S8192x128 (m ((c : Thread nD τ).loc main_arg5)) shapeCasts_S1x8192x128_S8192x128⟩] concatenates_S8192x128_S8192x128_S8192x256_d1) bitsLt_bf16_f32 := by
  entry_read
  all_goals rfl

theorem host_z (c : Dev nD) : V m c main_v7 = truncf (F := Ideal) .bf16 (shapeCast S8192x512 (m ((c : Thread nD τ).loc main_arg6)) shapeCasts_S1x8192x512_S8192x512) bitsLt_bf16_f32 := by
  entry_read
  all_goals rfl

theorem host_gates (c : Dev nD) : V m c main_v11 = truncf (F := Ideal) .bf16 (concatenate S8192x2048 1 [⟨S8192x1024, shapeCast S8192x1024 (m ((c : Thread nD τ).loc main_arg7)) shapeCasts_S1x8192x1024_S8192x1024⟩, ⟨S8192x1024, shapeCast S8192x1024 (m ((c : Thread nD τ).loc main_arg8)) shapeCasts_S1x8192x1024_S8192x1024⟩] concatenates_S8192x1024_S8192x1024_S8192x2048_d1) bitsLt_bf16_f32 := by
  entry_read
  all_goals rfl

theorem host_ct (c : Dev nD) : V m c main_v12 = shapeCast S8192x1024 (m ((c : Thread nD τ).loc main_arg9)) shapeCasts_S1x8192x1024_S8192x1024 := by
  entry_read
  all_goals rfl

theorem host_h (c : Dev nD) : V m c main_v13 = shapeCast S8192x1024 (m ((c : Thread nD τ).loc main_arg0)) shapeCasts_S1x8192x1024_S8192x1024 := by
  entry_read
  all_goals rfl

theorem host_gain (c : Dev nD) : V m c main_v14 = shapeCast S1x1024 (m ((c : Thread nD τ).loc main_arg1)) shapeCasts_S1024_S1x1024 := by
  entry_read
  all_goals rfl

theorem host_w (c : Dev nD) : V m c main_v16 = truncf (F := Ideal) .bf16 (transpose S3840x1024 [1, 0] (m ((c : Thread nD τ).loc main_arg2)) transposes_S1024x3840_S3840x1024_1_0) bitsLt_bf16_f32 := by
  entry_read
  all_goals rfl

end Cert.MixIdeal.Mix

end
-- ==== Proof.MixReference.lean ====
/-
  The reference's derivative of the norm and the projection, entry by entry.
-/
module

public import proofs.«01_k».proof.Proof.NormRows
public import proofs.«01_k».proof.Proof.Gen.MixRefIdeal.Read

@[expose] public section

set_option maxRecDepth 16384

noncomputable section

open Idealize.ShloMosaic Idealize.ShloMosaic.TcCoe Idealize.SL.Sem

namespace Cert.MixRefIdeal.Mix

open Cert.MixRefIdeal Cert.MixRefIdeal.Gen Cert.MixRefIdeal.Read

variable (x0 : FVec Ideal S1x8192x1024 .f32) (x1 : FVec Ideal S1024 .f32) (x2 : FVec Ideal S1024x3840 .f32)
  (x3 : FVec Ideal S1x8192x1024 .f32) (x4 x5 : FVec Ideal S1x8192x128 .f32) (x6 : FVec Ideal S1x8192x512 .f32)
  (x7 x8 x9 : FVec Ideal S1x8192x1024 .f32)

/-- The cotangent of the normalized rows. -/
abbrev through (n : Fin 8192) (j : Fin 1024) : EReal := val_main_v24 (F := Ideal) x2 x3 x4 x5 x6 x7 x8 (ix3 0 n j)

theorem rs_at (n : Fin 8192) : (val_main_v7 (F := Ideal) x0 (ix3 0 n 0) : EReal) = Norm.rs fun j => x0 (ix3 0 n j) := by
  unfold Norm.rs val_main_v7 val_main_v6 val_main_v5 val_main_v4 val_main_v3 val_main_v2 val_main_v1 val_main_v0 val_main_cst val_main_cst_0 val_main_cst_1
  pointwise [Ideal.ofBits_zero_f32]

theorem ms_at (n : Fin 8192) : (val_main_v6 (F := Ideal) x0 (ix3 0 n 0) : EReal) = Norm.ms fun j => x0 (ix3 0 n j) := by
  unfold Norm.ms val_main_v6 val_main_v5 val_main_v4 val_main_v3 val_main_v2 val_main_v1 val_main_v0 val_main_cst val_main_cst_0 val_main_cst_1
  pointwise [Ideal.ofBits_zero_f32]

theorem along_at (n : Fin 8192) : (val_main_v39 (F := Ideal) x0 x1 x2 x3 x4 x5 x6 x7 x8 (ix3 0 n 0) : EReal)
    = Norm.along (fun j => x0 (ix3 0 n j)) (fun j => x1 (ix1 j)) (through x2 x3 x4 x5 x6 x7 x8 n) := by
  unfold Norm.along
  rw [← rs_at, ← ms_at]
  unfold val_main_v39 val_main_v37 val_main_v38 val_main_v10 val_main_v9 val_main_v8 val_main_v33 val_main_v32 val_main_v31 val_main_v29 val_main_v28 val_main_v13 val_main_cst_2 val_main_cst_5 val_main_cst_6
  unfold through
  generalize val_main_v6 (F := Ideal) x0 = a, val_main_v7 (F := Ideal) x0 = b, val_main_v24 (F := Ideal) x2 x3 x4 x5 x6 x7 x8 = u
  pointwise [Ideal.ofBits_zero_f32]

theorem total_at (n : Fin 8192) : (val_main_v40 (F := Ideal) x0 x1 x2 x3 x4 x5 x6 x7 x8 (ix1 n) : EReal)
    = Norm.along (fun j => x0 (ix3 0 n j)) (fun j => x1 (ix1 j)) (through x2 x3 x4 x5 x6 x7 x8 n) := by
  rw [← along_at]
  refine (Norm.sum_of_one reducesTo_S1x8192x1_S8192_d0_2 _ _ _ (ix1 n) (ix3 0 n 0) fun k => ?_).trans ?_
  · constructor
    · refine fun e => funext fun a => Fin.ext ?_
      match a with
      | ⟨0, _⟩ => exact (Nat.lt_one_iff.1 (k 0).isLt).symm
      | ⟨1, _⟩ => exact (congrArg Fin.val (congrFun e 0)).symm
      | ⟨2, _⟩ => exact (Nat.lt_one_iff.1 (k 2).isLt).symm
    · rintro rfl
      funext b
      fin_cases b
      rfl
  · unfold val_main_cst_7
    pointwise [Ideal.ofBits_zero_f32]

theorem dh_at (n : Fin 8192) (j : Fin 1024) : (val_main_v47 (F := Ideal) x0 x1 x2 x3 x4 x5 x6 x7 x8 x9 (ix2 n j) : EReal)
    = x9 (ix3 0 n j) + through x2 x3 x4 x5 x6 x7 x8 n j * x1 (ix1 j) * (Norm.rs fun j => x0 (ix3 0 n j))
      + x0 (ix3 0 n j) * Norm.along (fun j => x0 (ix3 0 n j)) (fun j => x1 (ix1 j)) (through x2 x3 x4 x5 x6 x7 x8 n)
      + Norm.along (fun j => x0 (ix3 0 n j)) (fun j => x1 (ix1 j)) (through x2 x3 x4 x5 x6 x7 x8 n) * x0 (ix3 0 n j) := by
  rw [← total_at, ← rs_at]
  unfold val_main_v47 val_main_v46 val_main_v45 val_main_v44 val_main_v43 val_main_v42 val_main_v41 val_main_v36 val_main_v35 val_main_v34 val_main_v29 val_main_v28 val_main_v13
  unfold through
  generalize val_main_v40 (F := Ideal) x0 x1 x2 x3 x4 x5 x6 x7 x8 = a, val_main_v7 (F := Ideal) x0 = b, val_main_v24 (F := Ideal) x2 x3 x4 x5 x6 x7 x8 = u
  pointwise

theorem dg_at (j : Fin 1024) : (val_main_v48 (F := Ideal) x0 x2 x3 x4 x5 x6 x7 x8 (ix2 0 j) : EReal)
    = ∑ n, x0 (ix3 0 n j) * (Norm.rs fun j => x0 (ix3 0 n j)) * through x2 x3 x4 x5 x6 x7 x8 n j := by
  simp only [← rs_at]
  have e : (val_main_v48 (F := Ideal) x0 x2 x3 x4 x5 x6 x7 x8 (ix2 0 j) : EReal) = val_main_v30 (F := Ideal) x0 x2 x3 x4 x5 x6 x7 x8 (ix1 j) := by
    unfold val_main_v48
    generalize val_main_v30 (F := Ideal) x0 x2 x3 x4 x5 x6 x7 x8 = a
    pointwise
  refine e.trans ((Norm.sum_of_one reducesTo_S1x1x1024_S1024_d0_1 _ _ _ (ix1 j) (ix3 0 0 j) fun k => ?_).trans ?_)
  · constructor
    · refine fun e => funext fun a => Fin.ext ?_
      match a with
      | ⟨0, _⟩ => exact (Nat.lt_one_iff.1 (k 0).isLt).symm
      | ⟨1, _⟩ => exact (Nat.lt_one_iff.1 (k 1).isLt).symm
      | ⟨2, _⟩ => exact (congrArg Fin.val (congrFun e 0)).symm
    · rintro rfl
      funext b
      fin_cases b
      rfl
  · unfold val_main_cst_4 val_main_v27 val_main_v26 val_main_v25 val_main_v12 val_main_v11 val_main_cst_3 through
    generalize val_main_v7 (F := Ideal) x0 = b, val_main_v24 (F := Ideal) x2 x3 x4 x5 x6 x7 x8 = u
    pointwise [Ideal.ofBits_zero_f32]

/-- The columns of the projection in the kernel's four groups. -/
theorem sum_groups (f : Fin 3840 → EReal) : ∑ k, f k = ∑ k : Fin 1024, f ⟨k.val, by omega⟩ + ∑ k : Fin 256, f ⟨1024 + k.val, by omega⟩
    + ∑ k : Fin 512, f ⟨1280 + k.val, by omega⟩ + ∑ k : Fin 2048, f ⟨1792 + k.val, by omega⟩ := by
  refine (Fin.sum_univ_add (a := 1792) (b := 2048) f).trans (congrArg (· + _) ?_)
  refine (Fin.sum_univ_add (a := 1280) (b := 512) _).trans (congrArg (· + _) ?_)
  exact Fin.sum_univ_add (a := 1024) (b := 256) _

/-- The six cotangents side by side. -/
def joined (n : Fin 8192) (k : Fin 3840) : EReal :=
  if h : k.val < 1024 then x3 (ix3 0 n ⟨k.val, h⟩)
  else if h : k.val - 1024 < 128 then x4 (ix3 0 n ⟨k.val - 1024, h⟩)
  else if h : k.val - 1024 - 128 < 128 then x5 (ix3 0 n ⟨k.val - 1024 - 128, h⟩)
  else if h : k.val - 1024 - 128 - 128 < 512 then x6 (ix3 0 n ⟨k.val - 1024 - 128 - 128, h⟩)
  else if h : k.val - 1024 - 128 - 128 - 512 < 1024 then x7 (ix3 0 n ⟨k.val - 1024 - 128 - 128 - 512, h⟩)
  else x8 (ix3 0 n ⟨k.val - 1024 - 128 - 128 - 512 - 1024, by omega⟩)

/-- The cotangent of a normalized row is the six cotangents through the projection. -/
theorem through_joined (n : Fin 8192) (j : Fin 1024) : through x2 x3 x4 x5 x6 x7 x8 n j
    = ∑ k, joined x3 x4 x5 x6 x7 x8 n k * x2 (ix2 j k) := by
  have e : through x2 x3 x4 x5 x6 x7 x8 n j = ∑ k, (val_main_v23 (F := Ideal) x3 x4 x5 x6 x7 x8 (ix3 0 n k) : EReal) * x2 (ix2 j k) := by
    unfold through val_main_v24
    generalize val_main_v23 (F := Ideal) x3 x4 x5 x6 x7 x8 = y
    pointwise
  have at23 : ∀ k, (val_main_v23 (F := Ideal) x3 x4 x5 x6 x7 x8 (ix3 0 n k) : EReal) = joined x3 x4 x5 x6 x7 x8 n k := fun k => by
    unfold val_main_v23 joined
    pointwise
  rw [e]
  simp only [at23]

/-- Of finite cotangents and a finite projection it is a real number. -/
theorem through_real (h2 : ∀ i, ∃ r : ℝ, x2 i = r) (h3 : ∀ i, ∃ r : ℝ, x3 i = r) (h4 : ∀ i, ∃ r : ℝ, x4 i = r) (h5 : ∀ i, ∃ r : ℝ, x5 i = r)
    (h6 : ∀ i, ∃ r : ℝ, x6 i = r) (h7 : ∀ i, ∃ r : ℝ, x7 i = r) (h8 : ∀ i, ∃ r : ℝ, x8 i = r) (n : Fin 8192) (j : Fin 1024) :
    ∃ r : ℝ, through x2 x3 x4 x5 x6 x7 x8 n j = r := by
  have real : ∀ k, ∃ r : ℝ, joined x3 x4 x5 x6 x7 x8 n k * x2 (ix2 j k) = r := fun k => by
    obtain ⟨a, ha⟩ : ∃ r : ℝ, joined x3 x4 x5 x6 x7 x8 n k = r := by
      unfold joined
      split_ifs
      exacts [h3 _, h4 _, h5 _, h6 _, h7 _, h8 _]
    obtain ⟨b, hb⟩ := h2 (ix2 j k)
    exact ⟨a * b, by rw [ha, hb, EReal.coe_mul]⟩
  choose f hf using real
  exact ⟨_, (through_joined x2 x3 x4 x5 x6 x7 x8 n j).trans (Norm.sum_real hf)⟩

/-- The cotangent of a normalized row is the sum over the groups: the queries', the keys' and values', the pooled
columns', the gates'. -/
theorem through_at (n : Fin 8192) (j : Fin 1024) : through x2 x3 x4 x5 x6 x7 x8 n j
    = ∑ k : Fin 1024, x3 (ix3 0 n k) * x2 (ix2 j ⟨k.val, by omega⟩)
      + ∑ k : Fin 256, (if h : k.val < 128 then x4 (ix3 0 n ⟨k.val, h⟩) else x5 (ix3 0 n ⟨k.val - 128, by omega⟩)) * x2 (ix2 j ⟨1024 + k.val, by omega⟩)
      + ∑ k : Fin 512, x6 (ix3 0 n k) * x2 (ix2 j ⟨1280 + k.val, by omega⟩)
      + ∑ k : Fin 2048, (if h : k.val < 1024 then x7 (ix3 0 n ⟨k.val, h⟩) else x8 (ix3 0 n ⟨k.val - 1024, by omega⟩)) * x2 (ix2 j ⟨1792 + k.val, by omega⟩) := by
  rw [through_joined, sum_groups]
  refine congrArg₂ (fun a b : EReal => a + b) (congrArg₂ (fun a b : EReal => a + b) (congrArg₂ (fun a b : EReal => a + b) ?_ ?_) ?_) ?_
  all_goals refine Finset.sum_congr rfl fun k _ => congrArg (fun a : EReal => a * _) ?_
  all_goals unfold joined; dsimp only
  · rw [dif_pos k.isLt]
  · rw [dif_neg (by omega)]
    by_cases h : k.val < 128
    · rw [dif_pos (by omega), dif_pos h]; exact congrArg (fun q => x4 (ix3 0 n q)) (Fin.ext (by dsimp only; omega))
    · rw [dif_neg (by omega), dif_pos (by omega), dif_neg h]; exact congrArg (fun q => x5 (ix3 0 n q)) (Fin.ext (by dsimp only; omega))
  · rw [dif_neg (by omega), dif_neg (by omega), dif_neg (by omega), dif_pos (by omega)]; exact congrArg (fun q => x6 (ix3 0 n q)) (Fin.ext (by dsimp only; omega))
  · rw [dif_neg (by omega), dif_neg (by omega), dif_neg (by omega), dif_neg (by omega)]
    by_cases h : k.val < 1024
    · rw [dif_pos (by omega), dif_pos h]; exact congrArg (fun q => x7 (ix3 0 n q)) (Fin.ext (by dsimp only; omega))
    · rw [dif_neg (by omega), dif_neg h]; exact congrArg (fun q => x8 (ix3 0 n q)) (Fin.ext (by dsimp only; omega))

end Cert.MixRefIdeal.Mix

end
-- ==== Proof.MixEquation.lean ====
/-
  The input projection's gradient: what the kernel's call leaves in its two results is what the reference's derivative
  computes, from finite hidden rows, gain, projection and cotangents of the projection; the cotangent of the hidden rows
  themselves may be anything.
-/
module

public import proofs.«01_k».proof.Proof.MixHost
public import proofs.«01_k».proof.Proof.MixReference
public import proofs.«01_k».proof.Proof.Gen.Pre_mix_finite
public import proofs.«01_k».proof.Proof.Finite
public import proofs.«01_k».proof.Defs

@[expose] public section

set_option maxRecDepth 16384

noncomputable section

open Idealize.ShloMosaic Idealize.ShloMosaic.TcCoe Idealize.SL.Sem

namespace Cert.MixEquation

open Cert.MixIdeal Cert.MixIdeal.Gen Cert.MixIdeal.Mix

section
variable (x0 : FVec Ideal S1x8192x1024 .f32) (x1 : FVec Ideal S1024 .f32) (x2 : FVec Ideal S1024x3840 .f32)
  (x3 : FVec Ideal S1x8192x1024 .f32) (x4 x5 : FVec Ideal S1x8192x128 .f32) (x6 : FVec Ideal S1x8192x512 .f32)
  (x7 x8 x9 : FVec Ideal S1x8192x1024 .f32)

/-- The arrays the call gets. -/
abbrev argQ : FVec Ideal S8192x1024 .bf16 := truncf (F := Ideal) .bf16 (shapeCast S8192x1024 x3 shapeCasts_S1x8192x1024_S8192x1024) bitsLt_bf16_f32
abbrev argKV : FVec Ideal S8192x256 .bf16 := truncf (F := Ideal) .bf16 (concatenate S8192x256 1
  [⟨S8192x128, shapeCast S8192x128 x4 shapeCasts_S1x8192x128_S8192x128⟩, ⟨S8192x128, shapeCast S8192x128 x5 shapeCasts_S1x8192x128_S8192x128⟩]
  concatenates_S8192x128_S8192x128_S8192x256_d1) bitsLt_bf16_f32
abbrev argZ : FVec Ideal S8192x512 .bf16 := truncf (F := Ideal) .bf16 (shapeCast S8192x512 x6 shapeCasts_S1x8192x512_S8192x512) bitsLt_bf16_f32
abbrev argGates : FVec Ideal S8192x2048 .bf16 := truncf (F := Ideal) .bf16 (concatenate S8192x2048 1
  [⟨S8192x1024, shapeCast S8192x1024 x7 shapeCasts_S1x8192x1024_S8192x1024⟩, ⟨S8192x1024, shapeCast S8192x1024 x8 shapeCasts_S1x8192x1024_S8192x1024⟩]
  concatenates_S8192x1024_S8192x1024_S8192x2048_d1) bitsLt_bf16_f32
abbrev argW : FVec Ideal S3840x1024 .bf16 := truncf (F := Ideal) .bf16 (transpose S3840x1024 [1, 0] x2 transposes_S1024x3840_S3840x1024_1_0) bitsLt_bf16_f32
abbrev rows (x : FVec Ideal S1x8192x1024 .f32) : FVec Ideal S8192x1024 .f32 := shapeCast S8192x1024 x shapeCasts_S1x8192x1024_S8192x1024

/-- The kernel's four products add up to the reference's one. -/
theorem du_eq (n : Fin 8192) : du (at2 (argQ x3)) (at2 (argKV x4 x5)) (at2 (argZ x6)) (at2 (argGates x7 x8)) (at2 (argW x2)) n
    = Cert.MixRefIdeal.Mix.through x2 x3 x4 x5 x6 x7 x8 n := by
  funext j
  rw [Cert.MixRefIdeal.Mix.through_at]
  unfold du at2 argQ argKV argZ argGates argW
  pointwise

theorem rows_eq (x : FVec Ideal S1x8192x1024 .f32) (n : Fin 8192) : at2 (rows x) n = fun j => x (ix3 0 n j) := by
  funext j
  unfold at2 rows
  pointwise

theorem gain_eq : at2 (shapeCast S1x1024 x1 shapeCasts_S1024_S1x1024) 0 = fun j => x1 (ix1 j) := by
  funext j
  unfold at2
  pointwise

/-- The gradient of the hidden rows. -/
theorem dh_eq (h0 : ∀ i, ∃ r : ℝ, x0 i = r) (h1 : ∀ i, ∃ r : ℝ, x1 i = r) (h2 : ∀ i, ∃ r : ℝ, x2 i = r) (h3 : ∀ i, ∃ r : ℝ, x3 i = r)
    (h4 : ∀ i, ∃ r : ℝ, x4 i = r) (h5 : ∀ i, ∃ r : ℝ, x5 i = r) (h6 : ∀ i, ∃ r : ℝ, x6 i = r) (h7 : ∀ i, ∃ r : ℝ, x7 i = r) (h8 : ∀ i, ∃ r : ℝ, x8 i = r) :
    Cert.MixRefIdeal.Read.val_main_v47 (F := Ideal) x0 x1 x2 x3 x4 x5 x6 x7 x8 x9
      = dhBlock (argQ x3) (argKV x4 x5) (argZ x6) (argGates x7 x8) (rows x9) (rows x0) (shapeCast S1x1024 x1 shapeCasts_S1024_S1x1024) (argW x2) := by
  funext y
  obtain ⟨n, j, rfl⟩ : ∃ n j, y = ix2 n j := ⟨y 0, y 1, eq_ix2 y⟩
  refine (Cert.MixRefIdeal.Mix.dh_at x0 x1 x2 x3 x4 x5 x6 x7 x8 x9 n j).trans ?_
  change _ = at2 (rows x9) n j + Norm.back (at2 (rows x0) n) (at2 (shapeCast S1x1024 x1 shapeCasts_S1024_S1x1024) 0)
    (du (at2 (argQ x3)) (at2 (argKV x4 x5)) (at2 (argZ x6)) (at2 (argGates x7 x8)) (at2 (argW x2)) n) j
  rw [du_eq, rows_eq, rows_eq, gain_eq]
  have hu := Cert.MixRefIdeal.Mix.through_real x2 x3 x4 x5 x6 x7 x8 h2 h3 h4 h5 h6 h7 h8 n
  generalize Cert.MixRefIdeal.Mix.through x2 x3 x4 x5 x6 x7 x8 n = u at hu ⊢
  choose X hX using h0
  choose G hG using h1
  choose U hU using hu
  obtain rfl : u = fun j => (U j : EReal) := funext hU
  simp only [hX, hG]
  exact (Norm.back_eq (fun j => X (ix3 0 n j)) (fun j => G (ix1 j)) U (x9 (ix3 0 n j)) j).symm

/-- The gradient of the gain. -/
theorem dg_eq : Cert.MixRefIdeal.Read.val_main_v48 (F := Ideal) x0 x2 x3 x4 x5 x6 x7 x8
      = dgBlock (argQ x3) (argKV x4 x5) (argZ x6) (argGates x7 x8) (rows x0) (argW x2) := by
  funext y
  obtain ⟨r, j, rfl⟩ : ∃ r j, y = ix2 r j := ⟨y 0, y 1, eq_ix2 y⟩
  obtain rfl : r = 0 := Subsingleton.elim _ _
  refine (Cert.MixRefIdeal.Mix.dg_at x0 x2 x3 x4 x5 x6 x7 x8 j).trans (Finset.sum_congr rfl fun n _ => ?_)
  rw [du_eq, rows_eq]
  exact mul_comm _ _
end

/-- The reference leaves its arguments alone, and it declares no semaphore. -/
theorem reference_frame : Cert.quiescent_MixRefIdeal (hMixRefIdeal := Cert.MixRefIdeal.Gen.facts) :=
  fun m ρ _ => (θ_run Cert.MixRefIdeal.defs _ _).mono
    (fun r h => ⟨fun c => (h c).2.2, Idealize.ShloMosaic.sem_eq_zero_of_no_sems (by decide) r.2⟩)
    (Cert.MixRefIdeal.Value.run (F := Ideal) m ρ)

/-- The kernel and the reference compute the same two arrays. -/
theorem mix_algebraic : Cert.algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  intro m g m' g' hpre hargs
  refine ⟨fun c => (dats m 0 c).arrAt 8 cfg0.N, fun c => (dats m 0 c).arrAt 9 cfg0.N, Cert.MixIdeal.Value.run_blocks (F := Ideal) m g, ?_⟩
  refine (θ_run (Cert.MixRefIdeal.defs (F := Ideal)) _ _).mono (fun r h c => ?_) (Cert.MixRefIdeal.Value.run (F := Ideal) m' g')
  obtain ⟨hh, hg, kept⟩ := h c
  have e := congrFun (hpre c) fun i => i.elim0
  dsimp only [Cert.Pre_mix_finite.fn, Cert.Pre_mix_finite.fn_part1, Cert.Pre_mix_finite.fn_part2, andi] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨a0, a1, a2, a3, a4, a5, a6, a7, a8, a9⟩ := hargs c
  refine ⟨Eq.trans (hh.trans ?_) (final8 m c).symm, Eq.trans (hg.trans ?_) (final9 m c).symm, kept⟩
  · rw [Cert.MixRefIdeal.Read.val_main_v47_eq, a0, a1, a2, a3, a4, a5, a6, a7, a8, a9, host_q, host_kv, host_z, host_gates, host_ct, host_h, host_gain, host_w]
    exact dh_eq _ _ _ _ _ _ _ _ _ _ (Finite.real_of_all _ _ _ _ _ _ _ e0) (Finite.real_of_all _ _ _ _ _ _ _ e1) (Finite.real_of_all _ _ _ _ _ _ _ e2)
      (Finite.real_of_all _ _ _ _ _ _ _ e3) (Finite.real_of_all _ _ _ _ _ _ _ e4) (Finite.real_of_all _ _ _ _ _ _ _ e5)
      (Finite.real_of_all _ _ _ _ _ _ _ e6) (Finite.real_of_all _ _ _ _ _ _ _ e7) (Finite.real_of_all _ _ _ _ _ _ _ e8)
  · rw [Cert.MixRefIdeal.Read.val_main_v48_eq, a0, a2, a3, a4, a5, a6, a7, a8, host_q, host_kv, host_z, host_gates, host_h, host_w]
    exact dg_eq _ _ _ _ _ _ _ _

end Cert.MixEquation

end
-- ==== Proof.SwigluSpec.lean ====
/-
  The entries of the SwiGLU's gradient over the extended reals: the up projection of a normalized row, the cotangent through
  the down projection, and the gate's derivative written with the hyperbolic tangent and with the exponential.
-/
module

public import proofs.«01_k».proof.Proof.NormRows

@[expose] public section

set_option maxRecDepth 16384

noncomputable section

open Idealize.ShloMosaic

namespace Swiglu

/-- The up projection of a normalized row, at a column. -/
def up (x g : Fin 1024 → EReal) (w : Fin 1024 → Fin 5632 → EReal) (c : Fin 5632) : EReal :=
  ∑ i, x i * Norm.rs x * g i * w i c

/-- Half a row's cotangent through the down projection. -/
def pull (d : Fin 1024 → EReal) (w : Fin 2816 → Fin 1024 → EReal) (k : Fin 2816) : EReal :=
  ∑ i, Ideal.ofBits .f32 0x3F000000#32 * d i * w k i

/-- The logistic function by the hyperbolic tangent. -/
def byTanh (a : EReal) : EReal :=
  Ideal.ofBits .f32 0x3F000000#32 * Ideal.tanh (Ideal.ofBits .f32 0x3F000000#32 * a) + Ideal.ofBits .f32 0x3F000000#32

/-- The logistic function by the exponential. -/
def byExp (a : EReal) : EReal :=
  Ideal.div (Ideal.ofBits .f32 0x3F800000#32) (Ideal.ofBits .f32 0x3F800000#32 + Ideal.exp (-a))

theorem bits_half : Ideal.ofBits .f32 0x3F000000#32 = ((0.5 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num

/-- Of a real number both are the same real number. -/
theorem logistic_real (a : ℝ) : ∃ s : ℝ, byTanh a = s ∧ byExp a = s := by
  refine ⟨1 * (1 / (1 + Real.exp (-a))), ?_, ?_⟩
  · unfold byTanh
    rw [bits_half, ← EReal.coe_mul, Ideal.tanh_coe]
    norm_cast
    have e1 : Real.exp (-(0.5 * a)) = (Real.exp (0.5 * a))⁻¹ := Real.exp_neg _
    have e2 : Real.exp (-a) = (Real.exp (0.5 * a))⁻¹ * (Real.exp (0.5 * a))⁻¹ := by
      rw [← Real.exp_neg, ← Real.exp_add]; congr 1; ring
    rw [Real.tanh_eq_sinh_div_cosh, Real.sinh_eq, Real.cosh_eq, e1, e2]
    have hp := Real.exp_pos (0.5 * a)
    generalize Real.exp (0.5 * a) = x at hp
    field_simp
    ring
  · unfold byExp
    have h : (1 + Real.exp (-a)) ≠ 0 := by positivity
    rw [bits_one, ← EReal.coe_neg, Ideal.exp_coe, ← EReal.coe_add, Ideal.div_coe h]
    norm_cast

/-- The column of the gate's half that a column of the product stands in. -/
def low (c : Fin 5632) : Fin 2816 := ⟨c.val % 2816, Nat.mod_lt _ (by norm_num)⟩

/-- The factors that the kernel's cotangent of the up projection has, from the projection's columns. -/
def factor (u : Fin 5632 → EReal) (c : Fin 5632) : EReal :=
  if h : c.val < 2816 then
    u ⟨2816 + c.val, by omega⟩ * (byTanh (u ⟨c.val, by omega⟩)
      + u ⟨c.val, by omega⟩ * byTanh (u ⟨c.val, by omega⟩) * (Ideal.ofBits .f32 0x3F800000#32 - byTanh (u ⟨c.val, by omega⟩)))
  else u ⟨c.val - 2816, by omega⟩ * byTanh (u ⟨c.val - 2816, by omega⟩)

/-- The cotangent of the up projection as the derivative comes out. -/
def pulled (p : Fin 2816 → EReal) (u : Fin 5632 → EReal) (c : Fin 5632) : EReal :=
  if h : c.val < 2816 then
    p ⟨c.val, h⟩ * u ⟨2816 + c.val, by omega⟩ * byExp (u ⟨c.val, by omega⟩)
      + u ⟨c.val, by omega⟩ * (p ⟨c.val, h⟩ * u ⟨2816 + c.val, by omega⟩)
        * (byExp (u ⟨c.val, by omega⟩) * (Ideal.ofBits .f32 0x3F800000#32 - byExp (u ⟨c.val, by omega⟩)))
  else u ⟨c.val - 2816, by omega⟩ * byExp (u ⟨c.val - 2816, by omega⟩) * p ⟨c.val - 2816, by omega⟩

/-- They agree on real numbers. -/
theorem factor_eq (P : Fin 2816 → ℝ) (U : Fin 5632 → ℝ) (c : Fin 5632) :
    ((P (low c) : EReal)) * factor (fun i => (U i : EReal)) c = pulled (fun i => (P i : EReal)) (fun i => (U i : EReal)) c := by
  unfold factor pulled
  split_ifs with h
  · obtain ⟨s, h1, h2⟩ := logistic_real (U ⟨c.val, by omega⟩)
    have e : low c = ⟨c.val, h⟩ := Fin.ext (Nat.mod_eq_of_lt h)
    rw [h1, h2, bits_one, e]
    simp only [← EReal.coe_mul, ← EReal.coe_add, ← EReal.coe_sub]
    congr 1
    ring
  · obtain ⟨s, h1, h2⟩ := logistic_real (U ⟨c.val - 2816, by omega⟩)
    have e : low c = ⟨c.val - 2816, by omega⟩ := Fin.ext (by unfold low; dsimp only; omega)
    rw [h1, h2, e]
    simp only [← EReal.coe_mul]
    congr 1
    ring

/-- The derivative of real numbers is a real number. -/
theorem pulled_real (P : Fin 2816 → ℝ) (U : Fin 5632 → ℝ) (c : Fin 5632) :
    ∃ r : ℝ, pulled (fun i => (P i : EReal)) (fun i => (U i : EReal)) c = r := by
  unfold pulled
  split_ifs with h
  · obtain ⟨s, -, h2⟩ := logistic_real (U ⟨c.val, by omega⟩)
    rw [h2, bits_one]
    exact ⟨P ⟨c.val, h⟩ * U ⟨2816 + c.val, by omega⟩ * s + U ⟨c.val, by omega⟩ * (P ⟨c.val, h⟩ * U ⟨2816 + c.val, by omega⟩) * (s * (1 - s)), by norm_cast⟩
  · obtain ⟨s, -, h2⟩ := logistic_real (U ⟨c.val - 2816, by omega⟩)
    rw [h2]
    exact ⟨U ⟨c.val - 2816, by omega⟩ * s * P ⟨c.val - 2816, by omega⟩, by norm_cast⟩

end Swiglu

end
-- ==== Proof.FfnHost.lean ====
/-
  The arrays that the half step's gradient call gets, from the program's arguments.
-/
module

public import proofs.«01_k».proof.Proof.SwigluSpec
public import proofs.«01_k».proof.Proof.Gen.FfnIdeal.Value

@[expose] public section

set_option maxRecDepth 16384

noncomputable section

open Idealize.ShloMosaic Idealize.ShloMosaic.TcCoe Idealize.SL.Sem

namespace Cert.FfnIdeal.Ffn

open Cert.FfnIdeal Cert.FfnIdeal.Gen Cert.FfnIdeal.Value

variable (m : (ℓ : Loc nD τ sig) → Buf (Elt Ideal) ℓ)

/-- One number everywhere. -/
abbrev all (s : Shape) (h : S_.BroadcastsInDim s ![]) (b : BitVec 32) : FVec Ideal s .f32 :=
  broadcastInDim s ![] h (constant (F := Ideal) S_ .f32 b)

/-- The rows' scales. -/
abbrev scales (h : FVec Ideal S8192x1024 .f32) : FVec Ideal S8192x1 .f32 :=
  Host.rsqrt (F := Ideal) (φ := .f32) (addf (F := Ideal) (φ := .f32) (Host.divf (F := Ideal) (φ := .f32)
    (broadcastInDim S8192x1 ![0] bcast_S8192_S8192x1_0
      (Host.reduceAdd (F := Ideal) (φ := .f32) (mulf (F := Ideal) (φ := .f32) h h) (constant (F := Ideal) S_ .f32 0x00000000#32) reducesTo_S8192x1024_S8192_d1 h_S_))
    (all S8192x1 bcast_S_S8192x1 0x44800000#32)) (all S8192x1 bcast_S_S8192x1 0x358637BD#32))

/-- The normalized rows. -/
abbrev normed (h : FVec Ideal S8192x1024 .f32) (g : FVec Ideal S1x1024 .f32) : FVec Ideal S8192x1024 .bf16 :=
  truncf (F := Ideal) .bf16 (mulf (F := Ideal) (φ := .f32) (mulf (F := Ideal) (φ := .f32) h
    (broadcastInDim S8192x1024 ![0, 1] bcast_S8192x1_S8192x1024_0_1 (scales h)))
    (broadcastInDim S8192x1024 ![0, 1] bcast_S1x1024_S8192x1024_0_1 g)) bitsLt_bf16_f32

/-- The two halves of the up projection. -/
abbrev gateHalf (n : FVec Ideal S8192x1024 .bf16) (w : FVec Ideal S1024x5632 .bf16) : FVec Ideal S8192x2816 .f32 :=
  Host.dotGeneral (F := Ideal) dot_S8192x1024_S1024x2816_S8192x2816_1_0_0_1_n_n none n
    (extractStridedSlice S1024x2816 ![0, 0] w slices_S1024x5632_S1024x2816_0_0)
abbrev otherHalf (n : FVec Ideal S8192x1024 .bf16) (w : FVec Ideal S1024x5632 .bf16) : FVec Ideal S8192x2816 .f32 :=
  Host.dotGeneral (F := Ideal) dot_S8192x1024_S1024x2816_S8192x2816_1_0_0_1_n_n none n
    (extractStridedSlice S1024x2816 ![0, 2816] w slices_S1024x5632_S1024x2816_0_2816)

/-- The logistic function of the gate's half. -/
abbrev logistic (a : FVec Ideal S8192x2816 .f32) : FVec Ideal S8192x2816 .f32 :=
  addf (F := Ideal) (φ := .f32) (mulf (F := Ideal) (φ := .f32) (all S8192x2816 bcast_S_S8192x2816 0x3F000000#32)
    (Host.tanh (F := Ideal) (φ := .f32) (mulf (F := Ideal) (φ := .f32) (all S8192x2816 bcast_S_S8192x2816 0x3F000000#32) a)))
    (all S8192x2816 bcast_S_S8192x2816 0x3F000000#32)

/-- The factors saved from the forward pass. -/
abbrev factors (a b : FVec Ideal S8192x2816 .f32) : FVec Ideal S8192x5632 .bf16 :=
  concatenate S8192x5632 1
    [⟨S8192x2816, truncf (F := Ideal) .bf16 (mulf (F := Ideal) (φ := .f32) b (addf (F := Ideal) (φ := .f32) (logistic a)
        (mulf (F := Ideal) (φ := .f32) (mulf (F := Ideal) (φ := .f32) a (logistic a))
          (subf (F := Ideal) (φ := .f32) (all S8192x2816 bcast_S_S8192x2816 0x3F800000#32) (logistic a))))) bitsLt_bf16_f32⟩,
      ⟨S8192x2816, truncf (F := Ideal) .bf16 (mulf (F := Ideal) (φ := .f32) a (logistic a)) bitsLt_bf16_f32⟩]
    concatenates_S8192x2816_S8192x2816_S8192x5632_d1

abbrev rows (x : FVec Ideal S1x8192x1024 .f32) : FVec Ideal S8192x1024 .f32 := shapeCast S8192x1024 x shapeCasts_S1x8192x1024_S8192x1024
abbrev gain (x : FVec Ideal S1024 .f32) : FVec Ideal S1x1024 .f32 := shapeCast S1x1024 x shapeCasts_S1024_S1x1024
abbrev wide (x : FVec Ideal S1024x5632 .f32) : FVec Ideal S1024x5632 .bf16 := truncf (F := Ideal) .bf16 x bitsLt_bf16_f32

theorem host_ct (c : Dev nD) : V m c main_v2 = rows (m ((c : Thread nD τ).loc main_arg4)) := by
  entry_read
  all_goals rfl

theorem host_h (c : Dev nD) : V m c main_v3 = rows (m ((c : Thread nD τ).loc main_arg0)) := by
  entry_read
  all_goals rfl

theorem host_gain (c : Dev nD) : V m c main_v0 = gain (m ((c : Thread nD τ).loc main_arg1)) := by
  entry_read
  all_goals rfl

theorem host_up (c : Dev nD) : V m c main_v1 = wide (m ((c : Thread nD τ).loc main_arg2)) := by
  entry_read
  all_goals rfl

theorem host_down (c : Dev nD) : V m c main_v38 = truncf (F := Ideal) .bf16 (m ((c : Thread nD τ).loc main_arg3)) bitsLt_bf16_f32 := by
  entry_read
  all_goals rfl

theorem host_factors (c : Dev nD) : V m c main_v37
    = factors (gateHalf (normed (rows (m ((c : Thread nD τ).loc main_arg0))) (gain (m ((c : Thread nD τ).loc main_arg1)))) (wide (m ((c : Thread nD τ).loc main_arg2))))
      (otherHalf (normed (rows (m ((c : Thread nD τ).loc main_arg0))) (gain (m ((c : Thread nD τ).loc main_arg1)))) (wide (m ((c : Thread nD τ).loc main_arg2)))) := by
  entry_read
  all_goals rfl

theorem scale_at (h : FVec Ideal S8192x1024 .f32) (n : Fin 8192) : (scales h (ix2 n 0) : EReal) = Norm.rs fun j => h (ix2 n j) := by
  unfold Norm.rs scales all
  pointwise [Ideal.ofBits_zero_f32]

theorem gate_at (h : FVec Ideal S8192x1024 .f32) (g : FVec Ideal S1x1024 .f32) (w : FVec Ideal S1024x5632 .bf16) (n : Fin 8192) (k : Fin 2816) :
    (gateHalf (normed h g) w (ix2 n k) : EReal) = Swiglu.up (fun j => h (ix2 n j)) (fun j => g (ix2 0 j)) (fun i c => w (ix2 i c)) ⟨k.val, by omega⟩ := by
  unfold Swiglu.up
  rw [← scale_at]
  unfold gateHalf normed
  generalize scales h = a
  pointwise

theorem other_at (h : FVec Ideal S8192x1024 .f32) (g : FVec Ideal S1x1024 .f32) (w : FVec Ideal S1024x5632 .bf16) (n : Fin 8192) (k : Fin 2816) :
    (otherHalf (normed h g) w (ix2 n k) : EReal) = Swiglu.up (fun j => h (ix2 n j)) (fun j => g (ix2 0 j)) (fun i c => w (ix2 i c)) ⟨2816 + k.val, by omega⟩ := by
  unfold Swiglu.up
  rw [← scale_at]
  unfold otherHalf normed
  generalize scales h = a
  pointwise

/-- An entry of the factors, from the entries of the halves. -/
theorem factors_at (a b : FVec Ideal S8192x2816 .f32) (u : Fin 8192 → Fin 5632 → EReal) (ha : ∀ n k, (a (ix2 n k) : EReal) = u n ⟨k.val, by omega⟩)
    (hb : ∀ n k, (b (ix2 n k) : EReal) = u n ⟨2816 + k.val, by omega⟩) (n : Fin 8192) (c : Fin 5632) :
    (factors a b (ix2 n c) : EReal) = Swiglu.factor (u n) c := by
  unfold Swiglu.factor Swiglu.byTanh
  by_cases h : c.val < 2816
  · rw [dif_pos h]
    have ea := ha n ⟨c.val, h⟩
    have eb := hb n ⟨c.val, h⟩
    dsimp only at ea eb
    rw [← ea, ← eb]
    unfold factors logistic all
    pointwise
    rw [dif_pos h]
  · rw [dif_neg h]
    have ea := ha n ⟨c.val - 2816, by omega⟩
    dsimp only at ea
    rw [← ea]
    unfold factors logistic all
    pointwise
    rw [dif_neg h]

end Cert.FfnIdeal.Ffn

end
-- ==== Proof.FfnKernel.lean ====
/-
  The gradient of the SwiGLU half step, as the kernel's grid computes it: what the two blocks of rows of a point leave in the
  hidden rows' gradient, in the cotangent of the up projection and in the normalized rows, and what the points add up in the
  gain's gradient.
-/
module

public import proofs.«01_k».proof.Proof.NormRows
public import proofs.«01_k».proof.Proof.Gen.FfnIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Ffn

open Cert.FfnIdeal Cert.FfnIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- Pieces in blocks of one size that leave nothing of a box of blocks cover the box. -/
theorem cover_of_box {Val : EltTy → Type} {s : Shape} {e : EltTy} (L : List (View.Piece Val s e)) (size n : Fin s.rank → ℕ)
    (hsz : ∀ a, 0 < size a)
    (h : (View.Piece.strikeAll size (some (View.Trie.full s.rank n size)) (View.Piece.sortByKey L)).isNone = true)
    (y : s.Idx) (hy : ∀ a, (y a).val / size a < n a) : ∃ p ∈ L, y ∈ p.1.set := by
  obtain ⟨p, hp, hoff, hsize, hstride⟩ := View.Piece.foldl_strike size _ _ h _ (View.Trie.mem_full s.rank n size (fun a => (y a).val / size a) hy)
  refine ⟨p, View.Piece.mem_of_mem_sortByKey L hp, p.1.mem_set.mpr fun a => ⟨(y a).val % size a, ?_, ?_⟩⟩
  · rw [hsize]; exact Nat.mod_lt _ (hsz a)
  · rw [← List.ofFn_inj.mp hoff.symm, hstride, Nat.one_mul]; exact (Nat.div_add_mod' _ _).symm

/-- A block's rows as functions. -/
abbrev at2 {a b : ℕ} (x : (⟨2, ![a, b]⟩ : Shape).Idx → EReal) : Fin a → Fin b → EReal := fun r j => x (ix2 r j)

/-- The cotangent of the up projection at a row: half the cotangent through the down projection, times the factor that belongs
to the column. -/
def dup {n : ℕ} (d : Fin n → Fin 1024 → EReal) (f : Fin n → Fin 5632 → EReal) (w : Fin 2816 → Fin 1024 → EReal) (r : Fin n) (c : Fin 5632) : EReal :=
  (∑ k : Fin 1024, Ideal.ofBits .f32 1056964608#32 * d r k * w ⟨c.val % 2816, Nat.mod_lt _ (by norm_num)⟩ k) * f r c

theorem dup_low {n : ℕ} (d : Fin n → Fin 1024 → EReal) (f : Fin n → Fin 5632 → EReal) (w : Fin 2816 → Fin 1024 → EReal) (r : Fin n) (c : Fin 5632)
    (h : c.val < 2816) : dup d f w r c = (∑ k : Fin 1024, Ideal.ofBits .f32 1056964608#32 * d r k * w ⟨c.val, h⟩ k) * f r c := by
  unfold dup
  simp only [Nat.mod_eq_of_lt h]

theorem dup_high {n : ℕ} (d : Fin n → Fin 1024 → EReal) (f : Fin n → Fin 5632 → EReal) (w : Fin 2816 → Fin 1024 → EReal) (r : Fin n) (o j : ℕ)
    (h : (o + 2816) + j < 5632) : dup d f w r ⟨(o + 2816) + j, h⟩
      = (∑ k : Fin 1024, Ideal.ofBits .f32 1056964608#32 * d r k * w ⟨o + j, by omega⟩ k) * f r ⟨(o + 2816) + j, h⟩ := by
  have e : ((o + 2816) + j) % 2816 = o + j := by omega
  unfold dup
  simp only [e]

/-- What a point leaves in a block of the up projection's cotangent. -/
def dupBlock {n : ℕ} (x0 : FVec Ideal ⟨2, ![n, 1024]⟩ .f32) (x2 : FVec Ideal ⟨2, ![n, 5632]⟩ .bf16) (x5 : FVec Ideal S2816x1024 .bf16) :
    FVec Ideal ⟨2, ![n, 5632]⟩ .bf16 := fun y => dup (at2 x0) (at2 x2) (at2 x5) (y 0) (y 1)

/-- The cotangent of a normalized row: the up projection's cotangent through its columns. -/
def dn {n : ℕ} (d : Fin n → Fin 1024 → EReal) (f : Fin n → Fin 5632 → EReal) (w : Fin 2816 → Fin 1024 → EReal) (u : Fin 1024 → Fin 5632 → EReal)
    (r : Fin n) (j : Fin 1024) : EReal := ∑ c : Fin 5632, dup d f w r c * u j c

/-- What a point leaves in a block of the hidden rows' gradient. -/
def dhBlock {n : ℕ} (x0 x1 : FVec Ideal ⟨2, ![n, 1024]⟩ .f32) (x2 : FVec Ideal ⟨2, ![n, 5632]⟩ .bf16) (x3 : FVec Ideal S1x1024 .f32)
    (x4 : FVec Ideal S1024x5632 .bf16) (x5 : FVec Ideal S2816x1024 .bf16) : FVec Ideal ⟨2, ![n, 1024]⟩ .f32 := fun y =>
  x0 (ix2 (y 0) (y 1)) + Norm.back (at2 x1 (y 0)) (at2 x3 0) (dn (at2 x0) (at2 x2) (at2 x5) (at2 x4) (y 0)) (y 1)

/-- What a point leaves in a block of the normalized rows. -/
def nBlock {n : ℕ} (x1 : FVec Ideal ⟨2, ![n, 1024]⟩ .f32) (x3 : FVec Ideal S1x1024 .f32) : FVec Ideal ⟨2, ![n, 1024]⟩ .bf16 := fun y =>
  x1 (ix2 (y 0) (y 1)) * Norm.rs (at2 x1 (y 0)) * x3 (ix2 0 (y 1))

/-- What a block of rows adds to the gain's gradient. -/
def dgBlock {n : ℕ} (x0 x1 : FVec Ideal ⟨2, ![n, 1024]⟩ .f32) (x2 : FVec Ideal ⟨2, ![n, 5632]⟩ .bf16)
    (x4 : FVec Ideal S1024x5632 .bf16) (x5 : FVec Ideal S2816x1024 .bf16) : FVec Ideal S1x1024 .f32 := fun y =>
  ∑ r : Fin n, dn (at2 x0) (at2 x2) (at2 x5) (at2 x4) r (y 1) * (at2 x1 r (y 1) * Norm.rs (at2 x1 r))

/-- The 512 rows of a block, in two parts. -/
theorem sum_halves (f : Fin 512 → EReal) : ∑ r, f r = ∑ r : Fin 256, f ⟨r.val, by omega⟩ + ∑ r : Fin 256, f ⟨256 + r.val, by omega⟩ := by
  refine Eq.trans (Fin.sum_mul_add_congr (S := 2) (n := 256) (F := fun t r => f ⟨t.val * 256 + r.val, by omega⟩) (f := f) (fun t r h => rfl)).symm ?_
  rw [Fin.sum_univ_two]
  simp

section
variable {Val : EltTy → Type} [∀ e, Nonempty (Val e)] {s : Shape} {e : EltTy}

/-- Pieces of one function over the whole shape are the function; what else holds may use that they are its pieces. -/
theorem with_pieces {L : List (View.Piece Val s e)} {G : s.Idx → Val e} {Q : Prop} (h : View.PiecesOf G L)
    (hc : ∀ y, ∃ p ∈ L, y ∈ p.1.set) (k : View.PiecesOf G L → Q) : (∀ y, View.canon L y = G y) ∧ Q :=
  ⟨fun y => by simpa using View.canon_append_of_piecesOf G [] L h y (hc y), k h⟩

/-- What a load finds of stored pieces of one function that cover its box: the function there. -/
theorem read_pieces {sig : RefSig} {κ : Kind} {sp : Space} (v : View sig κ sp s e) {L : List (View.Piece Val s e)} {G : s.Idx → Val e}
    (h : View.PiecesOf G L) (B : Rect s) (hc : ∀ y, ∃ p ∈ L, B.toLoadRect.idx y ∈ p.1.set) :
    v.readCov L B.toLoadRect = View.ld G B := by
  rw [View.readCov_eq_canon']
  funext y
  exact (by simpa using View.canon_append_of_piecesOf G [] L h _ (hc y))
end

/-- The block's entry at a place of one of its tiles. -/
theorem dup_tile (b0 : FVec Ideal S512x1024 .f32) (b2 : FVec Ideal S512x5632 .bf16) (b5 : FVec Ideal S2816x1024 .bf16) (o0 o1 : ℕ)
    (inb : ∀ a, (![o0, o1] : Fin 2 → ℕ) a + (![256, 256] : Fin 2 → ℕ) a ≤ S512x5632.size a) (r j : Fin 256) :
    dupBlock b0 b2 b5 ((Rect.unit (s := S512x5632) ![o0, o1] ![256, 256] inb).emb (ix2 r j))
      = dup (at2 b0) (at2 b2) (at2 b5) ⟨o0 + r.val, by have h : o0 + 256 ≤ 512 := inb 0; omega⟩
        ⟨o1 + j.val, by have h : o1 + 256 ≤ 5632 := inb 1; omega⟩ :=
  congrArg₂ (dup (at2 b0) (at2 b2) (at2 b5))
    (Fin.ext (by show o0 + 1 * r.val = o0 + r.val; omega)) (Fin.ext (by show o1 + 1 * j.val = o1 + j.val; omega))

/-- The first 256 rows are the first row of blocks. -/
theorem low_rows (y : (Rect.unit (s := S512x5632) ![0, 0] ![256, 5632] inb_S512x5632_S256x5632_0_0).shape.Idx) (a : Fin 2) :
    ((Rect.unit (s := S512x5632) ![0, 0] ![256, 5632] inb_S512x5632_S256x5632_0_0).toLoadRect.idx y a).val / (![256, 256] : Fin 2 → ℕ) a
      < (![1, 22] : Fin 2 → ℕ) a := by
  have h0 : (y 0).val < 256 := (y 0).isLt
  have h1 : (y 1).val < 5632 := (y 1).isLt
  fin_cases a
  · show (0 + 1 * (y 0).val) / 256 < 1
    omega
  · show (0 + 1 * (y 1).val) / 256 < 22
    omega

set_option maxHeartbeats 20000000 in
theorem pointB (c : Dev nD) (t : Fin cfg0.N) (hc : ¬t.val % 16 = 0) :
    (∀ y, (outsAt0 m c t.val t.isLt).2.1 y = dupBlock (iblk m c 0 t) (iblk m c 2 t) (iblk m c 5 t) y)
    ∧ (∀ y, (outsAt0 m c t.val t.isLt).1 y = dhBlock (iblk m c 0 t) (iblk m c 1 t) (iblk m c 2 t) (iblk m c 3 t) (iblk m c 4 t) (iblk m c 5 t) y)
    ∧ ∀ y, (outsAt0 m c t.val t.isLt).2.2.2 y = (outsAt0 m c (t.val - 1) (Nat.lt_of_le_of_lt (Nat.sub_le _ _) t.isLt)).2.2.2 y
      + dgBlock (iblk m c 0 t) (iblk m c 1 t) (iblk m c 2 t) (iblk m c 4 t) (iblk m c 5 t) y := by
  rw [outsAt0_B m c t hc]
  frame_out
  generalize outsAt0 m c (t.val - 1) (Nat.lt_of_le_of_lt (Nat.sub_le _ _) t.isLt) = o
  generalize iblk m c 0 t = b0, iblk m c 1 t = b1, iblk m c 2 t = b2, iblk m c 3 t = b3, iblk m c 4 t = b4, iblk m c 5 t = b5
  refine with_pieces (Val := Elt Ideal) (s := S512x5632) (e := .bf16) (G := dupBlock b0 b2 b5) ?_ ?_ fun h44 => ?_
  · repeat' (refine And.intro (fun x => ?_) ?_)
    any_goals exact trivial
    all_goals
      obtain ⟨r, j, rfl⟩ : ∃ r j, x = ix2 r j := ⟨x 0, x 1, eq_ix2 x⟩
      dsimp only
      rw [dup_tile b0 b2 b5]
      first
        | refine Eq.trans ?_ (dup_low _ _ _ _ _ (by dsimp only; omega)).symm
        | refine Eq.trans ?_ (dup_high _ _ _ _ _ _ _).symm
      open_payloads
      unfold at2
      try dsimp only [Nat.reduceAdd]
      pointwise
  · exact View.cover_of_tiledL _ ![256, 256] (by sl_kernel_rfl)
  · rw [read_pieces _ h44 _ fun y => View.cover_of_tiledL _ ![256, 256] (by sl_kernel_rfl) _]
    have h22 := h44.2.2.2.2.2.2.2.2.2.2.2.2.2.2.2.2.2.2.2.2.2.2
    rw [read_pieces _ h22 _ fun y => cover_of_box _ ![256, 256] ![1, 22] (by decide) (by sl_kernel_rfl) _ (low_rows y)]
    clear h22 h44
    refine ⟨fun y => ?_, fun y => ?_⟩
    · obtain ⟨r, j, rfl⟩ : ∃ r j, y = ix2 r j := ⟨y 0, y 1, eq_ix2 y⟩
      canon_tiles x h
      all_goals
        obtain ⟨r, hr⟩ := r; obtain ⟨j, hj⟩ := j; obtain rfl : r = _ := h0
        obtain rfl : j = _ := h1
        open_payloads
        unfold dhBlock Norm.back Norm.rs dn dupBlock dup at2
        pointwise
    · obtain ⟨r, j, rfl⟩ : ∃ r j, y = ix2 r j := ⟨y 0, y 1, eq_ix2 y⟩
      open_payloads
      unfold dgBlock Norm.rs dn dupBlock dup at2
      rw [sum_halves]
      pointwise

set_option maxHeartbeats 20000000 in
theorem pointA (c : Dev nD) (t : Fin cfg0.N) (hc : t.val % 16 = 0) :
    (∀ y, (outsAt0 m c t.val t.isLt).2.1 y = dupBlock (iblk m c 0 t) (iblk m c 2 t) (iblk m c 5 t) y)
    ∧ (∀ y, (outsAt0 m c t.val t.isLt).1 y = dhBlock (iblk m c 0 t) (iblk m c 1 t) (iblk m c 2 t) (iblk m c 3 t) (iblk m c 4 t) (iblk m c 5 t) y)
    ∧ ∀ y, (outsAt0 m c t.val t.isLt).2.2.2 y = 0 + dgBlock (iblk m c 0 t) (iblk m c 1 t) (iblk m c 2 t) (iblk m c 4 t) (iblk m c 5 t) y := by
  rw [outsAt0_A m c t hc]
  frame_open
  simp (disch := decide) only [↓ View.readCov_skip, ↓ View.readCov_cons_toLoadRect, ↓ View.readCov_fill]
  frame_out
  generalize iblk m c 0 t = b0, iblk m c 1 t = b1, iblk m c 2 t = b2, iblk m c 3 t = b3, iblk m c 4 t = b4, iblk m c 5 t = b5
  refine with_pieces (Val := Elt Ideal) (s := S512x5632) (e := .bf16) (G := dupBlock b0 b2 b5) ?_ ?_ fun h44 => ?_
  · repeat' (refine And.intro (fun x => ?_) ?_)
    any_goals exact trivial
    all_goals
      obtain ⟨r, j, rfl⟩ : ∃ r j, x = ix2 r j := ⟨x 0, x 1, eq_ix2 x⟩
      dsimp only
      rw [dup_tile b0 b2 b5]
      first
        | refine Eq.trans ?_ (dup_low _ _ _ _ _ (by dsimp only; omega)).symm
        | refine Eq.trans ?_ (dup_high _ _ _ _ _ _ _).symm
      open_payloads
      unfold at2
      try dsimp only [Nat.reduceAdd]
      pointwise
  · exact View.cover_of_tiledL _ ![256, 256] (by sl_kernel_rfl)
  · rw [read_pieces _ h44 _ fun y => View.cover_of_tiledL _ ![256, 256] (by sl_kernel_rfl) _]
    have h22 := h44.2.2.2.2.2.2.2.2.2.2.2.2.2.2.2.2.2.2.2.2.2.2
    rw [read_pieces _ h22 _ fun y => cover_of_box _ ![256, 256] ![1, 22] (by decide) (by sl_kernel_rfl) _ (low_rows y)]
    clear h22 h44
    refine ⟨fun y => ?_, fun y => ?_⟩
    · obtain ⟨r, j, rfl⟩ : ∃ r j, y = ix2 r j := ⟨y 0, y 1, eq_ix2 y⟩
      canon_tiles x h
      all_goals
        obtain ⟨r, hr⟩ := r; obtain ⟨j, hj⟩ := j; obtain rfl : r = _ := h0
        obtain rfl : j = _ := h1
        open_payloads
        unfold dhBlock Norm.back Norm.rs dn dupBlock dup at2
        pointwise
    · obtain ⟨r, j, rfl⟩ : ∃ r j, y = ix2 r j := ⟨y 0, y 1, eq_ix2 y⟩
      open_payloads
      unfold dgBlock Norm.rs dn dupBlock dup at2
      rw [sum_halves]
      pointwise [Ideal.ofBits_zero_f32]

theorem point8 (c : Dev nD) (t : Fin cfg0.N) (y) :
    (outsAt0 m c t.val t.isLt).2.2.1 y = nBlock (iblk m c 1 t) (iblk m c 3 t) y := by
  obtain ⟨r, j, rfl⟩ : ∃ r j, y = ix2 r j := ⟨y 0, y 1, eq_ix2 y⟩
  by_cases hc : t.val % 16 = 0
  · rw [outsAt0_A m c t hc]
    frame_out
    canon_tiles x h
    all_goals
      obtain ⟨r, hr⟩ := r; obtain ⟨j, hj⟩ := j; obtain rfl : r = _ := h0
      obtain rfl : j = _ := h1
      generalize iblk m c 1 t = b1, iblk m c 3 t = b3
      open_payloads
      unfold nBlock Norm.rs at2
      pointwise
  · rw [outsAt0_B m c t hc]
    frame_out
    canon_tiles x h
    all_goals
      obtain ⟨r, hr⟩ := r; obtain ⟨j, hj⟩ := j; obtain rfl : r = _ := h0
      obtain rfl : j = _ := h1
      generalize iblk m c 1 t = b1, iblk m c 3 t = b3
      open_payloads
      unfold nBlock Norm.rs at2
      pointwise

theorem point7 (c : Dev nD) (t : Fin cfg0.N) (y) :
    (outsAt0 m c t.val t.isLt).2.1 y = dupBlock (iblk m c 0 t) (iblk m c 2 t) (iblk m c 5 t) y := by
  by_cases hc : t.val % 16 = 0
  · exact (pointA m c t hc).1 y
  · exact (pointB m c t hc).1 y

theorem point6 (c : Dev nD) (t : Fin cfg0.N) (y) : (outsAt0 m c t.val t.isLt).1 y
    = dhBlock (iblk m c 0 t) (iblk m c 1 t) (iblk m c 2 t) (iblk m c 3 t) (iblk m c 4 t) (iblk m c 5 t) y := by
  by_cases hc : t.val % 16 = 0
  · exact (pointA m c t hc).2.1 y
  · exact (pointB m c t hc).2.1 y

theorem rows0 (c : Dev nD) (t : Fin cfg0.N) (r : Fin 512) (h : t.val * 512 + r.val < 8192) :
    at2 (iblk m c 0 t : FVec Ideal S512x1024 .f32) r = at2 (V m c main_v2 : FVec Ideal S8192x1024 .f32) ⟨t.val * 512 + r.val, h⟩ := by
  have e : ∀ l, (iblk m c 0 t : FVec Ideal S512x1024 .f32) (ix2 r l) = (V m c main_v2 : FVec Ideal S8192x1024 .f32) (ix2 ⟨t.val * 512 + r.val, h⟩ l) := by
    intro l
    blk_ext [iblk, V, idx t]
  exact funext e
theorem rows1 (c : Dev nD) (t : Fin cfg0.N) (r : Fin 512) (h : t.val * 512 + r.val < 8192) :
    at2 (iblk m c 1 t : FVec Ideal S512x1024 .f32) r = at2 (V m c main_v3 : FVec Ideal S8192x1024 .f32) ⟨t.val * 512 + r.val, h⟩ := by
  have e : ∀ l, (iblk m c 1 t : FVec Ideal S512x1024 .f32) (ix2 r l) = (V m c main_v3 : FVec Ideal S8192x1024 .f32) (ix2 ⟨t.val * 512 + r.val, h⟩ l) := by
    intro l
    blk_ext [iblk, V, idx t]
  exact funext e
theorem rows2 (c : Dev nD) (t : Fin cfg0.N) (r : Fin 512) (h : t.val * 512 + r.val < 8192) :
    at2 (iblk m c 2 t : FVec Ideal S512x5632 .bf16) r = at2 (V m c main_v37 : FVec Ideal S8192x5632 .bf16) ⟨t.val * 512 + r.val, h⟩ := by
  have e : ∀ l, (iblk m c 2 t : FVec Ideal S512x5632 .bf16) (ix2 r l) = (V m c main_v37 : FVec Ideal S8192x5632 .bf16) (ix2 ⟨t.val * 512 + r.val, h⟩ l) := by
    intro l
    blk_ext [iblk, V, idx t]
  exact funext e
theorem whole3 (c : Dev nD) (t : Fin cfg0.N) : (iblk m c 3 t : FVec Ideal S1x1024 .f32) = V m c main_v0 := by
  funext j
  blk_ext [iblk, V, idx t]
theorem whole4 (c : Dev nD) (t : Fin cfg0.N) : (iblk m c 4 t : FVec Ideal S1024x5632 .bf16) = V m c main_v1 := by
  funext j
  blk_ext [iblk, V, idx t]
theorem whole5 (c : Dev nD) (t : Fin cfg0.N) : (iblk m c 5 t : FVec Ideal S2816x1024 .bf16) = V m c main_v38 := by
  funext j
  blk_ext [iblk, V, idx t]

/-- The up projection's cotangent at a point is the whole array's at the point's row. -/
theorem dup_rows (c : Dev nD) (t : Fin cfg0.N) (r : Fin 512) (h : t.val * 512 + r.val < 8192) (q : Fin 5632) :
    dup (at2 (iblk m c 0 t : FVec Ideal S512x1024 .f32)) (at2 (iblk m c 2 t : FVec Ideal S512x5632 .bf16))
      (at2 (iblk m c 5 t : FVec Ideal S2816x1024 .bf16)) r q
      = dup (at2 (V m c main_v2 : FVec Ideal S8192x1024 .f32)) (at2 (V m c main_v37 : FVec Ideal S8192x5632 .bf16))
        (at2 (V m c main_v38 : FVec Ideal S2816x1024 .bf16)) ⟨t.val * 512 + r.val, h⟩ q := by
  unfold dup
  rw [rows0 m c t r h, rows2 m c t r h, whole5]

theorem dn_rows (c : Dev nD) (t : Fin cfg0.N) (r : Fin 512) (h : t.val * 512 + r.val < 8192) :
    dn (at2 (iblk m c 0 t : FVec Ideal S512x1024 .f32)) (at2 (iblk m c 2 t : FVec Ideal S512x5632 .bf16))
      (at2 (iblk m c 5 t : FVec Ideal S2816x1024 .bf16)) (at2 (iblk m c 4 t : FVec Ideal S1024x5632 .bf16)) r
      = dn (at2 (V m c main_v2 : FVec Ideal S8192x1024 .f32)) (at2 (V m c main_v37 : FVec Ideal S8192x5632 .bf16))
        (at2 (V m c main_v38 : FVec Ideal S2816x1024 .bf16)) (at2 (V m c main_v1 : FVec Ideal S1024x5632 .bf16)) ⟨t.val * 512 + r.val, h⟩ := by
  funext j
  unfold dn
  simp only [dup_rows m c t r h, whole4]

/-- The gain's gradient after the call: the sum over all the rows. -/
theorem final9 (c : Dev nD) : (dats m 0 c).arrAt 9 cfg0.N = dgBlock (V m c main_v2 : FVec Ideal S8192x1024 .f32)
    (V m c main_v3 : FVec Ideal S8192x1024 .f32) (V m c main_v37 : FVec Ideal S8192x5632 .bf16) (V m c main_v1) (V m c main_v38) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _ (fun t h j => (pointA m c t h).2.2 j)
    (fun t h j => (pointB m c t h).2.2 j) (le_of_eq N_0) t0_15 rfl j, zero_add]
  unfold dgBlock
  refine Fin.sum_mul_add_congr fun t r hl => ?_
  rw [dn_rows m c t r hl, rows1 m c t r hl]

/-- The hidden rows' gradient after the call. -/
theorem final6 (c : Dev nD) : (dats m 0 c).arrAt 6 cfg0.N = dhBlock (V m c main_v2 : FVec Ideal S8192x1024 .f32)
    (V m c main_v3 : FVec Ideal S8192x1024 .f32) (V m c main_v37 : FVec Ideal S8192x5632 .bf16) (V m c main_v0) (V m c main_v1) (V m c main_v38) := by
  refine (dats m 0 c).arrAt_eq_of_covers 6 _ (by decide +kernel) fun t hf y => ?_
  blk_simp
  rw [after0_6, point6]
  have e0 : ((win0_6.blk t).view.emb y 0).val = t.val * 512 + (y 0).val := by blk_point [idx t]
  have e1 : ((win0_6.blk t).view.emb y 1).val = (y 1).val := by blk_point [idx t]
  generalize (win0_6.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  change at2 (iblk m c 0 t : FVec Ideal S512x1024 .f32) (y 0) (y 1) + Norm.back (at2 (iblk m c 1 t : FVec Ideal S512x1024 .f32) (y 0)) _ _ _ = _
  rw [dn_rows m c t (y 0) hl, rows0 m c t (y 0) hl, rows1 m c t (y 0) hl, whole3]
  rfl

/-- The up projection's cotangent after the call. -/
theorem final7 (c : Dev nD) : (dats m 0 c).arrAt 7 cfg0.N = dupBlock (V m c main_v2 : FVec Ideal S8192x1024 .f32)
    (V m c main_v37 : FVec Ideal S8192x5632 .bf16) (V m c main_v38) := by
  refine (dats m 0 c).arrAt_eq_of_covers 7 _ (by decide +kernel) fun t hf y => ?_
  blk_simp
  rw [after0_7, point7]
  have e0 : ((win0_7.blk t).view.emb y 0).val = t.val * 512 + (y 0).val := by blk_point [idx t]
  have e1 : ((win0_7.blk t).view.emb y 1).val = (y 1).val := by blk_point [idx t]
  generalize (win0_7.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  exact dup_rows m c t (y 0) hl (y 1)

/-- The normalized rows after the call. -/
theorem final8 (c : Dev nD) : (dats m 0 c).arrAt 8 cfg0.N = nBlock (V m c main_v3 : FVec Ideal S8192x1024 .f32) (V m c main_v0) := by
  refine (dats m 0 c).arrAt_eq_of_covers 8 _ (by decide +kernel) fun t hf y => ?_
  blk_simp
  rw [after0_8, point8]
  have e0 : ((win0_8.blk t).view.emb y 0).val = t.val * 512 + (y 0).val := by blk_point [idx t]
  have e1 : ((win0_8.blk t).view.emb y 1).val = (y 1).val := by blk_point [idx t]
  generalize (win0_8.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  change at2 (iblk m c 1 t : FVec Ideal S512x1024 .f32) (y 0) (y 1) * Norm.rs (at2 (iblk m c 1 t : FVec Ideal S512x1024 .f32) (y 0)) * _ = _
  rw [rows1 m c t (y 0) hl, whole3]
  rfl

end Cert.FfnIdeal.Ffn

end
-- ==== Proof.FfnReference.lean ====
/-
  The reference's derivative of the SwiGLU half step, entry by entry.
-/
module

public import proofs.«01_k».proof.Proof.SwigluSpec
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Ffn

open Cert.FfnRefIdeal Cert.FfnRefIdeal.Gen Cert.FfnRefIdeal.Read

variable (x0 : FVec Ideal S1x8192x1024 .f32) (x1 : FVec Ideal S1024 .f32) (x2 : FVec Ideal S1024x5632 .f32)
  (x3 : FVec Ideal S2816x1024 .f32) (x4 : FVec Ideal S1x8192x1024 .f32)

/-- A row's up projection. -/
abbrev upRow (n : Fin 8192) : Fin 5632 → EReal := Swiglu.up (fun j => x0 (ix3 0 n j)) (fun j => x1 (ix1 j)) (fun i c => x2 (ix2 i c))

/-- A row's cotangent through the down projection. -/
abbrev pullRow (n : Fin 8192) : Fin 2816 → EReal := Swiglu.pull (fun j => x4 (ix3 0 n j)) (fun k i => x3 (ix2 k i))

/-- The cotangent of a row's up projection. -/
abbrev dupRow (n : Fin 8192) : Fin 5632 → EReal := Swiglu.pulled (pullRow x3 x4 n) (upRow x0 x1 x2 n)

/-- The cotangent of the normalized rows. -/
abbrev through (n : Fin 8192) (j : Fin 1024) : EReal := val_main_v33 (F := Ideal) x0 x1 x2 x3 x4 (ix3 0 n j)

theorem rs_at (n : Fin 8192) : (val_main_v7 (F := Ideal) x0 (ix3 0 n 0) : EReal) = Norm.rs fun j => x0 (ix3 0 n j) := by
  unfold Norm.rs val_main_v7 val_main_v6 val_main_v5 val_main_v4 val_main_v3 val_main_v2 val_main_v1 val_main_v0 val_main_cst val_main_cst_0 val_main_cst_1
  pointwise [Ideal.ofBits_zero_f32]

theorem rs_at' (n : Fin 8192) : (val_main_v63 (F := Ideal) x0 (ix3 0 n 0) : EReal) = Norm.rs fun j => x0 (ix3 0 n j) := by
  unfold Norm.rs val_main_v63 val_main_v62 val_main_v61 val_main_v60 val_main_v59 val_main_v58 val_main_v57 val_main_v56 val_main_cst_10 val_main_cst_11 val_main_cst_12
  pointwise [Ideal.ofBits_zero_f32]

theorem ms_at (n : Fin 8192) : (val_main_v6 (F := Ideal) x0 (ix3 0 n 0) : EReal) = Norm.ms fun j => x0 (ix3 0 n j) := by
  unfold Norm.ms val_main_v6 val_main_v5 val_main_v4 val_main_v3 val_main_v2 val_main_v1 val_main_v0 val_main_cst val_main_cst_0 val_main_cst_1
  pointwise [Ideal.ofBits_zero_f32]

theorem up_at (n : Fin 8192) (c : Fin 5632) : (val_main_v16 (F := Ideal) x0 x1 x2 (ix3 0 n c) : EReal) = upRow x0 x1 x2 n c := by
  unfold upRow Swiglu.up
  rw [← rs_at]
  unfold val_main_v16 val_main_v15 val_main_v14 val_main_v13 val_main_v12 val_main_v11
  generalize val_main_v7 (F := Ideal) x0 = a
  pointwise

theorem up_at' (n : Fin 8192) (c : Fin 5632) : (val_main_v69 (F := Ideal) x0 x1 x2 (ix3 0 n c) : EReal) = upRow x0 x1 x2 n c := by
  unfold upRow Swiglu.up
  rw [← rs_at']
  unfold val_main_v69 val_main_v68 val_main_v67 val_main_v66 val_main_v65 val_main_v64
  generalize val_main_v63 (F := Ideal) x0 = a
  pointwise

theorem pull_at (n : Fin 8192) (k : Fin 2816) : (val_main_v28 (F := Ideal) x3 x4 (ix3 0 n k) : EReal) = pullRow x3 x4 n k := by
  unfold pullRow Swiglu.pull val_main_v28 val_main_v27 val_main_v26 val_main_v25 val_main_cst_4
  pointwise

theorem pull_at' (n : Fin 8192) (k : Fin 2816) : (val_main_v79 (F := Ideal) x3 x4 (ix3 0 n k) : EReal) = pullRow x3 x4 n k := by
  unfold pullRow Swiglu.pull val_main_v79 val_main_v78 val_main_v77 val_main_cst_14
  pointwise

theorem dup_at (n : Fin 8192) (c : Fin 5632) : (val_main_v32 (F := Ideal) x0 x1 x2 x3 x4 (ix3 0 n c) : EReal) = dupRow x0 x1 x2 x3 x4 n c := by
  unfold dupRow Swiglu.pulled Swiglu.byExp
  simp only [← up_at, ← pull_at]
  unfold val_main_v32 val_main_v31 val_main_call1_v2 val_main_call1_v1 val_main_call1_v0 val_main_v30 val_main_v29 val_main_v19_0 val_main_v19_1 val_main_call0_v7 val_main_call0_v6 val_main_call0_cst_1 val_main_v19_2 val_main_call0_v4 val_main_call0_cst_0 val_main_call0_v3 val_main_call0_v2 val_main_call0_cst val_main_call0_v1 val_main_call0_v0 val_main_v18 val_main_v17
  generalize val_main_v16 (F := Ideal) x0 x1 x2 = a, val_main_v28 (F := Ideal) x3 x4 = b
  pointwise

theorem dup_at' (n : Fin 8192) (c : Fin 5632) : (val_main_v86 (F := Ideal) x0 x1 x2 x3 x4 (ix2 n c) : EReal) = dupRow x0 x1 x2 x3 x4 n c := by
  unfold dupRow Swiglu.pulled Swiglu.byExp
  simp only [← up_at', ← pull_at']
  unfold val_main_v86 val_main_v85 val_main_v83 val_main_v82 val_main_call3_v2 val_main_call3_v1 val_main_call3_v0 val_main_v81 val_main_v80 val_main_v72_0 val_main_v72_1 val_main_call2_v7 val_main_call2_v6 val_main_call2_cst_1 val_main_v72_2 val_main_call2_v4 val_main_call2_cst_0 val_main_call2_v3 val_main_call2_v2 val_main_call2_cst val_main_call2_v1 val_main_call2_v0 val_main_v71 val_main_v70
  generalize val_main_v69 (F := Ideal) x0 x1 x2 = a, val_main_v79 (F := Ideal) x3 x4 = b
  pointwise

theorem n_at (n : Fin 8192) (j : Fin 1024) : (val_main_v88 (F := Ideal) x0 x1 (ix2 n j) : EReal)
    = x0 (ix3 0 n j) * (Norm.rs fun j => x0 (ix3 0 n j)) * x1 (ix1 j) := by
  rw [← rs_at']
  unfold val_main_v88 val_main_v87 val_main_v68 val_main_v67 val_main_v66 val_main_v65 val_main_v64
  generalize val_main_v63 (F := Ideal) x0 = a
  pointwise

theorem through_at (n : Fin 8192) (j : Fin 1024) : through x0 x1 x2 x3 x4 n j = ∑ c, dupRow x0 x1 x2 x3 x4 n c * x2 (ix2 j c) := by
  simp only [← dup_at]
  unfold through val_main_v33
  generalize val_main_v32 (F := Ideal) x0 x1 x2 x3 x4 = a
  pointwise

theorem along_at (n : Fin 8192) : (val_main_v48 (F := Ideal) x0 x1 x2 x3 x4 (ix3 0 n 0) : EReal)
    = Norm.along (fun j => x0 (ix3 0 n j)) (fun j => x1 (ix1 j)) (through x0 x1 x2 x3 x4 n) := by
  unfold Norm.along
  rw [← rs_at, ← ms_at]
  unfold val_main_v48 val_main_v47 val_main_v46 val_main_v42 val_main_v41 val_main_v40 val_main_v38 val_main_v37 val_main_v13 val_main_v10 val_main_v9 val_main_v8 val_main_cst_2 val_main_cst_7 val_main_cst_8
  unfold through
  generalize val_main_v6 (F := Ideal) x0 = a, val_main_v7 (F := Ideal) x0 = b, val_main_v33 (F := Ideal) x0 x1 x2 x3 x4 = u
  pointwise [Ideal.ofBits_zero_f32]

theorem total_at (n : Fin 8192) : (val_main_v49 (F := Ideal) x0 x1 x2 x3 x4 (ix1 n) : EReal)
    = Norm.along (fun j => x0 (ix3 0 n j)) (fun j => x1 (ix1 j)) (through x0 x1 x2 x3 x4 n) := by
  rw [← along_at]
  refine (Norm.sum_of_one reducesTo_S1x8192x1_S8192_d0_2 _ _ _ (ix1 n) (ix3 0 n 0) fun k => ?_).trans ?_
  · constructor
    · refine fun e => funext fun a => Fin.ext ?_
      match a with
      | ⟨0, _⟩ => exact (Nat.lt_one_iff.1 (k 0).isLt).symm
      | ⟨1, _⟩ => exact (congrArg Fin.val (congrFun e 0)).symm
      | ⟨2, _⟩ => exact (Nat.lt_one_iff.1 (k 2).isLt).symm
    · rintro rfl
      funext b
      fin_cases b
      rfl
  · unfold val_main_cst_9
    pointwise [Ideal.ofBits_zero_f32]

theorem dh_at (n : Fin 8192) (j : Fin 1024) : (val_main_v84 (F := Ideal) x0 x1 x2 x3 x4 (ix2 n j) : EReal)
    = x4 (ix3 0 n j) + through x0 x1 x2 x3 x4 n j * x1 (ix1 j) * (Norm.rs fun j => x0 (ix3 0 n j))
      + x0 (ix3 0 n j) * Norm.along (fun j => x0 (ix3 0 n j)) (fun j => x1 (ix1 j)) (through x0 x1 x2 x3 x4 n)
      + Norm.along (fun j => x0 (ix3 0 n j)) (fun j => x1 (ix1 j)) (through x0 x1 x2 x3 x4 n) * x0 (ix3 0 n j) := by
  rw [← total_at, ← rs_at]
  unfold val_main_v84 val_main_v55 val_main_v54 val_main_v53 val_main_v52 val_main_v51 val_main_v50 val_main_v45 val_main_v44 val_main_v43 val_main_v38 val_main_v37 val_main_v13
  unfold through
  generalize val_main_v49 (F := Ideal) x0 x1 x2 x3 x4 = a, val_main_v7 (F := Ideal) x0 = b, val_main_v33 (F := Ideal) x0 x1 x2 x3 x4 = u
  pointwise

theorem dg_at (j : Fin 1024) : (val_main_v89 (F := Ideal) x0 x1 x2 x3 x4 (ix2 0 j) : EReal)
    = ∑ n, x0 (ix3 0 n j) * (Norm.rs fun j => x0 (ix3 0 n j)) * through x0 x1 x2 x3 x4 n j := by
  simp only [← rs_at]
  have e : (val_main_v89 (F := Ideal) x0 x1 x2 x3 x4 (ix2 0 j) : EReal) = val_main_v39 (F := Ideal) x0 x1 x2 x3 x4 (ix1 j) := by
    unfold val_main_v89
    generalize val_main_v39 (F := Ideal) x0 x1 x2 x3 x4 = a
    pointwise
  refine e.trans ((Norm.sum_of_one reducesTo_S1x1x1024_S1024_d0_1 _ _ _ (ix1 j) (ix3 0 0 j) fun k => ?_).trans ?_)
  · constructor
    · refine fun e => funext fun a => Fin.ext ?_
      match a with
      | ⟨0, _⟩ => exact (Nat.lt_one_iff.1 (k 0).isLt).symm
      | ⟨1, _⟩ => exact (Nat.lt_one_iff.1 (k 1).isLt).symm
      | ⟨2, _⟩ => exact (congrArg Fin.val (congrFun e 0)).symm
    · rintro rfl
      funext b
      fin_cases b
      rfl
  · unfold val_main_cst_6 val_main_v36 val_main_v35 val_main_v34 val_main_v12 val_main_v11 val_main_cst_5 through
    generalize val_main_v7 (F := Ideal) x0 = b, val_main_v33 (F := Ideal) x0 x1 x2 x3 x4 = u
    pointwise [Ideal.ofBits_zero_f32]

end Cert.FfnRefIdeal.Ffn

end
-- ==== Proof.FfnEquation.lean ====
/-
  The half step's gradient: what the kernel's call leaves in its four results is what the reference's derivative computes,
  from finite hidden rows, gain, projections and cotangent.
-/
module

public import proofs.«01_k».proof.Proof.FfnHost
public import proofs.«01_k».proof.Proof.FfnKernel
public import proofs.«01_k».proof.Proof.FfnReference
public import proofs.«01_k».proof.Proof.Gen.Pre_ffn_finite
public import proofs.«01_k».proof.Proof.Finite
public import proofs.«01_k».proof.Defs

@[expose] public section

set_option maxRecDepth 16384

noncomputable section

open Idealize.ShloMosaic Idealize.ShloMosaic.TcCoe Idealize.SL.Sem

namespace Cert.FfnEquation

open Cert.FfnIdeal Cert.FfnIdeal.Gen Cert.FfnIdeal.Ffn
open Cert.FfnRefIdeal.Ffn (upRow pullRow dupRow through)

section
variable (x0 : FVec Ideal S1x8192x1024 .f32) (x1 : FVec Ideal S1024 .f32) (x2 : FVec Ideal S1024x5632 .f32)
  (x3 : FVec Ideal S2816x1024 .f32) (x4 : FVec Ideal S1x8192x1024 .f32)

/-- The factors and the down projection as the call gets them. -/
abbrev argF : FVec Ideal S8192x5632 .bf16 :=
  factors (gateHalf (normed (rows x0) (gain x1)) (wide x2)) (otherHalf (normed (rows x0) (gain x1)) (wide x2))
abbrev argD : FVec Ideal S2816x1024 .bf16 := truncf (F := Ideal) .bf16 x3 bitsLt_bf16_f32

theorem rows_eq (x : FVec Ideal S1x8192x1024 .f32) (n : Fin 8192) : at2 (rows x) n = fun j => x (ix3 0 n j) := by
  funext j
  unfold at2 rows
  pointwise

theorem gain_eq : at2 (gain x1) 0 = fun j => x1 (ix1 j) := by
  funext j
  unfold at2 gain
  pointwise

theorem factors_row (n : Fin 8192) (c : Fin 5632) : (argF x0 x1 x2 (ix2 n c) : EReal) = Swiglu.factor (upRow x0 x1 x2 n) c := by
  refine factors_at _ _ (fun n => upRow x0 x1 x2 n) (fun n k => ?_) (fun n k => ?_) n c
  · refine (gate_at _ _ _ n k).trans ?_
    change Swiglu.up (at2 (rows x0) n) (at2 (gain x1) 0) _ _ = _
    rw [rows_eq, gain_eq]
    rfl
  · refine (other_at _ _ _ n k).trans ?_
    change Swiglu.up (at2 (rows x0) n) (at2 (gain x1) 0) _ _ = _
    rw [rows_eq, gain_eq]
    rfl

variable (h0 : ∀ i, ∃ r : ℝ, x0 i = r) (h1 : ∀ i, ∃ r : ℝ, x1 i = r) (h2 : ∀ i, ∃ r : ℝ, x2 i = r)
  (h3 : ∀ i, ∃ r : ℝ, x3 i = r) (h4 : ∀ i, ∃ r : ℝ, x4 i = r)

include h3 h4 in
theorem pull_real (n : Fin 8192) (k : Fin 2816) : ∃ r : ℝ, pullRow x3 x4 n k = r := by
  choose W hW using h3
  choose D hD using h4
  unfold pullRow Swiglu.pull
  exact ⟨_, Norm.sum_real (F := fun i => 0.5 * D (ix3 0 n i) * W (ix2 k i)) fun i => by
    dsimp only
    rw [hW, hD, Swiglu.bits_half, EReal.coe_mul, EReal.coe_mul]⟩

include h0 h1 h2 in
theorem up_real (n : Fin 8192) (c : Fin 5632) : ∃ r : ℝ, upRow x0 x1 x2 n c = r := by
  choose X hX using h0
  choose G hG using h1
  choose W hW using h2
  unfold upRow Swiglu.up
  simp only [hX, hG, hW]
  obtain ⟨s, -, -, hs, -, -⟩ := Norm.rs_real fun j => X (ix3 0 n j)
  rw [hs]
  exact ⟨_, Norm.sum_real (F := fun i => X (ix3 0 n i) * s * G (ix1 i) * W (ix2 i c)) fun i => by
    rw [EReal.coe_mul, EReal.coe_mul, EReal.coe_mul]⟩

include h0 h1 h2 h3 h4 in
/-- The kernel's cotangent of the up projection is the reference's, and it is a real number. -/
theorem dup_eq (n : Fin 8192) : dup (at2 (rows x4)) (at2 (argF x0 x1 x2)) (at2 (argD x3)) n = dupRow x0 x1 x2 x3 x4 n := by
  funext c
  change Swiglu.pull (at2 (rows x4) n) (fun k i => x3 (ix2 k i)) (Swiglu.low c) * (argF x0 x1 x2 (ix2 n c) : EReal) = _
  rw [rows_eq, factors_row]
  change pullRow x3 x4 n (Swiglu.low c) * _ = _
  unfold dupRow
  have hp := pull_real x3 x4 h3 h4 n
  have hu := up_real x0 x1 x2 h0 h1 h2 n
  generalize pullRow x3 x4 n = p at hp ⊢
  generalize upRow x0 x1 x2 n = u at hu ⊢
  choose P hP using hp
  choose U hU using hu
  obtain rfl : p = fun j => (P j : EReal) := funext hP
  obtain rfl : u = fun j => (U j : EReal) := funext hU
  exact Swiglu.factor_eq P U c

include h0 h1 h2 h3 h4 in
theorem dup_real (n : Fin 8192) (c : Fin 5632) : ∃ r : ℝ, dupRow x0 x1 x2 x3 x4 n c = r := by
  unfold dupRow
  have hp := pull_real x3 x4 h3 h4 n
  have hu := up_real x0 x1 x2 h0 h1 h2 n
  generalize pullRow x3 x4 n = p at hp ⊢
  generalize upRow x0 x1 x2 n = u at hu ⊢
  choose P hP using hp
  choose U hU using hu
  obtain rfl : p = fun j => (P j : EReal) := funext hP
  obtain rfl : u = fun j => (U j : EReal) := funext hU
  exact Swiglu.pulled_real P U c

include h0 h1 h2 h3 h4 in
theorem dn_eq (n : Fin 8192) : dn (at2 (rows x4)) (at2 (argF x0 x1 x2)) (at2 (argD x3)) (at2 (wide x2)) n = through x0 x1 x2 x3 x4 n := by
  funext j
  unfold dn
  rw [dup_eq x0 x1 x2 x3 x4 h0 h1 h2 h3 h4 n, Cert.FfnRefIdeal.Ffn.through_at]
  rfl

include h0 h1 h2 h3 h4 in
theorem through_real (n : Fin 8192) (j : Fin 1024) : ∃ r : ℝ, through x0 x1 x2 x3 x4 n j = r := by
  have hd := dup_real x0 x1 x2 x3 x4 h0 h1 h2 h3 h4 n
  choose D hD using hd
  choose W hW using h2
  rw [Cert.FfnRefIdeal.Ffn.through_at]
  exact ⟨_, Norm.sum_real (F := fun c => D c * W (ix2 j c)) fun c => by rw [hD, hW, EReal.coe_mul]⟩

include h0 h1 h2 h3 h4 in
/-- The gradient of the hidden rows. -/
theorem dh_eq : Cert.FfnRefIdeal.Read.val_main_v84 (F := Ideal) x0 x1 x2 x3 x4
    = dhBlock (rows x4) (rows x0) (argF x0 x1 x2) (gain x1) (wide x2) (argD x3) := by
  funext y
  obtain ⟨n, j, rfl⟩ : ∃ n j, y = ix2 n j := ⟨y 0, y 1, eq_ix2 y⟩
  refine (Cert.FfnRefIdeal.Ffn.dh_at x0 x1 x2 x3 x4 n j).trans ?_
  change _ = at2 (rows x4) n j + Norm.back (at2 (rows x0) n) (at2 (gain x1) 0)
    (dn (at2 (rows x4)) (at2 (argF x0 x1 x2)) (at2 (argD x3)) (at2 (wide x2)) n) j
  rw [dn_eq x0 x1 x2 x3 x4 h0 h1 h2 h3 h4, rows_eq, rows_eq, gain_eq]
  have hu := through_real x0 x1 x2 x3 x4 h0 h1 h2 h3 h4 n
  generalize through x0 x1 x2 x3 x4 n = u at hu ⊢
  choose X hX using h0
  choose G hG using h1
  choose U hU using hu
  obtain rfl : u = fun j => (U j : EReal) := funext hU
  simp only [hX, hG]
  exact (Norm.back_eq (fun j => X (ix3 0 n j)) (fun j => G (ix1 j)) U (x4 (ix3 0 n j)) j).symm

include h0 h1 h2 h3 h4 in
/-- The cotangent of the up projection. -/
theorem dup_all_eq : Cert.FfnRefIdeal.Read.val_main_v86 (F := Ideal) x0 x1 x2 x3 x4 = dupBlock (rows x4) (argF x0 x1 x2) (argD x3) := by
  funext y
  obtain ⟨n, c, rfl⟩ : ∃ n c, y = ix2 n c := ⟨y 0, y 1, eq_ix2 y⟩
  exact (Cert.FfnRefIdeal.Ffn.dup_at' x0 x1 x2 x3 x4 n c).trans (congrFun (dup_eq x0 x1 x2 x3 x4 h0 h1 h2 h3 h4 n) c).symm

/-- The normalized rows. -/
theorem n_eq : Cert.FfnRefIdeal.Read.val_main_v88 (F := Ideal) x0 x1 = nBlock (rows x0) (gain x1) := by
  funext y
  obtain ⟨n, j, rfl⟩ : ∃ n j, y = ix2 n j := ⟨y 0, y 1, eq_ix2 y⟩
  refine (Cert.FfnRefIdeal.Ffn.n_at x0 x1 n j).trans ?_
  change _ = at2 (rows x0) n j * Norm.rs (at2 (rows x0) n) * at2 (gain x1) 0 j
  rw [rows_eq, gain_eq]

include h0 h1 h2 h3 h4 in
/-- The gradient of the gain. -/
theorem dg_eq : Cert.FfnRefIdeal.Read.val_main_v89 (F := Ideal) x0 x1 x2 x3 x4
    = dgBlock (rows x4) (rows x0) (argF x0 x1 x2) (wide x2) (argD x3) := by
  funext y
  obtain ⟨r, j, rfl⟩ : ∃ r j, y = ix2 r j := ⟨y 0, y 1, eq_ix2 y⟩
  obtain rfl : r = 0 := Subsingleton.elim _ _
  refine (Cert.FfnRefIdeal.Ffn.dg_at x0 x1 x2 x3 x4 j).trans (Finset.sum_congr rfl fun n _ => ?_)
  rw [dn_eq x0 x1 x2 x3 x4 h0 h1 h2 h3 h4, rows_eq]
  exact mul_comm _ _
end

/-- The reference leaves its arguments alone, and it declares no semaphore. -/
theorem reference_frame : Cert.quiescent_FfnRefIdeal (hFfnRefIdeal := Cert.FfnRefIdeal.Gen.facts) :=
  fun m ρ _ => (θ_run Cert.FfnRefIdeal.defs _ _).mono
    (fun r h => ⟨fun c => (h c).2.2.2.2, Idealize.ShloMosaic.sem_eq_zero_of_no_sems (by decide) r.2⟩)
    (Cert.FfnRefIdeal.Value.run (F := Ideal) m ρ)

/-- The kernel and the reference compute the same four arrays. -/
theorem ffn_algebraic : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m g m' g' hpre hargs
  refine ⟨fun c => (dats m 0 c).arrAt 6 cfg0.N, fun c => (dats m 0 c).arrAt 7 cfg0.N, fun c => (dats m 0 c).arrAt 8 cfg0.N,
    fun c => (dats m 0 c).arrAt 9 cfg0.N, Cert.FfnIdeal.Value.run_blocks (F := Ideal) m g, ?_⟩
  refine (θ_run (Cert.FfnRefIdeal.defs (F := Ideal)) _ _).mono (fun r h c => ?_) (Cert.FfnRefIdeal.Value.run (F := Ideal) m' g')
  obtain ⟨hh, hu, hn, hg, kept⟩ := h c
  have e := congrFun (hpre c) fun i => i.elim0
  dsimp only [Cert.Pre_ffn_finite.fn, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨a0, a1, a2, a3, a4⟩ := hargs c
  have r0 := Finite.real_of_all _ _ _ _ _ _ _ e0
  have r1 := Finite.real_of_all _ _ _ _ _ _ _ e1
  have r2 := Finite.real_of_all _ _ _ _ _ _ _ e2
  have r3 := Finite.real_of_all _ _ _ _ _ _ _ e3
  have r4 := Finite.real_of_all _ _ _ _ _ _ _ e4
  refine ⟨Eq.trans (hh.trans ?_) (final6 m c).symm, Eq.trans (hu.trans ?_) (final7 m c).symm, Eq.trans (hn.trans ?_) (final8 m c).symm,
    Eq.trans (hg.trans ?_) (final9 m c).symm, kept⟩
  · rw [Cert.FfnRefIdeal.Read.val_main_v84_eq, a0, a1, a2, a3, a4, host_ct, host_h, host_factors, host_gain, host_up, host_down]
    exact dh_eq _ _ _ _ _ r0 r1 r2 r3 r4
  · rw [Cert.FfnRefIdeal.Read.val_main_v86_eq, a0, a1, a2, a3, a4, host_ct, host_factors, host_down]
    exact dup_all_eq _ _ _ _ _ r0 r1 r2 r3 r4
  · rw [Cert.FfnRefIdeal.Read.val_main_v88_eq, a0, a1, host_h, host_gain]
    exact n_eq _ _
  · rw [Cert.FfnRefIdeal.Read.val_main_v89_eq, a0, a1, a2, a3, a4, host_ct, host_h, host_factors, host_up, host_down]
    exact dg_eq _ _ _ _ _ r0 r1 r2 r3 r4

end Cert.FfnEquation

end
-- ==== Proof.LossSpec.lean ====
/-
  The entries of the last half step with the loss behind it, over the extended reals: the gate's product, the rows the half
  step leaves, their error against the target, and the error's part in the loss and in the cotangent.
-/
module

public import proofs.«01_k».proof.Proof.SwigluSpec

@[expose] public section

set_option maxRecDepth 16384

noncomputable section

open Idealize.ShloMosaic

namespace HalfLoss

/-- The gate's product at a column, the logistic function by the hyperbolic tangent. -/
def hid (u : Fin 5632 → EReal) (k : Fin 2816) : EReal :=
  u ⟨k.val, by omega⟩ * Swiglu.byTanh (u ⟨k.val, by omega⟩) * u ⟨2816 + k.val, by omega⟩

/-- The row the half step leaves. -/
def out (x : Fin 1024 → EReal) (p : Fin 2816 → EReal) (w : Fin 2816 → Fin 1024 → EReal) (j : Fin 1024) : EReal :=
  x j + Ideal.ofBits .f32 0x3F000000#32 * ∑ k, p k * w k j

/-- The normalized row's error against the target. -/
def err (o g t : Fin 1024 → EReal) (j : Fin 1024) : EReal := o j * Norm.rs o * g j - t j

/-- A row's mean squared error. -/
def mse (o g t : Fin 1024 → EReal) : EReal :=
  Ideal.div (∑ j, err o g t j * err o g t j) (Ideal.ofBits .f32 0x44800000#32)

/-- The error's cotangent as the kernel has it: the error over the row's length. -/
def dy (o g t : Fin 1024 → EReal) (j : Fin 1024) : EReal := err o g t j * Ideal.ofBits .f32 0x3A800000#32

/-- The error's cotangent as the derivative of half the mean square comes out. -/
def pulled (o g t : Fin 1024 → EReal) (j : Fin 1024) : EReal :=
  Ideal.div (Ideal.ofBits .f32 0x3F000000#32 * Ideal.ofBits .f32 0x3F800000#32) (Ideal.ofBits .f32 0x44800000#32)
    * (Ideal.ofBits .f32 0x40000000#32 * err o g t j)

theorem bits_two : Ideal.ofBits .f32 0x40000000#32 = ((2 : ℝ) : EReal) := by
  simp [Ideal.ofBits, Ideal.ieee, -EReal.coe_mul]; norm_num
theorem bits_1024th : Ideal.ofBits .f32 0x3A800000#32 = ((1 / 1024 : ℝ) : EReal) := by
  simp [Ideal.ofBits, Ideal.ieee, -EReal.coe_mul]; norm_num

variable (O G T : Fin 1024 → ℝ)

/-- Of real rows the error is real. -/
theorem err_real (j : Fin 1024) : ∃ e : ℝ, err (fun j => (O j : EReal)) (fun j => (G j : EReal)) (fun j => (T j : EReal)) j = e := by
  obtain ⟨r, -, -, hr, -, -⟩ := Norm.rs_real O
  unfold err
  rw [hr]
  exact ⟨O j * r * G j - T j, by rw [EReal.coe_sub, EReal.coe_mul, EReal.coe_mul]⟩

theorem mse_real : ∃ e : ℝ, mse (fun j => (O j : EReal)) (fun j => (G j : EReal)) (fun j => (T j : EReal)) = e := by
  have h := err_real O G T
  choose E hE using h
  unfold mse
  rw [Norm.sum_real (F := fun j => E j * E j) fun j => by rw [hE, EReal.coe_mul], Norm.bits_1024, Ideal.div_coe (y := 1024) (by norm_num)]
  exact ⟨_, (EReal.coe_mul _ _).symm⟩

/-- The two cotangents are one real number. -/
theorem dy_eq (j : Fin 1024) : ∃ e : ℝ, dy (fun j => (O j : EReal)) (fun j => (G j : EReal)) (fun j => (T j : EReal)) j = e
    ∧ pulled (fun j => (O j : EReal)) (fun j => (G j : EReal)) (fun j => (T j : EReal)) j = e := by
  obtain ⟨e, he⟩ := err_real O G T j
  unfold dy pulled
  rw [he, bits_1024th, Swiglu.bits_half, Swiglu.bits_one, bits_two, Norm.bits_1024, ← EReal.coe_mul (0.5 : ℝ), Ideal.div_coe (y := 1024) (by norm_num)]
  refine ⟨e * (1 / 1024), (EReal.coe_mul _ _).symm, ?_⟩
  simp only [← EReal.coe_mul]
  congr 1
  ring

/-- Of real columns the gate's product is real, and the exponential gives the same one. -/
theorem hid_real (U : Fin 5632 → ℝ) (k : Fin 2816) : ∃ e : ℝ, hid (fun c => (U c : EReal)) k = e
    ∧ (U ⟨k.val, by omega⟩ : EReal) * Swiglu.byExp (U ⟨k.val, by omega⟩ : EReal) * (U ⟨2816 + k.val, by omega⟩ : EReal) = e := by
  obtain ⟨s, h1, h2⟩ := Swiglu.logistic_real (U ⟨k.val, by omega⟩)
  unfold hid
  rw [h1, h2]
  exact ⟨U ⟨k.val, by omega⟩ * s * U ⟨2816 + k.val, by omega⟩, by rw [EReal.coe_mul, EReal.coe_mul], by rw [EReal.coe_mul, EReal.coe_mul]⟩

theorem out_real (X : Fin 1024 → ℝ) (P : Fin 2816 → ℝ) (W : Fin 2816 → Fin 1024 → ℝ) (j : Fin 1024) :
    ∃ e : ℝ, out (fun j => (X j : EReal)) (fun k => (P k : EReal)) (fun k j => (W k j : EReal)) j = e := by
  unfold out
  rw [Norm.sum_real (F := fun k => P k * W k j) fun k => (EReal.coe_mul _ _).symm, Swiglu.bits_half]
  exact ⟨X j + 0.5 * ∑ k, P k * W k j, by rw [EReal.coe_add, EReal.coe_mul]⟩

/-- Half a sum of real numbers is the sum of the halves. -/
theorem half_sum {n : ℕ} (F : Fin n → ℝ) : (Ideal.ofBits .f32 0x3F000000#32) * ∑ i, (F i : EReal) = ((0.5 * ∑ i, F i : ℝ) : EReal) := by
  rw [Norm.sum_real (F := F) fun i => rfl, Swiglu.bits_half, EReal.coe_mul]

end HalfLoss

end
-- ==== Proof.LossHost.lean ====
/-
  The arrays that the last half step's call gets, from the program's arguments.
-/
module

public import proofs.«01_k».proof.Proof.LossSpec
public import proofs.«01_k».proof.Proof.Gen.LossIdeal.Value

@[expose] public section

set_option maxRecDepth 16384

noncomputable section

open Idealize.ShloMosaic Idealize.ShloMosaic.TcCoe Idealize.SL.Sem

namespace Cert.LossIdeal.Loss

open Cert.LossIdeal Cert.LossIdeal.Gen Cert.LossIdeal.Value

variable (m : (ℓ : Loc nD τ sig) → Buf (Elt Ideal) ℓ)

abbrev rows (x : FVec Ideal S1x8192x1024 .f32) : FVec Ideal S8192x1024 .f32 := shapeCast S8192x1024 x shapeCasts_S1x8192x1024_S8192x1024
abbrev gain (x : FVec Ideal S1024 .f32) : FVec Ideal S1x1024 .f32 := shapeCast S1x1024 x shapeCasts_S1024_S1x1024

theorem host_h (c : Dev nD) : V m c main_v0 = rows (m ((c : Thread nD τ).loc main_arg0)) := by
  entry_read
  all_goals rfl

theorem host_gain (c : Dev nD) : V m c main_v1 = gain (m ((c : Thread nD τ).loc main_arg1)) := by
  entry_read
  all_goals rfl

theorem host_up (c : Dev nD) : V m c main_v2 = truncf (F := Ideal) .bf16 (m ((c : Thread nD τ).loc main_arg2)) bitsLt_bf16_f32 := by
  entry_read
  all_goals rfl

theorem host_down (c : Dev nD) : V m c main_v3 = truncf (F := Ideal) .bf16 (m ((c : Thread nD τ).loc main_arg3)) bitsLt_bf16_f32 := by
  entry_read
  all_goals rfl

theorem host_target (c : Dev nD) : V m c main_v4 = rows (m ((c : Thread nD τ).loc main_arg4)) := by
  entry_read
  all_goals rfl

theorem host_final_gain (c : Dev nD) : V m c main_v5 = gain (m ((c : Thread nD τ).loc main_arg5)) := by
  entry_read
  all_goals rfl

end Cert.LossIdeal.Loss

end
-- ==== Proof.LossKernel.lean ====
/-
  The last half step with the loss behind it, as the kernel's grid computes it: what a block of rows leaves in the cotangent,
  in the factors of the gate's derivative and in the gate's product, and what the points add up in the loss and in the gain's
  gradient.
-/
module

public import proofs.«01_k».proof.Proof.LossSpec
public import proofs.«01_k».proof.Proof.Gen.LossIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossIdeal.Loss

open Cert.LossIdeal Cert.LossIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- A block's rows as functions. -/
abbrev at2 {a b : ℕ} (x : (⟨2, ![a, b]⟩ : Shape).Idx → EReal) : Fin a → Fin b → EReal := fun r j => x (ix2 r j)

/-- A row's up projection. -/
abbrev upRow {n : ℕ} (x0 : FVec Ideal ⟨2, ![n, 1024]⟩ .f32) (x1 : FVec Ideal S1x1024 .f32) (x2 : FVec Ideal S1024x5632 .bf16) (r : Fin n) : Fin 5632 → EReal :=
  Swiglu.up (at2 x0 r) (at2 x1 0) (at2 x2)

/-- What a point leaves in a block of the gate's product. -/
def hidBlock {n : ℕ} (x0 : FVec Ideal ⟨2, ![n, 1024]⟩ .f32) (x1 : FVec Ideal S1x1024 .f32) (x2 : FVec Ideal S1024x5632 .bf16) :
    FVec Ideal ⟨2, ![n, 2816]⟩ .bf16 := fun y => HalfLoss.hid (upRow x0 x1 x2 (y 0)) (y 1)

/-- What a point leaves in a block of the factors. -/
def abBlock {n : ℕ} (x0 : FVec Ideal ⟨2, ![n, 1024]⟩ .f32) (x1 : FVec Ideal S1x1024 .f32) (x2 : FVec Ideal S1024x5632 .bf16) :
    FVec Ideal ⟨2, ![n, 5632]⟩ .bf16 := fun y => Swiglu.factor (upRow x0 x1 x2 (y 0)) (y 1)

/-- A row that the half step leaves, from the gate's product. -/
abbrev outRow {n : ℕ} (x0 : FVec Ideal ⟨2, ![n, 1024]⟩ .f32) (H : FVec Ideal ⟨2, ![n, 2816]⟩ .bf16) (x3 : FVec Ideal S2816x1024 .bf16) (r : Fin n) : Fin 1024 → EReal :=
  HalfLoss.out (at2 x0 r) (at2 H r) (at2 x3)

/-- What a point leaves in a block of the rows' cotangent. -/
def doutBlock {n : ℕ} (x0 : FVec Ideal ⟨2, ![n, 1024]⟩ .f32) (H : FVec Ideal ⟨2, ![n, 2816]⟩ .bf16) (x3 : FVec Ideal S2816x1024 .bf16)
    (x4 : FVec Ideal ⟨2, ![n, 1024]⟩ .f32) (x5 : FVec Ideal S1x1024 .f32) : FVec Ideal ⟨2, ![n, 1024]⟩ .f32 := fun y =>
  Norm.back (outRow x0 H x3 (y 0)) (at2 x5 0) (HalfLoss.dy (outRow x0 H x3 (y 0)) (at2 x5 0) (at2 x4 (y 0))) (y 1)

/-- What a block of rows adds to the loss. -/
def lossPart {n : ℕ} (x0 : FVec Ideal ⟨2, ![n, 1024]⟩ .f32) (H : FVec Ideal ⟨2, ![n, 2816]⟩ .bf16) (x3 : FVec Ideal S2816x1024 .bf16)
    (x4 : FVec Ideal ⟨2, ![n, 1024]⟩ .f32) (x5 : FVec Ideal S1x1024 .f32) : EReal :=
  Ideal.ofBits .f32 0x3F000000#32 * ∑ r : Fin n, HalfLoss.mse (outRow x0 H x3 r) (at2 x5 0) (at2 x4 r)

/-- What a block of rows adds to the gain's gradient. -/
def dgBlock {n : ℕ} (x0 : FVec Ideal ⟨2, ![n, 1024]⟩ .f32) (H : FVec Ideal ⟨2, ![n, 2816]⟩ .bf16) (x3 : FVec Ideal S2816x1024 .bf16)
    (x4 : FVec Ideal ⟨2, ![n, 1024]⟩ .f32) (x5 : FVec Ideal S1x1024 .f32) : FVec Ideal S1x1024 .f32 := fun y =>
  ∑ r : Fin n, HalfLoss.dy (outRow x0 H x3 r) (at2 x5 0) (at2 x4 r) (y 1) * (outRow x0 H x3 r (y 1) * Norm.rs (outRow x0 H x3 r))

section
variable {Val : EltTy → Type} [∀ e, Nonempty (Val e)] {s : Shape} {e : EltTy}

/-- Stored pieces of one function that cover the shape are that function, and a load finds it in every box. -/
theorem stored {sig : RefSig} {κ : Kind} {sp : Space} (v : View sig κ sp s e) {L : List (View.Piece Val s e)} {G : s.Idx → Val e} {Q : Prop}
    (h : View.PiecesOf G L) (hc : ∀ y, ∃ p ∈ L, y ∈ p.1.set)
    (k : (∀ (B : Rect s), v.readCov L B.toLoadRect = View.ld G B) → Q) : (∀ y, View.canon L y = G y) ∧ Q := by
  have e : ∀ y, View.canon L y = G y := fun y => by simpa using View.canon_append_of_piecesOf G [] L h y (hc y)
  refine ⟨e, k fun B => ?_⟩
  rw [View.readCov_eq_canon']
  exact funext fun y => e _
end

/-- The block's entry at a place of one of its tiles. -/
theorem hid_tile (b0 : FVec Ideal S512x1024 .f32) (b1 : FVec Ideal S1x1024 .f32) (b2 : FVec Ideal S1024x5632 .bf16) (o : ℕ)
    (inb : ∀ a, (![0, o] : Fin 2 → ℕ) a + (![512, 256] : Fin 2 → ℕ) a ≤ S512x2816.size a) (r : Fin 512) (j : Fin 256)
    (h : o + 256 ≤ 2816) :
    hidBlock b0 b1 b2 ((Rect.unit (s := S512x2816) ![0, o] ![512, 256] inb).emb (ix2 r j))
      = upRow b0 b1 b2 r ⟨o + j.val, by omega⟩ * Swiglu.byTanh (upRow b0 b1 b2 r ⟨o + j.val, by omega⟩)
        * upRow b0 b1 b2 r ⟨(2816 + o) + j.val, by omega⟩ := by
  have e0 : (Rect.unit (s := S512x2816) ![0, o] ![512, 256] inb).emb (ix2 r j) 0 = r := Fin.ext (by show 0 + 1 * r.val = r.val; omega)
  have e1 : ((Rect.unit (s := S512x2816) ![0, o] ![512, 256] inb).emb (ix2 r j) 1).val = o + j.val := by show o + 1 * j.val = o + j.val; omega
  unfold hidBlock HalfLoss.hid
  rw [e0]
  simp only [e1, ← Nat.add_assoc]

set_option maxHeartbeats 20000000 in
theorem pointB (c : Dev nD) (t : Fin cfg0.N) (hc : ¬t.val % 16 = 0) :
    (∀ y, (outsAt0 m c t.val t.isLt).2.2.1 y = hidBlock (iblk m c 0 t) (iblk m c 1 t) (iblk m c 2 t) y)
    ∧ (∀ y, (outsAt0 m c t.val t.isLt).1 y = doutBlock (iblk m c 0 t) (hidBlock (iblk m c 0 t) (iblk m c 1 t) (iblk m c 2 t)) (iblk m c 3 t) (iblk m c 4 t) (iblk m c 5 t) y)
    ∧ (∀ y, (outsAt0 m c t.val t.isLt).2.2.2.1 y = (outsAt0 m c (t.val - 1) (Nat.lt_of_le_of_lt (Nat.sub_le _ _) t.isLt)).2.2.2.1 y
      + lossPart (iblk m c 0 t) (hidBlock (iblk m c 0 t) (iblk m c 1 t) (iblk m c 2 t)) (iblk m c 3 t) (iblk m c 4 t) (iblk m c 5 t))
    ∧ ∀ y, (outsAt0 m c t.val t.isLt).2.2.2.2 y = (outsAt0 m c (t.val - 1) (Nat.lt_of_le_of_lt (Nat.sub_le _ _) t.isLt)).2.2.2.2 y
      + dgBlock (iblk m c 0 t) (hidBlock (iblk m c 0 t) (iblk m c 1 t) (iblk m c 2 t)) (iblk m c 3 t) (iblk m c 4 t) (iblk m c 5 t) y := by
  rw [outsAt0_B m c t hc]
  frame_out
  generalize outsAt0 m c (t.val - 1) (Nat.lt_of_le_of_lt (Nat.sub_le _ _) t.isLt) = o
  generalize iblk m c 0 t = b0, iblk m c 1 t = b1, iblk m c 2 t = b2, iblk m c 3 t = b3, iblk m c 4 t = b4, iblk m c 5 t = b5
  refine stored (Val := Elt Ideal) (s := S512x2816) (e := .bf16) (G := hidBlock b0 b1 b2) (ms0_8 t).view ?_ ?_ fun hr => ?_
  · repeat' (refine And.intro (fun x => ?_) ?_)
    any_goals exact trivial
    all_goals
      obtain ⟨r, j, rfl⟩ : ∃ r j, x = ix2 r j := ⟨x 0, x 1, eq_ix2 x⟩
      dsimp only
      rw [hid_tile b0 b1 b2 _ _ _ _ (by decide)]
      open_payloads
      unfold upRow Swiglu.byTanh Swiglu.up Norm.rs at2
      try dsimp only [Nat.reduceAdd]
      pointwise
  · exact View.cover_of_tiledL _ ![512, 256] (by sl_kernel_rfl)
  · rw [hr]
    generalize hidBlock b0 b1 b2 = H
    refine ⟨fun y => ?_, fun y => ?_, fun y => ?_⟩
    · obtain ⟨r, j, rfl⟩ : ∃ r j, y = ix2 r j := ⟨y 0, y 1, eq_ix2 y⟩
      open_payloads
      unfold doutBlock Norm.back HalfLoss.dy HalfLoss.err Norm.rs outRow HalfLoss.out at2
      pointwise
    · obtain ⟨r, j, rfl⟩ : ∃ r j, y = ix2 r j := ⟨y 0, y 1, eq_ix2 y⟩
      open_payloads
      unfold lossPart HalfLoss.mse HalfLoss.err Norm.rs outRow HalfLoss.out at2
      pointwise
    · obtain ⟨r, j, rfl⟩ : ∃ r j, y = ix2 r j := ⟨y 0, y 1, eq_ix2 y⟩
      open_payloads
      unfold dgBlock HalfLoss.dy HalfLoss.err Norm.rs outRow HalfLoss.out at2
      pointwise

set_option maxHeartbeats 20000000 in
theorem pointA (c : Dev nD) (t : Fin cfg0.N) (hc : t.val % 16 = 0) :
    (∀ y, (outsAt0 m c t.val t.isLt).2.2.1 y = hidBlock (iblk m c 0 t) (iblk m c 1 t) (iblk m c 2 t) y)
    ∧ (∀ y, (outsAt0 m c t.val t.isLt).1 y = doutBlock (iblk m c 0 t) (hidBlock (iblk m c 0 t) (iblk m c 1 t) (iblk m c 2 t)) (iblk m c 3 t) (iblk m c 4 t) (iblk m c 5 t) y)
    ∧ (∀ y, (outsAt0 m c t.val t.isLt).2.2.2.1 y = 0
      + lossPart (iblk m c 0 t) (hidBlock (iblk m c 0 t) (iblk m c 1 t) (iblk m c 2 t)) (iblk m c 3 t) (iblk m c 4 t) (iblk m c 5 t))
    ∧ ∀ y, (outsAt0 m c t.val t.isLt).2.2.2.2 y = 0
      + dgBlock (iblk m c 0 t) (hidBlock (iblk m c 0 t) (iblk m c 1 t) (iblk m c 2 t)) (iblk m c 3 t) (iblk m c 4 t) (iblk m c 5 t) y := by
  rw [outsAt0_A m c t hc]
  frame_open
  simp (disch := decide) only [↓ View.readCov_skip, ↓ View.readCov_cons_toLoadRect, ↓ View.readCov_fill]
  frame_out
  generalize iblk m c 0 t = b0, iblk m c 1 t = b1, iblk m c 2 t = b2, iblk m c 3 t = b3, iblk m c 4 t = b4, iblk m c 5 t = b5
  refine stored (Val := Elt Ideal) (s := S512x2816) (e := .bf16) (G := hidBlock b0 b1 b2) (ms0_8 t).view ?_ ?_ fun hr => ?_
  · repeat' (refine And.intro (fun x => ?_) ?_)
    any_goals exact trivial
    all_goals
      obtain ⟨r, j, rfl⟩ : ∃ r j, x = ix2 r j := ⟨x 0, x 1, eq_ix2 x⟩
      dsimp only
      rw [hid_tile b0 b1 b2 _ _ _ _ (by decide)]
      open_payloads
      unfold upRow Swiglu.byTanh Swiglu.up Norm.rs at2
      try dsimp only [Nat.reduceAdd]
      pointwise
  · exact View.cover_of_tiledL _ ![512, 256] (by sl_kernel_rfl)
  · rw [hr]
    generalize hidBlock b0 b1 b2 = H
    refine ⟨fun y => ?_, fun y => ?_, fun y => ?_⟩
    · obtain ⟨r, j, rfl⟩ : ∃ r j, y = ix2 r j := ⟨y 0, y 1, eq_ix2 y⟩
      open_payloads
      unfold doutBlock Norm.back HalfLoss.dy HalfLoss.err Norm.rs outRow HalfLoss.out at2
      pointwise
    · obtain ⟨r, j, rfl⟩ : ∃ r j, y = ix2 r j := ⟨y 0, y 1, eq_ix2 y⟩
      open_payloads
      unfold lossPart HalfLoss.mse HalfLoss.err Norm.rs outRow HalfLoss.out at2
      pointwise [Ideal.ofBits_zero_f32]
    · obtain ⟨r, j, rfl⟩ : ∃ r j, y = ix2 r j := ⟨y 0, y 1, eq_ix2 y⟩
      open_payloads
      unfold dgBlock HalfLoss.dy HalfLoss.err Norm.rs outRow HalfLoss.out at2
      pointwise [Ideal.ofBits_zero_f32]

/-- An entry of the factors at a place of a tile of the first half. -/
theorem ab_low (b0 : FVec Ideal S512x1024 .f32) (b1 : FVec Ideal S1x1024 .f32) (b2 : FVec Ideal S1024x5632 .bf16) (o : ℕ)
    (inb : ∀ a, (![0, o] : Fin 2 → ℕ) a + (![512, 256] : Fin 2 → ℕ) a ≤ S512x5632.size a) (r : Fin 512) (j : Fin 256)
    (h : o + 256 ≤ 2816) (a b : EReal) (ha : upRow b0 b1 b2 r ⟨o + j.val, by omega⟩ = a)
    (hb : upRow b0 b1 b2 r ⟨(2816 + o) + j.val, by omega⟩ = b) :
    abBlock b0 b1 b2 ((Rect.unit (s := S512x5632) ![0, o] ![512, 256] inb).emb (ix2 r j))
      = b * (Swiglu.byTanh a + a * Swiglu.byTanh a * (Ideal.ofBits .f32 0x3F800000#32 - Swiglu.byTanh a)) := by
  subst ha hb
  have e0 : (Rect.unit (s := S512x5632) ![0, o] ![512, 256] inb).emb (ix2 r j) 0 = r := Fin.ext (by show 0 + 1 * r.val = r.val; omega)
  have e1 : ((Rect.unit (s := S512x5632) ![0, o] ![512, 256] inb).emb (ix2 r j) 1).val = o + j.val := by show o + 1 * j.val = o + j.val; omega
  unfold abBlock Swiglu.factor
  rw [dif_pos (by rw [e1]; omega), e0]
  simp only [e1, ← Nat.add_assoc]

/-- And of a tile of the second half. -/
theorem ab_high (b0 : FVec Ideal S512x1024 .f32) (b1 : FVec Ideal S1x1024 .f32) (b2 : FVec Ideal S1024x5632 .bf16) (o : ℕ)
    (inb : ∀ a, (![0, o] : Fin 2 → ℕ) a + (![512, 256] : Fin 2 → ℕ) a ≤ S512x5632.size a) (r : Fin 512) (j : Fin 256)
    (h : 2816 ≤ o ∧ o + 256 ≤ 5632) (a : EReal) (ha : upRow b0 b1 b2 r ⟨(o - 2816) + j.val, by omega⟩ = a) :
    abBlock b0 b1 b2 ((Rect.unit (s := S512x5632) ![0, o] ![512, 256] inb).emb (ix2 r j)) = a * Swiglu.byTanh a := by
  subst ha
  have e0 : (Rect.unit (s := S512x5632) ![0, o] ![512, 256] inb).emb (ix2 r j) 0 = r := Fin.ext (by show 0 + 1 * r.val = r.val; omega)
  have e1 : ((Rect.unit (s := S512x5632) ![0, o] ![512, 256] inb).emb (ix2 r j) 1).val = o + j.val := by show o + 1 * j.val = o + j.val; omega
  have e2 : o + j.val - 2816 = (o - 2816) + j.val := by omega
  unfold abBlock Swiglu.factor
  rw [dif_neg (by rw [e1]; omega), e0]
  simp only [e1, e2]

set_option maxHeartbeats 20000000 in
theorem point7 (c : Dev nD) (t : Fin cfg0.N) : ∀ y, (outsAt0 m c t.val t.isLt).2.1 y = abBlock (iblk m c 0 t) (iblk m c 1 t) (iblk m c 2 t) y := by
  by_cases hc : t.val % 16 = 0
  · rw [outsAt0_A m c t hc]
    frame_out
    generalize iblk m c 0 t = b0, iblk m c 1 t = b1, iblk m c 2 t = b2
    refine (stored (Val := Elt Ideal) (s := S512x5632) (e := .bf16) (G := abBlock b0 b1 b2) (Q := True) (ms0_7 t).view ?_ ?_ fun _ => trivial).1
    · repeat' (refine And.intro (fun x => ?_) ?_)
      any_goals exact trivial
      all_goals
        obtain ⟨r, j, rfl⟩ : ∃ r j, x = ix2 r j := ⟨x 0, x 1, eq_ix2 x⟩
        dsimp only
        first
          | rw [ab_low b0 b1 b2 _ _ _ _ (by decide) _ _ rfl rfl]
          | rw [ab_high b0 b1 b2 _ _ _ _ (by decide) _ rfl]
        open_payloads
        unfold upRow Swiglu.byTanh Swiglu.up Norm.rs at2
        try dsimp only [Nat.reduceAdd, Nat.reduceSub]
        pointwise
    · exact View.cover_of_tiledL _ ![512, 256] (by sl_kernel_rfl)
  · rw [outsAt0_B m c t hc]
    frame_out
    generalize iblk m c 0 t = b0, iblk m c 1 t = b1, iblk m c 2 t = b2
    refine (stored (Val := Elt Ideal) (s := S512x5632) (e := .bf16) (G := abBlock b0 b1 b2) (Q := True) (ms0_7 t).view ?_ ?_ fun _ => trivial).1
    · repeat' (refine And.intro (fun x => ?_) ?_)
      any_goals exact trivial
      all_goals
        obtain ⟨r, j, rfl⟩ : ∃ r j, x = ix2 r j := ⟨x 0, x 1, eq_ix2 x⟩
        dsimp only
        first
          | rw [ab_low b0 b1 b2 _ _ _ _ (by decide) _ _ rfl rfl]
          | rw [ab_high b0 b1 b2 _ _ _ _ (by decide) _ rfl]
        open_payloads
        unfold upRow Swiglu.byTanh Swiglu.up Norm.rs at2
        try dsimp only [Nat.reduceAdd, Nat.reduceSub]
        pointwise
    · exact View.cover_of_tiledL _ ![512, 256] (by sl_kernel_rfl)

/-- The parts of a point, whether it is the first of its run or a later one. -/
theorem point8 (c : Dev nD) (t : Fin cfg0.N) (y) : (outsAt0 m c t.val t.isLt).2.2.1 y = hidBlock (iblk m c 0 t) (iblk m c 1 t) (iblk m c 2 t) y := by
  by_cases hc : t.val % 16 = 0
  · exact (pointA m c t hc).1 y
  · exact (pointB m c t hc).1 y

theorem point6 (c : Dev nD) (t : Fin cfg0.N) (y) : (outsAt0 m c t.val t.isLt).1 y
    = doutBlock (iblk m c 0 t) (hidBlock (iblk m c 0 t) (iblk m c 1 t) (iblk m c 2 t)) (iblk m c 3 t) (iblk m c 4 t) (iblk m c 5 t) y := by
  by_cases hc : t.val % 16 = 0
  · exact (pointA m c t hc).2.1 y
  · exact (pointB m c t hc).2.1 y

theorem rows0 (c : Dev nD) (t : Fin cfg0.N) (r : Fin 512) (h : t.val * 512 + r.val < 8192) :
    at2 (iblk m c 0 t : FVec Ideal S512x1024 .f32) r = at2 (V m c main_v0 : FVec Ideal S8192x1024 .f32) ⟨t.val * 512 + r.val, h⟩ := by
  have e : ∀ l, (iblk m c 0 t : FVec Ideal S512x1024 .f32) (ix2 r l) = (V m c main_v0 : FVec Ideal S8192x1024 .f32) (ix2 ⟨t.val * 512 + r.val, h⟩ l) := by
    intro l
    blk_ext [iblk, V, idx t]
  exact funext e
theorem rows4 (c : Dev nD) (t : Fin cfg0.N) (r : Fin 512) (h : t.val * 512 + r.val < 8192) :
    at2 (iblk m c 4 t : FVec Ideal S512x1024 .f32) r = at2 (V m c main_v4 : FVec Ideal S8192x1024 .f32) ⟨t.val * 512 + r.val, h⟩ := by
  have e : ∀ l, (iblk m c 4 t : FVec Ideal S512x1024 .f32) (ix2 r l) = (V m c main_v4 : FVec Ideal S8192x1024 .f32) (ix2 ⟨t.val * 512 + r.val, h⟩ l) := by
    intro l
    blk_ext [iblk, V, idx t]
  exact funext e
theorem whole1 (c : Dev nD) (t : Fin cfg0.N) : (iblk m c 1 t : FVec Ideal S1x1024 .f32) = V m c main_v1 := by
  funext j
  blk_ext [iblk, V, idx t]
theorem whole2 (c : Dev nD) (t : Fin cfg0.N) : (iblk m c 2 t : FVec Ideal S1024x5632 .bf16) = V m c main_v2 := by
  funext j
  blk_ext [iblk, V, idx t]
theorem whole3 (c : Dev nD) (t : Fin cfg0.N) : (iblk m c 3 t : FVec Ideal S2816x1024 .bf16) = V m c main_v3 := by
  funext j
  blk_ext [iblk, V, idx t]
theorem whole5 (c : Dev nD) (t : Fin cfg0.N) : (iblk m c 5 t : FVec Ideal S1x1024 .f32) = V m c main_v5 := by
  funext j
  blk_ext [iblk, V, idx t]

/-- The up projection at a point is the whole array's at the point's row. -/
theorem up_rows (c : Dev nD) (t : Fin cfg0.N) (r : Fin 512) (h : t.val * 512 + r.val < 8192) :
    upRow (iblk m c 0 t : FVec Ideal S512x1024 .f32) (iblk m c 1 t) (iblk m c 2 t) r
      = upRow (V m c main_v0 : FVec Ideal S8192x1024 .f32) (V m c main_v1) (V m c main_v2) ⟨t.val * 512 + r.val, h⟩ := by
  unfold upRow
  rw [rows0 m c t r h, whole1, whole2]

/-- The gate's product over all the rows. -/
abbrev hidAll (c : Dev nD) : FVec Ideal S8192x2816 .bf16 := hidBlock (V m c main_v0 : FVec Ideal S8192x1024 .f32) (V m c main_v1) (V m c main_v2)

theorem out_rows (c : Dev nD) (t : Fin cfg0.N) (r : Fin 512) (h : t.val * 512 + r.val < 8192) :
    outRow (iblk m c 0 t : FVec Ideal S512x1024 .f32) (hidBlock (iblk m c 0 t : FVec Ideal S512x1024 .f32) (iblk m c 1 t) (iblk m c 2 t)) (iblk m c 3 t) r
      = outRow (V m c main_v0 : FVec Ideal S8192x1024 .f32) (hidAll m c) (V m c main_v3) ⟨t.val * 512 + r.val, h⟩ := by
  have e : at2 (hidBlock (iblk m c 0 t : FVec Ideal S512x1024 .f32) (iblk m c 1 t) (iblk m c 2 t)) r = at2 (hidAll m c) ⟨t.val * 512 + r.val, h⟩ := by
    funext k
    exact congrArg (fun u => HalfLoss.hid u k) (up_rows m c t r h)
  unfold outRow
  rw [e, rows0 m c t r h, whole3]

theorem mse_rows (c : Dev nD) (t : Fin cfg0.N) (r : Fin 512) (h : t.val * 512 + r.val < 8192) :
    HalfLoss.mse (outRow (iblk m c 0 t : FVec Ideal S512x1024 .f32) (hidBlock (iblk m c 0 t : FVec Ideal S512x1024 .f32) (iblk m c 1 t) (iblk m c 2 t)) (iblk m c 3 t) r)
      (at2 (iblk m c 5 t : FVec Ideal S1x1024 .f32) 0) (at2 (iblk m c 4 t : FVec Ideal S512x1024 .f32) r)
      = HalfLoss.mse (outRow (V m c main_v0 : FVec Ideal S8192x1024 .f32) (hidAll m c) (V m c main_v3) ⟨t.val * 512 + r.val, h⟩)
        (at2 (V m c main_v5 : FVec Ideal S1x1024 .f32) 0) (at2 (V m c main_v4 : FVec Ideal S8192x1024 .f32) ⟨t.val * 512 + r.val, h⟩) := by
  rw [out_rows m c t r h, rows4 m c t r h, whole5]

/-- The loss after the call: half the rows' mean squared errors, a block's rows after another's. -/
theorem final9 (c : Dev nD) : (dats m 0 c).arrAt 9 cfg0.N = ((fun _ => ∑ t : Fin 16, Ideal.ofBits .f32 0x3F000000#32 * ∑ r : Fin 512,
    HalfLoss.mse (outRow (V m c main_v0 : FVec Ideal S8192x1024 .f32) (hidAll m c) (V m c main_v3) ⟨t.val * 512 + r.val, by omega⟩)
      (at2 (V m c main_v5 : FVec Ideal S1x1024 .f32) 0) (at2 (V m c main_v4 : FVec Ideal S8192x1024 .f32) ⟨t.val * 512 + r.val, by omega⟩)) : FVec Ideal S1x1 .f32) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _ (fun t h j => (pointA m c t h).2.2.1 j)
    (fun t h j => (pointB m c t h).2.2.1 j) (le_of_eq N_0) t0_15 rfl j, zero_add]
  refine (Finset.sum_congr rfl fun t _ => ?_ : (∑ t : Fin 16, (_ : EReal)) = ∑ t : Fin 16, (_ : EReal))
  unfold lossPart
  exact congrArg _ (Finset.sum_congr rfl fun r _ => mse_rows m c t r _)

/-- The gain's gradient after the call: the sum over all the rows. -/
theorem final10 (c : Dev nD) : (dats m 0 c).arrAt 10 cfg0.N
    = dgBlock (V m c main_v0 : FVec Ideal S8192x1024 .f32) (hidAll m c) (V m c main_v3) (V m c main_v4) (V m c main_v5) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _ (fun t h j => (pointA m c t h).2.2.2 j)
    (fun t h j => (pointB m c t h).2.2.2 j) (le_of_eq N_0) t0_15 rfl j, zero_add]
  unfold dgBlock
  refine Fin.sum_mul_add_congr fun t r hl => ?_
  rw [out_rows m c t r hl, rows4 m c t r hl, whole5]

/-- The factors after the call. -/
theorem final7 (c : Dev nD) : (dats m 0 c).arrAt 7 cfg0.N = abBlock (V m c main_v0 : FVec Ideal S8192x1024 .f32) (V m c main_v1) (V m c main_v2) := by
  refine (dats m 0 c).arrAt_eq_of_covers 7 _ (by decide +kernel) fun t hf y => ?_
  blk_simp
  rw [after0_7, point7]
  have e0 : ((win0_7.blk t).view.emb y 0).val = t.val * 512 + (y 0).val := by blk_point [idx t]
  have e1 : ((win0_7.blk t).view.emb y 1).val = (y 1).val := by blk_point [idx t]
  generalize (win0_7.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  exact congrArg (fun u => Swiglu.factor u (y 1)) (up_rows m c t (y 0) hl)

/-- The gate's product after the call. -/
theorem final8 (c : Dev nD) : (dats m 0 c).arrAt 8 cfg0.N = hidAll m c := by
  refine (dats m 0 c).arrAt_eq_of_covers 8 _ (by decide +kernel) fun t hf y => ?_
  blk_simp
  rw [after0_8, point8]
  have e0 : ((win0_8.blk t).view.emb y 0).val = t.val * 512 + (y 0).val := by blk_point [idx t]
  have e1 : ((win0_8.blk t).view.emb y 1).val = (y 1).val := by blk_point [idx t]
  generalize (win0_8.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  exact congrArg (fun u => HalfLoss.hid u (y 1)) (up_rows m c t (y 0) hl)

/-- The rows' cotangent after the call. -/
theorem final6 (c : Dev nD) : (dats m 0 c).arrAt 6 cfg0.N = doutBlock (V m c main_v0 : FVec Ideal S8192x1024 .f32) (hidAll m c) (V m c main_v3) (V m c main_v4) (V m c main_v5) := by
  refine (dats m 0 c).arrAt_eq_of_covers 6 _ (by decide +kernel) fun t hf y => ?_
  blk_simp
  rw [after0_6, point6]
  have e0 : ((win0_6.blk t).view.emb y 0).val = t.val * 512 + (y 0).val := by blk_point [idx t]
  have e1 : ((win0_6.blk t).view.emb y 1).val = (y 1).val := by blk_point [idx t]
  generalize (win0_6.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  unfold doutBlock
  rw [out_rows m c t (y 0) hl, rows4 m c t (y 0) hl, whole5]
  rfl

end Cert.LossIdeal.Loss

end
-- ==== Proof.LossReference.lean ====
/-
  The reference's last half step, its loss and the loss's derivative, entry by entry.
-/
module

public import proofs.«01_k».proof.Proof.LossSpec
public import proofs.«01_k».proof.Proof.Gen.LossRefIdeal.Read

@[expose] public section

set_option maxRecDepth 16384

noncomputable section

open Idealize.ShloMosaic Idealize.ShloMosaic.TcCoe Idealize.SL.Sem

namespace Cert.LossRefIdeal.Loss

open Cert.LossRefIdeal Cert.LossRefIdeal.Gen Cert.LossRefIdeal.Read

variable (x0 : FVec Ideal S1x8192x1024 .f32) (x1 : FVec Ideal S1024 .f32) (x2 : FVec Ideal S1024x5632 .f32)
  (x3 : FVec Ideal S2816x1024 .f32) (x4 : FVec Ideal S1x8192x1024 .f32) (x5 : FVec Ideal S1024 .f32)

/-- A row's up projection. -/
abbrev upRow (n : Fin 8192) : Fin 5632 → EReal := Swiglu.up (fun j => x0 (ix3 0 n j)) (fun j => x1 (ix1 j)) (fun i c => x2 (ix2 i c))

/-- The gate's product at a row, the logistic function by the exponential. -/
abbrev gated (n : Fin 8192) (k : Fin 2816) : EReal := val_main_v17 (F := Ideal) x0 x1 x2 (ix3 0 n k)

/-- The half step's row. -/
abbrev outRow (n : Fin 8192) (j : Fin 1024) : EReal := val_main_v21 (F := Ideal) x0 x1 x2 x3 (ix3 0 n j)

abbrev target (n : Fin 8192) : Fin 1024 → EReal := fun j => x4 (ix3 0 n j)
abbrev gain : Fin 1024 → EReal := fun j => x5 (ix1 j)

theorem rs_in_at (n : Fin 8192) : (val_main_v7 (F := Ideal) x0 (ix3 0 n 0) : EReal) = Norm.rs fun j => x0 (ix3 0 n j) := by
  unfold Norm.rs val_main_v7 val_main_v6 val_main_v5 val_main_v4 val_main_v3 val_main_v2 val_main_v1 val_main_v0 val_main_cst val_main_cst_0 val_main_cst_1
  pointwise [Ideal.ofBits_zero_f32]

theorem up_at (n : Fin 8192) (c : Fin 5632) : (val_main_v13 (F := Ideal) x0 x1 x2 (ix3 0 n c) : EReal) = upRow x0 x1 x2 n c := by
  unfold upRow Swiglu.up
  rw [← rs_in_at]
  unfold val_main_v13 val_main_v12 val_main_v11 val_main_v10 val_main_v9 val_main_v8
  generalize val_main_v7 (F := Ideal) x0 = a
  pointwise

theorem gated_at (n : Fin 8192) (k : Fin 2816) : gated x0 x1 x2 n k
    = upRow x0 x1 x2 n ⟨k.val, by omega⟩ * Swiglu.byExp (upRow x0 x1 x2 n ⟨k.val, by omega⟩) * upRow x0 x1 x2 n ⟨2816 + k.val, by omega⟩ := by
  unfold gated Swiglu.byExp
  simp only [← up_at]
  unfold val_main_v17 val_main_v16_0 val_main_v16_2 val_main_call0_v4 val_main_call0_cst_0 val_main_call0_v3 val_main_call0_v2 val_main_call0_cst val_main_call0_v1 val_main_call0_v0 val_main_v15 val_main_v14
  generalize val_main_v13 (F := Ideal) x0 x1 x2 = a
  pointwise

theorem ab_at (n : Fin 8192) (c : Fin 5632) : (val_main_v81 (F := Ideal) x0 x1 x2 (ix2 n c) : EReal)
    = Swiglu.pulled (fun _ => Ideal.ofBits .f32 0x3F800000#32) (upRow x0 x1 x2 n) c := by
  unfold Swiglu.pulled Swiglu.byExp
  simp only [← up_at]
  unfold val_main_v81 val_main_v80 val_main_v78 val_main_v77 val_main_call1_v2 val_main_call1_v1 val_main_call1_v0 val_main_v76 val_main_v75 val_main_v74 val_main_cst_20 val_main_v16_0 val_main_v16_1 val_main_call0_v7 val_main_call0_v6 val_main_call0_cst_1 val_main_v16_2 val_main_call0_v4 val_main_call0_cst_0 val_main_call0_v3 val_main_call0_v2 val_main_call0_cst val_main_call0_v1 val_main_call0_v0 val_main_v15 val_main_v14
  generalize val_main_v13 (F := Ideal) x0 x1 x2 = a
  pointwise

theorem hid_at (n : Fin 8192) (k : Fin 2816) : (val_main_v83 (F := Ideal) x0 x1 x2 (ix2 n k) : EReal) = gated x0 x1 x2 n k := by
  unfold gated val_main_v83 val_main_v82
  generalize val_main_v17 (F := Ideal) x0 x1 x2 = a
  pointwise

theorem out_at (n : Fin 8192) : outRow x0 x1 x2 x3 n = HalfLoss.out (fun j => x0 (ix3 0 n j)) (gated x0 x1 x2 n) (fun k j => x3 (ix2 k j)) := by
  funext j
  unfold outRow HalfLoss.out gated val_main_v21 val_main_v20 val_main_v19 val_main_v18 val_main_cst_2
  generalize val_main_v17 (F := Ideal) x0 x1 x2 = a
  pointwise

theorem rs_at (n : Fin 8192) : (val_main_v29 (F := Ideal) x0 x1 x2 x3 (ix3 0 n 0) : EReal) = Norm.rs (outRow x0 x1 x2 x3 n) := by
  unfold Norm.rs outRow val_main_v29 val_main_v28 val_main_v27 val_main_v26 val_main_v25 val_main_v24 val_main_v23 val_main_v22 val_main_cst_3 val_main_cst_4 val_main_cst_5
  generalize val_main_v21 (F := Ideal) x0 x1 x2 x3 = a
  pointwise [Ideal.ofBits_zero_f32]

theorem ms_at (n : Fin 8192) : (val_main_v28 (F := Ideal) x0 x1 x2 x3 (ix3 0 n 0) : EReal) = Norm.ms (outRow x0 x1 x2 x3 n) := by
  unfold Norm.ms outRow val_main_v28 val_main_v27 val_main_v26 val_main_v25 val_main_v24 val_main_v23 val_main_v22 val_main_cst_3 val_main_cst_4 val_main_cst_5
  generalize val_main_v21 (F := Ideal) x0 x1 x2 x3 = a
  pointwise [Ideal.ofBits_zero_f32]

theorem err_at (n : Fin 8192) (j : Fin 1024) : (val_main_v38 (F := Ideal) x0 x1 x2 x3 x4 x5 (ix3 0 n j) : EReal)
    = HalfLoss.err (outRow x0 x1 x2 x3 n) (gain x5) (target x4 n) j := by
  unfold HalfLoss.err
  rw [← rs_at]
  unfold outRow val_main_v38 val_main_v37 val_main_v36 val_main_v35 val_main_v34 val_main_v33
  generalize val_main_v29 (F := Ideal) x0 x1 x2 x3 = b, val_main_v21 (F := Ideal) x0 x1 x2 x3 = a
  pointwise

theorem mse_at (n : Fin 8192) : (val_main_v44 (F := Ideal) x0 x1 x2 x3 x4 x5 (ix2 0 n) : EReal)
    = HalfLoss.mse (outRow x0 x1 x2 x3 n) (gain x5) (target x4 n) := by
  unfold HalfLoss.mse
  simp only [← err_at]
  unfold val_main_v44 val_main_v43 val_main_v42 val_main_v39 val_main_cst_8 val_main_cst_9
  generalize val_main_v38 (F := Ideal) x0 x1 x2 x3 x4 x5 = a
  pointwise [Ideal.ofBits_zero_f32]

/-- The cotangent of the normalized row's error. -/
theorem dy_at (n : Fin 8192) (j : Fin 1024) : (val_main_v52 (F := Ideal) x0 x1 x2 x3 x4 x5 (ix3 0 n j) : EReal)
    = HalfLoss.pulled (outRow x0 x1 x2 x3 n) (gain x5) (target x4 n) j := by
  unfold HalfLoss.pulled
  rw [← err_at]
  unfold val_main_v52 val_main_v51 val_main_v50 val_main_v49 val_main_v48 val_main_v47 val_main_v41 val_main_v40 val_main_cst_7 val_main_cst_12 val_main_cst_13 val_main_cst_14
  generalize val_main_v38 (F := Ideal) x0 x1 x2 x3 x4 x5 = a
  pointwise

theorem loss_at : (val_main_v84 (F := Ideal) x0 x1 x2 x3 x4 x5 (ix2 0 0) : EReal)
    = Ideal.ofBits .f32 0x3F000000#32 * ∑ n, HalfLoss.mse (outRow x0 x1 x2 x3 n) (gain x5) (target x4 n) := by
  simp only [← mse_at]
  unfold val_main_v84 val_main_v46 val_main_v45 val_main_cst_10 val_main_cst_11
  generalize val_main_v44 (F := Ideal) x0 x1 x2 x3 x4 x5 = a
  pointwise [Ideal.ofBits_zero_f32]
  exact congrArg _ (Fin.sum_univ_one _)

/-- The cotangent through the gain. -/
abbrev dyRow (n : Fin 8192) (j : Fin 1024) : EReal := val_main_v52 (F := Ideal) x0 x1 x2 x3 x4 x5 (ix3 0 n j)

theorem along_at (n : Fin 8192) : (val_main_v66 (F := Ideal) x0 x1 x2 x3 x4 x5 (ix3 0 n 0) : EReal)
    = Norm.along (outRow x0 x1 x2 x3 n) (gain x5) (dyRow x0 x1 x2 x3 x4 x5 n) := by
  unfold Norm.along
  rw [← rs_at, ← ms_at]
  unfold val_main_v66 val_main_v65 val_main_v64 val_main_v61 val_main_v60 val_main_v59 val_main_v57 val_main_v56 val_main_v35 val_main_v32 val_main_v31 val_main_v30 val_main_cst_6 val_main_cst_17 val_main_cst_18
  unfold dyRow outRow
  generalize val_main_v52 (F := Ideal) x0 x1 x2 x3 x4 x5 = u, val_main_v28 (F := Ideal) x0 x1 x2 x3 = a, val_main_v29 (F := Ideal) x0 x1 x2 x3 = b, val_main_v21 (F := Ideal) x0 x1 x2 x3 = o
  pointwise [Ideal.ofBits_zero_f32]

theorem total_at (n : Fin 8192) : (val_main_v67 (F := Ideal) x0 x1 x2 x3 x4 x5 (ix1 n) : EReal)
    = Norm.along (outRow x0 x1 x2 x3 n) (gain x5) (dyRow x0 x1 x2 x3 x4 x5 n) := by
  rw [← along_at]
  refine (Norm.sum_of_one reducesTo_S1x8192x1_S8192_d0_2 _ _ _ (ix1 n) (ix3 0 n 0) fun k => ?_).trans ?_
  · constructor
    · refine fun e => funext fun a => Fin.ext ?_
      match a with
      | ⟨0, _⟩ => exact (Nat.lt_one_iff.1 (k 0).isLt).symm
      | ⟨1, _⟩ => exact (congrArg Fin.val (congrFun e 0)).symm
      | ⟨2, _⟩ => exact (Nat.lt_one_iff.1 (k 2).isLt).symm
    · rintro rfl
      funext b
      fin_cases b
      rfl
  · unfold val_main_cst_19
    pointwise [Ideal.ofBits_zero_f32]

theorem dout_at (n : Fin 8192) (j : Fin 1024) : (val_main_v79 (F := Ideal) x0 x1 x2 x3 x4 x5 (ix2 n j) : EReal)
    = dyRow x0 x1 x2 x3 x4 x5 n j * gain x5 j * Norm.rs (outRow x0 x1 x2 x3 n)
      + outRow x0 x1 x2 x3 n j * Norm.along (outRow x0 x1 x2 x3 n) (gain x5) (dyRow x0 x1 x2 x3 x4 x5 n)
      + Norm.along (outRow x0 x1 x2 x3 n) (gain x5) (dyRow x0 x1 x2 x3 x4 x5 n) * outRow x0 x1 x2 x3 n j := by
  rw [← total_at, ← rs_at]
  unfold val_main_v79 val_main_v73 val_main_v72 val_main_v71 val_main_v70 val_main_v69 val_main_v68 val_main_v63 val_main_v62 val_main_v57 val_main_v56 val_main_v35
  unfold dyRow outRow
  generalize val_main_v67 (F := Ideal) x0 x1 x2 x3 x4 x5 = a, val_main_v52 (F := Ideal) x0 x1 x2 x3 x4 x5 = u, val_main_v29 (F := Ideal) x0 x1 x2 x3 = b, val_main_v21 (F := Ideal) x0 x1 x2 x3 = o
  pointwise

theorem dg_at (j : Fin 1024) : (val_main_v85 (F := Ideal) x0 x1 x2 x3 x4 x5 (ix2 0 j) : EReal)
    = ∑ n, outRow x0 x1 x2 x3 n j * Norm.rs (outRow x0 x1 x2 x3 n) * dyRow x0 x1 x2 x3 x4 x5 n j := by
  simp only [← rs_at]
  have e : (val_main_v85 (F := Ideal) x0 x1 x2 x3 x4 x5 (ix2 0 j) : EReal) = val_main_v58 (F := Ideal) x0 x1 x2 x3 x4 x5 (ix1 j) := by
    unfold val_main_v85
    generalize val_main_v58 (F := Ideal) x0 x1 x2 x3 x4 x5 = a
    pointwise
  refine e.trans ((Norm.sum_of_one reducesTo_S1x1x1024_S1024_d0_1 _ _ _ (ix1 j) (ix3 0 0 j) fun k => ?_).trans ?_)
  · constructor
    · refine fun e => funext fun a => Fin.ext ?_
      match a with
      | ⟨0, _⟩ => exact (Nat.lt_one_iff.1 (k 0).isLt).symm
      | ⟨1, _⟩ => exact (Nat.lt_one_iff.1 (k 1).isLt).symm
      | ⟨2, _⟩ => exact (congrArg Fin.val (congrFun e 0)).symm
    · rintro rfl
      funext b
      fin_cases b
      rfl
  · unfold val_main_cst_16 val_main_v55 val_main_v54 val_main_v53 val_main_v34 val_main_v33 val_main_cst_15 dyRow outRow
    generalize val_main_v52 (F := Ideal) x0 x1 x2 x3 x4 x5 = u, val_main_v29 (F := Ideal) x0 x1 x2 x3 = b, val_main_v21 (F := Ideal) x0 x1 x2 x3 = o
    pointwise [Ideal.ofBits_zero_f32]

end Cert.LossRefIdeal.Loss

end
-- ==== Proof.LossEquation.lean ====
/-
  The last half step with the loss behind it: what the kernel's call leaves in its five results is what the reference computes,
  from finite hidden rows, gains, projections and target.
-/
module

public import proofs.«01_k».proof.Proof.LossHost
public import proofs.«01_k».proof.Proof.LossKernel
public import proofs.«01_k».proof.Proof.LossReference
public import proofs.«01_k».proof.Proof.Gen.Pre_loss_finite
public import proofs.«01_k».proof.Proof.Finite
public import proofs.«01_k».proof.Defs

@[expose] public section

set_option maxRecDepth 16384

noncomputable section

open Idealize.ShloMosaic Idealize.ShloMosaic.TcCoe Idealize.SL.Sem

namespace Cert.LossEquation

open Cert.LossIdeal Cert.LossIdeal.Gen Cert.LossIdeal.Loss
open Cert.LossRefIdeal.Loss (gated dyRow target)

section
variable (x0 : FVec Ideal S1x8192x1024 .f32) (x1 : FVec Ideal S1024 .f32) (x2 : FVec Ideal S1024x5632 .f32)
  (x3 : FVec Ideal S2816x1024 .f32) (x4 : FVec Ideal S1x8192x1024 .f32) (x5 : FVec Ideal S1024 .f32)

/-- The projections as the call gets them. -/
abbrev argU : FVec Ideal S1024x5632 .bf16 := truncf (F := Ideal) .bf16 x2 bitsLt_bf16_f32
abbrev argD : FVec Ideal S2816x1024 .bf16 := truncf (F := Ideal) .bf16 x3 bitsLt_bf16_f32

theorem rows_eq (x : FVec Ideal S1x8192x1024 .f32) (n : Fin 8192) : at2 (rows x) n = fun j => x (ix3 0 n j) := by
  funext j
  unfold at2 rows
  pointwise

theorem gain_eq (x : FVec Ideal S1024 .f32) : at2 (gain x) 0 = fun j => x (ix1 j) := by
  funext j
  unfold at2 gain
  pointwise

theorem up_eq (n : Fin 8192) : upRow (rows x0) (gain x1) (argU x2) n = Cert.LossRefIdeal.Loss.upRow x0 x1 x2 n := by
  unfold upRow
  rw [rows_eq, gain_eq]
  rfl

/-- The gate's product and the half step's rows as the call has them. -/
abbrev argH : FVec Ideal S8192x2816 .bf16 := hidBlock (rows x0) (gain x1) (argU x2)
abbrev kernelOut (n : Fin 8192) : Fin 1024 → EReal := outRow (rows x0) (argH x0 x1 x2) (argD x3) n

variable (h0 : ∀ i, ∃ r : ℝ, x0 i = r) (h1 : ∀ i, ∃ r : ℝ, x1 i = r) (h2 : ∀ i, ∃ r : ℝ, x2 i = r)
  (h3 : ∀ i, ∃ r : ℝ, x3 i = r) (h4 : ∀ i, ∃ r : ℝ, x4 i = r) (h5 : ∀ i, ∃ r : ℝ, x5 i = r)

include h0 h1 h2 in
theorem up_real (n : Fin 8192) : ∃ U : Fin 5632 → ℝ, Cert.LossRefIdeal.Loss.upRow x0 x1 x2 n = fun c => (U c : EReal) := by
  choose X hX using h0
  choose G hG using h1
  choose W hW using h2
  obtain ⟨s, -, -, hs, -, -⟩ := Norm.rs_real fun j => X (ix3 0 n j)
  refine ⟨fun c => ∑ i, X (ix3 0 n i) * s * G (ix1 i) * W (ix2 i c), funext fun c => ?_⟩
  unfold Cert.LossRefIdeal.Loss.upRow Swiglu.up
  simp only [hX, hG, hW]
  rw [hs]
  exact Norm.sum_real (F := fun i => X (ix3 0 n i) * s * G (ix1 i) * W (ix2 i c)) fun i => by
    rw [EReal.coe_mul, EReal.coe_mul, EReal.coe_mul]

include h0 h1 h2 in
/-- The gate's product is the same real number on both sides. -/
theorem hid_eq (n : Fin 8192) (k : Fin 2816) : ∃ e : ℝ, (argH x0 x1 x2 (ix2 n k) : EReal) = e ∧ gated x0 x1 x2 n k = e := by
  change ∃ e : ℝ, HalfLoss.hid (upRow (rows x0) (gain x1) (argU x2) n) k = e ∧ _
  rw [up_eq, Cert.LossRefIdeal.Loss.gated_at]
  obtain ⟨U, hU⟩ := up_real x0 x1 x2 h0 h1 h2 n
  rw [hU]
  exact HalfLoss.hid_real U k

include h0 h1 h2 in
theorem out_eq (n : Fin 8192) : Cert.LossRefIdeal.Loss.outRow x0 x1 x2 x3 n = kernelOut x0 x1 x2 x3 n := by
  have e : gated x0 x1 x2 n = at2 (argH x0 x1 x2) n := funext fun k => by
    obtain ⟨r, ha, hb⟩ := hid_eq x0 x1 x2 h0 h1 h2 n k
    exact hb.trans ha.symm
  rw [Cert.LossRefIdeal.Loss.out_at, e]
  unfold kernelOut outRow
  rw [rows_eq]
  rfl

include h0 h1 h2 h3 in
theorem out_real (n : Fin 8192) : ∃ O : Fin 1024 → ℝ, kernelOut x0 x1 x2 x3 n = fun j => (O j : EReal) := by
  have hp := hid_eq x0 x1 x2 h0 h1 h2 n
  choose P hP using hp
  choose X hX using h0
  choose W hW using h3
  have h := HalfLoss.out_real (fun j => X (ix3 0 n j)) P (fun k j => W (ix2 k j))
  choose O hO using h
  refine ⟨O, funext fun j => ?_⟩
  have e : at2 (argH x0 x1 x2) n = fun k => (P k : EReal) := funext fun k => (hP k).1
  have e3 : at2 (argD x3) = fun k j => (W (ix2 k j) : EReal) := funext fun k => funext fun j => hW (ix2 k j)
  rw [← hO]
  unfold kernelOut outRow
  rw [rows_eq, e, e3]
  simp only [hX]

include h0 h1 h2 h3 h4 h5 in
/-- The cotangent of a normalized row is real, and the kernel's is the reference's. -/
theorem dy_eq (n : Fin 8192) : ∃ D : Fin 1024 → ℝ, HalfLoss.dy (kernelOut x0 x1 x2 x3 n) (at2 (gain x5) 0) (at2 (rows x4) n) = (fun j => (D j : EReal))
    ∧ dyRow x0 x1 x2 x3 x4 x5 n = fun j => (D j : EReal) := by
  obtain ⟨O, hO⟩ := out_real x0 x1 x2 x3 h0 h1 h2 h3 n
  choose T hT using h4
  choose G hG using h5
  have h := HalfLoss.dy_eq O (fun j => G (ix1 j)) (fun j => T (ix3 0 n j))
  choose D hD using h
  refine ⟨D, funext fun j => ?_, funext fun j => ?_⟩
  · rw [gain_eq, rows_eq, hO]
    simp only [hT, hG]
    exact (hD j).1
  · refine (Cert.LossRefIdeal.Loss.dy_at x0 x1 x2 x3 x4 x5 n j).trans ?_
    rw [out_eq x0 x1 x2 x3 h0 h1 h2, hO]
    unfold target Cert.LossRefIdeal.Loss.gain
    simp only [hT, hG]
    exact (hD j).2

include h0 h1 h2 h3 h4 h5 in
/-- The cotangent of the half step's rows. -/
theorem dout_eq : Cert.LossRefIdeal.Read.val_main_v79 (F := Ideal) x0 x1 x2 x3 x4 x5
    = doutBlock (rows x0) (argH x0 x1 x2) (argD x3) (rows x4) (gain x5) := by
  funext y
  obtain ⟨n, j, rfl⟩ : ∃ n j, y = ix2 n j := ⟨y 0, y 1, eq_ix2 y⟩
  refine (Cert.LossRefIdeal.Loss.dout_at x0 x1 x2 x3 x4 x5 n j).trans ?_
  change _ = Norm.back (kernelOut x0 x1 x2 x3 n) (at2 (gain x5) 0) (HalfLoss.dy (kernelOut x0 x1 x2 x3 n) (at2 (gain x5) 0) (at2 (rows x4) n)) j
  obtain ⟨D, ha, hb⟩ := dy_eq x0 x1 x2 x3 x4 x5 h0 h1 h2 h3 h4 h5 n
  obtain ⟨O, hO⟩ := out_real x0 x1 x2 x3 h0 h1 h2 h3 n
  rw [ha, hb, out_eq x0 x1 x2 x3 h0 h1 h2, hO, gain_eq]
  choose G hG using h5
  unfold Cert.LossRefIdeal.Loss.gain
  simp only [hG]
  have e := Norm.back_eq O (fun j => G (ix1 j)) D 0 j
  rw [zero_add, zero_add] at e
  exact e.symm

include h0 h1 h2 in
/-- The factors of the gate's derivative. -/
theorem ab_eq : Cert.LossRefIdeal.Read.val_main_v81 (F := Ideal) x0 x1 x2 = abBlock (rows x0) (gain x1) (argU x2) := by
  funext y
  obtain ⟨n, c, rfl⟩ : ∃ n c, y = ix2 n c := ⟨y 0, y 1, eq_ix2 y⟩
  refine (Cert.LossRefIdeal.Loss.ab_at x0 x1 x2 n c).trans ?_
  change _ = Swiglu.factor (upRow (rows x0) (gain x1) (argU x2) n) c
  obtain ⟨U, hU⟩ := up_real x0 x1 x2 h0 h1 h2 n
  rw [up_eq, hU, Swiglu.bits_one]
  have e := Swiglu.factor_eq (fun _ => 1) U c
  rw [EReal.coe_one, one_mul] at e
  exact e.symm

include h0 h1 h2 in
/-- The gate's product. -/
theorem hid_all_eq : Cert.LossRefIdeal.Read.val_main_v83 (F := Ideal) x0 x1 x2 = argH x0 x1 x2 := by
  funext y
  obtain ⟨n, k, rfl⟩ : ∃ n k, y = ix2 n k := ⟨y 0, y 1, eq_ix2 y⟩
  obtain ⟨r, ha, hb⟩ := hid_eq x0 x1 x2 h0 h1 h2 n k
  exact ((Cert.LossRefIdeal.Loss.hid_at x0 x1 x2 n k).trans hb).trans ha.symm

include h0 h1 h2 h3 h4 h5 in
theorem mse_eq (n : Fin 8192) : ∃ e : ℝ, HalfLoss.mse (kernelOut x0 x1 x2 x3 n) (at2 (gain x5) 0) (at2 (rows x4) n) = e := by
  obtain ⟨O, hO⟩ := out_real x0 x1 x2 x3 h0 h1 h2 h3 n
  choose T hT using h4
  choose G hG using h5
  rw [gain_eq, rows_eq, hO]
  simp only [hT, hG]
  exact HalfLoss.mse_real O (fun j => G (ix1 j)) (fun j => T (ix3 0 n j))

include h0 h1 h2 h3 h4 h5 in
/-- The loss. -/
theorem loss_eq : Cert.LossRefIdeal.Read.val_main_v84 (F := Ideal) x0 x1 x2 x3 x4 x5
    = fun _ => ∑ t : Fin 16, Ideal.ofBits .f32 0x3F000000#32 * ∑ r : Fin 512,
      HalfLoss.mse (kernelOut x0 x1 x2 x3 ⟨t.val * 512 + r.val, by omega⟩) (at2 (gain x5) 0) (at2 (rows x4) ⟨t.val * 512 + r.val, by omega⟩) := by
  funext y
  obtain ⟨a, b, rfl⟩ : ∃ a b : Fin 1, y = ix2 a b := ⟨y 0, y 1, eq_ix2 y⟩
  obtain rfl : a = 0 := Subsingleton.elim _ _
  obtain rfl : b = 0 := Subsingleton.elim _ _
  refine (Cert.LossRefIdeal.Loss.loss_at x0 x1 x2 x3 x4 x5).trans ?_
  have hm := mse_eq x0 x1 x2 x3 x4 x5 h0 h1 h2 h3 h4 h5
  choose M hM using hm
  have e : ∀ n, HalfLoss.mse (Cert.LossRefIdeal.Loss.outRow x0 x1 x2 x3 n) (Cert.LossRefIdeal.Loss.gain x5) (target x4 n) = (M n : EReal) := fun n => by
    rw [← hM, out_eq x0 x1 x2 x3 h0 h1 h2, gain_eq, rows_eq]
  simp only [e, hM]
  rw [HalfLoss.half_sum]
  have p : ∀ t : Fin 16, Ideal.ofBits .f32 0x3F000000#32 * ∑ r : Fin 512, ((M ⟨t.val * 512 + r.val, by omega⟩ : ℝ) : EReal)
      = ((0.5 * ∑ r : Fin 512, M ⟨t.val * 512 + r.val, by omega⟩ : ℝ) : EReal) := fun t => HalfLoss.half_sum _
  rw [Norm.sum_real p, ← Finset.mul_sum]
  refine congrArg _ (congrArg _ (Fin.sum_mul_add_congr fun t r h => rfl).symm)

include h0 h1 h2 h3 h4 h5 in
/-- The gradient of the final gain. -/
theorem dg_eq : Cert.LossRefIdeal.Read.val_main_v85 (F := Ideal) x0 x1 x2 x3 x4 x5
    = dgBlock (rows x0) (argH x0 x1 x2) (argD x3) (rows x4) (gain x5) := by
  funext y
  obtain ⟨r, j, rfl⟩ : ∃ r j, y = ix2 r j := ⟨y 0, y 1, eq_ix2 y⟩
  obtain rfl : r = 0 := Subsingleton.elim _ _
  refine (Cert.LossRefIdeal.Loss.dg_at x0 x1 x2 x3 x4 x5 j).trans (Finset.sum_congr rfl fun n _ => ?_)
  obtain ⟨D, ha, hb⟩ := dy_eq x0 x1 x2 x3 x4 x5 h0 h1 h2 h3 h4 h5 n
  rw [hb, out_eq x0 x1 x2 x3 h0 h1 h2, ← ha]
  exact mul_comm _ _
end

/-- The reference leaves its arguments alone, and it declares no semaphore. -/
theorem reference_frame : Cert.quiescent_LossRefIdeal (hLossRefIdeal := Cert.LossRefIdeal.Gen.facts) :=
  fun m ρ _ => (θ_run Cert.LossRefIdeal.defs _ _).mono
    (fun r h => ⟨fun c => (h c).2.2.2.2.2, Idealize.ShloMosaic.sem_eq_zero_of_no_sems (by decide) r.2⟩)
    (Cert.LossRefIdeal.Value.run (F := Ideal) m ρ)

/-- The kernel and the reference compute the same five arrays. -/
theorem loss_algebraic : Cert.algebraic_LossIdeal_LossRefIdeal_pre_loss_finite (hLossIdeal := Cert.LossIdeal.Gen.facts)
    (hLossRefIdeal := Cert.LossRefIdeal.Gen.facts) (hPre_loss_finite := Cert.Pre_loss_finite.Gen.facts) := by
  intro m g m' g' hpre hargs
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, Cert.LossIdeal.Value.run_blocks (F := Ideal) m g, ?_⟩
  refine (θ_run (Cert.LossRefIdeal.defs (F := Ideal)) _ _).mono (fun r h c => ?_) (Cert.LossRefIdeal.Value.run (F := Ideal) m' g')
  obtain ⟨ho, ha, hh, hl, hg, kept⟩ := h c
  have e := congrFun (hpre c) fun i => i.elim0
  dsimp only [Cert.Pre_loss_finite.fn, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨a0, a1, a2, a3, a4, a5⟩ := hargs c
  have r0 := Finite.real_of_all _ _ _ _ _ _ _ e0
  have r1 := Finite.real_of_all _ _ _ _ _ _ _ e1
  have r2 := Finite.real_of_all _ _ _ _ _ _ _ e2
  have r3 := Finite.real_of_all _ _ _ _ _ _ _ e3
  have r4 := Finite.real_of_all _ _ _ _ _ _ _ e4
  have r5 := Finite.real_of_all _ _ _ _ _ _ _ e5
  refine ⟨Eq.trans (ho.trans ?_) (final6 m c).symm, Eq.trans (ha.trans ?_) (final7 m c).symm, Eq.trans (hh.trans ?_) (final8 m c).symm,
    Eq.trans (hl.trans ?_) (final9 m c).symm, Eq.trans (hg.trans ?_) (final10 m c).symm, kept⟩
  · rw [Cert.LossRefIdeal.Read.val_main_v79_eq, a0, a1, a2, a3, a4, a5]
    unfold hidAll
    rw [host_h, host_gain, host_up, host_down, host_target, host_final_gain]
    exact dout_eq _ _ _ _ _ _ r0 r1 r2 r3 r4 r5
  · rw [Cert.LossRefIdeal.Read.val_main_v81_eq, a0, a1, a2, host_h, host_gain, host_up]
    exact ab_eq _ _ _ r0 r1 r2
  · rw [Cert.LossRefIdeal.Read.val_main_v83_eq, a0, a1, a2]
    unfold hidAll
    rw [host_h, host_gain, host_up]
    exact hid_all_eq _ _ _ r0 r1 r2
  · rw [Cert.LossRefIdeal.Read.val_main_v84_eq, a0, a1, a2, a3, a4, a5]
    unfold hidAll
    rw [host_h, host_gain, host_up, host_down, host_target, host_final_gain]
    exact loss_eq _ _ _ _ _ _ r0 r1 r2 r3 r4 r5
  · rw [Cert.LossRefIdeal.Read.val_main_v85_eq, a0, a1, a2, a3, a4, a5]
    unfold hidAll
    rw [host_h, host_gain, host_up, host_down, host_target, host_final_gain]
    exact dg_eq _ _ _ _ _ _ r0 r1 r2 r3 r4 r5

end Cert.LossEquation

end
-- ==== Proof.AttendBlock.lean ====
/- The attention's forward kernel on one block of queries, written per head, and what it computes where the tiles hold real
   numbers. The products and the window are the gradient's. -/
module

public import proofs.«01_k».proof.Proof.AttnForward

@[expose] public section

set_option maxRecDepth 16384

noncomputable section

namespace Cert.AttnIdeal.Body

open Idealize.ShloMosaic Idealize.ShloMosaic.TcCoe Idealize.ShloMosaic.Tactic
open Cert.AttnIdeal.Gen
open Cert.AttnRefIdeal.Attention (Seen over_lowDen expo_seen expo_unseen seen_key)

/-! ## The work on one block -/

section Work
variable {F : FTy → Type} [FloatOps F] (T : Tiles F) (a : BitVec 32) (kv : Fin 2) (g : Fin 8)

/-- One head's scores within the window. -/
def scores : FVec F S128x128 .f32 :=
  addf (subf (folded (products T kv) g)
    (mulf (broadcast S128x128 (Scalar.ofBits .f32 (slopeBits (headOf kv g)))) k0_pay7)) (k0_pay8 a)

/-- The largest of a row's scores and the sink. -/
def largest : FVec F S128x1 .f32 :=
  maximumf (shapeCast S128x1 (multiReduction .maximumf [1] S128 (scores T a kv g) 0xFF800000#32 reduces_S128x128_S128 (.inl rfl) rfl)
    shapeCasts_S128_S128x1) (broadcast S128x1 (T.sink (headOf kv g)))

def expos : FVec F S128x128 .f32 :=
  exp (subf (scores T a kv g) (broadcastTo S128x128 (largest T a kv g) broadcasts_S128x1_S128x128))

/-- The softmax's denominator. -/
def denom : FVec F S128x1 .f32 :=
  addf (shapeCast S128x1 (multiReduction .add [1] S128 (expos T a kv g) 0x00000000#32 reduces_S128x128_S128 (.inl rfl) rfl)
    shapeCasts_S128_S128x1) (exp (subf (broadcast S128x1 (T.sink (headOf kv g))) (largest T a kv g)))

def logarithms : FVec F S128x1 .f32 := addf (largest T a kv g) (log (denom T a kv g))

/-- One head's products of exponentials and values, on its half of the lanes. -/
def valuePart (pr : Fin 4) (side : Fin 2) : FVec F S128x128 .f32 :=
  matmul dot_S128x256_S256x128_S128x128_1_0_0_1_n_n none
    (unfolded (truncf .bf16 (expos T a kv ⟨2 * pr.val + side.val, by omega⟩) bitsLt_bf16_f32))
    (onBand (once kv side (T.prev 1)) (once kv side (T.cur 1))) (constant S128x128 .f32 0x00000000#32)

/-- One over the denominator, on all lanes. -/
def inverse (pr : Fin 4) (side : Fin 2) : FVec F S128x128 .f32 :=
  broadcastTo S128x128 (column (divf (broadcast S128x1 (Scalar.ofBits .f32 0x3F800000#32))
    (denom T a kv ⟨2 * pr.val + side.val, by omega⟩)) : FVec F S128x1 .f32) broadcasts_S128x1_S128x128

/-- The result of a pair of heads. -/
def attended (P : Fin 8) : FVec F S128x128 .bf16 :=
  let kv : Fin 2 := ⟨P.val / 4, by omega⟩
  let pr : Fin 4 := ⟨P.val % 4, by omega⟩
  truncf .bf16 (mulf (addf (valuePart T a kv pr 0) (valuePart T a kv pr 1))
    (select lane (inverse T a kv pr 0) (inverse T a kv pr 1))) bitsLt_bf16_f32

end Work

/-! ## On real numbers -/

section Real
variable {T : Tiles Ideal} {A : Arguments} {n : Fin 64} {R : Numbers} (H : T.Holds R)
  (hq : R.q = (A.base n).q) (hb : R.band = A.band n) (hs : R.sink = A.sink) (kv : Fin 2) (g : Fin 8) (r c : Fin 128)

include H hq hb in
theorem scores_apply : scores T (blockWord n) kv g (ix2 r c)
    = if Seen n r (keyAt r c) then ((A.base n).score (headOf kv g) r (keyAt r c) : EReal) else ⊥ := by
  have hr := r.isLt
  have hc := c.isLt
  have step : ∀ p x d y : FVec Ideal S128x128 .f32, addf (subf p (mulf x d)) y (ix2 r c)
      = p (ix2 r c) - x (ix2 r c) * d (ix2 r c) + y (ix2 r c) := by
    intro p x d y
    pointwise
  unfold scores
  rw [step, folded_apply, products_apply H, dist_apply, penalty_apply,
    show (broadcast S128x128 (Scalar.ofBits .f32 (slopeBits (headOf kv g))) : FVec Ideal S128x128 .f32) (ix2 r c)
      = Ideal.ofBits .f32 (slopeBits (headOf kv g)) from rfl, slope_word]
  by_cases h : r.val < c.val ∧ blockWord n = 0#32
  · have hk : (keyAt r c).val = c.val := by unfold keyAt; rw [if_pos h.1]
    rw [if_pos h, if_neg (fun k : Seen n r (keyAt r c) => k.2.2 ⟨by omega, h.2⟩), EReal.add_bot]
  · have hk : Seen n r (keyAt r c)
        ∧ ((if r.val < c.val then (r.val + 128 : ℤ) - c.val else r.val - c.val : ℤ) : ℝ) = (r.val : ℝ) + 128 - (keyAt r c).val := by
      unfold keyAt
      by_cases h1 : r.val < c.val
      · rw [if_pos h1, if_pos h1]
        refine ⟨⟨h1, by dsimp only; omega, fun k => h ⟨h1, k.2⟩⟩, ?_⟩
        push_cast
        ring
      · rw [if_neg h1, if_neg h1]
        refine ⟨⟨by dsimp only; omega, by dsimp only; omega, fun k => by have := k.1; dsimp only at this; omega⟩, ?_⟩
        push_cast
        ring
    rw [if_neg h, if_pos hk.1, add_zero, hk.2, ← EReal.coe_mul, ← EReal.coe_sub, hq, hb]
    unfold Numbers.score
    rw [(heads kv g).2.2]
    rfl

/-- The largest of real numbers and of nothing, and a real number. -/
theorem largest_real (f : Fin 128 → EReal) (s : ℝ) (h : ∀ c, f c = ⊥ ∨ ∃ x : ℝ, f c = (x : EReal)) :
    ∃ M : ℝ, max (Finset.univ.sup f) (s : EReal) = (M : EReal) := by
  obtain ⟨c, -, hc⟩ := Finset.exists_mem_eq_sup (Finset.univ : Finset (Fin 128)) ⟨0, Finset.mem_univ _⟩ f
  rw [hc]
  obtain e | ⟨x, e⟩ := h c
  · exact ⟨s, by rw [e]; exact max_eq_right bot_le⟩
  · exact ⟨max x s, by rw [e, ← EReal.coe_strictMono.monotone.map_max]⟩

include H hq hb hs in
theorem largest_apply : ∃ M : ℝ, largest T (blockWord n) kv g (ix2 r 0) = (M : EReal) := by
  obtain ⟨M, hM⟩ := largest_real (fun c => scores T (blockWord n) kv g (ix2 r c)) (A.sink (headOf kv g)) fun c => by
    rw [scores_apply H hq hb]
    split
    · exact .inr ⟨_, rfl⟩
    · exact .inl rfl
  refine ⟨M, Eq.trans ?_ hM⟩
  have step : ∀ (v : FVec Ideal S128x128 .f32) (s : EReal), maximumf (F := Ideal) (φ := .f32)
      (shapeCast S128x1 (multiReduction .maximumf [1] S128 v 0xFF800000#32 reduces_S128x128_S128 (.inl rfl) rfl) shapeCasts_S128_S128x1)
      (broadcast S128x1 s) (ix2 r 0) = max (Finset.univ.sup fun c => (v (ix2 r c) : EReal)) s := by
    intro v s
    pointwise [bottom_word]
    rfl
  unfold largest
  rw [step, H.sink, hs]

/-- The number a row's scores are lowered by. -/
def lowered (T : Tiles Ideal) (n : Fin 64) (kv : Fin 2) (g : Fin 8) (r : Fin 128) : ℝ :=
  (largest T (blockWord n) kv g (ix2 r 0) : EReal).toReal

include H hq hb hs

theorem lowered_apply : largest T (blockWord n) kv g (ix2 r 0) = (lowered T n kv g r : EReal) := by
  obtain ⟨M, e⟩ := largest_apply H hq hb hs kv g r
  unfold lowered
  rw [e, EReal.toReal_coe]

theorem expos_apply : expos T (blockWord n) kv g (ix2 r c) = (A.low n (lowered T n kv g r) (headOf kv g) r (keyAt r c) : EReal) := by
  have step : ∀ (x : FVec Ideal S128x128 .f32) (z : FVec Ideal S128x1 .f32),
      exp (subf x (broadcastTo S128x128 z broadcasts_S128x1_S128x128)) (ix2 r c) = Ideal.exp (x (ix2 r c) - z (ix2 r 0)) := by
    intro x z
    pointwise
  unfold expos Arguments.low
  rw [step, scores_apply H hq hb, lowered_apply H hq hb hs]
  by_cases k : Seen n r (keyAt r c)
  · rw [if_pos k, expo_seen A n r _ k, ← EReal.coe_sub, Ideal.exp_coe, ← Real.exp_add, sub_eq_add_neg]
  · rw [if_neg k, expo_unseen A n r _ k, zero_mul, EReal.bot_sub]
    rfl

omit H hq hb hs in
/-- A sum over the band of which only the window counts. -/
theorem sum_window (f : Fin 256 → ℝ) (h : ∀ J : Fin 256, ¬ (r.val < J.val ∧ J.val ≤ r.val + 128) → f J = 0) :
    ∑ J, f J = ∑ c : Fin 128, f (keyAt r c) := by
  have hr := r.isLt
  rw [Fin.sum_univ_add (a := 128) (b := 128) f, ← Finset.sum_add_distrib]
  refine Finset.sum_congr rfl fun c _ => ?_
  have hc := c.isLt
  unfold keyAt
  by_cases k : r.val < c.val
  · rw [if_pos k, h (Fin.natAdd 128 c) (fun e => by have := e.2; simp only [Fin.val_natAdd] at this; omega), add_zero]
    rfl
  · rw [if_neg k, h (Fin.castAdd 128 c) (fun e => k e.1), zero_add]
    exact congrArg f (Fin.ext (by simp only [Fin.val_natAdd]; omega))

theorem denom_apply : denom T (blockWord n) kv g (ix2 r 0) = (A.lowDen n (lowered T n kv g r) (headOf kv g) r : EReal) := by
  have step : ∀ (x : FVec Ideal S128x128 .f32) (y z : FVec Ideal S128x1 .f32), addf
      (shapeCast S128x1 (multiReduction .add [1] S128 x 0x00000000#32 reduces_S128x128_S128 (.inl rfl) rfl) shapeCasts_S128_S128x1)
      (exp (subf y z)) (ix2 r 0) = (∑ c : Fin 128, (x (ix2 r c) : EReal)) + Ideal.exp (y (ix2 r 0) - z (ix2 r 0)) := by
    intro x y z
    pointwise
  unfold denom Arguments.lowDen
  rw [step, lowered_apply H hq hb hs, sum_of_real _ fun c => expos_apply H hq hb hs kv g r c,
    show (broadcast S128x1 (T.sink (headOf kv g)) : FVec Ideal S128x1 .f32) (ix2 r 0) = (A.sink (headOf kv g) : EReal) from by
      rw [← hs]; exact H.sink _, ← EReal.coe_sub, Ideal.exp_coe, ← EReal.coe_add]
  refine congrArg (fun x : ℝ => ((x + _ : ℝ) : EReal)) (sum_window r _ fun J k => ?_).symm
  unfold Arguments.low
  rw [expo_unseen A n r _ fun e => k ⟨e.1, e.2.1⟩, zero_mul]

theorem logarithms_apply : logarithms T (blockWord n) kv g (ix2 r 0) = (Real.log (A.den n (headOf kv g) r) : EReal) := by
  have step : ∀ y z : FVec Ideal S128x1 .f32, addf y (log z) (ix2 r 0) = y (ix2 r 0) + Ideal.log (z (ix2 r 0)) := by
    intro y z
    pointwise
  unfold logarithms
  rw [step, lowered_apply H hq hb hs, denom_apply H hq hb hs, Ideal.log_coe, if_neg (not_le.2 (A.lowDen_pos n _ _ r)), ← EReal.coe_add, Arguments.log_low]

theorem expos_band (J : Fin 256) : unfolded (truncf .bf16 (expos T (blockWord n) kv g) bitsLt_bf16_f32) (ix2 r J)
    = (A.low n (lowered T n kv g r) (headOf kv g) r J : EReal) := by
  rw [unfolded_apply]
  split
  · next h =>
    rw [show truncf .bf16 (expos T (blockWord n) kv g) bitsLt_bf16_f32 (ix2 r ⟨J.val % 128, by omega⟩) = expos T (blockWord n) kv g (ix2 r ⟨J.val % 128, by omega⟩) from by
      generalize expos T (blockWord n) kv g = u
      pointwise, expos_apply H hq hb hs, keyAt_mod r J h]
  · next h =>
    unfold Arguments.low
    rw [expo_unseen A n r _ fun k => h ⟨k.1, k.2.1⟩, zero_mul]
    rfl

theorem inverse_apply (pr : Fin 4) (side : Fin 2) : inverse T (blockWord n) kv pr side (ix2 r c)
    = ((1 / A.lowDen n (lowered T n kv ⟨2 * pr.val + side.val, by omega⟩ r) (headOf kv ⟨2 * pr.val + side.val, by omega⟩) r : ℝ) : EReal) := by
  have one : Ideal.ofBits .f32 0x3F800000#32 = ((1 : ℝ) : EReal) := by
    simp [Ideal.ofBits, Ideal.ieee, -EReal.coe_mul]
    norm_num
  have step : ∀ y : FVec Ideal S128x1 .f32, (broadcastTo S128x128 (column (F := Ideal) (divf (F := Ideal) (φ := .f32) (broadcast S128x1 (Scalar.ofBits .f32 0x3F800000#32)) y)
      : FVec Ideal S128x1 .f32) broadcasts_S128x1_S128x128) (ix2 r c) = Ideal.div ((1 : ℝ) : EReal) (y (ix2 r 0)) := by
    intro y
    rw [← one]
    pointwise
  unfold inverse
  rw [step, denom_apply H hq hb hs, over_lowDen]

end Real

/-! ## The products with the values, which need not be real -/

/-- The tiles with the keys in the values' places. -/
def keyed (T : Tiles Ideal) : Tiles Ideal := { T with cur := fun _ => T.cur 0, prev := fun _ => T.prev 0 }

/-- The tiles of values hold the given band. -/
structure Values (T : Tiles Ideal) (W : Fin 2 → Fin 256 → Fin 64 → EReal) : Prop where
  prev : ∀ kv (r : Fin 128) d, T.prev 1 (ix2 r (half kv d)) = W kv ⟨r.val, by omega⟩ d
  cur : ∀ kv (r : Fin 128) d, T.cur 1 (ix2 r (half kv d)) = W kv ⟨128 + r.val, by omega⟩ d

theorem values_band {T : Tiles Ideal} {W : Fin 2 → Fin 256 → Fin 64 → EReal} (U : Values T W) (kv side : Fin 2) (c : Fin 128) (J : Fin 256) :
    onBand (once kv side (T.prev 1)) (once kv side (T.cur 1)) (ix2 J c) = if c.val / 64 = side.val then W kv J ⟨c.val % 64, by omega⟩ else 0 := by
  rw [onBand_apply]
  split
  · rw [once_apply, U.prev]
  · rw [once_apply, U.cur]
    refine if_congr Iff.rfl (congrArg (fun j => W kv j _) ?_) rfl
    exact Fin.ext (by show 128 + (J.val - 128) = J.val; omega)

/-- A real number at least zero goes through a sum of any numbers. -/
theorem sum_times {ι : Type} (s : Finset ι) (f : ι → EReal) (x : ℝ) (hx : 0 ≤ x) : (∑ J ∈ s, f J) * (x : EReal) = ∑ J ∈ s, f J * (x : EReal) := by
  classical
  induction s using Finset.induction_on with
  | empty => simp
  | insert a s ha ih =>
    rw [Finset.sum_insert ha, Finset.sum_insert ha,
      EReal.right_distrib_of_nonneg_of_ne_top (EReal.coe_nonneg.2 hx) (EReal.coe_ne_top x), ih]

section Result
variable {T : Tiles Ideal} {A : Arguments} {n : Fin 64} {R : Numbers} (H : (keyed T).Holds R)
  (hq : R.q = (A.base n).q) (hb : R.band = A.band n) (hs : R.sink = A.sink) {W : Fin 2 → Fin 256 → Fin 64 → EReal} (U : Values T W)
  (kv : Fin 2) (r c : Fin 128)
include H hq hb hs U

theorem valuePart_apply (pr : Fin 4) (side : Fin 2) : valuePart T (blockWord n) kv pr side (ix2 r c)
    = if c.val / 64 = side.val then
        ∑ J, (A.low n (lowered (keyed T) n kv ⟨2 * pr.val + side.val, by omega⟩ r) (headOf kv ⟨2 * pr.val + side.val, by omega⟩) r J : EReal)
          * W kv J ⟨c.val % 64, by omega⟩ else 0 := by
  have e : ∀ g, expos T (blockWord n) kv g = expos (keyed T) (blockWord n) kv g := fun _ => rfl
  unfold valuePart
  rw [side_product, e]
  split
  · next h =>
    refine Finset.sum_congr rfl fun J _ => ?_
    rw [expos_band H hq hb hs, values_band U, if_pos h]
  · next h =>
    refine Finset.sum_eq_zero fun J _ => ?_
    rw [values_band U, if_neg h, mul_zero]

theorem attended_apply (x : Fin 1024) : attended T (blockWord n) (tileOf (n := 8) x) (ix2 r (laneOf (n := 8) x))
    = ∑ J, (A.prob n (headAt x) r J : EReal) * W (keyOf (headAt x)) J (dimAt x) := by
  have hx := x.isLt
  have step : ∀ u v y z : FVec Ideal S128x128 .f32, truncf .bf16 (mulf (addf u v) (select lane y z)) bitsLt_bf16_f32 (ix2 r (laneOf (n := 8) x))
      = (u (ix2 r (laneOf (n := 8) x)) + v (ix2 r (laneOf (n := 8) x)))
        * (if x.val % 128 < 64 then y (ix2 r (laneOf (n := 8) x)) else z (ix2 r (laneOf (n := 8) x)) : EReal) := by
    intro u v y z
    pointwise
    exact congrArg _ (lane_select (laneOf (n := 8) x) _ _)
  have sum : ∀ (h : Fin 16) (M : ℝ) (d : Fin 64), (∑ J, (A.low n M h r J : EReal) * W (keyOf h) J d) * ((1 / A.lowDen n M h r : ℝ) : EReal)
      = ∑ J, (A.prob n h r J : EReal) * W (keyOf h) J d := by
    intro h M d
    rw [sum_times _ _ _ (one_div_nonneg.2 (A.lowDen_pos n M h r).le)]
    refine Finset.sum_congr rfl fun J _ => ?_
    rw [mul_right_comm, ← EReal.coe_mul, mul_one_div, Arguments.low_div]
  have e : ∀ kv pr side, inverse T (blockWord n) kv pr side = inverse (keyed T) (blockWord n) kv pr side := fun _ _ _ => rfl
  unfold attended
  dsimp only
  rw [step, valuePart_apply H hq hb hs U, valuePart_apply H hq hb hs U, e, e, inverse_apply H hq hb hs, inverse_apply H hq hb hs]
  have ed : (⟨(x.val % 128) % 64, by omega⟩ : Fin 64) = dimAt x := Fin.ext (by dsimp only; omega)
  have ek : (⟨x.val / 128 / 4, by omega⟩ : Fin 2) = keyOf (headAt x) := Fin.ext (by dsimp only; omega)
  by_cases h : x.val % 128 < 64
  · have eh : (headOf ⟨x.val / 128 / 4, by omega⟩ ⟨2 * (x.val / 128 % 4) + (0 : Fin 2).val, by simp; omega⟩ : Fin 16) = headAt x :=
      Fin.ext (by show 8 * (x.val / 128 / 4) + (2 * (x.val / 128 % 4) + 0) = x.val / 64; omega)
    rw [if_pos (show x.val % 128 / 64 = (0 : Fin 2).val by show _ = 0; omega), if_neg (show ¬ x.val % 128 / 64 = (1 : Fin 2).val by show ¬ _ = 1; omega),
      if_pos h, add_zero, eh, ed, ek, sum]
  · have eh : (headOf ⟨x.val / 128 / 4, by omega⟩ ⟨2 * (x.val / 128 % 4) + (1 : Fin 2).val, by simp; omega⟩ : Fin 16) = headAt x :=
      Fin.ext (by show 8 * (x.val / 128 / 4) + (2 * (x.val / 128 % 4) + 1) = x.val / 64; omega)
    rw [if_neg (show ¬ x.val % 128 / 64 = (0 : Fin 2).val by show ¬ _ = 0; omega), if_pos (show x.val % 128 / 64 = (1 : Fin 2).val by show _ = 1; omega),
      if_neg h, zero_add, eh, ed, ek, sum]

end Result

end Cert.AttnIdeal.Body

end
-- ==== Proof.AttendTiles.lean ====
/- The attention's forward call: the run's stores as the functions of one block, read at an index. -/
module

public import proofs.«01_k».proof.Proof.AttendBlock
public import proofs.«01_k».proof.Proof.Gen.AttnFwdIdeal.Frame

@[expose] public section

set_option maxRecDepth 65536

noncomputable section

namespace Cert.AttnFwdIdeal.Body

open Idealize.ShloMosaic Idealize.ShloMosaic.TcCoe Idealize.ShloMosaic.Tactic
open Cert.AttnFwdIdeal.Gen
open Cert.AttnIdeal.Body (Tiles inWide inNarrow inLse inSink attended logarithms headOf tileOf laneOf wide_tiles)

/-- The tiles of the call's blocks. The forward call reads no cotangent, result or logarithm: these tiles are never looked at. -/
def parts {F : FTy → Type} [FloatOps F] (sink : Vec F S1x16 .f32) (q : Vec F S128x1024 .bf16) (cur prev : Vec F S128x256 .bf16) : Tiles F where
  q j := View.ld q (Rect.unit (s := S128x1024) ![0, 128 * j.val] S128x128.size (inWide j))
  cur j := View.ld cur (Rect.unit (s := S128x256) ![0, 128 * j.val] S128x128.size (inNarrow j))
  prev j := View.ld prev (Rect.unit (s := S128x256) ![0, 128 * j.val] S128x128.size (inNarrow j))
  ct j := View.ld q (Rect.unit (s := S128x1024) ![0, 128 * j.val] S128x128.size (inWide j))
  out j := View.ld q (Rect.unit (s := S128x1024) ![0, 128 * j.val] S128x128.size (inWide j))
  lse _ := broadcast S128x1 (Scalar.ofBits .f32 0x00000000#32)
  sink h := View.ld sink (Rect.unit (s := S1x16) ![0, h.val] S1x1.size (inSink h)) (Shape.Idx.first (numel1_S1x1.symm ▸ Nat.one_pos))

/-- The stores of the result, two heads each. -/
def attStores {F : FTy → Type} [FloatOps F] (T : Tiles F) (a : BitVec 32) : List (View.Piece (Elt F) S128x1024 .bf16) :=
  List.ofFn fun j : Fin 8 => ⟨Rect.unit (s := S128x1024) ![0, 128 * j.rev.val] S128x128.size (inWide j.rev), attended T a j.rev⟩

/-- The stores of the logarithms, one head each. -/
def logStores {F : FTy → Type} [FloatOps F] (T : Tiles F) (a : BitVec 32) : List (View.Piece (Elt F) S128x16 .f32) :=
  List.ofFn fun h : Fin 16 => ⟨Rect.unit (s := S128x16) ![0, h.rev.val] S128x1.size (inLse h.rev),
    logarithms T a ⟨h.rev.val / 8, by omega⟩ ⟨h.rev.val % 8, by omega⟩⟩

section Run
variable {F : FTy → Type} [FloatOps F] (c : Dev nD) (i : grid0.Coords)
  (arg1 : Memref sig .tc .smem S1x16 .f32) (harg1 : arg1.IsWhole) (arg2 : Memref sig .tc .vmem S128x1024 .bf16) (harg2 : arg2.IsWhole)
  (arg3 arg4 : Memref sig .tc .vmem S128x256 .bf16) (harg3 : arg3.IsWhole) (harg4 : arg4.IsWhole)
  (arg5 : Memref sig .tc .vmem S128x1024 .bf16) (harg5 : arg5.IsWhole) (arg6 : Memref sig .tc .vmem S128x16 .f32) (harg6 : arg6.IsWhole)
  (x0 : Vec F S1x16 .f32) (x1 : Vec F S128x1024 .bf16) (x2 x3 : Vec F S128x256 .bf16)

/-- The tiles as the body loads them. -/
def loads : Tiles F where
  q j := arg2.view.readAt (Elt F) (Rect.unit (s := S128x1024) ![0, 128 * j.val] S128x128.size (inWide j)).toLoadRect (harg2.unread x1)
  cur j := arg3.view.readAt (Elt F) (Rect.unit (s := S128x256) ![0, 128 * j.val] S128x128.size (inNarrow j)).toLoadRect (harg3.unread x2)
  prev j := arg4.view.readAt (Elt F) (Rect.unit (s := S128x256) ![0, 128 * j.val] S128x128.size (inNarrow j)).toLoadRect (harg4.unread x3)
  ct j := arg2.view.readAt (Elt F) (Rect.unit (s := S128x1024) ![0, 128 * j.val] S128x128.size (inWide j)).toLoadRect (harg2.unread x1)
  out j := arg2.view.readAt (Elt F) (Rect.unit (s := S128x1024) ![0, 128 * j.val] S128x128.size (inWide j)).toLoadRect (harg2.unread x1)
  lse _ := broadcast S128x1 (Scalar.ofBits .f32 0x00000000#32)
  sink h := arg1.view.readAt (Elt F) (Rect.unit (s := S1x16) ![0, h.val] S1x1.size (inSink h)).toLoadRect (harg1.unread x0)
    (Shape.Idx.first (numel1_S1x1.symm ▸ Nat.one_pos))

theorem loads_eq : loads arg1 harg1 arg2 harg2 arg3 arg4 harg3 harg4 x0 x1 x2 x3 = parts x0 x1 x2 x3 := by
  unfold loads parts
  congr 1 <;> funext j <;> simp only [View.readAt_eq_ld, harg1.read_unread, harg2.read_unread, harg3.read_unread, harg4.read_unread]

theorem stored_att : (kernelRun0_A c i arg1 harg1 arg2 harg2 arg3 harg3 arg4 harg4 arg5 harg5 arg6 harg6 x0 x1 x2 x3).1
    = attStores (loads arg1 harg1 arg2 harg2 arg3 arg4 harg3 harg4 x0 x1 x2 x3) (BitVec.ofNat 32 (i 0).val) := by
  sl_kernel_rfl

theorem stored_logs : (kernelRun0_A c i arg1 harg1 arg2 harg2 arg3 harg3 arg4 harg4 arg5 harg5 arg6 harg6 x0 x1 x2 x3).2.1
    = logStores (loads arg1 harg1 arg2 harg2 arg3 arg4 harg3 harg4 x0 x1 x2 x3) (BitVec.ofNat 32 (i 0).val) := by
  sl_kernel_rfl

end Run

/-! ## The stores read at an index -/

theorem column_tiles (P : Fin 16 → Vec Ideal S128x1 .f32) (r : Fin 128) (h : Fin 16) :
    View.canon (Val := Elt Ideal) (List.ofFn fun j : Fin 16 =>
      (⟨Rect.unit (s := S128x16) ![0, j.rev.val] S128x1.size (inLse j.rev), P j.rev⟩ : View.Piece (Elt Ideal) S128x16 .f32))
      (ix2 r h) = P h (ix2 r 0) := by
  refine View.canon_ofFn_unit_eq_of_forall (Val := Elt Ideal) (S := S128x16) (fun j : Fin 16 => ![0, j.rev.val]) S128x1.size (fun j => inLse j.rev)
    (fun j => P j.rev) (ix2 r h) _ ⟨h.rev, fun a => ?_⟩ fun j u hu => ?_
  · match a with
    | ⟨0, _⟩ => exact ⟨Nat.zero_le _, by show r.val < 0 + 128; omega⟩
    | ⟨1, _⟩ =>
      rw [Fin.rev_rev]
      exact ⟨by show h.val ≤ h.val; omega, by show h.val < h.val + 1; omega⟩
  · have h0 : r.val = 0 + (u 0).val := hu 0
    have h1 : h.val = j.rev.val + (u 1).val := hu 1
    have u1 : (u 1).val < 1 := (u 1).isLt
    obtain rfl : j.rev = h := Fin.ext (by omega)
    refine congrArg (P j.rev) (funext fun a => ?_)
    match a with
    | ⟨0, _⟩ => exact Fin.ext (by show (u 0).val = r.val; omega)
    | ⟨1, _⟩ => exact Fin.ext (by show (u 1).val = 0; omega)

variable (m : (ℓ : Loc nD τ sig) → Buf (Elt Ideal) ℓ) (c : Dev nD) (t : Fin cfg0.N)

/-- The tiles a point reads, and its number as a word. -/
abbrev tiles : Tiles Ideal := parts (iblk m c 0 t) (iblk m c 1 t) (iblk m c 2 t) (iblk m c 3 t)
abbrev number : BitVec 32 := BitVec.ofNat 32 (grid0.coords t 0).val

theorem att_at (r : Fin 128) (x : Fin 1024) : (outsAt0 m c t).1 (ix2 r x)
    = attended (tiles m c t) (number t) (tileOf (n := 8) x) (ix2 r (laneOf (n := 8) x)) := by
  unfold outsAt0 out0_A_4
  dsimp only
  rw [View.read_writes_junk_eq_canon, stored_att, loads_eq]
  exact wide_tiles (e := .bf16) (fun j => attended (tiles m c t) (number t) j) r x

theorem logs_at (r : Fin 128) (h : Fin 16) : (outsAt0 m c t).2 (ix2 r h)
    = logarithms (tiles m c t) (number t) ⟨h.val / 8, by omega⟩ ⟨h.val % 8, by omega⟩ (ix2 r 0) := by
  unfold outsAt0 out0_A_5
  dsimp only
  rw [View.read_writes_junk_eq_canon, stored_logs, loads_eq]
  exact column_tiles (fun h => logarithms (tiles m c t) (number t) ⟨h.val / 8, by omega⟩ ⟨h.val % 8, by omega⟩) r h

end Cert.AttnFwdIdeal.Body

end
-- ==== Proof.AttendHost.lean ====
/- The attention's forward call: the arrays it gets, what its tiles hold, and its two results. -/
module

public import proofs.«01_k».proof.Proof.AttendTiles
public import proofs.«01_k».proof.Proof.AttnHost
public import proofs.«01_k».proof.Proof.AttnResults

@[expose] public section

set_option maxRecDepth 16384

noncomputable section

open Idealize.ShloMosaic Idealize.ShloMosaic.TcCoe Idealize.SL.Sem
open Idealize.ShloMosaic.Tactic
open Cert.AttnRefIdeal.Attention (argQ argK argSink)

namespace Cert.AttnFwdIdeal.Body

open Cert.AttnFwdIdeal Cert.AttnFwdIdeal.Gen
open Cert.AttnIdeal.Body (Arguments Numbers Tiles row laneAt earlier blockWord half tileAt sideOf keyOf headAt dimAt headOf blockOf within index2 tile_at
  flat_at flat_sink keyed Values attended_apply logarithms_apply inWide inNarrow inSink)

variable (m : (ℓ : Loc nD τ sig) → Buf (Elt Ideal) ℓ) (c : Dev nD)

/-! ## The arrays -/

theorem queries_read : V m c main_v5 = truncf (F := Ideal) .bf16 (shapeCast S8192x1024 (m ((c : Thread nD τ).loc main_arg0)) shapeCasts_S1x8192x1024_S8192x1024) bitsLt_bf16_f32 := by
  entry_read
  all_goals rfl

theorem band_read : V m c main_v3 = truncf (F := Ideal) .bf16 (concatenate S8192x256 1 [⟨S8192x128, shapeCast S8192x128 (m ((c : Thread nD τ).loc main_arg1)) shapeCasts_S1x8192x128_S8192x128⟩,
    ⟨S8192x128, shapeCast S8192x128 (m ((c : Thread nD τ).loc main_arg2)) shapeCasts_S1x8192x128_S8192x128⟩] concatenates_S8192x128_S8192x128_S8192x256_d1) bitsLt_bf16_f32 := by
  entry_read
  all_goals rfl

theorem sinks_read : V m c main_v6 = shapeCast S1x16 (m ((c : Thread nD τ).loc main_arg3)) shapeCasts_S16_S1x16 := by
  entry_read
  all_goals rfl

/-! ## The blocks -/

theorem idx : ∀ t : Fin cfg0.N, win0_0.index t = ![0, 0] ∧ win0_1.index t = ![t.val, 0] ∧ win0_2.index t = ![t.val, 0] ∧ win0_3.index t = ![t.val - 1, 0]
    ∧ win0_4.index t = ![t.val, 0] ∧ win0_5.index t = ![t.val, 0] ∧ (grid0.coords t 0).val = t.val := by
  decide +kernel

theorem below64 (t : Fin cfg0.N) : t.val < 64 := lt_of_lt_of_eq t.isLt N_0

/-- A point's block of queries. -/
abbrev blk (t : Fin cfg0.N) : Fin 64 := ⟨t.val, below64 t⟩

variable (t : Fin cfg0.N)

/-- A window's block is a part of its array. -/
theorem part (w : Fin cfg0.W) (Y : ((Pipeline.arrRef spec0 w).ty.shape.Idx → Elt Ideal (Pipeline.arrRef spec0 w).ty.elt)) (hY : V m c (Pipeline.arrRef spec0 w) = Y) (i) :
    iblk m c w t i = ((cfg0.win w).blk t).view.read (Elt Ideal) Y i := by
  subst hY
  rfl

theorem sink_place (x : Fin 16) : (win0_0.blk t).view.emb (ix2 0 x) = ix2 0 x :=
  index2 (Nat.lt_one_iff.1 ((win0_0.blk t).view.emb (ix2 0 x) 0).isLt) (by blk_point [idx t])

theorem query_place (r : Fin 128) (x : Fin 1024) : (win0_1.blk t).view.emb (ix2 r x) = ix2 (row (blk t) r) x :=
  index2 ((by blk_point [idx t] : ((win0_1.blk t).view.emb (ix2 r x) 0).val = t.val * 128 + r.val).trans (congrArg (· + r.val) (Nat.mul_comm _ _))) (by blk_point [idx t])

theorem current_place (r : Fin 128) (x : Fin 256) : (win0_2.blk t).view.emb (ix2 r x) = ix2 (row (blk t) r) x :=
  index2 ((by blk_point [idx t] : ((win0_2.blk t).view.emb (ix2 r x) 0).val = t.val * 128 + r.val).trans (congrArg (· + r.val) (Nat.mul_comm _ _))) (by blk_point [idx t])

theorem previous_place (r : Fin 128) (x : Fin 256) : (win0_3.blk t).view.emb (ix2 r x) = ix2 (row (earlier (blk t)) r) x :=
  index2 ((by blk_point [idx t] : ((win0_3.blk t).view.emb (ix2 r x) 0).val = (t.val - 1) * 128 + r.val).trans (congrArg (· + r.val) (Nat.mul_comm _ _))) (by blk_point [idx t])

theorem sink_block (x : Fin 16) (Y : FVec Ideal S1x16 .f32) (hY : V m c main_v6 = Y) :
    (iblk m c 0 t : FVec Ideal S1x16 .f32) (ix2 0 x) = Y (ix2 0 x) :=
  (part m c t 0 Y hY (ix2 0 x)).trans (congrArg Y (sink_place t x))

theorem query_block (r : Fin 128) (x : Fin 1024) (Y : FVec Ideal S8192x1024 .bf16) (hY : V m c main_v5 = Y) :
    (iblk m c 1 t : FVec Ideal S128x1024 .bf16) (ix2 r x) = Y (ix2 (row (blk t) r) x) :=
  (part m c t 1 Y hY (ix2 r x)).trans (congrArg Y (query_place t r x))

theorem current_block (r : Fin 128) (x : Fin 256) (Y : FVec Ideal S8192x256 .bf16) (hY : V m c main_v3 = Y) :
    (iblk m c 2 t : FVec Ideal S128x256 .bf16) (ix2 r x) = Y (ix2 (row (blk t) r) x) :=
  (part m c t 2 Y hY (ix2 r x)).trans (congrArg Y (current_place t r x))

theorem previous_block (r : Fin 128) (x : Fin 256) (Y : FVec Ideal S8192x256 .bf16) (hY : V m c main_v3 = Y) :
    (iblk m c 3 t : FVec Ideal S128x256 .bf16) (ix2 r x) = Y (ix2 (row (earlier (blk t)) r) x) :=
  (part m c t 3 Y hY (ix2 r x)).trans (congrArg Y (previous_place t r x))

theorem number_eq : number t = blockWord (blk t) := by
  show BitVec.ofNat 32 (grid0.coords t 0).val = _
  rw [(idx t).2.2.2.2.2.2]

/-! ## What the tiles hold -/

/-- The keys' and the values' entries. -/
theorem entry_at (x y : FVec Ideal S1x8192x128 .f32) (w : Fin 2) (n : Fin 8192) (kv : Fin 2) (d : Fin 64) :
    truncf (F := Ideal) .bf16 (concatenate S8192x256 1 [⟨S8192x128, shapeCast S8192x128 x shapeCasts_S1x8192x128_S8192x128⟩,
      ⟨S8192x128, shapeCast S8192x128 y shapeCasts_S1x8192x128_S8192x128⟩] concatenates_S8192x128_S8192x128_S8192x256_d1) bitsLt_bf16_f32
        (ix2 n ⟨128 * w.val + (half kv d).val, by omega⟩) = (if w = 0 then x else y) (ix3 0 n (half kv d)) := by
  pointwise
  obtain rfl | rfl : w = 0 ∨ w = 1 := by omega
  · rw [dif_pos (by show 128 * 0 + (64 * kv.val + d.val) < 128; omega)]
    exact congrArg (fun l : Fin 128 => x (ix3 0 n l)) (Fin.ext (Nat.zero_add _))
  · rw [dif_neg (by show ¬ (128 * 1 + (64 * kv.val + d.val) < 128); omega)]
    exact congrArg (fun l : Fin 128 => y (ix3 0 n l)) (Fin.ext (by show 128 * 1 + (64 * kv.val + d.val) - 128 = 64 * kv.val + d.val; omega))

theorem previous_tile (w kv : Fin 2) (r : Fin 128) (d : Fin 64) : (tiles m c t).prev w (ix2 r (half kv d))
    = ((if w = 0 then m ((c : Thread nD τ).loc main_arg1) else m ((c : Thread nD τ).loc main_arg2) : FVec Ideal S1x8192x128 .f32))
      (ix3 0 (row (earlier (blk t)) r) (half kv d)) := by
  refine Eq.trans (tile_at (a := 128) (b := 256) (k := 128) (e := .bf16) (iblk m c 3 t : FVec Ideal S128x256 .bf16) (128 * w.val) (inNarrow w) r (half kv d) ⟨128 * w.val + (half kv d).val, by omega⟩ rfl) ?_
  exact (previous_block m c t r _ _ (band_read m c)).trans (entry_at _ _ w _ kv d)

theorem current_tile (w kv : Fin 2) (r : Fin 128) (d : Fin 64) : (tiles m c t).cur w (ix2 r (half kv d))
    = ((if w = 0 then m ((c : Thread nD τ).loc main_arg1) else m ((c : Thread nD τ).loc main_arg2) : FVec Ideal S1x8192x128 .f32))
      (ix3 0 (row (blk t) r) (half kv d)) := by
  refine Eq.trans (tile_at (a := 128) (b := 256) (k := 128) (e := .bf16) (iblk m c 2 t : FVec Ideal S128x256 .bf16) (128 * w.val) (inNarrow w) r (half kv d) ⟨128 * w.val + (half kv d).val, by omega⟩ rfl) ?_
  exact (current_block m c t r _ _ (band_read m c)).trans (entry_at _ _ w _ kv d)

/-- The queries, keys and sinks are the given real numbers. The values are any: the record's place for them repeats the keys. -/
structure Given (A : Arguments) : Prop where
  q : m ((c : Thread nD τ).loc main_arg0) = argQ A
  k : m ((c : Thread nD τ).loc main_arg1) = argK A
  v : A.v = A.k
  sink : m ((c : Thread nD τ).loc main_arg3) = argSink A

/-- A block's numbers, the queries in the places that are not looked at. -/
def numbers (A : Arguments) (n : Fin 64) : Numbers where
  q := (A.base n).q
  ct := (A.base n).q
  out := (A.base n).q
  band := A.band n
  lse _ _ := 0
  sink := A.sink

variable {m c} {A : Arguments} (G : Given m c A)
include G

theorem query_tile (h : Fin 16) (r : Fin 128) (d : Fin 64) : (tiles m c t).q (tileAt h) (ix2 r (half (sideOf h) d)) = ((A.base (blk t)).q h r d : EReal) := by
  refine Eq.trans (tile_at (a := 128) (b := 1024) (k := 128) (e := .bf16) (iblk m c 1 t : FVec Ideal S128x1024 .bf16) (128 * (tileAt h).val) (inWide (tileAt h)) r (half (sideOf h) d) (laneAt h d)
    (by show 64 * h.val + d.val = 128 * (h.val / 2) + (64 * (h.val % 2) + d.val); omega)) ?_
  refine (query_block m c t r (laneAt h d) _ (queries_read m c)).trans ((flat_at _ _ _).trans ?_)
  rw [G.q]
  rfl

theorem holds : (keyed (tiles m c t)).Holds (numbers A (blk t)) where
  q h r d := query_tile t G h r d
  ct h r d := query_tile t G h r d
  out h r d := query_tile t G h r d
  prev w kv r d := by
    refine (previous_tile m c t 0 kv r d).trans ?_
    rw [if_pos rfl, G.k]
    show _ = ((A.band _ w kv _ d : ℝ) : EReal)
    unfold Arguments.band
    rw [dif_pos r.isLt, G.v, ite_self]
    rfl
  cur w kv r d := by
    refine (current_tile m c t 0 kv r d).trans ?_
    rw [if_pos rfl, G.k]
    show _ = ((A.band _ w kv _ d : ℝ) : EReal)
    unfold Arguments.band
    rw [dif_neg (show ¬ (128 + r.val < 128) by omega), G.v, ite_self]
    exact congrArg (fun y : Fin 128 => ((A.k (row (blk t) y) (half kv d) : ℝ) : EReal)) (Fin.ext (by dsimp only; omega))
  lse h r := Ideal.ofBits_zero_f32
  sink h := by
    have e : (Shape.Idx.first (numel1_S1x1.symm ▸ Nat.one_pos) : S1x1.Idx) = ix2 0 0 := by
      refine funext fun a => Fin.ext ?_
      fin_cases a <;> exact Nat.lt_one_iff.1 (Fin.isLt _)
    have f := tile_at (a := 1) (b := 16) (k := 1) (e := .f32) (iblk m c 0 t : FVec Ideal S1x16 .f32) h.val (inSink h) 0 0 h (Nat.add_zero h.val).symm
    rw [← e] at f
    refine f.trans ((sink_block m c t h _ (sinks_read m c)).trans ((flat_sink _ _).trans ?_))
    rw [G.sink]
    rfl

omit G in
/-- The band of values that a block sees: the block before, then its own. -/
def valuesOf (v : FVec Ideal S1x8192x128 .f32) (n : Fin 64) (kv : Fin 2) (J : Fin 256) (d : Fin 64) : EReal :=
  v (ix3 0 (if h : J.val < 128 then row (earlier n) ⟨J.val, h⟩ else row n ⟨J.val - 128, by omega⟩) (half kv d))

omit G in
theorem values : Values (tiles m c t) (valuesOf (m ((c : Thread nD τ).loc main_arg2)) (blk t)) where
  prev kv r d := by
    refine (previous_tile m c t 1 kv r d).trans ?_
    unfold valuesOf
    rw [if_neg (by decide), dif_pos r.isLt]
  cur kv r d := by
    refine (current_tile m c t 1 kv r d).trans ?_
    unfold valuesOf
    rw [if_neg (by decide), dif_neg (show ¬ (128 + r.val < 128) by omega)]
    exact congrArg (fun y : Fin 128 => m ((c : Thread nD τ).loc main_arg2) (ix3 0 (row (blk t) y) (half kv d))) (Fin.ext (by dsimp only; omega))

/-! ## The results -/

omit G in
/-- A query's sum of the values, each with the softmax's weight. -/
def weighted (A : Arguments) (v : FVec Ideal S1x8192x128 .f32) (n : Fin 64) (h : Fin 16) (r : Fin 128) (d : Fin 64) : EReal :=
  ∑ J, (A.prob n h r J : EReal) * valuesOf v n (keyOf h) J d

omit G in
/-- The attention and the logarithms of its denominators, as arrays. -/
def resultAtt (A : Arguments) (v : FVec Ideal S1x8192x128 .f32) : FVec Ideal S8192x1024 .bf16 :=
  fun i => weighted A v (blockOf (i 0)) (headAt (i 1)) (within (i 0)) (dimAt (i 1))
omit G in
def resultLog (A : Arguments) : FVec Ideal S8192x16 .f32 := fun i => (Real.log (A.den (blockOf (i 0)) (i 1) (within (i 0))) : EReal)

theorem att_value (r : Fin 128) (x : Fin 1024) : (outsAt0 m c t).1 (ix2 r x) = weighted A (m ((c : Thread nD τ).loc main_arg2)) (blk t) (headAt x) r (dimAt x) := by
  rw [att_at m c t r x, number_eq, attended_apply (holds t G) rfl rfl rfl (values t)]
  rfl

theorem log_value (r : Fin 128) (h : Fin 16) : (outsAt0 m c t).2 (ix2 r h) = (Real.log (A.den (blk t) h r) : EReal) := by
  rw [logs_at m c t r h, number_eq]
  refine (logarithms_apply (holds t G) rfl rfl rfl _ _ r).trans ?_
  rw [
    show headOf ⟨h.val / 8, by omega⟩ ⟨h.val % 8, by omega⟩ = h from Fin.ext (by show 8 * (h.val / 8) + h.val % 8 = h.val; omega)]

theorem final_att : (dats m 0 c).arrAt 4 cfg0.N = resultAtt A (m ((c : Thread nD τ).loc main_arg2)) := by
  refine (dats m 0 c).arrAt_eq_of_covers 4 _ (by decide +kernel) fun t hf y => ?_
  blk_simp
  rw [after0_4]
  have e0 : ((win0_4.blk t).view.emb y 0).val = t.val * 128 + (y 0).val := by blk_point [idx t]
  have e1 : ((win0_4.blk t).view.emb y 1).val = (y 1).val := by blk_point [idx t]
  refine (congrArg (outsAt0 m c t).1 (index2 (r := y 0) (x := y 1) rfl rfl)).trans ((att_value t G (y 0) (y 1)).trans ?_)
  unfold resultAtt
  generalize (win0_4.blk t).view.emb y = i at e0 e1
  have y0 : (y 0).val < 128 := (y 0).isLt
  rw [show blockOf (i 0) = blk t from Fin.ext (by dsimp only; omega), show within (i 0) = y 0 from Fin.ext (by dsimp only; omega), show i 1 = y 1 from Fin.ext e1]

theorem final_log : (dats m 0 c).arrAt 5 cfg0.N = resultLog A := by
  refine (dats m 0 c).arrAt_eq_of_covers 5 _ (by decide +kernel) fun t hf y => ?_
  blk_simp
  rw [after0_5]
  have e0 : ((win0_5.blk t).view.emb y 0).val = t.val * 128 + (y 0).val := by blk_point [idx t]
  have e1 : ((win0_5.blk t).view.emb y 1).val = (y 1).val := by blk_point [idx t]
  refine (congrArg (outsAt0 m c t).2 (index2 (r := y 0) (x := y 1) rfl rfl)).trans ((log_value t G (y 0) (y 1)).trans ?_)
  unfold resultLog
  generalize (win0_5.blk t).view.emb y = i at e0 e1
  have y0 : (y 0).val < 128 := (y 0).isLt
  rw [show blockOf (i 0) = blk t from Fin.ext (by dsimp only; omega), show within (i 0) = y 0 from Fin.ext (by dsimp only; omega), show i 1 = y 1 from Fin.ext e1]

end Cert.AttnFwdIdeal.Body

end
-- ==== Proof.AttendEquation.lean ====
/- The attention's forward call: frames, and that kernel and reference leave the same arrays. -/
module

public import proofs.«01_k».proof.Defs
public import proofs.«01_k».proof.Proof.AttendHost
public import proofs.«01_k».proof.Proof.AttnEquation
public import proofs.«01_k».proof.Proof.Finite
public import proofs.«01_k».proof.Proof.Gen.AttnFwd
public import proofs.«01_k».proof.Proof.Gen.AttnFwd.Frame
public import proofs.«01_k».proof.Proof.Gen.AttnFwdIdeal.Value
public import proofs.«01_k».proof.Proof.Gen.Pre_attn_fwd_finite
public import proofs.«01_k».proof.Proof.Gen.AttnFwdRefIdeal.Read

@[expose] public section

set_option maxRecDepth 65536

noncomputable section

open Idealize.ShloMosaic Idealize.ShloMosaic.TcCoe Idealize.SL.Sem

namespace Cert.AttendEquation

open Cert.AttnIdeal.Body Cert.AttnRefIdeal.Attention
open Cert.AttnFwdIdeal.Body (resultAtt resultLog weighted valuesOf)

/-! ## The reference's results: the lines the gradient's reference begins with -/

section Reference
variable (A : Arguments)

theorem same_att (v : FVec Ideal Cert.AttnRefIdeal.S1x8192x128 .f32) : Cert.AttnFwdRefIdeal.Read.val_main_v99 (F := Ideal) (argQ A) (argK A) v (argSink A)
    = Cert.AttnRefIdeal.Read.val_main_v127 (F := Ideal) (argQ A) (argK A) v (argSink A) := rfl

theorem same_top : Cert.AttnFwdRefIdeal.Read.val_main_v84 (F := Ideal) (argQ A) (argK A) (argSink A)
    = Cert.AttnRefIdeal.Read.val_main_v91 (F := Ideal) (argQ A) (argK A) (argSink A) := rfl

theorem same_denominator : Cert.AttnFwdRefIdeal.Read.val_main_v94 (F := Ideal) (argQ A) (argK A) (argSink A)
    = Cert.AttnRefIdeal.Read.val_main_v119 (F := Ideal) (argQ A) (argK A) (argSink A) := rfl

theorem weighted_at (v : FVec Ideal Cert.AttnRefIdeal.S1x8192x128 .f32) (n : Fin 64) (kv : Fin 2) (g : Fin 8) (r : Fin 128) (d : Fin 64) :
    Cert.AttnRefIdeal.Read.val_main_v125 (F := Ideal) (argQ A) (argK A) v (argSink A) (ix6 0 n kv d g r) = weighted A v n (headOf kv g) r d := by
  rw [Cert.AttnRefIdeal.Read.val_main_v125_apply]
  unfold weighted
  refine Finset.sum_congr rfl fun J _ => ?_
  refine Eq.trans (congrArg₂ (fun a b : EReal => a * b) (congrArg _ (funext fun a => by fin_cases a <;> rfl : _ = ix5 0 n J kv d)) (congrArg _ (funext fun a => by fin_cases a <;> rfl : _ = ix6 0 n kv g r J))) ?_
  rw [v121_at, keyOf_headOf]
  by_cases k : J.val < 128 ∧ n.val = 0
  · rw [unseen_prob A n r _ k, EReal.coe_zero, zero_mul, mul_zero]
  · rw [mul_comm, v15_at, v9_at]
    unfold valuesOf
    by_cases h : J.val < 128
    · rw [dif_pos h, dif_pos h, if_neg fun e => k ⟨h, e⟩]
    · rw [dif_neg h, dif_neg h]

theorem v127_weighted (v : FVec Ideal Cert.AttnRefIdeal.S1x8192x128 .f32) (n : Fin 64) (kv : Fin 2) (g : Fin 8) (r : Fin 128) (d : Fin 64) :
    Cert.AttnRefIdeal.Read.val_main_v127 (F := Ideal) (argQ A) (argK A) v (argSink A) (ix3 0 (row n r) (laneAt (headOf kv g) d))
      = weighted A v n (headOf kv g) r d := by
  rw [← weighted_at]
  unfold Cert.AttnRefIdeal.Read.val_main_v127 Cert.AttnRefIdeal.Read.val_main_v126
  exact merged_at n kv g r _ d

theorem reference_att (v : FVec Ideal Cert.AttnRefIdeal.S1x8192x128 .f32) : Cert.AttnFwdRefIdeal.Read.val_main_v105 (F := Ideal) (argQ A) (argK A) v (argSink A) = resultAtt A v := by
  funext i
  obtain ⟨kv, g, d, e, eh, ed⟩ := heads (i 1)
  refine (congrArg _ (index2 (congrArg Fin.val (rows (i 0))) (congrArg Fin.val e))).trans ?_
  unfold Cert.AttnFwdRefIdeal.Read.val_main_v105 Cert.AttnFwdRefIdeal.Read.val_main_v104 resultAtt
  rw [same_att, eh, ed]
  exact (flat_at _ _ _).trans (v127_weighted A v (blockOf (i 0)) kv g (within (i 0)) d)

theorem reference_log : Cert.AttnFwdRefIdeal.Read.val_main_v106 (F := Ideal) (argQ A) (argK A) (argSink A) = resultLog A := by
  funext i
  have i1 : (i 1).val < 16 := (i 1).isLt
  have e : i 1 = headOf ⟨(i 1).val / 8, by omega⟩ ⟨(i 1).val % 8, by omega⟩ := Fin.ext (by show (i 1).val = _; dsimp only; omega)
  refine (congrArg _ (index2 (congrArg Fin.val (rows (i 0))) (congrArg Fin.val e))).trans ?_
  unfold Cert.AttnFwdRefIdeal.Read.val_main_v106 Cert.AttnFwdRefIdeal.Read.val_main_v103 Cert.AttnFwdRefIdeal.Read.val_main_v102
    Cert.AttnFwdRefIdeal.Read.val_main_v101 Cert.AttnFwdRefIdeal.Read.val_main_v100 resultLog
  rw [same_top, same_denominator]
  refine (lse_at _ _ (blockOf (i 0)) (within (i 0)) _ _).trans ?_
  rw [v91_at, v119_at, Ideal.log_coe, if_neg (not_le.2 (A.lowDen_pos _ _ _ _)), ← EReal.coe_add, A.log_low, ← e]

end Reference

/-! ## Frames -/

theorem kernel_frame : Cert.quiescent_AttnFwd (hAttnFwd := Cert.AttnFwd.Gen.facts) := fun m ρ _ => Cert.AttnFwd.Gen.frame m ρ

theorem ideal_frame : Cert.quiescent_AttnFwdIdeal (hAttnFwdIdeal := Cert.AttnFwdIdeal.Gen.facts) := fun m ρ _ => Cert.AttnFwdIdeal.Gen.frame m ρ

theorem reference_frame : Cert.quiescent_AttnFwdRefIdeal (hAttnFwdRefIdeal := Cert.AttnFwdRefIdeal.Gen.facts) :=
  fun m ρ _ => (θ_run Cert.AttnFwdRefIdeal.defs _ _).mono
    (fun r h => ⟨fun c => (h c).2.2, Idealize.ShloMosaic.sem_eq_zero_of_no_sems (by decide) r.2⟩)
    (Cert.AttnFwdRefIdeal.Value.run (F := Ideal) m ρ)

/-! ## The two programs agree -/

open Cert.AttnFwdIdeal

/-- Finite queries, keys and sinks are real numbers: the gradient's lemma, with the queries in the cotangent's place and the keys in the values'. -/
theorem real_arguments (q : FVec Ideal S1x8192x1024 .f32) (k v : FVec Ideal S1x8192x128 .f32) (sink : FVec Ideal S16 .f32)
    (h : Cert.Pre_attn_fwd_finite.fn (F := Ideal) q k v sink = fun _ => 1#1) :
    ∃ A : Arguments, q = argQ A ∧ k = argK A ∧ A.v = A.k ∧ sink = argSink A := by
  have e := congrFun h fun i => i.elim0
  dsimp only [Cert.Pre_attn_fwd_finite.fn, andi] at e
  obtain ⟨A, eq, ek, -, es, -⟩ := Cert.AttnEquation.attn_real q q k k sink (funext fun i => by
    rw [show i = fun i => i.elim0 from funext fun i => i.elim0]
    dsimp only [Cert.Pre_attn_finite.fn, Cert.Pre_attn_finite.fn_part1, andi]
    obtain ⟨e12, e3⟩ := IntOp.andi_eq_one.1 e
    have e2 := (IntOp.andi_eq_one.1 e12).2
    have e1 := (IntOp.andi_eq_one.1 e12).1
    exact IntOp.andi_eq_one.2 ⟨IntOp.andi_eq_one.2 ⟨IntOp.andi_eq_one.2 ⟨e12, e2⟩, e3⟩, e1⟩)
  exact ⟨{ A with v := A.k }, eq, ek, rfl, es⟩

theorem attn_fwd_algebraic : Cert.algebraic_AttnFwdIdeal_AttnFwdRefIdeal_pre_attn_fwd_finite (hAttnFwdIdeal := Cert.AttnFwdIdeal.Gen.facts)
    (hAttnFwdRefIdeal := Cert.AttnFwdRefIdeal.Gen.facts) (hPre_attn_fwd_finite := Cert.Pre_attn_fwd_finite.Gen.facts) := by
  intro m g m' g' hpre hargs
  refine ⟨_, _, Cert.AttnFwdIdeal.Value.run_blocks m g, ?_⟩
  refine (θ_run (Cert.AttnFwdRefIdeal.defs (F := Ideal)) _ _).mono (fun r h c => ?_) (Cert.AttnFwdRefIdeal.Value.run (F := Ideal) m' g')
  obtain ⟨ha, hl, kept⟩ := h c
  obtain ⟨A, eq, ek, ev, es⟩ := real_arguments _ _ _ _ (hpre c)
  have G : Cert.AttnFwdIdeal.Body.Given m c A := ⟨eq, ek, ev, es⟩
  obtain ⟨a0, a1, a2, a3⟩ := hargs c
  refine ⟨Eq.trans (ha.trans ?_) (Cert.AttnFwdIdeal.Body.final_att G).symm, Eq.trans (hl.trans ?_) (Cert.AttnFwdIdeal.Body.final_log G).symm, kept⟩
  · rw [Cert.AttnFwdRefIdeal.Read.val_main_v105_eq, a0.trans eq, a1.trans ek, a3.trans es, a2]
    exact reference_att A _
  · rw [Cert.AttnFwdRefIdeal.Read.val_main_v106_eq, a0.trans eq, a1.trans ek, a3.trans es]
    exact reference_log A

end Cert.AttendEquation

end
-- ==== Proof.PoolForwardSums.lean ====
/-
  What the pooling's forward call leaves, row by row: the mean of the last rows less the row itself, and its mixing
  within each group of columns. Also how differences of running sums give the sum of the last rows.
-/
module

public import proofs.«01_k».proof.Proof.PoolSums
public import Mathlib.Data.EReal.Operations
public import Mathlib.Algebra.BigOperators.Intervals

@[expose] public section

noncomputable section

namespace Pool

/-- The row `j` places before row `n`; before the first row there is nothing. -/
def back (f : ℕ → EReal) (n j : ℕ) : EReal := if j ≤ n then f (n - j) else 0

/-- A column of an array of rows, continued by zeros. -/
def column (z : Fin 8192 → Fin 512 → EReal) (l : Fin 512) (n : ℕ) : EReal := if h : n < 8192 then z ⟨n, h⟩ l else 0

/-- The pooled value of group `g`'s column `l` at row `n`: the mean of the last rows less the row itself. -/
def pooled (z : Fin 8192 → Fin 512 → EReal) (g : Fin 4) (l : Fin 128) (n : ℕ) : EReal :=
  (∑ j ∈ Finset.range (win g), back (column z ⟨128 * g.val + l.val, by omega⟩) n j) * ((1 / ((min (n + 1) (win g) : ℕ) : ℝ) : ℝ) : EReal)
    - column z ⟨128 * g.val + l.val, by omega⟩ n

/-- The pooled values mixed within their group and scaled. -/
def mixed (z : Fin 8192 → Fin 512 → EReal) (w : Fin 4 → Fin 128 → Fin 128 → EReal) (s : Fin 512 → EReal) (g : Fin 4) (l : Fin 128) (n : ℕ) : EReal :=
  (∑ k : Fin 128, pooled z g k n * w g k l) * s ⟨128 * g.val + l.val, by omega⟩

/-- The sum of real numbers among the extended reals is the sum of the real numbers. -/
theorem coe_sum_range (f : ℕ → ℝ) (n : ℕ) : ∑ k ∈ Finset.range n, (f k : EReal) = ((∑ k ∈ Finset.range n, f k : ℝ) : EReal) := by
  induction n with
  | zero => simp
  | succ n ih => rw [Finset.sum_range_succ, Finset.sum_range_succ, ih, EReal.coe_add]

/-- The running sum up to row `n` less the one `W` rows earlier is the sum of the last `W` rows. -/
theorem last_rows (f : ℕ → EReal) (hf : ∀ n, ∃ r : ℝ, f n = r) (n W : ℕ) :
    (∑ k ∈ Finset.range (n + 1), f k) - (∑ k ∈ Finset.range (n + 1 - W), f k) = ∑ j ∈ Finset.range W, back f n j := by
  choose a ha using hf
  obtain rfl : f = fun n => (a n : EReal) := funext ha
  have e : ∀ j, back (fun n => (a n : EReal)) n j = ((if j ≤ n then a (n - j) else 0 : ℝ) : EReal) := fun j => by
    unfold back; split_ifs <;> rfl
  rw [coe_sum_range, coe_sum_range, Finset.sum_congr rfl fun j _ => e j, coe_sum_range, ← EReal.coe_sub]
  congr 1
  rw [sub_eq_iff_eq_add]
  induction W with
  | zero => simp
  | succ W ih =>
    rw [ih, Finset.sum_range_succ, add_assoc]
    congr 1
    split_ifs with h
    · rw [show n + 1 - W = (n - W) + 1 by omega, Finset.sum_range_succ, show n + 1 - (W + 1) = n - W by omega, add_comm]
    · rw [show n + 1 - W = 0 by omega, show n + 1 - (W + 1) = 0 by omega]; simp

end Pool

end
-- ==== Proof.PoolForwardRows.lean ====
/-
  The rows of one block of the pooling's forward call: the sixteen rows before the block are joined to it, windows are
  doubled by adding the rows further up, and each group of columns is mixed by its own matrix.
-/
module

public import proofs.«01_k».proof.Proof.Gen.PoolFwdIdeal.Value
public import Idealize.ShloMosaic.Lib.Pipeline.ValueKit
public import Idealize.ShloMosaic.Lib.Pointwise
public import Idealize.ShloMosaic.Lib.KernelVsHost
public import Idealize.ShloMosaic.Lib.IdealHost
public import proofs.«01_k».proof.Proof.PoolForwardSums
public import proofs.«01_k».proof.Proof.PoolRows

@[expose] public section

set_option maxRecDepth 16384

noncomputable section

open Idealize.ShloMosaic Idealize.ShloMosaic.TcCoe Idealize.SL.Sem

namespace Cert.PoolFwdIdeal.Rows

open Cert.PoolFwdIdeal Cert.PoolFwdIdeal.Gen
open Cert.KernelIdeal.Pool (div_min two_f32 four_f32 eight_f32 sixteen_f32)

/-! ## Windows by doubling -/

/-- A rotation of the rows by `k` reads `k` rows further up. -/
theorem up_apply (k : ℕ) (x : FVec Ideal S1040x512 .f32) (r : Fin 1040) (l : Fin 512) (h : k ≤ r.val) :
    dynamicRotate 0 (BitVec.ofNat 32 k) none x rotates_S1040x512_d0 (ix2 r l) = x (ix2 ⟨r.val - k, by omega⟩ l) := by
  have hr := r.isLt
  have h32 : (BitVec.ofNat 32 k).toNat = k := by rw [BitVec.toNat_ofNat]; omega
  refine dynamicRotate_apply 0 _ x _ _ _ fun b => ?_
  fin_cases b
  · change r.val - k = (r.val + 1040 - (BitVec.ofNat 32 k).toNat % 1040) % 1040
    rw [h32]; omega
  · rfl

/-- A column's windows of `k` rows, ending at each row that has so many before it. -/
def Sums (f : ℕ → EReal) (l : Fin 512) (k : ℕ) (x : FVec Ideal S1040x512 .f32) : Prop :=
  ∀ r : Fin 1040, k ≤ r.val + 1 → x (ix2 r l) = ∑ j ∈ Finset.range k, f (r.val - j)

theorem Sums.twice {f : ℕ → EReal} {l : Fin 512} {k : ℕ} {x : FVec Ideal S1040x512 .f32} (hx : Sums f l k x) (hk : 0 < k) :
    Sums f l (2 * k) (addf x (dynamicRotate 0 (BitVec.ofNat 32 k) none x rotates_S1040x512_d0)) := by
  intro r h
  have e : addf x (dynamicRotate 0 (BitVec.ofNat 32 k) none x rotates_S1040x512_d0) (ix2 r l)
      = x (ix2 r l) + dynamicRotate 0 (BitVec.ofNat 32 k) none x rotates_S1040x512_d0 (ix2 r l) := rfl
  rw [e, up_apply k x r l (by omega), hx r (by omega), hx _ (by dsimp only; omega), two_mul, Finset.sum_range_add]
  simp only [Nat.sub_sub]

/-- The block with the rows before it. -/
def joined (i : grid0.Coords) (x1 : FVec Ideal S16x512 .f32) (x0 : FVec Ideal S1024x512 .f32) : FVec Ideal S1040x512 .f32 :=
  concatenate S1040x512 0 [⟨S16x512, Scalar.select (Scalar.cmpi .sgt (BitVec.ofNat 32 (i 0).val) 0#32) (shapeCast S16x512 x1 shapeCasts_S16x512_S16x512)
    (broadcast S16x512 (Scalar.ofBits (F := Ideal) .f32 0x00000000#32))⟩, ⟨S1024x512, k0_pay5 x0⟩] concatenates_S16x512_S1024x512_S1040x512_d0

theorem joined_apply (i : grid0.Coords) (x1 : FVec Ideal S16x512 .f32) (x0 : FVec Ideal S1024x512 .f32) (r : Fin 1040) (l : Fin 512) :
    joined i x1 x0 (ix2 r l) = if h : r.val < 16 then (if 0 < (i 0).val then x1 (ix2 ⟨r.val, h⟩ l) else 0) else x0 (ix2 ⟨r.val - 16, by omega⟩ l) := by
  unfold joined k0_pay5
  pointwise
  have h8 : (i 0).val < 8 := (i 0).isLt
  generalize (i 0).val = n at h8 ⊢
  split_ifs <;> first | rfl | (interval_cases n <;> first | rfl | omega)

section Windows
variable {f : ℕ → EReal} {l : Fin 512} {i : grid0.Coords} {x1 : FVec Ideal S16x512 .f32} {x0 : FVec Ideal S1024x512 .f32}

theorem single (h : ∀ r : Fin 1040, joined i x1 x0 (ix2 r l) = f r.val) : Sums f l 1 (joined i x1 x0) := fun r _ => by
  rw [h, Finset.sum_range_one, Nat.sub_zero]

theorem two (h : Sums f l 1 (joined i x1 x0)) : Sums f l 2 (k0_pay6 i x1 x0) := h.twice (by decide)
theorem four (h : Sums f l 1 (joined i x1 x0)) : Sums f l 4 (k0_pay7 i x1 x0) := (two h).twice (by decide)
theorem eight (h : Sums f l 1 (joined i x1 x0)) : Sums f l 8 (k0_pay8 i x1 x0) := (four h).twice (by decide)
theorem sixteen (h : Sums f l 1 (joined i x1 x0)) : Sums f l 16 (k0_pay9 i x1 x0) := (eight h).twice (by decide)

end Windows

/-! ## The counts -/

theorem place_apply (i : grid0.Coords) (r : Fin 1024) :
    k0_pay10 (F := Ideal) i (ix2 r 0) = ((((i 0).val * 1024 + r.val + 1 : ℕ) : ℝ) : EReal) := by
  unfold k0_pay10
  pointwise
  have h8 : (i 0).val < 8 := (i 0).isLt
  generalize (i 0).val = n at h8 ⊢
  have hr := r.isLt
  have e : IntOp.addi (IntOp.addi (Scalar.muli (BitVec.ofNat 32 n) 1024#32) (BitVec.ofNat 32 r.val)) 1#32 = BitVec.ofNat 32 (n * 1024 + r.val + 1) := by
    apply BitVec.eq_of_toNat_eq
    simp [IntOp.addi, Scalar.muli, IntOp.muli]
  rw [e]
  change (((BitVec.ofNat 32 (n * 1024 + r.val + 1)).toInt : ℝ) : EReal) = _
  rw [BitVec.toInt_eq_toNat_of_lt (by rw [BitVec.toNat_ofNat]; omega), BitVec.toNat_ofNat, Nat.mod_eq_of_lt (by omega)]
  norm_cast

/-- One over the number of rows that the window of `W` rows finds, at each row of a block. -/
def Counts (i : grid0.Coords) (W : ℕ) (x : FVec Ideal S1024x1 .f32) : Prop :=
  ∀ r : Fin 1024, x (ix2 r 0) = ((1 / ((min ((i 0).val * 1024 + r.val + 1) W : ℕ) : ℝ) : ℝ) : EReal)

theorem count2 (i : grid0.Coords) : Counts i 2 (k0_pay11 i) := fun r => by
  unfold k0_pay11; pointwise [place_apply]; rw [two_f32, div_min _ _ (by omega) (by omega)]
theorem count4 (i : grid0.Coords) : Counts i 4 (k0_pay12 i) := fun r => by
  unfold k0_pay12; pointwise [place_apply]; rw [four_f32, div_min _ _ (by omega) (by omega)]
theorem count8 (i : grid0.Coords) : Counts i 8 (k0_pay13 i) := fun r => by
  unfold k0_pay13; pointwise [place_apply]; rw [eight_f32, div_min _ _ (by omega) (by omega)]
theorem count16 (i : grid0.Coords) : Counts i 16 (k0_pay14 i) := fun r => by
  unfold k0_pay14; pointwise [place_apply]; rw [sixteen_f32, div_min _ _ (by omega) (by omega)]

/-! ## The four groups -/

section Groups
variable (v6 : FVec Ideal S1024x512 .f32) (s : FVec Ideal S1040x512 .f32) (n : FVec Ideal S1024x1 .f32)
  (w : FVec Ideal S1x128x128 .bf16) (a : FVec Ideal S1x128 .f32) (r : Fin 1024) (l : Fin 128)

theorem mean0 : k0_pay15 v6 s n (ix2 r l) = s (ix2 ⟨16 + r.val, by omega⟩ ⟨l.val, by omega⟩) * n (ix2 r 0) - v6 (ix2 r ⟨l.val, by omega⟩) := by
  unfold k0_pay15; pointwise
theorem mean1 : k0_pay17 v6 s n (ix2 r l) = s (ix2 ⟨16 + r.val, by omega⟩ ⟨128 + l.val, by omega⟩) * n (ix2 r 0) - v6 (ix2 r ⟨128 + l.val, by omega⟩) := by
  unfold k0_pay17; pointwise
theorem mean2 : k0_pay1 (k0_pay19 s n) (k0_pay20 v6) (ix2 r l) = s (ix2 ⟨16 + r.val, by omega⟩ ⟨256 + l.val, by omega⟩) * n (ix2 r 0) - v6 (ix2 r ⟨256 + l.val, by omega⟩) := by
  unfold k0_pay1 k0_pay19 k0_pay20; pointwise
theorem mean3 : k0_pay3 v6 s n (ix2 r l) = s (ix2 ⟨16 + r.val, by omega⟩ ⟨384 + l.val, by omega⟩) * n (ix2 r 0) - v6 (ix2 r ⟨384 + l.val, by omega⟩) := by
  unfold k0_pay3; pointwise

theorem mix0 : k0_pay16 v6 s n w a (ix2 r l) = (∑ k : Fin 128, k0_pay15 v6 s n (ix2 r k) * w (ix3 0 k l)) * a (ix2 0 l) := by
  unfold k0_pay16; generalize k0_pay15 v6 s n = p; pointwise
theorem mix1 : k0_pay18 v6 s n w a (ix2 r l) = (∑ k : Fin 128, k0_pay17 v6 s n (ix2 r k) * w (ix3 0 k l)) * a (ix2 0 l) := by
  unfold k0_pay18; generalize k0_pay17 v6 s n = p; pointwise
theorem mix2 (b d : FVec Ideal S1024x128 .f32) : k0_pay2 b d w a (ix2 r l) = (∑ k : Fin 128, k0_pay1 b d (ix2 r k) * w (ix3 0 k l)) * a (ix2 0 l) := by
  unfold k0_pay2; generalize k0_pay1 b d = p; pointwise
theorem mix3 : k0_pay4 v6 s n w a (ix2 r l) = (∑ k : Fin 128, k0_pay3 v6 s n (ix2 r k) * w (ix3 0 k l)) * a (ix2 0 l) := by
  unfold k0_pay4; generalize k0_pay3 v6 s n = p; pointwise

end Groups

end Cert.PoolFwdIdeal.Rows

end
-- ==== Proof.PoolForwardBlocks.lean ====
/-
  The pooling's forward call on whole arrays: what each block of rows holds, and the two results the blocks leave.
-/
module

public import proofs.«01_k».proof.Proof.PoolForwardRows
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolFwdIdeal.Rows

open Cert.PoolFwdIdeal Cert.PoolFwdIdeal.Gen
open _root_.Pool (back column pooled mixed win)

variable (m : (ℓ : Loc nD τ sig) → Buf (Elt Ideal) ℓ) (c : Dev nD)

/-! ## The arrays the call gets -/

theorem rows_read : V m c main_v0 = shapeCast S8192x512 (m ((c : Thread nD τ).loc main_arg0)) shapeCasts_S1x8192x512_S8192x512 := by
  entry_read
  all_goals rfl
theorem weights_read : V m c main_v1 = truncf (F := Ideal) .bf16 (m ((c : Thread nD τ).loc main_arg1)) bitsLt_bf16_f32 := by
  entry_read
  all_goals rfl
theorem scales_read : V m c main_v2 = shapeCast S1x512 (m ((c : Thread nD τ).loc main_arg2)) shapeCasts_S512_S1x512 := by
  entry_read
  all_goals rfl

/-- The rows, the mixing matrices and the scales as the call's windows read them. -/
def zs : Fin 8192 → Fin 512 → EReal := fun n l => (V m c main_v0 : FVec Ideal S8192x512 .f32) (ix2 n l)
def ws : Fin 4 → Fin 128 → Fin 128 → EReal := fun g k l => (V m c main_v1 : FVec Ideal S4x128x128 .bf16) (ix3 g k l)
def ss : Fin 512 → EReal := fun l => (V m c main_v2 : FVec Ideal S1x512 .f32) (ix2 0 l)

theorem idx : ∀ t : Fin cfg0.N, win0_0.index t = ![t.val, 0] ∧ win0_1.index t = ![64 * t.val - 1, 0] ∧ win0_2.index t = ![0, 0, 0]
    ∧ win0_3.index t = ![0, 0] ∧ win0_4.index t = ![t.val, 0] ∧ win0_5.index t = ![t.val, 0] ∧ (grid0.coords t 0).val = t.val :=
  (by decide +kernel : ∀ t : Fin grid0.N, _)

variable {m c} (t : Fin cfg0.N)

theorem point_lt : t.val < 8 := t.isLt
theorem point_at : (grid0.coords t 0).val = t.val := (idx t).2.2.2.2.2.2

theorem rows0 (r : Fin 1024) (l : Fin 512) (h : t.val * 1024 + r.val < 8192) :
    (iblk m c 0 t : FVec Ideal S1024x512 .f32) (ix2 r l) = (V m c main_v0 : FVec Ideal S8192x512 .f32) (ix2 ⟨t.val * 1024 + r.val, h⟩ l) := by
  blk_ext [iblk, V, idx t]

theorem halo1 (r : Fin 16) (l : Fin 512) (ht : 0 < t.val) (h : t.val * 1024 + r.val - 16 < 8192) :
    (iblk m c 1 t : FVec Ideal S16x512 .f32) (ix2 r l) = (V m c main_v0 : FVec Ideal S8192x512 .f32) (ix2 ⟨t.val * 1024 + r.val - 16, h⟩ l) := by
  have : (64 * t.val - 1) * 16 + r.val = t.val * 1024 + r.val - 16 := by omega
  blk_ext [iblk, V, idx t]

theorem whole2 : (iblk m c 2 t : FVec Ideal S4x128x128 .bf16) = V m c main_v1 := by
  funext j
  blk_ext [iblk, V, idx t]

theorem whole3 : (iblk m c 3 t : FVec Ideal S1x512 .f32) = V m c main_v2 := by
  funext j
  blk_ext [iblk, V, idx t]

/-! ## One block of rows -/

/-- The rows that a block's windows add up, counted from sixteen rows before the block. -/
def upper (z : Fin 8192 → Fin 512 → EReal) (t : ℕ) (l : Fin 512) (n : ℕ) : EReal :=
  if 16 ≤ t * 1024 + n then column z l (t * 1024 + n - 16) else 0

theorem joined_at (l : Fin 512) (r : Fin 1040) : joined (grid0.coords t) (iblk m c 1 t) (iblk m c 0 t) (ix2 r l) = upper (zs m c) t.val l r.val := by
  have ht := point_lt t
  have hr := r.isLt
  rw [joined_apply, point_at]
  unfold upper column zs
  by_cases h : r.val < 16
  · rw [dif_pos h]
    by_cases h0 : 0 < t.val
    · rw [if_pos h0, if_pos (by omega), dif_pos (by omega), halo1 t _ l h0 (by dsimp only; omega)]
    · rw [if_neg h0, if_neg (by omega)]
  · rw [dif_neg h, if_pos (by omega), dif_pos (by omega), rows0 t _ l (by dsimp only; omega)]
    congr 2
    apply Fin.ext
    dsimp only
    omega

/-- The mean of a window's rows less the row itself, from the window's sums and the counts. -/
theorem pooled_at (g : Fin 4) (l : Fin 128) (r : Fin 1024) (s : FVec Ideal S1040x512 .f32) (n : FVec Ideal S1024x1 .f32)
    (hs : Sums (upper (zs m c) t.val ⟨128 * g.val + l.val, by omega⟩) ⟨128 * g.val + l.val, by omega⟩ (win g) s) (hn : Counts (grid0.coords t) (win g) n) :
    s (ix2 ⟨16 + r.val, by omega⟩ ⟨128 * g.val + l.val, by omega⟩) * n (ix2 r 0) - (iblk m c 0 t : FVec Ideal S1024x512 .f32) (ix2 r ⟨128 * g.val + l.val, by omega⟩)
      = pooled (zs m c) g l (t.val * 1024 + r.val) := by
  have ht := point_lt t
  have hr := r.isLt
  have hw : win g ≤ 16 := by fin_cases g <;> decide
  rw [hs _ (by dsimp only; omega), hn, point_at, rows0 t r _ (by omega)]
  unfold pooled
  have e : column (zs m c) ⟨128 * g.val + l.val, by omega⟩ (t.val * 1024 + r.val)
      = (V m c main_v0 : FVec Ideal S8192x512 .f32) (ix2 ⟨t.val * 1024 + r.val, by omega⟩ ⟨128 * g.val + l.val, by omega⟩) := by
    unfold column zs; rw [dif_pos (by omega)]
  rw [e]
  congr 2
  refine Finset.sum_congr rfl fun j hj => ?_
  have hj := Finset.mem_range.mp hj
  unfold upper back
  dsimp only
  by_cases h : j ≤ t.val * 1024 + r.val
  · rw [if_pos (by omega), if_pos h]; congr 1; omega
  · rw [if_neg (by omega), if_neg h]

theorem zero_first (l : Fin 128) : (⟨l.val, by omega⟩ : Fin 512) = ⟨128 * (0 : Fin 4).val + l.val, by omega⟩ := Fin.ext (by simp)

/-- A group and a column within it from a column of the array. -/
theorem group_at {α : Type} (f : Fin 4 → Fin 128 → ℕ → α) (g : Fin 4) (l : Fin 128) (r t y0 y1 : ℕ) (h1 : y1 = 128 * g.val + l.val) (h0 : y0 = r) (p : y1 / 128 < 4) (q : y1 % 128 < 128) :
    f g l (t * 1024 + r) = f ⟨y1 / 128, p⟩ ⟨y1 % 128, q⟩ (t * 1024 + y0) := by
  have e1 : (⟨y1 / 128, p⟩ : Fin 4) = g := Fin.ext (by dsimp only; omega)
  have e2 : (⟨y1 % 128, q⟩ : Fin 128) = l := Fin.ext (by dsimp only; omega)
  rw [e1, e2, h0]

theorem block_rows (x : Vec Ideal S1024x512 .f32) : View.ld (Val := Elt Ideal) (e' := .f32) x r0_1 = x := View.ld_unit_lit _ x (by decide)
theorem halo_rows (x : Vec Ideal S16x512 .f32) : View.ld (Val := Elt Ideal) (e' := .f32) x r0_0 = x := View.ld_unit_lit _ x (by decide)
theorem whole_rows (x : Vec Ideal S1024x512 .f32) : k0_pay5 (View.ld (Val := Elt Ideal) (e' := .f32) x r0_1) = x := by
  rw [block_rows]
  funext j
  rw [eq_ix2 j]
  unfold k0_pay5
  pointwise

theorem grp0 (r : Fin 1024) (l : Fin 128) : k0_pay15 (k0_pay21 (grid0.coords t) (iblk m c 0 t) (iblk m c 1 t) (iblk m c 2 t) (iblk m c 3 t)) (k0_pay22 (grid0.coords t) (iblk m c 0 t) (iblk m c 1 t) (iblk m c 2 t) (iblk m c 3 t)) (k0_pay25 (grid0.coords t) (iblk m c 0 t) (iblk m c 1 t) (iblk m c 2 t) (iblk m c 3 t)) (ix2 r l) = pooled (zs m c) 0 l (t.val * 1024 + r.val) := by
  unfold k0_pay21 k0_pay22 k0_pay25
  rw [mean0, zero_first, whole_rows, block_rows, halo_rows]
  exact pooled_at t 0 l r _ _ (two (single fun r => joined_at t _ r)) (count2 _)
theorem grp1 (r : Fin 1024) (l : Fin 128) : k0_pay17 (k0_pay21 (grid0.coords t) (iblk m c 0 t) (iblk m c 1 t) (iblk m c 2 t) (iblk m c 3 t)) (k0_pay23 (grid0.coords t) (iblk m c 0 t) (iblk m c 1 t) (iblk m c 2 t) (iblk m c 3 t)) (k0_pay26 (grid0.coords t) (iblk m c 0 t) (iblk m c 1 t) (iblk m c 2 t) (iblk m c 3 t)) (ix2 r l) = pooled (zs m c) 1 l (t.val * 1024 + r.val) := by
  unfold k0_pay21 k0_pay23 k0_pay26
  rw [mean1, whole_rows, block_rows, halo_rows]
  exact pooled_at t 1 l r _ _ (four (single fun r => joined_at t _ r)) (count4 _)
theorem grp2 (r : Fin 1024) (l : Fin 128) : k0_pay1 (k0_pay28 (grid0.coords t) (iblk m c 0 t) (iblk m c 1 t) (iblk m c 2 t) (iblk m c 3 t)) (k0_pay29 (grid0.coords t) (iblk m c 0 t) (iblk m c 1 t) (iblk m c 2 t) (iblk m c 3 t)) (ix2 r l) = pooled (zs m c) 2 l (t.val * 1024 + r.val) := by
  unfold k0_pay29 k0_pay28 k0_pay21
  rw [mean2, whole_rows, block_rows, halo_rows]
  exact pooled_at t 2 l r _ _ (eight (single fun r => joined_at t _ r)) (count8 _)
theorem grp3 (r : Fin 1024) (l : Fin 128) : k0_pay3 (k0_pay21 (grid0.coords t) (iblk m c 0 t) (iblk m c 1 t) (iblk m c 2 t) (iblk m c 3 t)) (k0_pay24 (grid0.coords t) (iblk m c 0 t) (iblk m c 1 t) (iblk m c 2 t) (iblk m c 3 t)) (k0_pay27 (grid0.coords t) (iblk m c 0 t) (iblk m c 1 t) (iblk m c 2 t) (iblk m c 3 t)) (ix2 r l) = pooled (zs m c) 3 l (t.val * 1024 + r.val) := by
  unfold k0_pay21 k0_pay24 k0_pay27
  rw [mean3, whole_rows, block_rows, halo_rows]
  exact pooled_at t 3 l r _ _ (sixteen (single fun r => joined_at t _ r)) (count16 _)

theorem lt512 (y : S1024x512.Idx) : (y 1).val / 128 < 4 := by have := (y 1).isLt; change (y 1).val < 512 at this; omega

/-- What a point writes to the pooled rows. -/
theorem piece4 (y) : out0_4 (grid0.coords t) (iblk m c 0 t) (iblk m c 1 t) (iblk m c 2 t) (iblk m c 3 t) y
    = pooled (zs m c) ⟨(y 1).val / 128, lt512 y⟩ ⟨(y 1).val % 128, by omega⟩ (t.val * 1024 + (y 0).val) := by
  frame_out
  canon_tiles x h
  · rw [eq_ix2 x]; exact (grp3 t (x 0) (x 1)).trans (group_at _ 3 _ _ _ _ _ h1 h0 _ _)
  · rw [eq_ix2 x]; exact (grp2 t (x 0) (x 1)).trans (group_at _ 2 _ _ _ _ _ h1 h0 _ _)
  · rw [eq_ix2 x]; exact (grp1 t (x 0) (x 1)).trans (group_at _ 1 _ _ _ _ _ h1 h0 _ _)
  · rw [eq_ix2 x]; exact (grp0 t (x 0) (x 1)).trans (group_at _ 0 _ _ _ _ _ (h1.trans (Nat.zero_add _).symm) h0 _ _)

theorem mixed0 (r : Fin 1024) (l : Fin 128) : k0_pay16 (k0_pay21 (grid0.coords t) (iblk m c 0 t) (iblk m c 1 t) (iblk m c 2 t) (iblk m c 3 t)) (k0_pay22 (grid0.coords t) (iblk m c 0 t) (iblk m c 1 t) (iblk m c 2 t) (iblk m c 3 t)) (k0_pay25 (grid0.coords t) (iblk m c 0 t) (iblk m c 1 t) (iblk m c 2 t) (iblk m c 3 t)) (View.ld (iblk m c 2 t) r0_3) (View.ld (iblk m c 3 t) r0_4) (ix2 r l)
    = mixed (zs m c) (ws m c) (ss m c) 0 l (t.val * 1024 + r.val) := by
  rw [mix0, whole2, whole3]
  refine congrArg₂ (fun a b : EReal => a * b) (Finset.sum_congr rfl fun k _ => congrArg₂ (fun a b : EReal => a * b) (grp0 t r k) ?_) ?_
  · unfold ws; generalize V m c main_v1 = x; pointwise
  · unfold ss; generalize V m c main_v2 = x; pointwise
theorem mixed1 (r : Fin 1024) (l : Fin 128) : k0_pay18 (k0_pay21 (grid0.coords t) (iblk m c 0 t) (iblk m c 1 t) (iblk m c 2 t) (iblk m c 3 t)) (k0_pay23 (grid0.coords t) (iblk m c 0 t) (iblk m c 1 t) (iblk m c 2 t) (iblk m c 3 t)) (k0_pay26 (grid0.coords t) (iblk m c 0 t) (iblk m c 1 t) (iblk m c 2 t) (iblk m c 3 t)) (View.ld (iblk m c 2 t) r0_6) (View.ld (iblk m c 3 t) r0_7) (ix2 r l)
    = mixed (zs m c) (ws m c) (ss m c) 1 l (t.val * 1024 + r.val) := by
  rw [mix1, whole2, whole3]
  refine congrArg₂ (fun a b : EReal => a * b) (Finset.sum_congr rfl fun k _ => congrArg₂ (fun a b : EReal => a * b) (grp1 t r k) ?_) ?_
  · unfold ws; generalize V m c main_v1 = x; pointwise
  · unfold ss; generalize V m c main_v2 = x; pointwise
theorem mixed2 (r : Fin 1024) (l : Fin 128) : k0_pay2 (k0_pay28 (grid0.coords t) (iblk m c 0 t) (iblk m c 1 t) (iblk m c 2 t) (iblk m c 3 t)) (k0_pay29 (grid0.coords t) (iblk m c 0 t) (iblk m c 1 t) (iblk m c 2 t) (iblk m c 3 t)) (View.ld (iblk m c 2 t) r0_9) (View.ld (iblk m c 3 t) r0_10) (ix2 r l)
    = mixed (zs m c) (ws m c) (ss m c) 2 l (t.val * 1024 + r.val) := by
  rw [mix2, whole2, whole3]
  refine congrArg₂ (fun a b : EReal => a * b) (Finset.sum_congr rfl fun k _ => congrArg₂ (fun a b : EReal => a * b) (grp2 t r k) ?_) ?_
  · unfold ws; generalize V m c main_v1 = x; pointwise
  · unfold ss; generalize V m c main_v2 = x; pointwise
theorem mixed3 (r : Fin 1024) (l : Fin 128) : k0_pay4 (k0_pay21 (grid0.coords t) (iblk m c 0 t) (iblk m c 1 t) (iblk m c 2 t) (iblk m c 3 t)) (k0_pay24 (grid0.coords t) (iblk m c 0 t) (iblk m c 1 t) (iblk m c 2 t) (iblk m c 3 t)) (k0_pay27 (grid0.coords t) (iblk m c 0 t) (iblk m c 1 t) (iblk m c 2 t) (iblk m c 3 t)) (View.ld (iblk m c 2 t) r0_12) (View.ld (iblk m c 3 t) r0_13) (ix2 r l)
    = mixed (zs m c) (ws m c) (ss m c) 3 l (t.val * 1024 + r.val) := by
  rw [mix3, whole2, whole3]
  refine congrArg₂ (fun a b : EReal => a * b) (Finset.sum_congr rfl fun k _ => congrArg₂ (fun a b : EReal => a * b) (grp3 t r k) ?_) ?_
  · unfold ws; generalize V m c main_v1 = x; pointwise
  · unfold ss; generalize V m c main_v2 = x; pointwise

/-- What a point writes to the mixed rows. -/
theorem piece5 (y) : out0_5 (grid0.coords t) (iblk m c 0 t) (iblk m c 1 t) (iblk m c 2 t) (iblk m c 3 t) y
    = mixed (zs m c) (ws m c) (ss m c) ⟨(y 1).val / 128, lt512 y⟩ ⟨(y 1).val % 128, by omega⟩ (t.val * 1024 + (y 0).val) := by
  frame_out
  canon_tiles x h
  · rw [eq_ix2 x]; exact (mixed3 t (x 0) (x 1)).trans (group_at _ 3 _ _ _ _ _ h1 h0 _ _)
  · rw [eq_ix2 x]; exact (mixed2 t (x 0) (x 1)).trans (group_at _ 2 _ _ _ _ _ h1 h0 _ _)
  · rw [eq_ix2 x]; exact (mixed1 t (x 0) (x 1)).trans (group_at _ 1 _ _ _ _ _ h1 h0 _ _)
  · rw [eq_ix2 x]; exact (mixed0 t (x 0) (x 1)).trans (group_at _ 0 _ _ _ _ _ (h1.trans (Nat.zero_add _).symm) h0 _ _)

/-! ## The two results -/

theorem lane_lt (y : S8192x512.Idx) : (y 1).val / 128 < 4 := by have := (y 1).isLt; change (y 1).val < 512 at this; omega

/-- The pooled rows of the whole array. -/
def pooledAll (z : Fin 8192 → Fin 512 → EReal) : FVec Ideal S8192x512 .bf16 := fun y =>
  pooled z ⟨(y 1).val / 128, lane_lt y⟩ ⟨(y 1).val % 128, by omega⟩ (y 0).val

/-- The mixed rows of the whole array. -/
def mixedAll (z : Fin 8192 → Fin 512 → EReal) (w : Fin 4 → Fin 128 → Fin 128 → EReal) (s : Fin 512 → EReal) : FVec Ideal S8192x512 .bf16 := fun y =>
  mixed z w s ⟨(y 1).val / 128, lane_lt y⟩ ⟨(y 1).val % 128, by omega⟩ (y 0).val

variable (m c)

theorem final4 : (dats m 0 c).arrAt 4 cfg0.N = pooledAll (zs m c) := by
  refine (dats m 0 c).arrAt_eq_of_covers 4 _ (by decide +kernel) fun t hf y => ?_
  blk_simp
  rw [after0_4]
  refine (piece4 t _).trans ?_
  unfold pooledAll
  generalize zs m c = z
  have e0 : ((win0_4.blk t).view.emb y 0).val = t.val * 1024 + (y 0).val := by blk_point [idx t]
  have e1 : ((win0_4.blk t).view.emb y 1).val = (y 1).val := by blk_point [idx t]
  simp only [e0, e1]

theorem final5 : (dats m 0 c).arrAt 5 cfg0.N = mixedAll (zs m c) (ws m c) (ss m c) := by
  refine (dats m 0 c).arrAt_eq_of_covers 5 _ (by decide +kernel) fun t hf y => ?_
  blk_simp
  rw [after0_5]
  refine (piece5 t _).trans ?_
  unfold mixedAll
  generalize zs m c = z, ws m c = w, ss m c = s
  have e0 : ((win0_5.blk t).view.emb y 0).val = t.val * 1024 + (y 0).val := by blk_point [idx t]
  have e1 : ((win0_5.blk t).view.emb y 1).val = (y 1).val := by blk_point [idx t]
  simp only [e0, e1]

end Cert.PoolFwdIdeal.Rows

end
-- ==== Proof.PoolForwardReference.lean ====
/-
  The reference of the pooling's forward call, read row by row: differences of running sums over counts, less the row,
  and their mixing. For real rows the differences are the sums of the last rows.
-/
module

public import proofs.«01_k».proof.Proof.Gen.PoolFwdRefIdeal.Read
public import proofs.«01_k».proof.Proof.PoolForwardSums
public import proofs.«01_k».proof.Proof.PoolReference

@[expose] public section

set_option maxRecDepth 16384

noncomputable section

open Idealize.ShloMosaic Idealize.ShloMosaic.TcCoe Idealize.SL.Sem

/-- Of terms counted from `N` places before the start, those up to place `t` remain. -/
theorem Cert.WindowSums.shifted (f : ℕ → EReal) (N t : ℕ) (ht : t ≤ N) :
    ∑ n ∈ Finset.range (N + 1), (if N ≤ t + n then f (t + n - N) else 0) = ∑ n ∈ Finset.range (t + 1), f n := by
  rw [show N + 1 = (N - t) + (t + 1) by omega, Finset.sum_range_add, Finset.sum_eq_zero, zero_add]
  · refine Finset.sum_congr rfl fun n hn => ?_
    rw [if_pos (by omega)]
    congr 1
    omega
  · intro n hn
    have := Finset.mem_range.mp hn
    rw [if_neg (by omega)]

/-- The running sum of an array of rows, read at a row: the sum of the rows up to it. -/
theorem Cert.WindowSums.prefix_sum {u : Shape} (x : FVec Ideal ⟨3, ![1, 8192, 512]⟩ .f32) (init : u.Idx → Ideal .f32) (h) (hu : 0 < u.numel)
    (hz : ∀ i, init i = 0) (t : Fin 8192) (l : Fin 512) :
    Host.reduceWindowAdd (t := ⟨3, ![1, 8192, 512]⟩) ![1, 8192, 1] ![1, 1, 1] ![0, 8191, 0] ![0, 0, 0] x init h hu (ix3 0 t l)
      = ∑ n ∈ Finset.range (t.val + 1), if hn : n < 8192 then x (ix3 0 ⟨n, hn⟩ l) else 0 := by
  have ht := t.isLt
  rw [Cert.WindowSums.reduceWindowAdd_apply, hz, zero_add, sum_idx3]
  simp only [Finset.univ_unique, Finset.sum_singleton]
  rw [← Cert.WindowSums.shifted (fun n => if hn : n < 8192 then x (ix3 0 ⟨n, hn⟩ l) else 0) 8191 t.val (by omega), Finset.sum_range]
  refine Finset.sum_congr rfl fun n _ => ?_
  by_cases hn : 8191 ≤ t.val + n.val
  · have hn2 : t.val + n.val - 8191 < 8192 := by omega
    refine Eq.trans (dif_pos ?_) (Eq.trans ?_ ((if_pos hn).trans (dif_pos hn2)).symm)
    · intro a
      fin_cases a <;> simp [ix3, hn, hn2]
    · refine congrArg x ?_
      funext a
      fin_cases a <;> apply Fin.ext <;> simp [ix3]
  · refine Eq.trans (dif_neg ?_) (if_neg hn).symm
    intro h'
    have := (h' 1).1
    simp [ix3] at this
    omega

namespace Cert.PoolFwdRefIdeal.Rows

open Cert.PoolFwdRefIdeal Cert.PoolFwdRefIdeal.Read
open _root_.Pool (back column pooled mixed win last_rows)
open Cert.ReferenceIdeal.Pool (count_word)

/-- The rows, the mixing matrices and the scales. -/
def zs (x : FVec Ideal S1x8192x512 .f32) : Fin 8192 → Fin 512 → EReal := fun n l => x (ix3 0 n l)
def ws (x : FVec Ideal S4x128x128 .f32) : Fin 4 → Fin 128 → Fin 128 → EReal := fun g k l => x (ix3 g k l)
def ss (x : FVec Ideal S512 .f32) : Fin 512 → EReal := fun l => x (ix1 l)

/-- The sum of a column's first rows. -/
def upTo (x : FVec Ideal S1x8192x512 .f32) (l : Fin 512) (n : ℕ) : EReal := ∑ k ∈ Finset.range n, column (zs x) l k

theorem running (x : FVec Ideal S1x8192x512 .f32) (n : Fin 8193) (l : Fin 512) : val_main_v2 (F := Ideal) x (ix3 0 n l) = upTo x l n.val := by
  have hn := n.isLt
  have e : val_main_v2 (F := Ideal) x (ix3 0 n l) = if h : n.val < 1 then 0 else val_main_v1 (F := Ideal) x (ix3 0 ⟨n.val - 1, by omega⟩ l) := by
    unfold val_main_v2 val_main_v0
    generalize val_main_v1 (F := Ideal) x = y
    pointwise [val_main_cst]
  rw [e]
  unfold upTo
  split_ifs with h
  · rw [show n.val = 0 by omega, Finset.sum_range_zero]
  · rw [val_main_v1, Cert.WindowSums.prefix_sum _ _ _ _ (fun i => by unfold val_main_call0_call0_v0 val_main_call0_call0_cst; pointwise)]
    dsimp only
    rw [show n.val - 1 + 1 = n.val by omega]
    rfl

/-- The quotient of a window's running-sum difference by a count. -/
theorem mean_at (x : FVec Ideal S1x8192x512 .f32) (hx : ∀ i, ∃ r : ℝ, x i = r) (l : Fin 512) (n W : ℕ) (hW : 0 < W) :
    Ideal.div (upTo x l (n + 1) - upTo x l (n + 1 - W)) (((min (n + 1) W : ℕ) : ℝ) : EReal)
      = (∑ j ∈ Finset.range W, back (column (zs x) l) n j) * ((1 / ((min (n + 1) W : ℕ) : ℝ) : ℝ) : EReal) := by
  have h0 : 0 < min (n + 1) W := by omega
  rw [Ideal.div_coe (by positivity), upTo, upTo, last_rows (column (zs x) l) fun k => by
    unfold column zs
    split_ifs
    · exact hx _
    · exact ⟨0, rfl⟩]

section Groups
variable (x : FVec Ideal S1x8192x512 .f32) (n : Fin 8192) (l : Fin 128)

theorem count0 : val_main_v13 (F := Ideal) (ix3 0 n 0) = (((min (n.val + 1) 2 : ℕ) : ℝ) : EReal) := by
  unfold val_main_v13 val_main_v12 val_main_v11 val_main_v10 val_main_v9 val_main_v8 val_main_v3 val_main_c val_main_c_1
  pointwise
  exact count_word n.val 2 n.isLt (by decide)

theorem quotient0 : val_main_v17 (F := Ideal) x (ix3 0 n l) = Ideal.div (upTo x ⟨l.val, by omega⟩ (n.val + 1) - upTo x ⟨l.val, by omega⟩ (n.val + 1 - 2)) (((min (n.val + 1) 2 : ℕ) : ℝ) : EReal) := by
  have hn := n.isLt
  have e : val_main_v17 (F := Ideal) x (ix3 0 n l) = Ideal.div (val_main_v2 (F := Ideal) x (ix3 0 ⟨1 + n.val, by omega⟩ ⟨l.val, by omega⟩)
      - if h : n.val < 1 then 0 else val_main_v2 (F := Ideal) x (ix3 0 ⟨n.val - 1, by omega⟩ ⟨l.val, by omega⟩)) (val_main_v13 (F := Ideal) (ix3 0 n 0)) := by
    unfold val_main_v17 val_main_v16 val_main_v15 val_main_v14 val_main_v7 val_main_v6 val_main_v5 val_main_v4
    generalize val_main_v2 (F := Ideal) x = y, val_main_v13 (F := Ideal) = d
    pointwise [val_main_cst_0]
  rw [e, count0, running]
  dsimp only
  rw [add_comm 1 n.val]
  congr 2
  split_ifs with h
  · rw [show n.val + 1 - 2 = 0 by omega, upTo, Finset.sum_range_zero]
  · rw [running]; dsimp only; rw [show n.val + 1 - 2 = n.val - 1 by omega]

theorem joined0 : val_main_v60 (F := Ideal) x (ix3 0 n ⟨l.val, by omega⟩) = val_main_v17 (F := Ideal) x (ix3 0 n l) := by
  unfold val_main_v60
  generalize val_main_v17 (F := Ideal) x = y0, val_main_v31 (F := Ideal) x = y1, val_main_v45 (F := Ideal) x = y2, val_main_v59 (F := Ideal) x = y3
  pointwise

theorem count1 : val_main_v27 (F := Ideal) (ix3 0 n 0) = (((min (n.val + 1) 4 : ℕ) : ℝ) : EReal) := by
  unfold val_main_v27 val_main_v26 val_main_v25 val_main_v24 val_main_v23 val_main_v22 val_main_v3 val_main_c_3 val_main_c_4
  pointwise
  exact count_word n.val 4 n.isLt (by decide)

theorem quotient1 : val_main_v31 (F := Ideal) x (ix3 0 n l) = Ideal.div (upTo x ⟨128 + l.val, by omega⟩ (n.val + 1) - upTo x ⟨128 + l.val, by omega⟩ (n.val + 1 - 4)) (((min (n.val + 1) 4 : ℕ) : ℝ) : EReal) := by
  have hn := n.isLt
  have e : val_main_v31 (F := Ideal) x (ix3 0 n l) = Ideal.div (val_main_v2 (F := Ideal) x (ix3 0 ⟨1 + n.val, by omega⟩ ⟨128 + l.val, by omega⟩)
      - if h : n.val < 3 then 0 else val_main_v2 (F := Ideal) x (ix3 0 ⟨n.val - 3, by omega⟩ ⟨128 + l.val, by omega⟩)) (val_main_v27 (F := Ideal) (ix3 0 n 0)) := by
    unfold val_main_v31 val_main_v30 val_main_v29 val_main_v28 val_main_v21 val_main_v20 val_main_v19 val_main_v18
    generalize val_main_v2 (F := Ideal) x = y, val_main_v27 (F := Ideal) = d
    pointwise [val_main_cst_2]
  rw [e, count1, running]
  dsimp only
  rw [add_comm 1 n.val]
  congr 2
  split_ifs with h
  · rw [show n.val + 1 - 4 = 0 by omega, upTo, Finset.sum_range_zero]
  · rw [running]; dsimp only; rw [show n.val + 1 - 4 = n.val - 3 by omega]

theorem joined1 : val_main_v60 (F := Ideal) x (ix3 0 n ⟨128 + l.val, by omega⟩) = val_main_v31 (F := Ideal) x (ix3 0 n l) := by
  unfold val_main_v60
  generalize val_main_v17 (F := Ideal) x = y0, val_main_v31 (F := Ideal) x = y1, val_main_v45 (F := Ideal) x = y2, val_main_v59 (F := Ideal) x = y3
  pointwise

theorem count2 : val_main_v41 (F := Ideal) (ix3 0 n 0) = (((min (n.val + 1) 8 : ℕ) : ℝ) : EReal) := by
  unfold val_main_v41 val_main_v40 val_main_v39 val_main_v38 val_main_v37 val_main_v36 val_main_v3 val_main_c_6 val_main_c_7
  pointwise
  exact count_word n.val 8 n.isLt (by decide)

theorem quotient2 : val_main_v45 (F := Ideal) x (ix3 0 n l) = Ideal.div (upTo x ⟨256 + l.val, by omega⟩ (n.val + 1) - upTo x ⟨256 + l.val, by omega⟩ (n.val + 1 - 8)) (((min (n.val + 1) 8 : ℕ) : ℝ) : EReal) := by
  have hn := n.isLt
  have e : val_main_v45 (F := Ideal) x (ix3 0 n l) = Ideal.div (val_main_v2 (F := Ideal) x (ix3 0 ⟨1 + n.val, by omega⟩ ⟨256 + l.val, by omega⟩)
      - if h : n.val < 7 then 0 else val_main_v2 (F := Ideal) x (ix3 0 ⟨n.val - 7, by omega⟩ ⟨256 + l.val, by omega⟩)) (val_main_v41 (F := Ideal) (ix3 0 n 0)) := by
    unfold val_main_v45 val_main_v44 val_main_v43 val_main_v42 val_main_v35 val_main_v34 val_main_v33 val_main_v32
    generalize val_main_v2 (F := Ideal) x = y, val_main_v41 (F := Ideal) = d
    pointwise [val_main_cst_5]
  rw [e, count2, running]
  dsimp only
  rw [add_comm 1 n.val]
  congr 2
  split_ifs with h
  · rw [show n.val + 1 - 8 = 0 by omega, upTo, Finset.sum_range_zero]
  · rw [running]; dsimp only; rw [show n.val + 1 - 8 = n.val - 7 by omega]

theorem joined2 : val_main_v60 (F := Ideal) x (ix3 0 n ⟨256 + l.val, by omega⟩) = val_main_v45 (F := Ideal) x (ix3 0 n l) := by
  unfold val_main_v60
  generalize val_main_v17 (F := Ideal) x = y0, val_main_v31 (F := Ideal) x = y1, val_main_v45 (F := Ideal) x = y2, val_main_v59 (F := Ideal) x = y3
  pointwise
  split_ifs <;> first | omega | exact congrArg (fun k => y2 (ix3 0 n k)) (Fin.ext (by dsimp only; omega))

theorem count3 : val_main_v55 (F := Ideal) (ix3 0 n 0) = (((min (n.val + 1) 16 : ℕ) : ℝ) : EReal) := by
  unfold val_main_v55 val_main_v54 val_main_v53 val_main_v52 val_main_v51 val_main_v50 val_main_v3 val_main_c_9 val_main_c_10
  pointwise
  exact count_word n.val 16 n.isLt (by decide)

theorem quotient3 : val_main_v59 (F := Ideal) x (ix3 0 n l) = Ideal.div (upTo x ⟨384 + l.val, by omega⟩ (n.val + 1) - upTo x ⟨384 + l.val, by omega⟩ (n.val + 1 - 16)) (((min (n.val + 1) 16 : ℕ) : ℝ) : EReal) := by
  have hn := n.isLt
  have e : val_main_v59 (F := Ideal) x (ix3 0 n l) = Ideal.div (val_main_v2 (F := Ideal) x (ix3 0 ⟨1 + n.val, by omega⟩ ⟨384 + l.val, by omega⟩)
      - if h : n.val < 15 then 0 else val_main_v2 (F := Ideal) x (ix3 0 ⟨n.val - 15, by omega⟩ ⟨384 + l.val, by omega⟩)) (val_main_v55 (F := Ideal) (ix3 0 n 0)) := by
    unfold val_main_v59 val_main_v58 val_main_v57 val_main_v56 val_main_v49 val_main_v48 val_main_v47 val_main_v46
    generalize val_main_v2 (F := Ideal) x = y, val_main_v55 (F := Ideal) = d
    pointwise [val_main_cst_8]
  rw [e, count3, running]
  dsimp only
  rw [add_comm 1 n.val]
  congr 2
  split_ifs with h
  · rw [show n.val + 1 - 16 = 0 by omega, upTo, Finset.sum_range_zero]
  · rw [running]; dsimp only; rw [show n.val + 1 - 16 = n.val - 15 by omega]

theorem joined3 : val_main_v60 (F := Ideal) x (ix3 0 n ⟨384 + l.val, by omega⟩) = val_main_v59 (F := Ideal) x (ix3 0 n l) := by
  unfold val_main_v60
  generalize val_main_v17 (F := Ideal) x = y0, val_main_v31 (F := Ideal) x = y1, val_main_v45 (F := Ideal) x = y2, val_main_v59 (F := Ideal) x = y3
  pointwise
  split_ifs <;> first | omega | exact congrArg (fun k => y3 (ix3 0 n k)) (Fin.ext (by dsimp only; omega))

/-- The pooled rows before they are rounded. -/
theorem pooled_at (hx : ∀ i, ∃ r : ℝ, x i = r) (g : Fin 4) : val_main_v61 (F := Ideal) x (ix3 0 n ⟨128 * g.val + l.val, by omega⟩) = pooled (zs x) g l n.val := by
  have e : val_main_v61 (F := Ideal) x (ix3 0 n ⟨128 * g.val + l.val, by omega⟩)
      = val_main_v60 (F := Ideal) x (ix3 0 n ⟨128 * g.val + l.val, by omega⟩) - x (ix3 0 n ⟨128 * g.val + l.val, by omega⟩) := rfl
  have ez : x (ix3 0 n ⟨128 * g.val + l.val, by omega⟩) = column (zs x) ⟨128 * g.val + l.val, by omega⟩ n.val := by
    unfold column zs; rw [dif_pos n.isLt]
  rw [e, ez]
  unfold pooled
  congr 1
  fin_cases g
  · have e0 : (⟨128 * (0 : Fin 4).val + l.val, by omega⟩ : Fin 512) = ⟨l.val, by omega⟩ := Fin.ext (by simp)
    refine Eq.trans (congrArg (fun k => val_main_v60 (F := Ideal) x (ix3 0 n k)) e0) ?_
    rw [joined0, quotient0, mean_at x hx _ _ 2 (by decide)]
    exact congrArg (fun k => (∑ j ∈ Finset.range 2, back (column (zs x) k) n.val j) * ((1 / ((min (n.val + 1) 2 : ℕ) : ℝ) : ℝ) : EReal)) e0.symm
  · exact (joined1 x n l).trans ((quotient1 x n l).trans (mean_at x hx _ _ 4 (by decide)))
  · exact (joined2 x n l).trans ((quotient2 x n l).trans (mean_at x hx _ _ 8 (by decide)))
  · exact (joined3 x n l).trans ((quotient3 x n l).trans (mean_at x hx _ _ 16 (by decide)))

end Groups

variable (x : FVec Ideal S1x8192x512 .f32) (w : FVec Ideal S4x128x128 .f32) (s : FVec Ideal S512 .f32) (hx : ∀ i, ∃ r : ℝ, x i = r)
  (n : Fin 8192) (g : Fin 4) (l : Fin 128)
include hx

/-- The first result at a row. -/
theorem pooled_result : val_main_v67 (F := Ideal) x (ix2 n ⟨128 * g.val + l.val, by omega⟩) = pooled (zs x) g l n.val := by
  rw [← pooled_at x n l hx g]
  unfold val_main_v67 val_main_v66
  generalize val_main_v61 (F := Ideal) x = y
  pointwise

/-- The second result at a row. -/
theorem mixed_result : val_main_v72 (F := Ideal) x w s (ix2 n ⟨128 * g.val + l.val, by omega⟩) = mixed (zs x) (ws w) (ss s) g l n.val := by
  have e : val_main_v72 (F := Ideal) x w s (ix2 n ⟨128 * g.val + l.val, by omega⟩)
      = (∑ k : Fin 128, w (ix3 g k l) * val_main_v61 (F := Ideal) x (ix3 0 n ⟨128 * g.val + k.val, by omega⟩)) * s (ix1 ⟨128 * g.val + l.val, by omega⟩) := by
    unfold val_main_v72 val_main_v71 val_main_v70 val_main_v69 val_main_v68 val_main_v65 val_main_v64 val_main_v63 val_main_v62
    generalize val_main_v61 (F := Ideal) x = y
    pointwise
    have e : 128 * g.val = g.val * 128 := mul_comm _ _
    simp only [e]
  rw [e]
  unfold mixed ws ss
  exact congrArg (fun a : EReal => a * _) (Finset.sum_congr rfl fun k _ => (mul_comm _ _).trans (congrArg (fun a : EReal => a * _) (pooled_at x n k hx g)))

end Cert.PoolFwdRefIdeal.Rows

end
-- ==== Proof.PoolForwardEquation.lean ====
/- The pooling's forward call: frames, and that kernel and reference leave the same two arrays. -/
module

public import proofs.«01_k».proof.Defs
public import proofs.«01_k».proof.Proof.PoolForwardBlocks
public import proofs.«01_k».proof.Proof.PoolForwardReference
public import proofs.«01_k».proof.Proof.Finite
public import proofs.«01_k».proof.Proof.Gen.PoolFwd
public import proofs.«01_k».proof.Proof.Gen.PoolFwd.Frame
public import proofs.«01_k».proof.Proof.Gen.Pre_pool_fwd_finite

@[expose] public section

set_option maxRecDepth 16384

noncomputable section

open Idealize.ShloMosaic Idealize.ShloMosaic.TcCoe Idealize.SL.Sem

namespace Cert.PoolForwardEquation

/-! ## Frames -/

theorem kernel_frame : Cert.quiescent_PoolFwd (hPoolFwd := Cert.PoolFwd.Gen.facts) := fun m ρ _ => Cert.PoolFwd.Gen.frame m ρ

theorem ideal_frame : Cert.quiescent_PoolFwdIdeal (hPoolFwdIdeal := Cert.PoolFwdIdeal.Gen.facts) := fun m ρ _ => Cert.PoolFwdIdeal.Gen.frame m ρ

theorem reference_frame : Cert.quiescent_PoolFwdRefIdeal (hPoolFwdRefIdeal := Cert.PoolFwdRefIdeal.Gen.facts) :=
  fun m ρ _ => (θ_run Cert.PoolFwdRefIdeal.defs _ _).mono
    (fun r h => ⟨fun c => (h c).2.2, Idealize.ShloMosaic.sem_eq_zero_of_no_sems (by decide) r.2⟩)
    (Cert.PoolFwdRefIdeal.Value.run (F := Ideal) m ρ)

/-! ## The two programs agree -/

section Values
open Cert.PoolFwdIdeal Cert.PoolFwdIdeal.Gen Cert.PoolFwdIdeal.Rows
variable (m : (ℓ : Loc nD τ sig) → Buf (Elt Ideal) ℓ) (c : Dev nD)

theorem row_cast (x : FVec Ideal S1x8192x512 .f32) (n : Fin 8192) (l : Fin 512) : shapeCast S8192x512 x shapeCasts_S1x8192x512_S8192x512 (ix2 n l) = x (ix3 0 n l) := by
  pointwise
theorem scale_cast (x : FVec Ideal S512 .f32) (l : Fin 512) : shapeCast S1x512 x shapeCasts_S512_S1x512 (ix2 0 l) = x (ix1 l) := by
  pointwise

/-- The call's windows read the numbers of the program's arguments. -/
theorem rows_same : zs m c = Cert.PoolFwdRefIdeal.Rows.zs (m ((c : Thread nD τ).loc main_arg0)) := by
  funext n l
  unfold zs Cert.PoolFwdRefIdeal.Rows.zs
  rw [rows_read]
  exact row_cast _ n l

theorem weights_same : ws m c = Cert.PoolFwdRefIdeal.Rows.ws (m ((c : Thread nD τ).loc main_arg1)) := by
  funext g k l
  unfold ws Cert.PoolFwdRefIdeal.Rows.ws
  rw [weights_read]
  rfl

theorem scales_same : ss m c = Cert.PoolFwdRefIdeal.Rows.ss (m ((c : Thread nD τ).loc main_arg2)) := by
  funext l
  unfold ss Cert.PoolFwdRefIdeal.Rows.ss
  rw [scales_read]
  exact scale_cast _ l

/-- A place of the array by its row, its group and the column within it. -/
theorem place (y : S8192x512.Idx) : y = ix2 (y 0) ⟨128 * (⟨(y 1).val / 128, lane_lt y⟩ : Fin 4).val + (⟨(y 1).val % 128, by omega⟩ : Fin 128).val,
    by have := (y 1).isLt; change (y 1).val < 512 at this; dsimp only; omega⟩ := by
  refine (eq_ix2 y).trans (congrArg (ix2 (y 0)) (Fin.ext ?_))
  change (y 1).val = 128 * ((y 1).val / 128) + (y 1).val % 128
  omega

variable (x : FVec Ideal S1x8192x512 .f32) (w : FVec Ideal S4x128x128 .f32) (s : FVec Ideal S512 .f32) (hx : ∀ i, ∃ r : ℝ, x i = r)
include hx

theorem pooled_eq : Cert.PoolFwdRefIdeal.Read.val_main_v67 (F := Ideal) x = pooledAll (Cert.PoolFwdRefIdeal.Rows.zs x) := by
  funext y
  exact (congrArg _ (place y)).trans (Cert.PoolFwdRefIdeal.Rows.pooled_result x hx (y 0) ⟨(y 1).val / 128, lane_lt y⟩ ⟨(y 1).val % 128, by omega⟩)

theorem mixed_eq : Cert.PoolFwdRefIdeal.Read.val_main_v72 (F := Ideal) x w s
    = mixedAll (Cert.PoolFwdRefIdeal.Rows.zs x) (Cert.PoolFwdRefIdeal.Rows.ws w) (Cert.PoolFwdRefIdeal.Rows.ss s) := by
  funext y
  exact (congrArg _ (place y)).trans (Cert.PoolFwdRefIdeal.Rows.mixed_result x w s hx (y 0) ⟨(y 1).val / 128, lane_lt y⟩ ⟨(y 1).val % 128, by omega⟩)

end Values

/-- The printed precondition: the rows are real numbers. -/
theorem real_rows (x : FVec Ideal Cert.PoolFwdIdeal.S1x8192x512 .f32) (w : FVec Ideal Cert.PoolFwdIdeal.S4x128x128 .f32) (s : FVec Ideal Cert.PoolFwdIdeal.S512 .f32)
    (h : Cert.Pre_pool_fwd_finite.fn (F := Ideal) x w s = fun _ => 1#1) (i) : ∃ r : ℝ, x i = r := by
  have e := congrFun h fun i => i.elim0
  dsimp only [Cert.Pre_pool_fwd_finite.fn] at e
  exact Finite.real_of_all x _ _ _ _ _ _ e i

theorem pool_fwd_algebraic : Cert.algebraic_PoolFwdIdeal_PoolFwdRefIdeal_pre_pool_fwd_finite (hPoolFwdIdeal := Cert.PoolFwdIdeal.Gen.facts)
    (hPoolFwdRefIdeal := Cert.PoolFwdRefIdeal.Gen.facts) (hPre_pool_fwd_finite := Cert.Pre_pool_fwd_finite.Gen.facts) := by
  intro m g m' g' hpre hargs
  refine ⟨_, _, Cert.PoolFwdIdeal.Value.run_blocks m g, ?_⟩
  refine (θ_run (Cert.PoolFwdRefIdeal.defs (F := Ideal)) _ _).mono (fun r h c => ?_) (Cert.PoolFwdRefIdeal.Value.run (F := Ideal) m' g')
  obtain ⟨hp, hm, kept⟩ := h c
  have hx := real_rows _ _ _ (hpre c)
  obtain ⟨a0, a1, a2⟩ := hargs c
  refine ⟨Eq.trans (hp.trans ?_) (Cert.PoolFwdIdeal.Rows.final4 m c).symm, Eq.trans (hm.trans ?_) (Cert.PoolFwdIdeal.Rows.final5 m c).symm, kept⟩
  · rw [Cert.PoolFwdRefIdeal.Read.val_main_v67_eq, a0, rows_same]
    exact pooled_eq _ hx
  · rw [Cert.PoolFwdRefIdeal.Read.val_main_v72_eq, a0, a1, a2, rows_same, weights_same, scales_same]
    exact mixed_eq _ _ _ hx

end Cert.PoolForwardEquation

end
-- ==== Proof.MixForwardKernel.lean ====
/-
  The norm before the mixers and its projection, as the forward call's grid computes them: a block of normalized rows, and
  their products with the rows of the projection that belong to each of the four other results.
-/
module

public import proofs.«01_k».proof.Proof.NormRows
public import proofs.«01_k».proof.Proof.Gen.MixFwdIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-- A row over the root of its mean square, times the gain. -/
def Norm.unit (x g : Fin 1024 → EReal) (j : Fin 1024) : EReal := x j * Norm.rs x * g j

/-- The normalized row's product with one row of the projection. -/
def Norm.proj (x g : Fin 1024 → EReal) (w : Fin 1024 → EReal) : EReal := ∑ j, Norm.unit x g j * w j

namespace Cert.MixFwdIdeal.MixForward

open Cert.MixFwdIdeal Cert.MixFwdIdeal.Gen

/-- What a point leaves in the normalized rows. -/
def normed {n : ℕ} (x : FVec Ideal ⟨2, ![n, 1024]⟩ .f32) (g : FVec Ideal S1x1024 .f32) : (⟨2, ![n, 1024]⟩ : Shape).Idx → EReal := fun y =>
  Norm.unit (fun j => x (ix2 (y 0) j)) (fun j => g (ix2 0 j)) (y 1)

/-- What a point leaves in the `k` columns whose rows of the projection start at `off`. -/
def projected {n : ℕ} (k off : ℕ) (hk : off + k ≤ 3840) (x : FVec Ideal ⟨2, ![n, 1024]⟩ .f32) (g : FVec Ideal S1x1024 .f32)
    (w : FVec Ideal S3840x1024 .bf16) : (⟨2, ![n, k]⟩ : Shape).Idx → EReal := fun y =>
  Norm.proj (fun j => x (ix2 (y 0) j)) (fun j => g (ix2 0 j))
    (fun j => w (ix2 ⟨off + (y 1).val, lt_of_lt_of_le (Nat.add_lt_add_left (show (y 1).val < k from (y 1).isLt) off) hk⟩ j))

section Points
variable (b0 : FVec Ideal S512x1024 .f32) (b1 : FVec Ideal S1x1024 .f32) (b2 : FVec Ideal S3840x1024 .bf16)

theorem point3 (y) : (out0_3 (F := Ideal) b0 b1 b2 y : EReal) = normed b0 b1 y := by
  obtain ⟨r, j, rfl⟩ : ∃ r j, y = ix2 r j := ⟨y 0, y 1, eq_ix2 y⟩
  frame_out
  open_payloads
  unfold normed Norm.unit Norm.rs
  pointwise

theorem point4 (y) : (out0_4 (F := Ideal) b0 b1 b2 y : EReal) = projected 1024 0 (by decide) b0 b1 b2 y := by
  obtain ⟨r, j, rfl⟩ : ∃ r j, y = ix2 r j := ⟨y 0, y 1, eq_ix2 y⟩
  frame_out
  canon_tiles x h
  all_goals
    obtain ⟨r, hr⟩ := r; obtain ⟨j, hj⟩ := j; obtain rfl : r = _ := h0
    obtain rfl : j = _ := h1
    open_payloads
    unfold projected Norm.proj Norm.unit Norm.rs
    pointwise

theorem point5 (y) : (out0_5 (F := Ideal) b0 b1 b2 y : EReal) = projected 256 1024 (by decide) b0 b1 b2 y := by
  obtain ⟨r, j, rfl⟩ : ∃ r j, y = ix2 r j := ⟨y 0, y 1, eq_ix2 y⟩
  frame_out
  open_payloads
  unfold projected Norm.proj Norm.unit Norm.rs
  pointwise

theorem point6 (y) : (out0_6 (F := Ideal) b0 b1 b2 y : EReal) = projected 512 1280 (by decide) b0 b1 b2 y := by
  obtain ⟨r, j, rfl⟩ : ∃ r j, y = ix2 r j := ⟨y 0, y 1, eq_ix2 y⟩
  frame_out
  canon_tiles x h
  all_goals
    obtain ⟨r, hr⟩ := r; obtain ⟨j, hj⟩ := j; obtain rfl : r = _ := h0
    obtain rfl : j = _ := h1
    open_payloads
    unfold projected Norm.proj Norm.unit Norm.rs
    pointwise
  all_goals exact Finset.sum_congr rfl fun k _ => congrArg (fun q => _ * b2 (ix2 q k)) (Fin.ext (by dsimp only; omega))

theorem point7 (y) : (out0_7 (F := Ideal) b0 b1 b2 y : EReal) = projected 2048 1792 (by decide) b0 b1 b2 y := by
  obtain ⟨r, j, rfl⟩ : ∃ r j, y = ix2 r j := ⟨y 0, y 1, eq_ix2 y⟩
  frame_out
  canon_tiles x h
  all_goals
    obtain ⟨r, hr⟩ := r; obtain ⟨j, hj⟩ := j; obtain rfl : r = _ := h0
    obtain rfl : j = _ := h1
    open_payloads
    unfold projected Norm.proj Norm.unit Norm.rs
    pointwise
  all_goals exact Finset.sum_congr rfl fun k _ => congrArg (fun q => _ * b2 (ix2 q k)) (Fin.ext (by dsimp only; omega))

end Points

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem rows0 (c : Dev nD) (t : Fin cfg0.N) (r : Fin 512) (l : Fin 1024) (h : t.val * 512 + r.val < 8192) :
    (iblk m c 0 t : FVec Ideal S512x1024 .f32) (ix2 r l) = (V m c main_v0 : FVec Ideal S8192x1024 .f32) (ix2 ⟨t.val * 512 + r.val, h⟩ l) := by
  blk_ext [iblk, V, idx t]
theorem whole1 (c : Dev nD) (t : Fin cfg0.N) : (iblk m c 1 t : FVec Ideal S1x1024 .f32) = V m c main_v1 := by
  funext j
  blk_ext [iblk, V, idx t]
theorem whole2 (c : Dev nD) (t : Fin cfg0.N) : (iblk m c 2 t : FVec Ideal S3840x1024 .bf16) = V m c main_v3 := by
  funext j
  blk_ext [iblk, V, idx t]

/-- A row of a point's block, normalized and projected, is the array's row there. -/
theorem rows_fn (c : Dev nD) (t : Fin cfg0.N) (r : Fin 512) (h : t.val * 512 + r.val < 8192) :
    (fun j => (iblk m c 0 t : FVec Ideal S512x1024 .f32) (ix2 r j)) = fun j => (V m c main_v0 : FVec Ideal S8192x1024 .f32) (ix2 ⟨t.val * 512 + r.val, h⟩ j) :=
  funext fun l => rows0 m c t r l h

theorem final3 (c : Dev nD) : (dats m 0 c).arrAt 3 cfg0.N = normed (V m c main_v0 : FVec Ideal S8192x1024 .f32) (V m c main_v1) := by
  refine (dats m 0 c).arrAt_eq_of_covers 3 _ (by decide +kernel) fun t hf y => ?_
  blk_simp
  rw [after0_3]
  refine (point3 _ _ _ y).trans ?_
  have e0 : ((win0_3.blk t).view.emb y 0).val = t.val * 512 + (y 0).val := by blk_point [idx t]
  have e1 : ((win0_3.blk t).view.emb y 1).val = (y 1).val := by blk_point [idx t]
  generalize (win0_3.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  dsimp only
  unfold normed
  rw [rows_fn m c t (y 0) hl, whole1]
  rfl

theorem final4 (c : Dev nD) : (dats m 0 c).arrAt 4 cfg0.N
    = projected 1024 0 (by decide) (V m c main_v0 : FVec Ideal S8192x1024 .f32) (V m c main_v1) (V m c main_v3) := by
  refine (dats m 0 c).arrAt_eq_of_covers 4 _ (by decide +kernel) fun t hf y => ?_
  blk_simp
  rw [after0_4]
  refine (point4 _ _ _ y).trans ?_
  have e0 : ((win0_4.blk t).view.emb y 0).val = t.val * 512 + (y 0).val := by blk_point [idx t]
  have e1 : ((win0_4.blk t).view.emb y 1).val = (y 1).val := by blk_point [idx t]
  generalize (win0_4.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  dsimp only
  unfold projected
  rw [rows_fn m c t (y 0) hl, whole1, whole2]
  rfl

theorem final5 (c : Dev nD) : (dats m 0 c).arrAt 5 cfg0.N
    = projected 256 1024 (by decide) (V m c main_v0 : FVec Ideal S8192x1024 .f32) (V m c main_v1) (V m c main_v3) := by
  refine (dats m 0 c).arrAt_eq_of_covers 5 _ (by decide +kernel) fun t hf y => ?_
  blk_simp
  rw [after0_5]
  refine (point5 _ _ _ y).trans ?_
  have e0 : ((win0_5.blk t).view.emb y 0).val = t.val * 512 + (y 0).val := by blk_point [idx t]
  have e1 : ((win0_5.blk t).view.emb y 1).val = (y 1).val := by blk_point [idx t]
  generalize (win0_5.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  dsimp only
  unfold projected
  rw [rows_fn m c t (y 0) hl, whole1, whole2]
  rfl

theorem final6 (c : Dev nD) : (dats m 0 c).arrAt 6 cfg0.N
    = projected 512 1280 (by decide) (V m c main_v0 : FVec Ideal S8192x1024 .f32) (V m c main_v1) (V m c main_v3) := by
  refine (dats m 0 c).arrAt_eq_of_covers 6 _ (by decide +kernel) fun t hf y => ?_
  blk_simp
  rw [after0_6]
  refine (point6 _ _ _ y).trans ?_
  have e0 : ((win0_6.blk t).view.emb y 0).val = t.val * 512 + (y 0).val := by blk_point [idx t]
  have e1 : ((win0_6.blk t).view.emb y 1).val = (y 1).val := by blk_point [idx t]
  generalize (win0_6.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  dsimp only
  unfold projected
  rw [rows_fn m c t (y 0) hl, whole1, whole2]
  rfl

theorem final7 (c : Dev nD) : (dats m 0 c).arrAt 7 cfg0.N
    = projected 2048 1792 (by decide) (V m c main_v0 : FVec Ideal S8192x1024 .f32) (V m c main_v1) (V m c main_v3) := by
  refine (dats m 0 c).arrAt_eq_of_covers 7 _ (by decide +kernel) fun t hf y => ?_
  blk_simp
  rw [after0_7]
  refine (point7 _ _ _ y).trans ?_
  have e0 : ((win0_7.blk t).view.emb y 0).val = t.val * 512 + (y 0).val := by blk_point [idx t]
  have e1 : ((win0_7.blk t).view.emb y 1).val = (y 1).val := by blk_point [idx t]
  generalize (win0_7.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  dsimp only
  unfold projected
  rw [rows_fn m c t (y 0) hl, whole1, whole2]
  rfl

/-! ## The arrays the call gets -/

theorem host_h (c : Dev nD) : V m c main_v0 = shapeCast S8192x1024 (m ((c : Thread nD τ).loc main_arg0)) shapeCasts_S1x8192x1024_S8192x1024 := by
  entry_read
  all_goals rfl

theorem host_gain (c : Dev nD) : V m c main_v1 = shapeCast S1x1024 (m ((c : Thread nD τ).loc main_arg1)) shapeCasts_S1024_S1x1024 := by
  entry_read
  all_goals rfl

theorem host_w (c : Dev nD) : V m c main_v3 = truncf (F := Ideal) .bf16 (transpose S3840x1024 [1, 0] (m ((c : Thread nD τ).loc main_arg2)) transposes_S1024x3840_S3840x1024_1_0) bitsLt_bf16_f32 := by
  entry_read
  all_goals rfl

end Cert.MixFwdIdeal.MixForward

end
-- ==== Proof.MixForwardEquation.lean ====
/-
  The norm before the mixers and its projection, forward: frames, the reference's five results entry by entry, and that
  kernel and reference leave the same arrays, from any arguments.
-/
module

public import proofs.«01_k».proof.Defs
public import proofs.«01_k».proof.Proof.MixForwardKernel
public import proofs.«01_k».proof.Proof.Gen.MixFwd
public import proofs.«01_k».proof.Proof.Gen.MixFwd.Frame
public import proofs.«01_k».proof.Proof.Gen.MixFwdRefIdeal.Read

@[expose] public section

set_option maxRecDepth 16384

noncomputable section

open Idealize.ShloMosaic Idealize.ShloMosaic.TcCoe Idealize.SL.Sem

namespace Cert.MixForwardEquation

/-! ## Frames -/

theorem kernel_frame : Cert.quiescent_MixFwd (hMixFwd := Cert.MixFwd.Gen.facts) := fun m ρ _ => Cert.MixFwd.Gen.frame m ρ

theorem ideal_frame : Cert.quiescent_MixFwdIdeal (hMixFwdIdeal := Cert.MixFwdIdeal.Gen.facts) := fun m ρ _ => Cert.MixFwdIdeal.Gen.frame m ρ

theorem reference_frame : Cert.quiescent_MixFwdRefIdeal (hMixFwdRefIdeal := Cert.MixFwdRefIdeal.Gen.facts) :=
  fun m ρ _ => (θ_run Cert.MixFwdRefIdeal.defs _ _).mono
    (fun r h => ⟨fun c => (h c).2.2.2.2.2, Idealize.ShloMosaic.sem_eq_zero_of_no_sems (by decide) r.2⟩)
    (Cert.MixFwdRefIdeal.Value.run (F := Ideal) m ρ)

/-! ## The reference -/

section Reference
open Cert.MixFwdRefIdeal Cert.MixFwdRefIdeal.Gen Cert.MixFwdRefIdeal.Read
variable (x : FVec Ideal S1x8192x1024 .f32) (g : FVec Ideal S1024 .f32) (w : FVec Ideal S1024x3840 .f32)

theorem scale_at (n : Fin 8192) : (val_main_v7 (F := Ideal) x (ix3 0 n 0) : EReal) = Norm.rs fun j => x (ix3 0 n j) := by
  unfold Norm.rs val_main_v7 val_main_v6 val_main_v5 val_main_v4 val_main_v3 val_main_v2 val_main_v1 val_main_v0 val_main_cst val_main_cst_0 val_main_cst_1
  pointwise [Ideal.ofBits_zero_f32]

theorem unit_at (n : Fin 8192) (j : Fin 1024) : (val_main_v12 (F := Ideal) x g (ix3 0 n j) : EReal)
    = Norm.unit (fun j => x (ix3 0 n j)) (fun j => g (ix1 j)) j := by
  unfold Norm.unit
  rw [← scale_at]
  unfold val_main_v12 val_main_v11 val_main_v10 val_main_v9 val_main_v8
  generalize val_main_v7 (F := Ideal) x = s
  pointwise

theorem proj_at (n : Fin 8192) (k : Fin 3840) : (val_main_v13 (F := Ideal) x g w (ix3 0 n k) : EReal)
    = Norm.proj (fun j => x (ix3 0 n j)) (fun j => g (ix1 j)) (fun j => w (ix2 j k)) := by
  unfold Norm.proj
  simp only [← unit_at]
  unfold val_main_v13
  generalize val_main_v12 (F := Ideal) x g = u
  pointwise

theorem u_at (n : Fin 8192) (j : Fin 1024) : (val_main_v27 (F := Ideal) x g (ix2 n j) : EReal) = val_main_v12 (F := Ideal) x g (ix3 0 n j) := by
  unfold val_main_v27 val_main_v26
  generalize val_main_v12 (F := Ideal) x g = u
  pointwise

theorem q_at (n : Fin 8192) (j : Fin 1024) : (val_main_v28 (F := Ideal) x g w (ix2 n j) : EReal)
    = val_main_v13 (F := Ideal) x g w (ix3 0 n ⟨0 + j.val, by omega⟩) := by
  unfold val_main_v28 val_main_v20 val_main_v14
  generalize val_main_v13 (F := Ideal) x g w = u
  pointwise

theorem kv_at (n : Fin 8192) (j : Fin 256) : (val_main_v30 (F := Ideal) x g w (ix2 n j) : EReal)
    = val_main_v13 (F := Ideal) x g w (ix3 0 n ⟨1024 + j.val, by omega⟩) := by
  unfold val_main_v30 val_main_v29 val_main_v21 val_main_v22 val_main_v15 val_main_v16
  generalize val_main_v13 (F := Ideal) x g w = u
  pointwise
  split
  · rfl
  · exact congrArg (fun q => u (ix3 0 n q)) (Fin.ext (by dsimp only; omega))

theorem z_at (n : Fin 8192) (j : Fin 512) : (val_main_v23 (F := Ideal) x g w (ix2 n j) : EReal)
    = val_main_v13 (F := Ideal) x g w (ix3 0 n ⟨1280 + j.val, by omega⟩) := by
  unfold val_main_v23 val_main_v17
  generalize val_main_v13 (F := Ideal) x g w = u
  pointwise

theorem gates_at (n : Fin 8192) (j : Fin 2048) : (val_main_v32 (F := Ideal) x g w (ix2 n j) : EReal)
    = val_main_v13 (F := Ideal) x g w (ix3 0 n ⟨1792 + j.val, by omega⟩) := by
  unfold val_main_v32 val_main_v31 val_main_v24 val_main_v25 val_main_v18 val_main_v19
  generalize val_main_v13 (F := Ideal) x g w = u
  pointwise
  split
  · rfl
  · exact congrArg (fun q => u (ix3 0 n q)) (Fin.ext (by dsimp only; omega))

end Reference

/-! ## The two programs agree -/

section Values
open Cert.MixFwdIdeal Cert.MixFwdIdeal.Gen Cert.MixFwdIdeal.MixForward
variable (x : FVec Ideal S1x8192x1024 .f32) (g : FVec Ideal S1024 .f32) (w : FVec Ideal S1024x3840 .f32)

theorem rows_cast (n : Fin 8192) (j : Fin 1024) : shapeCast S8192x1024 x shapeCasts_S1x8192x1024_S8192x1024 (ix2 n j) = x (ix3 0 n j) := by
  pointwise
theorem gain_cast (j : Fin 1024) : shapeCast S1x1024 g shapeCasts_S1024_S1x1024 (ix2 0 j) = g (ix1 j) := by
  pointwise
theorem w_cast (k : Fin 3840) (j : Fin 1024) :
    (truncf (F := Ideal) .bf16 (transpose S3840x1024 [1, 0] w transposes_S1024x3840_S3840x1024_1_0) bitsLt_bf16_f32 (ix2 k j) : EReal) = w (ix2 j k) := by
  pointwise

/-- The call's normalized rows, from the program's arguments. -/
theorem normed_args (n : Fin 8192) (j : Fin 1024) : normed (shapeCast S8192x1024 x shapeCasts_S1x8192x1024_S8192x1024)
      (shapeCast S1x1024 g shapeCasts_S1024_S1x1024) (ix2 n j) = Norm.unit (fun j => x (ix3 0 n j)) (fun j => g (ix1 j)) j := by
  change Norm.unit (fun j => shapeCast S8192x1024 x shapeCasts_S1x8192x1024_S8192x1024 (ix2 n j))
    (fun j => shapeCast S1x1024 g shapeCasts_S1024_S1x1024 (ix2 0 j)) j = _
  simp only [rows_cast, gain_cast]

/-- The call's projected columns, from the program's arguments. -/
theorem projected_args (k off : ℕ) (hk : off + k ≤ 3840) (n : Fin 8192) (l : Fin k) :
    projected k off hk (shapeCast S8192x1024 x shapeCasts_S1x8192x1024_S8192x1024) (shapeCast S1x1024 g shapeCasts_S1024_S1x1024)
      (truncf (F := Ideal) .bf16 (transpose S3840x1024 [1, 0] w transposes_S1024x3840_S3840x1024_1_0) bitsLt_bf16_f32) (ix2 n l)
      = Cert.MixFwdRefIdeal.Read.val_main_v13 (F := Ideal) x g w (ix3 0 n ⟨off + l.val, by omega⟩) := by
  rw [proj_at]
  change Norm.proj (fun j => shapeCast S8192x1024 x shapeCasts_S1x8192x1024_S8192x1024 (ix2 n j))
    (fun j => shapeCast S1x1024 g shapeCasts_S1024_S1x1024 (ix2 0 j))
    (fun j => truncf (F := Ideal) .bf16 (transpose S3840x1024 [1, 0] w transposes_S1024x3840_S3840x1024_1_0) bitsLt_bf16_f32 (ix2 ⟨off + l.val, by omega⟩ j)) = _
  simp only [rows_cast, gain_cast]
  exact congrArg (Norm.proj _ _) (funext fun j => w_cast w _ j)

end Values

theorem mix_fwd_algebraic : Cert.algebraic_MixFwdIdeal_MixFwdRefIdeal (hMixFwdIdeal := Cert.MixFwdIdeal.Gen.facts)
    (hMixFwdRefIdeal := Cert.MixFwdRefIdeal.Gen.facts) := by
  intro m g m' g' hpre hargs
  refine ⟨_, _, _, _, _, Cert.MixFwdIdeal.Value.run_blocks m g, ?_⟩
  refine (θ_run (Cert.MixFwdRefIdeal.defs (F := Ideal)) _ _).mono (fun r h c => ?_) (Cert.MixFwdRefIdeal.Value.run (F := Ideal) m' g')
  obtain ⟨hu, hq, hkv, hz, hgt, kept⟩ := h c
  obtain ⟨a0, a1, a2⟩ := hargs c
  refine ⟨Eq.trans (hu.trans ?_) (Cert.MixFwdIdeal.MixForward.final3 m c).symm, Eq.trans (hq.trans ?_) (Cert.MixFwdIdeal.MixForward.final4 m c).symm,
    Eq.trans (hkv.trans ?_) (Cert.MixFwdIdeal.MixForward.final5 m c).symm, Eq.trans (hz.trans ?_) (Cert.MixFwdIdeal.MixForward.final6 m c).symm,
    Eq.trans (hgt.trans ?_) (Cert.MixFwdIdeal.MixForward.final7 m c).symm, kept⟩
  · rw [Cert.MixFwdRefIdeal.Read.val_main_v27_eq, a0, a1, Cert.MixFwdIdeal.MixForward.host_h, Cert.MixFwdIdeal.MixForward.host_gain]
    funext y
    obtain ⟨n, j, rfl⟩ : ∃ n j, y = ix2 n j := ⟨y 0, y 1, eq_ix2 y⟩
    exact ((u_at _ _ n j).trans (unit_at _ _ n j)).trans (normed_args _ _ n j).symm
  · rw [Cert.MixFwdRefIdeal.Read.val_main_v28_eq, a0, a1, a2, Cert.MixFwdIdeal.MixForward.host_h, Cert.MixFwdIdeal.MixForward.host_gain, Cert.MixFwdIdeal.MixForward.host_w]
    funext y
    obtain ⟨n, j, rfl⟩ : ∃ n j, y = ix2 n j := ⟨y 0, y 1, eq_ix2 y⟩
    exact (q_at _ _ _ n j).trans (projected_args _ _ _ 1024 0 _ n j).symm
  · rw [Cert.MixFwdRefIdeal.Read.val_main_v30_eq, a0, a1, a2, Cert.MixFwdIdeal.MixForward.host_h, Cert.MixFwdIdeal.MixForward.host_gain, Cert.MixFwdIdeal.MixForward.host_w]
    funext y
    obtain ⟨n, j, rfl⟩ : ∃ n j, y = ix2 n j := ⟨y 0, y 1, eq_ix2 y⟩
    exact (kv_at _ _ _ n j).trans (projected_args _ _ _ 256 1024 _ n j).symm
  · rw [Cert.MixFwdRefIdeal.Read.val_main_v23_eq, a0, a1, a2, Cert.MixFwdIdeal.MixForward.host_h, Cert.MixFwdIdeal.MixForward.host_gain, Cert.MixFwdIdeal.MixForward.host_w]
    funext y
    obtain ⟨n, j, rfl⟩ : ∃ n j, y = ix2 n j := ⟨y 0, y 1, eq_ix2 y⟩
    exact (z_at _ _ _ n j).trans (projected_args _ _ _ 512 1280 _ n j).symm
  · rw [Cert.MixFwdRefIdeal.Read.val_main_v32_eq, a0, a1, a2, Cert.MixFwdIdeal.MixForward.host_h, Cert.MixFwdIdeal.MixForward.host_gain, Cert.MixFwdIdeal.MixForward.host_w]
    funext y
    obtain ⟨n, j, rfl⟩ : ∃ n j, y = ix2 n j := ⟨y 0, y 1, eq_ix2 y⟩
    exact (gates_at _ _ _ n j).trans (projected_args _ _ _ 2048 1792 _ n j).symm

end Cert.MixForwardEquation

end
-- ==== Proof.FfnUpKernel.lean ====
/-
  The norm, the up projection and the gate of a half step, as the forward call's grid computes them: what a block of rows
  leaves in the factors of the gate's derivative and in the gate's product.
-/
module

public import proofs.«01_k».proof.Proof.LossKernel
public import proofs.«01_k».proof.Proof.Gen.FfnUpIdeal.Value

@[expose] public section

set_option maxRecDepth 16384

noncomputable section

open Idealize.ShloMosaic Idealize.ShloMosaic.TcCoe Idealize.SL.Sem
open Idealize.ShloMosaic.Pipeline (Dat)

namespace Cert.FfnUpIdeal.Up

open Cert.FfnUpIdeal Cert.FfnUpIdeal.Gen
open Cert.LossIdeal.Loss (at2 upRow hidBlock abBlock hid_tile ab_low ab_high)

/-- Stored pieces of one function that cover the shape are that function. -/
theorem stored {Val : EltTy → Type} [∀ e, Nonempty (Val e)] {s : Shape} {e : EltTy} {L : List (View.Piece Val s e)} {G : s.Idx → Val e}
    (h : View.PiecesOf G L) (hc : ∀ y, ∃ p ∈ L, y ∈ p.1.set) (y) : View.canon L y = G y := by
  simpa using View.canon_append_of_piecesOf G [] L h y (hc y)

section Points
variable (b0 : FVec Ideal S512x1024 .f32) (b1 : FVec Ideal S1x1024 .f32) (b2 : FVec Ideal S1024x5632 .bf16)

/-- The products add to zero. -/
theorem zero85 (i) : (k0_pay85 (F := Ideal) b0 b1 b2 i : EReal) = 0 := Ideal.ofBits_zero_f32
theorem zero90 (i) : (k0_pay90 (F := Ideal) b0 b1 b2 i : EReal) = 0 := Ideal.ofBits_zero_f32
theorem zero95 (i) : (k0_pay95 (F := Ideal) b0 b1 b2 i : EReal) = 0 := Ideal.ofBits_zero_f32

set_option maxHeartbeats 20000000 in
theorem point3 : ∀ y, (out0_3 (F := Ideal) b0 b1 b2 y : EReal) = abBlock b0 b1 b2 y := by
  frame_out
  refine stored (Val := Elt Ideal) (s := S512x5632) (e := .bf16) (G := abBlock b0 b1 b2) ?_ ?_
  · repeat' (refine And.intro (fun x => ?_) ?_)
    any_goals exact trivial
    all_goals
      obtain ⟨r, j, rfl⟩ : ∃ r j, x = ix2 r j := ⟨x 0, x 1, eq_ix2 x⟩
      dsimp only
      first
        | rw [ab_low b0 b1 b2 _ _ _ _ (by decide) _ _ rfl rfl]
        | rw [ab_high b0 b1 b2 _ _ _ _ (by decide) _ rfl]
      open_payloads
      unfold upRow Swiglu.byTanh Swiglu.up Norm.rs at2
      try dsimp only [Nat.reduceAdd, Nat.reduceSub]
      pointwise [zero85, zero90, zero95]
  · exact View.cover_of_tiledL _ ![512, 256] (by sl_kernel_rfl)

set_option maxHeartbeats 20000000 in
theorem point4 : ∀ y, (out0_4 (F := Ideal) b0 b1 b2 y : EReal) = hidBlock b0 b1 b2 y := by
  frame_out
  refine stored (Val := Elt Ideal) (s := S512x2816) (e := .bf16) (G := hidBlock b0 b1 b2) ?_ ?_
  · repeat' (refine And.intro (fun x => ?_) ?_)
    any_goals exact trivial
    all_goals
      obtain ⟨r, j, rfl⟩ : ∃ r j, x = ix2 r j := ⟨x 0, x 1, eq_ix2 x⟩
      dsimp only
      rw [hid_tile b0 b1 b2 _ _ _ _ (by decide)]
      open_payloads
      unfold upRow Swiglu.byTanh Swiglu.up Norm.rs at2
      try dsimp only [Nat.reduceAdd, Nat.reduceSub]
      pointwise [zero85, zero90, zero95]
  · exact View.cover_of_tiledL _ ![512, 256] (by sl_kernel_rfl)

end Points

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem rows0 (c : Dev nD) (t : Fin cfg0.N) (r : Fin 512) (h : t.val * 512 + r.val < 8192) :
    at2 (iblk m c 0 t : FVec Ideal S512x1024 .f32) r = at2 (V m c main_v0 : FVec Ideal S8192x1024 .f32) ⟨t.val * 512 + r.val, h⟩ := by
  funext l
  unfold at2
  blk_ext [iblk, V, idx t]
theorem whole1 (c : Dev nD) (t : Fin cfg0.N) : (iblk m c 1 t : FVec Ideal S1x1024 .f32) = V m c main_v1 := by
  funext j
  blk_ext [iblk, V, idx t]
theorem whole2 (c : Dev nD) (t : Fin cfg0.N) : (iblk m c 2 t : FVec Ideal S1024x5632 .bf16) = V m c main_v2 := by
  funext j
  blk_ext [iblk, V, idx t]

theorem up_rows (c : Dev nD) (t : Fin cfg0.N) (r : Fin 512) (h : t.val * 512 + r.val < 8192) :
    upRow (iblk m c 0 t : FVec Ideal S512x1024 .f32) (iblk m c 1 t) (iblk m c 2 t) r
      = upRow (V m c main_v0 : FVec Ideal S8192x1024 .f32) (V m c main_v1) (V m c main_v2) ⟨t.val * 512 + r.val, h⟩ := by
  unfold upRow
  rw [rows0 m c t r h, whole1, whole2]

/-- The factors after the call. -/
theorem final3 (c : Dev nD) : (dats m 0 c).arrAt 3 cfg0.N = abBlock (V m c main_v0 : FVec Ideal S8192x1024 .f32) (V m c main_v1) (V m c main_v2) := by
  refine (dats m 0 c).arrAt_eq_of_covers 3 _ (by decide +kernel) fun t hf y => ?_
  blk_simp
  rw [after0_3]
  refine (point3 _ _ _ y).trans ?_
  have e0 : ((win0_3.blk t).view.emb y 0).val = t.val * 512 + (y 0).val := by blk_point [idx t]
  have e1 : ((win0_3.blk t).view.emb y 1).val = (y 1).val := by blk_point [idx t]
  generalize (win0_3.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  exact congrArg (fun u => Swiglu.factor u (y 1)) (up_rows m c t (y 0) hl)

/-- The gate's product after the call. -/
theorem final4 (c : Dev nD) : (dats m 0 c).arrAt 4 cfg0.N = hidBlock (V m c main_v0 : FVec Ideal S8192x1024 .f32) (V m c main_v1) (V m c main_v2) := by
  refine (dats m 0 c).arrAt_eq_of_covers 4 _ (by decide +kernel) fun t hf y => ?_
  blk_simp
  rw [after0_4]
  refine (point4 _ _ _ y).trans ?_
  have e0 : ((win0_4.blk t).view.emb y 0).val = t.val * 512 + (y 0).val := by blk_point [idx t]
  have e1 : ((win0_4.blk t).view.emb y 1).val = (y 1).val := by blk_point [idx t]
  generalize (win0_4.blk t).view.emb y = i at e0 e1
  have hl : t.val * 512 + (y 0).val < 8192 := e0 ▸ (i 0).isLt
  obtain rfl : i = ix2 ⟨t.val * 512 + (y 0).val, hl⟩ (y 1) := Norm.index2 (Fin.ext e0) (Fin.ext e1)
  exact congrArg (fun u => HalfLoss.hid u (y 1)) (up_rows m c t (y 0) hl)

end Cert.FfnUpIdeal.Up

end
-- ==== Proof.FfnUpEquation.lean ====
/-
  The norm, the up projection and the gate of a half step, forward: frames, and that kernel and reference leave the same
  factors and the same gate's product, from finite hidden rows, gain and projection.
-/
module

public import proofs.«01_k».proof.Defs
public import proofs.«01_k».proof.Proof.FfnUpKernel
public import proofs.«01_k».proof.Proof.LossEquation
public import proofs.«01_k».proof.Proof.Gen.FfnUp
public import proofs.«01_k».proof.Proof.Gen.FfnUp.Frame
public import proofs.«01_k».proof.Proof.Gen.FfnUpRefIdeal.Read
public import proofs.«01_k».proof.Proof.Gen.Pre_ffn_up_finite

@[expose] public section

set_option maxRecDepth 16384

noncomputable section

open Idealize.ShloMosaic Idealize.ShloMosaic.TcCoe Idealize.SL.Sem

namespace Cert.FfnUpEquation

/-! ## Frames -/

theorem kernel_frame : Cert.quiescent_FfnUp (hFfnUp := Cert.FfnUp.Gen.facts) := fun m ρ _ => Cert.FfnUp.Gen.frame m ρ

theorem ideal_frame : Cert.quiescent_FfnUpIdeal (hFfnUpIdeal := Cert.FfnUpIdeal.Gen.facts) := fun m ρ _ => Cert.FfnUpIdeal.Gen.frame m ρ

theorem reference_frame : Cert.quiescent_FfnUpRefIdeal (hFfnUpRefIdeal := Cert.FfnUpRefIdeal.Gen.facts) :=
  fun m ρ _ => (θ_run Cert.FfnUpRefIdeal.defs _ _).mono
    (fun r h => ⟨fun c => (h c).2.2, Idealize.ShloMosaic.sem_eq_zero_of_no_sems (by decide) r.2⟩)
    (Cert.FfnUpRefIdeal.Value.run (F := Ideal) m ρ)

/-! ## The two programs agree -/

section Values
open Cert.FfnUpIdeal Cert.FfnUpIdeal.Gen
open Cert.LossIdeal.Loss (rows gain)
variable (m : (ℓ : Loc nD τ sig) → Buf (Elt Ideal) ℓ)

theorem host_h (c : Dev nD) : V m c main_v0 = rows (m ((c : Thread nD τ).loc main_arg0)) := by
  entry_read
  all_goals rfl
theorem host_gain (c : Dev nD) : V m c main_v1 = gain (m ((c : Thread nD τ).loc main_arg1)) := by
  entry_read
  all_goals rfl
theorem host_up (c : Dev nD) : V m c main_v2 = truncf (F := Ideal) .bf16 (m ((c : Thread nD τ).loc main_arg2)) bitsLt_bf16_f32 := by
  entry_read
  all_goals rfl

variable (x0 : FVec Ideal S1x8192x1024 .f32) (x1 : FVec Ideal S1024 .f32) (x2 : FVec Ideal S1024x5632 .f32)

/-- The half step's first part is the one in front of the loss. -/
theorem factors_same : Cert.FfnUpRefIdeal.Read.val_main_v24 (F := Ideal) x0 x1 x2 = Cert.LossRefIdeal.Read.val_main_v81 (F := Ideal) x0 x1 x2 := rfl
theorem gated_same : Cert.FfnUpRefIdeal.Read.val_main_v26 (F := Ideal) x0 x1 x2 = Cert.LossRefIdeal.Read.val_main_v83 (F := Ideal) x0 x1 x2 := rfl

end Values

theorem up_algebraic : Cert.algebraic_FfnUpIdeal_FfnUpRefIdeal_pre_ffn_up_finite (hFfnUpIdeal := Cert.FfnUpIdeal.Gen.facts)
    (hFfnUpRefIdeal := Cert.FfnUpRefIdeal.Gen.facts) (hPre_ffn_up_finite := Cert.Pre_ffn_up_finite.Gen.facts) := by
  intro m g m' g' hpre hargs
  refine ⟨_, _, Cert.FfnUpIdeal.Value.run_blocks m g, ?_⟩
  refine (θ_run (Cert.FfnUpRefIdeal.defs (F := Ideal)) _ _).mono (fun r h c => ?_) (Cert.FfnUpRefIdeal.Value.run (F := Ideal) m' g')
  obtain ⟨ha, hh, kept⟩ := h c
  have e := congrFun (hpre c) fun i => i.elim0
  dsimp only [Cert.Pre_ffn_up_finite.fn, andi] at e
  obtain ⟨e, e2⟩ := IntOp.andi_eq_one.1 e
  obtain ⟨e0, e1⟩ := IntOp.andi_eq_one.1 e
  obtain ⟨a0, a1, a2⟩ := hargs c
  have r0 := Finite.real_of_all _ _ _ _ _ _ _ e0
  have r1 := Finite.real_of_all _ _ _ _ _ _ _ e1
  have r2 := Finite.real_of_all _ _ _ _ _ _ _ e2
  refine ⟨Eq.trans (ha.trans ?_) (Cert.FfnUpIdeal.Up.final3 m c).symm, Eq.trans (hh.trans ?_) (Cert.FfnUpIdeal.Up.final4 m c).symm, kept⟩
  · rw [Cert.FfnUpRefIdeal.Read.val_main_v24_eq, a0, a1, a2, factors_same, host_h, host_gain, host_up]
    exact LossEquation.ab_eq _ _ _ r0 r1 r2
  · rw [Cert.FfnUpRefIdeal.Read.val_main_v26_eq, a0, a1, a2, gated_same, host_h, host_gain, host_up]
    exact LossEquation.hid_all_eq _ _ _ r0 r1 r2

end Cert.FfnUpEquation

end
-- ==== Proof.FfnDownEquation.lean ====
/-
  The down projection of a half step and its residual, forward: what the call's grid leaves, the reference's rows, frames, and
  that kernel and reference leave the same array, from any arguments.
-/
module

public import proofs.«01_k».proof.Defs
public import proofs.«01_k».proof.Proof.NormRows
public import proofs.«01_k».proof.Proof.Gen.FfnDown
public import proofs.«01_k».proof.Proof.Gen.FfnDown.Frame
public import proofs.«01_k».proof.Proof.Gen.FfnDownIdeal.Value
public import proofs.«01_k».proof.Proof.Gen.FfnDownRefIdeal.Read
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDownEquation

/-! ## Frames -/

theorem kernel_frame : Cert.quiescent_FfnDown (hFfnDown := Cert.FfnDown.Gen.facts) := fun m ρ _ => Cert.FfnDown.Gen.frame m ρ

theorem ideal_frame : Cert.quiescent_FfnDownIdeal (hFfnDownIdeal := Cert.FfnDownIdeal.Gen.facts) := fun m ρ _ => Cert.FfnDownIdeal.Gen.frame m ρ

theorem reference_frame : Cert.quiescent_FfnDownRefIdeal (hFfnDownRefIdeal := Cert.FfnDownRefIdeal.Gen.facts) :=
  fun m ρ _ => (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- A row plus half the gate's product carried down. -/
def down (x : EReal) (p w : Fin 2816 → EReal) : EReal := x + Ideal.ofBits .f32 0x3F000000#32 * ∑ k, p k * w k

/-! ## The call -/

section Call
open Cert.FfnDownIdeal Cert.FfnDownIdeal.Gen

/-- What a point leaves in a block of rows. -/
def downRows {n : ℕ} (x : FVec Ideal ⟨2, ![n, 1024]⟩ .f32) (p : FVec Ideal ⟨2, ![n, 2816]⟩ .bf16) (w : FVec Ideal S2816x1024 .bf16) :
    (⟨2, ![n, 1024]⟩ : Shape).Idx → EReal := fun y => down (x y) (fun k => p (ix2 (y 0) k)) (fun k => w (ix2 k (y 1)))

theorem point3 (b0 : FVec Ideal S1024x1024 .f32) (b1 : FVec Ideal S1024x2816 .bf16) (b2 : FVec Ideal S2816x1024 .bf16) (y) :
    (out0_3 (F := Ideal) b0 b1 b2 y : EReal) = downRows b0 b1 b2 y := by
  obtain ⟨r, j, rfl⟩ : ∃ r j, y = ix2 r j := ⟨y 0, y 1, eq_ix2 y⟩
  frame_out
  open_payloads
  unfold downRows down
  pointwise

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem rows0 (c : Dev nD) (t : Fin cfg0.N) (r : Fin 1024) (l : Fin 1024) (h : t.val * 1024 + r.val < 8192) :
    (iblk m c 0 t : FVec Ideal S1024x1024 .f32) (ix2 r l) = (V m c main_v0 : FVec Ideal S8192x1024 .f32) (ix2 ⟨t.val * 1024 + r.val, h⟩ l) := by
  blk_ext [iblk, V, idx t]
theorem rows1 (c : Dev nD) (t : Fin cfg0.N) (r : Fin 1024) (l : Fin 2816) (h : t.val * 1024 + r.val < 8192) :
    (iblk m c 1 t : FVec Ideal S1024x2816 .bf16) (ix2 r l) = (V m c main_v2 : FVec Ideal S8192x2816 .bf16) (ix2 ⟨t.val * 1024 + r.val, h⟩ l) := by
  blk_ext [iblk, V, idx t]
theorem whole2 (c : Dev nD) (t : Fin cfg0.N) : (iblk m c 2 t : FVec Ideal S2816x1024 .bf16) = V m c main_v3 := by
  funext j
  blk_ext [iblk, V, idx t]

theorem final3 (c : Dev nD) : (dats m 0 c).arrAt 3 cfg0.N
    = downRows (V m c main_v0 : FVec Ideal S8192x1024 .f32) (V m c main_v2) (V m c main_v3) := by
  refine (dats m 0 c).arrAt_eq_of_covers 3 _ (by decide +kernel) fun t hf y => ?_
  blk_simp
  rw [after0_3]
  refine (point3 _ _ _ y).trans ?_
  have e0 : ((win0_3.blk t).view.emb y 0).val = t.val * 1024 + (y 0).val := by blk_point [idx t]
  have e1 : ((win0_3.blk t).view.emb y 1).val = (y 1).val := by blk_point [idx t]
  generalize (win0_3.blk t).view.emb y = i at e0 e1
  have hl : t.val * 1024 + (y 0).val < 8192 := e0 ▸ (i 0).isLt
  obtain rfl : i = ix2 ⟨t.val * 1024 + (y 0).val, hl⟩ (y 1) := Norm.index2 (Fin.ext e0) (Fin.ext e1)
  obtain ⟨r, j, rfl⟩ : ∃ r j, y = ix2 r j := ⟨y 0, y 1, eq_ix2 y⟩
  change down ((iblk m c 0 t : FVec Ideal S1024x1024 .f32) (ix2 r j)) (fun k => (iblk m c 1 t : FVec Ideal S1024x2816 .bf16) (ix2 r k))
    (fun k => (iblk m c 2 t : FVec Ideal S2816x1024 .bf16) (ix2 k j)) = _
  simp only [rows0 m c t r _ hl, rows1 m c t r _ hl, whole2]
  rfl

theorem host_h (c : Dev nD) : V m c main_v0 = shapeCast S8192x1024 (m ((c : Thread nD τ).loc main_arg0)) shapeCasts_S1x8192x1024_S8192x1024 := by
  entry_read
  all_goals rfl
theorem host_hid (c : Dev nD) : V m c main_v2 = truncf (F := Ideal) .bf16
    (shapeCast S8192x2816 (m ((c : Thread nD τ).loc main_arg1)) shapeCasts_S1x8192x2816_S8192x2816) bitsLt_bf16_f32 := by
  entry_read
  all_goals rfl
theorem host_w (c : Dev nD) : V m c main_v3 = truncf (F := Ideal) .bf16 (m ((c : Thread nD τ).loc main_arg2)) bitsLt_bf16_f32 := by
  entry_read
  all_goals rfl

variable (x : FVec Ideal S1x8192x1024 .f32) (p : FVec Ideal S1x8192x2816 .f32) (w : FVec Ideal S2816x1024 .f32)

theorem row_cast (n : Fin 8192) (j : Fin 1024) : shapeCast S8192x1024 x shapeCasts_S1x8192x1024_S8192x1024 (ix2 n j) = x (ix3 0 n j) := by
  pointwise
theorem hid_cast (n : Fin 8192) (k : Fin 2816) :
    (truncf (F := Ideal) .bf16 (shapeCast S8192x2816 p shapeCasts_S1x8192x2816_S8192x2816) bitsLt_bf16_f32 (ix2 n k) : EReal) = p (ix3 0 n k) := by
  pointwise
theorem w_cast (k : Fin 2816) (j : Fin 1024) : (truncf (F := Ideal) .bf16 w bitsLt_bf16_f32 (ix2 k j) : EReal) = w (ix2 k j) := by
  pointwise

/-- The call's rows, from the program's arguments. -/
theorem down_args (n : Fin 8192) (j : Fin 1024) : downRows (shapeCast S8192x1024 x shapeCasts_S1x8192x1024_S8192x1024)
      (truncf (F := Ideal) .bf16 (shapeCast S8192x2816 p shapeCasts_S1x8192x2816_S8192x2816) bitsLt_bf16_f32)
      (truncf (F := Ideal) .bf16 w bitsLt_bf16_f32) (ix2 n j) = down (x (ix3 0 n j)) (fun k => p (ix3 0 n k)) (fun k => w (ix2 k j)) := by
  change down (shapeCast S8192x1024 x shapeCasts_S1x8192x1024_S8192x1024 (ix2 n j))
    (fun k => truncf (F := Ideal) .bf16 (shapeCast S8192x2816 p shapeCasts_S1x8192x2816_S8192x2816) bitsLt_bf16_f32 (ix2 n k))
    (fun k => truncf (F := Ideal) .bf16 w bitsLt_bf16_f32 (ix2 k j)) = _
  simp only [row_cast, hid_cast, w_cast]

end Call

/-! ## The reference -/

theorem down_at (x : FVec Ideal Cert.FfnDownRefIdeal.S1x8192x1024 .f32) (p : FVec Ideal Cert.FfnDownRefIdeal.S1x8192x2816 .f32)
    (w : FVec Ideal Cert.FfnDownRefIdeal.S2816x1024 .f32) (n : Fin 8192) (j : Fin 1024) :
    (Cert.FfnDownRefIdeal.Read.val_main_v4 (F := Ideal) x p w (ix2 n j) : EReal)
      = down (x (ix3 0 n j)) (fun k => p (ix3 0 n k)) (fun k => w (ix2 k j)) := by
  unfold down Cert.FfnDownRefIdeal.Read.val_main_v4 Cert.FfnDownRefIdeal.Read.val_main_v3 Cert.FfnDownRefIdeal.Read.val_main_v2
    Cert.FfnDownRefIdeal.Read.val_main_v1 Cert.FfnDownRefIdeal.Read.val_main_v0 Cert.FfnDownRefIdeal.Read.val_main_cst
  pointwise

/-! ## The two programs agree -/

theorem down_algebraic : Cert.algebraic_FfnDownIdeal_FfnDownRefIdeal (hFfnDownIdeal := Cert.FfnDownIdeal.Gen.facts)
    (hFfnDownRefIdeal := Cert.FfnDownRefIdeal.Gen.facts) := by
  intro m g m' g' hpre hargs
  refine ⟨_, Cert.FfnDownIdeal.Value.run_blocks m g, ?_⟩
  refine (θ_run (Cert.FfnDownRefIdeal.defs (F := Ideal)) _ _).mono (fun r h c => ?_) (Cert.FfnDownRefIdeal.Value.run (F := Ideal) m' g')
  obtain ⟨ho, kept⟩ := h c
  obtain ⟨a0, a1, a2⟩ := hargs c
  refine ⟨Eq.trans (ho.trans ?_) (final3 m c).symm, kept⟩
  rw [Cert.FfnDownRefIdeal.Read.val_main_v4_eq, a0, a1, a2, host_h, host_hid, host_w]
  funext y
  obtain ⟨n, j, rfl⟩ : ∃ n j, y = ix2 n j := ⟨y 0, y 1, eq_ix2 y⟩
  exact (down_at _ _ _ n j).trans (down_args _ _ _ n j).symm

end Cert.FfnDownEquation

end
-- ==== Proof.RideHost.lean ====
/-
  The arrays that the call with the update riding along gets, from the program's arguments.
-/
module

public import proofs.«01_k».proof.Proof.FfnHost
public import proofs.«01_k».proof.Proof.Gen.RideIdeal.Value

@[expose] public section

set_option maxRecDepth 16384

noncomputable section

open Idealize.ShloMosaic Idealize.ShloMosaic.TcCoe Idealize.SL.Sem

namespace Cert.RideIdeal.Ride

open Cert.RideIdeal Cert.RideIdeal.Gen Cert.RideIdeal.Value
open Cert.FfnIdeal.Ffn (normed gateHalf otherHalf factors rows gain wide)

variable (m : (ℓ : Loc nD τ sig) → Buf (Elt Ideal) ℓ)

theorem host_ct (c : Dev nD) : V m c main_v2 = rows (m ((c : Thread nD τ).loc main_arg4)) := by
  entry_read
  all_goals rfl

theorem host_h (c : Dev nD) : V m c main_v3 = rows (m ((c : Thread nD τ).loc main_arg0)) := by
  entry_read
  all_goals rfl

theorem host_gain (c : Dev nD) : V m c main_v0 = gain (m ((c : Thread nD τ).loc main_arg1)) := by
  entry_read
  all_goals rfl

theorem host_up (c : Dev nD) : V m c main_v1 = wide (m ((c : Thread nD τ).loc main_arg2)) := by
  entry_read
  all_goals rfl

theorem host_down (c : Dev nD) : V m c main_v38 = truncf (F := Ideal) .bf16 (m ((c : Thread nD τ).loc main_arg3)) bitsLt_bf16_f32 := by
  entry_read
  all_goals rfl

theorem host_factors (c : Dev nD) : V m c main_v37
    = factors (gateHalf (normed (rows (m ((c : Thread nD τ).loc main_arg0))) (gain (m ((c : Thread nD τ).loc main_arg1)))) (wide (m ((c : Thread nD τ).loc main_arg2))))
      (otherHalf (normed (rows (m ((c : Thread nD τ).loc main_arg0))) (gain (m ((c : Thread nD τ).loc main_arg1)))) (wide (m ((c : Thread nD τ).loc main_arg2)))) := by
  entry_read
  all_goals rfl

end Cert.RideIdeal.Ride

end
-- ==== Proof.RideKernel.lean ====
/-
  The gradient of the SwiGLU half step with an update riding along, as the grid computes it: what a point leaves in its 256 rows of
  the hidden rows' gradient, of the up projection's cotangent and of the normalized rows, and what the points add up in the gain's
  gradient.
-/
module

public import proofs.«01_k».proof.Proof.FfnKernel
public import proofs.«01_k».proof.Proof.Gen.RideIdeal.Value

@[expose] public section

set_option maxRecDepth 16384

noncomputable section

open Idealize.ShloMosaic Idealize.ShloMosaic.TcCoe Idealize.SL.Sem
open Idealize.ShloMosaic.Pipeline (Dat)

namespace Cert.RideIdeal.Ride

open Cert.RideIdeal Cert.RideIdeal.Gen
open Cert.FfnIdeal.Ffn (at2 dup dup_low dup_high dupBlock dn dhBlock nBlock dgBlock with_pieces read_pieces)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_10.index t = ![t.val, 0]
    ∧ win0_11.index t = ![t.val, 0] ∧ win0_12.index t = ![t.val, 0] ∧ win0_13.index t = ![0, 0] :=
  (by decide +kernel : ∀ t : Fin grid0.N, _)

/-- The block's entry at a place of one of its tiles. -/
theorem dup_tile (b0 : FVec Ideal S256x1024 .f32) (b2 : FVec Ideal S256x5632 .bf16) (b5 : FVec Ideal S2816x1024 .bf16) (o0 o1 : ℕ)
    (inb : ∀ a, (![o0, o1] : Fin 2 → ℕ) a + (![256, 256] : Fin 2 → ℕ) a ≤ S256x5632.size a) (r j : Fin 256) :
    dupBlock b0 b2 b5 ((Rect.unit (s := S256x5632) ![o0, o1] ![256, 256] inb).emb (ix2 r j))
      = dup (at2 b0) (at2 b2) (at2 b5) ⟨o0 + r.val, by have h : o0 + 256 ≤ 256 := inb 0; omega⟩
        ⟨o1 + j.val, by have h : o1 + 256 ≤ 5632 := inb 1; omega⟩ :=
  congrArg₂ (dup (at2 b0) (at2 b2) (at2 b5))
    (Fin.ext (by show o0 + 1 * r.val = o0 + r.val; omega)) (Fin.ext (by show o1 + 1 * j.val = o1 + j.val; omega))

set_option maxHeartbeats 20000000 in
theorem pointB (c : Dev nD) (t : Fin cfg0.N) (hc : ¬t.val % 32 = 0) :
    (∀ y, (outsAt0 m c t.val t.isLt).2.1 y = dupBlock (iblk m c 0 t) (iblk m c 2 t) (iblk m c 5 t) y)
    ∧ (∀ y, (outsAt0 m c t.val t.isLt).1 y = dhBlock (iblk m c 0 t) (iblk m c 1 t) (iblk m c 2 t) (iblk m c 3 t) (iblk m c 4 t) (iblk m c 5 t) y)
    ∧ ∀ y, (outsAt0 m c t.val t.isLt).2.2.2.1 y = (outsAt0 m c (t.val - 1) (Nat.lt_of_le_of_lt (Nat.sub_le _ _) t.isLt)).2.2.2.1 y
      + dgBlock (iblk m c 0 t) (iblk m c 1 t) (iblk m c 2 t) (iblk m c 4 t) (iblk m c 5 t) y := by
  rw [outsAt0_B m c t hc]
  frame_out
  generalize outsAt0 m c (t.val - 1) (Nat.lt_of_le_of_lt (Nat.sub_le _ _) t.isLt) = o
  generalize iblk m c 0 t = b0, iblk m c 1 t = b1, iblk m c 2 t = b2, iblk m c 3 t = b3, iblk m c 4 t = b4, iblk m c 5 t = b5
  refine with_pieces (Val := Elt Ideal) (s := S256x5632) (e := .bf16) (G := dupBlock b0 b2 b5) ?_ ?_ fun h22 => ?_
  · repeat' (refine And.intro (fun x => ?_) ?_)
    any_goals exact trivial
    all_goals
      obtain ⟨r, j, rfl⟩ : ∃ r j, x = ix2 r j := ⟨x 0, x 1, eq_ix2 x⟩
      dsimp only
      rw [dup_tile b0 b2 b5]
      first
        | refine Eq.trans ?_ (dup_low _ _ _ _ _ (by dsimp only; omega)).symm
        | refine Eq.trans ?_ (dup_high _ _ _ _ _ _ _).symm
      open_payloads
      unfold at2
      try dsimp only [Nat.reduceAdd]
      pointwise
  · exact View.cover_of_tiledL _ ![256, 256] (by sl_kernel_rfl)
  · rw [read_pieces _ h22 _ fun y => View.cover_of_tiledL _ ![256, 256] (by sl_kernel_rfl) _]
    clear h22
    refine ⟨fun y => ?_, fun y => ?_⟩
    · obtain ⟨r, j, rfl⟩ : ∃ r j, y = ix2 r j := ⟨y 0, y 1, eq_ix2 y⟩
      open_payloads
      unfold dhBlock Norm.back Norm.rs dn dupBlock dup at2
      pointwise
    · obtain ⟨r, j, rfl⟩ : ∃ r j, y = ix2 r j := ⟨y 0, y 1, eq_ix2 y⟩
      open_payloads
      unfold dgBlock Norm.rs dn dupBlock dup at2
      pointwise

set_option maxHeartbeats 20000000 in
theorem pointA (c : Dev nD) (t : Fin cfg0.N) (hc : t.val % 32 = 0) :
    (∀ y, (outsAt0 m c t.val t.isLt).2.1 y = dupBlock (iblk m c 0 t) (iblk m c 2 t) (iblk m c 5 t) y)
    ∧ (∀ y, (outsAt0 m c t.val t.isLt).1 y = dhBlock (iblk m c 0 t) (iblk m c 1 t) (iblk m c 2 t) (iblk m c 3 t) (iblk m c 4 t) (iblk m c 5 t) y)
    ∧ ∀ y, (outsAt0 m c t.val t.isLt).2.2.2.1 y = 0 + dgBlock (iblk m c 0 t) (iblk m c 1 t) (iblk m c 2 t) (iblk m c 4 t) (iblk m c 5 t) y := by
  rw [outsAt0_A m c t hc]
  frame_open
  simp (disch := decide) only [↓ View.readCov_skip, ↓ View.readCov_cons_toLoadRect, ↓ View.readCov_fill]
  frame_out
  generalize iblk m c 0 t = b0, iblk m c 1 t = b1, iblk m c 2 t = b2, iblk m c 3 t = b3, iblk m c 4 t = b4, iblk m c 5 t = b5
  refine with_pieces (Val := Elt Ideal) (s := S256x5632) (e := .bf16) (G := dupBlock b0 b2 b5) ?_ ?_ fun h22 => ?_
  · repeat' (refine And.intro (fun x => ?_) ?_)
    any_goals exact trivial
    all_goals
      obtain ⟨r, j, rfl⟩ : ∃ r j, x = ix2 r j := ⟨x 0, x 1, eq_ix2 x⟩
      dsimp only
      rw [dup_tile b0 b2 b5]
      first
        | refine Eq.trans ?_ (dup_low _ _ _ _ _ (by dsimp only; omega)).symm
        | refine Eq.trans ?_ (dup_high _ _ _ _ _ _ _).symm
      open_payloads
      unfold at2
      try dsimp only [Nat.reduceAdd]
      pointwise
  · exact View.cover_of_tiledL _ ![256, 256] (by sl_kernel_rfl)
  · rw [read_pieces _ h22 _ fun y => View.cover_of_tiledL _ ![256, 256] (by sl_kernel_rfl) _]
    clear h22
    refine ⟨fun y => ?_, fun y => ?_⟩
    · obtain ⟨r, j, rfl⟩ : ∃ r j, y = ix2 r j := ⟨y 0, y 1, eq_ix2 y⟩
      open_payloads
      unfold dhBlock Norm.back Norm.rs dn dupBlock dup at2
      pointwise
    · obtain ⟨r, j, rfl⟩ : ∃ r j, y = ix2 r j := ⟨y 0, y 1, eq_ix2 y⟩
      open_payloads
      unfold dgBlock Norm.rs dn dupBlock dup at2
      pointwise [Ideal.ofBits_zero_f32]

theorem point12 (c : Dev nD) (t : Fin cfg0.N) (y) :
    (outsAt0 m c t.val t.isLt).2.2.1 y = nBlock (iblk m c 1 t) (iblk m c 3 t) y := by
  obtain ⟨r, j, rfl⟩ : ∃ r j, y = ix2 r j := ⟨y 0, y 1, eq_ix2 y⟩
  by_cases hc : t.val % 32 = 0
  · rw [outsAt0_A m c t hc]
    frame_out
    generalize iblk m c 1 t = b1, iblk m c 3 t = b3
    open_payloads
    unfold nBlock Norm.rs at2
    pointwise
  · rw [outsAt0_B m c t hc]
    frame_out
    generalize iblk m c 1 t = b1, iblk m c 3 t = b3
    open_payloads
    unfold nBlock Norm.rs at2
    pointwise

theorem point11 (c : Dev nD) (t : Fin cfg0.N) (y) :
    (outsAt0 m c t.val t.isLt).2.1 y = dupBlock (iblk m c 0 t) (iblk m c 2 t) (iblk m c 5 t) y := by
  by_cases hc : t.val % 32 = 0
  · exact (pointA m c t hc).1 y
  · exact (pointB m c t hc).1 y

theorem point10 (c : Dev nD) (t : Fin cfg0.N) (y) : (outsAt0 m c t.val t.isLt).1 y
    = dhBlock (iblk m c 0 t) (iblk m c 1 t) (iblk m c 2 t) (iblk m c 3 t) (iblk m c 4 t) (iblk m c 5 t) y := by
  by_cases hc : t.val % 32 = 0
  · exact (pointA m c t hc).2.1 y
  · exact (pointB m c t hc).2.1 y

theorem rows0 (c : Dev nD) (t : Fin cfg0.N) (r : Fin 256) (h : t.val * 256 + r.val < 8192) :
    at2 (iblk m c 0 t : FVec Ideal S256x1024 .f32) r = at2 (V m c main_v2 : FVec Ideal S8192x1024 .f32) ⟨t.val * 256 + r.val, h⟩ := by
  have e : ∀ l, (iblk m c 0 t : FVec Ideal S256x1024 .f32) (ix2 r l) = (V m c main_v2 : FVec Ideal S8192x1024 .f32) (ix2 ⟨t.val * 256 + r.val, h⟩ l) := by
    intro l
    blk_ext [iblk, V, idx t]
  exact funext e
theorem rows1 (c : Dev nD) (t : Fin cfg0.N) (r : Fin 256) (h : t.val * 256 + r.val < 8192) :
    at2 (iblk m c 1 t : FVec Ideal S256x1024 .f32) r = at2 (V m c main_v3 : FVec Ideal S8192x1024 .f32) ⟨t.val * 256 + r.val, h⟩ := by
  have e : ∀ l, (iblk m c 1 t : FVec Ideal S256x1024 .f32) (ix2 r l) = (V m c main_v3 : FVec Ideal S8192x1024 .f32) (ix2 ⟨t.val * 256 + r.val, h⟩ l) := by
    intro l
    blk_ext [iblk, V, idx t]
  exact funext e
theorem rows2 (c : Dev nD) (t : Fin cfg0.N) (r : Fin 256) (h : t.val * 256 + r.val < 8192) :
    at2 (iblk m c 2 t : FVec Ideal S256x5632 .bf16) r = at2 (V m c main_v37 : FVec Ideal S8192x5632 .bf16) ⟨t.val * 256 + r.val, h⟩ := by
  have e : ∀ l, (iblk m c 2 t : FVec Ideal S256x5632 .bf16) (ix2 r l) = (V m c main_v37 : FVec Ideal S8192x5632 .bf16) (ix2 ⟨t.val * 256 + r.val, h⟩ l) := by
    intro l
    blk_ext [iblk, V, idx t]
  exact funext e
theorem whole3 (c : Dev nD) (t : Fin cfg0.N) : (iblk m c 3 t : FVec Ideal S1x1024 .f32) = V m c main_v0 := by
  funext j
  blk_ext [iblk, V, idx t]
theorem whole4 (c : Dev nD) (t : Fin cfg0.N) : (iblk m c 4 t : FVec Ideal S1024x5632 .bf16) = V m c main_v1 := by
  funext j
  blk_ext [iblk, V, idx t]
theorem whole5 (c : Dev nD) (t : Fin cfg0.N) : (iblk m c 5 t : FVec Ideal S2816x1024 .bf16) = V m c main_v38 := by
  funext j
  blk_ext [iblk, V, idx t]

/-- The up projection's cotangent at a point is the whole array's at the point's row. -/
theorem dup_rows (c : Dev nD) (t : Fin cfg0.N) (r : Fin 256) (h : t.val * 256 + r.val < 8192) (q : Fin 5632) :
    dup (at2 (iblk m c 0 t : FVec Ideal S256x1024 .f32)) (at2 (iblk m c 2 t : FVec Ideal S256x5632 .bf16))
      (at2 (iblk m c 5 t : FVec Ideal S2816x1024 .bf16)) r q
      = dup (at2 (V m c main_v2 : FVec Ideal S8192x1024 .f32)) (at2 (V m c main_v37 : FVec Ideal S8192x5632 .bf16))
        (at2 (V m c main_v38 : FVec Ideal S2816x1024 .bf16)) ⟨t.val * 256 + r.val, h⟩ q := by
  unfold dup
  rw [rows0 m c t r h, rows2 m c t r h, whole5]

theorem dn_rows (c : Dev nD) (t : Fin cfg0.N) (r : Fin 256) (h : t.val * 256 + r.val < 8192) :
    dn (at2 (iblk m c 0 t : FVec Ideal S256x1024 .f32)) (at2 (iblk m c 2 t : FVec Ideal S256x5632 .bf16))
      (at2 (iblk m c 5 t : FVec Ideal S2816x1024 .bf16)) (at2 (iblk m c 4 t : FVec Ideal S1024x5632 .bf16)) r
      = dn (at2 (V m c main_v2 : FVec Ideal S8192x1024 .f32)) (at2 (V m c main_v37 : FVec Ideal S8192x5632 .bf16))
        (at2 (V m c main_v38 : FVec Ideal S2816x1024 .bf16)) (at2 (V m c main_v1 : FVec Ideal S1024x5632 .bf16)) ⟨t.val * 256 + r.val, h⟩ := by
  funext j
  unfold dn
  simp only [dup_rows m c t r h, whole4]

/-- The grid's last point. -/
abbrev lastPoint : Fin cfg0.N := ⟨31, by decide +kernel⟩

/-- The gain's gradient after the call: the sum over all the rows. -/
theorem final13 (c : Dev nD) : (dats m 0 c).arrAt 13 cfg0.N = dgBlock (V m c main_v2 : FVec Ideal S8192x1024 .f32)
    (V m c main_v3 : FVec Ideal S8192x1024 .f32) (V m c main_v37 : FVec Ideal S8192x5632 .bf16) (V m c main_v1) (V m c main_v38) := by
  refine (dats m 0 c).arrAt_eq_of_after_last 13 lastPoint (by decide +kernel) _ fun j => ?_
  blk_simp
  rw [after0_13, Pipeline.eq_sum_fin_of_reset_step_apply_last (fun n h => (outsAt0 m c n h).2.2.2.1) 32 (fun _ => 0) _ (fun t h j => (pointA m c t h).2.2 j)
    (fun t h j => (pointB m c t h).2.2 j) (le_of_eq N_0) lastPoint rfl j, zero_add]
  unfold dgBlock
  refine Fin.sum_mul_add_congr fun t r hl => ?_
  rw [dn_rows m c t r hl, rows1 m c t r hl]

/-- The hidden rows' gradient after the call. -/
theorem final10 (c : Dev nD) : (dats m 0 c).arrAt 10 cfg0.N = dhBlock (V m c main_v2 : FVec Ideal S8192x1024 .f32)
    (V m c main_v3 : FVec Ideal S8192x1024 .f32) (V m c main_v37 : FVec Ideal S8192x5632 .bf16) (V m c main_v0) (V m c main_v1) (V m c main_v38) := by
  refine (dats m 0 c).arrAt_eq_of_covers 10 _ (by decide +kernel) fun t hf y => ?_
  blk_simp
  rw [after0_10, point10]
  have e0 : ((win0_10.blk t).view.emb y 0).val = t.val * 256 + (y 0).val := by blk_point [idx t]
  have e1 : ((win0_10.blk t).view.emb y 1).val = (y 1).val := by blk_point [idx t]
  generalize (win0_10.blk t).view.emb y = i at e0 e1
  have hl : t.val * 256 + (y 0).val < 8192 := e0 ▸ (i 0).isLt
  obtain rfl : i = ix2 ⟨t.val * 256 + (y 0).val, hl⟩ (y 1) := Norm.index2 (Fin.ext e0) (Fin.ext e1)
  change at2 (iblk m c 0 t : FVec Ideal S256x1024 .f32) (y 0) (y 1) + Norm.back (at2 (iblk m c 1 t : FVec Ideal S256x1024 .f32) (y 0)) _ _ _ = _
  rw [dn_rows m c t (y 0) hl, rows0 m c t (y 0) hl, rows1 m c t (y 0) hl, whole3]
  rfl

/-- The up projection's cotangent after the call. -/
theorem final11 (c : Dev nD) : (dats m 0 c).arrAt 11 cfg0.N = dupBlock (V m c main_v2 : FVec Ideal S8192x1024 .f32)
    (V m c main_v37 : FVec Ideal S8192x5632 .bf16) (V m c main_v38) := by
  refine (dats m 0 c).arrAt_eq_of_covers 11 _ (by decide +kernel) fun t hf y => ?_
  blk_simp
  rw [after0_11, point11]
  have e0 : ((win0_11.blk t).view.emb y 0).val = t.val * 256 + (y 0).val := by blk_point [idx t]
  have e1 : ((win0_11.blk t).view.emb y 1).val = (y 1).val := by blk_point [idx t]
  generalize (win0_11.blk t).view.emb y = i at e0 e1
  have hl : t.val * 256 + (y 0).val < 8192 := e0 ▸ (i 0).isLt
  obtain rfl : i = ix2 ⟨t.val * 256 + (y 0).val, hl⟩ (y 1) := Norm.index2 (Fin.ext e0) (Fin.ext e1)
  exact dup_rows m c t (y 0) hl (y 1)

/-- The normalized rows after the call. -/
theorem final12 (c : Dev nD) : (dats m 0 c).arrAt 12 cfg0.N = nBlock (V m c main_v3 : FVec Ideal S8192x1024 .f32) (V m c main_v0) := by
  refine (dats m 0 c).arrAt_eq_of_covers 12 _ (by decide +kernel) fun t hf y => ?_
  blk_simp
  rw [after0_12, point12]
  have e0 : ((win0_12.blk t).view.emb y 0).val = t.val * 256 + (y 0).val := by blk_point [idx t]
  have e1 : ((win0_12.blk t).view.emb y 1).val = (y 1).val := by blk_point [idx t]
  generalize (win0_12.blk t).view.emb y = i at e0 e1
  have hl : t.val * 256 + (y 0).val < 8192 := e0 ▸ (i 0).isLt
  obtain rfl : i = ix2 ⟨t.val * 256 + (y 0).val, hl⟩ (y 1) := Norm.index2 (Fin.ext e0) (Fin.ext e1)
  change at2 (iblk m c 1 t : FVec Ideal S256x1024 .f32) (y 0) (y 1) * Norm.rs (at2 (iblk m c 1 t : FVec Ideal S256x1024 .f32) (y 0)) * _ = _
  rw [rows1 m c t (y 0) hl, whole3]
  rfl

end Cert.RideIdeal.Ride

end
-- ==== Proof.RideUpdate.lean ====
/-
  The update that rides along: what a point leaves in its 32 rows of the four arrays, and the arrays after the call.
-/
module

public import proofs.«01_k».proof.Proof.NormRows
public import proofs.«01_k».proof.Proof.Gen.RideIdeal.Value

@[expose] public section

set_option maxRecDepth 16384

noncomputable section

open Idealize.ShloMosaic Idealize.ShloMosaic.TcCoe Idealize.SL.Sem
open Idealize.ShloMosaic.Pipeline (Dat)

namespace Cert.RideIdeal.Ride

open Cert.RideIdeal Cert.RideIdeal.Gen

variable (m : (ℓ : Loc nD τ sig) → Buf (Elt Ideal) ℓ)

theorem update_idx : ∀ t : Fin cfg0.N, win0_6.index t = ![t.val, 0] ∧ win0_7.index t = ![t.val, 0] ∧ win0_8.index t = ![t.val, 0]
    ∧ win0_9.index t = ![t.val, 0] ∧ win0_14.index t = ![t.val, 0] ∧ win0_15.index t = ![t.val, 0] ∧ win0_16.index t = ![t.val, 0]
    ∧ win0_17.index t = ![t.val, 0] :=
  (by decide +kernel : ∀ t : Fin grid0.N, _)

/-- The first moment after a step, from the gradient and the moment before. -/
def first (g a : EReal) : EReal := Ideal.ofBits .f32 0x3F666666#32 * a + Ideal.ofBits .f32 0x3DCCCCCD#32 * g

/-- The second moment after a step. -/
def second (g a : EReal) : EReal := Ideal.ofBits .f32 0x3F7FBE77#32 * a + Ideal.ofBits .f32 0x3A83126F#32 * (g * g)

/-- The change of a weight: the corrected moments' quotient and the decay, by the learning rate. -/
def change (w g a b : EReal) : EReal := Ideal.ofBits .f32 0xBA83126F#32 *
  (Ideal.div (Ideal.div (first g a) (Ideal.ofBits .f32 0x3F26BD02#32))
      (Ideal.sqrt (Ideal.div (second g b) (Ideal.ofBits .f32 0x3C231ACC#32)) + Ideal.ofBits .f32 0x322BCC77#32)
    + Ideal.ofBits .f32 0x3C23D70A#32 * w)

theorem point14 (c : Dev nD) (t : Fin cfg0.N) (y : S32x1408.Idx) :
    ((outsAt0 m c t.val t.isLt).2.2.2.2.1 : FVec Ideal S32x1408 .f32) y = (iblk m c 7 t : FVec Ideal S32x1408 .f32) y := by
  obtain ⟨r, j, rfl⟩ : ∃ r j, y = ix2 r j := ⟨y 0, y 1, eq_ix2 y⟩
  by_cases hc : t.val % 32 = 0
  · rw [outsAt0_A m c t hc]
    frame_out
  · rw [outsAt0_B m c t hc]
    frame_out

theorem point15 (c : Dev nD) (t : Fin cfg0.N) (y : S32x1408.Idx) :
    ((outsAt0 m c t.val t.isLt).2.2.2.2.2.1 : FVec Ideal S32x1408 .f32) y
      = change ((iblk m c 6 t : FVec Ideal S32x1408 .f32) y) ((iblk m c 7 t : FVec Ideal S32x1408 .f32) y)
        ((iblk m c 8 t : FVec Ideal S32x1408 .f32) y) ((iblk m c 9 t : FVec Ideal S32x1408 .f32) y) := by
  obtain ⟨r, j, rfl⟩ : ∃ r j, y = ix2 r j := ⟨y 0, y 1, eq_ix2 y⟩
  by_cases hc : t.val % 32 = 0
  · rw [outsAt0_A m c t hc]
    frame_out
    generalize iblk m c 6 t = b6, iblk m c 7 t = b7, iblk m c 8 t = b8, iblk m c 9 t = b9
    open_payloads
    unfold change first second
    pointwise
  · rw [outsAt0_B m c t hc]
    frame_out
    generalize iblk m c 6 t = b6, iblk m c 7 t = b7, iblk m c 8 t = b8, iblk m c 9 t = b9
    open_payloads
    unfold change first second
    pointwise

theorem point16 (c : Dev nD) (t : Fin cfg0.N) (y : S32x1408.Idx) :
    ((outsAt0 m c t.val t.isLt).2.2.2.2.2.2.1 : FVec Ideal S32x1408 .f32) y
      = first ((iblk m c 7 t : FVec Ideal S32x1408 .f32) y) ((iblk m c 8 t : FVec Ideal S32x1408 .f32) y) := by
  obtain ⟨r, j, rfl⟩ : ∃ r j, y = ix2 r j := ⟨y 0, y 1, eq_ix2 y⟩
  by_cases hc : t.val % 32 = 0
  · rw [outsAt0_A m c t hc]
    frame_out
    generalize iblk m c 6 t = b6, iblk m c 7 t = b7, iblk m c 8 t = b8, iblk m c 9 t = b9
    open_payloads
    unfold first
    pointwise
  · rw [outsAt0_B m c t hc]
    frame_out
    generalize iblk m c 6 t = b6, iblk m c 7 t = b7, iblk m c 8 t = b8, iblk m c 9 t = b9
    open_payloads
    unfold first
    pointwise

theorem point17 (c : Dev nD) (t : Fin cfg0.N) (y : S32x1408.Idx) :
    ((outsAt0 m c t.val t.isLt).2.2.2.2.2.2.2 : FVec Ideal S32x1408 .f32) y
      = second ((iblk m c 7 t : FVec Ideal S32x1408 .f32) y) ((iblk m c 9 t : FVec Ideal S32x1408 .f32) y) := by
  obtain ⟨r, j, rfl⟩ : ∃ r j, y = ix2 r j := ⟨y 0, y 1, eq_ix2 y⟩
  by_cases hc : t.val % 32 = 0
  · rw [outsAt0_A m c t hc]
    frame_out
    generalize iblk m c 6 t = b6, iblk m c 7 t = b7, iblk m c 8 t = b8, iblk m c 9 t = b9
    open_payloads
    unfold second
    pointwise
  · rw [outsAt0_B m c t hc]
    frame_out
    generalize iblk m c 6 t = b6, iblk m c 7 t = b7, iblk m c 8 t = b8, iblk m c 9 t = b9
    open_payloads
    unfold second
    pointwise

theorem part6 (c : Dev nD) (t : Fin cfg0.N) (y : S32x1408.Idx) (h : t.val * 32 + (y 0).val < 1024) :
    (iblk m c 6 t : FVec Ideal S32x1408 .f32) y
      = (m ((c : Thread nD τ).loc main_arg5) : FVec Ideal S1024x1408 .f32) (ix2 ⟨t.val * 32 + (y 0).val, h⟩ (y 1)) := by
  obtain ⟨r, j, rfl⟩ : ∃ r j, y = ix2 r j := ⟨y 0, y 1, eq_ix2 y⟩
  blk_ext [iblk, V, update_idx t]

theorem part7 (c : Dev nD) (t : Fin cfg0.N) (y : S32x1408.Idx) (h : t.val * 32 + (y 0).val < 1024) :
    (iblk m c 7 t : FVec Ideal S32x1408 .f32) y
      = (m ((c : Thread nD τ).loc main_arg6) : FVec Ideal S1024x1408 .f32) (ix2 ⟨t.val * 32 + (y 0).val, h⟩ (y 1)) := by
  obtain ⟨r, j, rfl⟩ : ∃ r j, y = ix2 r j := ⟨y 0, y 1, eq_ix2 y⟩
  blk_ext [iblk, V, update_idx t]

theorem part8 (c : Dev nD) (t : Fin cfg0.N) (y : S32x1408.Idx) (h : t.val * 32 + (y 0).val < 1024) :
    (iblk m c 8 t : FVec Ideal S32x1408 .f32) y
      = (m ((c : Thread nD τ).loc main_arg7) : FVec Ideal S1024x1408 .f32) (ix2 ⟨t.val * 32 + (y 0).val, h⟩ (y 1)) := by
  obtain ⟨r, j, rfl⟩ : ∃ r j, y = ix2 r j := ⟨y 0, y 1, eq_ix2 y⟩
  blk_ext [iblk, V, update_idx t]

theorem part9 (c : Dev nD) (t : Fin cfg0.N) (y : S32x1408.Idx) (h : t.val * 32 + (y 0).val < 1024) :
    (iblk m c 9 t : FVec Ideal S32x1408 .f32) y
      = (m ((c : Thread nD τ).loc main_arg8) : FVec Ideal S1024x1408 .f32) (ix2 ⟨t.val * 32 + (y 0).val, h⟩ (y 1)) := by
  obtain ⟨r, j, rfl⟩ : ∃ r j, y = ix2 r j := ⟨y 0, y 1, eq_ix2 y⟩
  blk_ext [iblk, V, update_idx t]

/-- The gradient after the call. -/
theorem final14 (c : Dev nD) : (dats m 0 c).arrAt 14 cfg0.N
    = (fun y => (m ((c : Thread nD τ).loc main_arg6) : FVec Ideal S1024x1408 .f32) y : FVec Ideal S1024x1408 .f32) := by
  refine (dats m 0 c).arrAt_eq_of_covers 14 _ (by decide +kernel) fun t hf y => ?_
  blk_simp
  rw [after0_14, point14]
  have e0 : ((win0_14.blk t).view.emb y 0).val = t.val * 32 + (y 0).val := by blk_point [update_idx t]
  have e1 : ((win0_14.blk t).view.emb y 1).val = (y 1).val := by blk_point [update_idx t]
  generalize (win0_14.blk t).view.emb y = i at e0 e1
  have hl : t.val * 32 + (y 0).val < 1024 := e0 ▸ (i 0).isLt
  obtain rfl : i = ix2 ⟨t.val * 32 + (y 0).val, hl⟩ (y 1) := Norm.index2 (Fin.ext e0) (Fin.ext e1)
  rw [part7 m c t y hl]
  rfl

/-- The change after the call. -/
theorem final15 (c : Dev nD) : (dats m 0 c).arrAt 15 cfg0.N
    = (fun y => change
        ((m ((c : Thread nD τ).loc main_arg5) : FVec Ideal S1024x1408 .f32) y)
        ((m ((c : Thread nD τ).loc main_arg6) : FVec Ideal S1024x1408 .f32) y)
        ((m ((c : Thread nD τ).loc main_arg7) : FVec Ideal S1024x1408 .f32) y)
        ((m ((c : Thread nD τ).loc main_arg8) : FVec Ideal S1024x1408 .f32) y) : FVec Ideal S1024x1408 .f32) := by
  refine (dats m 0 c).arrAt_eq_of_covers 15 _ (by decide +kernel) fun t hf y => ?_
  blk_simp
  rw [after0_15, point15]
  have e0 : ((win0_15.blk t).view.emb y 0).val = t.val * 32 + (y 0).val := by blk_point [update_idx t]
  have e1 : ((win0_15.blk t).view.emb y 1).val = (y 1).val := by blk_point [update_idx t]
  generalize (win0_15.blk t).view.emb y = i at e0 e1
  have hl : t.val * 32 + (y 0).val < 1024 := e0 ▸ (i 0).isLt
  obtain rfl : i = ix2 ⟨t.val * 32 + (y 0).val, hl⟩ (y 1) := Norm.index2 (Fin.ext e0) (Fin.ext e1)
  rw [part6 m c t y hl, part7 m c t y hl, part8 m c t y hl, part9 m c t y hl]
  rfl

/-- The first moment after the call. -/
theorem final16 (c : Dev nD) : (dats m 0 c).arrAt 16 cfg0.N
    = (fun y => first ((m ((c : Thread nD τ).loc main_arg6) : FVec Ideal S1024x1408 .f32) y)
        ((m ((c : Thread nD τ).loc main_arg7) : FVec Ideal S1024x1408 .f32) y) : FVec Ideal S1024x1408 .f32) := by
  refine (dats m 0 c).arrAt_eq_of_covers 16 _ (by decide +kernel) fun t hf y => ?_
  blk_simp
  rw [after0_16, point16]
  have e0 : ((win0_16.blk t).view.emb y 0).val = t.val * 32 + (y 0).val := by blk_point [update_idx t]
  have e1 : ((win0_16.blk t).view.emb y 1).val = (y 1).val := by blk_point [update_idx t]
  generalize (win0_16.blk t).view.emb y = i at e0 e1
  have hl : t.val * 32 + (y 0).val < 1024 := e0 ▸ (i 0).isLt
  obtain rfl : i = ix2 ⟨t.val * 32 + (y 0).val, hl⟩ (y 1) := Norm.index2 (Fin.ext e0) (Fin.ext e1)
  rw [part7 m c t y hl, part8 m c t y hl]
  rfl

/-- The second moment after the call. -/
theorem final17 (c : Dev nD) : (dats m 0 c).arrAt 17 cfg0.N
    = (fun y => second ((m ((c : Thread nD τ).loc main_arg6) : FVec Ideal S1024x1408 .f32) y)
        ((m ((c : Thread nD τ).loc main_arg8) : FVec Ideal S1024x1408 .f32) y) : FVec Ideal S1024x1408 .f32) := by
  refine (dats m 0 c).arrAt_eq_of_covers 17 _ (by decide +kernel) fun t hf y => ?_
  blk_simp
  rw [after0_17, point17]
  have e0 : ((win0_17.blk t).view.emb y 0).val = t.val * 32 + (y 0).val := by blk_point [update_idx t]
  have e1 : ((win0_17.blk t).view.emb y 1).val = (y 1).val := by blk_point [update_idx t]
  generalize (win0_17.blk t).view.emb y = i at e0 e1
  have hl : t.val * 32 + (y 0).val < 1024 := e0 ▸ (i 0).isLt
  obtain rfl : i = ix2 ⟨t.val * 32 + (y 0).val, hl⟩ (y 1) := Norm.index2 (Fin.ext e0) (Fin.ext e1)
  rw [part7 m c t y hl, part9 m c t y hl]
  rfl

end Cert.RideIdeal.Ride

end
-- ==== Proof.RideEquation.lean ====
/-
  The half step's gradient with an update riding along: what the kernel's call leaves in its eight results is what the reference's
  derivative and its update compute, from finite hidden rows, gain, projections and cotangent and from any update's arrays.
-/
module

public import proofs.«01_k».proof.Proof.RideHost
public import proofs.«01_k».proof.Proof.RideKernel
public import proofs.«01_k».proof.Proof.RideUpdate
public import proofs.«01_k».proof.Proof.FfnEquation
public import proofs.«01_k».proof.Proof.Gen.RideRefIdeal.Read
public import proofs.«01_k».proof.Proof.Gen.Pre_ride_finite
public import proofs.«01_k».proof.Defs

@[expose] public section

set_option maxRecDepth 16384

noncomputable section

open Idealize.ShloMosaic Idealize.ShloMosaic.TcCoe Idealize.SL.Sem

namespace Cert.RideEquation

open Cert.RideIdeal Cert.RideIdeal.Gen Cert.RideIdeal.Ride

section
variable (x5 x6 x7 x8 : FVec Ideal S1024x1408 .f32)

theorem first_eq : Cert.RideRefIdeal.Read.val_main_v94 (F := Ideal) x6 x7 = fun y => first (x6 y) (x7 y) := rfl

theorem second_eq : Cert.RideRefIdeal.Read.val_main_v100 (F := Ideal) x6 x8 = fun y => second (x6 y) (x8 y) := rfl

theorem change_eq : Cert.RideRefIdeal.Read.val_main_v113 (F := Ideal) x5 x6 x7 x8 = fun y => change (x5 y) (x6 y) (x7 y) (x8 y) := rfl
end

/-- The reference leaves its arguments alone, and it declares no semaphore. -/
theorem reference_frame : Cert.quiescent_RideRefIdeal (hRideRefIdeal := Cert.RideRefIdeal.Gen.facts) :=
  fun m ρ _ => (θ_run Cert.RideRefIdeal.defs _ _).mono
    (fun r h => ⟨fun c => (h c).2.2.2.2.2.2.2.2, Idealize.ShloMosaic.sem_eq_zero_of_no_sems (by decide) r.2⟩)
    (Cert.RideRefIdeal.Value.run (F := Ideal) m ρ)

section
variable (x0 : FVec Ideal S1x8192x1024 .f32) (x1 : FVec Ideal S1024 .f32) (x2 : FVec Ideal S1024x5632 .f32)
  (x3 : FVec Ideal S2816x1024 .f32) (x4 : FVec Ideal S1x8192x1024 .f32)

/-- The reference's derivative is the one without an update. -/
theorem dh_same : Cert.RideRefIdeal.Read.val_main_v84 (F := Ideal) x0 x1 x2 x3 x4 = Cert.FfnRefIdeal.Read.val_main_v84 (F := Ideal) x0 x1 x2 x3 x4 := rfl
theorem dup_same : Cert.RideRefIdeal.Read.val_main_v86 (F := Ideal) x0 x1 x2 x3 x4 = Cert.FfnRefIdeal.Read.val_main_v86 (F := Ideal) x0 x1 x2 x3 x4 := rfl
theorem n_same : Cert.RideRefIdeal.Read.val_main_v88 (F := Ideal) x0 x1 = Cert.FfnRefIdeal.Read.val_main_v88 (F := Ideal) x0 x1 := rfl
theorem dg_same : Cert.RideRefIdeal.Read.val_main_v89 (F := Ideal) x0 x1 x2 x3 x4 = Cert.FfnRefIdeal.Read.val_main_v89 (F := Ideal) x0 x1 x2 x3 x4 := rfl
end

set_option maxHeartbeats 4000000 in
/-- The kernel and the reference compute the same eight arrays. -/
theorem ride_algebraic : Cert.algebraic_RideIdeal_RideRefIdeal_pre_ride_finite (hRideIdeal := Cert.RideIdeal.Gen.facts)
    (hRideRefIdeal := Cert.RideRefIdeal.Gen.facts) (hPre_ride_finite := Cert.Pre_ride_finite.Gen.facts) := by
  intro m g m' g' hpre hargs
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, fun c => (dats m 0 c).arrAt 15 cfg0.N,
    fun c => (dats m 0 c).arrAt 16 cfg0.N, fun c => (dats m 0 c).arrAt 17 cfg0.N, Cert.RideIdeal.Value.run_blocks (F := Ideal) m g, ?_⟩
  refine (θ_run (Cert.RideRefIdeal.defs (F := Ideal)) _ _).mono (fun r h c => ?_) (Cert.RideRefIdeal.Value.run (F := Ideal) m' g')
  obtain ⟨hh, hu, hn, hg, hw, hd, ha, hb, kept⟩ := h c
  have e := congrFun (hpre c) fun i => i.elim0
  dsimp only [Cert.Pre_ride_finite.fn, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨a0, a1, a2, a3, a4, a5, a6, a7, a8⟩ := hargs c
  have r0 := Finite.real_of_all _ _ _ _ _ _ _ e0
  have r1 := Finite.real_of_all _ _ _ _ _ _ _ e1
  have r2 := Finite.real_of_all _ _ _ _ _ _ _ e2
  have r3 := Finite.real_of_all _ _ _ _ _ _ _ e3
  have r4 := Finite.real_of_all _ _ _ _ _ _ _ e4
  refine ⟨Eq.trans (hh.trans ?_) (final10 m c).symm, Eq.trans (hu.trans ?_) (final11 m c).symm, Eq.trans (hn.trans ?_) (final12 m c).symm,
    Eq.trans (hg.trans ?_) (final13 m c).symm, Eq.trans (hw.trans ?_) (final14 m c).symm, Eq.trans (hd.trans ?_) (final15 m c).symm,
    Eq.trans (ha.trans ?_) (final16 m c).symm, Eq.trans (hb.trans ?_) (final17 m c).symm, kept⟩
  · rw [Cert.RideRefIdeal.Read.val_main_v84_eq, a0, a1, a2, a3, a4, host_ct, host_h, host_factors, host_gain, host_up, host_down]
    exact (dh_same _ _ _ _ _).trans (Cert.FfnEquation.dh_eq _ _ _ _ _ r0 r1 r2 r3 r4)
  · rw [Cert.RideRefIdeal.Read.val_main_v86_eq, a0, a1, a2, a3, a4, host_ct, host_factors, host_down]
    exact (dup_same _ _ _ _ _).trans (Cert.FfnEquation.dup_all_eq _ _ _ _ _ r0 r1 r2 r3 r4)
  · rw [Cert.RideRefIdeal.Read.val_main_v88_eq, a0, a1, host_h, host_gain]
    exact (n_same _ _).trans (Cert.FfnEquation.n_eq _ _)
  · rw [Cert.RideRefIdeal.Read.val_main_v89_eq, a0, a1, a2, a3, a4, host_ct, host_h, host_factors, host_up, host_down]
    exact (dg_same _ _ _ _ _).trans (Cert.FfnEquation.dg_eq _ _ _ _ _ r0 r1 r2 r3 r4)
  · exact a6
  · rw [Cert.RideRefIdeal.Read.val_main_v113_eq, a5, a6, a7, a8]
    exact change_eq _ _ _ _
  · rw [Cert.RideRefIdeal.Read.val_main_v94_eq, a6, a7]
    exact first_eq _ _
  · rw [Cert.RideRefIdeal.Read.val_main_v100_eq, a6, a8]
    exact second_eq _ _

end Cert.RideEquation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_args
public import proofs.«01_k».proof.Proof.Gen.ReferenceIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attn_fwd_finite
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.Pre_ffn_up_finite
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Ride
public import proofs.«01_k».proof.Proof.Gen.Ride.Skeleton
public import proofs.«01_k».proof.Proof.Gen.Ride.Launch
public import proofs.«01_k».proof.Proof.Gen.Ride.Points
public import proofs.«01_k».proof.Proof.Gen.Ride.Frame
public import proofs.«01_k».proof.Proof.Gen.RideIdeal
public import proofs.«01_k».proof.Proof.Gen.RideIdeal.Skeleton
public import proofs.«01_k».proof.Proof.Gen.RideIdeal.Launch
public import proofs.«01_k».proof.Proof.Gen.RideIdeal.Points
public import proofs.«01_k».proof.Proof.Gen.RideIdeal.Frame
public import proofs.«01_k».proof.Proof.Gen.RideIdeal.Value
public import proofs.«01_k».proof.Proof.Gen.RideRefIdeal
public import proofs.«01_k».proof.Proof.Gen.RideRefIdeal.Run
public import proofs.«01_k».proof.Proof.Gen.RideRefIdeal.Read
public import proofs.«01_k».proof.Proof.Gen.Pre_ride_finite
public import proofs.«01_k».proof.Proof.Gen.Pre_pool_fwd_finite
public import proofs.«01_k».proof.Proof.Finite
public import proofs.«01_k».proof.Proof.PoolEquation
public import proofs.«01_k».proof.Proof.AttnEquation
public import proofs.«01_k».proof.Proof.MixEquation
public import proofs.«01_k».proof.Proof.FfnEquation
public import proofs.«01_k».proof.Proof.LossEquation
public import proofs.«01_k».proof.Proof.AttendEquation
public import proofs.«01_k».proof.Proof.PoolForwardEquation
public import proofs.«01_k».proof.Proof.MixForwardEquation
public import proofs.«01_k».proof.Proof.FfnUpEquation
public import proofs.«01_k».proof.Proof.FfnDownEquation
public import proofs.«01_k».proof.Proof.RideEquation
public import Idealize.ShloMosaic.Adequacy
public import Idealize.ShloMosaic.Init

@[expose] public section

noncomputable section

namespace Cert.Proof

open Idealize.ShloMosaic Idealize.SL.Sem Cert.Kernel

/-- The reference of the pooling gradient leaves its arguments alone, and it declares no semaphore. -/
theorem pool_reference_frame : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The printed precondition: the weights, the scales and the cotangent are real numbers. -/
theorem pool_real (x0 : FVec Ideal Cert.KernelIdeal.S1x8192x512 .f32) (x1 : FVec Ideal Cert.KernelIdeal.S4x128x128 .f32)
    (x2 : FVec Ideal Cert.KernelIdeal.S512 .f32) (x3 : FVec Ideal Cert.KernelIdeal.S1x8192x512 .f32)
    (h : Cert.Pre_finite_args.fn (F := Ideal) x0 x1 x2 x3 = fun _ => 1#1) :
    (∀ i, ∃ r : ℝ, x1 i = r) ∧ (∀ i, ∃ r : ℝ, x2 i = r) ∧ (∀ i, ∃ r : ℝ, x3 i = r) := by
  have e := congrFun h fun i => i.elim0
  dsimp only [Cert.Pre_finite_args.fn, andi] at e
  obtain ⟨e12, e3⟩ := IntOp.andi_eq_one.1 e
  obtain ⟨e1, e2⟩ := IntOp.andi_eq_one.1 e12
  exact ⟨Finite.real_of_all x1 _ _ _ _ _ _ e1, Finite.real_of_all x2 _ _ _ _ _ _ e2, Finite.real_of_all x3 _ _ _ _ _ _ e3⟩

/-- The pooling gradient: the kernel and the reference compute the same three arrays. -/
theorem pool_algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hargs
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨hz, hw, hs, hk⟩ := h c
  obtain ⟨r1, r2, r3⟩ := pool_real _ _ _ _ (hpre c)
  obtain ⟨a0, a1, a2, a3⟩ := hargs c
  refine ⟨hz.trans ?_, hw.trans ?_, hs.trans ?_, hk⟩
  · rw [Cert.ReferenceIdeal.Read.val_main_v136_eq, a1, a2, a3]
    refine Eq.trans ?_ (Cert.KernelIdeal.Pool.final5 m c).symm
    rw [Cert.KernelIdeal.Pool.host_ct,
      Cert.KernelIdeal.Pool.host_sc, Cert.KernelIdeal.Pool.host_w]
    exact Cert.PoolEquation.dz_eq _ _ _ r1 r2 r3
  · rw [Cert.ReferenceIdeal.Read.val_main_v85_eq, a0, a2, a3]
    refine Eq.trans ?_ (Cert.KernelIdeal.Pool.final6 m c).symm
    rw [Cert.KernelIdeal.Pool.host_ct,
      Cert.KernelIdeal.Pool.host_sc, Cert.KernelIdeal.Pool.host_pooled]
    exact Cert.PoolEquation.dw_eq _ _ _
  · rw [Cert.ReferenceIdeal.Read.val_main_v137_eq, a0, a1, a3]
    refine Eq.trans ?_ (Cert.KernelIdeal.Pool.final7 m c).symm
    rw [Cert.KernelIdeal.Pool.host_ct,
      Cert.KernelIdeal.Pool.host_w, Cert.KernelIdeal.Pool.host_pooled]
    exact Cert.PoolEquation.ds_eq _ _ _

theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts,
  Cert.Mix.Gen.facts, Cert.MixIdeal.Gen.facts, Cert.MixRefIdeal.Gen.facts,
  Cert.Ffn.Gen.facts, Cert.FfnIdeal.Gen.facts, Cert.FfnRefIdeal.Gen.facts,
  Cert.Loss.Gen.facts, Cert.LossIdeal.Gen.facts, Cert.LossRefIdeal.Gen.facts,
  Cert.AttnFwd.Gen.facts, Cert.AttnFwdIdeal.Gen.facts, Cert.AttnFwdRefIdeal.Gen.facts,
  Cert.PoolFwd.Gen.facts, Cert.PoolFwdIdeal.Gen.facts, Cert.PoolFwdRefIdeal.Gen.facts,
  Cert.MixFwd.Gen.facts, Cert.MixFwdIdeal.Gen.facts, Cert.MixFwdRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Ride.Gen.facts, Cert.RideIdeal.Gen.facts, Cert.RideRefIdeal.Gen.facts,
  Cert.Pre_finite_args.Gen.facts, Cert.Pre_attn_finite.Gen.facts, Cert.Pre_mix_finite.Gen.facts, Cert.Pre_ffn_finite.Gen.facts,
  Cert.Pre_loss_finite.Gen.facts, Cert.Pre_attn_fwd_finite.Gen.facts, Cert.Pre_pool_fwd_finite.Gen.facts, Cert.Pre_ffn_up_finite.Gen.facts,
  Cert.Pre_ride_finite.Gen.facts,
  fun m g _ => Cert.Kernel.Gen.frame m g, fun m g _ => Cert.KernelIdeal.Gen.frame m g,
  fun m g _ => Cert.KernelIdeal.Gen.frame m g, pool_reference_frame,
  fun m g _ => pool_reference_frame m g trivial,
  AttnEquation.kernel_frame, AttnEquation.ideal_frame, fun m g _ => AttnEquation.ideal_frame m g trivial,
  AttnEquation.reference_frame, fun m g _ => AttnEquation.reference_frame m g trivial,
  fun m g _ => Cert.Mix.Gen.frame m g, fun m g _ => Cert.MixIdeal.Gen.frame m g,
  fun m g _ => Cert.MixIdeal.Gen.frame m g, MixEquation.reference_frame,
  fun m g _ => MixEquation.reference_frame m g trivial,
  fun m g _ => Cert.Ffn.Gen.frame m g, fun m g _ => Cert.FfnIdeal.Gen.frame m g,
  fun m g _ => Cert.FfnIdeal.Gen.frame m g, FfnEquation.reference_frame,
  fun m g _ => FfnEquation.reference_frame m g trivial,
  fun m g _ => Cert.Loss.Gen.frame m g, fun m g _ => Cert.LossIdeal.Gen.frame m g,
  fun m g _ => Cert.LossIdeal.Gen.frame m g, LossEquation.reference_frame,
  fun m g _ => LossEquation.reference_frame m g trivial,
  AttendEquation.kernel_frame, AttendEquation.ideal_frame, fun m g _ => AttendEquation.ideal_frame m g trivial,
  AttendEquation.reference_frame, fun m g _ => AttendEquation.reference_frame m g trivial,
  PoolForwardEquation.kernel_frame, PoolForwardEquation.ideal_frame, fun m g _ => PoolForwardEquation.ideal_frame m g trivial,
  PoolForwardEquation.reference_frame, fun m g _ => PoolForwardEquation.reference_frame m g trivial,
  MixForwardEquation.kernel_frame, MixForwardEquation.ideal_frame, MixForwardEquation.reference_frame,
  FfnUpEquation.kernel_frame, FfnUpEquation.ideal_frame, fun m g _ => FfnUpEquation.ideal_frame m g trivial,
  FfnUpEquation.reference_frame, fun m g _ => FfnUpEquation.reference_frame m g trivial,
  FfnDownEquation.kernel_frame, FfnDownEquation.ideal_frame, FfnDownEquation.reference_frame,
  fun m g _ => Cert.Ride.Gen.frame m g, fun m g _ => Cert.RideIdeal.Gen.frame m g,
  fun m g _ => Cert.RideIdeal.Gen.frame m g, RideEquation.reference_frame,
  fun m g _ => RideEquation.reference_frame m g trivial,
  trivial, pool_algebraic, trivial, AttnEquation.attn_algebraic, trivial, MixEquation.mix_algebraic,
  trivial, FfnEquation.ffn_algebraic, trivial, LossEquation.loss_algebraic,
  trivial, AttendEquation.attn_fwd_algebraic,
  trivial, PoolForwardEquation.pool_fwd_algebraic,
  trivial, MixForwardEquation.mix_fwd_algebraic,
  trivial, FfnUpEquation.up_algebraic,
  trivial, FfnDownEquation.down_algebraic,
  trivial, RideEquation.ride_algebraic⟩

end Cert.Proof

end
